-- ==== Defs.lean ====
def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_KernelXIdeal_finite_x [hPre_finite_x : Cert.Pre_finite_x.Facts] (m : (ℓ : Loc Cert.KernelXIdeal.nD Cert.KernelXIdeal.τ Cert.KernelXIdeal.sig) → Buf (Elt Ideal) ℓ) : Prop :=
  ∀ c : Dev Cert.KernelXIdeal.nD,
    (Cert.Pre_finite_x.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).1 = (fun _ => 1#1)
    ∧ (Cert.Pre_finite_x.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2 = (fun _ => 1#1)

def Pre_ReferenceXIdeal (m : (ℓ : Loc Cert.ReferenceXIdeal.nD Cert.ReferenceXIdeal.τ Cert.ReferenceXIdeal.sig) → Buf (Elt Ideal) ℓ) : Prop :=
  True

def Pre_ReferenceXIdeal_finite_x [hPre_finite_x : Cert.Pre_finite_x.Facts] (m : (ℓ : Loc Cert.ReferenceXIdeal.nD Cert.ReferenceXIdeal.τ Cert.ReferenceXIdeal.sig) → Buf (Elt Ideal) ℓ) : Prop :=
  ∀ c : Dev Cert.ReferenceXIdeal.nD,
    (Cert.Pre_finite_x.fn (F := Ideal) (m ((c.tc : Thread Cert.ReferenceXIdeal.nD Cert.ReferenceXIdeal.τ).loc Cert.ReferenceXIdeal.main_arg0)) (m ((c.tc : Thread Cert.ReferenceXIdeal.nD Cert.ReferenceXIdeal.τ).loc Cert.ReferenceXIdeal.main_arg1)) (m ((c.tc : Thread Cert.ReferenceXIdeal.nD Cert.ReferenceXIdeal.τ).loc Cert.ReferenceXIdeal.main_arg2))).1 = (fun _ => 1#1)
    ∧ (Cert.Pre_finite_x.fn (F := Ideal) (m ((c.tc : Thread Cert.ReferenceXIdeal.nD Cert.ReferenceXIdeal.τ).loc Cert.ReferenceXIdeal.main_arg0)) (m ((c.tc : Thread Cert.ReferenceXIdeal.nD Cert.ReferenceXIdeal.τ).loc Cert.ReferenceXIdeal.main_arg1)) (m ((c.tc : Thread Cert.ReferenceXIdeal.nD Cert.ReferenceXIdeal.τ).loc Cert.ReferenceXIdeal.main_arg2))).2 = (fun _ => 1#1)

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_f [hPre_finite_f : Cert.Pre_finite_f.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_f.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3))).1 = (fun _ => 1#1)
    ∧ (Cert.Pre_finite_f.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3))).2.1 = (fun _ => 1#1)
    ∧ (Cert.Pre_finite_f.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3))).2.2.1 = (fun _ => 1#1)
    ∧ (Cert.Pre_finite_f.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3))).2.2.2 = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_f [hPre_finite_f : Cert.Pre_finite_f.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_f.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3))).1 = (fun _ => 1#1)
    ∧ (Cert.Pre_finite_f.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3))).2.1 = (fun _ => 1#1)
    ∧ (Cert.Pre_finite_f.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3))).2.2.1 = (fun _ => 1#1)
    ∧ (Cert.Pre_finite_f.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3))).2.2.2 = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelE (m : (ℓ : Loc Cert.KernelE.nD Cert.KernelE.τ Cert.KernelE.sig) → Buf (Elt Bits) ℓ) : Prop :=
  True

def Pre_KernelEIdeal (m : (ℓ : Loc Cert.KernelEIdeal.nD Cert.KernelEIdeal.τ Cert.KernelEIdeal.sig) → Buf (Elt Ideal) ℓ) : Prop :=
  True

def Pre_ReferenceEIdeal (m : (ℓ : Loc Cert.ReferenceEIdeal.nD Cert.ReferenceEIdeal.τ Cert.ReferenceEIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_KernelVIdeal_finite_v [hPre_finite_v : Cert.Pre_finite_v.Facts] (m : (ℓ : Loc Cert.KernelVIdeal.nD Cert.KernelVIdeal.τ Cert.KernelVIdeal.sig) → Buf (Elt Ideal) ℓ) : Prop :=
  ∀ c : Dev Cert.KernelVIdeal.nD,
    (Cert.Pre_finite_v.fn (F := Ideal) (m ((c.tc : Thread Cert.KernelVIdeal.nD Cert.KernelVIdeal.τ).loc Cert.KernelVIdeal.main_arg0)) (m ((c.tc : Thread Cert.KernelVIdeal.nD Cert.KernelVIdeal.τ).loc Cert.KernelVIdeal.main_arg1)) (m ((c.tc : Thread Cert.KernelVIdeal.nD Cert.KernelVIdeal.τ).loc Cert.KernelVIdeal.main_arg2)) (m ((c.tc : Thread Cert.KernelVIdeal.nD Cert.KernelVIdeal.τ).loc Cert.KernelVIdeal.main_arg3)) (m ((c.tc : Thread Cert.KernelVIdeal.nD Cert.KernelVIdeal.τ).loc Cert.KernelVIdeal.main_arg4)) (m ((c.tc : Thread Cert.KernelVIdeal.nD Cert.KernelVIdeal.τ).loc Cert.KernelVIdeal.main_arg5))).1 = (fun _ => 1#1)
    ∧ (Cert.Pre_finite_v.fn (F := Ideal) (m ((c.tc : Thread Cert.KernelVIdeal.nD Cert.KernelVIdeal.τ).loc Cert.KernelVIdeal.main_arg0)) (m ((c.tc : Thread Cert.KernelVIdeal.nD Cert.KernelVIdeal.τ).loc Cert.KernelVIdeal.main_arg1)) (m ((c.tc : Thread Cert.KernelVIdeal.nD Cert.KernelVIdeal.τ).loc Cert.KernelVIdeal.main_arg2)) (m ((c.tc : Thread Cert.KernelVIdeal.nD Cert.KernelVIdeal.τ).loc Cert.KernelVIdeal.main_arg3)) (m ((c.tc : Thread Cert.KernelVIdeal.nD Cert.KernelVIdeal.τ).loc Cert.KernelVIdeal.main_arg4)) (m ((c.tc : Thread Cert.KernelVIdeal.nD Cert.KernelVIdeal.τ).loc Cert.KernelVIdeal.main_arg5))).2.1 = (fun _ => 1#1)
    ∧ (Cert.Pre_finite_v.fn (F := Ideal) (m ((c.tc : Thread Cert.KernelVIdeal.nD Cert.KernelVIdeal.τ).loc Cert.KernelVIdeal.main_arg0)) (m ((c.tc : Thread Cert.KernelVIdeal.nD Cert.KernelVIdeal.τ).loc Cert.KernelVIdeal.main_arg1)) (m ((c.tc : Thread Cert.KernelVIdeal.nD Cert.KernelVIdeal.τ).loc Cert.KernelVIdeal.main_arg2)) (m ((c.tc : Thread Cert.KernelVIdeal.nD Cert.KernelVIdeal.τ).loc Cert.KernelVIdeal.main_arg3)) (m ((c.tc : Thread Cert.KernelVIdeal.nD Cert.KernelVIdeal.τ).loc Cert.KernelVIdeal.main_arg4)) (m ((c.tc : Thread Cert.KernelVIdeal.nD Cert.KernelVIdeal.τ).loc Cert.KernelVIdeal.main_arg5))).2.2.1 = (fun _ => 1#1)
    ∧ (Cert.Pre_finite_v.fn (F := Ideal) (m ((c.tc : Thread Cert.KernelVIdeal.nD Cert.KernelVIdeal.τ).loc Cert.KernelVIdeal.main_arg0)) (m ((c.tc : Thread Cert.KernelVIdeal.nD Cert.KernelVIdeal.τ).loc Cert.KernelVIdeal.main_arg1)) (m ((c.tc : Thread Cert.KernelVIdeal.nD Cert.KernelVIdeal.τ).loc Cert.KernelVIdeal.main_arg2)) (m ((c.tc : Thread Cert.KernelVIdeal.nD Cert.KernelVIdeal.τ).loc Cert.KernelVIdeal.main_arg3)) (m ((c.tc : Thread Cert.KernelVIdeal.nD Cert.KernelVIdeal.τ).loc Cert.KernelVIdeal.main_arg4)) (m ((c.tc : Thread Cert.KernelVIdeal.nD Cert.KernelVIdeal.τ).loc Cert.KernelVIdeal.main_arg5))).2.2.2.1 = (fun _ => 1#1)
    ∧ (Cert.Pre_finite_v.fn (F := Ideal) (m ((c.tc : Thread Cert.KernelVIdeal.nD Cert.KernelVIdeal.τ).loc Cert.KernelVIdeal.main_arg0)) (m ((c.tc : Thread Cert.KernelVIdeal.nD Cert.KernelVIdeal.τ).loc Cert.KernelVIdeal.main_arg1)) (m ((c.tc : Thread Cert.KernelVIdeal.nD Cert.KernelVIdeal.τ).loc Cert.KernelVIdeal.main_arg2)) (m ((c.tc : Thread Cert.KernelVIdeal.nD Cert.KernelVIdeal.τ).loc Cert.KernelVIdeal.main_arg3)) (m ((c.tc : Thread Cert.KernelVIdeal.nD Cert.KernelVIdeal.τ).loc Cert.KernelVIdeal.main_arg4)) (m ((c.tc : Thread Cert.KernelVIdeal.nD Cert.KernelVIdeal.τ).loc Cert.KernelVIdeal.main_arg5))).2.2.2.2 = (fun _ => 1#1)

def Pre_ReferenceVIdeal (m : (ℓ : Loc Cert.ReferenceVIdeal.nD Cert.ReferenceVIdeal.τ Cert.ReferenceVIdeal.sig) → Buf (Elt Ideal) ℓ) : Prop :=
  True

def Pre_ReferenceVIdeal_finite_v [hPre_finite_v : Cert.Pre_finite_v.Facts] (m : (ℓ : Loc Cert.ReferenceVIdeal.nD Cert.ReferenceVIdeal.τ Cert.ReferenceVIdeal.sig) → Buf (Elt Ideal) ℓ) : Prop :=
  ∀ c : Dev Cert.ReferenceVIdeal.nD,
    (Cert.Pre_finite_v.fn (F := Ideal) (m ((c.tc : Thread Cert.ReferenceVIdeal.nD Cert.ReferenceVIdeal.τ).loc Cert.ReferenceVIdeal.main_arg0)) (m ((c.tc : Thread Cert.ReferenceVIdeal.nD Cert.ReferenceVIdeal.τ).loc Cert.ReferenceVIdeal.main_arg1)) (m ((c.tc : Thread Cert.ReferenceVIdeal.nD Cert.ReferenceVIdeal.τ).loc Cert.ReferenceVIdeal.main_arg2)) (m ((c.tc : Thread Cert.ReferenceVIdeal.nD Cert.ReferenceVIdeal.τ).loc Cert.ReferenceVIdeal.main_arg3)) (m ((c.tc : Thread Cert.ReferenceVIdeal.nD Cert.ReferenceVIdeal.τ).loc Cert.ReferenceVIdeal.main_arg4)) (m ((c.tc : Thread Cert.ReferenceVIdeal.nD Cert.ReferenceVIdeal.τ).loc Cert.ReferenceVIdeal.main_arg5))).1 = (fun _ => 1#1)
    ∧ (Cert.Pre_finite_v.fn (F := Ideal) (m ((c.tc : Thread Cert.ReferenceVIdeal.nD Cert.ReferenceVIdeal.τ).loc Cert.ReferenceVIdeal.main_arg0)) (m ((c.tc : Thread Cert.ReferenceVIdeal.nD Cert.ReferenceVIdeal.τ).loc Cert.ReferenceVIdeal.main_arg1)) (m ((c.tc : Thread Cert.ReferenceVIdeal.nD Cert.ReferenceVIdeal.τ).loc Cert.ReferenceVIdeal.main_arg2)) (m ((c.tc : Thread Cert.ReferenceVIdeal.nD Cert.ReferenceVIdeal.τ).loc Cert.ReferenceVIdeal.main_arg3)) (m ((c.tc : Thread Cert.ReferenceVIdeal.nD Cert.ReferenceVIdeal.τ).loc Cert.ReferenceVIdeal.main_arg4)) (m ((c.tc : Thread Cert.ReferenceVIdeal.nD Cert.ReferenceVIdeal.τ).loc Cert.ReferenceVIdeal.main_arg5))).2.1 = (fun _ => 1#1)
    ∧ (Cert.Pre_finite_v.fn (F := Ideal) (m ((c.tc : Thread Cert.ReferenceVIdeal.nD Cert.ReferenceVIdeal.τ).loc Cert.ReferenceVIdeal.main_arg0)) (m ((c.tc : Thread Cert.ReferenceVIdeal.nD Cert.ReferenceVIdeal.τ).loc Cert.ReferenceVIdeal.main_arg1)) (m ((c.tc : Thread Cert.ReferenceVIdeal.nD Cert.ReferenceVIdeal.τ).loc Cert.ReferenceVIdeal.main_arg2)) (m ((c.tc : Thread Cert.ReferenceVIdeal.nD Cert.ReferenceVIdeal.τ).loc Cert.ReferenceVIdeal.main_arg3)) (m ((c.tc : Thread Cert.ReferenceVIdeal.nD Cert.ReferenceVIdeal.τ).loc Cert.ReferenceVIdeal.main_arg4)) (m ((c.tc : Thread Cert.ReferenceVIdeal.nD Cert.ReferenceVIdeal.τ).loc Cert.ReferenceVIdeal.main_arg5))).2.2.1 = (fun _ => 1#1)
    ∧ (Cert.Pre_finite_v.fn (F := Ideal) (m ((c.tc : Thread Cert.ReferenceVIdeal.nD Cert.ReferenceVIdeal.τ).loc Cert.ReferenceVIdeal.main_arg0)) (m ((c.tc : Thread Cert.ReferenceVIdeal.nD Cert.ReferenceVIdeal.τ).loc Cert.ReferenceVIdeal.main_arg1)) (m ((c.tc : Thread Cert.ReferenceVIdeal.nD Cert.ReferenceVIdeal.τ).loc Cert.ReferenceVIdeal.main_arg2)) (m ((c.tc : Thread Cert.ReferenceVIdeal.nD Cert.ReferenceVIdeal.τ).loc Cert.ReferenceVIdeal.main_arg3)) (m ((c.tc : Thread Cert.ReferenceVIdeal.nD Cert.ReferenceVIdeal.τ).loc Cert.ReferenceVIdeal.main_arg4)) (m ((c.tc : Thread Cert.ReferenceVIdeal.nD Cert.ReferenceVIdeal.τ).loc Cert.ReferenceVIdeal.main_arg5))).2.2.2.1 = (fun _ => 1#1)
    ∧ (Cert.Pre_finite_v.fn (F := Ideal) (m ((c.tc : Thread Cert.ReferenceVIdeal.nD Cert.ReferenceVIdeal.τ).loc Cert.ReferenceVIdeal.main_arg0)) (m ((c.tc : Thread Cert.ReferenceVIdeal.nD Cert.ReferenceVIdeal.τ).loc Cert.ReferenceVIdeal.main_arg1)) (m ((c.tc : Thread Cert.ReferenceVIdeal.nD Cert.ReferenceVIdeal.τ).loc Cert.ReferenceVIdeal.main_arg2)) (m ((c.tc : Thread Cert.ReferenceVIdeal.nD Cert.ReferenceVIdeal.τ).loc Cert.ReferenceVIdeal.main_arg3)) (m ((c.tc : Thread Cert.ReferenceVIdeal.nD Cert.ReferenceVIdeal.τ).loc Cert.ReferenceVIdeal.main_arg4)) (m ((c.tc : Thread Cert.ReferenceVIdeal.nD Cert.ReferenceVIdeal.τ).loc Cert.ReferenceVIdeal.main_arg5))).2.2.2.2 = (fun _ => 1#1)

def Pre_KernelUG (m : (ℓ : Loc Cert.KernelUG.nD Cert.KernelUG.τ Cert.KernelUG.sig) → Buf (Elt Bits) ℓ) : Prop :=
  True

def Pre_KernelUGIdeal (m : (ℓ : Loc Cert.KernelUGIdeal.nD Cert.KernelUGIdeal.τ Cert.KernelUGIdeal.sig) → Buf (Elt Ideal) ℓ) : Prop :=
  True

def Pre_ReferenceUGIdeal (m : (ℓ : Loc Cert.ReferenceUGIdeal.nD Cert.ReferenceUGIdeal.τ Cert.ReferenceUGIdeal.sig) → Buf (Elt Ideal) ℓ) : Prop :=
  True

def Pre_KernelUV (m : (ℓ : Loc Cert.KernelUV.nD Cert.KernelUV.τ Cert.KernelUV.sig) → Buf (Elt Bits) ℓ) : Prop :=
  True

def Pre_KernelUVIdeal (m : (ℓ : Loc Cert.KernelUVIdeal.nD Cert.KernelUVIdeal.τ Cert.KernelUVIdeal.sig) → Buf (Elt Ideal) ℓ) : Prop :=
  True

def Pre_ReferenceUVIdeal (m : (ℓ : Loc Cert.ReferenceUVIdeal.nD Cert.ReferenceUVIdeal.τ Cert.ReferenceUVIdeal.sig) → Buf (Elt Ideal) ℓ) : Prop :=
  True

def Pre_KernelDN (m : (ℓ : Loc Cert.KernelDN.nD Cert.KernelDN.τ Cert.KernelDN.sig) → Buf (Elt Bits) ℓ) : Prop :=
  True

def Pre_KernelDNIdeal (m : (ℓ : Loc Cert.KernelDNIdeal.nD Cert.KernelDNIdeal.τ Cert.KernelDNIdeal.sig) → Buf (Elt Ideal) ℓ) : Prop :=
  True

def Pre_ReferenceDNIdeal (m : (ℓ : Loc Cert.ReferenceDNIdeal.nD Cert.ReferenceDNIdeal.τ Cert.ReferenceDNIdeal.sig) → Buf (Elt Ideal) ℓ) : Prop :=
  True

def Pre_KernelDL (m : (ℓ : Loc Cert.KernelDL.nD Cert.KernelDL.τ Cert.KernelDL.sig) → Buf (Elt Bits) ℓ) : Prop :=
  True

def Pre_KernelDLIdeal (m : (ℓ : Loc Cert.KernelDLIdeal.nD Cert.KernelDLIdeal.τ Cert.KernelDLIdeal.sig) → Buf (Elt Ideal) ℓ) : Prop :=
  True

def Pre_ReferenceDLIdeal (m : (ℓ : Loc Cert.ReferenceDLIdeal.nD Cert.ReferenceDLIdeal.τ Cert.ReferenceDLIdeal.sig) → Buf (Elt Ideal) ℓ) : Prop :=
  True

def Pre_KernelDX (m : (ℓ : Loc Cert.KernelDX.nD Cert.KernelDX.τ Cert.KernelDX.sig) → Buf (Elt Bits) ℓ) : Prop :=
  True

def Pre_KernelDXIdeal (m : (ℓ : Loc Cert.KernelDXIdeal.nD Cert.KernelDXIdeal.τ Cert.KernelDXIdeal.sig) → Buf (Elt Ideal) ℓ) : Prop :=
  True

def Pre_ReferenceDXIdeal (m : (ℓ : Loc Cert.ReferenceDXIdeal.nD Cert.ReferenceDXIdeal.τ Cert.ReferenceDXIdeal.sig) → Buf (Elt Ideal) ℓ) : Prop :=
  True

def Pre_KernelDO (m : (ℓ : Loc Cert.KernelDO.nD Cert.KernelDO.τ Cert.KernelDO.sig) → Buf (Elt Bits) ℓ) : Prop :=
  True

def Pre_KernelDOIdeal (m : (ℓ : Loc Cert.KernelDOIdeal.nD Cert.KernelDOIdeal.τ Cert.KernelDOIdeal.sig) → Buf (Elt Ideal) ℓ) : Prop :=
  True

def Pre_ReferenceDOIdeal (m : (ℓ : Loc Cert.ReferenceDOIdeal.nD Cert.ReferenceDOIdeal.τ Cert.ReferenceDOIdeal.sig) → Buf (Elt Ideal) ℓ) : Prop :=
  True

def Pre_KernelWX (m : (ℓ : Loc Cert.KernelWX.nD Cert.KernelWX.τ Cert.KernelWX.sig) → Buf (Elt Bits) ℓ) : Prop :=
  True

def Pre_KernelWXIdeal (m : (ℓ : Loc Cert.KernelWXIdeal.nD Cert.KernelWXIdeal.τ Cert.KernelWXIdeal.sig) → Buf (Elt Ideal) ℓ) : Prop :=
  True

def Pre_ReferenceWXIdeal (m : (ℓ : Loc Cert.ReferenceWXIdeal.nD Cert.ReferenceWXIdeal.τ Cert.ReferenceWXIdeal.sig) → Buf (Elt Ideal) ℓ) : Prop :=
  True

def Pre_KernelWO (m : (ℓ : Loc Cert.KernelWO.nD Cert.KernelWO.τ Cert.KernelWO.sig) → Buf (Elt Bits) ℓ) : Prop :=
  True

def Pre_KernelWOIdeal (m : (ℓ : Loc Cert.KernelWOIdeal.nD Cert.KernelWOIdeal.τ Cert.KernelWOIdeal.sig) → Buf (Elt Ideal) ℓ) : Prop :=
  True

def Pre_ReferenceWOIdeal (m : (ℓ : Loc Cert.ReferenceWOIdeal.nD Cert.ReferenceWOIdeal.τ Cert.ReferenceWOIdeal.sig) → Buf (Elt Ideal) ℓ) : Prop :=
  True

def Pre_KernelWQ (m : (ℓ : Loc Cert.KernelWQ.nD Cert.KernelWQ.τ Cert.KernelWQ.sig) → Buf (Elt Bits) ℓ) : Prop :=
  True

def Pre_KernelWQIdeal (m : (ℓ : Loc Cert.KernelWQIdeal.nD Cert.KernelWQIdeal.τ Cert.KernelWQIdeal.sig) → Buf (Elt Ideal) ℓ) : Prop :=
  True

def Pre_ReferenceWQIdeal (m : (ℓ : Loc Cert.ReferenceWQIdeal.nD Cert.ReferenceWQIdeal.τ Cert.ReferenceWQIdeal.sig) → Buf (Elt Ideal) ℓ) : Prop :=
  True

def Pre_KernelHQ (m : (ℓ : Loc Cert.KernelHQ.nD Cert.KernelHQ.τ Cert.KernelHQ.sig) → Buf (Elt Bits) ℓ) : Prop :=
  True

def Pre_KernelHQIdeal (m : (ℓ : Loc Cert.KernelHQIdeal.nD Cert.KernelHQIdeal.τ Cert.KernelHQIdeal.sig) → Buf (Elt Ideal) ℓ) : Prop :=
  True

def Pre_KernelHQIdeal_finite_hq [hPre_finite_hq : Cert.Pre_finite_hq.Facts] (m : (ℓ : Loc Cert.KernelHQIdeal.nD Cert.KernelHQIdeal.τ Cert.KernelHQIdeal.sig) → Buf (Elt Ideal) ℓ) : Prop :=
  ∀ c : Dev Cert.KernelHQIdeal.nD,
    (Cert.Pre_finite_hq.fn (F := Ideal) (m ((c.tc : Thread Cert.KernelHQIdeal.nD Cert.KernelHQIdeal.τ).loc Cert.KernelHQIdeal.main_arg0)) (m ((c.tc : Thread Cert.KernelHQIdeal.nD Cert.KernelHQIdeal.τ).loc Cert.KernelHQIdeal.main_arg1)) (m ((c.tc : Thread Cert.KernelHQIdeal.nD Cert.KernelHQIdeal.τ).loc Cert.KernelHQIdeal.main_arg2)) (m ((c.tc : Thread Cert.KernelHQIdeal.nD Cert.KernelHQIdeal.τ).loc Cert.KernelHQIdeal.main_arg3)) (m ((c.tc : Thread Cert.KernelHQIdeal.nD Cert.KernelHQIdeal.τ).loc Cert.KernelHQIdeal.main_arg4))).1 = (fun _ => 1#1)
    ∧ (Cert.Pre_finite_hq.fn (F := Ideal) (m ((c.tc : Thread Cert.KernelHQIdeal.nD Cert.KernelHQIdeal.τ).loc Cert.KernelHQIdeal.main_arg0)) (m ((c.tc : Thread Cert.KernelHQIdeal.nD Cert.KernelHQIdeal.τ).loc Cert.KernelHQIdeal.main_arg1)) (m ((c.tc : Thread Cert.KernelHQIdeal.nD Cert.KernelHQIdeal.τ).loc Cert.KernelHQIdeal.main_arg2)) (m ((c.tc : Thread Cert.KernelHQIdeal.nD Cert.KernelHQIdeal.τ).loc Cert.KernelHQIdeal.main_arg3)) (m ((c.tc : Thread Cert.KernelHQIdeal.nD Cert.KernelHQIdeal.τ).loc Cert.KernelHQIdeal.main_arg4))).2.1 = (fun _ => 1#1)
    ∧ (Cert.Pre_finite_hq.fn (F := Ideal) (m ((c.tc : Thread Cert.KernelHQIdeal.nD Cert.KernelHQIdeal.τ).loc Cert.KernelHQIdeal.main_arg0)) (m ((c.tc : Thread Cert.KernelHQIdeal.nD Cert.KernelHQIdeal.τ).loc Cert.KernelHQIdeal.main_arg1)) (m ((c.tc : Thread Cert.KernelHQIdeal.nD Cert.KernelHQIdeal.τ).loc Cert.KernelHQIdeal.main_arg2)) (m ((c.tc : Thread Cert.KernelHQIdeal.nD Cert.KernelHQIdeal.τ).loc Cert.KernelHQIdeal.main_arg3)) (m ((c.tc : Thread Cert.KernelHQIdeal.nD Cert.KernelHQIdeal.τ).loc Cert.KernelHQIdeal.main_arg4))).2.2.1 = (fun _ => 1#1)
    ∧ (Cert.Pre_finite_hq.fn (F := Ideal) (m ((c.tc : Thread Cert.KernelHQIdeal.nD Cert.KernelHQIdeal.τ).loc Cert.KernelHQIdeal.main_arg0)) (m ((c.tc : Thread Cert.KernelHQIdeal.nD Cert.KernelHQIdeal.τ).loc Cert.KernelHQIdeal.main_arg1)) (m ((c.tc : Thread Cert.KernelHQIdeal.nD Cert.KernelHQIdeal.τ).loc Cert.KernelHQIdeal.main_arg2)) (m ((c.tc : Thread Cert.KernelHQIdeal.nD Cert.KernelHQIdeal.τ).loc Cert.KernelHQIdeal.main_arg3)) (m ((c.tc : Thread Cert.KernelHQIdeal.nD Cert.KernelHQIdeal.τ).loc Cert.KernelHQIdeal.main_arg4))).2.2.2 = (fun _ => 1#1)

def Pre_ReferenceHQIdeal (m : (ℓ : Loc Cert.ReferenceHQIdeal.nD Cert.ReferenceHQIdeal.τ Cert.ReferenceHQIdeal.sig) → Buf (Elt Ideal) ℓ) : Prop :=
  True

def Pre_ReferenceHQIdeal_finite_hq [hPre_finite_hq : Cert.Pre_finite_hq.Facts] (m : (ℓ : Loc Cert.ReferenceHQIdeal.nD Cert.ReferenceHQIdeal.τ Cert.ReferenceHQIdeal.sig) → Buf (Elt Ideal) ℓ) : Prop :=
  ∀ c : Dev Cert.ReferenceHQIdeal.nD,
    (Cert.Pre_finite_hq.fn (F := Ideal) (m ((c.tc : Thread Cert.ReferenceHQIdeal.nD Cert.ReferenceHQIdeal.τ).loc Cert.ReferenceHQIdeal.main_arg0)) (m ((c.tc : Thread Cert.ReferenceHQIdeal.nD Cert.ReferenceHQIdeal.τ).loc Cert.ReferenceHQIdeal.main_arg1)) (m ((c.tc : Thread Cert.ReferenceHQIdeal.nD Cert.ReferenceHQIdeal.τ).loc Cert.ReferenceHQIdeal.main_arg2)) (m ((c.tc : Thread Cert.ReferenceHQIdeal.nD Cert.ReferenceHQIdeal.τ).loc Cert.ReferenceHQIdeal.main_arg3)) (m ((c.tc : Thread Cert.ReferenceHQIdeal.nD Cert.ReferenceHQIdeal.τ).loc Cert.ReferenceHQIdeal.main_arg4))).1 = (fun _ => 1#1)
    ∧ (Cert.Pre_finite_hq.fn (F := Ideal) (m ((c.tc : Thread Cert.ReferenceHQIdeal.nD Cert.ReferenceHQIdeal.τ).loc Cert.ReferenceHQIdeal.main_arg0)) (m ((c.tc : Thread Cert.ReferenceHQIdeal.nD Cert.ReferenceHQIdeal.τ).loc Cert.ReferenceHQIdeal.main_arg1)) (m ((c.tc : Thread Cert.ReferenceHQIdeal.nD Cert.ReferenceHQIdeal.τ).loc Cert.ReferenceHQIdeal.main_arg2)) (m ((c.tc : Thread Cert.ReferenceHQIdeal.nD Cert.ReferenceHQIdeal.τ).loc Cert.ReferenceHQIdeal.main_arg3)) (m ((c.tc : Thread Cert.ReferenceHQIdeal.nD Cert.ReferenceHQIdeal.τ).loc Cert.ReferenceHQIdeal.main_arg4))).2.1 = (fun _ => 1#1)
    ∧ (Cert.Pre_finite_hq.fn (F := Ideal) (m ((c.tc : Thread Cert.ReferenceHQIdeal.nD Cert.ReferenceHQIdeal.τ).loc Cert.ReferenceHQIdeal.main_arg0)) (m ((c.tc : Thread Cert.ReferenceHQIdeal.nD Cert.ReferenceHQIdeal.τ).loc Cert.ReferenceHQIdeal.main_arg1)) (m ((c.tc : Thread Cert.ReferenceHQIdeal.nD Cert.ReferenceHQIdeal.τ).loc Cert.ReferenceHQIdeal.main_arg2)) (m ((c.tc : Thread Cert.ReferenceHQIdeal.nD Cert.ReferenceHQIdeal.τ).loc Cert.ReferenceHQIdeal.main_arg3)) (m ((c.tc : Thread Cert.ReferenceHQIdeal.nD Cert.ReferenceHQIdeal.τ).loc Cert.ReferenceHQIdeal.main_arg4))).2.2.1 = (fun _ => 1#1)
    ∧ (Cert.Pre_finite_hq.fn (F := Ideal) (m ((c.tc : Thread Cert.ReferenceHQIdeal.nD Cert.ReferenceHQIdeal.τ).loc Cert.ReferenceHQIdeal.main_arg0)) (m ((c.tc : Thread Cert.ReferenceHQIdeal.nD Cert.ReferenceHQIdeal.τ).loc Cert.ReferenceHQIdeal.main_arg1)) (m ((c.tc : Thread Cert.ReferenceHQIdeal.nD Cert.ReferenceHQIdeal.τ).loc Cert.ReferenceHQIdeal.main_arg2)) (m ((c.tc : Thread Cert.ReferenceHQIdeal.nD Cert.ReferenceHQIdeal.τ).loc Cert.ReferenceHQIdeal.main_arg3)) (m ((c.tc : Thread Cert.ReferenceHQIdeal.nD Cert.ReferenceHQIdeal.τ).loc Cert.ReferenceHQIdeal.main_arg4))).2.2.2 = (fun _ => 1#1)

def Pre_KernelHZ (m : (ℓ : Loc Cert.KernelHZ.nD Cert.KernelHZ.τ Cert.KernelHZ.sig) → Buf (Elt Bits) ℓ) : Prop :=
  True

def Pre_KernelHZIdeal (m : (ℓ : Loc Cert.KernelHZIdeal.nD Cert.KernelHZIdeal.τ Cert.KernelHZIdeal.sig) → Buf (Elt Ideal) ℓ) : Prop :=
  True

def Pre_KernelHZIdeal_finite_hz [hPre_finite_hz : Cert.Pre_finite_hz.Facts] (m : (ℓ : Loc Cert.KernelHZIdeal.nD Cert.KernelHZIdeal.τ Cert.KernelHZIdeal.sig) → Buf (Elt Ideal) ℓ) : Prop :=
  ∀ c : Dev Cert.KernelHZIdeal.nD,
    (Cert.Pre_finite_hz.fn (F := Ideal) (m ((c.tc : Thread Cert.KernelHZIdeal.nD Cert.KernelHZIdeal.τ).loc Cert.KernelHZIdeal.main_arg0)) (m ((c.tc : Thread Cert.KernelHZIdeal.nD Cert.KernelHZIdeal.τ).loc Cert.KernelHZIdeal.main_arg1)) (m ((c.tc : Thread Cert.KernelHZIdeal.nD Cert.KernelHZIdeal.τ).loc Cert.KernelHZIdeal.main_arg2)) (m ((c.tc : Thread Cert.KernelHZIdeal.nD Cert.KernelHZIdeal.τ).loc Cert.KernelHZIdeal.main_arg3)) (m ((c.tc : Thread Cert.KernelHZIdeal.nD Cert.KernelHZIdeal.τ).loc Cert.KernelHZIdeal.main_arg4))).1 = (fun _ => 1#1)
    ∧ (Cert.Pre_finite_hz.fn (F := Ideal) (m ((c.tc : Thread Cert.KernelHZIdeal.nD Cert.KernelHZIdeal.τ).loc Cert.KernelHZIdeal.main_arg0)) (m ((c.tc : Thread Cert.KernelHZIdeal.nD Cert.KernelHZIdeal.τ).loc Cert.KernelHZIdeal.main_arg1)) (m ((c.tc : Thread Cert.KernelHZIdeal.nD Cert.KernelHZIdeal.τ).loc Cert.KernelHZIdeal.main_arg2)) (m ((c.tc : Thread Cert.KernelHZIdeal.nD Cert.KernelHZIdeal.τ).loc Cert.KernelHZIdeal.main_arg3)) (m ((c.tc : Thread Cert.KernelHZIdeal.nD Cert.KernelHZIdeal.τ).loc Cert.KernelHZIdeal.main_arg4))).2.1 = (fun _ => 1#1)
    ∧ (Cert.Pre_finite_hz.fn (F := Ideal) (m ((c.tc : Thread Cert.KernelHZIdeal.nD Cert.KernelHZIdeal.τ).loc Cert.KernelHZIdeal.main_arg0)) (m ((c.tc : Thread Cert.KernelHZIdeal.nD Cert.KernelHZIdeal.τ).loc Cert.KernelHZIdeal.main_arg1)) (m ((c.tc : Thread Cert.KernelHZIdeal.nD Cert.KernelHZIdeal.τ).loc Cert.KernelHZIdeal.main_arg2)) (m ((c.tc : Thread Cert.KernelHZIdeal.nD Cert.KernelHZIdeal.τ).loc Cert.KernelHZIdeal.main_arg3)) (m ((c.tc : Thread Cert.KernelHZIdeal.nD Cert.KernelHZIdeal.τ).loc Cert.KernelHZIdeal.main_arg4))).2.2.1 = (fun _ => 1#1)
    ∧ (Cert.Pre_finite_hz.fn (F := Ideal) (m ((c.tc : Thread Cert.KernelHZIdeal.nD Cert.KernelHZIdeal.τ).loc Cert.KernelHZIdeal.main_arg0)) (m ((c.tc : Thread Cert.KernelHZIdeal.nD Cert.KernelHZIdeal.τ).loc Cert.KernelHZIdeal.main_arg1)) (m ((c.tc : Thread Cert.KernelHZIdeal.nD Cert.KernelHZIdeal.τ).loc Cert.KernelHZIdeal.main_arg2)) (m ((c.tc : Thread Cert.KernelHZIdeal.nD Cert.KernelHZIdeal.τ).loc Cert.KernelHZIdeal.main_arg3)) (m ((c.tc : Thread Cert.KernelHZIdeal.nD Cert.KernelHZIdeal.τ).loc Cert.KernelHZIdeal.main_arg4))).2.2.2 = (fun _ => 1#1)

def Pre_ReferenceHZIdeal (m : (ℓ : Loc Cert.ReferenceHZIdeal.nD Cert.ReferenceHZIdeal.τ Cert.ReferenceHZIdeal.sig) → Buf (Elt Ideal) ℓ) : Prop :=
  True

def Pre_ReferenceHZIdeal_finite_hz [hPre_finite_hz : Cert.Pre_finite_hz.Facts] (m : (ℓ : Loc Cert.ReferenceHZIdeal.nD Cert.ReferenceHZIdeal.τ Cert.ReferenceHZIdeal.sig) → Buf (Elt Ideal) ℓ) : Prop :=
  ∀ c : Dev Cert.ReferenceHZIdeal.nD,
    (Cert.Pre_finite_hz.fn (F := Ideal) (m ((c.tc : Thread Cert.ReferenceHZIdeal.nD Cert.ReferenceHZIdeal.τ).loc Cert.ReferenceHZIdeal.main_arg0)) (m ((c.tc : Thread Cert.ReferenceHZIdeal.nD Cert.ReferenceHZIdeal.τ).loc Cert.ReferenceHZIdeal.main_arg1)) (m ((c.tc : Thread Cert.ReferenceHZIdeal.nD Cert.ReferenceHZIdeal.τ).loc Cert.ReferenceHZIdeal.main_arg2)) (m ((c.tc : Thread Cert.ReferenceHZIdeal.nD Cert.ReferenceHZIdeal.τ).loc Cert.ReferenceHZIdeal.main_arg3)) (m ((c.tc : Thread Cert.ReferenceHZIdeal.nD Cert.ReferenceHZIdeal.τ).loc Cert.ReferenceHZIdeal.main_arg4))).1 = (fun _ => 1#1)
    ∧ (Cert.Pre_finite_hz.fn (F := Ideal) (m ((c.tc : Thread Cert.ReferenceHZIdeal.nD Cert.ReferenceHZIdeal.τ).loc Cert.ReferenceHZIdeal.main_arg0)) (m ((c.tc : Thread Cert.ReferenceHZIdeal.nD Cert.ReferenceHZIdeal.τ).loc Cert.ReferenceHZIdeal.main_arg1)) (m ((c.tc : Thread Cert.ReferenceHZIdeal.nD Cert.ReferenceHZIdeal.τ).loc Cert.ReferenceHZIdeal.main_arg2)) (m ((c.tc : Thread Cert.ReferenceHZIdeal.nD Cert.ReferenceHZIdeal.τ).loc Cert.ReferenceHZIdeal.main_arg3)) (m ((c.tc : Thread Cert.ReferenceHZIdeal.nD Cert.ReferenceHZIdeal.τ).loc Cert.ReferenceHZIdeal.main_arg4))).2.1 = (fun _ => 1#1)
    ∧ (Cert.Pre_finite_hz.fn (F := Ideal) (m ((c.tc : Thread Cert.ReferenceHZIdeal.nD Cert.ReferenceHZIdeal.τ).loc Cert.ReferenceHZIdeal.main_arg0)) (m ((c.tc : Thread Cert.ReferenceHZIdeal.nD Cert.ReferenceHZIdeal.τ).loc Cert.ReferenceHZIdeal.main_arg1)) (m ((c.tc : Thread Cert.ReferenceHZIdeal.nD Cert.ReferenceHZIdeal.τ).loc Cert.ReferenceHZIdeal.main_arg2)) (m ((c.tc : Thread Cert.ReferenceHZIdeal.nD Cert.ReferenceHZIdeal.τ).loc Cert.ReferenceHZIdeal.main_arg3)) (m ((c.tc : Thread Cert.ReferenceHZIdeal.nD Cert.ReferenceHZIdeal.τ).loc Cert.ReferenceHZIdeal.main_arg4))).2.2.1 = (fun _ => 1#1)
    ∧ (Cert.Pre_finite_hz.fn (F := Ideal) (m ((c.tc : Thread Cert.ReferenceHZIdeal.nD Cert.ReferenceHZIdeal.τ).loc Cert.ReferenceHZIdeal.main_arg0)) (m ((c.tc : Thread Cert.ReferenceHZIdeal.nD Cert.ReferenceHZIdeal.τ).loc Cert.ReferenceHZIdeal.main_arg1)) (m ((c.tc : Thread Cert.ReferenceHZIdeal.nD Cert.ReferenceHZIdeal.τ).loc Cert.ReferenceHZIdeal.main_arg2)) (m ((c.tc : Thread Cert.ReferenceHZIdeal.nD Cert.ReferenceHZIdeal.τ).loc Cert.ReferenceHZIdeal.main_arg3)) (m ((c.tc : Thread Cert.ReferenceHZIdeal.nD Cert.ReferenceHZIdeal.τ).loc Cert.ReferenceHZIdeal.main_arg4))).2.2.2 = (fun _ => 1#1)

def Pre_KernelXQ (m : (ℓ : Loc Cert.KernelXQ.nD Cert.KernelXQ.τ Cert.KernelXQ.sig) → Buf (Elt Bits) ℓ) : Prop :=
  True

def Pre_KernelXQIdeal (m : (ℓ : Loc Cert.KernelXQIdeal.nD Cert.KernelXQIdeal.τ Cert.KernelXQIdeal.sig) → Buf (Elt Ideal) ℓ) : Prop :=
  True

def Pre_ReferenceXQIdeal (m : (ℓ : Loc Cert.ReferenceXQIdeal.nD Cert.ReferenceXQIdeal.τ Cert.ReferenceXQIdeal.sig) → Buf (Elt Ideal) ℓ) : Prop :=
  True

def Pre_KernelQK (m : (ℓ : Loc Cert.KernelQK.nD Cert.KernelQK.τ Cert.KernelQK.sig) → Buf (Elt Bits) ℓ) : Prop :=
  True

def Pre_KernelQKIdeal (m : (ℓ : Loc Cert.KernelQKIdeal.nD Cert.KernelQKIdeal.τ Cert.KernelQKIdeal.sig) → Buf (Elt Ideal) ℓ) : Prop :=
  True

def Pre_ReferenceQKIdeal (m : (ℓ : Loc Cert.ReferenceQKIdeal.nD Cert.ReferenceQKIdeal.τ Cert.ReferenceQKIdeal.sig) → Buf (Elt Ideal) ℓ) : Prop :=
  True

def Pre_KernelXO (m : (ℓ : Loc Cert.KernelXO.nD Cert.KernelXO.τ Cert.KernelXO.sig) → Buf (Elt Bits) ℓ) : Prop :=
  True

def Pre_KernelXOIdeal (m : (ℓ : Loc Cert.KernelXOIdeal.nD Cert.KernelXOIdeal.τ Cert.KernelXOIdeal.sig) → Buf (Elt Ideal) ℓ) : Prop :=
  True

def Pre_ReferenceXOIdeal (m : (ℓ : Loc Cert.ReferenceXOIdeal.nD Cert.ReferenceXOIdeal.τ Cert.ReferenceXOIdeal.sig) → Buf (Elt Ideal) ℓ) : Prop :=
  True

def Pre_KernelAO (m : (ℓ : Loc Cert.KernelAO.nD Cert.KernelAO.τ Cert.KernelAO.sig) → Buf (Elt Bits) ℓ) : Prop :=
  True

def Pre_KernelAOIdeal (m : (ℓ : Loc Cert.KernelAOIdeal.nD Cert.KernelAOIdeal.τ Cert.KernelAOIdeal.sig) → Buf (Elt Ideal) ℓ) : Prop :=
  True

def Pre_ReferenceAOIdeal (m : (ℓ : Loc Cert.ReferenceAOIdeal.nD Cert.ReferenceAOIdeal.τ Cert.ReferenceAOIdeal.sig) → Buf (Elt Ideal) ℓ) : Prop :=
  True

def Pre_KernelKV (m : (ℓ : Loc Cert.KernelKV.nD Cert.KernelKV.τ Cert.KernelKV.sig) → Buf (Elt Bits) ℓ) : Prop :=
  True

def Pre_KernelKVIdeal (m : (ℓ : Loc Cert.KernelKVIdeal.nD Cert.KernelKVIdeal.τ Cert.KernelKVIdeal.sig) → Buf (Elt Ideal) ℓ) : Prop :=
  True

def Pre_ReferenceKVIdeal (m : (ℓ : Loc Cert.ReferenceKVIdeal.nD Cert.ReferenceKVIdeal.τ Cert.ReferenceKVIdeal.sig) → Buf (Elt Ideal) ℓ) : Prop :=
  True

def Pre_KernelFF (m : (ℓ : Loc Cert.KernelFF.nD Cert.KernelFF.τ Cert.KernelFF.sig) → Buf (Elt Bits) ℓ) : Prop :=
  True

def Pre_KernelFFIdeal (m : (ℓ : Loc Cert.KernelFFIdeal.nD Cert.KernelFFIdeal.τ Cert.KernelFFIdeal.sig) → Buf (Elt Ideal) ℓ) : Prop :=
  True

def Pre_KernelFFIdeal_finite_ff [hPre_finite_ff : Cert.Pre_finite_ff.Facts] (m : (ℓ : Loc Cert.KernelFFIdeal.nD Cert.KernelFFIdeal.τ Cert.KernelFFIdeal.sig) → Buf (Elt Ideal) ℓ) : Prop :=
  ∀ c : Dev Cert.KernelFFIdeal.nD,
    (Cert.Pre_finite_ff.fn (F := Ideal) (m ((c.tc : Thread Cert.KernelFFIdeal.nD Cert.KernelFFIdeal.τ).loc Cert.KernelFFIdeal.main_arg0)) (m ((c.tc : Thread Cert.KernelFFIdeal.nD Cert.KernelFFIdeal.τ).loc Cert.KernelFFIdeal.main_arg1)) (m ((c.tc : Thread Cert.KernelFFIdeal.nD Cert.KernelFFIdeal.τ).loc Cert.KernelFFIdeal.main_arg2))).1 = (fun _ => 1#1)
    ∧ (Cert.Pre_finite_ff.fn (F := Ideal) (m ((c.tc : Thread Cert.KernelFFIdeal.nD Cert.KernelFFIdeal.τ).loc Cert.KernelFFIdeal.main_arg0)) (m ((c.tc : Thread Cert.KernelFFIdeal.nD Cert.KernelFFIdeal.τ).loc Cert.KernelFFIdeal.main_arg1)) (m ((c.tc : Thread Cert.KernelFFIdeal.nD Cert.KernelFFIdeal.τ).loc Cert.KernelFFIdeal.main_arg2))).2 = (fun _ => 1#1)

def Pre_ReferenceFFIdeal (m : (ℓ : Loc Cert.ReferenceFFIdeal.nD Cert.ReferenceFFIdeal.τ Cert.ReferenceFFIdeal.sig) → Buf (Elt Ideal) ℓ) : Prop :=
  True

def Pre_ReferenceFFIdeal_finite_ff [hPre_finite_ff : Cert.Pre_finite_ff.Facts] (m : (ℓ : Loc Cert.ReferenceFFIdeal.nD Cert.ReferenceFFIdeal.τ Cert.ReferenceFFIdeal.sig) → Buf (Elt Ideal) ℓ) : Prop :=
  ∀ c : Dev Cert.ReferenceFFIdeal.nD,
    (Cert.Pre_finite_ff.fn (F := Ideal) (m ((c.tc : Thread Cert.ReferenceFFIdeal.nD Cert.ReferenceFFIdeal.τ).loc Cert.ReferenceFFIdeal.main_arg0)) (m ((c.tc : Thread Cert.ReferenceFFIdeal.nD Cert.ReferenceFFIdeal.τ).loc Cert.ReferenceFFIdeal.main_arg1)) (m ((c.tc : Thread Cert.ReferenceFFIdeal.nD Cert.ReferenceFFIdeal.τ).loc Cert.ReferenceFFIdeal.main_arg2))).1 = (fun _ => 1#1)
    ∧ (Cert.Pre_finite_ff.fn (F := Ideal) (m ((c.tc : Thread Cert.ReferenceFFIdeal.nD Cert.ReferenceFFIdeal.τ).loc Cert.ReferenceFFIdeal.main_arg0)) (m ((c.tc : Thread Cert.ReferenceFFIdeal.nD Cert.ReferenceFFIdeal.τ).loc Cert.ReferenceFFIdeal.main_arg1)) (m ((c.tc : Thread Cert.ReferenceFFIdeal.nD Cert.ReferenceFFIdeal.τ).loc Cert.ReferenceFFIdeal.main_arg2))).2 = (fun _ => 1#1)

def Pre_KernelXF (m : (ℓ : Loc Cert.KernelXF.nD Cert.KernelXF.τ Cert.KernelXF.sig) → Buf (Elt Bits) ℓ) : Prop :=
  True

def Pre_KernelXFIdeal (m : (ℓ : Loc Cert.KernelXFIdeal.nD Cert.KernelXFIdeal.τ Cert.KernelXFIdeal.sig) → Buf (Elt Ideal) ℓ) : Prop :=
  True

def Pre_ReferenceXFIdeal (m : (ℓ : Loc Cert.ReferenceXFIdeal.nD Cert.ReferenceXFIdeal.τ Cert.ReferenceXFIdeal.sig) → Buf (Elt Ideal) ℓ) : Prop :=
  True

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2))
      ∧ r.2.sem = fun _ => 0)

def quiescent_KernelXIdeal_pre_finite_x [hKernelXIdeal : Cert.KernelXIdeal.Facts] [hPre_finite_x : Cert.Pre_finite_x.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal_finite_x m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2))
      ∧ r.2.sem = fun _ => 0)

def quiescent_ReferenceXIdeal_pre_finite_x [hReferenceXIdeal : Cert.ReferenceXIdeal.Facts] [hPre_finite_x : Cert.Pre_finite_x.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal_finite_x m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ r.2.sem = fun _ => 0)

def quiescent_KernelFIdeal_pre_finite_f [hKernelFIdeal : Cert.KernelFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_f m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3))
      ∧ r.2.sem = fun _ => 0)

def quiescent_ReferenceFIdeal_pre_finite_f [hReferenceFIdeal : Cert.ReferenceFIdeal.Facts] [hPre_finite_f : Cert.Pre_finite_f.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_f m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2))
      ∧ r.2.sem = fun _ => 0)

def quiescent_KernelE [hKernelE : Cert.KernelE.Facts] : Prop :=
  ∀ (m : (ℓ : Loc Cert.KernelE.nD Cert.KernelE.τ Cert.KernelE.sig) → Buf (Elt Bits) ℓ) (g : Dev Cert.KernelE.nD → PrngReg), Pre_KernelE m →
    θ_run (Cert.KernelE.defs (F := Bits)) (onTc (τ := Cert.KernelE.τ) (Cert.KernelE.main (F := Bits))) ⟨m, fun _ => 0, g⟩ (fun r => (∀ c : Dev Cert.KernelE.nD,
      r.2.mem ((c.tc : Thread Cert.KernelE.nD Cert.KernelE.τ).loc Cert.KernelE.main_arg0) = m ((c.tc : Thread Cert.KernelE.nD Cert.KernelE.τ).loc Cert.KernelE.main_arg0)
      ∧ r.2.mem ((c.tc : Thread Cert.KernelE.nD Cert.KernelE.τ).loc Cert.KernelE.main_arg1) = m ((c.tc : Thread Cert.KernelE.nD Cert.KernelE.τ).loc Cert.KernelE.main_arg1))
      ∧ r.2.sem = fun _ => 0)

def quiescent_KernelEIdeal [hKernelEIdeal : Cert.KernelEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg), Pre_KernelEIdeal m →
    θ_run (Cert.KernelEIdeal.defs (F := Ideal)) (onTc (τ := Cert.KernelEIdeal.τ) (Cert.KernelEIdeal.main (F := Ideal))) ⟨m, fun _ => 0, g⟩ (fun r => (∀ c : Dev Cert.KernelEIdeal.nD,
      r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
      ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1))
      ∧ r.2.sem = fun _ => 0)

def quiescent_ReferenceEIdeal [hReferenceEIdeal : Cert.ReferenceEIdeal.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2)
      ∧ r.2.mem ((c.tc : Thread Cert.KernelV.nD Cert.KernelV.τ).loc Cert.KernelV.main_arg3) = m ((c.tc : Thread Cert.KernelV.nD Cert.KernelV.τ).loc Cert.KernelV.main_arg3)
      ∧ r.2.mem ((c.tc : Thread Cert.KernelV.nD Cert.KernelV.τ).loc Cert.KernelV.main_arg4) = m ((c.tc : Thread Cert.KernelV.nD Cert.KernelV.τ).loc Cert.KernelV.main_arg4)
      ∧ r.2.mem ((c.tc : Thread Cert.KernelV.nD Cert.KernelV.τ).loc Cert.KernelV.main_arg5) = m ((c.tc : Thread Cert.KernelV.nD Cert.KernelV.τ).loc Cert.KernelV.main_arg5))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
      ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
      ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
      ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5))
      ∧ r.2.sem = fun _ => 0)

def quiescent_KernelVIdeal_pre_finite_v [hKernelVIdeal : Cert.KernelVIdeal.Facts] [hPre_finite_v : Cert.Pre_finite_v.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal_finite_v m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
      ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
      ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
      ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2)
      ∧ r.2.mem ((c.tc : Thread Cert.ReferenceVIdeal.nD Cert.ReferenceVIdeal.τ).loc Cert.ReferenceVIdeal.main_arg3) = m ((c.tc : Thread Cert.ReferenceVIdeal.nD Cert.ReferenceVIdeal.τ).loc Cert.ReferenceVIdeal.main_arg3)
      ∧ r.2.mem ((c.tc : Thread Cert.ReferenceVIdeal.nD Cert.ReferenceVIdeal.τ).loc Cert.ReferenceVIdeal.main_arg4) = m ((c.tc : Thread Cert.ReferenceVIdeal.nD Cert.ReferenceVIdeal.τ).loc Cert.ReferenceVIdeal.main_arg4)
      ∧ r.2.mem ((c.tc : Thread Cert.ReferenceVIdeal.nD Cert.ReferenceVIdeal.τ).loc Cert.ReferenceVIdeal.main_arg5) = m ((c.tc : Thread Cert.ReferenceVIdeal.nD Cert.ReferenceVIdeal.τ).loc Cert.ReferenceVIdeal.main_arg5))
      ∧ r.2.sem = fun _ => 0)

def quiescent_ReferenceVIdeal_pre_finite_v [hReferenceVIdeal : Cert.ReferenceVIdeal.Facts] [hPre_finite_v : Cert.Pre_finite_v.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal_finite_v m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2)
      ∧ r.2.mem ((c.tc : Thread Cert.ReferenceVIdeal.nD Cert.ReferenceVIdeal.τ).loc Cert.ReferenceVIdeal.main_arg3) = m ((c.tc : Thread Cert.ReferenceVIdeal.nD Cert.ReferenceVIdeal.τ).loc Cert.ReferenceVIdeal.main_arg3)
      ∧ r.2.mem ((c.tc : Thread Cert.ReferenceVIdeal.nD Cert.ReferenceVIdeal.τ).loc Cert.ReferenceVIdeal.main_arg4) = m ((c.tc : Thread Cert.ReferenceVIdeal.nD Cert.ReferenceVIdeal.τ).loc Cert.ReferenceVIdeal.main_arg4)
      ∧ r.2.mem ((c.tc : Thread Cert.ReferenceVIdeal.nD Cert.ReferenceVIdeal.τ).loc Cert.ReferenceVIdeal.main_arg5) = m ((c.tc : Thread Cert.ReferenceVIdeal.nD Cert.ReferenceVIdeal.τ).loc Cert.ReferenceVIdeal.main_arg5))
      ∧ r.2.sem = fun _ => 0)

def quiescent_KernelUG [hKernelUG : Cert.KernelUG.Facts] : Prop :=
  ∀ (m : (ℓ : Loc Cert.KernelUG.nD Cert.KernelUG.τ Cert.KernelUG.sig) → Buf (Elt Bits) ℓ) (g : Dev Cert.KernelUG.nD → PrngReg), Pre_KernelUG m →
    θ_run (Cert.KernelUG.defs (F := Bits)) (onTc (τ := Cert.KernelUG.τ) (Cert.KernelUG.main (F := Bits))) ⟨m, fun _ => 0, g⟩ (fun r => (∀ c : Dev Cert.KernelUG.nD,
      r.2.mem ((c.tc : Thread Cert.KernelUG.nD Cert.KernelUG.τ).loc Cert.KernelUG.main_arg0) = m ((c.tc : Thread Cert.KernelUG.nD Cert.KernelUG.τ).loc Cert.KernelUG.main_arg0)
      ∧ r.2.mem ((c.tc : Thread Cert.KernelUG.nD Cert.KernelUG.τ).loc Cert.KernelUG.main_arg1) = m ((c.tc : Thread Cert.KernelUG.nD Cert.KernelUG.τ).loc Cert.KernelUG.main_arg1))
      ∧ r.2.sem = fun _ => 0)

def quiescent_KernelUGIdeal [hKernelUGIdeal : Cert.KernelUGIdeal.Facts] : Prop :=
  ∀ (m : (ℓ : Loc Cert.KernelUGIdeal.nD Cert.KernelUGIdeal.τ Cert.KernelUGIdeal.sig) → Buf (Elt Ideal) ℓ) (g : Dev Cert.KernelUGIdeal.nD → PrngReg), Pre_KernelUGIdeal m →
    θ_run (Cert.KernelUGIdeal.defs (F := Ideal)) (onTc (τ := Cert.KernelUGIdeal.τ) (Cert.KernelUGIdeal.main (F := Ideal))) ⟨m, fun _ => 0, g⟩ (fun r => (∀ c : Dev Cert.KernelUGIdeal.nD,
      r.2.mem ((c.tc : Thread Cert.KernelUGIdeal.nD Cert.KernelUGIdeal.τ).loc Cert.KernelUGIdeal.main_arg0) = m ((c.tc : Thread Cert.KernelUGIdeal.nD Cert.KernelUGIdeal.τ).loc Cert.KernelUGIdeal.main_arg0)
      ∧ r.2.mem ((c.tc : Thread Cert.KernelUGIdeal.nD Cert.KernelUGIdeal.τ).loc Cert.KernelUGIdeal.main_arg1) = m ((c.tc : Thread Cert.KernelUGIdeal.nD Cert.KernelUGIdeal.τ).loc Cert.KernelUGIdeal.main_arg1))
      ∧ r.2.sem = fun _ => 0)

def quiescent_ReferenceUGIdeal [hReferenceUGIdeal : Cert.ReferenceUGIdeal.Facts] : Prop :=
  ∀ (m : (ℓ : Loc Cert.ReferenceUGIdeal.nD Cert.ReferenceUGIdeal.τ Cert.ReferenceUGIdeal.sig) → Buf (Elt Ideal) ℓ) (g : Dev Cert.ReferenceUGIdeal.nD → PrngReg), Pre_ReferenceUGIdeal m →
    θ_run (Cert.ReferenceUGIdeal.defs (F := Ideal)) (onTc (τ := Cert.ReferenceUGIdeal.τ) (Cert.ReferenceUGIdeal.main (F := Ideal))) ⟨m, fun _ => 0, g⟩ (fun r => (∀ c : Dev Cert.ReferenceUGIdeal.nD,
      r.2.mem ((c.tc : Thread Cert.ReferenceUGIdeal.nD Cert.ReferenceUGIdeal.τ).loc Cert.ReferenceUGIdeal.main_arg0) = m ((c.tc : Thread Cert.ReferenceUGIdeal.nD Cert.ReferenceUGIdeal.τ).loc Cert.ReferenceUGIdeal.main_arg0)
      ∧ r.2.mem ((c.tc : Thread Cert.ReferenceUGIdeal.nD Cert.ReferenceUGIdeal.τ).loc Cert.ReferenceUGIdeal.main_arg1) = m ((c.tc : Thread Cert.ReferenceUGIdeal.nD Cert.ReferenceUGIdeal.τ).loc Cert.ReferenceUGIdeal.main_arg1))
      ∧ r.2.sem = fun _ => 0)

def quiescent_KernelUV [hKernelUV : Cert.KernelUV.Facts] : Prop :=
  ∀ (m : (ℓ : Loc Cert.KernelUV.nD Cert.KernelUV.τ Cert.KernelUV.sig) → Buf (Elt Bits) ℓ) (g : Dev Cert.KernelUV.nD → PrngReg), Pre_KernelUV m →
    θ_run (Cert.KernelUV.defs (F := Bits)) (onTc (τ := Cert.KernelUV.τ) (Cert.KernelUV.main (F := Bits))) ⟨m, fun _ => 0, g⟩ (fun r => (∀ c : Dev Cert.KernelUV.nD,
      r.2.mem ((c.tc : Thread Cert.KernelUV.nD Cert.KernelUV.τ).loc Cert.KernelUV.main_arg0) = m ((c.tc : Thread Cert.KernelUV.nD Cert.KernelUV.τ).loc Cert.KernelUV.main_arg0)
      ∧ r.2.mem ((c.tc : Thread Cert.KernelUV.nD Cert.KernelUV.τ).loc Cert.KernelUV.main_arg1) = m ((c.tc : Thread Cert.KernelUV.nD Cert.KernelUV.τ).loc Cert.KernelUV.main_arg1))
      ∧ r.2.sem = fun _ => 0)

def quiescent_KernelUVIdeal [hKernelUVIdeal : Cert.KernelUVIdeal.Facts] : Prop :=
  ∀ (m : (ℓ : Loc Cert.KernelUVIdeal.nD Cert.KernelUVIdeal.τ Cert.KernelUVIdeal.sig) → Buf (Elt Ideal) ℓ) (g : Dev Cert.KernelUVIdeal.nD → PrngReg), Pre_KernelUVIdeal m →
    θ_run (Cert.KernelUVIdeal.defs (F := Ideal)) (onTc (τ := Cert.KernelUVIdeal.τ) (Cert.KernelUVIdeal.main (F := Ideal))) ⟨m, fun _ => 0, g⟩ (fun r => (∀ c : Dev Cert.KernelUVIdeal.nD,
      r.2.mem ((c.tc : Thread Cert.KernelUVIdeal.nD Cert.KernelUVIdeal.τ).loc Cert.KernelUVIdeal.main_arg0) = m ((c.tc : Thread Cert.KernelUVIdeal.nD Cert.KernelUVIdeal.τ).loc Cert.KernelUVIdeal.main_arg0)
      ∧ r.2.mem ((c.tc : Thread Cert.KernelUVIdeal.nD Cert.KernelUVIdeal.τ).loc Cert.KernelUVIdeal.main_arg1) = m ((c.tc : Thread Cert.KernelUVIdeal.nD Cert.KernelUVIdeal.τ).loc Cert.KernelUVIdeal.main_arg1))
      ∧ r.2.sem = fun _ => 0)

def quiescent_ReferenceUVIdeal [hReferenceUVIdeal : Cert.ReferenceUVIdeal.Facts] : Prop :=
  ∀ (m : (ℓ : Loc Cert.ReferenceUVIdeal.nD Cert.ReferenceUVIdeal.τ Cert.ReferenceUVIdeal.sig) → Buf (Elt Ideal) ℓ) (g : Dev Cert.ReferenceUVIdeal.nD → PrngReg), Pre_ReferenceUVIdeal m →
    θ_run (Cert.ReferenceUVIdeal.defs (F := Ideal)) (onTc (τ := Cert.ReferenceUVIdeal.τ) (Cert.ReferenceUVIdeal.main (F := Ideal))) ⟨m, fun _ => 0, g⟩ (fun r => (∀ c : Dev Cert.ReferenceUVIdeal.nD,
      r.2.mem ((c.tc : Thread Cert.ReferenceUVIdeal.nD Cert.ReferenceUVIdeal.τ).loc Cert.ReferenceUVIdeal.main_arg0) = m ((c.tc : Thread Cert.ReferenceUVIdeal.nD Cert.ReferenceUVIdeal.τ).loc Cert.ReferenceUVIdeal.main_arg0)
      ∧ r.2.mem ((c.tc : Thread Cert.ReferenceUVIdeal.nD Cert.ReferenceUVIdeal.τ).loc Cert.ReferenceUVIdeal.main_arg1) = m ((c.tc : Thread Cert.ReferenceUVIdeal.nD Cert.ReferenceUVIdeal.τ).loc Cert.ReferenceUVIdeal.main_arg1))
      ∧ r.2.sem = fun _ => 0)

def quiescent_KernelDN [hKernelDN : Cert.KernelDN.Facts] : Prop :=
  ∀ (m : (ℓ : Loc Cert.KernelDN.nD Cert.KernelDN.τ Cert.KernelDN.sig) → Buf (Elt Bits) ℓ) (g : Dev Cert.KernelDN.nD → PrngReg), Pre_KernelDN m →
    θ_run (Cert.KernelDN.defs (F := Bits)) (onTc (τ := Cert.KernelDN.τ) (Cert.KernelDN.main (F := Bits))) ⟨m, fun _ => 0, g⟩ (fun r => (∀ c : Dev Cert.KernelDN.nD,
      r.2.mem ((c.tc : Thread Cert.KernelDN.nD Cert.KernelDN.τ).loc Cert.KernelDN.main_arg0) = m ((c.tc : Thread Cert.KernelDN.nD Cert.KernelDN.τ).loc Cert.KernelDN.main_arg0)
      ∧ r.2.mem ((c.tc : Thread Cert.KernelDN.nD Cert.KernelDN.τ).loc Cert.KernelDN.main_arg1) = m ((c.tc : Thread Cert.KernelDN.nD Cert.KernelDN.τ).loc Cert.KernelDN.main_arg1)
      ∧ r.2.mem ((c.tc : Thread Cert.KernelDN.nD Cert.KernelDN.τ).loc Cert.KernelDN.main_arg2) = m ((c.tc : Thread Cert.KernelDN.nD Cert.KernelDN.τ).loc Cert.KernelDN.main_arg2)
      ∧ r.2.mem ((c.tc : Thread Cert.KernelDN.nD Cert.KernelDN.τ).loc Cert.KernelDN.main_arg3) = m ((c.tc : Thread Cert.KernelDN.nD Cert.KernelDN.τ).loc Cert.KernelDN.main_arg3))
      ∧ r.2.sem = fun _ => 0)

def quiescent_KernelDNIdeal [hKernelDNIdeal : Cert.KernelDNIdeal.Facts] : Prop :=
  ∀ (m : (ℓ : Loc Cert.KernelDNIdeal.nD Cert.KernelDNIdeal.τ Cert.KernelDNIdeal.sig) → Buf (Elt Ideal) ℓ) (g : Dev Cert.KernelDNIdeal.nD → PrngReg), Pre_KernelDNIdeal m →
    θ_run (Cert.KernelDNIdeal.defs (F := Ideal)) (onTc (τ := Cert.KernelDNIdeal.τ) (Cert.KernelDNIdeal.main (F := Ideal))) ⟨m, fun _ => 0, g⟩ (fun r => (∀ c : Dev Cert.KernelDNIdeal.nD,
      r.2.mem ((c.tc : Thread Cert.KernelDNIdeal.nD Cert.KernelDNIdeal.τ).loc Cert.KernelDNIdeal.main_arg0) = m ((c.tc : Thread Cert.KernelDNIdeal.nD Cert.KernelDNIdeal.τ).loc Cert.KernelDNIdeal.main_arg0)
      ∧ r.2.mem ((c.tc : Thread Cert.KernelDNIdeal.nD Cert.KernelDNIdeal.τ).loc Cert.KernelDNIdeal.main_arg1) = m ((c.tc : Thread Cert.KernelDNIdeal.nD Cert.KernelDNIdeal.τ).loc Cert.KernelDNIdeal.main_arg1)
      ∧ r.2.mem ((c.tc : Thread Cert.KernelDNIdeal.nD Cert.KernelDNIdeal.τ).loc Cert.KernelDNIdeal.main_arg2) = m ((c.tc : Thread Cert.KernelDNIdeal.nD Cert.KernelDNIdeal.τ).loc Cert.KernelDNIdeal.main_arg2)
      ∧ r.2.mem ((c.tc : Thread Cert.KernelDNIdeal.nD Cert.KernelDNIdeal.τ).loc Cert.KernelDNIdeal.main_arg3) = m ((c.tc : Thread Cert.KernelDNIdeal.nD Cert.KernelDNIdeal.τ).loc Cert.KernelDNIdeal.main_arg3))
      ∧ r.2.sem = fun _ => 0)

def quiescent_ReferenceDNIdeal [hReferenceDNIdeal : Cert.ReferenceDNIdeal.Facts] : Prop :=
  ∀ (m : (ℓ : Loc Cert.ReferenceDNIdeal.nD Cert.ReferenceDNIdeal.τ Cert.ReferenceDNIdeal.sig) → Buf (Elt Ideal) ℓ) (g : Dev Cert.ReferenceDNIdeal.nD → PrngReg), Pre_ReferenceDNIdeal m →
    θ_run (Cert.ReferenceDNIdeal.defs (F := Ideal)) (onTc (τ := Cert.ReferenceDNIdeal.τ) (Cert.ReferenceDNIdeal.main (F := Ideal))) ⟨m, fun _ => 0, g⟩ (fun r => (∀ c : Dev Cert.ReferenceDNIdeal.nD,
      r.2.mem ((c.tc : Thread Cert.ReferenceDNIdeal.nD Cert.ReferenceDNIdeal.τ).loc Cert.ReferenceDNIdeal.main_arg0) = m ((c.tc : Thread Cert.ReferenceDNIdeal.nD Cert.ReferenceDNIdeal.τ).loc Cert.ReferenceDNIdeal.main_arg0)
      ∧ r.2.mem ((c.tc : Thread Cert.ReferenceDNIdeal.nD Cert.ReferenceDNIdeal.τ).loc Cert.ReferenceDNIdeal.main_arg1) = m ((c.tc : Thread Cert.ReferenceDNIdeal.nD Cert.ReferenceDNIdeal.τ).loc Cert.ReferenceDNIdeal.main_arg1)
      ∧ r.2.mem ((c.tc : Thread Cert.ReferenceDNIdeal.nD Cert.ReferenceDNIdeal.τ).loc Cert.ReferenceDNIdeal.main_arg2) = m ((c.tc : Thread Cert.ReferenceDNIdeal.nD Cert.ReferenceDNIdeal.τ).loc Cert.ReferenceDNIdeal.main_arg2)
      ∧ r.2.mem ((c.tc : Thread Cert.ReferenceDNIdeal.nD Cert.ReferenceDNIdeal.τ).loc Cert.ReferenceDNIdeal.main_arg3) = m ((c.tc : Thread Cert.ReferenceDNIdeal.nD Cert.ReferenceDNIdeal.τ).loc Cert.ReferenceDNIdeal.main_arg3))
      ∧ r.2.sem = fun _ => 0)

def quiescent_KernelDL [hKernelDL : Cert.KernelDL.Facts] : Prop :=
  ∀ (m : (ℓ : Loc Cert.KernelDL.nD Cert.KernelDL.τ Cert.KernelDL.sig) → Buf (Elt Bits) ℓ) (g : Dev Cert.KernelDL.nD → PrngReg), Pre_KernelDL m →
    θ_run (Cert.KernelDL.defs (F := Bits)) (onTc (τ := Cert.KernelDL.τ) (Cert.KernelDL.main (F := Bits))) ⟨m, fun _ => 0, g⟩ (fun r => (∀ c : Dev Cert.KernelDL.nD,
      r.2.mem ((c.tc : Thread Cert.KernelDL.nD Cert.KernelDL.τ).loc Cert.KernelDL.main_arg0) = m ((c.tc : Thread Cert.KernelDL.nD Cert.KernelDL.τ).loc Cert.KernelDL.main_arg0)
      ∧ r.2.mem ((c.tc : Thread Cert.KernelDL.nD Cert.KernelDL.τ).loc Cert.KernelDL.main_arg1) = m ((c.tc : Thread Cert.KernelDL.nD Cert.KernelDL.τ).loc Cert.KernelDL.main_arg1)
      ∧ r.2.mem ((c.tc : Thread Cert.KernelDL.nD Cert.KernelDL.τ).loc Cert.KernelDL.main_arg2) = m ((c.tc : Thread Cert.KernelDL.nD Cert.KernelDL.τ).loc Cert.KernelDL.main_arg2))
      ∧ r.2.sem = fun _ => 0)

def quiescent_KernelDLIdeal [hKernelDLIdeal : Cert.KernelDLIdeal.Facts] : Prop :=
  ∀ (m : (ℓ : Loc Cert.KernelDLIdeal.nD Cert.KernelDLIdeal.τ Cert.KernelDLIdeal.sig) → Buf (Elt Ideal) ℓ) (g : Dev Cert.KernelDLIdeal.nD → PrngReg), Pre_KernelDLIdeal m →
    θ_run (Cert.KernelDLIdeal.defs (F := Ideal)) (onTc (τ := Cert.KernelDLIdeal.τ) (Cert.KernelDLIdeal.main (F := Ideal))) ⟨m, fun _ => 0, g⟩ (fun r => (∀ c : Dev Cert.KernelDLIdeal.nD,
      r.2.mem ((c.tc : Thread Cert.KernelDLIdeal.nD Cert.KernelDLIdeal.τ).loc Cert.KernelDLIdeal.main_arg0) = m ((c.tc : Thread Cert.KernelDLIdeal.nD Cert.KernelDLIdeal.τ).loc Cert.KernelDLIdeal.main_arg0)
      ∧ r.2.mem ((c.tc : Thread Cert.KernelDLIdeal.nD Cert.KernelDLIdeal.τ).loc Cert.KernelDLIdeal.main_arg1) = m ((c.tc : Thread Cert.KernelDLIdeal.nD Cert.KernelDLIdeal.τ).loc Cert.KernelDLIdeal.main_arg1)
      ∧ r.2.mem ((c.tc : Thread Cert.KernelDLIdeal.nD Cert.KernelDLIdeal.τ).loc Cert.KernelDLIdeal.main_arg2) = m ((c.tc : Thread Cert.KernelDLIdeal.nD Cert.KernelDLIdeal.τ).loc Cert.KernelDLIdeal.main_arg2))
      ∧ r.2.sem = fun _ => 0)

def quiescent_ReferenceDLIdeal [hReferenceDLIdeal : Cert.ReferenceDLIdeal.Facts] : Prop :=
  ∀ (m : (ℓ : Loc Cert.ReferenceDLIdeal.nD Cert.ReferenceDLIdeal.τ Cert.ReferenceDLIdeal.sig) → Buf (Elt Ideal) ℓ) (g : Dev Cert.ReferenceDLIdeal.nD → PrngReg), Pre_ReferenceDLIdeal m →
    θ_run (Cert.ReferenceDLIdeal.defs (F := Ideal)) (onTc (τ := Cert.ReferenceDLIdeal.τ) (Cert.ReferenceDLIdeal.main (F := Ideal))) ⟨m, fun _ => 0, g⟩ (fun r => (∀ c : Dev Cert.ReferenceDLIdeal.nD,
      r.2.mem ((c.tc : Thread Cert.ReferenceDLIdeal.nD Cert.ReferenceDLIdeal.τ).loc Cert.ReferenceDLIdeal.main_arg0) = m ((c.tc : Thread Cert.ReferenceDLIdeal.nD Cert.ReferenceDLIdeal.τ).loc Cert.ReferenceDLIdeal.main_arg0)
      ∧ r.2.mem ((c.tc : Thread Cert.ReferenceDLIdeal.nD Cert.ReferenceDLIdeal.τ).loc Cert.ReferenceDLIdeal.main_arg1) = m ((c.tc : Thread Cert.ReferenceDLIdeal.nD Cert.ReferenceDLIdeal.τ).loc Cert.ReferenceDLIdeal.main_arg1)
      ∧ r.2.mem ((c.tc : Thread Cert.ReferenceDLIdeal.nD Cert.ReferenceDLIdeal.τ).loc Cert.ReferenceDLIdeal.main_arg2) = m ((c.tc : Thread Cert.ReferenceDLIdeal.nD Cert.ReferenceDLIdeal.τ).loc Cert.ReferenceDLIdeal.main_arg2))
      ∧ r.2.sem = fun _ => 0)

def quiescent_KernelDX [hKernelDX : Cert.KernelDX.Facts] : Prop :=
  ∀ (m : (ℓ : Loc Cert.KernelDX.nD Cert.KernelDX.τ Cert.KernelDX.sig) → Buf (Elt Bits) ℓ) (g : Dev Cert.KernelDX.nD → PrngReg), Pre_KernelDX m →
    θ_run (Cert.KernelDX.defs (F := Bits)) (onTc (τ := Cert.KernelDX.τ) (Cert.KernelDX.main (F := Bits))) ⟨m, fun _ => 0, g⟩ (fun r => (∀ c : Dev Cert.KernelDX.nD,
      r.2.mem ((c.tc : Thread Cert.KernelDX.nD Cert.KernelDX.τ).loc Cert.KernelDX.main_arg0) = m ((c.tc : Thread Cert.KernelDX.nD Cert.KernelDX.τ).loc Cert.KernelDX.main_arg0)
      ∧ r.2.mem ((c.tc : Thread Cert.KernelDX.nD Cert.KernelDX.τ).loc Cert.KernelDX.main_arg1) = m ((c.tc : Thread Cert.KernelDX.nD Cert.KernelDX.τ).loc Cert.KernelDX.main_arg1))
      ∧ r.2.sem = fun _ => 0)

def quiescent_KernelDXIdeal [hKernelDXIdeal : Cert.KernelDXIdeal.Facts] : Prop :=
  ∀ (m : (ℓ : Loc Cert.KernelDXIdeal.nD Cert.KernelDXIdeal.τ Cert.KernelDXIdeal.sig) → Buf (Elt Ideal) ℓ) (g : Dev Cert.KernelDXIdeal.nD → PrngReg), Pre_KernelDXIdeal m →
    θ_run (Cert.KernelDXIdeal.defs (F := Ideal)) (onTc (τ := Cert.KernelDXIdeal.τ) (Cert.KernelDXIdeal.main (F := Ideal))) ⟨m, fun _ => 0, g⟩ (fun r => (∀ c : Dev Cert.KernelDXIdeal.nD,
      r.2.mem ((c.tc : Thread Cert.KernelDXIdeal.nD Cert.KernelDXIdeal.τ).loc Cert.KernelDXIdeal.main_arg0) = m ((c.tc : Thread Cert.KernelDXIdeal.nD Cert.KernelDXIdeal.τ).loc Cert.KernelDXIdeal.main_arg0)
      ∧ r.2.mem ((c.tc : Thread Cert.KernelDXIdeal.nD Cert.KernelDXIdeal.τ).loc Cert.KernelDXIdeal.main_arg1) = m ((c.tc : Thread Cert.KernelDXIdeal.nD Cert.KernelDXIdeal.τ).loc Cert.KernelDXIdeal.main_arg1))
      ∧ r.2.sem = fun _ => 0)

def quiescent_ReferenceDXIdeal [hReferenceDXIdeal : Cert.ReferenceDXIdeal.Facts] : Prop :=
  ∀ (m : (ℓ : Loc Cert.ReferenceDXIdeal.nD Cert.ReferenceDXIdeal.τ Cert.ReferenceDXIdeal.sig) → Buf (Elt Ideal) ℓ) (g : Dev Cert.ReferenceDXIdeal.nD → PrngReg), Pre_ReferenceDXIdeal m →
    θ_run (Cert.ReferenceDXIdeal.defs (F := Ideal)) (onTc (τ := Cert.ReferenceDXIdeal.τ) (Cert.ReferenceDXIdeal.main (F := Ideal))) ⟨m, fun _ => 0, g⟩ (fun r => (∀ c : Dev Cert.ReferenceDXIdeal.nD,
      r.2.mem ((c.tc : Thread Cert.ReferenceDXIdeal.nD Cert.ReferenceDXIdeal.τ).loc Cert.ReferenceDXIdeal.main_arg0) = m ((c.tc : Thread Cert.ReferenceDXIdeal.nD Cert.ReferenceDXIdeal.τ).loc Cert.ReferenceDXIdeal.main_arg0)
      ∧ r.2.mem ((c.tc : Thread Cert.ReferenceDXIdeal.nD Cert.ReferenceDXIdeal.τ).loc Cert.ReferenceDXIdeal.main_arg1) = m ((c.tc : Thread Cert.ReferenceDXIdeal.nD Cert.ReferenceDXIdeal.τ).loc Cert.ReferenceDXIdeal.main_arg1))
      ∧ r.2.sem = fun _ => 0)

def quiescent_KernelDO [hKernelDO : Cert.KernelDO.Facts] : Prop :=
  ∀ (m : (ℓ : Loc Cert.KernelDO.nD Cert.KernelDO.τ Cert.KernelDO.sig) → Buf (Elt Bits) ℓ) (g : Dev Cert.KernelDO.nD → PrngReg), Pre_KernelDO m →
    θ_run (Cert.KernelDO.defs (F := Bits)) (onTc (τ := Cert.KernelDO.τ) (Cert.KernelDO.main (F := Bits))) ⟨m, fun _ => 0, g⟩ (fun r => (∀ c : Dev Cert.KernelDO.nD,
      r.2.mem ((c.tc : Thread Cert.KernelDO.nD Cert.KernelDO.τ).loc Cert.KernelDO.main_arg0) = m ((c.tc : Thread Cert.KernelDO.nD Cert.KernelDO.τ).loc Cert.KernelDO.main_arg0)
      ∧ r.2.mem ((c.tc : Thread Cert.KernelDO.nD Cert.KernelDO.τ).loc Cert.KernelDO.main_arg1) = m ((c.tc : Thread Cert.KernelDO.nD Cert.KernelDO.τ).loc Cert.KernelDO.main_arg1))
      ∧ r.2.sem = fun _ => 0)

def quiescent_KernelDOIdeal [hKernelDOIdeal : Cert.KernelDOIdeal.Facts] : Prop :=
  ∀ (m : (ℓ : Loc Cert.KernelDOIdeal.nD Cert.KernelDOIdeal.τ Cert.KernelDOIdeal.sig) → Buf (Elt Ideal) ℓ) (g : Dev Cert.KernelDOIdeal.nD → PrngReg), Pre_KernelDOIdeal m →
    θ_run (Cert.KernelDOIdeal.defs (F := Ideal)) (onTc (τ := Cert.KernelDOIdeal.τ) (Cert.KernelDOIdeal.main (F := Ideal))) ⟨m, fun _ => 0, g⟩ (fun r => (∀ c : Dev Cert.KernelDOIdeal.nD,
      r.2.mem ((c.tc : Thread Cert.KernelDOIdeal.nD Cert.KernelDOIdeal.τ).loc Cert.KernelDOIdeal.main_arg0) = m ((c.tc : Thread Cert.KernelDOIdeal.nD Cert.KernelDOIdeal.τ).loc Cert.KernelDOIdeal.main_arg0)
      ∧ r.2.mem ((c.tc : Thread Cert.KernelDOIdeal.nD Cert.KernelDOIdeal.τ).loc Cert.KernelDOIdeal.main_arg1) = m ((c.tc : Thread Cert.KernelDOIdeal.nD Cert.KernelDOIdeal.τ).loc Cert.KernelDOIdeal.main_arg1))
      ∧ r.2.sem = fun _ => 0)

def quiescent_ReferenceDOIdeal [hReferenceDOIdeal : Cert.ReferenceDOIdeal.Facts] : Prop :=
  ∀ (m : (ℓ : Loc Cert.ReferenceDOIdeal.nD Cert.ReferenceDOIdeal.τ Cert.ReferenceDOIdeal.sig) → Buf (Elt Ideal) ℓ) (g : Dev Cert.ReferenceDOIdeal.nD → PrngReg), Pre_ReferenceDOIdeal m →
    θ_run (Cert.ReferenceDOIdeal.defs (F := Ideal)) (onTc (τ := Cert.ReferenceDOIdeal.τ) (Cert.ReferenceDOIdeal.main (F := Ideal))) ⟨m, fun _ => 0, g⟩ (fun r => (∀ c : Dev Cert.ReferenceDOIdeal.nD,
      r.2.mem ((c.tc : Thread Cert.ReferenceDOIdeal.nD Cert.ReferenceDOIdeal.τ).loc Cert.ReferenceDOIdeal.main_arg0) = m ((c.tc : Thread Cert.ReferenceDOIdeal.nD Cert.ReferenceDOIdeal.τ).loc Cert.ReferenceDOIdeal.main_arg0)
      ∧ r.2.mem ((c.tc : Thread Cert.ReferenceDOIdeal.nD Cert.ReferenceDOIdeal.τ).loc Cert.ReferenceDOIdeal.main_arg1) = m ((c.tc : Thread Cert.ReferenceDOIdeal.nD Cert.ReferenceDOIdeal.τ).loc Cert.ReferenceDOIdeal.main_arg1))
      ∧ r.2.sem = fun _ => 0)

def quiescent_KernelWX [hKernelWX : Cert.KernelWX.Facts] : Prop :=
  ∀ (m : (ℓ : Loc Cert.KernelWX.nD Cert.KernelWX.τ Cert.KernelWX.sig) → Buf (Elt Bits) ℓ) (g : Dev Cert.KernelWX.nD → PrngReg), Pre_KernelWX m →
    θ_run (Cert.KernelWX.defs (F := Bits)) (onTc (τ := Cert.KernelWX.τ) (Cert.KernelWX.main (F := Bits))) ⟨m, fun _ => 0, g⟩ (fun r => (∀ c : Dev Cert.KernelWX.nD,
      r.2.mem ((c.tc : Thread Cert.KernelWX.nD Cert.KernelWX.τ).loc Cert.KernelWX.main_arg0) = m ((c.tc : Thread Cert.KernelWX.nD Cert.KernelWX.τ).loc Cert.KernelWX.main_arg0)
      ∧ r.2.mem ((c.tc : Thread Cert.KernelWX.nD Cert.KernelWX.τ).loc Cert.KernelWX.main_arg1) = m ((c.tc : Thread Cert.KernelWX.nD Cert.KernelWX.τ).loc Cert.KernelWX.main_arg1)
      ∧ r.2.mem ((c.tc : Thread Cert.KernelWX.nD Cert.KernelWX.τ).loc Cert.KernelWX.main_arg2) = m ((c.tc : Thread Cert.KernelWX.nD Cert.KernelWX.τ).loc Cert.KernelWX.main_arg2))
      ∧ r.2.sem = fun _ => 0)

def quiescent_KernelWXIdeal [hKernelWXIdeal : Cert.KernelWXIdeal.Facts] : Prop :=
  ∀ (m : (ℓ : Loc Cert.KernelWXIdeal.nD Cert.KernelWXIdeal.τ Cert.KernelWXIdeal.sig) → Buf (Elt Ideal) ℓ) (g : Dev Cert.KernelWXIdeal.nD → PrngReg), Pre_KernelWXIdeal m →
    θ_run (Cert.KernelWXIdeal.defs (F := Ideal)) (onTc (τ := Cert.KernelWXIdeal.τ) (Cert.KernelWXIdeal.main (F := Ideal))) ⟨m, fun _ => 0, g⟩ (fun r => (∀ c : Dev Cert.KernelWXIdeal.nD,
      r.2.mem ((c.tc : Thread Cert.KernelWXIdeal.nD Cert.KernelWXIdeal.τ).loc Cert.KernelWXIdeal.main_arg0) = m ((c.tc : Thread Cert.KernelWXIdeal.nD Cert.KernelWXIdeal.τ).loc Cert.KernelWXIdeal.main_arg0)
      ∧ r.2.mem ((c.tc : Thread Cert.KernelWXIdeal.nD Cert.KernelWXIdeal.τ).loc Cert.KernelWXIdeal.main_arg1) = m ((c.tc : Thread Cert.KernelWXIdeal.nD Cert.KernelWXIdeal.τ).loc Cert.KernelWXIdeal.main_arg1)
      ∧ r.2.mem ((c.tc : Thread Cert.KernelWXIdeal.nD Cert.KernelWXIdeal.τ).loc Cert.KernelWXIdeal.main_arg2) = m ((c.tc : Thread Cert.KernelWXIdeal.nD Cert.KernelWXIdeal.τ).loc Cert.KernelWXIdeal.main_arg2))
      ∧ r.2.sem = fun _ => 0)

def quiescent_ReferenceWXIdeal [hReferenceWXIdeal : Cert.ReferenceWXIdeal.Facts] : Prop :=
  ∀ (m : (ℓ : Loc Cert.ReferenceWXIdeal.nD Cert.ReferenceWXIdeal.τ Cert.ReferenceWXIdeal.sig) → Buf (Elt Ideal) ℓ) (g : Dev Cert.ReferenceWXIdeal.nD → PrngReg), Pre_ReferenceWXIdeal m →
    θ_run (Cert.ReferenceWXIdeal.defs (F := Ideal)) (onTc (τ := Cert.ReferenceWXIdeal.τ) (Cert.ReferenceWXIdeal.main (F := Ideal))) ⟨m, fun _ => 0, g⟩ (fun r => (∀ c : Dev Cert.ReferenceWXIdeal.nD,
      r.2.mem ((c.tc : Thread Cert.ReferenceWXIdeal.nD Cert.ReferenceWXIdeal.τ).loc Cert.ReferenceWXIdeal.main_arg0) = m ((c.tc : Thread Cert.ReferenceWXIdeal.nD Cert.ReferenceWXIdeal.τ).loc Cert.ReferenceWXIdeal.main_arg0)
      ∧ r.2.mem ((c.tc : Thread Cert.ReferenceWXIdeal.nD Cert.ReferenceWXIdeal.τ).loc Cert.ReferenceWXIdeal.main_arg1) = m ((c.tc : Thread Cert.ReferenceWXIdeal.nD Cert.ReferenceWXIdeal.τ).loc Cert.ReferenceWXIdeal.main_arg1)
      ∧ r.2.mem ((c.tc : Thread Cert.ReferenceWXIdeal.nD Cert.ReferenceWXIdeal.τ).loc Cert.ReferenceWXIdeal.main_arg2) = m ((c.tc : Thread Cert.ReferenceWXIdeal.nD Cert.ReferenceWXIdeal.τ).loc Cert.ReferenceWXIdeal.main_arg2))
      ∧ r.2.sem = fun _ => 0)

def quiescent_KernelWO [hKernelWO : Cert.KernelWO.Facts] : Prop :=
  ∀ (m : (ℓ : Loc Cert.KernelWO.nD Cert.KernelWO.τ Cert.KernelWO.sig) → Buf (Elt Bits) ℓ) (g : Dev Cert.KernelWO.nD → PrngReg), Pre_KernelWO m →
    θ_run (Cert.KernelWO.defs (F := Bits)) (onTc (τ := Cert.KernelWO.τ) (Cert.KernelWO.main (F := Bits))) ⟨m, fun _ => 0, g⟩ (fun r => (∀ c : Dev Cert.KernelWO.nD,
      r.2.mem ((c.tc : Thread Cert.KernelWO.nD Cert.KernelWO.τ).loc Cert.KernelWO.main_arg0) = m ((c.tc : Thread Cert.KernelWO.nD Cert.KernelWO.τ).loc Cert.KernelWO.main_arg0)
      ∧ r.2.mem ((c.tc : Thread Cert.KernelWO.nD Cert.KernelWO.τ).loc Cert.KernelWO.main_arg1) = m ((c.tc : Thread Cert.KernelWO.nD Cert.KernelWO.τ).loc Cert.KernelWO.main_arg1))
      ∧ r.2.sem = fun _ => 0)

def quiescent_KernelWOIdeal [hKernelWOIdeal : Cert.KernelWOIdeal.Facts] : Prop :=
  ∀ (m : (ℓ : Loc Cert.KernelWOIdeal.nD Cert.KernelWOIdeal.τ Cert.KernelWOIdeal.sig) → Buf (Elt Ideal) ℓ) (g : Dev Cert.KernelWOIdeal.nD → PrngReg), Pre_KernelWOIdeal m →
    θ_run (Cert.KernelWOIdeal.defs (F := Ideal)) (onTc (τ := Cert.KernelWOIdeal.τ) (Cert.KernelWOIdeal.main (F := Ideal))) ⟨m, fun _ => 0, g⟩ (fun r => (∀ c : Dev Cert.KernelWOIdeal.nD,
      r.2.mem ((c.tc : Thread Cert.KernelWOIdeal.nD Cert.KernelWOIdeal.τ).loc Cert.KernelWOIdeal.main_arg0) = m ((c.tc : Thread Cert.KernelWOIdeal.nD Cert.KernelWOIdeal.τ).loc Cert.KernelWOIdeal.main_arg0)
      ∧ r.2.mem ((c.tc : Thread Cert.KernelWOIdeal.nD Cert.KernelWOIdeal.τ).loc Cert.KernelWOIdeal.main_arg1) = m ((c.tc : Thread Cert.KernelWOIdeal.nD Cert.KernelWOIdeal.τ).loc Cert.KernelWOIdeal.main_arg1))
      ∧ r.2.sem = fun _ => 0)

def quiescent_ReferenceWOIdeal [hReferenceWOIdeal : Cert.ReferenceWOIdeal.Facts] : Prop :=
  ∀ (m : (ℓ : Loc Cert.ReferenceWOIdeal.nD Cert.ReferenceWOIdeal.τ Cert.ReferenceWOIdeal.sig) → Buf (Elt Ideal) ℓ) (g : Dev Cert.ReferenceWOIdeal.nD → PrngReg), Pre_ReferenceWOIdeal m →
    θ_run (Cert.ReferenceWOIdeal.defs (F := Ideal)) (onTc (τ := Cert.ReferenceWOIdeal.τ) (Cert.ReferenceWOIdeal.main (F := Ideal))) ⟨m, fun _ => 0, g⟩ (fun r => (∀ c : Dev Cert.ReferenceWOIdeal.nD,
      r.2.mem ((c.tc : Thread Cert.ReferenceWOIdeal.nD Cert.ReferenceWOIdeal.τ).loc Cert.ReferenceWOIdeal.main_arg0) = m ((c.tc : Thread Cert.ReferenceWOIdeal.nD Cert.ReferenceWOIdeal.τ).loc Cert.ReferenceWOIdeal.main_arg0)
      ∧ r.2.mem ((c.tc : Thread Cert.ReferenceWOIdeal.nD Cert.ReferenceWOIdeal.τ).loc Cert.ReferenceWOIdeal.main_arg1) = m ((c.tc : Thread Cert.ReferenceWOIdeal.nD Cert.ReferenceWOIdeal.τ).loc Cert.ReferenceWOIdeal.main_arg1))
      ∧ r.2.sem = fun _ => 0)

def quiescent_KernelWQ [hKernelWQ : Cert.KernelWQ.Facts] : Prop :=
  ∀ (m : (ℓ : Loc Cert.KernelWQ.nD Cert.KernelWQ.τ Cert.KernelWQ.sig) → Buf (Elt Bits) ℓ) (g : Dev Cert.KernelWQ.nD → PrngReg), Pre_KernelWQ m →
    θ_run (Cert.KernelWQ.defs (F := Bits)) (onTc (τ := Cert.KernelWQ.τ) (Cert.KernelWQ.main (F := Bits))) ⟨m, fun _ => 0, g⟩ (fun r => (∀ c : Dev Cert.KernelWQ.nD,
      r.2.mem ((c.tc : Thread Cert.KernelWQ.nD Cert.KernelWQ.τ).loc Cert.KernelWQ.main_arg0) = m ((c.tc : Thread Cert.KernelWQ.nD Cert.KernelWQ.τ).loc Cert.KernelWQ.main_arg0)
      ∧ r.2.mem ((c.tc : Thread Cert.KernelWQ.nD Cert.KernelWQ.τ).loc Cert.KernelWQ.main_arg1) = m ((c.tc : Thread Cert.KernelWQ.nD Cert.KernelWQ.τ).loc Cert.KernelWQ.main_arg1))
      ∧ r.2.sem = fun _ => 0)

def quiescent_KernelWQIdeal [hKernelWQIdeal : Cert.KernelWQIdeal.Facts] : Prop :=
  ∀ (m : (ℓ : Loc Cert.KernelWQIdeal.nD Cert.KernelWQIdeal.τ Cert.KernelWQIdeal.sig) → Buf (Elt Ideal) ℓ) (g : Dev Cert.KernelWQIdeal.nD → PrngReg), Pre_KernelWQIdeal m →
    θ_run (Cert.KernelWQIdeal.defs (F := Ideal)) (onTc (τ := Cert.KernelWQIdeal.τ) (Cert.KernelWQIdeal.main (F := Ideal))) ⟨m, fun _ => 0, g⟩ (fun r => (∀ c : Dev Cert.KernelWQIdeal.nD,
      r.2.mem ((c.tc : Thread Cert.KernelWQIdeal.nD Cert.KernelWQIdeal.τ).loc Cert.KernelWQIdeal.main_arg0) = m ((c.tc : Thread Cert.KernelWQIdeal.nD Cert.KernelWQIdeal.τ).loc Cert.KernelWQIdeal.main_arg0)
      ∧ r.2.mem ((c.tc : Thread Cert.KernelWQIdeal.nD Cert.KernelWQIdeal.τ).loc Cert.KernelWQIdeal.main_arg1) = m ((c.tc : Thread Cert.KernelWQIdeal.nD Cert.KernelWQIdeal.τ).loc Cert.KernelWQIdeal.main_arg1))
      ∧ r.2.sem = fun _ => 0)

def quiescent_ReferenceWQIdeal [hReferenceWQIdeal : Cert.ReferenceWQIdeal.Facts] : Prop :=
  ∀ (m : (ℓ : Loc Cert.ReferenceWQIdeal.nD Cert.ReferenceWQIdeal.τ Cert.ReferenceWQIdeal.sig) → Buf (Elt Ideal) ℓ) (g : Dev Cert.ReferenceWQIdeal.nD → PrngReg), Pre_ReferenceWQIdeal m →
    θ_run (Cert.ReferenceWQIdeal.defs (F := Ideal)) (onTc (τ := Cert.ReferenceWQIdeal.τ) (Cert.ReferenceWQIdeal.main (F := Ideal))) ⟨m, fun _ => 0, g⟩ (fun r => (∀ c : Dev Cert.ReferenceWQIdeal.nD,
      r.2.mem ((c.tc : Thread Cert.ReferenceWQIdeal.nD Cert.ReferenceWQIdeal.τ).loc Cert.ReferenceWQIdeal.main_arg0) = m ((c.tc : Thread Cert.ReferenceWQIdeal.nD Cert.ReferenceWQIdeal.τ).loc Cert.ReferenceWQIdeal.main_arg0)
      ∧ r.2.mem ((c.tc : Thread Cert.ReferenceWQIdeal.nD Cert.ReferenceWQIdeal.τ).loc Cert.ReferenceWQIdeal.main_arg1) = m ((c.tc : Thread Cert.ReferenceWQIdeal.nD Cert.ReferenceWQIdeal.τ).loc Cert.ReferenceWQIdeal.main_arg1))
      ∧ r.2.sem = fun _ => 0)

def quiescent_KernelHQ [hKernelHQ : Cert.KernelHQ.Facts] : Prop :=
  ∀ (m : (ℓ : Loc Cert.KernelHQ.nD Cert.KernelHQ.τ Cert.KernelHQ.sig) → Buf (Elt Bits) ℓ) (g : Dev Cert.KernelHQ.nD → PrngReg), Pre_KernelHQ m →
    θ_run (Cert.KernelHQ.defs (F := Bits)) (onTc (τ := Cert.KernelHQ.τ) (Cert.KernelHQ.main (F := Bits))) ⟨m, fun _ => 0, g⟩ (fun r => (∀ c : Dev Cert.KernelHQ.nD,
      r.2.mem ((c.tc : Thread Cert.KernelHQ.nD Cert.KernelHQ.τ).loc Cert.KernelHQ.main_arg0) = m ((c.tc : Thread Cert.KernelHQ.nD Cert.KernelHQ.τ).loc Cert.KernelHQ.main_arg0)
      ∧ r.2.mem ((c.tc : Thread Cert.KernelHQ.nD Cert.KernelHQ.τ).loc Cert.KernelHQ.main_arg1) = m ((c.tc : Thread Cert.KernelHQ.nD Cert.KernelHQ.τ).loc Cert.KernelHQ.main_arg1)
      ∧ r.2.mem ((c.tc : Thread Cert.KernelHQ.nD Cert.KernelHQ.τ).loc Cert.KernelHQ.main_arg2) = m ((c.tc : Thread Cert.KernelHQ.nD Cert.KernelHQ.τ).loc Cert.KernelHQ.main_arg2)
      ∧ r.2.mem ((c.tc : Thread Cert.KernelHQ.nD Cert.KernelHQ.τ).loc Cert.KernelHQ.main_arg3) = m ((c.tc : Thread Cert.KernelHQ.nD Cert.KernelHQ.τ).loc Cert.KernelHQ.main_arg3)
      ∧ r.2.mem ((c.tc : Thread Cert.KernelHQ.nD Cert.KernelHQ.τ).loc Cert.KernelHQ.main_arg4) = m ((c.tc : Thread Cert.KernelHQ.nD Cert.KernelHQ.τ).loc Cert.KernelHQ.main_arg4))
      ∧ r.2.sem = fun _ => 0)

def quiescent_KernelHQIdeal [hKernelHQIdeal : Cert.KernelHQIdeal.Facts] : Prop :=
  ∀ (m : (ℓ : Loc Cert.KernelHQIdeal.nD Cert.KernelHQIdeal.τ Cert.KernelHQIdeal.sig) → Buf (Elt Ideal) ℓ) (g : Dev Cert.KernelHQIdeal.nD → PrngReg), Pre_KernelHQIdeal m →
    θ_run (Cert.KernelHQIdeal.defs (F := Ideal)) (onTc (τ := Cert.KernelHQIdeal.τ) (Cert.KernelHQIdeal.main (F := Ideal))) ⟨m, fun _ => 0, g⟩ (fun r => (∀ c : Dev Cert.KernelHQIdeal.nD,
      r.2.mem ((c.tc : Thread Cert.KernelHQIdeal.nD Cert.KernelHQIdeal.τ).loc Cert.KernelHQIdeal.main_arg0) = m ((c.tc : Thread Cert.KernelHQIdeal.nD Cert.KernelHQIdeal.τ).loc Cert.KernelHQIdeal.main_arg0)
      ∧ r.2.mem ((c.tc : Thread Cert.KernelHQIdeal.nD Cert.KernelHQIdeal.τ).loc Cert.KernelHQIdeal.main_arg1) = m ((c.tc : Thread Cert.KernelHQIdeal.nD Cert.KernelHQIdeal.τ).loc Cert.KernelHQIdeal.main_arg1)
      ∧ r.2.mem ((c.tc : Thread Cert.KernelHQIdeal.nD Cert.KernelHQIdeal.τ).loc Cert.KernelHQIdeal.main_arg2) = m ((c.tc : Thread Cert.KernelHQIdeal.nD Cert.KernelHQIdeal.τ).loc Cert.KernelHQIdeal.main_arg2)
      ∧ r.2.mem ((c.tc : Thread Cert.KernelHQIdeal.nD Cert.KernelHQIdeal.τ).loc Cert.KernelHQIdeal.main_arg3) = m ((c.tc : Thread Cert.KernelHQIdeal.nD Cert.KernelHQIdeal.τ).loc Cert.KernelHQIdeal.main_arg3)
      ∧ r.2.mem ((c.tc : Thread Cert.KernelHQIdeal.nD Cert.KernelHQIdeal.τ).loc Cert.KernelHQIdeal.main_arg4) = m ((c.tc : Thread Cert.KernelHQIdeal.nD Cert.KernelHQIdeal.τ).loc Cert.KernelHQIdeal.main_arg4))
      ∧ r.2.sem = fun _ => 0)

def quiescent_KernelHQIdeal_pre_finite_hq [hKernelHQIdeal : Cert.KernelHQIdeal.Facts] [hPre_finite_hq : Cert.Pre_finite_hq.Facts] : Prop :=
  ∀ (m : (ℓ : Loc Cert.KernelHQIdeal.nD Cert.KernelHQIdeal.τ Cert.KernelHQIdeal.sig) → Buf (Elt Ideal) ℓ) (g : Dev Cert.KernelHQIdeal.nD → PrngReg), Pre_KernelHQIdeal_finite_hq m →
    θ_run (Cert.KernelHQIdeal.defs (F := Ideal)) (onTc (τ := Cert.KernelHQIdeal.τ) (Cert.KernelHQIdeal.main (F := Ideal))) ⟨m, fun _ => 0, g⟩ (fun r => (∀ c : Dev Cert.KernelHQIdeal.nD,
      r.2.mem ((c.tc : Thread Cert.KernelHQIdeal.nD Cert.KernelHQIdeal.τ).loc Cert.KernelHQIdeal.main_arg0) = m ((c.tc : Thread Cert.KernelHQIdeal.nD Cert.KernelHQIdeal.τ).loc Cert.KernelHQIdeal.main_arg0)
      ∧ r.2.mem ((c.tc : Thread Cert.KernelHQIdeal.nD Cert.KernelHQIdeal.τ).loc Cert.KernelHQIdeal.main_arg1) = m ((c.tc : Thread Cert.KernelHQIdeal.nD Cert.KernelHQIdeal.τ).loc Cert.KernelHQIdeal.main_arg1)
      ∧ r.2.mem ((c.tc : Thread Cert.KernelHQIdeal.nD Cert.KernelHQIdeal.τ).loc Cert.KernelHQIdeal.main_arg2) = m ((c.tc : Thread Cert.KernelHQIdeal.nD Cert.KernelHQIdeal.τ).loc Cert.KernelHQIdeal.main_arg2)
      ∧ r.2.mem ((c.tc : Thread Cert.KernelHQIdeal.nD Cert.KernelHQIdeal.τ).loc Cert.KernelHQIdeal.main_arg3) = m ((c.tc : Thread Cert.KernelHQIdeal.nD Cert.KernelHQIdeal.τ).loc Cert.KernelHQIdeal.main_arg3)
      ∧ r.2.mem ((c.tc : Thread Cert.KernelHQIdeal.nD Cert.KernelHQIdeal.τ).loc Cert.KernelHQIdeal.main_arg4) = m ((c.tc : Thread Cert.KernelHQIdeal.nD Cert.KernelHQIdeal.τ).loc Cert.KernelHQIdeal.main_arg4))
      ∧ r.2.sem = fun _ => 0)

def quiescent_ReferenceHQIdeal [hReferenceHQIdeal : Cert.ReferenceHQIdeal.Facts] : Prop :=
  ∀ (m : (ℓ : Loc Cert.ReferenceHQIdeal.nD Cert.ReferenceHQIdeal.τ Cert.ReferenceHQIdeal.sig) → Buf (Elt Ideal) ℓ) (g : Dev Cert.ReferenceHQIdeal.nD → PrngReg), Pre_ReferenceHQIdeal m →
    θ_run (Cert.ReferenceHQIdeal.defs (F := Ideal)) (onTc (τ := Cert.ReferenceHQIdeal.τ) (Cert.ReferenceHQIdeal.main (F := Ideal))) ⟨m, fun _ => 0, g⟩ (fun r => (∀ c : Dev Cert.ReferenceHQIdeal.nD,
      r.2.mem ((c.tc : Thread Cert.ReferenceHQIdeal.nD Cert.ReferenceHQIdeal.τ).loc Cert.ReferenceHQIdeal.main_arg0) = m ((c.tc : Thread Cert.ReferenceHQIdeal.nD Cert.ReferenceHQIdeal.τ).loc Cert.ReferenceHQIdeal.main_arg0)
      ∧ r.2.mem ((c.tc : Thread Cert.ReferenceHQIdeal.nD Cert.ReferenceHQIdeal.τ).loc Cert.ReferenceHQIdeal.main_arg1) = m ((c.tc : Thread Cert.ReferenceHQIdeal.nD Cert.ReferenceHQIdeal.τ).loc Cert.ReferenceHQIdeal.main_arg1)
      ∧ r.2.mem ((c.tc : Thread Cert.ReferenceHQIdeal.nD Cert.ReferenceHQIdeal.τ).loc Cert.ReferenceHQIdeal.main_arg2) = m ((c.tc : Thread Cert.ReferenceHQIdeal.nD Cert.ReferenceHQIdeal.τ).loc Cert.ReferenceHQIdeal.main_arg2)
      ∧ r.2.mem ((c.tc : Thread Cert.ReferenceHQIdeal.nD Cert.ReferenceHQIdeal.τ).loc Cert.ReferenceHQIdeal.main_arg3) = m ((c.tc : Thread Cert.ReferenceHQIdeal.nD Cert.ReferenceHQIdeal.τ).loc Cert.ReferenceHQIdeal.main_arg3)
      ∧ r.2.mem ((c.tc : Thread Cert.ReferenceHQIdeal.nD Cert.ReferenceHQIdeal.τ).loc Cert.ReferenceHQIdeal.main_arg4) = m ((c.tc : Thread Cert.ReferenceHQIdeal.nD Cert.ReferenceHQIdeal.τ).loc Cert.ReferenceHQIdeal.main_arg4))
      ∧ r.2.sem = fun _ => 0)

def quiescent_ReferenceHQIdeal_pre_finite_hq [hReferenceHQIdeal : Cert.ReferenceHQIdeal.Facts] [hPre_finite_hq : Cert.Pre_finite_hq.Facts] : Prop :=
  ∀ (m : (ℓ : Loc Cert.ReferenceHQIdeal.nD Cert.ReferenceHQIdeal.τ Cert.ReferenceHQIdeal.sig) → Buf (Elt Ideal) ℓ) (g : Dev Cert.ReferenceHQIdeal.nD → PrngReg), Pre_ReferenceHQIdeal_finite_hq m →
    θ_run (Cert.ReferenceHQIdeal.defs (F := Ideal)) (onTc (τ := Cert.ReferenceHQIdeal.τ) (Cert.ReferenceHQIdeal.main (F := Ideal))) ⟨m, fun _ => 0, g⟩ (fun r => (∀ c : Dev Cert.ReferenceHQIdeal.nD,
      r.2.mem ((c.tc : Thread Cert.ReferenceHQIdeal.nD Cert.ReferenceHQIdeal.τ).loc Cert.ReferenceHQIdeal.main_arg0) = m ((c.tc : Thread Cert.ReferenceHQIdeal.nD Cert.ReferenceHQIdeal.τ).loc Cert.ReferenceHQIdeal.main_arg0)
      ∧ r.2.mem ((c.tc : Thread Cert.ReferenceHQIdeal.nD Cert.ReferenceHQIdeal.τ).loc Cert.ReferenceHQIdeal.main_arg1) = m ((c.tc : Thread Cert.ReferenceHQIdeal.nD Cert.ReferenceHQIdeal.τ).loc Cert.ReferenceHQIdeal.main_arg1)
      ∧ r.2.mem ((c.tc : Thread Cert.ReferenceHQIdeal.nD Cert.ReferenceHQIdeal.τ).loc Cert.ReferenceHQIdeal.main_arg2) = m ((c.tc : Thread Cert.ReferenceHQIdeal.nD Cert.ReferenceHQIdeal.τ).loc Cert.ReferenceHQIdeal.main_arg2)
      ∧ r.2.mem ((c.tc : Thread Cert.ReferenceHQIdeal.nD Cert.ReferenceHQIdeal.τ).loc Cert.ReferenceHQIdeal.main_arg3) = m ((c.tc : Thread Cert.ReferenceHQIdeal.nD Cert.ReferenceHQIdeal.τ).loc Cert.ReferenceHQIdeal.main_arg3)
      ∧ r.2.mem ((c.tc : Thread Cert.ReferenceHQIdeal.nD Cert.ReferenceHQIdeal.τ).loc Cert.ReferenceHQIdeal.main_arg4) = m ((c.tc : Thread Cert.ReferenceHQIdeal.nD Cert.ReferenceHQIdeal.τ).loc Cert.ReferenceHQIdeal.main_arg4))
      ∧ r.2.sem = fun _ => 0)

def quiescent_KernelHZ [hKernelHZ : Cert.KernelHZ.Facts] : Prop :=
  ∀ (m : (ℓ : Loc Cert.KernelHZ.nD Cert.KernelHZ.τ Cert.KernelHZ.sig) → Buf (Elt Bits) ℓ) (g : Dev Cert.KernelHZ.nD → PrngReg), Pre_KernelHZ m →
    θ_run (Cert.KernelHZ.defs (F := Bits)) (onTc (τ := Cert.KernelHZ.τ) (Cert.KernelHZ.main (F := Bits))) ⟨m, fun _ => 0, g⟩ (fun r => (∀ c : Dev Cert.KernelHZ.nD,
      r.2.mem ((c.tc : Thread Cert.KernelHZ.nD Cert.KernelHZ.τ).loc Cert.KernelHZ.main_arg0) = m ((c.tc : Thread Cert.KernelHZ.nD Cert.KernelHZ.τ).loc Cert.KernelHZ.main_arg0)
      ∧ r.2.mem ((c.tc : Thread Cert.KernelHZ.nD Cert.KernelHZ.τ).loc Cert.KernelHZ.main_arg1) = m ((c.tc : Thread Cert.KernelHZ.nD Cert.KernelHZ.τ).loc Cert.KernelHZ.main_arg1)
      ∧ r.2.mem ((c.tc : Thread Cert.KernelHZ.nD Cert.KernelHZ.τ).loc Cert.KernelHZ.main_arg2) = m ((c.tc : Thread Cert.KernelHZ.nD Cert.KernelHZ.τ).loc Cert.KernelHZ.main_arg2)
      ∧ r.2.mem ((c.tc : Thread Cert.KernelHZ.nD Cert.KernelHZ.τ).loc Cert.KernelHZ.main_arg3) = m ((c.tc : Thread Cert.KernelHZ.nD Cert.KernelHZ.τ).loc Cert.KernelHZ.main_arg3)
      ∧ r.2.mem ((c.tc : Thread Cert.KernelHZ.nD Cert.KernelHZ.τ).loc Cert.KernelHZ.main_arg4) = m ((c.tc : Thread Cert.KernelHZ.nD Cert.KernelHZ.τ).loc Cert.KernelHZ.main_arg4))
      ∧ r.2.sem = fun _ => 0)

def quiescent_KernelHZIdeal [hKernelHZIdeal : Cert.KernelHZIdeal.Facts] : Prop :=
  ∀ (m : (ℓ : Loc Cert.KernelHZIdeal.nD Cert.KernelHZIdeal.τ Cert.KernelHZIdeal.sig) → Buf (Elt Ideal) ℓ) (g : Dev Cert.KernelHZIdeal.nD → PrngReg), Pre_KernelHZIdeal m →
    θ_run (Cert.KernelHZIdeal.defs (F := Ideal)) (onTc (τ := Cert.KernelHZIdeal.τ) (Cert.KernelHZIdeal.main (F := Ideal))) ⟨m, fun _ => 0, g⟩ (fun r => (∀ c : Dev Cert.KernelHZIdeal.nD,
      r.2.mem ((c.tc : Thread Cert.KernelHZIdeal.nD Cert.KernelHZIdeal.τ).loc Cert.KernelHZIdeal.main_arg0) = m ((c.tc : Thread Cert.KernelHZIdeal.nD Cert.KernelHZIdeal.τ).loc Cert.KernelHZIdeal.main_arg0)
      ∧ r.2.mem ((c.tc : Thread Cert.KernelHZIdeal.nD Cert.KernelHZIdeal.τ).loc Cert.KernelHZIdeal.main_arg1) = m ((c.tc : Thread Cert.KernelHZIdeal.nD Cert.KernelHZIdeal.τ).loc Cert.KernelHZIdeal.main_arg1)
      ∧ r.2.mem ((c.tc : Thread Cert.KernelHZIdeal.nD Cert.KernelHZIdeal.τ).loc Cert.KernelHZIdeal.main_arg2) = m ((c.tc : Thread Cert.KernelHZIdeal.nD Cert.KernelHZIdeal.τ).loc Cert.KernelHZIdeal.main_arg2)
      ∧ r.2.mem ((c.tc : Thread Cert.KernelHZIdeal.nD Cert.KernelHZIdeal.τ).loc Cert.KernelHZIdeal.main_arg3) = m ((c.tc : Thread Cert.KernelHZIdeal.nD Cert.KernelHZIdeal.τ).loc Cert.KernelHZIdeal.main_arg3)
      ∧ r.2.mem ((c.tc : Thread Cert.KernelHZIdeal.nD Cert.KernelHZIdeal.τ).loc Cert.KernelHZIdeal.main_arg4) = m ((c.tc : Thread Cert.KernelHZIdeal.nD Cert.KernelHZIdeal.τ).loc Cert.KernelHZIdeal.main_arg4))
      ∧ r.2.sem = fun _ => 0)

def quiescent_KernelHZIdeal_pre_finite_hz [hKernelHZIdeal : Cert.KernelHZIdeal.Facts] [hPre_finite_hz : Cert.Pre_finite_hz.Facts] : Prop :=
  ∀ (m : (ℓ : Loc Cert.KernelHZIdeal.nD Cert.KernelHZIdeal.τ Cert.KernelHZIdeal.sig) → Buf (Elt Ideal) ℓ) (g : Dev Cert.KernelHZIdeal.nD → PrngReg), Pre_KernelHZIdeal_finite_hz m →
    θ_run (Cert.KernelHZIdeal.defs (F := Ideal)) (onTc (τ := Cert.KernelHZIdeal.τ) (Cert.KernelHZIdeal.main (F := Ideal))) ⟨m, fun _ => 0, g⟩ (fun r => (∀ c : Dev Cert.KernelHZIdeal.nD,
      r.2.mem ((c.tc : Thread Cert.KernelHZIdeal.nD Cert.KernelHZIdeal.τ).loc Cert.KernelHZIdeal.main_arg0) = m ((c.tc : Thread Cert.KernelHZIdeal.nD Cert.KernelHZIdeal.τ).loc Cert.KernelHZIdeal.main_arg0)
      ∧ r.2.mem ((c.tc : Thread Cert.KernelHZIdeal.nD Cert.KernelHZIdeal.τ).loc Cert.KernelHZIdeal.main_arg1) = m ((c.tc : Thread Cert.KernelHZIdeal.nD Cert.KernelHZIdeal.τ).loc Cert.KernelHZIdeal.main_arg1)
      ∧ r.2.mem ((c.tc : Thread Cert.KernelHZIdeal.nD Cert.KernelHZIdeal.τ).loc Cert.KernelHZIdeal.main_arg2) = m ((c.tc : Thread Cert.KernelHZIdeal.nD Cert.KernelHZIdeal.τ).loc Cert.KernelHZIdeal.main_arg2)
      ∧ r.2.mem ((c.tc : Thread Cert.KernelHZIdeal.nD Cert.KernelHZIdeal.τ).loc Cert.KernelHZIdeal.main_arg3) = m ((c.tc : Thread Cert.KernelHZIdeal.nD Cert.KernelHZIdeal.τ).loc Cert.KernelHZIdeal.main_arg3)
      ∧ r.2.mem ((c.tc : Thread Cert.KernelHZIdeal.nD Cert.KernelHZIdeal.τ).loc Cert.KernelHZIdeal.main_arg4) = m ((c.tc : Thread Cert.KernelHZIdeal.nD Cert.KernelHZIdeal.τ).loc Cert.KernelHZIdeal.main_arg4))
      ∧ r.2.sem = fun _ => 0)

def quiescent_ReferenceHZIdeal [hReferenceHZIdeal : Cert.ReferenceHZIdeal.Facts] : Prop :=
  ∀ (m : (ℓ : Loc Cert.ReferenceHZIdeal.nD Cert.ReferenceHZIdeal.τ Cert.ReferenceHZIdeal.sig) → Buf (Elt Ideal) ℓ) (g : Dev Cert.ReferenceHZIdeal.nD → PrngReg), Pre_ReferenceHZIdeal m →
    θ_run (Cert.ReferenceHZIdeal.defs (F := Ideal)) (onTc (τ := Cert.ReferenceHZIdeal.τ) (Cert.ReferenceHZIdeal.main (F := Ideal))) ⟨m, fun _ => 0, g⟩ (fun r => (∀ c : Dev Cert.ReferenceHZIdeal.nD,
      r.2.mem ((c.tc : Thread Cert.ReferenceHZIdeal.nD Cert.ReferenceHZIdeal.τ).loc Cert.ReferenceHZIdeal.main_arg0) = m ((c.tc : Thread Cert.ReferenceHZIdeal.nD Cert.ReferenceHZIdeal.τ).loc Cert.ReferenceHZIdeal.main_arg0)
      ∧ r.2.mem ((c.tc : Thread Cert.ReferenceHZIdeal.nD Cert.ReferenceHZIdeal.τ).loc Cert.ReferenceHZIdeal.main_arg1) = m ((c.tc : Thread Cert.ReferenceHZIdeal.nD Cert.ReferenceHZIdeal.τ).loc Cert.ReferenceHZIdeal.main_arg1)
      ∧ r.2.mem ((c.tc : Thread Cert.ReferenceHZIdeal.nD Cert.ReferenceHZIdeal.τ).loc Cert.ReferenceHZIdeal.main_arg2) = m ((c.tc : Thread Cert.ReferenceHZIdeal.nD Cert.ReferenceHZIdeal.τ).loc Cert.ReferenceHZIdeal.main_arg2)
      ∧ r.2.mem ((c.tc : Thread Cert.ReferenceHZIdeal.nD Cert.ReferenceHZIdeal.τ).loc Cert.ReferenceHZIdeal.main_arg3) = m ((c.tc : Thread Cert.ReferenceHZIdeal.nD Cert.ReferenceHZIdeal.τ).loc Cert.ReferenceHZIdeal.main_arg3)
      ∧ r.2.mem ((c.tc : Thread Cert.ReferenceHZIdeal.nD Cert.ReferenceHZIdeal.τ).loc Cert.ReferenceHZIdeal.main_arg4) = m ((c.tc : Thread Cert.ReferenceHZIdeal.nD Cert.ReferenceHZIdeal.τ).loc Cert.ReferenceHZIdeal.main_arg4))
      ∧ r.2.sem = fun _ => 0)

def quiescent_ReferenceHZIdeal_pre_finite_hz [hReferenceHZIdeal : Cert.ReferenceHZIdeal.Facts] [hPre_finite_hz : Cert.Pre_finite_hz.Facts] : Prop :=
  ∀ (m : (ℓ : Loc Cert.ReferenceHZIdeal.nD Cert.ReferenceHZIdeal.τ Cert.ReferenceHZIdeal.sig) → Buf (Elt Ideal) ℓ) (g : Dev Cert.ReferenceHZIdeal.nD → PrngReg), Pre_ReferenceHZIdeal_finite_hz m →
    θ_run (Cert.ReferenceHZIdeal.defs (F := Ideal)) (onTc (τ := Cert.ReferenceHZIdeal.τ) (Cert.ReferenceHZIdeal.main (F := Ideal))) ⟨m, fun _ => 0, g⟩ (fun r => (∀ c : Dev Cert.ReferenceHZIdeal.nD,
      r.2.mem ((c.tc : Thread Cert.ReferenceHZIdeal.nD Cert.ReferenceHZIdeal.τ).loc Cert.ReferenceHZIdeal.main_arg0) = m ((c.tc : Thread Cert.ReferenceHZIdeal.nD Cert.ReferenceHZIdeal.τ).loc Cert.ReferenceHZIdeal.main_arg0)
      ∧ r.2.mem ((c.tc : Thread Cert.ReferenceHZIdeal.nD Cert.ReferenceHZIdeal.τ).loc Cert.ReferenceHZIdeal.main_arg1) = m ((c.tc : Thread Cert.ReferenceHZIdeal.nD Cert.ReferenceHZIdeal.τ).loc Cert.ReferenceHZIdeal.main_arg1)
      ∧ r.2.mem ((c.tc : Thread Cert.ReferenceHZIdeal.nD Cert.ReferenceHZIdeal.τ).loc Cert.ReferenceHZIdeal.main_arg2) = m ((c.tc : Thread Cert.ReferenceHZIdeal.nD Cert.ReferenceHZIdeal.τ).loc Cert.ReferenceHZIdeal.main_arg2)
      ∧ r.2.mem ((c.tc : Thread Cert.ReferenceHZIdeal.nD Cert.ReferenceHZIdeal.τ).loc Cert.ReferenceHZIdeal.main_arg3) = m ((c.tc : Thread Cert.ReferenceHZIdeal.nD Cert.ReferenceHZIdeal.τ).loc Cert.ReferenceHZIdeal.main_arg3)
      ∧ r.2.mem ((c.tc : Thread Cert.ReferenceHZIdeal.nD Cert.ReferenceHZIdeal.τ).loc Cert.ReferenceHZIdeal.main_arg4) = m ((c.tc : Thread Cert.ReferenceHZIdeal.nD Cert.ReferenceHZIdeal.τ).loc Cert.ReferenceHZIdeal.main_arg4))
      ∧ r.2.sem = fun _ => 0)

def quiescent_KernelXQ [hKernelXQ : Cert.KernelXQ.Facts] : Prop :=
  ∀ (m : (ℓ : Loc Cert.KernelXQ.nD Cert.KernelXQ.τ Cert.KernelXQ.sig) → Buf (Elt Bits) ℓ) (g : Dev Cert.KernelXQ.nD → PrngReg), Pre_KernelXQ m →
    θ_run (Cert.KernelXQ.defs (F := Bits)) (onTc (τ := Cert.KernelXQ.τ) (Cert.KernelXQ.main (F := Bits))) ⟨m, fun _ => 0, g⟩ (fun r => (∀ c : Dev Cert.KernelXQ.nD,
      r.2.mem ((c.tc : Thread Cert.KernelXQ.nD Cert.KernelXQ.τ).loc Cert.KernelXQ.main_arg0) = m ((c.tc : Thread Cert.KernelXQ.nD Cert.KernelXQ.τ).loc Cert.KernelXQ.main_arg0)
      ∧ r.2.mem ((c.tc : Thread Cert.KernelXQ.nD Cert.KernelXQ.τ).loc Cert.KernelXQ.main_arg1) = m ((c.tc : Thread Cert.KernelXQ.nD Cert.KernelXQ.τ).loc Cert.KernelXQ.main_arg1))
      ∧ r.2.sem = fun _ => 0)

def quiescent_KernelXQIdeal [hKernelXQIdeal : Cert.KernelXQIdeal.Facts] : Prop :=
  ∀ (m : (ℓ : Loc Cert.KernelXQIdeal.nD Cert.KernelXQIdeal.τ Cert.KernelXQIdeal.sig) → Buf (Elt Ideal) ℓ) (g : Dev Cert.KernelXQIdeal.nD → PrngReg), Pre_KernelXQIdeal m →
    θ_run (Cert.KernelXQIdeal.defs (F := Ideal)) (onTc (τ := Cert.KernelXQIdeal.τ) (Cert.KernelXQIdeal.main (F := Ideal))) ⟨m, fun _ => 0, g⟩ (fun r => (∀ c : Dev Cert.KernelXQIdeal.nD,
      r.2.mem ((c.tc : Thread Cert.KernelXQIdeal.nD Cert.KernelXQIdeal.τ).loc Cert.KernelXQIdeal.main_arg0) = m ((c.tc : Thread Cert.KernelXQIdeal.nD Cert.KernelXQIdeal.τ).loc Cert.KernelXQIdeal.main_arg0)
      ∧ r.2.mem ((c.tc : Thread Cert.KernelXQIdeal.nD Cert.KernelXQIdeal.τ).loc Cert.KernelXQIdeal.main_arg1) = m ((c.tc : Thread Cert.KernelXQIdeal.nD Cert.KernelXQIdeal.τ).loc Cert.KernelXQIdeal.main_arg1))
      ∧ r.2.sem = fun _ => 0)

def quiescent_ReferenceXQIdeal [hReferenceXQIdeal : Cert.ReferenceXQIdeal.Facts] : Prop :=
  ∀ (m : (ℓ : Loc Cert.ReferenceXQIdeal.nD Cert.ReferenceXQIdeal.τ Cert.ReferenceXQIdeal.sig) → Buf (Elt Ideal) ℓ) (g : Dev Cert.ReferenceXQIdeal.nD → PrngReg), Pre_ReferenceXQIdeal m →
    θ_run (Cert.ReferenceXQIdeal.defs (F := Ideal)) (onTc (τ := Cert.ReferenceXQIdeal.τ) (Cert.ReferenceXQIdeal.main (F := Ideal))) ⟨m, fun _ => 0, g⟩ (fun r => (∀ c : Dev Cert.ReferenceXQIdeal.nD,
      r.2.mem ((c.tc : Thread Cert.ReferenceXQIdeal.nD Cert.ReferenceXQIdeal.τ).loc Cert.ReferenceXQIdeal.main_arg0) = m ((c.tc : Thread Cert.ReferenceXQIdeal.nD Cert.ReferenceXQIdeal.τ).loc Cert.ReferenceXQIdeal.main_arg0)
      ∧ r.2.mem ((c.tc : Thread Cert.ReferenceXQIdeal.nD Cert.ReferenceXQIdeal.τ).loc Cert.ReferenceXQIdeal.main_arg1) = m ((c.tc : Thread Cert.ReferenceXQIdeal.nD Cert.ReferenceXQIdeal.τ).loc Cert.ReferenceXQIdeal.main_arg1))
      ∧ r.2.sem = fun _ => 0)

def quiescent_KernelQK [hKernelQK : Cert.KernelQK.Facts] : Prop :=
  ∀ (m : (ℓ : Loc Cert.KernelQK.nD Cert.KernelQK.τ Cert.KernelQK.sig) → Buf (Elt Bits) ℓ) (g : Dev Cert.KernelQK.nD → PrngReg), Pre_KernelQK m →
    θ_run (Cert.KernelQK.defs (F := Bits)) (onTc (τ := Cert.KernelQK.τ) (Cert.KernelQK.main (F := Bits))) ⟨m, fun _ => 0, g⟩ (fun r => (∀ c : Dev Cert.KernelQK.nD,
      r.2.mem ((c.tc : Thread Cert.KernelQK.nD Cert.KernelQK.τ).loc Cert.KernelQK.main_arg0) = m ((c.tc : Thread Cert.KernelQK.nD Cert.KernelQK.τ).loc Cert.KernelQK.main_arg0)
      ∧ r.2.mem ((c.tc : Thread Cert.KernelQK.nD Cert.KernelQK.τ).loc Cert.KernelQK.main_arg1) = m ((c.tc : Thread Cert.KernelQK.nD Cert.KernelQK.τ).loc Cert.KernelQK.main_arg1))
      ∧ r.2.sem = fun _ => 0)

def quiescent_KernelQKIdeal [hKernelQKIdeal : Cert.KernelQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg), Pre_KernelQKIdeal m →
    θ_run (Cert.KernelQKIdeal.defs (F := Ideal)) (onTc (τ := Cert.KernelQKIdeal.τ) (Cert.KernelQKIdeal.main (F := Ideal))) ⟨m, fun _ => 0, g⟩ (fun r => (∀ c : Dev Cert.KernelQKIdeal.nD,
      r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
      ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1))
      ∧ r.2.sem = fun _ => 0)

def quiescent_ReferenceQKIdeal [hReferenceQKIdeal : Cert.ReferenceQKIdeal.Facts] : Prop :=
  ∀ (m : (ℓ : Loc Cert.ReferenceQKIdeal.nD Cert.ReferenceQKIdeal.τ Cert.ReferenceQKIdeal.sig) → Buf (Elt Ideal) ℓ) (g : Dev Cert.ReferenceQKIdeal.nD → PrngReg), Pre_ReferenceQKIdeal m →
    θ_run (Cert.ReferenceQKIdeal.defs (F := Ideal)) (onTc (τ := Cert.ReferenceQKIdeal.τ) (Cert.ReferenceQKIdeal.main (F := Ideal))) ⟨m, fun _ => 0, g⟩ (fun r => (∀ c : Dev Cert.ReferenceQKIdeal.nD,
      r.2.mem ((c.tc : Thread Cert.ReferenceQKIdeal.nD Cert.ReferenceQKIdeal.τ).loc Cert.ReferenceQKIdeal.main_arg0) = m ((c.tc : Thread Cert.ReferenceQKIdeal.nD Cert.ReferenceQKIdeal.τ).loc Cert.ReferenceQKIdeal.main_arg0)
      ∧ r.2.mem ((c.tc : Thread Cert.ReferenceQKIdeal.nD Cert.ReferenceQKIdeal.τ).loc Cert.ReferenceQKIdeal.main_arg1) = m ((c.tc : Thread Cert.ReferenceQKIdeal.nD Cert.ReferenceQKIdeal.τ).loc Cert.ReferenceQKIdeal.main_arg1))
      ∧ r.2.sem = fun _ => 0)

def quiescent_KernelXO [hKernelXO : Cert.KernelXO.Facts] : Prop :=
  ∀ (m : (ℓ : Loc Cert.KernelXO.nD Cert.KernelXO.τ Cert.KernelXO.sig) → Buf (Elt Bits) ℓ) (g : Dev Cert.KernelXO.nD → PrngReg), Pre_KernelXO m →
    θ_run (Cert.KernelXO.defs (F := Bits)) (onTc (τ := Cert.KernelXO.τ) (Cert.KernelXO.main (F := Bits))) ⟨m, fun _ => 0, g⟩ (fun r => (∀ c : Dev Cert.KernelXO.nD,
      r.2.mem ((c.tc : Thread Cert.KernelXO.nD Cert.KernelXO.τ).loc Cert.KernelXO.main_arg0) = m ((c.tc : Thread Cert.KernelXO.nD Cert.KernelXO.τ).loc Cert.KernelXO.main_arg0)
      ∧ r.2.mem ((c.tc : Thread Cert.KernelXO.nD Cert.KernelXO.τ).loc Cert.KernelXO.main_arg1) = m ((c.tc : Thread Cert.KernelXO.nD Cert.KernelXO.τ).loc Cert.KernelXO.main_arg1)
      ∧ r.2.mem ((c.tc : Thread Cert.KernelXO.nD Cert.KernelXO.τ).loc Cert.KernelXO.main_arg2) = m ((c.tc : Thread Cert.KernelXO.nD Cert.KernelXO.τ).loc Cert.KernelXO.main_arg2)
      ∧ r.2.mem ((c.tc : Thread Cert.KernelXO.nD Cert.KernelXO.τ).loc Cert.KernelXO.main_arg3) = m ((c.tc : Thread Cert.KernelXO.nD Cert.KernelXO.τ).loc Cert.KernelXO.main_arg3))
      ∧ r.2.sem = fun _ => 0)

def quiescent_KernelXOIdeal [hKernelXOIdeal : Cert.KernelXOIdeal.Facts] : Prop :=
  ∀ (m : (ℓ : Loc Cert.KernelXOIdeal.nD Cert.KernelXOIdeal.τ Cert.KernelXOIdeal.sig) → Buf (Elt Ideal) ℓ) (g : Dev Cert.KernelXOIdeal.nD → PrngReg), Pre_KernelXOIdeal m →
    θ_run (Cert.KernelXOIdeal.defs (F := Ideal)) (onTc (τ := Cert.KernelXOIdeal.τ) (Cert.KernelXOIdeal.main (F := Ideal))) ⟨m, fun _ => 0, g⟩ (fun r => (∀ c : Dev Cert.KernelXOIdeal.nD,
      r.2.mem ((c.tc : Thread Cert.KernelXOIdeal.nD Cert.KernelXOIdeal.τ).loc Cert.KernelXOIdeal.main_arg0) = m ((c.tc : Thread Cert.KernelXOIdeal.nD Cert.KernelXOIdeal.τ).loc Cert.KernelXOIdeal.main_arg0)
      ∧ r.2.mem ((c.tc : Thread Cert.KernelXOIdeal.nD Cert.KernelXOIdeal.τ).loc Cert.KernelXOIdeal.main_arg1) = m ((c.tc : Thread Cert.KernelXOIdeal.nD Cert.KernelXOIdeal.τ).loc Cert.KernelXOIdeal.main_arg1)
      ∧ r.2.mem ((c.tc : Thread Cert.KernelXOIdeal.nD Cert.KernelXOIdeal.τ).loc Cert.KernelXOIdeal.main_arg2) = m ((c.tc : Thread Cert.KernelXOIdeal.nD Cert.KernelXOIdeal.τ).loc Cert.KernelXOIdeal.main_arg2)
      ∧ r.2.mem ((c.tc : Thread Cert.KernelXOIdeal.nD Cert.KernelXOIdeal.τ).loc Cert.KernelXOIdeal.main_arg3) = m ((c.tc : Thread Cert.KernelXOIdeal.nD Cert.KernelXOIdeal.τ).loc Cert.KernelXOIdeal.main_arg3))
      ∧ r.2.sem = fun _ => 0)

def quiescent_ReferenceXOIdeal [hReferenceXOIdeal : Cert.ReferenceXOIdeal.Facts] : Prop :=
  ∀ (m : (ℓ : Loc Cert.ReferenceXOIdeal.nD Cert.ReferenceXOIdeal.τ Cert.ReferenceXOIdeal.sig) → Buf (Elt Ideal) ℓ) (g : Dev Cert.ReferenceXOIdeal.nD → PrngReg), Pre_ReferenceXOIdeal m →
    θ_run (Cert.ReferenceXOIdeal.defs (F := Ideal)) (onTc (τ := Cert.ReferenceXOIdeal.τ) (Cert.ReferenceXOIdeal.main (F := Ideal))) ⟨m, fun _ => 0, g⟩ (fun r => (∀ c : Dev Cert.ReferenceXOIdeal.nD,
      r.2.mem ((c.tc : Thread Cert.ReferenceXOIdeal.nD Cert.ReferenceXOIdeal.τ).loc Cert.ReferenceXOIdeal.main_arg0) = m ((c.tc : Thread Cert.ReferenceXOIdeal.nD Cert.ReferenceXOIdeal.τ).loc Cert.ReferenceXOIdeal.main_arg0)
      ∧ r.2.mem ((c.tc : Thread Cert.ReferenceXOIdeal.nD Cert.ReferenceXOIdeal.τ).loc Cert.ReferenceXOIdeal.main_arg1) = m ((c.tc : Thread Cert.ReferenceXOIdeal.nD Cert.ReferenceXOIdeal.τ).loc Cert.ReferenceXOIdeal.main_arg1)
      ∧ r.2.mem ((c.tc : Thread Cert.ReferenceXOIdeal.nD Cert.ReferenceXOIdeal.τ).loc Cert.ReferenceXOIdeal.main_arg2) = m ((c.tc : Thread Cert.ReferenceXOIdeal.nD Cert.ReferenceXOIdeal.τ).loc Cert.ReferenceXOIdeal.main_arg2)
      ∧ r.2.mem ((c.tc : Thread Cert.ReferenceXOIdeal.nD Cert.ReferenceXOIdeal.τ).loc Cert.ReferenceXOIdeal.main_arg3) = m ((c.tc : Thread Cert.ReferenceXOIdeal.nD Cert.ReferenceXOIdeal.τ).loc Cert.ReferenceXOIdeal.main_arg3))
      ∧ r.2.sem = fun _ => 0)

def quiescent_KernelAO [hKernelAO : Cert.KernelAO.Facts] : Prop :=
  ∀ (m : (ℓ : Loc Cert.KernelAO.nD Cert.KernelAO.τ Cert.KernelAO.sig) → Buf (Elt Bits) ℓ) (g : Dev Cert.KernelAO.nD → PrngReg), Pre_KernelAO m →
    θ_run (Cert.KernelAO.defs (F := Bits)) (onTc (τ := Cert.KernelAO.τ) (Cert.KernelAO.main (F := Bits))) ⟨m, fun _ => 0, g⟩ (fun r => (∀ c : Dev Cert.KernelAO.nD,
      r.2.mem ((c.tc : Thread Cert.KernelAO.nD Cert.KernelAO.τ).loc Cert.KernelAO.main_arg0) = m ((c.tc : Thread Cert.KernelAO.nD Cert.KernelAO.τ).loc Cert.KernelAO.main_arg0)
      ∧ r.2.mem ((c.tc : Thread Cert.KernelAO.nD Cert.KernelAO.τ).loc Cert.KernelAO.main_arg1) = m ((c.tc : Thread Cert.KernelAO.nD Cert.KernelAO.τ).loc Cert.KernelAO.main_arg1)
      ∧ r.2.mem ((c.tc : Thread Cert.KernelAO.nD Cert.KernelAO.τ).loc Cert.KernelAO.main_arg2) = m ((c.tc : Thread Cert.KernelAO.nD Cert.KernelAO.τ).loc Cert.KernelAO.main_arg2)
      ∧ r.2.mem ((c.tc : Thread Cert.KernelAO.nD Cert.KernelAO.τ).loc Cert.KernelAO.main_arg3) = m ((c.tc : Thread Cert.KernelAO.nD Cert.KernelAO.τ).loc Cert.KernelAO.main_arg3))
      ∧ r.2.sem = fun _ => 0)

def quiescent_KernelAOIdeal [hKernelAOIdeal : Cert.KernelAOIdeal.Facts] : Prop :=
  ∀ (m : (ℓ : Loc Cert.KernelAOIdeal.nD Cert.KernelAOIdeal.τ Cert.KernelAOIdeal.sig) → Buf (Elt Ideal) ℓ) (g : Dev Cert.KernelAOIdeal.nD → PrngReg), Pre_KernelAOIdeal m →
    θ_run (Cert.KernelAOIdeal.defs (F := Ideal)) (onTc (τ := Cert.KernelAOIdeal.τ) (Cert.KernelAOIdeal.main (F := Ideal))) ⟨m, fun _ => 0, g⟩ (fun r => (∀ c : Dev Cert.KernelAOIdeal.nD,
      r.2.mem ((c.tc : Thread Cert.KernelAOIdeal.nD Cert.KernelAOIdeal.τ).loc Cert.KernelAOIdeal.main_arg0) = m ((c.tc : Thread Cert.KernelAOIdeal.nD Cert.KernelAOIdeal.τ).loc Cert.KernelAOIdeal.main_arg0)
      ∧ r.2.mem ((c.tc : Thread Cert.KernelAOIdeal.nD Cert.KernelAOIdeal.τ).loc Cert.KernelAOIdeal.main_arg1) = m ((c.tc : Thread Cert.KernelAOIdeal.nD Cert.KernelAOIdeal.τ).loc Cert.KernelAOIdeal.main_arg1)
      ∧ r.2.mem ((c.tc : Thread Cert.KernelAOIdeal.nD Cert.KernelAOIdeal.τ).loc Cert.KernelAOIdeal.main_arg2) = m ((c.tc : Thread Cert.KernelAOIdeal.nD Cert.KernelAOIdeal.τ).loc Cert.KernelAOIdeal.main_arg2)
      ∧ r.2.mem ((c.tc : Thread Cert.KernelAOIdeal.nD Cert.KernelAOIdeal.τ).loc Cert.KernelAOIdeal.main_arg3) = m ((c.tc : Thread Cert.KernelAOIdeal.nD Cert.KernelAOIdeal.τ).loc Cert.KernelAOIdeal.main_arg3))
      ∧ r.2.sem = fun _ => 0)

def quiescent_ReferenceAOIdeal [hReferenceAOIdeal : Cert.ReferenceAOIdeal.Facts] : Prop :=
  ∀ (m : (ℓ : Loc Cert.ReferenceAOIdeal.nD Cert.ReferenceAOIdeal.τ Cert.ReferenceAOIdeal.sig) → Buf (Elt Ideal) ℓ) (g : Dev Cert.ReferenceAOIdeal.nD → PrngReg), Pre_ReferenceAOIdeal m →
    θ_run (Cert.ReferenceAOIdeal.defs (F := Ideal)) (onTc (τ := Cert.ReferenceAOIdeal.τ) (Cert.ReferenceAOIdeal.main (F := Ideal))) ⟨m, fun _ => 0, g⟩ (fun r => (∀ c : Dev Cert.ReferenceAOIdeal.nD,
      r.2.mem ((c.tc : Thread Cert.ReferenceAOIdeal.nD Cert.ReferenceAOIdeal.τ).loc Cert.ReferenceAOIdeal.main_arg0) = m ((c.tc : Thread Cert.ReferenceAOIdeal.nD Cert.ReferenceAOIdeal.τ).loc Cert.ReferenceAOIdeal.main_arg0)
      ∧ r.2.mem ((c.tc : Thread Cert.ReferenceAOIdeal.nD Cert.ReferenceAOIdeal.τ).loc Cert.ReferenceAOIdeal.main_arg1) = m ((c.tc : Thread Cert.ReferenceAOIdeal.nD Cert.ReferenceAOIdeal.τ).loc Cert.ReferenceAOIdeal.main_arg1)
      ∧ r.2.mem ((c.tc : Thread Cert.ReferenceAOIdeal.nD Cert.ReferenceAOIdeal.τ).loc Cert.ReferenceAOIdeal.main_arg2) = m ((c.tc : Thread Cert.ReferenceAOIdeal.nD Cert.ReferenceAOIdeal.τ).loc Cert.ReferenceAOIdeal.main_arg2)
      ∧ r.2.mem ((c.tc : Thread Cert.ReferenceAOIdeal.nD Cert.ReferenceAOIdeal.τ).loc Cert.ReferenceAOIdeal.main_arg3) = m ((c.tc : Thread Cert.ReferenceAOIdeal.nD Cert.ReferenceAOIdeal.τ).loc Cert.ReferenceAOIdeal.main_arg3))
      ∧ r.2.sem = fun _ => 0)

def quiescent_KernelKV [hKernelKV : Cert.KernelKV.Facts] : Prop :=
  ∀ (m : (ℓ : Loc Cert.KernelKV.nD Cert.KernelKV.τ Cert.KernelKV.sig) → Buf (Elt Bits) ℓ) (g : Dev Cert.KernelKV.nD → PrngReg), Pre_KernelKV m →
    θ_run (Cert.KernelKV.defs (F := Bits)) (onTc (τ := Cert.KernelKV.τ) (Cert.KernelKV.main (F := Bits))) ⟨m, fun _ => 0, g⟩ (fun r => (∀ c : Dev Cert.KernelKV.nD,
      r.2.mem ((c.tc : Thread Cert.KernelKV.nD Cert.KernelKV.τ).loc Cert.KernelKV.main_arg0) = m ((c.tc : Thread Cert.KernelKV.nD Cert.KernelKV.τ).loc Cert.KernelKV.main_arg0)
      ∧ r.2.mem ((c.tc : Thread Cert.KernelKV.nD Cert.KernelKV.τ).loc Cert.KernelKV.main_arg1) = m ((c.tc : Thread Cert.KernelKV.nD Cert.KernelKV.τ).loc Cert.KernelKV.main_arg1))
      ∧ r.2.sem = fun _ => 0)

def quiescent_KernelKVIdeal [hKernelKVIdeal : Cert.KernelKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ r.2.sem = fun _ => 0)

def quiescent_ReferenceKVIdeal [hReferenceKVIdeal : Cert.ReferenceKVIdeal.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1))
      ∧ r.2.sem = fun _ => 0)

def quiescent_KernelFF [hKernelFF : Cert.KernelFF.Facts] : Prop :=
  ∀ (m : (ℓ : Loc Cert.KernelFF.nD Cert.KernelFF.τ Cert.KernelFF.sig) → Buf (Elt Bits) ℓ) (g : Dev Cert.KernelFF.nD → PrngReg), Pre_KernelFF m →
    θ_run (Cert.KernelFF.defs (F := Bits)) (onTc (τ := Cert.KernelFF.τ) (Cert.KernelFF.main (F := Bits))) ⟨m, fun _ => 0, g⟩ (fun r => (∀ c : Dev Cert.KernelFF.nD,
      r.2.mem ((c.tc : Thread Cert.KernelFF.nD Cert.KernelFF.τ).loc Cert.KernelFF.main_arg0) = m ((c.tc : Thread Cert.KernelFF.nD Cert.KernelFF.τ).loc Cert.KernelFF.main_arg0)
      ∧ r.2.mem ((c.tc : Thread Cert.KernelFF.nD Cert.KernelFF.τ).loc Cert.KernelFF.main_arg1) = m ((c.tc : Thread Cert.KernelFF.nD Cert.KernelFF.τ).loc Cert.KernelFF.main_arg1)
      ∧ r.2.mem ((c.tc : Thread Cert.KernelFF.nD Cert.KernelFF.τ).loc Cert.KernelFF.main_arg2) = m ((c.tc : Thread Cert.KernelFF.nD Cert.KernelFF.τ).loc Cert.KernelFF.main_arg2))
      ∧ r.2.sem = fun _ => 0)

def quiescent_KernelFFIdeal [hKernelFFIdeal : Cert.KernelFFIdeal.Facts] : Prop :=
  ∀ (m : (ℓ : Loc Cert.KernelFFIdeal.nD Cert.KernelFFIdeal.τ Cert.KernelFFIdeal.sig) → Buf (Elt Ideal) ℓ) (g : Dev Cert.KernelFFIdeal.nD → PrngReg), Pre_KernelFFIdeal m →
    θ_run (Cert.KernelFFIdeal.defs (F := Ideal)) (onTc (τ := Cert.KernelFFIdeal.τ) (Cert.KernelFFIdeal.main (F := Ideal))) ⟨m, fun _ => 0, g⟩ (fun r => (∀ c : Dev Cert.KernelFFIdeal.nD,
      r.2.mem ((c.tc : Thread Cert.KernelFFIdeal.nD Cert.KernelFFIdeal.τ).loc Cert.KernelFFIdeal.main_arg0) = m ((c.tc : Thread Cert.KernelFFIdeal.nD Cert.KernelFFIdeal.τ).loc Cert.KernelFFIdeal.main_arg0)
      ∧ r.2.mem ((c.tc : Thread Cert.KernelFFIdeal.nD Cert.KernelFFIdeal.τ).loc Cert.KernelFFIdeal.main_arg1) = m ((c.tc : Thread Cert.KernelFFIdeal.nD Cert.KernelFFIdeal.τ).loc Cert.KernelFFIdeal.main_arg1)
      ∧ r.2.mem ((c.tc : Thread Cert.KernelFFIdeal.nD Cert.KernelFFIdeal.τ).loc Cert.KernelFFIdeal.main_arg2) = m ((c.tc : Thread Cert.KernelFFIdeal.nD Cert.KernelFFIdeal.τ).loc Cert.KernelFFIdeal.main_arg2))
      ∧ r.2.sem = fun _ => 0)

def quiescent_KernelFFIdeal_pre_finite_ff [hKernelFFIdeal : Cert.KernelFFIdeal.Facts] [hPre_finite_ff : Cert.Pre_finite_ff.Facts] : Prop :=
  ∀ (m : (ℓ : Loc Cert.KernelFFIdeal.nD Cert.KernelFFIdeal.τ Cert.KernelFFIdeal.sig) → Buf (Elt Ideal) ℓ) (g : Dev Cert.KernelFFIdeal.nD → PrngReg), Pre_KernelFFIdeal_finite_ff m →
    θ_run (Cert.KernelFFIdeal.defs (F := Ideal)) (onTc (τ := Cert.KernelFFIdeal.τ) (Cert.KernelFFIdeal.main (F := Ideal))) ⟨m, fun _ => 0, g⟩ (fun r => (∀ c : Dev Cert.KernelFFIdeal.nD,
      r.2.mem ((c.tc : Thread Cert.KernelFFIdeal.nD Cert.KernelFFIdeal.τ).loc Cert.KernelFFIdeal.main_arg0) = m ((c.tc : Thread Cert.KernelFFIdeal.nD Cert.KernelFFIdeal.τ).loc Cert.KernelFFIdeal.main_arg0)
      ∧ r.2.mem ((c.tc : Thread Cert.KernelFFIdeal.nD Cert.KernelFFIdeal.τ).loc Cert.KernelFFIdeal.main_arg1) = m ((c.tc : Thread Cert.KernelFFIdeal.nD Cert.KernelFFIdeal.τ).loc Cert.KernelFFIdeal.main_arg1)
      ∧ r.2.mem ((c.tc : Thread Cert.KernelFFIdeal.nD Cert.KernelFFIdeal.τ).loc Cert.KernelFFIdeal.main_arg2) = m ((c.tc : Thread Cert.KernelFFIdeal.nD Cert.KernelFFIdeal.τ).loc Cert.KernelFFIdeal.main_arg2))
      ∧ r.2.sem = fun _ => 0)

def quiescent_ReferenceFFIdeal [hReferenceFFIdeal : Cert.ReferenceFFIdeal.Facts] : Prop :=
  ∀ (m : (ℓ : Loc Cert.ReferenceFFIdeal.nD Cert.ReferenceFFIdeal.τ Cert.ReferenceFFIdeal.sig) → Buf (Elt Ideal) ℓ) (g : Dev Cert.ReferenceFFIdeal.nD → PrngReg), Pre_ReferenceFFIdeal m →
    θ_run (Cert.ReferenceFFIdeal.defs (F := Ideal)) (onTc (τ := Cert.ReferenceFFIdeal.τ) (Cert.ReferenceFFIdeal.main (F := Ideal))) ⟨m, fun _ => 0, g⟩ (fun r => (∀ c : Dev Cert.ReferenceFFIdeal.nD,
      r.2.mem ((c.tc : Thread Cert.ReferenceFFIdeal.nD Cert.ReferenceFFIdeal.τ).loc Cert.ReferenceFFIdeal.main_arg0) = m ((c.tc : Thread Cert.ReferenceFFIdeal.nD Cert.ReferenceFFIdeal.τ).loc Cert.ReferenceFFIdeal.main_arg0)
      ∧ r.2.mem ((c.tc : Thread Cert.ReferenceFFIdeal.nD Cert.ReferenceFFIdeal.τ).loc Cert.ReferenceFFIdeal.main_arg1) = m ((c.tc : Thread Cert.ReferenceFFIdeal.nD Cert.ReferenceFFIdeal.τ).loc Cert.ReferenceFFIdeal.main_arg1)
      ∧ r.2.mem ((c.tc : Thread Cert.ReferenceFFIdeal.nD Cert.ReferenceFFIdeal.τ).loc Cert.ReferenceFFIdeal.main_arg2) = m ((c.tc : Thread Cert.ReferenceFFIdeal.nD Cert.ReferenceFFIdeal.τ).loc Cert.ReferenceFFIdeal.main_arg2))
      ∧ r.2.sem = fun _ => 0)

def quiescent_ReferenceFFIdeal_pre_finite_ff [hReferenceFFIdeal : Cert.ReferenceFFIdeal.Facts] [hPre_finite_ff : Cert.Pre_finite_ff.Facts] : Prop :=
  ∀ (m : (ℓ : Loc Cert.ReferenceFFIdeal.nD Cert.ReferenceFFIdeal.τ Cert.ReferenceFFIdeal.sig) → Buf (Elt Ideal) ℓ) (g : Dev Cert.ReferenceFFIdeal.nD → PrngReg), Pre_ReferenceFFIdeal_finite_ff m →
    θ_run (Cert.ReferenceFFIdeal.defs (F := Ideal)) (onTc (τ := Cert.ReferenceFFIdeal.τ) (Cert.ReferenceFFIdeal.main (F := Ideal))) ⟨m, fun _ => 0, g⟩ (fun r => (∀ c : Dev Cert.ReferenceFFIdeal.nD,
      r.2.mem ((c.tc : Thread Cert.ReferenceFFIdeal.nD Cert.ReferenceFFIdeal.τ).loc Cert.ReferenceFFIdeal.main_arg0) = m ((c.tc : Thread Cert.ReferenceFFIdeal.nD Cert.ReferenceFFIdeal.τ).loc Cert.ReferenceFFIdeal.main_arg0)
      ∧ r.2.mem ((c.tc : Thread Cert.ReferenceFFIdeal.nD Cert.ReferenceFFIdeal.τ).loc Cert.ReferenceFFIdeal.main_arg1) = m ((c.tc : Thread Cert.ReferenceFFIdeal.nD Cert.ReferenceFFIdeal.τ).loc Cert.ReferenceFFIdeal.main_arg1)
      ∧ r.2.mem ((c.tc : Thread Cert.ReferenceFFIdeal.nD Cert.ReferenceFFIdeal.τ).loc Cert.ReferenceFFIdeal.main_arg2) = m ((c.tc : Thread Cert.ReferenceFFIdeal.nD Cert.ReferenceFFIdeal.τ).loc Cert.ReferenceFFIdeal.main_arg2))
      ∧ r.2.sem = fun _ => 0)

def quiescent_KernelXF [hKernelXF : Cert.KernelXF.Facts] : Prop :=
  ∀ (m : (ℓ : Loc Cert.KernelXF.nD Cert.KernelXF.τ Cert.KernelXF.sig) → Buf (Elt Bits) ℓ) (g : Dev Cert.KernelXF.nD → PrngReg), Pre_KernelXF m →
    θ_run (Cert.KernelXF.defs (F := Bits)) (onTc (τ := Cert.KernelXF.τ) (Cert.KernelXF.main (F := Bits))) ⟨m, fun _ => 0, g⟩ (fun r => (∀ c : Dev Cert.KernelXF.nD,
      r.2.mem ((c.tc : Thread Cert.KernelXF.nD Cert.KernelXF.τ).loc Cert.KernelXF.main_arg0) = m ((c.tc : Thread Cert.KernelXF.nD Cert.KernelXF.τ).loc Cert.KernelXF.main_arg0)
      ∧ r.2.mem ((c.tc : Thread Cert.KernelXF.nD Cert.KernelXF.τ).loc Cert.KernelXF.main_arg1) = m ((c.tc : Thread Cert.KernelXF.nD Cert.KernelXF.τ).loc Cert.KernelXF.main_arg1))
      ∧ r.2.sem = fun _ => 0)

def quiescent_KernelXFIdeal [hKernelXFIdeal : Cert.KernelXFIdeal.Facts] : Prop :=
  ∀ (m : (ℓ : Loc Cert.KernelXFIdeal.nD Cert.KernelXFIdeal.τ Cert.KernelXFIdeal.sig) → Buf (Elt Ideal) ℓ) (g : Dev Cert.KernelXFIdeal.nD → PrngReg), Pre_KernelXFIdeal m →
    θ_run (Cert.KernelXFIdeal.defs (F := Ideal)) (onTc (τ := Cert.KernelXFIdeal.τ) (Cert.KernelXFIdeal.main (F := Ideal))) ⟨m, fun _ => 0, g⟩ (fun r => (∀ c : Dev Cert.KernelXFIdeal.nD,
      r.2.mem ((c.tc : Thread Cert.KernelXFIdeal.nD Cert.KernelXFIdeal.τ).loc Cert.KernelXFIdeal.main_arg0) = m ((c.tc : Thread Cert.KernelXFIdeal.nD Cert.KernelXFIdeal.τ).loc Cert.KernelXFIdeal.main_arg0)
      ∧ r.2.mem ((c.tc : Thread Cert.KernelXFIdeal.nD Cert.KernelXFIdeal.τ).loc Cert.KernelXFIdeal.main_arg1) = m ((c.tc : Thread Cert.KernelXFIdeal.nD Cert.KernelXFIdeal.τ).loc Cert.KernelXFIdeal.main_arg1))
      ∧ r.2.sem = fun _ => 0)

def quiescent_ReferenceXFIdeal [hReferenceXFIdeal : Cert.ReferenceXFIdeal.Facts] : Prop :=
  ∀ (m : (ℓ : Loc Cert.ReferenceXFIdeal.nD Cert.ReferenceXFIdeal.τ Cert.ReferenceXFIdeal.sig) → Buf (Elt Ideal) ℓ) (g : Dev Cert.ReferenceXFIdeal.nD → PrngReg), Pre_ReferenceXFIdeal m →
    θ_run (Cert.ReferenceXFIdeal.defs (F := Ideal)) (onTc (τ := Cert.ReferenceXFIdeal.τ) (Cert.ReferenceXFIdeal.main (F := Ideal))) ⟨m, fun _ => 0, g⟩ (fun r => (∀ c : Dev Cert.ReferenceXFIdeal.nD,
      r.2.mem ((c.tc : Thread Cert.ReferenceXFIdeal.nD Cert.ReferenceXFIdeal.τ).loc Cert.ReferenceXFIdeal.main_arg0) = m ((c.tc : Thread Cert.ReferenceXFIdeal.nD Cert.ReferenceXFIdeal.τ).loc Cert.ReferenceXFIdeal.main_arg0)
      ∧ r.2.mem ((c.tc : Thread Cert.ReferenceXFIdeal.nD Cert.ReferenceXFIdeal.τ).loc Cert.ReferenceXFIdeal.main_arg1) = m ((c.tc : Thread Cert.ReferenceXFIdeal.nD Cert.ReferenceXFIdeal.τ).loc Cert.ReferenceXFIdeal.main_arg1))
      ∧ r.2.sem = fun _ => 0)

def preserves_KernelX_KernelXIdeal : Prop :=
  True

def algebraic_KernelXIdeal_ReferenceXIdeal_pre_finite_x [hKernelXIdeal : Cert.KernelXIdeal.Facts] [hReferenceXIdeal : Cert.ReferenceXIdeal.Facts] [hPre_finite_x : Cert.Pre_finite_x.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal_finite_x m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)) →
    ∃ (v0 : (c : Dev Cert.KernelXIdeal.nD) → Buf (Elt Ideal) ((c.tc : Thread Cert.KernelXIdeal.nD Cert.KernelXIdeal.τ).loc Cert.KernelXIdeal.main_v5_0)) (v1 : (c : Dev Cert.KernelXIdeal.nD) → Buf (Elt Ideal) ((c.tc : Thread Cert.KernelXIdeal.nD Cert.KernelXIdeal.τ).loc Cert.KernelXIdeal.main_v5_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v5_0) = v0 c
          ∧ r.2.mem ((c.tc : Thread Cert.KernelXIdeal.nD Cert.KernelXIdeal.τ).loc Cert.KernelXIdeal.main_v5_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v68) = v0 c
          ∧ r.2.mem ((c.tc : Thread Cert.ReferenceXIdeal.nD Cert.ReferenceXIdeal.τ).loc Cert.ReferenceXIdeal.main_v64) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2))

def preserves_KernelF_KernelFIdeal : Prop :=
  IdealRules.named_const.Statement Cert.KernelFIdeal.κ "ln2" .f32 0x3F317218#32 ((Real.log 2 : ℝ) : EReal)

def algebraic_KernelFIdeal_ReferenceFIdeal_pre_finite_f [hKernelFIdeal : Cert.KernelFIdeal.Facts] [hReferenceFIdeal : Cert.ReferenceFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_f m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)) →
    ∃ (v0 : (c : Dev Cert.KernelFIdeal.nD) → Buf (Elt Ideal) ((c.tc : Thread Cert.KernelFIdeal.nD Cert.KernelFIdeal.τ).loc Cert.KernelFIdeal.main_v35_0)) (v1 : (c : Dev Cert.KernelFIdeal.nD) → Buf (Elt Ideal) ((c.tc : Thread Cert.KernelFIdeal.nD Cert.KernelFIdeal.τ).loc Cert.KernelFIdeal.main_v35_1)) (v2 : (c : Dev Cert.KernelFIdeal.nD) → Buf (Elt Ideal) ((c.tc : Thread Cert.KernelFIdeal.nD Cert.KernelFIdeal.τ).loc Cert.KernelFIdeal.main_v35_2)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v35_0) = v0 c
          ∧ r.2.mem ((c.tc : Thread Cert.KernelFIdeal.nD Cert.KernelFIdeal.τ).loc Cert.KernelFIdeal.main_v35_1) = v1 c
          ∧ r.2.mem ((c.tc : Thread Cert.KernelFIdeal.nD Cert.KernelFIdeal.τ).loc Cert.KernelFIdeal.main_v35_2) = v2 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v60) = v0 c
          ∧ r.2.mem ((c.tc : Thread Cert.ReferenceFIdeal.nD Cert.ReferenceFIdeal.τ).loc Cert.ReferenceFIdeal.main_v59) = v1 c
          ∧ r.2.mem ((c.tc : Thread Cert.ReferenceFIdeal.nD Cert.ReferenceFIdeal.τ).loc Cert.ReferenceFIdeal.main_v41) = v2 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)) →
    ∃ (v0 : (c : Dev Cert.KernelAIdeal.nD) → Buf (Elt Ideal) ((c.tc : Thread Cert.KernelAIdeal.nD Cert.KernelAIdeal.τ).loc Cert.KernelAIdeal.main_v2)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v2) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v5) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)) →
    ∃ (v0 : (c : Dev Cert.KernelWIdeal.nD) → Buf (Elt Ideal) ((c.tc : Thread Cert.KernelWIdeal.nD Cert.KernelWIdeal.τ).loc Cert.KernelWIdeal.main_v3)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v3) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v9) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)) →
    ∃ (v0 : (c : Dev Cert.KernelGIdeal.nD) → Buf (Elt Ideal) ((c.tc : Thread Cert.KernelGIdeal.nD Cert.KernelGIdeal.τ).loc Cert.KernelGIdeal.main_v3)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v3) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v13) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)) →
    ∃ (v0 : (c : Dev Cert.KernelHIdeal.nD) → Buf (Elt Ideal) ((c.tc : Thread Cert.KernelHIdeal.nD Cert.KernelHIdeal.τ).loc Cert.KernelHIdeal.main_v3)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v3) = v0 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v13) = v0 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2))

def preserves_KernelE_KernelEIdeal : Prop :=
  True

def algebraic_KernelEIdeal_ReferenceEIdeal [hKernelEIdeal : Cert.KernelEIdeal.Facts] [hReferenceEIdeal : Cert.ReferenceEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg)
    (m' : (ℓ : Loc Cert.ReferenceEIdeal.nD Cert.ReferenceEIdeal.τ Cert.ReferenceEIdeal.sig) → Buf (Elt Ideal) ℓ) (g' : Dev Cert.ReferenceEIdeal.nD → PrngReg), Pre_KernelEIdeal m →
    (∀ c : Dev Cert.KernelEIdeal.nD,
      m' ((c.tc : Thread Cert.ReferenceEIdeal.nD Cert.ReferenceEIdeal.τ).loc Cert.ReferenceEIdeal.main_arg0) = m ((c.tc : Thread Cert.KernelEIdeal.nD Cert.KernelEIdeal.τ).loc Cert.KernelEIdeal.main_arg0)
      ∧ m' ((c.tc : Thread Cert.ReferenceEIdeal.nD Cert.ReferenceEIdeal.τ).loc Cert.ReferenceEIdeal.main_arg1) = m ((c.tc : Thread Cert.KernelEIdeal.nD Cert.KernelEIdeal.τ).loc Cert.KernelEIdeal.main_arg1)) →
    ∃ (v0 : (c : Dev Cert.KernelEIdeal.nD) → Buf (Elt Ideal) ((c.tc : Thread Cert.KernelEIdeal.nD Cert.KernelEIdeal.τ).loc Cert.KernelEIdeal.main_v2)),
      θ_run (Cert.KernelEIdeal.defs (F := Ideal)) (onTc (τ := Cert.KernelEIdeal.τ) (Cert.KernelEIdeal.main (F := Ideal))) ⟨m, fun _ => 0, g⟩ (fun r => ∀ c : Dev Cert.KernelEIdeal.nD,
          r.2.mem ((c.tc : Thread Cert.KernelEIdeal.nD Cert.KernelEIdeal.τ).loc Cert.KernelEIdeal.main_v2) = v0 c
          ∧ r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
          ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1))
      ∧ θ_run (Cert.ReferenceEIdeal.defs (F := Ideal)) (onTc (τ := Cert.ReferenceEIdeal.τ) (Cert.ReferenceEIdeal.main (F := Ideal))) ⟨m', fun _ => 0, g'⟩ (fun r => ∀ c : Dev Cert.ReferenceEIdeal.nD,
          r.2.mem ((c.tc : Thread Cert.ReferenceEIdeal.nD Cert.ReferenceEIdeal.τ).loc Cert.ReferenceEIdeal.main_v5) = v0 c
          ∧ r.2.mem ((c.tc : Thread Cert.ReferenceEIdeal.nD Cert.ReferenceEIdeal.τ).loc Cert.ReferenceEIdeal.main_arg0) = m' ((c.tc : Thread Cert.ReferenceEIdeal.nD Cert.ReferenceEIdeal.τ).loc Cert.ReferenceEIdeal.main_arg0)
          ∧ r.2.mem ((c.tc : Thread Cert.ReferenceEIdeal.nD Cert.ReferenceEIdeal.τ).loc Cert.ReferenceEIdeal.main_arg1) = m' ((c.tc : Thread Cert.ReferenceEIdeal.nD Cert.ReferenceEIdeal.τ).loc Cert.ReferenceEIdeal.main_arg1))

def preserves_KernelV_KernelVIdeal : Prop :=
  True

def algebraic_KernelVIdeal_ReferenceVIdeal_pre_finite_v [hKernelVIdeal : Cert.KernelVIdeal.Facts] [hReferenceVIdeal : Cert.ReferenceVIdeal.Facts] [hPre_finite_v : Cert.Pre_finite_v.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal_finite_v m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)
      ∧ m' ((c.tc : Thread Cert.ReferenceVIdeal.nD Cert.ReferenceVIdeal.τ).loc Cert.ReferenceVIdeal.main_arg3) = m ((c.tc : Thread Cert.KernelVIdeal.nD Cert.KernelVIdeal.τ).loc Cert.KernelVIdeal.main_arg3)
      ∧ m' ((c.tc : Thread Cert.ReferenceVIdeal.nD Cert.ReferenceVIdeal.τ).loc Cert.ReferenceVIdeal.main_arg4) = m ((c.tc : Thread Cert.KernelVIdeal.nD Cert.KernelVIdeal.τ).loc Cert.KernelVIdeal.main_arg4)
      ∧ m' ((c.tc : Thread Cert.ReferenceVIdeal.nD Cert.ReferenceVIdeal.τ).loc Cert.ReferenceVIdeal.main_arg5) = m ((c.tc : Thread Cert.KernelVIdeal.nD Cert.KernelVIdeal.τ).loc Cert.KernelVIdeal.main_arg5)) →
    ∃ (v0 : (c : Dev Cert.KernelVIdeal.nD) → Buf (Elt Ideal) ((c.tc : Thread Cert.KernelVIdeal.nD Cert.KernelVIdeal.τ).loc Cert.KernelVIdeal.main_v2_0)) (v1 : (c : Dev Cert.KernelVIdeal.nD) → Buf (Elt Ideal) ((c.tc : Thread Cert.KernelVIdeal.nD Cert.KernelVIdeal.τ).loc Cert.KernelVIdeal.main_v2_1)) (v2 : (c : Dev Cert.KernelVIdeal.nD) → Buf (Elt Ideal) ((c.tc : Thread Cert.KernelVIdeal.nD Cert.KernelVIdeal.τ).loc Cert.KernelVIdeal.main_v2_2)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v2_0) = v0 c
          ∧ r.2.mem ((c.tc : Thread Cert.KernelVIdeal.nD Cert.KernelVIdeal.τ).loc Cert.KernelVIdeal.main_v2_1) = v1 c
          ∧ r.2.mem ((c.tc : Thread Cert.KernelVIdeal.nD Cert.KernelVIdeal.τ).loc Cert.KernelVIdeal.main_v2_2) = v2 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
          ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
          ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
          ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v40) = v0 c
          ∧ r.2.mem ((c.tc : Thread Cert.ReferenceVIdeal.nD Cert.ReferenceVIdeal.τ).loc Cert.ReferenceVIdeal.main_v23) = v1 c
          ∧ r.2.mem ((c.tc : Thread Cert.ReferenceVIdeal.nD Cert.ReferenceVIdeal.τ).loc Cert.ReferenceVIdeal.main_v41) = v2 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2)
          ∧ r.2.mem ((c.tc : Thread Cert.ReferenceVIdeal.nD Cert.ReferenceVIdeal.τ).loc Cert.ReferenceVIdeal.main_arg3) = m' ((c.tc : Thread Cert.ReferenceVIdeal.nD Cert.ReferenceVIdeal.τ).loc Cert.ReferenceVIdeal.main_arg3)
          ∧ r.2.mem ((c.tc : Thread Cert.ReferenceVIdeal.nD Cert.ReferenceVIdeal.τ).loc Cert.ReferenceVIdeal.main_arg4) = m' ((c.tc : Thread Cert.ReferenceVIdeal.nD Cert.ReferenceVIdeal.τ).loc Cert.ReferenceVIdeal.main_arg4)
          ∧ r.2.mem ((c.tc : Thread Cert.ReferenceVIdeal.nD Cert.ReferenceVIdeal.τ).loc Cert.ReferenceVIdeal.main_arg5) = m' ((c.tc : Thread Cert.ReferenceVIdeal.nD Cert.ReferenceVIdeal.τ).loc Cert.ReferenceVIdeal.main_arg5))

def preserves_KernelUG_KernelUGIdeal : Prop :=
  True

def algebraic_KernelUGIdeal_ReferenceUGIdeal [hKernelUGIdeal : Cert.KernelUGIdeal.Facts] [hReferenceUGIdeal : Cert.ReferenceUGIdeal.Facts] : Prop :=
  ∀ (m : (ℓ : Loc Cert.KernelUGIdeal.nD Cert.KernelUGIdeal.τ Cert.KernelUGIdeal.sig) → Buf (Elt Ideal) ℓ) (g : Dev Cert.KernelUGIdeal.nD → PrngReg)
    (m' : (ℓ : Loc Cert.ReferenceUGIdeal.nD Cert.ReferenceUGIdeal.τ Cert.ReferenceUGIdeal.sig) → Buf (Elt Ideal) ℓ) (g' : Dev Cert.ReferenceUGIdeal.nD → PrngReg), Pre_KernelUGIdeal m →
    (∀ c : Dev Cert.KernelUGIdeal.nD,
      m' ((c.tc : Thread Cert.ReferenceUGIdeal.nD Cert.ReferenceUGIdeal.τ).loc Cert.ReferenceUGIdeal.main_arg0) = m ((c.tc : Thread Cert.KernelUGIdeal.nD Cert.KernelUGIdeal.τ).loc Cert.KernelUGIdeal.main_arg0)
      ∧ m' ((c.tc : Thread Cert.ReferenceUGIdeal.nD Cert.ReferenceUGIdeal.τ).loc Cert.ReferenceUGIdeal.main_arg1) = m ((c.tc : Thread Cert.KernelUGIdeal.nD Cert.KernelUGIdeal.τ).loc Cert.KernelUGIdeal.main_arg1)) →
    ∃ (v0 : (c : Dev Cert.KernelUGIdeal.nD) → Buf (Elt Ideal) ((c.tc : Thread Cert.KernelUGIdeal.nD Cert.KernelUGIdeal.τ).loc Cert.KernelUGIdeal.main_v2)),
      θ_run (Cert.KernelUGIdeal.defs (F := Ideal)) (onTc (τ := Cert.KernelUGIdeal.τ) (Cert.KernelUGIdeal.main (F := Ideal))) ⟨m, fun _ => 0, g⟩ (fun r => ∀ c : Dev Cert.KernelUGIdeal.nD,
          r.2.mem ((c.tc : Thread Cert.KernelUGIdeal.nD Cert.KernelUGIdeal.τ).loc Cert.KernelUGIdeal.main_v2) = v0 c
          ∧ r.2.mem ((c.tc : Thread Cert.KernelUGIdeal.nD Cert.KernelUGIdeal.τ).loc Cert.KernelUGIdeal.main_arg0) = m ((c.tc : Thread Cert.KernelUGIdeal.nD Cert.KernelUGIdeal.τ).loc Cert.KernelUGIdeal.main_arg0)
          ∧ r.2.mem ((c.tc : Thread Cert.KernelUGIdeal.nD Cert.KernelUGIdeal.τ).loc Cert.KernelUGIdeal.main_arg1) = m ((c.tc : Thread Cert.KernelUGIdeal.nD Cert.KernelUGIdeal.τ).loc Cert.KernelUGIdeal.main_arg1))
      ∧ θ_run (Cert.ReferenceUGIdeal.defs (F := Ideal)) (onTc (τ := Cert.ReferenceUGIdeal.τ) (Cert.ReferenceUGIdeal.main (F := Ideal))) ⟨m', fun _ => 0, g'⟩ (fun r => ∀ c : Dev Cert.ReferenceUGIdeal.nD,
          r.2.mem ((c.tc : Thread Cert.ReferenceUGIdeal.nD Cert.ReferenceUGIdeal.τ).loc Cert.ReferenceUGIdeal.main_v4) = v0 c
          ∧ r.2.mem ((c.tc : Thread Cert.ReferenceUGIdeal.nD Cert.ReferenceUGIdeal.τ).loc Cert.ReferenceUGIdeal.main_arg0) = m' ((c.tc : Thread Cert.ReferenceUGIdeal.nD Cert.ReferenceUGIdeal.τ).loc Cert.ReferenceUGIdeal.main_arg0)
          ∧ r.2.mem ((c.tc : Thread Cert.ReferenceUGIdeal.nD Cert.ReferenceUGIdeal.τ).loc Cert.ReferenceUGIdeal.main_arg1) = m' ((c.tc : Thread Cert.ReferenceUGIdeal.nD Cert.ReferenceUGIdeal.τ).loc Cert.ReferenceUGIdeal.main_arg1))

def preserves_KernelUV_KernelUVIdeal : Prop :=
  True

def algebraic_KernelUVIdeal_ReferenceUVIdeal [hKernelUVIdeal : Cert.KernelUVIdeal.Facts] [hReferenceUVIdeal : Cert.ReferenceUVIdeal.Facts] : Prop :=
  ∀ (m : (ℓ : Loc Cert.KernelUVIdeal.nD Cert.KernelUVIdeal.τ Cert.KernelUVIdeal.sig) → Buf (Elt Ideal) ℓ) (g : Dev Cert.KernelUVIdeal.nD → PrngReg)
    (m' : (ℓ : Loc Cert.ReferenceUVIdeal.nD Cert.ReferenceUVIdeal.τ Cert.ReferenceUVIdeal.sig) → Buf (Elt Ideal) ℓ) (g' : Dev Cert.ReferenceUVIdeal.nD → PrngReg), Pre_KernelUVIdeal m →
    (∀ c : Dev Cert.KernelUVIdeal.nD,
      m' ((c.tc : Thread Cert.ReferenceUVIdeal.nD Cert.ReferenceUVIdeal.τ).loc Cert.ReferenceUVIdeal.main_arg0) = m ((c.tc : Thread Cert.KernelUVIdeal.nD Cert.KernelUVIdeal.τ).loc Cert.KernelUVIdeal.main_arg0)
      ∧ m' ((c.tc : Thread Cert.ReferenceUVIdeal.nD Cert.ReferenceUVIdeal.τ).loc Cert.ReferenceUVIdeal.main_arg1) = m ((c.tc : Thread Cert.KernelUVIdeal.nD Cert.KernelUVIdeal.τ).loc Cert.KernelUVIdeal.main_arg1)) →
    ∃ (v0 : (c : Dev Cert.KernelUVIdeal.nD) → Buf (Elt Ideal) ((c.tc : Thread Cert.KernelUVIdeal.nD Cert.KernelUVIdeal.τ).loc Cert.KernelUVIdeal.main_v2)),
      θ_run (Cert.KernelUVIdeal.defs (F := Ideal)) (onTc (τ := Cert.KernelUVIdeal.τ) (Cert.KernelUVIdeal.main (F := Ideal))) ⟨m, fun _ => 0, g⟩ (fun r => ∀ c : Dev Cert.KernelUVIdeal.nD,
          r.2.mem ((c.tc : Thread Cert.KernelUVIdeal.nD Cert.KernelUVIdeal.τ).loc Cert.KernelUVIdeal.main_v2) = v0 c
          ∧ r.2.mem ((c.tc : Thread Cert.KernelUVIdeal.nD Cert.KernelUVIdeal.τ).loc Cert.KernelUVIdeal.main_arg0) = m ((c.tc : Thread Cert.KernelUVIdeal.nD Cert.KernelUVIdeal.τ).loc Cert.KernelUVIdeal.main_arg0)
          ∧ r.2.mem ((c.tc : Thread Cert.KernelUVIdeal.nD Cert.KernelUVIdeal.τ).loc Cert.KernelUVIdeal.main_arg1) = m ((c.tc : Thread Cert.KernelUVIdeal.nD Cert.KernelUVIdeal.τ).loc Cert.KernelUVIdeal.main_arg1))
      ∧ θ_run (Cert.ReferenceUVIdeal.defs (F := Ideal)) (onTc (τ := Cert.ReferenceUVIdeal.τ) (Cert.ReferenceUVIdeal.main (F := Ideal))) ⟨m', fun _ => 0, g'⟩ (fun r => ∀ c : Dev Cert.ReferenceUVIdeal.nD,
          r.2.mem ((c.tc : Thread Cert.ReferenceUVIdeal.nD Cert.ReferenceUVIdeal.τ).loc Cert.ReferenceUVIdeal.main_v4) = v0 c
          ∧ r.2.mem ((c.tc : Thread Cert.ReferenceUVIdeal.nD Cert.ReferenceUVIdeal.τ).loc Cert.ReferenceUVIdeal.main_arg0) = m' ((c.tc : Thread Cert.ReferenceUVIdeal.nD Cert.ReferenceUVIdeal.τ).loc Cert.ReferenceUVIdeal.main_arg0)
          ∧ r.2.mem ((c.tc : Thread Cert.ReferenceUVIdeal.nD Cert.ReferenceUVIdeal.τ).loc Cert.ReferenceUVIdeal.main_arg1) = m' ((c.tc : Thread Cert.ReferenceUVIdeal.nD Cert.ReferenceUVIdeal.τ).loc Cert.ReferenceUVIdeal.main_arg1))

def preserves_KernelDN_KernelDNIdeal : Prop :=
  True

def algebraic_KernelDNIdeal_ReferenceDNIdeal [hKernelDNIdeal : Cert.KernelDNIdeal.Facts] [hReferenceDNIdeal : Cert.ReferenceDNIdeal.Facts] : Prop :=
  ∀ (m : (ℓ : Loc Cert.KernelDNIdeal.nD Cert.KernelDNIdeal.τ Cert.KernelDNIdeal.sig) → Buf (Elt Ideal) ℓ) (g : Dev Cert.KernelDNIdeal.nD → PrngReg)
    (m' : (ℓ : Loc Cert.ReferenceDNIdeal.nD Cert.ReferenceDNIdeal.τ Cert.ReferenceDNIdeal.sig) → Buf (Elt Ideal) ℓ) (g' : Dev Cert.ReferenceDNIdeal.nD → PrngReg), Pre_KernelDNIdeal m →
    (∀ c : Dev Cert.KernelDNIdeal.nD,
      m' ((c.tc : Thread Cert.ReferenceDNIdeal.nD Cert.ReferenceDNIdeal.τ).loc Cert.ReferenceDNIdeal.main_arg0) = m ((c.tc : Thread Cert.KernelDNIdeal.nD Cert.KernelDNIdeal.τ).loc Cert.KernelDNIdeal.main_arg0)
      ∧ m' ((c.tc : Thread Cert.ReferenceDNIdeal.nD Cert.ReferenceDNIdeal.τ).loc Cert.ReferenceDNIdeal.main_arg1) = m ((c.tc : Thread Cert.KernelDNIdeal.nD Cert.KernelDNIdeal.τ).loc Cert.KernelDNIdeal.main_arg1)
      ∧ m' ((c.tc : Thread Cert.ReferenceDNIdeal.nD Cert.ReferenceDNIdeal.τ).loc Cert.ReferenceDNIdeal.main_arg2) = m ((c.tc : Thread Cert.KernelDNIdeal.nD Cert.KernelDNIdeal.τ).loc Cert.KernelDNIdeal.main_arg2)
      ∧ m' ((c.tc : Thread Cert.ReferenceDNIdeal.nD Cert.ReferenceDNIdeal.τ).loc Cert.ReferenceDNIdeal.main_arg3) = m ((c.tc : Thread Cert.KernelDNIdeal.nD Cert.KernelDNIdeal.τ).loc Cert.KernelDNIdeal.main_arg3)) →
    ∃ (v0 : (c : Dev Cert.KernelDNIdeal.nD) → Buf (Elt Ideal) ((c.tc : Thread Cert.KernelDNIdeal.nD Cert.KernelDNIdeal.τ).loc Cert.KernelDNIdeal.main_v2_0)) (v1 : (c : Dev Cert.KernelDNIdeal.nD) → Buf (Elt Ideal) ((c.tc : Thread Cert.KernelDNIdeal.nD Cert.KernelDNIdeal.τ).loc Cert.KernelDNIdeal.main_v2_1)),
      θ_run (Cert.KernelDNIdeal.defs (F := Ideal)) (onTc (τ := Cert.KernelDNIdeal.τ) (Cert.KernelDNIdeal.main (F := Ideal))) ⟨m, fun _ => 0, g⟩ (fun r => ∀ c : Dev Cert.KernelDNIdeal.nD,
          r.2.mem ((c.tc : Thread Cert.KernelDNIdeal.nD Cert.KernelDNIdeal.τ).loc Cert.KernelDNIdeal.main_v2_0) = v0 c
          ∧ r.2.mem ((c.tc : Thread Cert.KernelDNIdeal.nD Cert.KernelDNIdeal.τ).loc Cert.KernelDNIdeal.main_v2_1) = v1 c
          ∧ r.2.mem ((c.tc : Thread Cert.KernelDNIdeal.nD Cert.KernelDNIdeal.τ).loc Cert.KernelDNIdeal.main_arg0) = m ((c.tc : Thread Cert.KernelDNIdeal.nD Cert.KernelDNIdeal.τ).loc Cert.KernelDNIdeal.main_arg0)
          ∧ r.2.mem ((c.tc : Thread Cert.KernelDNIdeal.nD Cert.KernelDNIdeal.τ).loc Cert.KernelDNIdeal.main_arg1) = m ((c.tc : Thread Cert.KernelDNIdeal.nD Cert.KernelDNIdeal.τ).loc Cert.KernelDNIdeal.main_arg1)
          ∧ r.2.mem ((c.tc : Thread Cert.KernelDNIdeal.nD Cert.KernelDNIdeal.τ).loc Cert.KernelDNIdeal.main_arg2) = m ((c.tc : Thread Cert.KernelDNIdeal.nD Cert.KernelDNIdeal.τ).loc Cert.KernelDNIdeal.main_arg2)
          ∧ r.2.mem ((c.tc : Thread Cert.KernelDNIdeal.nD Cert.KernelDNIdeal.τ).loc Cert.KernelDNIdeal.main_arg3) = m ((c.tc : Thread Cert.KernelDNIdeal.nD Cert.KernelDNIdeal.τ).loc Cert.KernelDNIdeal.main_arg3))
      ∧ θ_run (Cert.ReferenceDNIdeal.defs (F := Ideal)) (onTc (τ := Cert.ReferenceDNIdeal.τ) (Cert.ReferenceDNIdeal.main (F := Ideal))) ⟨m', fun _ => 0, g'⟩ (fun r => ∀ c : Dev Cert.ReferenceDNIdeal.nD,
          r.2.mem ((c.tc : Thread Cert.ReferenceDNIdeal.nD Cert.ReferenceDNIdeal.τ).loc Cert.ReferenceDNIdeal.main_v3) = v0 c
          ∧ r.2.mem ((c.tc : Thread Cert.ReferenceDNIdeal.nD Cert.ReferenceDNIdeal.τ).loc Cert.ReferenceDNIdeal.main_v15) = v1 c
          ∧ r.2.mem ((c.tc : Thread Cert.ReferenceDNIdeal.nD Cert.ReferenceDNIdeal.τ).loc Cert.ReferenceDNIdeal.main_arg0) = m' ((c.tc : Thread Cert.ReferenceDNIdeal.nD Cert.ReferenceDNIdeal.τ).loc Cert.ReferenceDNIdeal.main_arg0)
          ∧ r.2.mem ((c.tc : Thread Cert.ReferenceDNIdeal.nD Cert.ReferenceDNIdeal.τ).loc Cert.ReferenceDNIdeal.main_arg1) = m' ((c.tc : Thread Cert.ReferenceDNIdeal.nD Cert.ReferenceDNIdeal.τ).loc Cert.ReferenceDNIdeal.main_arg1)
          ∧ r.2.mem ((c.tc : Thread Cert.ReferenceDNIdeal.nD Cert.ReferenceDNIdeal.τ).loc Cert.ReferenceDNIdeal.main_arg2) = m' ((c.tc : Thread Cert.ReferenceDNIdeal.nD Cert.ReferenceDNIdeal.τ).loc Cert.ReferenceDNIdeal.main_arg2)
          ∧ r.2.mem ((c.tc : Thread Cert.ReferenceDNIdeal.nD Cert.ReferenceDNIdeal.τ).loc Cert.ReferenceDNIdeal.main_arg3) = m' ((c.tc : Thread Cert.ReferenceDNIdeal.nD Cert.ReferenceDNIdeal.τ).loc Cert.ReferenceDNIdeal.main_arg3))

def preserves_KernelDL_KernelDLIdeal : Prop :=
  True

def algebraic_KernelDLIdeal_ReferenceDLIdeal [hKernelDLIdeal : Cert.KernelDLIdeal.Facts] [hReferenceDLIdeal : Cert.ReferenceDLIdeal.Facts] : Prop :=
  ∀ (m : (ℓ : Loc Cert.KernelDLIdeal.nD Cert.KernelDLIdeal.τ Cert.KernelDLIdeal.sig) → Buf (Elt Ideal) ℓ) (g : Dev Cert.KernelDLIdeal.nD → PrngReg)
    (m' : (ℓ : Loc Cert.ReferenceDLIdeal.nD Cert.ReferenceDLIdeal.τ Cert.ReferenceDLIdeal.sig) → Buf (Elt Ideal) ℓ) (g' : Dev Cert.ReferenceDLIdeal.nD → PrngReg), Pre_KernelDLIdeal m →
    (∀ c : Dev Cert.KernelDLIdeal.nD,
      m' ((c.tc : Thread Cert.ReferenceDLIdeal.nD Cert.ReferenceDLIdeal.τ).loc Cert.ReferenceDLIdeal.main_arg0) = m ((c.tc : Thread Cert.KernelDLIdeal.nD Cert.KernelDLIdeal.τ).loc Cert.KernelDLIdeal.main_arg0)
      ∧ m' ((c.tc : Thread Cert.ReferenceDLIdeal.nD Cert.ReferenceDLIdeal.τ).loc Cert.ReferenceDLIdeal.main_arg1) = m ((c.tc : Thread Cert.KernelDLIdeal.nD Cert.KernelDLIdeal.τ).loc Cert.KernelDLIdeal.main_arg1)
      ∧ m' ((c.tc : Thread Cert.ReferenceDLIdeal.nD Cert.ReferenceDLIdeal.τ).loc Cert.ReferenceDLIdeal.main_arg2) = m ((c.tc : Thread Cert.KernelDLIdeal.nD Cert.KernelDLIdeal.τ).loc Cert.KernelDLIdeal.main_arg2)) →
    ∃ (v0 : (c : Dev Cert.KernelDLIdeal.nD) → Buf (Elt Ideal) ((c.tc : Thread Cert.KernelDLIdeal.nD Cert.KernelDLIdeal.τ).loc Cert.KernelDLIdeal.main_v2)),
      θ_run (Cert.KernelDLIdeal.defs (F := Ideal)) (onTc (τ := Cert.KernelDLIdeal.τ) (Cert.KernelDLIdeal.main (F := Ideal))) ⟨m, fun _ => 0, g⟩ (fun r => ∀ c : Dev Cert.KernelDLIdeal.nD,
          r.2.mem ((c.tc : Thread Cert.KernelDLIdeal.nD Cert.KernelDLIdeal.τ).loc Cert.KernelDLIdeal.main_v2) = v0 c
          ∧ r.2.mem ((c.tc : Thread Cert.KernelDLIdeal.nD Cert.KernelDLIdeal.τ).loc Cert.KernelDLIdeal.main_arg0) = m ((c.tc : Thread Cert.KernelDLIdeal.nD Cert.KernelDLIdeal.τ).loc Cert.KernelDLIdeal.main_arg0)
          ∧ r.2.mem ((c.tc : Thread Cert.KernelDLIdeal.nD Cert.KernelDLIdeal.τ).loc Cert.KernelDLIdeal.main_arg1) = m ((c.tc : Thread Cert.KernelDLIdeal.nD Cert.KernelDLIdeal.τ).loc Cert.KernelDLIdeal.main_arg1)
          ∧ r.2.mem ((c.tc : Thread Cert.KernelDLIdeal.nD Cert.KernelDLIdeal.τ).loc Cert.KernelDLIdeal.main_arg2) = m ((c.tc : Thread Cert.KernelDLIdeal.nD Cert.KernelDLIdeal.τ).loc Cert.KernelDLIdeal.main_arg2))
      ∧ θ_run (Cert.ReferenceDLIdeal.defs (F := Ideal)) (onTc (τ := Cert.ReferenceDLIdeal.τ) (Cert.ReferenceDLIdeal.main (F := Ideal))) ⟨m', fun _ => 0, g'⟩ (fun r => ∀ c : Dev Cert.ReferenceDLIdeal.nD,
          r.2.mem ((c.tc : Thread Cert.ReferenceDLIdeal.nD Cert.ReferenceDLIdeal.τ).loc Cert.ReferenceDLIdeal.main_v3) = v0 c
          ∧ r.2.mem ((c.tc : Thread Cert.ReferenceDLIdeal.nD Cert.ReferenceDLIdeal.τ).loc Cert.ReferenceDLIdeal.main_arg0) = m' ((c.tc : Thread Cert.ReferenceDLIdeal.nD Cert.ReferenceDLIdeal.τ).loc Cert.ReferenceDLIdeal.main_arg0)
          ∧ r.2.mem ((c.tc : Thread Cert.ReferenceDLIdeal.nD Cert.ReferenceDLIdeal.τ).loc Cert.ReferenceDLIdeal.main_arg1) = m' ((c.tc : Thread Cert.ReferenceDLIdeal.nD Cert.ReferenceDLIdeal.τ).loc Cert.ReferenceDLIdeal.main_arg1)
          ∧ r.2.mem ((c.tc : Thread Cert.ReferenceDLIdeal.nD Cert.ReferenceDLIdeal.τ).loc Cert.ReferenceDLIdeal.main_arg2) = m' ((c.tc : Thread Cert.ReferenceDLIdeal.nD Cert.ReferenceDLIdeal.τ).loc Cert.ReferenceDLIdeal.main_arg2))

def preserves_KernelDX_KernelDXIdeal : Prop :=
  True

def algebraic_KernelDXIdeal_ReferenceDXIdeal [hKernelDXIdeal : Cert.KernelDXIdeal.Facts] [hReferenceDXIdeal : Cert.ReferenceDXIdeal.Facts] : Prop :=
  ∀ (m : (ℓ : Loc Cert.KernelDXIdeal.nD Cert.KernelDXIdeal.τ Cert.KernelDXIdeal.sig) → Buf (Elt Ideal) ℓ) (g : Dev Cert.KernelDXIdeal.nD → PrngReg)
    (m' : (ℓ : Loc Cert.ReferenceDXIdeal.nD Cert.ReferenceDXIdeal.τ Cert.ReferenceDXIdeal.sig) → Buf (Elt Ideal) ℓ) (g' : Dev Cert.ReferenceDXIdeal.nD → PrngReg), Pre_KernelDXIdeal m →
    (∀ c : Dev Cert.KernelDXIdeal.nD,
      m' ((c.tc : Thread Cert.ReferenceDXIdeal.nD Cert.ReferenceDXIdeal.τ).loc Cert.ReferenceDXIdeal.main_arg0) = m ((c.tc : Thread Cert.KernelDXIdeal.nD Cert.KernelDXIdeal.τ).loc Cert.KernelDXIdeal.main_arg0)
      ∧ m' ((c.tc : Thread Cert.ReferenceDXIdeal.nD Cert.ReferenceDXIdeal.τ).loc Cert.ReferenceDXIdeal.main_arg1) = m ((c.tc : Thread Cert.KernelDXIdeal.nD Cert.KernelDXIdeal.τ).loc Cert.KernelDXIdeal.main_arg1)) →
    ∃ (v0 : (c : Dev Cert.KernelDXIdeal.nD) → Buf (Elt Ideal) ((c.tc : Thread Cert.KernelDXIdeal.nD Cert.KernelDXIdeal.τ).loc Cert.KernelDXIdeal.main_v2)),
      θ_run (Cert.KernelDXIdeal.defs (F := Ideal)) (onTc (τ := Cert.KernelDXIdeal.τ) (Cert.KernelDXIdeal.main (F := Ideal))) ⟨m, fun _ => 0, g⟩ (fun r => ∀ c : Dev Cert.KernelDXIdeal.nD,
          r.2.mem ((c.tc : Thread Cert.KernelDXIdeal.nD Cert.KernelDXIdeal.τ).loc Cert.KernelDXIdeal.main_v2) = v0 c
          ∧ r.2.mem ((c.tc : Thread Cert.KernelDXIdeal.nD Cert.KernelDXIdeal.τ).loc Cert.KernelDXIdeal.main_arg0) = m ((c.tc : Thread Cert.KernelDXIdeal.nD Cert.KernelDXIdeal.τ).loc Cert.KernelDXIdeal.main_arg0)
          ∧ r.2.mem ((c.tc : Thread Cert.KernelDXIdeal.nD Cert.KernelDXIdeal.τ).loc Cert.KernelDXIdeal.main_arg1) = m ((c.tc : Thread Cert.KernelDXIdeal.nD Cert.KernelDXIdeal.τ).loc Cert.KernelDXIdeal.main_arg1))
      ∧ θ_run (Cert.ReferenceDXIdeal.defs (F := Ideal)) (onTc (τ := Cert.ReferenceDXIdeal.τ) (Cert.ReferenceDXIdeal.main (F := Ideal))) ⟨m', fun _ => 0, g'⟩ (fun r => ∀ c : Dev Cert.ReferenceDXIdeal.nD,
          r.2.mem ((c.tc : Thread Cert.ReferenceDXIdeal.nD Cert.ReferenceDXIdeal.τ).loc Cert.ReferenceDXIdeal.main_v5) = v0 c
          ∧ r.2.mem ((c.tc : Thread Cert.ReferenceDXIdeal.nD Cert.ReferenceDXIdeal.τ).loc Cert.ReferenceDXIdeal.main_arg0) = m' ((c.tc : Thread Cert.ReferenceDXIdeal.nD Cert.ReferenceDXIdeal.τ).loc Cert.ReferenceDXIdeal.main_arg0)
          ∧ r.2.mem ((c.tc : Thread Cert.ReferenceDXIdeal.nD Cert.ReferenceDXIdeal.τ).loc Cert.ReferenceDXIdeal.main_arg1) = m' ((c.tc : Thread Cert.ReferenceDXIdeal.nD Cert.ReferenceDXIdeal.τ).loc Cert.ReferenceDXIdeal.main_arg1))

def preserves_KernelDO_KernelDOIdeal : Prop :=
  True

def algebraic_KernelDOIdeal_ReferenceDOIdeal [hKernelDOIdeal : Cert.KernelDOIdeal.Facts] [hReferenceDOIdeal : Cert.ReferenceDOIdeal.Facts] : Prop :=
  ∀ (m : (ℓ : Loc Cert.KernelDOIdeal.nD Cert.KernelDOIdeal.τ Cert.KernelDOIdeal.sig) → Buf (Elt Ideal) ℓ) (g : Dev Cert.KernelDOIdeal.nD → PrngReg)
    (m' : (ℓ : Loc Cert.ReferenceDOIdeal.nD Cert.ReferenceDOIdeal.τ Cert.ReferenceDOIdeal.sig) → Buf (Elt Ideal) ℓ) (g' : Dev Cert.ReferenceDOIdeal.nD → PrngReg), Pre_KernelDOIdeal m →
    (∀ c : Dev Cert.KernelDOIdeal.nD,
      m' ((c.tc : Thread Cert.ReferenceDOIdeal.nD Cert.ReferenceDOIdeal.τ).loc Cert.ReferenceDOIdeal.main_arg0) = m ((c.tc : Thread Cert.KernelDOIdeal.nD Cert.KernelDOIdeal.τ).loc Cert.KernelDOIdeal.main_arg0)
      ∧ m' ((c.tc : Thread Cert.ReferenceDOIdeal.nD Cert.ReferenceDOIdeal.τ).loc Cert.ReferenceDOIdeal.main_arg1) = m ((c.tc : Thread Cert.KernelDOIdeal.nD Cert.KernelDOIdeal.τ).loc Cert.KernelDOIdeal.main_arg1)) →
    ∃ (v0 : (c : Dev Cert.KernelDOIdeal.nD) → Buf (Elt Ideal) ((c.tc : Thread Cert.KernelDOIdeal.nD Cert.KernelDOIdeal.τ).loc Cert.KernelDOIdeal.main_v2)),
      θ_run (Cert.KernelDOIdeal.defs (F := Ideal)) (onTc (τ := Cert.KernelDOIdeal.τ) (Cert.KernelDOIdeal.main (F := Ideal))) ⟨m, fun _ => 0, g⟩ (fun r => ∀ c : Dev Cert.KernelDOIdeal.nD,
          r.2.mem ((c.tc : Thread Cert.KernelDOIdeal.nD Cert.KernelDOIdeal.τ).loc Cert.KernelDOIdeal.main_v2) = v0 c
          ∧ r.2.mem ((c.tc : Thread Cert.KernelDOIdeal.nD Cert.KernelDOIdeal.τ).loc Cert.KernelDOIdeal.main_arg0) = m ((c.tc : Thread Cert.KernelDOIdeal.nD Cert.KernelDOIdeal.τ).loc Cert.KernelDOIdeal.main_arg0)
          ∧ r.2.mem ((c.tc : Thread Cert.KernelDOIdeal.nD Cert.KernelDOIdeal.τ).loc Cert.KernelDOIdeal.main_arg1) = m ((c.tc : Thread Cert.KernelDOIdeal.nD Cert.KernelDOIdeal.τ).loc Cert.KernelDOIdeal.main_arg1))
      ∧ θ_run (Cert.ReferenceDOIdeal.defs (F := Ideal)) (onTc (τ := Cert.ReferenceDOIdeal.τ) (Cert.ReferenceDOIdeal.main (F := Ideal))) ⟨m', fun _ => 0, g'⟩ (fun r => ∀ c : Dev Cert.ReferenceDOIdeal.nD,
          r.2.mem ((c.tc : Thread Cert.ReferenceDOIdeal.nD Cert.ReferenceDOIdeal.τ).loc Cert.ReferenceDOIdeal.main_v4) = v0 c
          ∧ r.2.mem ((c.tc : Thread Cert.ReferenceDOIdeal.nD Cert.ReferenceDOIdeal.τ).loc Cert.ReferenceDOIdeal.main_arg0) = m' ((c.tc : Thread Cert.ReferenceDOIdeal.nD Cert.ReferenceDOIdeal.τ).loc Cert.ReferenceDOIdeal.main_arg0)
          ∧ r.2.mem ((c.tc : Thread Cert.ReferenceDOIdeal.nD Cert.ReferenceDOIdeal.τ).loc Cert.ReferenceDOIdeal.main_arg1) = m' ((c.tc : Thread Cert.ReferenceDOIdeal.nD Cert.ReferenceDOIdeal.τ).loc Cert.ReferenceDOIdeal.main_arg1))

def preserves_KernelWX_KernelWXIdeal : Prop :=
  True

def algebraic_KernelWXIdeal_ReferenceWXIdeal [hKernelWXIdeal : Cert.KernelWXIdeal.Facts] [hReferenceWXIdeal : Cert.ReferenceWXIdeal.Facts] : Prop :=
  ∀ (m : (ℓ : Loc Cert.KernelWXIdeal.nD Cert.KernelWXIdeal.τ Cert.KernelWXIdeal.sig) → Buf (Elt Ideal) ℓ) (g : Dev Cert.KernelWXIdeal.nD → PrngReg)
    (m' : (ℓ : Loc Cert.ReferenceWXIdeal.nD Cert.ReferenceWXIdeal.τ Cert.ReferenceWXIdeal.sig) → Buf (Elt Ideal) ℓ) (g' : Dev Cert.ReferenceWXIdeal.nD → PrngReg), Pre_KernelWXIdeal m →
    (∀ c : Dev Cert.KernelWXIdeal.nD,
      m' ((c.tc : Thread Cert.ReferenceWXIdeal.nD Cert.ReferenceWXIdeal.τ).loc Cert.ReferenceWXIdeal.main_arg0) = m ((c.tc : Thread Cert.KernelWXIdeal.nD Cert.KernelWXIdeal.τ).loc Cert.KernelWXIdeal.main_arg0)
      ∧ m' ((c.tc : Thread Cert.ReferenceWXIdeal.nD Cert.ReferenceWXIdeal.τ).loc Cert.ReferenceWXIdeal.main_arg1) = m ((c.tc : Thread Cert.KernelWXIdeal.nD Cert.KernelWXIdeal.τ).loc Cert.KernelWXIdeal.main_arg1)
      ∧ m' ((c.tc : Thread Cert.ReferenceWXIdeal.nD Cert.ReferenceWXIdeal.τ).loc Cert.ReferenceWXIdeal.main_arg2) = m ((c.tc : Thread Cert.KernelWXIdeal.nD Cert.KernelWXIdeal.τ).loc Cert.KernelWXIdeal.main_arg2)) →
    ∃ (v0 : (c : Dev Cert.KernelWXIdeal.nD) → Buf (Elt Ideal) ((c.tc : Thread Cert.KernelWXIdeal.nD Cert.KernelWXIdeal.τ).loc Cert.KernelWXIdeal.main_v3)),
      θ_run (Cert.KernelWXIdeal.defs (F := Ideal)) (onTc (τ := Cert.KernelWXIdeal.τ) (Cert.KernelWXIdeal.main (F := Ideal))) ⟨m, fun _ => 0, g⟩ (fun r => ∀ c : Dev Cert.KernelWXIdeal.nD,
          r.2.mem ((c.tc : Thread Cert.KernelWXIdeal.nD Cert.KernelWXIdeal.τ).loc Cert.KernelWXIdeal.main_v3) = v0 c
          ∧ r.2.mem ((c.tc : Thread Cert.KernelWXIdeal.nD Cert.KernelWXIdeal.τ).loc Cert.KernelWXIdeal.main_arg0) = m ((c.tc : Thread Cert.KernelWXIdeal.nD Cert.KernelWXIdeal.τ).loc Cert.KernelWXIdeal.main_arg0)
          ∧ r.2.mem ((c.tc : Thread Cert.KernelWXIdeal.nD Cert.KernelWXIdeal.τ).loc Cert.KernelWXIdeal.main_arg1) = m ((c.tc : Thread Cert.KernelWXIdeal.nD Cert.KernelWXIdeal.τ).loc Cert.KernelWXIdeal.main_arg1)
          ∧ r.2.mem ((c.tc : Thread Cert.KernelWXIdeal.nD Cert.KernelWXIdeal.τ).loc Cert.KernelWXIdeal.main_arg2) = m ((c.tc : Thread Cert.KernelWXIdeal.nD Cert.KernelWXIdeal.τ).loc Cert.KernelWXIdeal.main_arg2))
      ∧ θ_run (Cert.ReferenceWXIdeal.defs (F := Ideal)) (onTc (τ := Cert.ReferenceWXIdeal.τ) (Cert.ReferenceWXIdeal.main (F := Ideal))) ⟨m', fun _ => 0, g'⟩ (fun r => ∀ c : Dev Cert.ReferenceWXIdeal.nD,
          r.2.mem ((c.tc : Thread Cert.ReferenceWXIdeal.nD Cert.ReferenceWXIdeal.τ).loc Cert.ReferenceWXIdeal.main_v9) = v0 c
          ∧ r.2.mem ((c.tc : Thread Cert.ReferenceWXIdeal.nD Cert.ReferenceWXIdeal.τ).loc Cert.ReferenceWXIdeal.main_arg0) = m' ((c.tc : Thread Cert.ReferenceWXIdeal.nD Cert.ReferenceWXIdeal.τ).loc Cert.ReferenceWXIdeal.main_arg0)
          ∧ r.2.mem ((c.tc : Thread Cert.ReferenceWXIdeal.nD Cert.ReferenceWXIdeal.τ).loc Cert.ReferenceWXIdeal.main_arg1) = m' ((c.tc : Thread Cert.ReferenceWXIdeal.nD Cert.ReferenceWXIdeal.τ).loc Cert.ReferenceWXIdeal.main_arg1)
          ∧ r.2.mem ((c.tc : Thread Cert.ReferenceWXIdeal.nD Cert.ReferenceWXIdeal.τ).loc Cert.ReferenceWXIdeal.main_arg2) = m' ((c.tc : Thread Cert.ReferenceWXIdeal.nD Cert.ReferenceWXIdeal.τ).loc Cert.ReferenceWXIdeal.main_arg2))

def preserves_KernelWO_KernelWOIdeal : Prop :=
  True

def algebraic_KernelWOIdeal_ReferenceWOIdeal [hKernelWOIdeal : Cert.KernelWOIdeal.Facts] [hReferenceWOIdeal : Cert.ReferenceWOIdeal.Facts] : Prop :=
  ∀ (m : (ℓ : Loc Cert.KernelWOIdeal.nD Cert.KernelWOIdeal.τ Cert.KernelWOIdeal.sig) → Buf (Elt Ideal) ℓ) (g : Dev Cert.KernelWOIdeal.nD → PrngReg)
    (m' : (ℓ : Loc Cert.ReferenceWOIdeal.nD Cert.ReferenceWOIdeal.τ Cert.ReferenceWOIdeal.sig) → Buf (Elt Ideal) ℓ) (g' : Dev Cert.ReferenceWOIdeal.nD → PrngReg), Pre_KernelWOIdeal m →
    (∀ c : Dev Cert.KernelWOIdeal.nD,
      m' ((c.tc : Thread Cert.ReferenceWOIdeal.nD Cert.ReferenceWOIdeal.τ).loc Cert.ReferenceWOIdeal.main_arg0) = m ((c.tc : Thread Cert.KernelWOIdeal.nD Cert.KernelWOIdeal.τ).loc Cert.KernelWOIdeal.main_arg0)
      ∧ m' ((c.tc : Thread Cert.ReferenceWOIdeal.nD Cert.ReferenceWOIdeal.τ).loc Cert.ReferenceWOIdeal.main_arg1) = m ((c.tc : Thread Cert.KernelWOIdeal.nD Cert.KernelWOIdeal.τ).loc Cert.KernelWOIdeal.main_arg1)) →
    ∃ (v0 : (c : Dev Cert.KernelWOIdeal.nD) → Buf (Elt Ideal) ((c.tc : Thread Cert.KernelWOIdeal.nD Cert.KernelWOIdeal.τ).loc Cert.KernelWOIdeal.main_v2)),
      θ_run (Cert.KernelWOIdeal.defs (F := Ideal)) (onTc (τ := Cert.KernelWOIdeal.τ) (Cert.KernelWOIdeal.main (F := Ideal))) ⟨m, fun _ => 0, g⟩ (fun r => ∀ c : Dev Cert.KernelWOIdeal.nD,
          r.2.mem ((c.tc : Thread Cert.KernelWOIdeal.nD Cert.KernelWOIdeal.τ).loc Cert.KernelWOIdeal.main_v2) = v0 c
          ∧ r.2.mem ((c.tc : Thread Cert.KernelWOIdeal.nD Cert.KernelWOIdeal.τ).loc Cert.KernelWOIdeal.main_arg0) = m ((c.tc : Thread Cert.KernelWOIdeal.nD Cert.KernelWOIdeal.τ).loc Cert.KernelWOIdeal.main_arg0)
          ∧ r.2.mem ((c.tc : Thread Cert.KernelWOIdeal.nD Cert.KernelWOIdeal.τ).loc Cert.KernelWOIdeal.main_arg1) = m ((c.tc : Thread Cert.KernelWOIdeal.nD Cert.KernelWOIdeal.τ).loc Cert.KernelWOIdeal.main_arg1))
      ∧ θ_run (Cert.ReferenceWOIdeal.defs (F := Ideal)) (onTc (τ := Cert.ReferenceWOIdeal.τ) (Cert.ReferenceWOIdeal.main (F := Ideal))) ⟨m', fun _ => 0, g'⟩ (fun r => ∀ c : Dev Cert.ReferenceWOIdeal.nD,
          r.2.mem ((c.tc : Thread Cert.ReferenceWOIdeal.nD Cert.ReferenceWOIdeal.τ).loc Cert.ReferenceWOIdeal.main_v6) = v0 c
          ∧ r.2.mem ((c.tc : Thread Cert.ReferenceWOIdeal.nD Cert.ReferenceWOIdeal.τ).loc Cert.ReferenceWOIdeal.main_arg0) = m' ((c.tc : Thread Cert.ReferenceWOIdeal.nD Cert.ReferenceWOIdeal.τ).loc Cert.ReferenceWOIdeal.main_arg0)
          ∧ r.2.mem ((c.tc : Thread Cert.ReferenceWOIdeal.nD Cert.ReferenceWOIdeal.τ).loc Cert.ReferenceWOIdeal.main_arg1) = m' ((c.tc : Thread Cert.ReferenceWOIdeal.nD Cert.ReferenceWOIdeal.τ).loc Cert.ReferenceWOIdeal.main_arg1))

def preserves_KernelWQ_KernelWQIdeal : Prop :=
  True

def algebraic_KernelWQIdeal_ReferenceWQIdeal [hKernelWQIdeal : Cert.KernelWQIdeal.Facts] [hReferenceWQIdeal : Cert.ReferenceWQIdeal.Facts] : Prop :=
  ∀ (m : (ℓ : Loc Cert.KernelWQIdeal.nD Cert.KernelWQIdeal.τ Cert.KernelWQIdeal.sig) → Buf (Elt Ideal) ℓ) (g : Dev Cert.KernelWQIdeal.nD → PrngReg)
    (m' : (ℓ : Loc Cert.ReferenceWQIdeal.nD Cert.ReferenceWQIdeal.τ Cert.ReferenceWQIdeal.sig) → Buf (Elt Ideal) ℓ) (g' : Dev Cert.ReferenceWQIdeal.nD → PrngReg), Pre_KernelWQIdeal m →
    (∀ c : Dev Cert.KernelWQIdeal.nD,
      m' ((c.tc : Thread Cert.ReferenceWQIdeal.nD Cert.ReferenceWQIdeal.τ).loc Cert.ReferenceWQIdeal.main_arg0) = m ((c.tc : Thread Cert.KernelWQIdeal.nD Cert.KernelWQIdeal.τ).loc Cert.KernelWQIdeal.main_arg0)
      ∧ m' ((c.tc : Thread Cert.ReferenceWQIdeal.nD Cert.ReferenceWQIdeal.τ).loc Cert.ReferenceWQIdeal.main_arg1) = m ((c.tc : Thread Cert.KernelWQIdeal.nD Cert.KernelWQIdeal.τ).loc Cert.KernelWQIdeal.main_arg1)) →
    ∃ (v0 : (c : Dev Cert.KernelWQIdeal.nD) → Buf (Elt Ideal) ((c.tc : Thread Cert.KernelWQIdeal.nD Cert.KernelWQIdeal.τ).loc Cert.KernelWQIdeal.main_v2)),
      θ_run (Cert.KernelWQIdeal.defs (F := Ideal)) (onTc (τ := Cert.KernelWQIdeal.τ) (Cert.KernelWQIdeal.main (F := Ideal))) ⟨m, fun _ => 0, g⟩ (fun r => ∀ c : Dev Cert.KernelWQIdeal.nD,
          r.2.mem ((c.tc : Thread Cert.KernelWQIdeal.nD Cert.KernelWQIdeal.τ).loc Cert.KernelWQIdeal.main_v2) = v0 c
          ∧ r.2.mem ((c.tc : Thread Cert.KernelWQIdeal.nD Cert.KernelWQIdeal.τ).loc Cert.KernelWQIdeal.main_arg0) = m ((c.tc : Thread Cert.KernelWQIdeal.nD Cert.KernelWQIdeal.τ).loc Cert.KernelWQIdeal.main_arg0)
          ∧ r.2.mem ((c.tc : Thread Cert.KernelWQIdeal.nD Cert.KernelWQIdeal.τ).loc Cert.KernelWQIdeal.main_arg1) = m ((c.tc : Thread Cert.KernelWQIdeal.nD Cert.KernelWQIdeal.τ).loc Cert.KernelWQIdeal.main_arg1))
      ∧ θ_run (Cert.ReferenceWQIdeal.defs (F := Ideal)) (onTc (τ := Cert.ReferenceWQIdeal.τ) (Cert.ReferenceWQIdeal.main (F := Ideal))) ⟨m', fun _ => 0, g'⟩ (fun r => ∀ c : Dev Cert.ReferenceWQIdeal.nD,
          r.2.mem ((c.tc : Thread Cert.ReferenceWQIdeal.nD Cert.ReferenceWQIdeal.τ).loc Cert.ReferenceWQIdeal.main_v6) = v0 c
          ∧ r.2.mem ((c.tc : Thread Cert.ReferenceWQIdeal.nD Cert.ReferenceWQIdeal.τ).loc Cert.ReferenceWQIdeal.main_arg0) = m' ((c.tc : Thread Cert.ReferenceWQIdeal.nD Cert.ReferenceWQIdeal.τ).loc Cert.ReferenceWQIdeal.main_arg0)
          ∧ r.2.mem ((c.tc : Thread Cert.ReferenceWQIdeal.nD Cert.ReferenceWQIdeal.τ).loc Cert.ReferenceWQIdeal.main_arg1) = m' ((c.tc : Thread Cert.ReferenceWQIdeal.nD Cert.ReferenceWQIdeal.τ).loc Cert.ReferenceWQIdeal.main_arg1))

def preserves_KernelHQ_KernelHQIdeal : Prop :=
  True

def algebraic_KernelHQIdeal_ReferenceHQIdeal_pre_finite_hq [hKernelHQIdeal : Cert.KernelHQIdeal.Facts] [hReferenceHQIdeal : Cert.ReferenceHQIdeal.Facts] [hPre_finite_hq : Cert.Pre_finite_hq.Facts] : Prop :=
  ∀ (m : (ℓ : Loc Cert.KernelHQIdeal.nD Cert.KernelHQIdeal.τ Cert.KernelHQIdeal.sig) → Buf (Elt Ideal) ℓ) (g : Dev Cert.KernelHQIdeal.nD → PrngReg)
    (m' : (ℓ : Loc Cert.ReferenceHQIdeal.nD Cert.ReferenceHQIdeal.τ Cert.ReferenceHQIdeal.sig) → Buf (Elt Ideal) ℓ) (g' : Dev Cert.ReferenceHQIdeal.nD → PrngReg), Pre_KernelHQIdeal_finite_hq m →
    (∀ c : Dev Cert.KernelHQIdeal.nD,
      m' ((c.tc : Thread Cert.ReferenceHQIdeal.nD Cert.ReferenceHQIdeal.τ).loc Cert.ReferenceHQIdeal.main_arg0) = m ((c.tc : Thread Cert.KernelHQIdeal.nD Cert.KernelHQIdeal.τ).loc Cert.KernelHQIdeal.main_arg0)
      ∧ m' ((c.tc : Thread Cert.ReferenceHQIdeal.nD Cert.ReferenceHQIdeal.τ).loc Cert.ReferenceHQIdeal.main_arg1) = m ((c.tc : Thread Cert.KernelHQIdeal.nD Cert.KernelHQIdeal.τ).loc Cert.KernelHQIdeal.main_arg1)
      ∧ m' ((c.tc : Thread Cert.ReferenceHQIdeal.nD Cert.ReferenceHQIdeal.τ).loc Cert.ReferenceHQIdeal.main_arg2) = m ((c.tc : Thread Cert.KernelHQIdeal.nD Cert.KernelHQIdeal.τ).loc Cert.KernelHQIdeal.main_arg2)
      ∧ m' ((c.tc : Thread Cert.ReferenceHQIdeal.nD Cert.ReferenceHQIdeal.τ).loc Cert.ReferenceHQIdeal.main_arg3) = m ((c.tc : Thread Cert.KernelHQIdeal.nD Cert.KernelHQIdeal.τ).loc Cert.KernelHQIdeal.main_arg3)
      ∧ m' ((c.tc : Thread Cert.ReferenceHQIdeal.nD Cert.ReferenceHQIdeal.τ).loc Cert.ReferenceHQIdeal.main_arg4) = m ((c.tc : Thread Cert.KernelHQIdeal.nD Cert.KernelHQIdeal.τ).loc Cert.KernelHQIdeal.main_arg4)) →
    ∃ (v0 : (c : Dev Cert.KernelHQIdeal.nD) → Buf (Elt Ideal) ((c.tc : Thread Cert.KernelHQIdeal.nD Cert.KernelHQIdeal.τ).loc Cert.KernelHQIdeal.main_v2_0)) (v1 : (c : Dev Cert.KernelHQIdeal.nD) → Buf (Elt Ideal) ((c.tc : Thread Cert.KernelHQIdeal.nD Cert.KernelHQIdeal.τ).loc Cert.KernelHQIdeal.main_v2_1)) (v2 : (c : Dev Cert.KernelHQIdeal.nD) → Buf (Elt Ideal) ((c.tc : Thread Cert.KernelHQIdeal.nD Cert.KernelHQIdeal.τ).loc Cert.KernelHQIdeal.main_v2_2)),
      θ_run (Cert.KernelHQIdeal.defs (F := Ideal)) (onTc (τ := Cert.KernelHQIdeal.τ) (Cert.KernelHQIdeal.main (F := Ideal))) ⟨m, fun _ => 0, g⟩ (fun r => ∀ c : Dev Cert.KernelHQIdeal.nD,
          r.2.mem ((c.tc : Thread Cert.KernelHQIdeal.nD Cert.KernelHQIdeal.τ).loc Cert.KernelHQIdeal.main_v2_0) = v0 c
          ∧ r.2.mem ((c.tc : Thread Cert.KernelHQIdeal.nD Cert.KernelHQIdeal.τ).loc Cert.KernelHQIdeal.main_v2_1) = v1 c
          ∧ r.2.mem ((c.tc : Thread Cert.KernelHQIdeal.nD Cert.KernelHQIdeal.τ).loc Cert.KernelHQIdeal.main_v2_2) = v2 c
          ∧ r.2.mem ((c.tc : Thread Cert.KernelHQIdeal.nD Cert.KernelHQIdeal.τ).loc Cert.KernelHQIdeal.main_arg0) = m ((c.tc : Thread Cert.KernelHQIdeal.nD Cert.KernelHQIdeal.τ).loc Cert.KernelHQIdeal.main_arg0)
          ∧ r.2.mem ((c.tc : Thread Cert.KernelHQIdeal.nD Cert.KernelHQIdeal.τ).loc Cert.KernelHQIdeal.main_arg1) = m ((c.tc : Thread Cert.KernelHQIdeal.nD Cert.KernelHQIdeal.τ).loc Cert.KernelHQIdeal.main_arg1)
          ∧ r.2.mem ((c.tc : Thread Cert.KernelHQIdeal.nD Cert.KernelHQIdeal.τ).loc Cert.KernelHQIdeal.main_arg2) = m ((c.tc : Thread Cert.KernelHQIdeal.nD Cert.KernelHQIdeal.τ).loc Cert.KernelHQIdeal.main_arg2)
          ∧ r.2.mem ((c.tc : Thread Cert.KernelHQIdeal.nD Cert.KernelHQIdeal.τ).loc Cert.KernelHQIdeal.main_arg3) = m ((c.tc : Thread Cert.KernelHQIdeal.nD Cert.KernelHQIdeal.τ).loc Cert.KernelHQIdeal.main_arg3)
          ∧ r.2.mem ((c.tc : Thread Cert.KernelHQIdeal.nD Cert.KernelHQIdeal.τ).loc Cert.KernelHQIdeal.main_arg4) = m ((c.tc : Thread Cert.KernelHQIdeal.nD Cert.KernelHQIdeal.τ).loc Cert.KernelHQIdeal.main_arg4))
      ∧ θ_run (Cert.ReferenceHQIdeal.defs (F := Ideal)) (onTc (τ := Cert.ReferenceHQIdeal.τ) (Cert.ReferenceHQIdeal.main (F := Ideal))) ⟨m', fun _ => 0, g'⟩ (fun r => ∀ c : Dev Cert.ReferenceHQIdeal.nD,
          r.2.mem ((c.tc : Thread Cert.ReferenceHQIdeal.nD Cert.ReferenceHQIdeal.τ).loc Cert.ReferenceHQIdeal.main_v38) = v0 c
          ∧ r.2.mem ((c.tc : Thread Cert.ReferenceHQIdeal.nD Cert.ReferenceHQIdeal.τ).loc Cert.ReferenceHQIdeal.main_v21) = v1 c
          ∧ r.2.mem ((c.tc : Thread Cert.ReferenceHQIdeal.nD Cert.ReferenceHQIdeal.τ).loc Cert.ReferenceHQIdeal.main_v39) = v2 c
          ∧ r.2.mem ((c.tc : Thread Cert.ReferenceHQIdeal.nD Cert.ReferenceHQIdeal.τ).loc Cert.ReferenceHQIdeal.main_arg0) = m' ((c.tc : Thread Cert.ReferenceHQIdeal.nD Cert.ReferenceHQIdeal.τ).loc Cert.ReferenceHQIdeal.main_arg0)
          ∧ r.2.mem ((c.tc : Thread Cert.ReferenceHQIdeal.nD Cert.ReferenceHQIdeal.τ).loc Cert.ReferenceHQIdeal.main_arg1) = m' ((c.tc : Thread Cert.ReferenceHQIdeal.nD Cert.ReferenceHQIdeal.τ).loc Cert.ReferenceHQIdeal.main_arg1)
          ∧ r.2.mem ((c.tc : Thread Cert.ReferenceHQIdeal.nD Cert.ReferenceHQIdeal.τ).loc Cert.ReferenceHQIdeal.main_arg2) = m' ((c.tc : Thread Cert.ReferenceHQIdeal.nD Cert.ReferenceHQIdeal.τ).loc Cert.ReferenceHQIdeal.main_arg2)
          ∧ r.2.mem ((c.tc : Thread Cert.ReferenceHQIdeal.nD Cert.ReferenceHQIdeal.τ).loc Cert.ReferenceHQIdeal.main_arg3) = m' ((c.tc : Thread Cert.ReferenceHQIdeal.nD Cert.ReferenceHQIdeal.τ).loc Cert.ReferenceHQIdeal.main_arg3)
          ∧ r.2.mem ((c.tc : Thread Cert.ReferenceHQIdeal.nD Cert.ReferenceHQIdeal.τ).loc Cert.ReferenceHQIdeal.main_arg4) = m' ((c.tc : Thread Cert.ReferenceHQIdeal.nD Cert.ReferenceHQIdeal.τ).loc Cert.ReferenceHQIdeal.main_arg4))

def preserves_KernelHZ_KernelHZIdeal : Prop :=
  True

def algebraic_KernelHZIdeal_ReferenceHZIdeal_pre_finite_hz [hKernelHZIdeal : Cert.KernelHZIdeal.Facts] [hReferenceHZIdeal : Cert.ReferenceHZIdeal.Facts] [hPre_finite_hz : Cert.Pre_finite_hz.Facts] : Prop :=
  ∀ (m : (ℓ : Loc Cert.KernelHZIdeal.nD Cert.KernelHZIdeal.τ Cert.KernelHZIdeal.sig) → Buf (Elt Ideal) ℓ) (g : Dev Cert.KernelHZIdeal.nD → PrngReg)
    (m' : (ℓ : Loc Cert.ReferenceHZIdeal.nD Cert.ReferenceHZIdeal.τ Cert.ReferenceHZIdeal.sig) → Buf (Elt Ideal) ℓ) (g' : Dev Cert.ReferenceHZIdeal.nD → PrngReg), Pre_KernelHZIdeal_finite_hz m →
    (∀ c : Dev Cert.KernelHZIdeal.nD,
      m' ((c.tc : Thread Cert.ReferenceHZIdeal.nD Cert.ReferenceHZIdeal.τ).loc Cert.ReferenceHZIdeal.main_arg0) = m ((c.tc : Thread Cert.KernelHZIdeal.nD Cert.KernelHZIdeal.τ).loc Cert.KernelHZIdeal.main_arg0)
      ∧ m' ((c.tc : Thread Cert.ReferenceHZIdeal.nD Cert.ReferenceHZIdeal.τ).loc Cert.ReferenceHZIdeal.main_arg1) = m ((c.tc : Thread Cert.KernelHZIdeal.nD Cert.KernelHZIdeal.τ).loc Cert.KernelHZIdeal.main_arg1)
      ∧ m' ((c.tc : Thread Cert.ReferenceHZIdeal.nD Cert.ReferenceHZIdeal.τ).loc Cert.ReferenceHZIdeal.main_arg2) = m ((c.tc : Thread Cert.KernelHZIdeal.nD Cert.KernelHZIdeal.τ).loc Cert.KernelHZIdeal.main_arg2)
      ∧ m' ((c.tc : Thread Cert.ReferenceHZIdeal.nD Cert.ReferenceHZIdeal.τ).loc Cert.ReferenceHZIdeal.main_arg3) = m ((c.tc : Thread Cert.KernelHZIdeal.nD Cert.KernelHZIdeal.τ).loc Cert.KernelHZIdeal.main_arg3)
      ∧ m' ((c.tc : Thread Cert.ReferenceHZIdeal.nD Cert.ReferenceHZIdeal.τ).loc Cert.ReferenceHZIdeal.main_arg4) = m ((c.tc : Thread Cert.KernelHZIdeal.nD Cert.KernelHZIdeal.τ).loc Cert.KernelHZIdeal.main_arg4)) →
    ∃ (v0 : (c : Dev Cert.KernelHZIdeal.nD) → Buf (Elt Ideal) ((c.tc : Thread Cert.KernelHZIdeal.nD Cert.KernelHZIdeal.τ).loc Cert.KernelHZIdeal.main_v2_0)) (v1 : (c : Dev Cert.KernelHZIdeal.nD) → Buf (Elt Ideal) ((c.tc : Thread Cert.KernelHZIdeal.nD Cert.KernelHZIdeal.τ).loc Cert.KernelHZIdeal.main_v2_1)) (v2 : (c : Dev Cert.KernelHZIdeal.nD) → Buf (Elt Ideal) ((c.tc : Thread Cert.KernelHZIdeal.nD Cert.KernelHZIdeal.τ).loc Cert.KernelHZIdeal.main_v2_2)),
      θ_run (Cert.KernelHZIdeal.defs (F := Ideal)) (onTc (τ := Cert.KernelHZIdeal.τ) (Cert.KernelHZIdeal.main (F := Ideal))) ⟨m, fun _ => 0, g⟩ (fun r => ∀ c : Dev Cert.KernelHZIdeal.nD,
          r.2.mem ((c.tc : Thread Cert.KernelHZIdeal.nD Cert.KernelHZIdeal.τ).loc Cert.KernelHZIdeal.main_v2_0) = v0 c
          ∧ r.2.mem ((c.tc : Thread Cert.KernelHZIdeal.nD Cert.KernelHZIdeal.τ).loc Cert.KernelHZIdeal.main_v2_1) = v1 c
          ∧ r.2.mem ((c.tc : Thread Cert.KernelHZIdeal.nD Cert.KernelHZIdeal.τ).loc Cert.KernelHZIdeal.main_v2_2) = v2 c
          ∧ r.2.mem ((c.tc : Thread Cert.KernelHZIdeal.nD Cert.KernelHZIdeal.τ).loc Cert.KernelHZIdeal.main_arg0) = m ((c.tc : Thread Cert.KernelHZIdeal.nD Cert.KernelHZIdeal.τ).loc Cert.KernelHZIdeal.main_arg0)
          ∧ r.2.mem ((c.tc : Thread Cert.KernelHZIdeal.nD Cert.KernelHZIdeal.τ).loc Cert.KernelHZIdeal.main_arg1) = m ((c.tc : Thread Cert.KernelHZIdeal.nD Cert.KernelHZIdeal.τ).loc Cert.KernelHZIdeal.main_arg1)
          ∧ r.2.mem ((c.tc : Thread Cert.KernelHZIdeal.nD Cert.KernelHZIdeal.τ).loc Cert.KernelHZIdeal.main_arg2) = m ((c.tc : Thread Cert.KernelHZIdeal.nD Cert.KernelHZIdeal.τ).loc Cert.KernelHZIdeal.main_arg2)
          ∧ r.2.mem ((c.tc : Thread Cert.KernelHZIdeal.nD Cert.KernelHZIdeal.τ).loc Cert.KernelHZIdeal.main_arg3) = m ((c.tc : Thread Cert.KernelHZIdeal.nD Cert.KernelHZIdeal.τ).loc Cert.KernelHZIdeal.main_arg3)
          ∧ r.2.mem ((c.tc : Thread Cert.KernelHZIdeal.nD Cert.KernelHZIdeal.τ).loc Cert.KernelHZIdeal.main_arg4) = m ((c.tc : Thread Cert.KernelHZIdeal.nD Cert.KernelHZIdeal.τ).loc Cert.KernelHZIdeal.main_arg4))
      ∧ θ_run (Cert.ReferenceHZIdeal.defs (F := Ideal)) (onTc (τ := Cert.ReferenceHZIdeal.τ) (Cert.ReferenceHZIdeal.main (F := Ideal))) ⟨m', fun _ => 0, g'⟩ (fun r => ∀ c : Dev Cert.ReferenceHZIdeal.nD,
          r.2.mem ((c.tc : Thread Cert.ReferenceHZIdeal.nD Cert.ReferenceHZIdeal.τ).loc Cert.ReferenceHZIdeal.main_v37) = v0 c
          ∧ r.2.mem ((c.tc : Thread Cert.ReferenceHZIdeal.nD Cert.ReferenceHZIdeal.τ).loc Cert.ReferenceHZIdeal.main_v20) = v1 c
          ∧ r.2.mem ((c.tc : Thread Cert.ReferenceHZIdeal.nD Cert.ReferenceHZIdeal.τ).loc Cert.ReferenceHZIdeal.main_v38) = v2 c
          ∧ r.2.mem ((c.tc : Thread Cert.ReferenceHZIdeal.nD Cert.ReferenceHZIdeal.τ).loc Cert.ReferenceHZIdeal.main_arg0) = m' ((c.tc : Thread Cert.ReferenceHZIdeal.nD Cert.ReferenceHZIdeal.τ).loc Cert.ReferenceHZIdeal.main_arg0)
          ∧ r.2.mem ((c.tc : Thread Cert.ReferenceHZIdeal.nD Cert.ReferenceHZIdeal.τ).loc Cert.ReferenceHZIdeal.main_arg1) = m' ((c.tc : Thread Cert.ReferenceHZIdeal.nD Cert.ReferenceHZIdeal.τ).loc Cert.ReferenceHZIdeal.main_arg1)
          ∧ r.2.mem ((c.tc : Thread Cert.ReferenceHZIdeal.nD Cert.ReferenceHZIdeal.τ).loc Cert.ReferenceHZIdeal.main_arg2) = m' ((c.tc : Thread Cert.ReferenceHZIdeal.nD Cert.ReferenceHZIdeal.τ).loc Cert.ReferenceHZIdeal.main_arg2)
          ∧ r.2.mem ((c.tc : Thread Cert.ReferenceHZIdeal.nD Cert.ReferenceHZIdeal.τ).loc Cert.ReferenceHZIdeal.main_arg3) = m' ((c.tc : Thread Cert.ReferenceHZIdeal.nD Cert.ReferenceHZIdeal.τ).loc Cert.ReferenceHZIdeal.main_arg3)
          ∧ r.2.mem ((c.tc : Thread Cert.ReferenceHZIdeal.nD Cert.ReferenceHZIdeal.τ).loc Cert.ReferenceHZIdeal.main_arg4) = m' ((c.tc : Thread Cert.ReferenceHZIdeal.nD Cert.ReferenceHZIdeal.τ).loc Cert.ReferenceHZIdeal.main_arg4))

def preserves_KernelXQ_KernelXQIdeal : Prop :=
  True

def algebraic_KernelXQIdeal_ReferenceXQIdeal [hKernelXQIdeal : Cert.KernelXQIdeal.Facts] [hReferenceXQIdeal : Cert.ReferenceXQIdeal.Facts] : Prop :=
  ∀ (m : (ℓ : Loc Cert.KernelXQIdeal.nD Cert.KernelXQIdeal.τ Cert.KernelXQIdeal.sig) → Buf (Elt Ideal) ℓ) (g : Dev Cert.KernelXQIdeal.nD → PrngReg)
    (m' : (ℓ : Loc Cert.ReferenceXQIdeal.nD Cert.ReferenceXQIdeal.τ Cert.ReferenceXQIdeal.sig) → Buf (Elt Ideal) ℓ) (g' : Dev Cert.ReferenceXQIdeal.nD → PrngReg), Pre_KernelXQIdeal m →
    (∀ c : Dev Cert.KernelXQIdeal.nD,
      m' ((c.tc : Thread Cert.ReferenceXQIdeal.nD Cert.ReferenceXQIdeal.τ).loc Cert.ReferenceXQIdeal.main_arg0) = m ((c.tc : Thread Cert.KernelXQIdeal.nD Cert.KernelXQIdeal.τ).loc Cert.KernelXQIdeal.main_arg0)
      ∧ m' ((c.tc : Thread Cert.ReferenceXQIdeal.nD Cert.ReferenceXQIdeal.τ).loc Cert.ReferenceXQIdeal.main_arg1) = m ((c.tc : Thread Cert.KernelXQIdeal.nD Cert.KernelXQIdeal.τ).loc Cert.KernelXQIdeal.main_arg1)) →
    ∃ (v0 : (c : Dev Cert.KernelXQIdeal.nD) → Buf (Elt Ideal) ((c.tc : Thread Cert.KernelXQIdeal.nD Cert.KernelXQIdeal.τ).loc Cert.KernelXQIdeal.main_v2)),
      θ_run (Cert.KernelXQIdeal.defs (F := Ideal)) (onTc (τ := Cert.KernelXQIdeal.τ) (Cert.KernelXQIdeal.main (F := Ideal))) ⟨m, fun _ => 0, g⟩ (fun r => ∀ c : Dev Cert.KernelXQIdeal.nD,
          r.2.mem ((c.tc : Thread Cert.KernelXQIdeal.nD Cert.KernelXQIdeal.τ).loc Cert.KernelXQIdeal.main_v2) = v0 c
          ∧ r.2.mem ((c.tc : Thread Cert.KernelXQIdeal.nD Cert.KernelXQIdeal.τ).loc Cert.KernelXQIdeal.main_arg0) = m ((c.tc : Thread Cert.KernelXQIdeal.nD Cert.KernelXQIdeal.τ).loc Cert.KernelXQIdeal.main_arg0)
          ∧ r.2.mem ((c.tc : Thread Cert.KernelXQIdeal.nD Cert.KernelXQIdeal.τ).loc Cert.KernelXQIdeal.main_arg1) = m ((c.tc : Thread Cert.KernelXQIdeal.nD Cert.KernelXQIdeal.τ).loc Cert.KernelXQIdeal.main_arg1))
      ∧ θ_run (Cert.ReferenceXQIdeal.defs (F := Ideal)) (onTc (τ := Cert.ReferenceXQIdeal.τ) (Cert.ReferenceXQIdeal.main (F := Ideal))) ⟨m', fun _ => 0, g'⟩ (fun r => ∀ c : Dev Cert.ReferenceXQIdeal.nD,
          r.2.mem ((c.tc : Thread Cert.ReferenceXQIdeal.nD Cert.ReferenceXQIdeal.τ).loc Cert.ReferenceXQIdeal.main_v5) = v0 c
          ∧ r.2.mem ((c.tc : Thread Cert.ReferenceXQIdeal.nD Cert.ReferenceXQIdeal.τ).loc Cert.ReferenceXQIdeal.main_arg0) = m' ((c.tc : Thread Cert.ReferenceXQIdeal.nD Cert.ReferenceXQIdeal.τ).loc Cert.ReferenceXQIdeal.main_arg0)
          ∧ r.2.mem ((c.tc : Thread Cert.ReferenceXQIdeal.nD Cert.ReferenceXQIdeal.τ).loc Cert.ReferenceXQIdeal.main_arg1) = m' ((c.tc : Thread Cert.ReferenceXQIdeal.nD Cert.ReferenceXQIdeal.τ).loc Cert.ReferenceXQIdeal.main_arg1))

def preserves_KernelQK_KernelQKIdeal : Prop :=
  True

def algebraic_KernelQKIdeal_ReferenceQKIdeal [hKernelQKIdeal : Cert.KernelQKIdeal.Facts] [hReferenceQKIdeal : Cert.ReferenceQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg)
    (m' : (ℓ : Loc Cert.ReferenceQKIdeal.nD Cert.ReferenceQKIdeal.τ Cert.ReferenceQKIdeal.sig) → Buf (Elt Ideal) ℓ) (g' : Dev Cert.ReferenceQKIdeal.nD → PrngReg), Pre_KernelQKIdeal m →
    (∀ c : Dev Cert.KernelQKIdeal.nD,
      m' ((c.tc : Thread Cert.ReferenceQKIdeal.nD Cert.ReferenceQKIdeal.τ).loc Cert.ReferenceQKIdeal.main_arg0) = m ((c.tc : Thread Cert.KernelQKIdeal.nD Cert.KernelQKIdeal.τ).loc Cert.KernelQKIdeal.main_arg0)
      ∧ m' ((c.tc : Thread Cert.ReferenceQKIdeal.nD Cert.ReferenceQKIdeal.τ).loc Cert.ReferenceQKIdeal.main_arg1) = m ((c.tc : Thread Cert.KernelQKIdeal.nD Cert.KernelQKIdeal.τ).loc Cert.KernelQKIdeal.main_arg1)) →
    ∃ (v0 : (c : Dev Cert.KernelQKIdeal.nD) → Buf (Elt Ideal) ((c.tc : Thread Cert.KernelQKIdeal.nD Cert.KernelQKIdeal.τ).loc Cert.KernelQKIdeal.main_v2)),
      θ_run (Cert.KernelQKIdeal.defs (F := Ideal)) (onTc (τ := Cert.KernelQKIdeal.τ) (Cert.KernelQKIdeal.main (F := Ideal))) ⟨m, fun _ => 0, g⟩ (fun r => ∀ c : Dev Cert.KernelQKIdeal.nD,
          r.2.mem ((c.tc : Thread Cert.KernelQKIdeal.nD Cert.KernelQKIdeal.τ).loc Cert.KernelQKIdeal.main_v2) = v0 c
          ∧ r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
          ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1))
      ∧ θ_run (Cert.ReferenceQKIdeal.defs (F := Ideal)) (onTc (τ := Cert.ReferenceQKIdeal.τ) (Cert.ReferenceQKIdeal.main (F := Ideal))) ⟨m', fun _ => 0, g'⟩ (fun r => ∀ c : Dev Cert.ReferenceQKIdeal.nD,
          r.2.mem ((c.tc : Thread Cert.ReferenceQKIdeal.nD Cert.ReferenceQKIdeal.τ).loc Cert.ReferenceQKIdeal.main_v1) = v0 c
          ∧ r.2.mem ((c.tc : Thread Cert.ReferenceQKIdeal.nD Cert.ReferenceQKIdeal.τ).loc Cert.ReferenceQKIdeal.main_arg0) = m' ((c.tc : Thread Cert.ReferenceQKIdeal.nD Cert.ReferenceQKIdeal.τ).loc Cert.ReferenceQKIdeal.main_arg0)
          ∧ r.2.mem ((c.tc : Thread Cert.ReferenceQKIdeal.nD Cert.ReferenceQKIdeal.τ).loc Cert.ReferenceQKIdeal.main_arg1) = m' ((c.tc : Thread Cert.ReferenceQKIdeal.nD Cert.ReferenceQKIdeal.τ).loc Cert.ReferenceQKIdeal.main_arg1))

def preserves_KernelXO_KernelXOIdeal : Prop :=
  True

def algebraic_KernelXOIdeal_ReferenceXOIdeal [hKernelXOIdeal : Cert.KernelXOIdeal.Facts] [hReferenceXOIdeal : Cert.ReferenceXOIdeal.Facts] : Prop :=
  ∀ (m : (ℓ : Loc Cert.KernelXOIdeal.nD Cert.KernelXOIdeal.τ Cert.KernelXOIdeal.sig) → Buf (Elt Ideal) ℓ) (g : Dev Cert.KernelXOIdeal.nD → PrngReg)
    (m' : (ℓ : Loc Cert.ReferenceXOIdeal.nD Cert.ReferenceXOIdeal.τ Cert.ReferenceXOIdeal.sig) → Buf (Elt Ideal) ℓ) (g' : Dev Cert.ReferenceXOIdeal.nD → PrngReg), Pre_KernelXOIdeal m →
    (∀ c : Dev Cert.KernelXOIdeal.nD,
      m' ((c.tc : Thread Cert.ReferenceXOIdeal.nD Cert.ReferenceXOIdeal.τ).loc Cert.ReferenceXOIdeal.main_arg0) = m ((c.tc : Thread Cert.KernelXOIdeal.nD Cert.KernelXOIdeal.τ).loc Cert.KernelXOIdeal.main_arg0)
      ∧ m' ((c.tc : Thread Cert.ReferenceXOIdeal.nD Cert.ReferenceXOIdeal.τ).loc Cert.ReferenceXOIdeal.main_arg1) = m ((c.tc : Thread Cert.KernelXOIdeal.nD Cert.KernelXOIdeal.τ).loc Cert.KernelXOIdeal.main_arg1)
      ∧ m' ((c.tc : Thread Cert.ReferenceXOIdeal.nD Cert.ReferenceXOIdeal.τ).loc Cert.ReferenceXOIdeal.main_arg2) = m ((c.tc : Thread Cert.KernelXOIdeal.nD Cert.KernelXOIdeal.τ).loc Cert.KernelXOIdeal.main_arg2)
      ∧ m' ((c.tc : Thread Cert.ReferenceXOIdeal.nD Cert.ReferenceXOIdeal.τ).loc Cert.ReferenceXOIdeal.main_arg3) = m ((c.tc : Thread Cert.KernelXOIdeal.nD Cert.KernelXOIdeal.τ).loc Cert.KernelXOIdeal.main_arg3)) →
    ∃ (v0 : (c : Dev Cert.KernelXOIdeal.nD) → Buf (Elt Ideal) ((c.tc : Thread Cert.KernelXOIdeal.nD Cert.KernelXOIdeal.τ).loc Cert.KernelXOIdeal.main_v2_0)) (v1 : (c : Dev Cert.KernelXOIdeal.nD) → Buf (Elt Ideal) ((c.tc : Thread Cert.KernelXOIdeal.nD Cert.KernelXOIdeal.τ).loc Cert.KernelXOIdeal.main_v2_1)),
      θ_run (Cert.KernelXOIdeal.defs (F := Ideal)) (onTc (τ := Cert.KernelXOIdeal.τ) (Cert.KernelXOIdeal.main (F := Ideal))) ⟨m, fun _ => 0, g⟩ (fun r => ∀ c : Dev Cert.KernelXOIdeal.nD,
          r.2.mem ((c.tc : Thread Cert.KernelXOIdeal.nD Cert.KernelXOIdeal.τ).loc Cert.KernelXOIdeal.main_v2_0) = v0 c
          ∧ r.2.mem ((c.tc : Thread Cert.KernelXOIdeal.nD Cert.KernelXOIdeal.τ).loc Cert.KernelXOIdeal.main_v2_1) = v1 c
          ∧ r.2.mem ((c.tc : Thread Cert.KernelXOIdeal.nD Cert.KernelXOIdeal.τ).loc Cert.KernelXOIdeal.main_arg0) = m ((c.tc : Thread Cert.KernelXOIdeal.nD Cert.KernelXOIdeal.τ).loc Cert.KernelXOIdeal.main_arg0)
          ∧ r.2.mem ((c.tc : Thread Cert.KernelXOIdeal.nD Cert.KernelXOIdeal.τ).loc Cert.KernelXOIdeal.main_arg1) = m ((c.tc : Thread Cert.KernelXOIdeal.nD Cert.KernelXOIdeal.τ).loc Cert.KernelXOIdeal.main_arg1)
          ∧ r.2.mem ((c.tc : Thread Cert.KernelXOIdeal.nD Cert.KernelXOIdeal.τ).loc Cert.KernelXOIdeal.main_arg2) = m ((c.tc : Thread Cert.KernelXOIdeal.nD Cert.KernelXOIdeal.τ).loc Cert.KernelXOIdeal.main_arg2)
          ∧ r.2.mem ((c.tc : Thread Cert.KernelXOIdeal.nD Cert.KernelXOIdeal.τ).loc Cert.KernelXOIdeal.main_arg3) = m ((c.tc : Thread Cert.KernelXOIdeal.nD Cert.KernelXOIdeal.τ).loc Cert.KernelXOIdeal.main_arg3))
      ∧ θ_run (Cert.ReferenceXOIdeal.defs (F := Ideal)) (onTc (τ := Cert.ReferenceXOIdeal.τ) (Cert.ReferenceXOIdeal.main (F := Ideal))) ⟨m', fun _ => 0, g'⟩ (fun r => ∀ c : Dev Cert.ReferenceXOIdeal.nD,
          r.2.mem ((c.tc : Thread Cert.ReferenceXOIdeal.nD Cert.ReferenceXOIdeal.τ).loc Cert.ReferenceXOIdeal.main_v3) = v0 c
          ∧ r.2.mem ((c.tc : Thread Cert.ReferenceXOIdeal.nD Cert.ReferenceXOIdeal.τ).loc Cert.ReferenceXOIdeal.main_v16) = v1 c
          ∧ r.2.mem ((c.tc : Thread Cert.ReferenceXOIdeal.nD Cert.ReferenceXOIdeal.τ).loc Cert.ReferenceXOIdeal.main_arg0) = m' ((c.tc : Thread Cert.ReferenceXOIdeal.nD Cert.ReferenceXOIdeal.τ).loc Cert.ReferenceXOIdeal.main_arg0)
          ∧ r.2.mem ((c.tc : Thread Cert.ReferenceXOIdeal.nD Cert.ReferenceXOIdeal.τ).loc Cert.ReferenceXOIdeal.main_arg1) = m' ((c.tc : Thread Cert.ReferenceXOIdeal.nD Cert.ReferenceXOIdeal.τ).loc Cert.ReferenceXOIdeal.main_arg1)
          ∧ r.2.mem ((c.tc : Thread Cert.ReferenceXOIdeal.nD Cert.ReferenceXOIdeal.τ).loc Cert.ReferenceXOIdeal.main_arg2) = m' ((c.tc : Thread Cert.ReferenceXOIdeal.nD Cert.ReferenceXOIdeal.τ).loc Cert.ReferenceXOIdeal.main_arg2)
          ∧ r.2.mem ((c.tc : Thread Cert.ReferenceXOIdeal.nD Cert.ReferenceXOIdeal.τ).loc Cert.ReferenceXOIdeal.main_arg3) = m' ((c.tc : Thread Cert.ReferenceXOIdeal.nD Cert.ReferenceXOIdeal.τ).loc Cert.ReferenceXOIdeal.main_arg3))

def preserves_KernelAO_KernelAOIdeal : Prop :=
  True

def algebraic_KernelAOIdeal_ReferenceAOIdeal [hKernelAOIdeal : Cert.KernelAOIdeal.Facts] [hReferenceAOIdeal : Cert.ReferenceAOIdeal.Facts] : Prop :=
  ∀ (m : (ℓ : Loc Cert.KernelAOIdeal.nD Cert.KernelAOIdeal.τ Cert.KernelAOIdeal.sig) → Buf (Elt Ideal) ℓ) (g : Dev Cert.KernelAOIdeal.nD → PrngReg)
    (m' : (ℓ : Loc Cert.ReferenceAOIdeal.nD Cert.ReferenceAOIdeal.τ Cert.ReferenceAOIdeal.sig) → Buf (Elt Ideal) ℓ) (g' : Dev Cert.ReferenceAOIdeal.nD → PrngReg), Pre_KernelAOIdeal m →
    (∀ c : Dev Cert.KernelAOIdeal.nD,
      m' ((c.tc : Thread Cert.ReferenceAOIdeal.nD Cert.ReferenceAOIdeal.τ).loc Cert.ReferenceAOIdeal.main_arg0) = m ((c.tc : Thread Cert.KernelAOIdeal.nD Cert.KernelAOIdeal.τ).loc Cert.KernelAOIdeal.main_arg0)
      ∧ m' ((c.tc : Thread Cert.ReferenceAOIdeal.nD Cert.ReferenceAOIdeal.τ).loc Cert.ReferenceAOIdeal.main_arg1) = m ((c.tc : Thread Cert.KernelAOIdeal.nD Cert.KernelAOIdeal.τ).loc Cert.KernelAOIdeal.main_arg1)
      ∧ m' ((c.tc : Thread Cert.ReferenceAOIdeal.nD Cert.ReferenceAOIdeal.τ).loc Cert.ReferenceAOIdeal.main_arg2) = m ((c.tc : Thread Cert.KernelAOIdeal.nD Cert.KernelAOIdeal.τ).loc Cert.KernelAOIdeal.main_arg2)
      ∧ m' ((c.tc : Thread Cert.ReferenceAOIdeal.nD Cert.ReferenceAOIdeal.τ).loc Cert.ReferenceAOIdeal.main_arg3) = m ((c.tc : Thread Cert.KernelAOIdeal.nD Cert.KernelAOIdeal.τ).loc Cert.KernelAOIdeal.main_arg3)) →
    ∃ (v0 : (c : Dev Cert.KernelAOIdeal.nD) → Buf (Elt Ideal) ((c.tc : Thread Cert.KernelAOIdeal.nD Cert.KernelAOIdeal.τ).loc Cert.KernelAOIdeal.main_v2_0)) (v1 : (c : Dev Cert.KernelAOIdeal.nD) → Buf (Elt Ideal) ((c.tc : Thread Cert.KernelAOIdeal.nD Cert.KernelAOIdeal.τ).loc Cert.KernelAOIdeal.main_v2_1)),
      θ_run (Cert.KernelAOIdeal.defs (F := Ideal)) (onTc (τ := Cert.KernelAOIdeal.τ) (Cert.KernelAOIdeal.main (F := Ideal))) ⟨m, fun _ => 0, g⟩ (fun r => ∀ c : Dev Cert.KernelAOIdeal.nD,
          r.2.mem ((c.tc : Thread Cert.KernelAOIdeal.nD Cert.KernelAOIdeal.τ).loc Cert.KernelAOIdeal.main_v2_0) = v0 c
          ∧ r.2.mem ((c.tc : Thread Cert.KernelAOIdeal.nD Cert.KernelAOIdeal.τ).loc Cert.KernelAOIdeal.main_v2_1) = v1 c
          ∧ r.2.mem ((c.tc : Thread Cert.KernelAOIdeal.nD Cert.KernelAOIdeal.τ).loc Cert.KernelAOIdeal.main_arg0) = m ((c.tc : Thread Cert.KernelAOIdeal.nD Cert.KernelAOIdeal.τ).loc Cert.KernelAOIdeal.main_arg0)
          ∧ r.2.mem ((c.tc : Thread Cert.KernelAOIdeal.nD Cert.KernelAOIdeal.τ).loc Cert.KernelAOIdeal.main_arg1) = m ((c.tc : Thread Cert.KernelAOIdeal.nD Cert.KernelAOIdeal.τ).loc Cert.KernelAOIdeal.main_arg1)
          ∧ r.2.mem ((c.tc : Thread Cert.KernelAOIdeal.nD Cert.KernelAOIdeal.τ).loc Cert.KernelAOIdeal.main_arg2) = m ((c.tc : Thread Cert.KernelAOIdeal.nD Cert.KernelAOIdeal.τ).loc Cert.KernelAOIdeal.main_arg2)
          ∧ r.2.mem ((c.tc : Thread Cert.KernelAOIdeal.nD Cert.KernelAOIdeal.τ).loc Cert.KernelAOIdeal.main_arg3) = m ((c.tc : Thread Cert.KernelAOIdeal.nD Cert.KernelAOIdeal.τ).loc Cert.KernelAOIdeal.main_arg3))
      ∧ θ_run (Cert.ReferenceAOIdeal.defs (F := Ideal)) (onTc (τ := Cert.ReferenceAOIdeal.τ) (Cert.ReferenceAOIdeal.main (F := Ideal))) ⟨m', fun _ => 0, g'⟩ (fun r => ∀ c : Dev Cert.ReferenceAOIdeal.nD,
          r.2.mem ((c.tc : Thread Cert.ReferenceAOIdeal.nD Cert.ReferenceAOIdeal.τ).loc Cert.ReferenceAOIdeal.main_v2) = v0 c
          ∧ r.2.mem ((c.tc : Thread Cert.ReferenceAOIdeal.nD Cert.ReferenceAOIdeal.τ).loc Cert.ReferenceAOIdeal.main_v15) = v1 c
          ∧ r.2.mem ((c.tc : Thread Cert.ReferenceAOIdeal.nD Cert.ReferenceAOIdeal.τ).loc Cert.ReferenceAOIdeal.main_arg0) = m' ((c.tc : Thread Cert.ReferenceAOIdeal.nD Cert.ReferenceAOIdeal.τ).loc Cert.ReferenceAOIdeal.main_arg0)
          ∧ r.2.mem ((c.tc : Thread Cert.ReferenceAOIdeal.nD Cert.ReferenceAOIdeal.τ).loc Cert.ReferenceAOIdeal.main_arg1) = m' ((c.tc : Thread Cert.ReferenceAOIdeal.nD Cert.ReferenceAOIdeal.τ).loc Cert.ReferenceAOIdeal.main_arg1)
          ∧ r.2.mem ((c.tc : Thread Cert.ReferenceAOIdeal.nD Cert.ReferenceAOIdeal.τ).loc Cert.ReferenceAOIdeal.main_arg2) = m' ((c.tc : Thread Cert.ReferenceAOIdeal.nD Cert.ReferenceAOIdeal.τ).loc Cert.ReferenceAOIdeal.main_arg2)
          ∧ r.2.mem ((c.tc : Thread Cert.ReferenceAOIdeal.nD Cert.ReferenceAOIdeal.τ).loc Cert.ReferenceAOIdeal.main_arg3) = m' ((c.tc : Thread Cert.ReferenceAOIdeal.nD Cert.ReferenceAOIdeal.τ).loc Cert.ReferenceAOIdeal.main_arg3))

def preserves_KernelKV_KernelKVIdeal : Prop :=
  True

def algebraic_KernelKVIdeal_ReferenceKVIdeal [hKernelKVIdeal : Cert.KernelKVIdeal.Facts] [hReferenceKVIdeal : Cert.ReferenceKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg)
    (m' : (ℓ : Loc Cert.ReferenceKVIdeal.nD Cert.ReferenceKVIdeal.τ Cert.ReferenceKVIdeal.sig) → Buf (Elt Ideal) ℓ) (g' : Dev Cert.ReferenceKVIdeal.nD → PrngReg), Pre_KernelKVIdeal m →
    (∀ c : Dev Cert.KernelKVIdeal.nD,
      m' ((c.tc : Thread Cert.ReferenceKVIdeal.nD Cert.ReferenceKVIdeal.τ).loc Cert.ReferenceKVIdeal.main_arg0) = m ((c.tc : Thread Cert.KernelKVIdeal.nD Cert.KernelKVIdeal.τ).loc Cert.KernelKVIdeal.main_arg0)
      ∧ m' ((c.tc : Thread Cert.ReferenceKVIdeal.nD Cert.ReferenceKVIdeal.τ).loc Cert.ReferenceKVIdeal.main_arg1) = m ((c.tc : Thread Cert.KernelKVIdeal.nD Cert.KernelKVIdeal.τ).loc Cert.KernelKVIdeal.main_arg1)) →
    ∃ (v0 : (c : Dev Cert.KernelKVIdeal.nD) → Buf (Elt Ideal) ((c.tc : Thread Cert.KernelKVIdeal.nD Cert.KernelKVIdeal.τ).loc Cert.KernelKVIdeal.main_v2)),
      θ_run (Cert.KernelKVIdeal.defs (F := Ideal)) (onTc (τ := Cert.KernelKVIdeal.τ) (Cert.KernelKVIdeal.main (F := Ideal))) ⟨m, fun _ => 0, g⟩ (fun r => ∀ c : Dev Cert.KernelKVIdeal.nD,
          r.2.mem ((c.tc : Thread Cert.KernelKVIdeal.nD Cert.KernelKVIdeal.τ).loc Cert.KernelKVIdeal.main_v2) = v0 c
          ∧ r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
          ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ θ_run (Cert.ReferenceKVIdeal.defs (F := Ideal)) (onTc (τ := Cert.ReferenceKVIdeal.τ) (Cert.ReferenceKVIdeal.main (F := Ideal))) ⟨m', fun _ => 0, g'⟩ (fun r => ∀ c : Dev Cert.ReferenceKVIdeal.nD,
          r.2.mem ((c.tc : Thread Cert.ReferenceKVIdeal.nD Cert.ReferenceKVIdeal.τ).loc Cert.ReferenceKVIdeal.main_v3) = v0 c
          ∧ r.2.mem ((c.tc : Thread Cert.ReferenceKVIdeal.nD Cert.ReferenceKVIdeal.τ).loc Cert.ReferenceKVIdeal.main_arg0) = m' ((c.tc : Thread Cert.ReferenceKVIdeal.nD Cert.ReferenceKVIdeal.τ).loc Cert.ReferenceKVIdeal.main_arg0)
          ∧ r.2.mem ((c.tc : Thread Cert.ReferenceKVIdeal.nD Cert.ReferenceKVIdeal.τ).loc Cert.ReferenceKVIdeal.main_arg1) = m' ((c.tc : Thread Cert.ReferenceKVIdeal.nD Cert.ReferenceKVIdeal.τ).loc Cert.ReferenceKVIdeal.main_arg1))

def preserves_KernelFF_KernelFFIdeal : Prop :=
  IdealRules.named_const.Statement Cert.KernelFFIdeal.κ "neg" .f32 0xF149F2CA#32 ⊥
  ∧ IdealRules.named_const.Statement Cert.KernelFFIdeal.κ "log2e" .f32 0x3FB8AA3B#32 (((Real.log 2)⁻¹ : ℝ) : EReal)

def algebraic_KernelFFIdeal_ReferenceFFIdeal_pre_finite_ff [hKernelFFIdeal : Cert.KernelFFIdeal.Facts] [hReferenceFFIdeal : Cert.ReferenceFFIdeal.Facts] [hPre_finite_ff : Cert.Pre_finite_ff.Facts] : Prop :=
  ∀ (m : (ℓ : Loc Cert.KernelFFIdeal.nD Cert.KernelFFIdeal.τ Cert.KernelFFIdeal.sig) → Buf (Elt Ideal) ℓ) (g : Dev Cert.KernelFFIdeal.nD → PrngReg)
    (m' : (ℓ : Loc Cert.ReferenceFFIdeal.nD Cert.ReferenceFFIdeal.τ Cert.ReferenceFFIdeal.sig) → Buf (Elt Ideal) ℓ) (g' : Dev Cert.ReferenceFFIdeal.nD → PrngReg), Pre_KernelFFIdeal_finite_ff m →
    (∀ c : Dev Cert.KernelFFIdeal.nD,
      m' ((c.tc : Thread Cert.ReferenceFFIdeal.nD Cert.ReferenceFFIdeal.τ).loc Cert.ReferenceFFIdeal.main_arg0) = m ((c.tc : Thread Cert.KernelFFIdeal.nD Cert.KernelFFIdeal.τ).loc Cert.KernelFFIdeal.main_arg0)
      ∧ m' ((c.tc : Thread Cert.ReferenceFFIdeal.nD Cert.ReferenceFFIdeal.τ).loc Cert.ReferenceFFIdeal.main_arg1) = m ((c.tc : Thread Cert.KernelFFIdeal.nD Cert.KernelFFIdeal.τ).loc Cert.KernelFFIdeal.main_arg1)
      ∧ m' ((c.tc : Thread Cert.ReferenceFFIdeal.nD Cert.ReferenceFFIdeal.τ).loc Cert.ReferenceFFIdeal.main_arg2) = m ((c.tc : Thread Cert.KernelFFIdeal.nD Cert.KernelFFIdeal.τ).loc Cert.KernelFFIdeal.main_arg2)) →
    ∃ (v0 : (c : Dev Cert.KernelFFIdeal.nD) → Buf (Elt Ideal) ((c.tc : Thread Cert.KernelFFIdeal.nD Cert.KernelFFIdeal.τ).loc Cert.KernelFFIdeal.main_v15_0)) (v1 : (c : Dev Cert.KernelFFIdeal.nD) → Buf (Elt Ideal) ((c.tc : Thread Cert.KernelFFIdeal.nD Cert.KernelFFIdeal.τ).loc Cert.KernelFFIdeal.main_v15_1)),
      θ_run (Cert.KernelFFIdeal.defs (F := Ideal)) (onTc (τ := Cert.KernelFFIdeal.τ) (Cert.KernelFFIdeal.main (F := Ideal))) ⟨m, fun _ => 0, g⟩ (fun r => ∀ c : Dev Cert.KernelFFIdeal.nD,
          r.2.mem ((c.tc : Thread Cert.KernelFFIdeal.nD Cert.KernelFFIdeal.τ).loc Cert.KernelFFIdeal.main_v15_0) = v0 c
          ∧ r.2.mem ((c.tc : Thread Cert.KernelFFIdeal.nD Cert.KernelFFIdeal.τ).loc Cert.KernelFFIdeal.main_v15_1) = v1 c
          ∧ r.2.mem ((c.tc : Thread Cert.KernelFFIdeal.nD Cert.KernelFFIdeal.τ).loc Cert.KernelFFIdeal.main_arg0) = m ((c.tc : Thread Cert.KernelFFIdeal.nD Cert.KernelFFIdeal.τ).loc Cert.KernelFFIdeal.main_arg0)
          ∧ r.2.mem ((c.tc : Thread Cert.KernelFFIdeal.nD Cert.KernelFFIdeal.τ).loc Cert.KernelFFIdeal.main_arg1) = m ((c.tc : Thread Cert.KernelFFIdeal.nD Cert.KernelFFIdeal.τ).loc Cert.KernelFFIdeal.main_arg1)
          ∧ r.2.mem ((c.tc : Thread Cert.KernelFFIdeal.nD Cert.KernelFFIdeal.τ).loc Cert.KernelFFIdeal.main_arg2) = m ((c.tc : Thread Cert.KernelFFIdeal.nD Cert.KernelFFIdeal.τ).loc Cert.KernelFFIdeal.main_arg2))
      ∧ θ_run (Cert.ReferenceFFIdeal.defs (F := Ideal)) (onTc (τ := Cert.ReferenceFFIdeal.τ) (Cert.ReferenceFFIdeal.main (F := Ideal))) ⟨m', fun _ => 0, g'⟩ (fun r => ∀ c : Dev Cert.ReferenceFFIdeal.nD,
          r.2.mem ((c.tc : Thread Cert.ReferenceFFIdeal.nD Cert.ReferenceFFIdeal.τ).loc Cert.ReferenceFFIdeal.main_v38) = v0 c
          ∧ r.2.mem ((c.tc : Thread Cert.ReferenceFFIdeal.nD Cert.ReferenceFFIdeal.τ).loc Cert.ReferenceFFIdeal.main_v40) = v1 c
          ∧ r.2.mem ((c.tc : Thread Cert.ReferenceFFIdeal.nD Cert.ReferenceFFIdeal.τ).loc Cert.ReferenceFFIdeal.main_arg0) = m' ((c.tc : Thread Cert.ReferenceFFIdeal.nD Cert.ReferenceFFIdeal.τ).loc Cert.ReferenceFFIdeal.main_arg0)
          ∧ r.2.mem ((c.tc : Thread Cert.ReferenceFFIdeal.nD Cert.ReferenceFFIdeal.τ).loc Cert.ReferenceFFIdeal.main_arg1) = m' ((c.tc : Thread Cert.ReferenceFFIdeal.nD Cert.ReferenceFFIdeal.τ).loc Cert.ReferenceFFIdeal.main_arg1)
          ∧ r.2.mem ((c.tc : Thread Cert.ReferenceFFIdeal.nD Cert.ReferenceFFIdeal.τ).loc Cert.ReferenceFFIdeal.main_arg2) = m' ((c.tc : Thread Cert.ReferenceFFIdeal.nD Cert.ReferenceFFIdeal.τ).loc Cert.ReferenceFFIdeal.main_arg2))

def preserves_KernelXF_KernelXFIdeal : Prop :=
  True

def algebraic_KernelXFIdeal_ReferenceXFIdeal [hKernelXFIdeal : Cert.KernelXFIdeal.Facts] [hReferenceXFIdeal : Cert.ReferenceXFIdeal.Facts] : Prop :=
  ∀ (m : (ℓ : Loc Cert.KernelXFIdeal.nD Cert.KernelXFIdeal.τ Cert.KernelXFIdeal.sig) → Buf (Elt Ideal) ℓ) (g : Dev Cert.KernelXFIdeal.nD → PrngReg)
    (m' : (ℓ : Loc Cert.ReferenceXFIdeal.nD Cert.ReferenceXFIdeal.τ Cert.ReferenceXFIdeal.sig) → Buf (Elt Ideal) ℓ) (g' : Dev Cert.ReferenceXFIdeal.nD → PrngReg), Pre_KernelXFIdeal m →
    (∀ c : Dev Cert.KernelXFIdeal.nD,
      m' ((c.tc : Thread Cert.ReferenceXFIdeal.nD Cert.ReferenceXFIdeal.τ).loc Cert.ReferenceXFIdeal.main_arg0) = m ((c.tc : Thread Cert.KernelXFIdeal.nD Cert.KernelXFIdeal.τ).loc Cert.KernelXFIdeal.main_arg0)
      ∧ m' ((c.tc : Thread Cert.ReferenceXFIdeal.nD Cert.ReferenceXFIdeal.τ).loc Cert.ReferenceXFIdeal.main_arg1) = m ((c.tc : Thread Cert.KernelXFIdeal.nD Cert.KernelXFIdeal.τ).loc Cert.KernelXFIdeal.main_arg1)) →
    ∃ (v0 : (c : Dev Cert.KernelXFIdeal.nD) → Buf (Elt Ideal) ((c.tc : Thread Cert.KernelXFIdeal.nD Cert.KernelXFIdeal.τ).loc Cert.KernelXFIdeal.main_v4)),
      θ_run (Cert.KernelXFIdeal.defs (F := Ideal)) (onTc (τ := Cert.KernelXFIdeal.τ) (Cert.KernelXFIdeal.main (F := Ideal))) ⟨m, fun _ => 0, g⟩ (fun r => ∀ c : Dev Cert.KernelXFIdeal.nD,
          r.2.mem ((c.tc : Thread Cert.KernelXFIdeal.nD Cert.KernelXFIdeal.τ).loc Cert.KernelXFIdeal.main_v4) = v0 c
          ∧ r.2.mem ((c.tc : Thread Cert.KernelXFIdeal.nD Cert.KernelXFIdeal.τ).loc Cert.KernelXFIdeal.main_arg0) = m ((c.tc : Thread Cert.KernelXFIdeal.nD Cert.KernelXFIdeal.τ).loc Cert.KernelXFIdeal.main_arg0)
          ∧ r.2.mem ((c.tc : Thread Cert.KernelXFIdeal.nD Cert.KernelXFIdeal.τ).loc Cert.KernelXFIdeal.main_arg1) = m ((c.tc : Thread Cert.KernelXFIdeal.nD Cert.KernelXFIdeal.τ).loc Cert.KernelXFIdeal.main_arg1))
      ∧ θ_run (Cert.ReferenceXFIdeal.defs (F := Ideal)) (onTc (τ := Cert.ReferenceXFIdeal.τ) (Cert.ReferenceXFIdeal.main (F := Ideal))) ⟨m', fun _ => 0, g'⟩ (fun r => ∀ c : Dev Cert.ReferenceXFIdeal.nD,
          r.2.mem ((c.tc : Thread Cert.ReferenceXFIdeal.nD Cert.ReferenceXFIdeal.τ).loc Cert.ReferenceXFIdeal.main_v22) = v0 c
          ∧ r.2.mem ((c.tc : Thread Cert.ReferenceXFIdeal.nD Cert.ReferenceXFIdeal.τ).loc Cert.ReferenceXFIdeal.main_arg0) = m' ((c.tc : Thread Cert.ReferenceXFIdeal.nD Cert.ReferenceXFIdeal.τ).loc Cert.ReferenceXFIdeal.main_arg0)
          ∧ r.2.mem ((c.tc : Thread Cert.ReferenceXFIdeal.nD Cert.ReferenceXFIdeal.τ).loc Cert.ReferenceXFIdeal.main_arg1) = m' ((c.tc : Thread Cert.ReferenceXFIdeal.nD Cert.ReferenceXFIdeal.τ).loc Cert.ReferenceXFIdeal.main_arg1))

def Claim : Prop :=
  ∃ (hKernelX : Cert.KernelX.Facts) (hKernelXIdeal : Cert.KernelXIdeal.Facts) (hReferenceXIdeal : Cert.ReferenceXIdeal.Facts) (hKernelF : Cert.KernelF.Facts) (hKernelFIdeal : Cert.KernelFIdeal.Facts) (hReferenceFIdeal : Cert.ReferenceFIdeal.Facts) (hKernelA : Cert.KernelA.Facts) (hKernelAIdeal : Cert.KernelAIdeal.Facts) (hReferenceAIdeal : Cert.ReferenceAIdeal.Facts) (hKernelW : Cert.KernelW.Facts) (hKernelWIdeal : Cert.KernelWIdeal.Facts) (hReferenceWIdeal : Cert.ReferenceWIdeal.Facts) (hKernelG : Cert.KernelG.Facts) (hKernelGIdeal : Cert.KernelGIdeal.Facts) (hReferenceGIdeal : Cert.ReferenceGIdeal.Facts) (hKernelH : Cert.KernelH.Facts) (hKernelHIdeal : Cert.KernelHIdeal.Facts) (hReferenceHIdeal : Cert.ReferenceHIdeal.Facts) (hKernelE : Cert.KernelE.Facts) (hKernelEIdeal : Cert.KernelEIdeal.Facts) (hReferenceEIdeal : Cert.ReferenceEIdeal.Facts) (hKernelV : Cert.KernelV.Facts) (hKernelVIdeal : Cert.KernelVIdeal.Facts) (hReferenceVIdeal : Cert.ReferenceVIdeal.Facts) (hKernelUG : Cert.KernelUG.Facts) (hKernelUGIdeal : Cert.KernelUGIdeal.Facts) (hReferenceUGIdeal : Cert.ReferenceUGIdeal.Facts) (hKernelUV : Cert.KernelUV.Facts) (hKernelUVIdeal : Cert.KernelUVIdeal.Facts) (hReferenceUVIdeal : Cert.ReferenceUVIdeal.Facts) (hKernelDN : Cert.KernelDN.Facts) (hKernelDNIdeal : Cert.KernelDNIdeal.Facts) (hReferenceDNIdeal : Cert.ReferenceDNIdeal.Facts) (hKernelDL : Cert.KernelDL.Facts) (hKernelDLIdeal : Cert.KernelDLIdeal.Facts) (hReferenceDLIdeal : Cert.ReferenceDLIdeal.Facts) (hKernelDX : Cert.KernelDX.Facts) (hKernelDXIdeal : Cert.KernelDXIdeal.Facts) (hReferenceDXIdeal : Cert.ReferenceDXIdeal.Facts) (hKernelDO : Cert.KernelDO.Facts) (hKernelDOIdeal : Cert.KernelDOIdeal.Facts) (hReferenceDOIdeal : Cert.ReferenceDOIdeal.Facts) (hKernelWX : Cert.KernelWX.Facts) (hKernelWXIdeal : Cert.KernelWXIdeal.Facts) (hReferenceWXIdeal : Cert.ReferenceWXIdeal.Facts) (hKernelWO : Cert.KernelWO.Facts) (hKernelWOIdeal : Cert.KernelWOIdeal.Facts) (hReferenceWOIdeal : Cert.ReferenceWOIdeal.Facts) (hKernelWQ : Cert.KernelWQ.Facts) (hKernelWQIdeal : Cert.KernelWQIdeal.Facts) (hReferenceWQIdeal : Cert.ReferenceWQIdeal.Facts) (hKernelHQ : Cert.KernelHQ.Facts) (hKernelHQIdeal : Cert.KernelHQIdeal.Facts) (hReferenceHQIdeal : Cert.ReferenceHQIdeal.Facts) (hKernelHZ : Cert.KernelHZ.Facts) (hKernelHZIdeal : Cert.KernelHZIdeal.Facts) (hReferenceHZIdeal : Cert.ReferenceHZIdeal.Facts) (hKernelXQ : Cert.KernelXQ.Facts) (hKernelXQIdeal : Cert.KernelXQIdeal.Facts) (hReferenceXQIdeal : Cert.ReferenceXQIdeal.Facts) (hKernelQK : Cert.KernelQK.Facts) (hKernelQKIdeal : Cert.KernelQKIdeal.Facts) (hReferenceQKIdeal : Cert.ReferenceQKIdeal.Facts) (hKernelXO : Cert.KernelXO.Facts) (hKernelXOIdeal : Cert.KernelXOIdeal.Facts) (hReferenceXOIdeal : Cert.ReferenceXOIdeal.Facts) (hKernelAO : Cert.KernelAO.Facts) (hKernelAOIdeal : Cert.KernelAOIdeal.Facts) (hReferenceAOIdeal : Cert.ReferenceAOIdeal.Facts) (hKernelKV : Cert.KernelKV.Facts) (hKernelKVIdeal : Cert.KernelKVIdeal.Facts) (hReferenceKVIdeal : Cert.ReferenceKVIdeal.Facts) (hKernelFF : Cert.KernelFF.Facts) (hKernelFFIdeal : Cert.KernelFFIdeal.Facts) (hReferenceFFIdeal : Cert.ReferenceFFIdeal.Facts) (hKernelXF : Cert.KernelXF.Facts) (hKernelXFIdeal : Cert.KernelXFIdeal.Facts) (hReferenceXFIdeal : Cert.ReferenceXFIdeal.Facts) (hPre_finite_x : Cert.Pre_finite_x.Facts) (hPre_finite_f : Cert.Pre_finite_f.Facts) (hPre_finite_v : Cert.Pre_finite_v.Facts) (hPre_finite_hq : Cert.Pre_finite_hq.Facts) (hPre_finite_hz : Cert.Pre_finite_hz.Facts) (hPre_finite_ff : Cert.Pre_finite_ff.Facts),
    quiescent_KernelX (hKernelX := hKernelX)
    ∧ quiescent_KernelXIdeal (hKernelXIdeal := hKernelXIdeal)
    ∧ quiescent_KernelXIdeal_pre_finite_x (hKernelXIdeal := hKernelXIdeal) (hPre_finite_x := hPre_finite_x)
    ∧ quiescent_ReferenceXIdeal (hReferenceXIdeal := hReferenceXIdeal)
    ∧ quiescent_ReferenceXIdeal_pre_finite_x (hReferenceXIdeal := hReferenceXIdeal) (hPre_finite_x := hPre_finite_x)
    ∧ quiescent_KernelF (hKernelF := hKernelF)
    ∧ quiescent_KernelFIdeal (hKernelFIdeal := hKernelFIdeal)
    ∧ quiescent_KernelFIdeal_pre_finite_f (hKernelFIdeal := hKernelFIdeal) (hPre_finite_f := hPre_finite_f)
    ∧ quiescent_ReferenceFIdeal (hReferenceFIdeal := hReferenceFIdeal)
    ∧ quiescent_ReferenceFIdeal_pre_finite_f (hReferenceFIdeal := hReferenceFIdeal) (hPre_finite_f := hPre_finite_f)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelE (hKernelE := hKernelE)
    ∧ quiescent_KernelEIdeal (hKernelEIdeal := hKernelEIdeal)
    ∧ quiescent_ReferenceEIdeal (hReferenceEIdeal := hReferenceEIdeal)
    ∧ quiescent_KernelV (hKernelV := hKernelV)
    ∧ quiescent_KernelVIdeal (hKernelVIdeal := hKernelVIdeal)
    ∧ quiescent_KernelVIdeal_pre_finite_v (hKernelVIdeal := hKernelVIdeal) (hPre_finite_v := hPre_finite_v)
    ∧ quiescent_ReferenceVIdeal (hReferenceVIdeal := hReferenceVIdeal)
    ∧ quiescent_ReferenceVIdeal_pre_finite_v (hReferenceVIdeal := hReferenceVIdeal) (hPre_finite_v := hPre_finite_v)
    ∧ quiescent_KernelUG (hKernelUG := hKernelUG)
    ∧ quiescent_KernelUGIdeal (hKernelUGIdeal := hKernelUGIdeal)
    ∧ quiescent_ReferenceUGIdeal (hReferenceUGIdeal := hReferenceUGIdeal)
    ∧ quiescent_KernelUV (hKernelUV := hKernelUV)
    ∧ quiescent_KernelUVIdeal (hKernelUVIdeal := hKernelUVIdeal)
    ∧ quiescent_ReferenceUVIdeal (hReferenceUVIdeal := hReferenceUVIdeal)
    ∧ quiescent_KernelDN (hKernelDN := hKernelDN)
    ∧ quiescent_KernelDNIdeal (hKernelDNIdeal := hKernelDNIdeal)
    ∧ quiescent_ReferenceDNIdeal (hReferenceDNIdeal := hReferenceDNIdeal)
    ∧ quiescent_KernelDL (hKernelDL := hKernelDL)
    ∧ quiescent_KernelDLIdeal (hKernelDLIdeal := hKernelDLIdeal)
    ∧ quiescent_ReferenceDLIdeal (hReferenceDLIdeal := hReferenceDLIdeal)
    ∧ quiescent_KernelDX (hKernelDX := hKernelDX)
    ∧ quiescent_KernelDXIdeal (hKernelDXIdeal := hKernelDXIdeal)
    ∧ quiescent_ReferenceDXIdeal (hReferenceDXIdeal := hReferenceDXIdeal)
    ∧ quiescent_KernelDO (hKernelDO := hKernelDO)
    ∧ quiescent_KernelDOIdeal (hKernelDOIdeal := hKernelDOIdeal)
    ∧ quiescent_ReferenceDOIdeal (hReferenceDOIdeal := hReferenceDOIdeal)
    ∧ quiescent_KernelWX (hKernelWX := hKernelWX)
    ∧ quiescent_KernelWXIdeal (hKernelWXIdeal := hKernelWXIdeal)
    ∧ quiescent_ReferenceWXIdeal (hReferenceWXIdeal := hReferenceWXIdeal)
    ∧ quiescent_KernelWO (hKernelWO := hKernelWO)
    ∧ quiescent_KernelWOIdeal (hKernelWOIdeal := hKernelWOIdeal)
    ∧ quiescent_ReferenceWOIdeal (hReferenceWOIdeal := hReferenceWOIdeal)
    ∧ quiescent_KernelWQ (hKernelWQ := hKernelWQ)
    ∧ quiescent_KernelWQIdeal (hKernelWQIdeal := hKernelWQIdeal)
    ∧ quiescent_ReferenceWQIdeal (hReferenceWQIdeal := hReferenceWQIdeal)
    ∧ quiescent_KernelHQ (hKernelHQ := hKernelHQ)
    ∧ quiescent_KernelHQIdeal (hKernelHQIdeal := hKernelHQIdeal)
    ∧ quiescent_KernelHQIdeal_pre_finite_hq (hKernelHQIdeal := hKernelHQIdeal) (hPre_finite_hq := hPre_finite_hq)
    ∧ quiescent_ReferenceHQIdeal (hReferenceHQIdeal := hReferenceHQIdeal)
    ∧ quiescent_ReferenceHQIdeal_pre_finite_hq (hReferenceHQIdeal := hReferenceHQIdeal) (hPre_finite_hq := hPre_finite_hq)
    ∧ quiescent_KernelHZ (hKernelHZ := hKernelHZ)
    ∧ quiescent_KernelHZIdeal (hKernelHZIdeal := hKernelHZIdeal)
    ∧ quiescent_KernelHZIdeal_pre_finite_hz (hKernelHZIdeal := hKernelHZIdeal) (hPre_finite_hz := hPre_finite_hz)
    ∧ quiescent_ReferenceHZIdeal (hReferenceHZIdeal := hReferenceHZIdeal)
    ∧ quiescent_ReferenceHZIdeal_pre_finite_hz (hReferenceHZIdeal := hReferenceHZIdeal) (hPre_finite_hz := hPre_finite_hz)
    ∧ quiescent_KernelXQ (hKernelXQ := hKernelXQ)
    ∧ quiescent_KernelXQIdeal (hKernelXQIdeal := hKernelXQIdeal)
    ∧ quiescent_ReferenceXQIdeal (hReferenceXQIdeal := hReferenceXQIdeal)
    ∧ quiescent_KernelQK (hKernelQK := hKernelQK)
    ∧ quiescent_KernelQKIdeal (hKernelQKIdeal := hKernelQKIdeal)
    ∧ quiescent_ReferenceQKIdeal (hReferenceQKIdeal := hReferenceQKIdeal)
    ∧ quiescent_KernelXO (hKernelXO := hKernelXO)
    ∧ quiescent_KernelXOIdeal (hKernelXOIdeal := hKernelXOIdeal)
    ∧ quiescent_ReferenceXOIdeal (hReferenceXOIdeal := hReferenceXOIdeal)
    ∧ quiescent_KernelAO (hKernelAO := hKernelAO)
    ∧ quiescent_KernelAOIdeal (hKernelAOIdeal := hKernelAOIdeal)
    ∧ quiescent_ReferenceAOIdeal (hReferenceAOIdeal := hReferenceAOIdeal)
    ∧ quiescent_KernelKV (hKernelKV := hKernelKV)
    ∧ quiescent_KernelKVIdeal (hKernelKVIdeal := hKernelKVIdeal)
    ∧ quiescent_ReferenceKVIdeal (hReferenceKVIdeal := hReferenceKVIdeal)
    ∧ quiescent_KernelFF (hKernelFF := hKernelFF)
    ∧ quiescent_KernelFFIdeal (hKernelFFIdeal := hKernelFFIdeal)
    ∧ quiescent_KernelFFIdeal_pre_finite_ff (hKernelFFIdeal := hKernelFFIdeal) (hPre_finite_ff := hPre_finite_ff)
    ∧ quiescent_ReferenceFFIdeal (hReferenceFFIdeal := hReferenceFFIdeal)
    ∧ quiescent_ReferenceFFIdeal_pre_finite_ff (hReferenceFFIdeal := hReferenceFFIdeal) (hPre_finite_ff := hPre_finite_ff)
    ∧ quiescent_KernelXF (hKernelXF := hKernelXF)
    ∧ quiescent_KernelXFIdeal (hKernelXFIdeal := hKernelXFIdeal)
    ∧ quiescent_ReferenceXFIdeal (hReferenceXFIdeal := hReferenceXFIdeal)
    ∧ preserves_KernelX_KernelXIdeal
    ∧ algebraic_KernelXIdeal_ReferenceXIdeal_pre_finite_x (hKernelXIdeal := hKernelXIdeal) (hReferenceXIdeal := hReferenceXIdeal) (hPre_finite_x := hPre_finite_x)
    ∧ preserves_KernelF_KernelFIdeal
    ∧ algebraic_KernelFIdeal_ReferenceFIdeal_pre_finite_f (hKernelFIdeal := hKernelFIdeal) (hReferenceFIdeal := hReferenceFIdeal) (hPre_finite_f := hPre_finite_f)
    ∧ preserves_KernelA_KernelAIdeal
    ∧ algebraic_KernelAIdeal_ReferenceAIdeal (hKernelAIdeal := hKernelAIdeal) (hReferenceAIdeal := hReferenceAIdeal)
    ∧ preserves_KernelW_KernelWIdeal
    ∧ algebraic_KernelWIdeal_ReferenceWIdeal (hKernelWIdeal := hKernelWIdeal) (hReferenceWIdeal := hReferenceWIdeal)
    ∧ preserves_KernelG_KernelGIdeal
    ∧ algebraic_KernelGIdeal_ReferenceGIdeal (hKernelGIdeal := hKernelGIdeal) (hReferenceGIdeal := hReferenceGIdeal)
    ∧ preserves_KernelH_KernelHIdeal
    ∧ algebraic_KernelHIdeal_ReferenceHIdeal (hKernelHIdeal := hKernelHIdeal) (hReferenceHIdeal := hReferenceHIdeal)
    ∧ preserves_KernelE_KernelEIdeal
    ∧ algebraic_KernelEIdeal_ReferenceEIdeal (hKernelEIdeal := hKernelEIdeal) (hReferenceEIdeal := hReferenceEIdeal)
    ∧ preserves_KernelV_KernelVIdeal
    ∧ algebraic_KernelVIdeal_ReferenceVIdeal_pre_finite_v (hKernelVIdeal := hKernelVIdeal) (hReferenceVIdeal := hReferenceVIdeal) (hPre_finite_v := hPre_finite_v)
    ∧ preserves_KernelUG_KernelUGIdeal
    ∧ algebraic_KernelUGIdeal_ReferenceUGIdeal (hKernelUGIdeal := hKernelUGIdeal) (hReferenceUGIdeal := hReferenceUGIdeal)
    ∧ preserves_KernelUV_KernelUVIdeal
    ∧ algebraic_KernelUVIdeal_ReferenceUVIdeal (hKernelUVIdeal := hKernelUVIdeal) (hReferenceUVIdeal := hReferenceUVIdeal)
    ∧ preserves_KernelDN_KernelDNIdeal
    ∧ algebraic_KernelDNIdeal_ReferenceDNIdeal (hKernelDNIdeal := hKernelDNIdeal) (hReferenceDNIdeal := hReferenceDNIdeal)
    ∧ preserves_KernelDL_KernelDLIdeal
    ∧ algebraic_KernelDLIdeal_ReferenceDLIdeal (hKernelDLIdeal := hKernelDLIdeal) (hReferenceDLIdeal := hReferenceDLIdeal)
    ∧ preserves_KernelDX_KernelDXIdeal
    ∧ algebraic_KernelDXIdeal_ReferenceDXIdeal (hKernelDXIdeal := hKernelDXIdeal) (hReferenceDXIdeal := hReferenceDXIdeal)
    ∧ preserves_KernelDO_KernelDOIdeal
    ∧ algebraic_KernelDOIdeal_ReferenceDOIdeal (hKernelDOIdeal := hKernelDOIdeal) (hReferenceDOIdeal := hReferenceDOIdeal)
    ∧ preserves_KernelWX_KernelWXIdeal
    ∧ algebraic_KernelWXIdeal_ReferenceWXIdeal (hKernelWXIdeal := hKernelWXIdeal) (hReferenceWXIdeal := hReferenceWXIdeal)
    ∧ preserves_KernelWO_KernelWOIdeal
    ∧ algebraic_KernelWOIdeal_ReferenceWOIdeal (hKernelWOIdeal := hKernelWOIdeal) (hReferenceWOIdeal := hReferenceWOIdeal)
    ∧ preserves_KernelWQ_KernelWQIdeal
    ∧ algebraic_KernelWQIdeal_ReferenceWQIdeal (hKernelWQIdeal := hKernelWQIdeal) (hReferenceWQIdeal := hReferenceWQIdeal)
    ∧ preserves_KernelHQ_KernelHQIdeal
    ∧ algebraic_KernelHQIdeal_ReferenceHQIdeal_pre_finite_hq (hKernelHQIdeal := hKernelHQIdeal) (hReferenceHQIdeal := hReferenceHQIdeal) (hPre_finite_hq := hPre_finite_hq)
    ∧ preserves_KernelHZ_KernelHZIdeal
    ∧ algebraic_KernelHZIdeal_ReferenceHZIdeal_pre_finite_hz (hKernelHZIdeal := hKernelHZIdeal) (hReferenceHZIdeal := hReferenceHZIdeal) (hPre_finite_hz := hPre_finite_hz)
    ∧ preserves_KernelXQ_KernelXQIdeal
    ∧ algebraic_KernelXQIdeal_ReferenceXQIdeal (hKernelXQIdeal := hKernelXQIdeal) (hReferenceXQIdeal := hReferenceXQIdeal)
    ∧ preserves_KernelQK_KernelQKIdeal
    ∧ algebraic_KernelQKIdeal_ReferenceQKIdeal (hKernelQKIdeal := hKernelQKIdeal) (hReferenceQKIdeal := hReferenceQKIdeal)
    ∧ preserves_KernelXO_KernelXOIdeal
    ∧ algebraic_KernelXOIdeal_ReferenceXOIdeal (hKernelXOIdeal := hKernelXOIdeal) (hReferenceXOIdeal := hReferenceXOIdeal)
    ∧ preserves_KernelAO_KernelAOIdeal
    ∧ algebraic_KernelAOIdeal_ReferenceAOIdeal (hKernelAOIdeal := hKernelAOIdeal) (hReferenceAOIdeal := hReferenceAOIdeal)
    ∧ preserves_KernelKV_KernelKVIdeal
    ∧ algebraic_KernelKVIdeal_ReferenceKVIdeal (hKernelKVIdeal := hKernelKVIdeal) (hReferenceKVIdeal := hReferenceKVIdeal)
    ∧ preserves_KernelFF_KernelFFIdeal
    ∧ algebraic_KernelFFIdeal_ReferenceFFIdeal_pre_finite_ff (hKernelFFIdeal := hKernelFFIdeal) (hReferenceFFIdeal := hReferenceFFIdeal) (hPre_finite_ff := hPre_finite_ff)
    ∧ preserves_KernelXF_KernelXFIdeal
    ∧ algebraic_KernelXFIdeal_ReferenceXFIdeal (hKernelXFIdeal := hKernelXFIdeal) (hReferenceXFIdeal := hReferenceXFIdeal)
-- ==== Pre_finite_f.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)

variable [Facts]

def fn {F : FTy → Type} [FloatOps F] (main_arg0 : FVec F S4096x1024 .f32) (main_arg1 : FVec F S4096x256 .f32) (main_arg2 : FVec F S4096x256 .f32) (main_arg3 : FVec F S4096x1024 .f32) : IVec S4096x1024 1 × IVec S4096x256 1 × IVec S4096x256 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_ff.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)

variable [Facts]

def fn {F : FTy → Type} [FloatOps F] (main_arg0 : FVec F S4096x1024 .f32) (main_arg1 : FVec F S4096x256 .f32) (main_arg2 : FVec F S4096x256 .f32) : IVec S4096x1024 1 × IVec S4096x256 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  (main_v2, main_v5)
-- ==== Pre_finite_hq.lean ====
abbrev S4096x1024 : Shape := ⟨2, ![4096, 1024]⟩
abbrev S1x1024 : Shape := ⟨2, ![1, 1024]⟩
abbrev S2x1024x1024 : Shape := ⟨3, ![2, 1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S2x1024x1024 : S_.BroadcastsInDim S2x1024x1024 (![] : Fin 0 → Fin S2x1024x1024.rank)

variable [Facts]

def fn {F : FTy → Type} [FloatOps F] (main_arg0 : FVec F S4096x1024 .f32) (main_arg1 : FVec F S1x1024 .f32) (main_arg2 : FVec F S2x1024x1024 .f32) (main_arg3 : FVec F S4096x1024 .f32) (main_arg4 : FVec F S4096x1024 .f32) : IVec S4096x1024 1 × IVec S1x1024 1 × IVec S2x1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2x1024x1024 .f32 := Host.absf main_arg2
  let main_cst_1 : FVec F S_ .f32 := constant S_ .f32 0x7F800000#32
  let main_v7 : FVec F S2x1024x1024 .f32 := broadcastInDim S2x1024x1024 ![] bcast_S_S2x1024x1024 main_cst_1
  let main_v8 : IVec S2x1024x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_hz.lean ====
abbrev S4096x1024 : Shape := ⟨2, ![4096, 1024]⟩
abbrev S1x1024 : Shape := ⟨2, ![1, 1024]⟩
abbrev S1x1024x1536 : Shape := ⟨3, ![1, 1024, 1536]⟩
abbrev S4096x1536 : Shape := ⟨2, ![4096, 1536]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S4096x1536 : S_.BroadcastsInDim S4096x1536 (![] : Fin 0 → Fin S4096x1536.rank)

variable [Facts]

def fn {F : FTy → Type} [FloatOps F] (main_arg0 : FVec F S4096x1024 .f32) (main_arg1 : FVec F S1x1024 .f32) (main_arg2 : FVec F S1x1024x1536 .f32) (main_arg3 : FVec F S4096x1536 .f32) (main_arg4 : FVec F S4096x1024 .f32) : IVec S4096x1024 1 × IVec S1x1024 1 × IVec S1x1024x1536 1 × IVec S4096x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1536 .f32 := Host.absf main_arg2
  let main_cst_1 : FVec F S_ .f32 := constant S_ .f32 0x7F800000#32
  let main_v7 : FVec F S1x1024x1536 .f32 := broadcastInDim S1x1024x1536 ![] bcast_S_S1x1024x1536 main_cst_1
  let main_v8 : IVec S1x1024x1536 1 := cmpf .olt main_v6 main_v7
  let main_v9 : FVec F S4096x1536 .f32 := Host.absf main_arg3
  let main_cst_2 : FVec F S_ .f32 := constant S_ .f32 0x7F800000#32
  let main_v10 : FVec F S4096x1536 .f32 := broadcastInDim S4096x1536 ![] bcast_S_S4096x1536 main_cst_2
  let main_v11 : IVec S4096x1536 1 := cmpf .olt main_v9 main_v10
  (main_v2, main_v5, main_v8, main_v11)
-- ==== Pre_finite_v.lean ====
abbrev S4096x1024 : Shape := ⟨2, ![4096, 1024]⟩
abbrev S1x1024 : Shape := ⟨2, ![1, 1024]⟩
abbrev S2x1024x5632 : Shape := ⟨3, ![2, 1024, 5632]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S2x1024x5632 : S_.BroadcastsInDim S2x1024x5632 (![] : Fin 0 → Fin S2x1024x5632.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S1x1024 .f32) (main_arg2 : FVec F S2x1024x5632 .f32) (main_arg3 : FVec F S4096x1024 .f32) (main_arg4 : FVec F S4096x2816 .f32) (main_arg5 : FVec F S4096x1024 .f32) : IVec S4096x1024 1 × IVec S1x1024 1 × IVec S2x1024x5632 1 × IVec S4096x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2x1024x5632 .f32 := Host.absf main_arg2
  let main_cst_1 : FVec F S_ .f32 := constant S_ .f32 0x7F800000#32
  let main_v7 : FVec F S2x1024x5632 .f32 := broadcastInDim S2x1024x5632 ![] bcast_S_S2x1024x5632 main_cst_1
  let main_v8 : IVec S2x1024x5632 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x2816 .f32 := Host.absf main_arg4
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  (main_v2, main_v5, main_v8, main_v11, main_v14)
-- ==== Pre_finite_x.lean ====
abbrev S4096x1024 : Shape := ⟨2, ![4096, 1024]⟩
abbrev S256x2048 : Shape := ⟨2, ![256, 2048]⟩
abbrev S_ : Shape := ⟨0, ![]⟩

class Facts : Prop where
  bcast_S_S4096x1024 : S_.BroadcastsInDim S4096x1024 (![] : Fin 0 → Fin S4096x1024.rank)
  bcast_S_S256x2048 : S_.BroadcastsInDim S256x2048 (![] : Fin 0 → Fin S256x2048.rank)

variable [Facts]

def fn {F : FTy → Type} [FloatOps F] (main_arg0 : FVec F S4096x1024 .f32) (main_arg1 : FVec F S256x2048 .f32) (main_arg2 : FVec F S4096x1024 .f32) : IVec S4096x1024 1 × IVec S256x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  (main_v2, main_v5)
-- ==== KernelX.lean ====
abbrev S4096x1024 : Shape := ⟨2, ![4096, 1024]⟩
abbrev S256x2048 : Shape := ⟨2, ![256, 2048]⟩
abbrev S_ : Shape := ⟨0, ![]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S256x2048, .bf16⟩
  | .hbm, ⟨8, _⟩ => ⟨S4096x1024, .bf16⟩
  | .hbm, ⟨9, _⟩ => ⟨S4096x1024, .bf16⟩
  | .hbm, ⟨10, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceXIdeal.lean ====
abbrev S4096x1024 : Shape := ⟨2, ![4096, 1024]⟩
abbrev S256x2048 : Shape := ⟨2, ![256, 2048]⟩
abbrev S4096x4x256 : Shape := ⟨3, ![4096, 4, 256]⟩
abbrev S_ : Shape := ⟨0, ![]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S4096x4x256, .f32⟩
  | .hbm, ⟨4, _⟩ => ⟨S_, .f32⟩
  | .hbm, ⟨5, _⟩ => ⟨S4096x4x256, .f32⟩
  | .hbm, ⟨6, _⟩ => ⟨S4096x4x256, .f32⟩
  | .hbm, ⟨7, _⟩ => ⟨S256x1024, .f32⟩
  | .hbm, ⟨8, _⟩ => ⟨S256x4x256, .f32⟩
  | .hbm, ⟨9, _⟩ => ⟨S256x1024, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x256, .f32⟩
  | .hbm, ⟨16, _⟩ => ⟨S4x4096x256, .i1⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .i1⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x256x4096, .f32⟩
  | .hbm, ⟨51, _⟩ => ⟨S4096x4x256, .f32⟩
  | .hbm, ⟨52, _⟩ => ⟨S4096x1024, .f32⟩
  | .hbm, ⟨53, _⟩ => ⟨S4096x4x256, .f32⟩
  | .hbm, ⟨54, _⟩ => ⟨S4x256x4096, .f32⟩
  | .hbm, ⟨55, _⟩ => ⟨S4x4096x256, .f32⟩
  | .hbm, ⟨56, _⟩ => ⟨S4x256x256, .f32⟩
  | .hbm, ⟨57, _⟩ => ⟨S256x4x256, .f32⟩
  | .hbm, ⟨58, _⟩ => ⟨S4x4096x256, .f32⟩
  | .hbm, ⟨59, _⟩ => ⟨S4x4096x256, .f32⟩
  | .hbm, ⟨60, _⟩ => ⟨S4x4096x256, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x1, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x256, .f32⟩
  | .hbm, ⟨70, _⟩ => ⟨S4x4096x256, .f32⟩
  | .hbm, ⟨71, _⟩ => ⟨S4x4096x256, .f32⟩
  | .hbm, ⟨72, _⟩ => ⟨S4x256x256, .f32⟩
  | .hbm, ⟨73, _⟩ => ⟨S256x4x256, .f32⟩
  | .hbm, ⟨74, _⟩ => ⟨S4x4096x256, .f32⟩
  | .hbm, ⟨75, _⟩ => ⟨S4096x4x256, .f32⟩
  | .hbm, ⟨76, _⟩ => ⟨S256x1024, .f32⟩
  | .hbm, ⟨77, _⟩ => ⟨S_, .f32⟩
  | .hbm, ⟨78, _⟩ => ⟨S256x2048, .f32⟩
  | .hbm, ⟨79, _⟩ => ⟨S256x1024, .f32⟩
  | .hbm, ⟨80, _⟩ => ⟨S_, .f32⟩
  | .hbm, ⟨81, _⟩ => ⟨S256x2048, .f32⟩
  | .hbm, ⟨82, _⟩ => ⟨S256x2048, .f32⟩
  | .hbm, ⟨83, _⟩ => ⟨S_, .f32⟩
  | .hbm, ⟨84, _⟩ => ⟨S4096x4x256, .f32⟩
  | .hbm, ⟨85, _⟩ => ⟨S4096x4x256, .f32⟩
  | .hbm, ⟨86, _⟩ => ⟨S4096x1024, .f32⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== KernelF.lean ====
abbrev S4096x1024 : Shape := ⟨2, ![4096, 1024]⟩
abbrev S4096x256 : Shape := ⟨2, ![4096, 256]⟩
abbrev S4096x4x4x64 : Shape := ⟨4, ![4096, 4, 4, 64]⟩
abbrev S4096x4x64 : Shape := ⟨3, ![4096, 4, 64]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x64x4x4096 : Shape := ⟨4, ![4, 64, 4, 4096]⟩
abbrev S4x4x8x512 : Shape := ⟨4, ![4, 4, 8, 512]⟩
abbrev S4x8x4x512 : Shape := ⟨4, ![4, 8, 4, 512]⟩
abbrev S32x1x2048 : Shape := ⟨3, ![32, 1, 2048]⟩
abbrev S32x8x2048 : Shape := ⟨3, ![32, 8, 2048]⟩
abbrev S256x2048 : Shape := ⟨2, ![256, 2048]⟩
abbrev S256x4096 : Shape := ⟨2, ![256, 4096]⟩
abbrev S512x256 : Shape := ⟨2, ![512, 256]⟩
abbrev S4096x128 : Shape := ⟨2, ![4096, 128]⟩
abbrev S128x4096 : Shape := ⟨2, ![128, 4096]⟩
abbrev S8x2048 : Shape := ⟨2, ![8, 2048]⟩
abbrev S2048x128 : Shape := ⟨2, ![2048, 128]⟩
abbrev S1x2048 : Shape := ⟨2, ![1, 2048]⟩
abbrev S128x2048 : Shape := ⟨2, ![128, 2048]⟩
abbrev S2x512x2048 : Shape := ⟨3, ![2, 512, 2048]⟩
abbrev S512x128 : Shape := ⟨2, ![512, 128]⟩
abbrev S2048 : Shape := ⟨1, ![2048]⟩
abbrev S512x2048 : Shape := ⟨2, ![512, 2048]⟩
abbrev S1x512x2048 : Shape := ⟨3, ![1, 512, 2048]⟩
abbrev S128x512 : Shape := ⟨2, ![128, 512]⟩

abbrev nBuf : Space → Nat
  | .hbm => 45
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S4096x4x4x64, .f32⟩
  | .hbm, ⟨5, _⟩ => ⟨S4096x4x64, .f32⟩
  | .hbm, ⟨6, _⟩ => ⟨S4x4096x4096x4, .f32⟩
  | .hbm, ⟨7, _⟩ => ⟨S4x4x4096x4096, .f32⟩
  | .hbm, ⟨8, _⟩ => ⟨S_, .f32⟩
  | .hbm, ⟨9, _⟩ => ⟨S4x4x4096, .f32⟩
  | .hbm, ⟨10, _⟩ => ⟨S4x4x4096x1, .f32⟩
  | .hbm, ⟨11, _⟩ => ⟨S4x4x4096x4096, .f32⟩
  | .hbm, ⟨12, _⟩ => ⟨S4x4x4096x4096, .f32⟩
  | .hbm, ⟨13, _⟩ => ⟨S4x4x4096x4096, .f32⟩
  | .hbm, ⟨14, _⟩ => ⟨S_, .f32⟩
  | .hbm, ⟨15, _⟩ => ⟨S4x4x4096, .f32⟩
  | .hbm, ⟨16, _⟩ => ⟨S4x4x4096x1, .f32⟩
  | .hbm, ⟨17, _⟩ => ⟨S4x4x4096x4096, .f32⟩
  | .hbm, ⟨18, _⟩ => ⟨S4x4x4096x4096, .f32⟩
  | .hbm, ⟨19, _⟩ => ⟨S4096x4x64, .f32⟩
  | .hbm, ⟨20, _⟩ => ⟨S4x64x4x4096, .f32⟩
  | .hbm, ⟨21, _⟩ => ⟨S4096x4x4x64, .f32⟩
  | .hbm, ⟨22, _⟩ => ⟨S4096x1024, .f32⟩
  | .hbm, ⟨23, _⟩ => ⟨S_, .f32⟩
  | .hbm, ⟨24, _⟩ => ⟨S_, .f32⟩
  | .hbm, ⟨25, _⟩ => ⟨S4x4x4096x1, .f32⟩
  | .hbm, ⟨26, _⟩ => ⟨S4x4x4096x1, .f32⟩
  | .hbm, ⟨27, _⟩ => ⟨S4x4x4096x1, .f32⟩
  | .hbm, ⟨28, _⟩ => ⟨S4x4x4096x1, .f32⟩
  | .hbm, ⟨29, _⟩ => ⟨S4x4x8x512, .f32⟩
  | .hbm, ⟨30, _⟩ => ⟨S4x8x4x512, .f32⟩
  | .hbm, ⟨31, _⟩ => ⟨S32x1x2048, .f32⟩
  | .hbm, ⟨32, _⟩ => ⟨S32x8x2048, .f32⟩
  | .hbm, ⟨33, _⟩ => ⟨S256x2048, .f32⟩
  | .hbm, ⟨34, _⟩ => ⟨S4096x256, .bf16⟩
  | .hbm, ⟨35, _⟩ => ⟨S4096x1024, .f32⟩
  | .hbm, ⟨36, _⟩ => ⟨S4096x1024, .f32⟩
  | .hbm, ⟨37, _⟩ => ⟨S4096x1024, .bf16⟩
  | .hbm, ⟨38, _⟩ => ⟨S256x4096, .bf16⟩
  | .hbm, ⟨39, _⟩ => ⟨S4096x256, .bf16⟩
  | .hbm, ⟨40, _⟩ => ⟨S4096x1024, .bf16⟩
  | .hbm, ⟨41, _⟩ => ⟨S4096x1024, .bf16⟩
  | .hbm, ⟨42, _⟩ => ⟨S4096x1024, .f32⟩
  | .hbm, ⟨43, _⟩ => ⟨S4096x256, .f32⟩
  | .hbm, ⟨44, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S4096x128, .bf16⟩
  | .local _ .vmem, ⟨7, _⟩ => ⟨S4096x128, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S8x2048, .f32⟩
  | .local _ .vmem, ⟨13, _⟩ => ⟨S8x2048, .f32⟩
  | .local _ .vmem, ⟨14, _⟩ => ⟨S512x256, .f32⟩
  | .local _ .vmem, ⟨15, _⟩ => ⟨S512x256, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S2048x128, .bf16⟩
  | .local _ .vmem, ⟨21, _⟩ => ⟨S2048x128, .bf16⟩
  | .local _ .vmem, ⟨22, _⟩ => ⟨S1x2048, .f32⟩
  | .local _ .vmem, ⟨23, _⟩ => ⟨S128x2048, .f32⟩
  | .local _ .vmem, ⟨24, _⟩ => ⟨S2x512x2048, .f32⟩
  | .local _ .vmem, ⟨25, _⟩ => ⟨S2x512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 8, 1], ![false, false, false]⟩

def k0_cond3 (i : grid0.Coords) : BitVec 1 :=
  let arg2 : BitVec 32 := BitVec.ofNat 32 (i 2).val
  let c0_i32_274 : BitVec 32 := 0#32
  let v360 : BitVec 1 := Scalar.cmpi .eq arg2 c0_i32_274
  let v361 : BitVec 32 := Scalar.extui v360
  let c0_i32_275 : BitVec 32 := 0#32
  let v362 : BitVec 1 := Scalar.cmpi .ne v361 c0_i32_275
  v362

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelFIdeal.lean ====
variable {F : FTy → Type} [FloatOps F] [Named F]
def κ : String → Option EReal := fun
  | "ln2" => some ((Real.log 2 : ℝ) : EReal)
  | _ => none
-- ==== ReferenceFIdeal.lean ====
abbrev S4096x1024 : Shape := ⟨2, ![4096, 1024]⟩
abbrev S4096x256 : Shape := ⟨2, ![4096, 256]⟩
abbrev S4096x4x4x64 : Shape := ⟨4, ![4096, 4, 4, 64]⟩
abbrev S4096x4x64 : Shape := ⟨3, ![4096, 4, 64]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x64x4x4096 : Shape := ⟨4, ![4, 64, 4, 4096]⟩
abbrev S4x64x4096 : Shape := ⟨3, ![4, 64, 4096]⟩
abbrev S4x4096x4x64 : Shape := ⟨4, ![4, 4096, 4, 64]⟩
abbrev S4x4096x64 : Shape := ⟨3, ![4, 4096, 64]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S4096x4x4x64, .f32⟩
  | .hbm, ⟨5, _⟩ => ⟨S4096x4x64, .f32⟩
  | .hbm, ⟨6, _⟩ => ⟨S4x4096x4096x4, .f32⟩
  | .hbm, ⟨7, _⟩ => ⟨S4x4x4096x4096, .f32⟩
  | .hbm, ⟨8, _⟩ => ⟨S_, .f32⟩
  | .hbm, ⟨9, _⟩ => ⟨S4x4x4096, .f32⟩
  | .hbm, ⟨10, _⟩ => ⟨S4x4x4096x1, .f32⟩
  | .hbm, ⟨11, _⟩ => ⟨S4x4x4096x4096, .f32⟩
  | .hbm, ⟨12, _⟩ => ⟨S4x4x4096x4096, .i1⟩
  | .hbm, ⟨13, _⟩ => ⟨S4x4x4096x4096, .f32⟩
  | .hbm, ⟨14, _⟩ => ⟨S_, .f32⟩
  | .hbm, ⟨15, _⟩ => ⟨S4x4x4096, .f32⟩
  | .hbm, ⟨16, _⟩ => ⟨S_, .f32⟩
  | .hbm, ⟨17, _⟩ => ⟨S4x4x4096, .f32⟩
  | .hbm, ⟨18, _⟩ => ⟨S4x4x4096, .f32⟩
  | .hbm, ⟨19, _⟩ => ⟨S_, .f32⟩
  | .hbm, ⟨20, _⟩ => ⟨S4x4x4096, .f32⟩
  | .hbm, ⟨21, _⟩ => ⟨S4x4x4096, .i1⟩
  | .hbm, ⟨22, _⟩ => ⟨S_, .f32⟩
  | .hbm, ⟨23, _⟩ => ⟨S4x4x4096, .f32⟩
  | .hbm, ⟨24, _⟩ => ⟨S4x4x4096, .i1⟩
  | .hbm, ⟨25, _⟩ => ⟨S_, .f32⟩
  | .hbm, ⟨26, _⟩ => ⟨S4x4x4096, .f32⟩
  | .hbm, ⟨27, _⟩ => ⟨S_, .f32⟩
  | .hbm, ⟨28, _⟩ => ⟨S4x4x4096, .f32⟩
  | .hbm, ⟨29, _⟩ => ⟨S_, .f32⟩
  | .hbm, ⟨30, _⟩ => ⟨S4x4x4096, .f32⟩
  | .hbm, ⟨31, _⟩ => ⟨S4x4x4096, .f32⟩
  | .hbm, ⟨32, _⟩ => ⟨S4x4x4096, .f32⟩
  | .hbm, ⟨33, _⟩ => ⟨S4x4x4096x1, .f32⟩
  | .hbm, ⟨34, _⟩ => ⟨S4x4x4096x4096, .f32⟩
  | .hbm, ⟨35, _⟩ => ⟨S4x4x4096x4096, .f32⟩
  | .hbm, ⟨36, _⟩ => ⟨S4x4x4096x4096, .f32⟩
  | .hbm, ⟨37, _⟩ => ⟨S_, .f32⟩
  | .hbm, ⟨38, _⟩ => ⟨S4x4x4096, .f32⟩
  | .hbm, ⟨39, _⟩ => ⟨S4x4x4096x1, .f32⟩
  | .hbm, ⟨40, _⟩ => ⟨S4x4x4096x4096, .f32⟩
  | .hbm, ⟨41, _⟩ => ⟨S4x4x4096x4096, .f32⟩
  | .hbm, ⟨42, _⟩ => ⟨S4x4x4096x1, .f32⟩
  | .hbm, ⟨43, _⟩ => ⟨S_, .f32⟩
  | .hbm, ⟨44, _⟩ => ⟨S4x4x4096x1, .f32⟩
  | .hbm, ⟨45, _⟩ => ⟨S4x4x4096x1, .f32⟩
  | .hbm, ⟨46, _⟩ => ⟨S4096x4x64, .f32⟩
  | .hbm, ⟨47, _⟩ => ⟨S4x64x4x4096, .f32⟩
  | .hbm, ⟨48, _⟩ => ⟨S4096x4x4x64, .f32⟩
  | .hbm, ⟨49, _⟩ => ⟨S4096x1024, .f32⟩
  | .hbm, ⟨50, _⟩ => ⟨S4096x4x4x64, .f32⟩
  | .hbm, ⟨51, _⟩ => ⟨S4x64x4x4096, .f32⟩
  | .hbm, ⟨52, _⟩ => ⟨S4x4x4096x4096, .f32⟩
  | .hbm, ⟨53, _⟩ => ⟨S4x64x4096, .f32⟩
  | .hbm, ⟨54, _⟩ => ⟨S4096x4x64, .f32⟩
  | .hbm, ⟨55, _⟩ => ⟨S4096x256, .f32⟩
  | .hbm, ⟨56, _⟩ => ⟨S4x4x4096x4096, .f32⟩
  | .hbm, ⟨57, _⟩ => ⟨S4x4x4096x4096, .f32⟩
  | .hbm, ⟨58, _⟩ => ⟨S4x4x4096x4096, .f32⟩
  | .hbm, ⟨59, _⟩ => ⟨S_, .f32⟩
  | .hbm, ⟨60, _⟩ => ⟨S4x4x4096, .f32⟩
  | .hbm, ⟨61, _⟩ => ⟨S4x4x4096x1, .f32⟩
  | .hbm, ⟨62, _⟩ => ⟨S4x4x4096x1, .f32⟩
  | .hbm, ⟨63, _⟩ => ⟨S4x4x4096x4096, .f32⟩
  | .hbm, ⟨64, _⟩ => ⟨S4x4x4096x4096, .f32⟩
  | .hbm, ⟨65, _⟩ => ⟨S_, .f32⟩
  | .hbm, ⟨66, _⟩ => ⟨S4x4x4096, .f32⟩
  | .hbm, ⟨67, _⟩ => ⟨S4x4x4096x4096, .f32⟩
  | .hbm, ⟨68, _⟩ => ⟨S4x4x4096x4096, .f32⟩
  | .hbm, ⟨69, _⟩ => ⟨S4x4x4096x4096, .f32⟩
  | .hbm, ⟨70, _⟩ => ⟨S4x4096x4096x4, .f32⟩
  | .hbm, ⟨71, _⟩ => ⟨S4x4096x4x64, .f32⟩
  | .hbm, ⟨72, _⟩ => ⟨S4096x4x4x64, .f32⟩
  | .hbm, ⟨73, _⟩ => ⟨S4x4096x64, .f32⟩
  | .hbm, ⟨74, _⟩ => ⟨S4096x4x64, .f32⟩
  | .hbm, ⟨75, _⟩ => ⟨S4096x256, .f32⟩
  | .hbm, ⟨76, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== KernelA.lean ====
abbrev S4096x1024 : Shape := ⟨2, ![4096, 1024]⟩
abbrev S2x2816x1024 : Shape := ⟨3, ![2, 2816, 1024]⟩
abbrev S4096x2816 : Shape := ⟨2, ![4096, 2816]⟩
abbrev S512x1024 : Shape := ⟨2, ![512, 1024]⟩
abbrev S1x1408x1024 : Shape := ⟨3, ![1, 1408, 1024]⟩
abbrev S512x1408 : Shape := ⟨2, ![512, 1408]⟩
abbrev S8x128 : Shape := ⟨2, ![8, 128]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x2816x1024, .f32⟩
  | .hbm, ⟨2, _⟩ => ⟨S4096x1024, .bf16⟩
  | .hbm, ⟨3, _⟩ => ⟨S2x2816x1024, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S512x1408, .bf16⟩
  | .local _ .vmem, ⟨5, _⟩ => ⟨S512x1408, .bf16⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAIdeal.lean ====
abbrev S4096x1024 : Shape := ⟨2, ![4096, 1024]⟩
abbrev S2x2816x1024 : Shape := ⟨3, ![2, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x2816x1024, .f32⟩
  | .hbm, ⟨2, _⟩ => ⟨S_, .f32⟩
  | .hbm, ⟨3, _⟩ => ⟨S4096x2816, .f32⟩
  | .hbm, ⟨4, _⟩ => ⟨S1x2816x1024, .f32⟩
  | .hbm, ⟨5, _⟩ => ⟨S2816x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelW.lean ====
abbrev S4096x2816 : Shape := ⟨2, ![4096, 2816]⟩
abbrev S4096x1024 : Shape := ⟨2, ![4096, 1024]⟩
abbrev S2x2816x1024 : Shape := ⟨3, ![2, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2x2816x1024, .f32⟩
  | .hbm, ⟨3, _⟩ => ⟨S4096x2816, .bf16⟩
  | .hbm, ⟨4, _⟩ => ⟨S4096x1024, .bf16⟩
  | .hbm, ⟨5, _⟩ => ⟨S2x2816x1024, .bf16⟩
  | .hbm, ⟨6, _⟩ => ⟨S2x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWIdeal.lean ====
abbrev S4096x2816 : Shape := ⟨2, ![4096, 2816]⟩
abbrev S4096x1024 : Shape := ⟨2, ![4096, 1024]⟩
abbrev S2x2816x1024 : Shape := ⟨3, ![2, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2x2816x1024, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S1x2816x1024, .f32⟩
  | .hbm, ⟨9, _⟩ => ⟨S2816x1024, .f32⟩
  | .hbm, ⟨10, _⟩ => ⟨S1x2816x1024, .f32⟩
  | .hbm, ⟨11, _⟩ => ⟨S1x2816x1024, .f32⟩
  | .hbm, ⟨12, _⟩ => ⟨S2x2816x1024, .f32⟩
  | .hbm, ⟨13, _⟩ => ⟨S2x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelG.lean ====
abbrev S4096x1024 : Shape := ⟨2, ![4096, 1024]⟩
abbrev S4096x2816 : Shape := ⟨2, ![4096, 2816]⟩
abbrev S2x1024x5632 : Shape := ⟨3, ![2, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2x1024x5632, .f32⟩
  | .hbm, ⟨3, _⟩ => ⟨S4096x1024, .bf16⟩
  | .hbm, ⟨4, _⟩ => ⟨S4096x2816, .bf16⟩
  | .hbm, ⟨5, _⟩ => ⟨S2x1024x5632, .bf16⟩
  | .hbm, ⟨6, _⟩ => ⟨S2x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGIdeal.lean ====
abbrev S4096x1024 : Shape := ⟨2, ![4096, 1024]⟩
abbrev S4096x2816 : Shape := ⟨2, ![4096, 2816]⟩
abbrev S2x1024x5632 : Shape := ⟨3, ![2, 1024, 5632]⟩
abbrev S_ : Shape := ⟨0, ![]⟩
abbrev S1024x2816 : Shape := ⟨2, ![1024, 2816]⟩
abbrev S2816x1024 : Shape := ⟨2, ![2816, 1024]⟩
abbrev S1x1024x5632 : Shape := ⟨3, ![1, 1024, 5632]⟩
abbrev S1024x5632 : Shape := ⟨2, ![1024, 5632]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2x1024x5632, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S1x1024x5632, .f32⟩
  | .hbm, ⟨9, _⟩ => ⟨S1024x5632, .f32⟩
  | .hbm, ⟨10, _⟩ => ⟨S1024x2816, .f32⟩
  | .hbm, ⟨11, _⟩ => ⟨S1024x5632, .f32⟩
  | .hbm, ⟨12, _⟩ => ⟨S1x1024x5632, .f32⟩
  | .hbm, ⟨13, _⟩ => ⟨S1024x5632, .f32⟩
  | .hbm, ⟨14, _⟩ => ⟨S1x1024x5632, .f32⟩
  | .hbm, ⟨15, _⟩ => ⟨S1x1024x5632, .f32⟩
  | .hbm, ⟨16, _⟩ => ⟨S2x1024x5632, .f32⟩
  | .hbm, ⟨17, _⟩ => ⟨S2x1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== KernelH.lean ====
abbrev S4096x1024 : Shape := ⟨2, ![4096, 1024]⟩
abbrev S4096x2816 : Shape := ⟨2, ![4096, 2816]⟩
abbrev S2x1024x5632 : Shape := ⟨3, ![2, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2x1024x5632, .f32⟩
  | .hbm, ⟨3, _⟩ => ⟨S4096x1024, .bf16⟩
  | .hbm, ⟨4, _⟩ => ⟨S4096x2816, .bf16⟩
  | .hbm, ⟨5, _⟩ => ⟨S2x1024x5632, .bf16⟩
  | .hbm, ⟨6, _⟩ => ⟨S2x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHIdeal.lean ====
abbrev S4096x1024 : Shape := ⟨2, ![4096, 1024]⟩
abbrev S4096x2816 : Shape := ⟨2, ![4096, 2816]⟩
abbrev S2x1024x5632 : Shape := ⟨3, ![2, 1024, 5632]⟩
abbrev S_ : Shape := ⟨0, ![]⟩
abbrev S1024x2816 : Shape := ⟨2, ![1024, 2816]⟩
abbrev S2816x1024 : Shape := ⟨2, ![2816, 1024]⟩
abbrev S1x1024x5632 : Shape := ⟨3, ![1, 1024, 5632]⟩
abbrev S1024x5632 : Shape := ⟨2, ![1024, 5632]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2x1024x5632, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S1x1024x5632, .f32⟩
  | .hbm, ⟨9, _⟩ => ⟨S1024x5632, .f32⟩
  | .hbm, ⟨10, _⟩ => ⟨S1024x2816, .f32⟩
  | .hbm, ⟨11, _⟩ => ⟨S1024x5632, .f32⟩
  | .hbm, ⟨12, _⟩ => ⟨S1x1024x5632, .f32⟩
  | .hbm, ⟨13, _⟩ => ⟨S1024x5632, .f32⟩
  | .hbm, ⟨14, _⟩ => ⟨S1x1024x5632, .f32⟩
  | .hbm, ⟨15, _⟩ => ⟨S1x1024x5632, .f32⟩
  | .hbm, ⟨16, _⟩ => ⟨S2x1024x5632, .f32⟩
  | .hbm, ⟨17, _⟩ => ⟨S2x1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== KernelE.lean ====
abbrev S4096x2816 : Shape := ⟨2, ![4096, 2816]⟩
abbrev S2x1024x5632 : Shape := ⟨3, ![2, 1024, 5632]⟩
abbrev S4096x1024 : Shape := ⟨2, ![4096, 1024]⟩
abbrev S512x2816 : Shape := ⟨2, ![512, 2816]⟩
abbrev S1x1024x2816 : Shape := ⟨3, ![1, 1024, 2816]⟩
abbrev S512x1024 : Shape := ⟨2, ![512, 1024]⟩
abbrev S8x128 : Shape := ⟨2, ![8, 128]⟩
abbrev S1024x2816 : Shape := ⟨2, ![1024, 2816]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2x1024x5632, .f32⟩
  | .hbm, ⟨2, _⟩ => ⟨S4096x2816, .bf16⟩
  | .hbm, ⟨3, _⟩ => ⟨S2x1024x5632, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x1024x2816, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceEIdeal.lean ====
abbrev S4096x2816 : Shape := ⟨2, ![4096, 2816]⟩
abbrev S2x1024x5632 : Shape := ⟨3, ![2, 1024, 5632]⟩
abbrev S_ : Shape := ⟨0, ![]⟩
abbrev S4096x1024 : Shape := ⟨2, ![4096, 1024]⟩
abbrev S1x1024x5632 : Shape := ⟨3, ![1, 1024, 5632]⟩
abbrev S1024x5632 : Shape := ⟨2, ![1024, 5632]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2x1024x5632, .f32⟩
  | .hbm, ⟨2, _⟩ => ⟨S_, .f32⟩
  | .hbm, ⟨3, _⟩ => ⟨S4096x1024, .f32⟩
  | .hbm, ⟨4, _⟩ => ⟨S1x1024x5632, .f32⟩
  | .hbm, ⟨5, _⟩ => ⟨S1024x5632, .f32⟩
  | .hbm, ⟨6, _⟩ => ⟨S1024x2816, .f32⟩
  | .hbm, ⟨7, _⟩ => ⟨S4096x2816, .f32⟩
  | .hbm, ⟨8, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelV.lean ====
abbrev S4096x1024 : Shape := ⟨2, ![4096, 1024]⟩
abbrev S1x1024 : Shape := ⟨2, ![1, 1024]⟩
abbrev S2x1024x5632 : Shape := ⟨3, ![2, 1024, 5632]⟩
abbrev S4096x2816 : Shape := ⟨2, ![4096, 2816]⟩
abbrev S256x2816 : Shape := ⟨2, ![256, 2816]⟩
abbrev S1x1024x2816 : Shape := ⟨3, ![1, 1024, 2816]⟩
abbrev S256x1024 : Shape := ⟨2, ![256, 1024]⟩
abbrev S8x128 : Shape := ⟨2, ![8, 128]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x1024x5632, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S4096x2816, .bf16⟩
  | .hbm, ⟨7, _⟩ => ⟨S2x1024x5632, .bf16⟩
  | .hbm, ⟨8, _⟩ => ⟨S4096x1024, .f32⟩
  | .hbm, ⟨9, _⟩ => ⟨S1x1024, .f32⟩
  | .hbm, ⟨10, _⟩ => ⟨S4096x1024, .bf16⟩
  | .local _ .vmem, ⟨0, _⟩ => ⟨S256x2816, .bf16⟩
  | .local _ .vmem, ⟨1, _⟩ => ⟨S256x2816, .bf16⟩
  | .local _ .vmem, ⟨2, _⟩ => ⟨S1x1024x2816, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg1 : BitVec 32 := BitVec.ofNat 32 (i 1).val
  let c0_i32_13 : BitVec 32 := 0#32
  let v24 : BitVec 1 := Scalar.cmpi .sgt arg1 c0_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg2 c1_i32
  let c0_i32_0 : BitVec 32 := 0#32
  let c0_i32_1 : BitVec 32 := 0#32
  ![c0_i32_0.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]
-- ==== ReferenceVIdeal.lean ====
abbrev S4096x1024 : Shape := ⟨2, ![4096, 1024]⟩
abbrev S1x1024 : Shape := ⟨2, ![1, 1024]⟩
abbrev S2x1024x5632 : Shape := ⟨3, ![2, 1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024x5632 : Shape := ⟨3, ![1, 1024, 5632]⟩
abbrev S1024x5632 : Shape := ⟨2, ![1024, 5632]⟩
abbrev S1024x2816 : Shape := ⟨2, ![1024, 2816]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x1024x5632, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024x5632, .f32⟩
  | .hbm, ⟨26, _⟩ => ⟨S1024x5632, .f32⟩
  | .hbm, ⟨27, _⟩ => ⟨S1024x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelUG.lean ====
abbrev S4096x1024 : Shape := ⟨2, ![4096, 1024]⟩
abbrev S2x1024x5632 : Shape := ⟨3, ![2, 1024, 5632]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S8x128 : Shape := ⟨2, ![8, 128]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S4096x1024, .bf16⟩
  | .hbm, ⟨3, _⟩ => ⟨S2x1024x5632, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUGIdeal.lean ====
abbrev S4096x1024 : Shape := ⟨2, ![4096, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelUV.lean ====
abbrev S4096x1024 : Shape := ⟨2, ![4096, 1024]⟩
abbrev S2x1024x5632 : Shape := ⟨3, ![2, 1024, 5632]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S8x128 : Shape := ⟨2, ![8, 128]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S4096x1024, .bf16⟩
  | .hbm, ⟨3, _⟩ => ⟨S2x1024x5632, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.addi arg0 c2_i32
  let c0_i32_0 : BitVec 32 := 0#32
  let c0_i32_1 : BitVec 32 := 0#32
  ![c0_i32_0.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUVIdeal.lean ====
abbrev S4096x1024 : Shape := ⟨2, ![4096, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDN.lean ====
abbrev S4096x2816 : Shape := ⟨2, ![4096, 2816]⟩
abbrev S2x2816x1024 : Shape := ⟨3, ![2, 2816, 1024]⟩
abbrev S4096x1024 : Shape := ⟨2, ![4096, 1024]⟩
abbrev S1x1024 : Shape := ⟨2, ![1, 1024]⟩
abbrev S512x2816 : Shape := ⟨2, ![512, 2816]⟩
abbrev S1x2816x1024 : Shape := ⟨3, ![1, 2816, 1024]⟩
abbrev S512x1024 : Shape := ⟨2, ![512, 1024]⟩
abbrev S8x128 : Shape := ⟨2, ![8, 128]⟩
abbrev S2816x1024 : Shape := ⟨2, ![2816, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S1x1024, .f32⟩
  | .hbm, ⟨4, _⟩ => ⟨S4096x2816, .bf16⟩
  | .hbm, ⟨5, _⟩ => ⟨S2x2816x1024, .bf16⟩
  | .hbm, ⟨6, _⟩ => ⟨S4096x1024, .f32⟩
  | .hbm, ⟨7, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]
-- ==== ReferenceDNIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S1x1024 : Shape := ⟨2, ![1, 1024]⟩
abbrev S1x2816x1024 : Shape := ⟨3, ![1, 2816, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S1x1024, .f32⟩
  | .hbm, ⟨4, _⟩ => ⟨S1x2816x1024, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelDL.lean ====
abbrev S4096x2816 : Shape := ⟨2, ![4096, 2816]⟩
abbrev S2x2816x1024 : Shape := ⟨3, ![2, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S8x128 : Shape := ⟨2, ![8, 128]⟩
abbrev S2816x1024 : Shape := ⟨2, ![2816, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S4096x2816, .bf16⟩
  | .hbm, ⟨4, _⟩ => ⟨S2x2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c1_i32 : BitVec 32 := 1#32
  let c0_i32_1 : BitVec 32 := 0#32
  ![c1_i32.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDLIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S1x2816x1024 : Shape := ⟨3, ![1, 2816, 1024]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S1x2816x1024, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDX.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S4096x1024, .bf16⟩
  | .hbm, ⟨3, _⟩ => ⟨S2x1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDXIdeal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S_, .f32⟩
  | .hbm, ⟨3, _⟩ => ⟨S4096x1024, .f32⟩
  | .hbm, ⟨4, _⟩ => ⟨S1x1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDO.lean ====
abbrev S4096x1024 : Shape := ⟨2, ![4096, 1024]⟩
abbrev S1x1024x1024 : Shape := ⟨3, ![1, 1024, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .bf16⟩
  | .hbm, ⟨3, _⟩ => ⟨S1x1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDOIdeal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWX.lean ====
abbrev S4096x1024 : Shape := ⟨2, ![4096, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S4096x1024, .bf16⟩
  | .hbm, ⟨4, _⟩ => ⟨S4096x1024, .bf16⟩
  | .hbm, ⟨5, _⟩ => ⟨S2x1024x1024, .bf16⟩
  | .hbm, ⟨6, _⟩ => ⟨S2x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWXIdeal.lean ====
abbrev S4096x1024 : Shape := ⟨2, ![4096, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1x1024x1024, .f32⟩
  | .hbm, ⟨12, _⟩ => ⟨S2x1024x1024, .f32⟩
  | .hbm, ⟨13, _⟩ => ⟨S2x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelWO.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWOIdeal.lean ====
abbrev S4096x1024 : Shape := ⟨2, ![4096, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1x1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | .hbm, ⟨9, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWQ.lean ====
abbrev S4096x1024 : Shape := ⟨2, ![4096, 1024]⟩
abbrev S4096x1536 : Shape := ⟨2, ![4096, 1536]⟩
abbrev S1x1024x1536 : Shape := ⟨3, ![1, 1024, 1536]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .bf16⟩
  | .hbm, ⟨3, _⟩ => ⟨S4096x1536, .bf16⟩
  | .hbm, ⟨4, _⟩ => ⟨S1x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWQIdeal.lean ====
abbrev S4096x1024 : Shape := ⟨2, ![4096, 1024]⟩
abbrev S4096x1536 : Shape := ⟨2, ![4096, 1536]⟩
abbrev S_ : Shape := ⟨0, ![]⟩
abbrev S1x1024x1536 : Shape := ⟨3, ![1, 1024, 1536]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S_, .f32⟩
  | .hbm, ⟨3, _⟩ => ⟨S1x1024x1536, .f32⟩
  | .hbm, ⟨4, _⟩ => ⟨S1024x1536, .f32⟩
  | .hbm, ⟨5, _⟩ => ⟨S4096x1536, .f32⟩
  | .hbm, ⟨6, _⟩ => ⟨S1536x1024, .f32⟩
  | .hbm, ⟨7, _⟩ => ⟨S1024x1536, .f32⟩
  | .hbm, ⟨8, _⟩ => ⟨S1x1024x1536, .f32⟩
  | .hbm, ⟨9, _⟩ => ⟨S1x1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelHQ.lean ====
abbrev S4096x1024 : Shape := ⟨2, ![4096, 1024]⟩
abbrev S1x1024 : Shape := ⟨2, ![1, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S8x128 : Shape := ⟨2, ![8, 128]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S2x1024x1024, .bf16⟩
  | .hbm, ⟨7, _⟩ => ⟨S4096x1024, .f32⟩
  | .hbm, ⟨8, _⟩ => ⟨S1x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]
-- ==== ReferenceHQIdeal.lean ====
abbrev S4096x1024 : Shape := ⟨2, ![4096, 1024]⟩
abbrev S1x1024 : Shape := ⟨2, ![1, 1024]⟩
abbrev S2x1024x1024 : Shape := ⟨3, ![2, 1024, 1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024x1024, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KernelHZ.lean ====
abbrev S4096x1024 : Shape := ⟨2, ![4096, 1024]⟩
abbrev S1x1024 : Shape := ⟨2, ![1, 1024]⟩
abbrev S1x1024x1536 : Shape := ⟨3, ![1, 1024, 1536]⟩
abbrev S4096x1536 : Shape := ⟨2, ![4096, 1536]⟩
abbrev S512x1536 : Shape := ⟨2, ![512, 1536]⟩
abbrev S512x1024 : Shape := ⟨2, ![512, 1024]⟩
abbrev S8x128 : Shape := ⟨2, ![8, 128]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1536, .f32⟩
  | .hbm, ⟨3, _⟩ => ⟨S4096x1536, .f32⟩
  | .hbm, ⟨4, _⟩ => ⟨S4096x1024, .f32⟩
  | .hbm, ⟨5, _⟩ => ⟨S4096x1536, .bf16⟩
  | .hbm, ⟨6, _⟩ => ⟨S1x1024x1536, .bf16⟩
  | .hbm, ⟨7, _⟩ => ⟨S4096x1024, .f32⟩
  | .hbm, ⟨8, _⟩ => ⟨S1x1024, .f32⟩
  | .hbm, ⟨9, _⟩ => ⟨S4096x1024, .bf16⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]
-- ==== ReferenceHZIdeal.lean ====
abbrev S4096x1024 : Shape := ⟨2, ![4096, 1024]⟩
abbrev S1x1024 : Shape := ⟨2, ![1, 1024]⟩
abbrev S1x1024x1536 : Shape := ⟨3, ![1, 1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1536, .f32⟩
  | .hbm, ⟨3, _⟩ => ⟨S4096x1536, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1536, .f32⟩
  | .hbm, ⟨25, _⟩ => ⟨S4096x1536, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelXQ.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S4096x1024, .bf16⟩
  | .hbm, ⟨3, _⟩ => ⟨S2x1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXQIdeal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S1x1024x1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelQK.lean ====
abbrev S4096x1024 : Shape := ⟨2, ![4096, 1024]⟩
abbrev S1x1024x1536 : Shape := ⟨3, ![1, 1024, 1536]⟩
abbrev S4096x1536 : Shape := ⟨2, ![4096, 1536]⟩
abbrev S1024x1024 : Shape := ⟨2, ![1024, 1024]⟩
abbrev S1024x1536 : Shape := ⟨2, ![1024, 1536]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024x1536, .f32⟩
  | .hbm, ⟨2, _⟩ => ⟨S4096x1024, .bf16⟩
  | .hbm, ⟨3, _⟩ => ⟨S1x1024x1536, .bf16⟩
  | .hbm, ⟨4, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1024x1536, .f32⟩
  | .local _ .vmem, ⟨4, _⟩ => ⟨S1024x1536, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQKIdeal.lean ====
abbrev S4096x1024 : Shape := ⟨2, ![4096, 1024]⟩
abbrev S1x1024x1536 : Shape := ⟨3, ![1, 1024, 1536]⟩
abbrev S1024x1536 : Shape := ⟨2, ![1024, 1536]⟩
abbrev S4096x1536 : Shape := ⟨2, ![4096, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1536, .f32⟩
  | .hbm, ⟨2, _⟩ => ⟨S1024x1536, .f32⟩
  | .hbm, ⟨3, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelXO.lean ====
abbrev S4096x1024 : Shape := ⟨2, ![4096, 1024]⟩
abbrev S2x1024x1024 : Shape := ⟨3, ![2, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S8x128 : Shape := ⟨2, ![8, 128]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S2x1024x1024, .bf16⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]
-- ==== ReferenceXOIdeal.lean ====
abbrev S4096x1024 : Shape := ⟨2, ![4096, 1024]⟩
abbrev S2x1024x1024 : Shape := ⟨3, ![2, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S4096x1024, .f32⟩
  | .hbm, ⟨3, _⟩ => ⟨S1x1024, .f32⟩
  | .hbm, ⟨4, _⟩ => ⟨S1x1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelAO.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S8x128 : Shape := ⟨2, ![8, 128]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1x1024x1024, .bf16⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]
-- ==== ReferenceAOIdeal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelKV.lean ====
abbrev S256x1024 : Shape := ⟨2, ![256, 1024]⟩
abbrev S2x1024x2048 : Shape := ⟨3, ![2, 1024, 2048]⟩
abbrev S256x2048 : Shape := ⟨2, ![256, 2048]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S2x1024x2048, .f32⟩
  | .hbm, ⟨2, _⟩ => ⟨S256x1024, .bf16⟩
  | .hbm, ⟨3, _⟩ => ⟨S2x1024x2048, .bf16⟩
  | .hbm, ⟨4, _⟩ => ⟨S256x2048, .bf16⟩
  | .local _ .vmem, ⟨0, _⟩ => ⟨S256x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKVIdeal.lean ====
abbrev S256x1024 : Shape := ⟨2, ![256, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelFF.lean ====
abbrev S4096x1024 : Shape := ⟨2, ![4096, 1024]⟩
abbrev S4096x256 : Shape := ⟨2, ![4096, 256]⟩
abbrev S256x4096 : Shape := ⟨2, ![256, 4096]⟩
abbrev S2x2x64x4096 : Shape := ⟨4, ![2, 2, 64, 4096]⟩
abbrev S_ : Shape := ⟨0, ![]⟩
abbrev S2x1x64x4096 : Shape := ⟨4, ![2, 1, 64, 4096]⟩
abbrev S2x4x64x4096 : Shape := ⟨4, ![2, 4, 64, 4096]⟩
abbrev S512x4096 : Shape := ⟨2, ![512, 4096]⟩
abbrev S256x2048 : Shape := ⟨2, ![256, 2048]⟩
abbrev S512x256 : Shape := ⟨2, ![512, 256]⟩
abbrev S4096x128 : Shape := ⟨2, ![4096, 128]⟩
abbrev S128x4096 : Shape := ⟨2, ![128, 4096]⟩
abbrev S8x2048 : Shape := ⟨2, ![8, 2048]⟩
abbrev S2048x128 : Shape := ⟨2, ![2048, 128]⟩
abbrev S1x2048 : Shape := ⟨2, ![1, 2048]⟩
abbrev S128x2048 : Shape := ⟨2, ![128, 2048]⟩
abbrev S2x512x2048 : Shape := ⟨3, ![2, 512, 2048]⟩
abbrev S512x128 : Shape := ⟨2, ![512, 128]⟩
abbrev S512x2048 : Shape := ⟨2, ![512, 2048]⟩
abbrev S1x512x2048 : Shape := ⟨3, ![1, 512, 2048]⟩
abbrev S2048 : Shape := ⟨1, ![2048]⟩
abbrev S128x512 : Shape := ⟨2, ![128, 512]⟩

abbrev nBuf : Space → Nat
  | .hbm => 22
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S256x4096, .f32⟩
  | .hbm, ⟨4, _⟩ => ⟨S2x2x64x4096, .f32⟩
  | .hbm, ⟨5, _⟩ => ⟨S_, .f32⟩
  | .hbm, ⟨6, _⟩ => ⟨S2x1x64x4096, .f32⟩
  | .hbm, ⟨7, _⟩ => ⟨S2x1x64x4096, .f32⟩
  | .hbm, ⟨8, _⟩ => ⟨S2x2x64x4096, .f32⟩
  | .hbm, ⟨9, _⟩ => ⟨S2x1x64x4096, .f32⟩
  | .hbm, ⟨10, _⟩ => ⟨S2x2x64x4096, .f32⟩
  | .hbm, ⟨11, _⟩ => ⟨S2x4x64x4096, .f32⟩
  | .hbm, ⟨12, _⟩ => ⟨S512x4096, .f32⟩
  | .hbm, ⟨13, _⟩ => ⟨S_, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x256, .bf16⟩
  | .hbm, ⟨19, _⟩ => ⟨S512x4096, .bf16⟩
  | .hbm, ⟨20, _⟩ => ⟨S4096x1024, .bf16⟩
  | .hbm, ⟨21, _⟩ => ⟨S256x2048, .f32⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S512x256, .bf16⟩
  | .local _ .vmem, ⟨7, _⟩ => ⟨S512x256, .bf16⟩
  | .local _ .vmem, ⟨8, _⟩ => ⟨S8x2048, .f32⟩
  | .local _ .vmem, ⟨9, _⟩ => ⟨S8x2048, .f32⟩
  | .local _ .vmem, ⟨10, _⟩ => ⟨S2048x128, .bf16⟩
  | .local _ .vmem, ⟨11, _⟩ => ⟨S1x2048, .f32⟩
  | .local _ .vmem, ⟨12, _⟩ => ⟨S128x2048, .f32⟩
  | .local _ .vmem, ⟨13, _⟩ => ⟨S2x512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_110 : BitVec 32 := 0#32
  let v207 : BitVec 1 := Scalar.cmpi .eq arg2 c0_i32_110
  let v208 : BitVec 32 := Scalar.extui v207
  let c0_i32_111 : BitVec 32 := 0#32
  let v209 : BitVec 1 := Scalar.cmpi .ne v208 c0_i32_111
  v209

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelFFIdeal.lean ====
variable {F : FTy → Type} [FloatOps F] [Named F]
def κ : String → Option EReal := fun
  | "log2e" => some (((Real.log 2)⁻¹ : ℝ) : EReal)
  | "neg" => some ⊥
  | _ => none
-- ==== ReferenceFFIdeal.lean ====
abbrev S4096x1024 : Shape := ⟨2, ![4096, 1024]⟩
abbrev S4096x256 : Shape := ⟨2, ![4096, 256]⟩
abbrev S4096x4x4x64 : Shape := ⟨4, ![4096, 4, 4, 64]⟩
abbrev S4096x4x64 : Shape := ⟨3, ![4096, 4, 64]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x4x8x512 : Shape := ⟨4, ![4, 4, 8, 512]⟩
abbrev S4x8x4x512 : Shape := ⟨4, ![4, 8, 4, 512]⟩
abbrev S32x1x2048 : Shape := ⟨3, ![32, 1, 2048]⟩
abbrev S4x64x4x4096 : Shape := ⟨4, ![4, 64, 4, 4096]⟩
abbrev S32x8x2048 : Shape := ⟨3, ![32, 8, 2048]⟩
abbrev S256x2048 : Shape := ⟨2, ![256, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x4x4x64, .f32⟩
  | .hbm, ⟨4, _⟩ => ⟨S4096x4x64, .f32⟩
  | .hbm, ⟨5, _⟩ => ⟨S4x4096x4096x4, .f32⟩
  | .hbm, ⟨6, _⟩ => ⟨S4x4x4096x4096, .f32⟩
  | .hbm, ⟨7, _⟩ => ⟨S_, .f32⟩
  | .hbm, ⟨8, _⟩ => ⟨S4x4x4096, .f32⟩
  | .hbm, ⟨9, _⟩ => ⟨S4x4x4096x1, .f32⟩
  | .hbm, ⟨10, _⟩ => ⟨S4x4x4096x4096, .f32⟩
  | .hbm, ⟨11, _⟩ => ⟨S4x4x4096x4096, .f32⟩
  | .hbm, ⟨12, _⟩ => ⟨S4x4x4096x4096, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x1, .f32⟩
  | .hbm, ⟨17, _⟩ => ⟨S4x4x4096x1, .f32⟩
  | .hbm, ⟨18, _⟩ => ⟨S_, .f32⟩
  | .hbm, ⟨19, _⟩ => ⟨S_, .f32⟩
  | .hbm, ⟨20, _⟩ => ⟨S4x4x4096x1, .f32⟩
  | .hbm, ⟨21, _⟩ => ⟨S4x4x4096x1, .f32⟩
  | .hbm, ⟨22, _⟩ => ⟨S4x4x8x512, .f32⟩
  | .hbm, ⟨23, _⟩ => ⟨S4x8x4x512, .f32⟩
  | .hbm, ⟨24, _⟩ => ⟨S32x1x2048, .f32⟩
  | .hbm, ⟨25, _⟩ => ⟨S4096x4x4x64, .f32⟩
  | .hbm, ⟨26, _⟩ => ⟨S4096x4x64, .f32⟩
  | .hbm, ⟨27, _⟩ => ⟨S4x4096x4096x4, .f32⟩
  | .hbm, ⟨28, _⟩ => ⟨S4x4x4096x4096, .f32⟩
  | .hbm, ⟨29, _⟩ => ⟨S_, .f32⟩
  | .hbm, ⟨30, _⟩ => ⟨S4x4x4096, .f32⟩
  | .hbm, ⟨31, _⟩ => ⟨S_, .f32⟩
  | .hbm, ⟨32, _⟩ => ⟨S4x4x4096, .f32⟩
  | .hbm, ⟨33, _⟩ => ⟨S4x4x4096, .f32⟩
  | .hbm, ⟨34, _⟩ => ⟨S4x4x4096x1, .f32⟩
  | .hbm, ⟨35, _⟩ => ⟨S4x4x4096x4096, .f32⟩
  | .hbm, ⟨36, _⟩ => ⟨S4x4x4096x4096, .f32⟩
  | .hbm, ⟨37, _⟩ => ⟨S4x4x4096x4096, .f32⟩
  | .hbm, ⟨38, _⟩ => ⟨S_, .f32⟩
  | .hbm, ⟨39, _⟩ => ⟨S4x4x4096, .f32⟩
  | .hbm, ⟨40, _⟩ => ⟨S4x4x4096x1, .f32⟩
  | .hbm, ⟨41, _⟩ => ⟨S4x4x4096x4096, .f32⟩
  | .hbm, ⟨42, _⟩ => ⟨S4x4x4096x4096, .f32⟩
  | .hbm, ⟨43, _⟩ => ⟨S4096x4x64, .f32⟩
  | .hbm, ⟨44, _⟩ => ⟨S4x64x4x4096, .f32⟩
  | .hbm, ⟨45, _⟩ => ⟨S4096x4x4x64, .f32⟩
  | .hbm, ⟨46, _⟩ => ⟨S4096x1024, .f32⟩
  | .hbm, ⟨47, _⟩ => ⟨S4096x1024, .bf16⟩
  | .hbm, ⟨48, _⟩ => ⟨S32x8x2048, .f32⟩
  | .hbm, ⟨49, _⟩ => ⟨S256x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== KernelXF.lean ====
abbrev S4096x1024 : Shape := ⟨2, ![4096, 1024]⟩
abbrev S256x2048 : Shape := ⟨2, ![256, 2048]⟩
abbrev S_ : Shape := ⟨0, ![]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S256x2048, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceXFIdeal.lean ====
abbrev S4096x1024 : Shape := ⟨2, ![4096, 1024]⟩
abbrev S256x2048 : Shape := ⟨2, ![256, 2048]⟩
abbrev S4096x4x256 : Shape := ⟨3, ![4096, 4, 256]⟩
abbrev S_ : Shape := ⟨0, ![]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x4x256, .f32⟩
  | .hbm, ⟨3, _⟩ => ⟨S_, .f32⟩
  | .hbm, ⟨4, _⟩ => ⟨S4096x4x256, .f32⟩
  | .hbm, ⟨5, _⟩ => ⟨S4096x4x256, .f32⟩
  | .hbm, ⟨6, _⟩ => ⟨S256x1024, .f32⟩
  | .hbm, ⟨7, _⟩ => ⟨S256x4x256, .f32⟩
  | .hbm, ⟨8, _⟩ => ⟨S256x1024, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x256, .f32⟩
  | .hbm, ⟨24, _⟩ => ⟨S4x4096x256, .f32⟩
  | .hbm, ⟨25, _⟩ => ⟨S4x256x4096, .f32⟩
  | .hbm, ⟨26, _⟩ => ⟨S4096x4x256, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.X.Softmax.lean ====
module
public import Idealize.ShloMosaic.Lib.Pointwise
@[expose] public section
noncomputable section
/-! A row of scores and its gradient, over the extended reals. -/
namespace Cert.Row
open Idealize.ShloMosaic

variable {n : Nat}

/-- The largest score of a row. -/
def top (s : Fin n → EReal) : EReal := Finset.univ.fold max ⊥ s
/-- The exponential of a score less the row's largest. -/
def ex (s : Fin n → EReal) (m : Fin n) : EReal := Ideal.exp (s m - top s)
/-- The row's sum of exponentials. -/
def den (s : Fin n → EReal) : EReal := ∑ m, ex s m
/-- The softmax of the row. -/
def pr (s : Fin n → EReal) (m : Fin n) : EReal := Ideal.div (ex s m) (den s)
/-- The gradient of the scores, given the gradient `g` of the softmax. -/
def ds (s g : Fin n → EReal) (m : Fin n) : EReal := pr s m * (g m - ∑ k, pr s k * g k)
/-- The same gradient, as differentiating the quotient gives it. -/
def ds' (s g : Fin n → EReal) (m : Fin n) : EReal :=
  (Ideal.div (g m) (den s) + ∑ _x : Fin 1, -∑ k, g k * Ideal.div 1 (den s * den s) * ex s k) * ex s m

/-- Column `d` of head `h`. -/
def col (h : Fin 4) (d : Fin 256) : Fin 1024 := ⟨h.val * 256 + d.val, by omega⟩
/-- The head a column lies in. -/
def head (c : Fin 1024) : Fin 4 := ⟨c.val / 256, by omega⟩
/-- The products of a row with the rows of a matrix, in one head. -/
def score (x : Fin 1024 → EReal) (k : Fin 256 → Fin 1024 → EReal) (h : Fin 4) (m : Fin 256) : EReal :=
  ∑ d : Fin 256, k m (col h d) * x (col h d)
/-- The gradient of a row of queries, up to its scale. -/
def dq (x o : Fin 1024 → EReal) (k v : Fin 256 → Fin 1024 → EReal) (c : Fin 1024) : EReal :=
  ∑ m : Fin 256, ds (score x k (head c)) (score o v (head c)) m * k m c
/-- What a row adds to the gradient of the keys. -/
def dk (x o : Fin 1024 → EReal) (k v : Fin 256 → Fin 1024 → EReal) (m : Fin 256) (c : Fin 1024) : EReal :=
  ds (score x k (head c)) (score o v (head c)) m * x c
/-- What a row adds to the gradient of the values. -/
def dv (x o : Fin 1024 → EReal) (k : Fin 256 → Fin 1024 → EReal) (m : Fin 256) (c : Fin 1024) : EReal :=
  pr (score x k (head c)) m * o c
/-- What a row adds to the gradients of keys and values side by side. -/
def dkv (x o : Fin 1024 → EReal) (k v : Fin 256 → Fin 1024 → EReal) (m : Fin 256) (c : Fin 2048) : EReal :=
  if h : c.val < 1024 then dk x o k v m ⟨c.val, h⟩ else dv x o k m ⟨c.val - 1024, by omega⟩

end Cert.Row
end
-- ==== Proof.X.Block.lean ====
module
public import proofs.«01_k».proof.Proof.X.Softmax
public import proofs.«01_k».proof.Proof.Gen.KernelXIdeal.Value
public import Idealize.ShloMosaic.Lib.Pipeline.ValueKit
public import Idealize.ShloMosaic.Lib.Pointwise
@[expose] public section
set_option maxRecDepth 16384
noncomputable section
/-! What one block of the gradient of the memory attention computes. -/
namespace Cert.KernelXIdeal.Block
open Cert.KernelXIdeal Cert.KernelXIdeal.Gen Idealize.ShloMosaic Idealize.ShloMosaic.TcCoe Idealize.SL.Sem
open Idealize.ShloMosaic.Pointwise
open Idealize.ShloMosaic.Pipeline (Dat)

/-- A tile's scores. -/
def sc (q : FVec Ideal S1024x256 .bf16) (k : FVec Ideal S256x256 .bf16) (r : Fin 1024) (m : Fin 256) : EReal :=
  ∑ d : Fin 256, k (ix2 m d) * q (ix2 r d)

/-- The zero vector the products start from. -/
abbrev z : FVec Ideal S256x1024 .f32 := constant S256x1024 .f32 0x00000000#32

theorem pay1_apply (q : FVec Ideal S1024x256 .bf16) (k : FVec Ideal S256x256 .bf16) (m : Fin 256) (r : Fin 1024) :
    k0_pay1 q k z (ix2 m r) = Row.pr (sc q k r) m := by
  unfold Row.pr Row.den Row.ex Row.top sc
  pointwise [k0_pay1, z]
  rw [show Ideal.ofBits FTy.f32 4286578688#32 = ⊥ from by simp [Ideal.ofBits, Ideal.ieee]]

theorem pay2_apply (q : FVec Ideal S1024x256 .bf16) (k v : FVec Ideal S256x256 .bf16) (o : FVec Ideal S1024x256 .bf16)
    (m : Fin 256) (r : Fin 1024) :
    k0_pay2 q k v o z (ix2 m r) = Row.ds (sc q k r) (sc o v r) m := by
  unfold Row.ds
  pointwise [k0_pay2, pay1_apply]
  rfl

/-- What a tile adds to the keys' gradient. -/
theorem pay3_apply (q : FVec Ideal S1024x256 .bf16) (k v : FVec Ideal S256x256 .bf16) (o : FVec Ideal S1024x256 .bf16)
    (a : Vec Ideal S256x256 .f32) (m d : Fin 256) :
    k0_pay3 q k v o z a (ix2 m d) = a (ix2 m d) + ∑ r : Fin 1024, Row.ds (sc q k r) (sc o v r) m * q (ix2 r d) := by
  pointwise [k0_pay3, pay2_apply]

/-- What a tile adds to the values' gradient. -/
theorem pay4_apply (q : FVec Ideal S1024x256 .bf16) (k : FVec Ideal S256x256 .bf16) (o : FVec Ideal S1024x256 .bf16)
    (a : Vec Ideal S256x256 .f32) (m d : Fin 256) :
    k0_pay4 q k o z a (ix2 m d) = a (ix2 m d) + ∑ r : Fin 1024, Row.pr (sc q k r) m * o (ix2 r d) := by
  pointwise [k0_pay4, pay1_apply]

/-- A tile of the queries' gradient. -/
theorem pay5_apply (q : FVec Ideal S1024x256 .bf16) (k v : FVec Ideal S256x256 .bf16) (o : FVec Ideal S1024x256 .bf16)
    (r : Fin 1024) (d : Fin 256) :
    k0_pay5 q k v o z (ix2 r d)
      = (∑ m : Fin 256, Row.ds (sc q k r) (sc o v r) m * k (ix2 m d)) * Ideal.ofBits .f32 0x3D800000#32 := by
  pointwise [k0_pay5, pay2_apply]

/-- A block's row. -/
abbrev row {n m : Nat} (x : (⟨2, ![n, m]⟩ : Shape).Idx → EReal) (r : Fin n) (c : Fin m) : EReal := x (ix2 r c)

/-- A tile of a matrix of 1024 columns at an entry. -/
theorem ld_col {n : Nat} (x : Vec Ideal ⟨2, ![n, 1024]⟩ .bf16) (h : Fin 4) {o : Nat} (ho : o = 256 * h.val)
    (i) (r : Fin n) (d : Fin 256) :
    View.ld x (Rect.unit (s := ⟨2, ![n, 1024]⟩) ![0, o] ![n, 256] i) (ix2 r d) = row x r (Row.col h d) := by
  subst ho
  refine View.ld_unit_apply_of x _ _ _ _ (ix2 r (Row.col h d)) fun a => ?_
  match a with
  | 0 => exact (Nat.zero_add _).symm
  | 1 => exact congrArg (· + d.val) (Nat.mul_comm h.val 256)

/-- A tile's scores are its block's. -/
theorem sc_ld (x0 : Vec Ideal S1024x1024 .bf16) (x1 : Vec Ideal S256x1024 .bf16) (h : Fin 4) {o : Nat} (ho : o = 256 * h.val)
    (i0) (i1) (r : Fin 1024) :
    sc (k0_pay32 (View.ld x0 (Rect.unit (s := S1024x1024) ![0, o] ![1024, 256] i0)))
      (k0_pay33 (View.ld x1 (Rect.unit (s := S256x1024) ![0, o] ![256, 256] i1))) r = Row.score (row x0 r) (row x1) h := by
  funext m
  unfold sc Row.score k0_pay32 k0_pay33
  refine Finset.sum_congr rfl fun d _ => ?_
  simp only [shapeCast_self]
  rw [ld_col x0 h ho, ld_col x1 h ho]

theorem head_of (c : Fin 1024) (h : Fin 4) (d : Fin 256) {o : Nat} (ho : o = 256 * h.val) (hc : c.val = o + d.val) :
    c = Row.col h d ∧ Row.head c = h := by
  refine ⟨Fin.ext (by simp only [Row.col]; omega), Fin.ext (by simp only [Row.head]; omega)⟩

/-- A tile of the queries' gradient is its block's. -/
theorem dq_tile (x0 : Vec Ideal S1024x1024 .bf16) (x1 x2 : Vec Ideal S256x1024 .bf16) (x3 : Vec Ideal S1024x1024 .bf16)
    (h : Fin 4) {o : Nat} (ho : o = 256 * h.val) (i0) (i1) (i2) (i3) (x : S1024x256.Idx) (r c : Fin 1024)
    (e0 : r.val = (x 0).val) (e1 : c.val = o + (x 1).val) :
    k0_pay5 (k0_pay32 (View.ld x0 (Rect.unit (s := S1024x1024) ![0, o] ![1024, 256] i0)))
      (k0_pay33 (View.ld x1 (Rect.unit (s := S256x1024) ![0, o] ![256, 256] i1)))
      (k0_pay33 (View.ld x2 (Rect.unit (s := S256x1024) ![0, o] ![256, 256] i2)))
      (k0_pay32 (View.ld x3 (Rect.unit (s := S1024x1024) ![0, o] ![1024, 256] i3))) z x
      = Row.dq (row x0 r) (row x3 r) (row x1) (row x2) c * Ideal.ofBits .f32 0x3D800000#32 := by
  obtain ⟨p, d, rfl⟩ : ∃ (p : Fin 1024) (d : Fin 256), x = ix2 p d := ⟨x 0, x 1, eq_ix2 x⟩
  obtain ⟨ec, eh⟩ := head_of c h d ho e1
  obtain rfl : r = p := Fin.ext e0
  rw [pay5_apply, sc_ld x0 x1 h ho, sc_ld x3 x2 h ho]
  unfold Row.dq
  rw [eh]
  refine congrArg (· * _) (Finset.sum_congr rfl fun m _ => ?_)
  rw [ec]
  unfold k0_pay33
  rw [shapeCast_self, ld_col x1 h ho]

/-- A tile of the keys' gradient adds its rows'. -/
theorem dk_tile (x0 : Vec Ideal S1024x1024 .bf16) (x1 x2 : Vec Ideal S256x1024 .bf16) (x3 : Vec Ideal S1024x1024 .bf16)
    (h : Fin 4) {o : Nat} (ho : o = 256 * h.val) (i0) (i1) (i2) (i3) (a : Vec Ideal S256x256 .f32) (m d : Fin 256) (c : Fin 2048)
    (e1 : c.val = o + d.val) :
    k0_pay3 (k0_pay32 (View.ld x0 (Rect.unit (s := S1024x1024) ![0, o] ![1024, 256] i0)))
      (k0_pay33 (View.ld x1 (Rect.unit (s := S256x1024) ![0, o] ![256, 256] i1)))
      (k0_pay33 (View.ld x2 (Rect.unit (s := S256x1024) ![0, o] ![256, 256] i2)))
      (k0_pay32 (View.ld x3 (Rect.unit (s := S1024x1024) ![0, o] ![1024, 256] i3))) z a (ix2 m d)
      = a (ix2 m d) + ∑ r : Fin 1024, Row.dkv (row x0 r) (row x3 r) (row x1) (row x2) m c := by
  have hc : c.val < 1024 := by omega
  obtain ⟨ec, eh⟩ := head_of ⟨c.val, hc⟩ h d ho e1
  rw [pay3_apply]
  refine congrArg (a (ix2 m d) + ·) (Finset.sum_congr rfl fun r _ => ?_)
  unfold Row.dkv Row.dk
  rw [dif_pos hc, sc_ld x0 x1 h ho, sc_ld x3 x2 h ho, eh, ec]
  unfold k0_pay32
  rw [shapeCast_self, ld_col x0 h ho]

/-- A tile of the values' gradient adds its rows'. -/
theorem dv_tile (x0 : Vec Ideal S1024x1024 .bf16) (x1 x2 : Vec Ideal S256x1024 .bf16) (x3 : Vec Ideal S1024x1024 .bf16)
    (h : Fin 4) {o : Nat} (ho : o = 256 * h.val) (i0) (i1) (i3) (a : Vec Ideal S256x256 .f32) (m d : Fin 256) (c : Fin 2048)
    (e1 : c.val = 1024 + o + d.val) :
    k0_pay4 (k0_pay32 (View.ld x0 (Rect.unit (s := S1024x1024) ![0, o] ![1024, 256] i0)))
      (k0_pay33 (View.ld x1 (Rect.unit (s := S256x1024) ![0, o] ![256, 256] i1)))
      (k0_pay32 (View.ld x3 (Rect.unit (s := S1024x1024) ![0, o] ![1024, 256] i3))) z a (ix2 m d)
      = a (ix2 m d) + ∑ r : Fin 1024, Row.dkv (row x0 r) (row x3 r) (row x1) (row x2) m c := by
  have hc : ¬ c.val < 1024 := by omega
  obtain ⟨ec, eh⟩ := head_of ⟨c.val - 1024, by omega⟩ h d ho (show c.val - 1024 = _ by omega)
  rw [pay4_apply]
  refine congrArg (a (ix2 m d) + ·) (Finset.sum_congr rfl fun r _ => ?_)
  unfold Row.dkv Row.dv
  rw [dif_neg hc, sc_ld x0 x1 h ho, eh, ec]
  unfold k0_pay32
  rw [shapeCast_self, ld_col x3 h ho]

/-- Where an entry of 256 columns lies. -/
theorem idx_eq {o : Nat} (i) (m d : Fin 256) (c : Fin 2048) (h : c.val = o + d.val) :
    (Rect.unit (s := S256x2048) ![0, o] ![256, 256] i).idx (ix2 m d) = ix2 m c := by
  funext a
  refine Fin.ext ((Rect.idx_unit_val (s := S256x2048) ![0, o] ![256, 256] i (ix2 m d) a).trans ?_)
  match a with
  | 0 => exact Nat.zero_add _
  | 1 => exact h.symm

/-- A piece of 256 columns that does not hold the column is passed over. -/
theorem canon_skip {L : List (View.Piece (Elt Ideal) S256x2048 .f32)} {o : Nat} {i} {w} (m : Fin 256) (c : Fin 2048) (h : c.val < o ∨ o + 256 ≤ c.val) :
    View.canon (⟨Rect.unit (s := S256x2048) ![0, o] ![256, 256] i, w⟩ :: L) (ix2 m c) = View.canon L (ix2 m c) := by
  refine View.canon_cons_of_not_mem _ _ fun hm => ?_
  have := ((Rect.mem_set_unit (s := S256x2048) (off := ![0, o]) (size := ![256, 256]) (inb := i)).mp hm) 1
  change o ≤ c.val ∧ c.val < o + 256 at this
  omega

/-- A piece of 256 columns that holds the column is read there. -/
theorem canon_hit {L : List (View.Piece (Elt Ideal) S256x2048 .f32)} {o : Nat} {i} {w} (m d : Fin 256) (c : Fin 2048) (h : c.val = o + d.val) :
    View.canon (⟨Rect.unit (s := S256x2048) ![0, o] ![256, 256] i, w⟩ :: L) (ix2 m c) = w (ix2 m d) := by
  rw [← View.canon_cons_emb _ w L (ix2 m d)]
  exact congrArg _ (idx_eq i m d c h).symm

/-- A load of 256 columns reads what the pieces hold. -/
theorem read_acc {v : View sig .tc .vmem S256x2048 .f32} {L : List (View.Piece (Elt Ideal) S256x2048 .f32)} {o : Nat} {i} (m d : Fin 256) (c : Fin 2048) (h : c.val = o + d.val) :
    v.readCov L (Rect.unit (s := S256x2048) ![0, o] ![256, 256] i).toLoadRect (ix2 m d) = View.canon L (ix2 m c) := by
  rw [View.readCov_eq_canon']
  exact congrArg _ (idx_eq i m d c h)

/-- The zeros the first block starts from. -/
theorem canon_zero {i} (y : S256x2048.Idx) :
    View.canon [(⟨Rect.unit (s := S256x2048) ![0, 0] ![256, 2048] i, (k0_pay6 : FVec Ideal S256x2048 .f32)⟩ : View.Piece (Elt Ideal) S256x2048 .f32)] y = 0 := by
  refine (congrFun (View.canon_unit_zero (S := S256x2048) (off := ![0, 0]) (by decide) i _) y).trans ?_
  exact Ideal.ofBits_zero_f32

theorem out_A4 (c : Dev nD) (i : grid0.Coords) (a1 : Memref sig .tc .vmem S1024x1024 .bf16) (h1 : a1.IsWhole) (a2 : Memref sig .tc .vmem S256x1024 .bf16) (h2 : a2.IsWhole)
    (a3 : Memref sig .tc .vmem S256x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S256x2048 .f32) (h6 : a6.IsWhole) (hc : cond0_0 i)
    (x0 : Vec Ideal S1024x1024 .bf16) (x1 x2 : Vec Ideal S256x1024 .bf16) (x3 : Vec Ideal S1024x1024 .bf16) (r p : Fin 1024) (y : S1024x1024.Idx) (hy : y = ix2 r p) :
    out0_A_4 c i a1 h1 a2 h2 a3 h3 a4 h4 a5 h5 a6 h6 hc x0 x1 x2 x3 y
      = Row.dq (row x0 r) (row x3 r) (row x1) (row x2) p * Ideal.ofBits .f32 0x3D800000#32 := by
  frame_out
  canon_tiles x h using View.cover_of_tiledL (s := S1024x1024) _ ![1024, 256] (by sl_kernel_rfl) y
  · subst hy; exact dq_tile x0 x1 x2 x3 3 rfl _ _ _ _ x r p h0 h1
  · subst hy; exact dq_tile x0 x1 x2 x3 2 rfl _ _ _ _ x r p h0 h1
  · subst hy; exact dq_tile x0 x1 x2 x3 1 rfl _ _ _ _ x r p h0 h1
  · subst hy; exact dq_tile x0 x1 x2 x3 0 rfl _ _ _ _ x r p h0 (h1.trans (Nat.zero_add _).symm)

theorem out_B4 (c : Dev nD) (i : grid0.Coords) (a1 : Memref sig .tc .vmem S1024x1024 .bf16) (h1 : a1.IsWhole) (a2 : Memref sig .tc .vmem S256x1024 .bf16) (h2 : a2.IsWhole)
    (a3 : Memref sig .tc .vmem S256x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S256x2048 .f32) (h6 : a6.IsWhole) (hc : ¬cond0_0 i)
    (x0 : Vec Ideal S1024x1024 .bf16) (x1 x2 : Vec Ideal S256x1024 .bf16) (x3 : Vec Ideal S1024x1024 .bf16) (x5 : Vec Ideal S256x2048 .f32) (r p : Fin 1024) (y : S1024x1024.Idx) (hy : y = ix2 r p) :
    out0_B_4 c i a1 h1 a2 h2 a3 h3 a4 h4 a5 h5 a6 h6 hc x0 x1 x2 x3 x5 y
      = Row.dq (row x0 r) (row x3 r) (row x1) (row x2) p * Ideal.ofBits .f32 0x3D800000#32 := by
  frame_out
  canon_tiles x h using View.cover_of_tiledL (s := S1024x1024) _ ![1024, 256] (by sl_kernel_rfl) y
  · subst hy; exact dq_tile x0 x1 x2 x3 3 rfl _ _ _ _ x r p h0 h1
  · subst hy; exact dq_tile x0 x1 x2 x3 2 rfl _ _ _ _ x r p h0 h1
  · subst hy; exact dq_tile x0 x1 x2 x3 1 rfl _ _ _ _ x r p h0 h1
  · subst hy; exact dq_tile x0 x1 x2 x3 0 rfl _ _ _ _ x r p h0 (h1.trans (Nat.zero_add _).symm)

theorem out_B5 (c : Dev nD) (i : grid0.Coords) (a1 : Memref sig .tc .vmem S1024x1024 .bf16) (h1 : a1.IsWhole) (a2 : Memref sig .tc .vmem S256x1024 .bf16) (h2 : a2.IsWhole)
    (a3 : Memref sig .tc .vmem S256x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S256x2048 .f32) (h6 : a6.IsWhole) (hc : ¬cond0_0 i)
    (x0 : Vec Ideal S1024x1024 .bf16) (x1 x2 : Vec Ideal S256x1024 .bf16) (x3 : Vec Ideal S1024x1024 .bf16) (x5 : Vec Ideal S256x2048 .f32) (m : Fin 256) (q : Fin 2048) :
    out0_B_5 c i a1 h1 a2 h2 a3 h3 a4 h4 a5 h5 a6 h6 hc x0 x1 x2 x3 x5 (ix2 m q)
      = x5 (ix2 m q) + ∑ r : Fin 1024, Row.dkv (row x0 r) (row x3 r) (row x1) (row x2) m q := by
  frame_out
  by_cases b0 : 1792 ≤ q.val ∧ q.val < 1792 + 256
  · have hq : q.val = 1792 + (⟨q.val - 1792, by omega⟩ : Fin 256).val := by show _ = _ + (q.val - 1792); omega
    refine (canon_hit m _ q hq).trans ((dv_tile x0 x1 x2 x3 3 rfl _ _ _ _ m _ q hq).trans (congrArg (· + _) ?_))
    refine View.ld_unit_apply_of x5 _ _ _ _ (ix2 m q) fun a => ?_
    match a with
    | 0 => exact (Nat.zero_add _).symm
    | 1 => exact hq
  refine (canon_skip m q (by omega)).trans ?_
  by_cases b1 : 768 ≤ q.val ∧ q.val < 768 + 256
  · have hq : q.val = 768 + (⟨q.val - 768, by omega⟩ : Fin 256).val := by show _ = _ + (q.val - 768); omega
    refine (canon_hit m _ q hq).trans ((dk_tile x0 x1 x2 x3 3 rfl _ _ _ _ _ m _ q hq).trans (congrArg (· + _) ?_))
    refine View.ld_unit_apply_of x5 _ _ _ _ (ix2 m q) fun a => ?_
    match a with
    | 0 => exact (Nat.zero_add _).symm
    | 1 => exact hq
  refine (canon_skip m q (by omega)).trans ?_
  by_cases b2 : 1536 ≤ q.val ∧ q.val < 1536 + 256
  · have hq : q.val = 1536 + (⟨q.val - 1536, by omega⟩ : Fin 256).val := by show _ = _ + (q.val - 1536); omega
    refine (canon_hit m _ q hq).trans ((dv_tile x0 x1 x2 x3 2 rfl _ _ _ _ m _ q hq).trans (congrArg (· + _) ?_))
    refine View.ld_unit_apply_of x5 _ _ _ _ (ix2 m q) fun a => ?_
    match a with
    | 0 => exact (Nat.zero_add _).symm
    | 1 => exact hq
  refine (canon_skip m q (by omega)).trans ?_
  by_cases b3 : 512 ≤ q.val ∧ q.val < 512 + 256
  · have hq : q.val = 512 + (⟨q.val - 512, by omega⟩ : Fin 256).val := by show _ = _ + (q.val - 512); omega
    refine (canon_hit m _ q hq).trans ((dk_tile x0 x1 x2 x3 2 rfl _ _ _ _ _ m _ q hq).trans (congrArg (· + _) ?_))
    refine View.ld_unit_apply_of x5 _ _ _ _ (ix2 m q) fun a => ?_
    match a with
    | 0 => exact (Nat.zero_add _).symm
    | 1 => exact hq
  refine (canon_skip m q (by omega)).trans ?_
  by_cases b4 : 1280 ≤ q.val ∧ q.val < 1280 + 256
  · have hq : q.val = 1280 + (⟨q.val - 1280, by omega⟩ : Fin 256).val := by show _ = _ + (q.val - 1280); omega
    refine (canon_hit m _ q hq).trans ((dv_tile x0 x1 x2 x3 1 rfl _ _ _ _ m _ q hq).trans (congrArg (· + _) ?_))
    refine View.ld_unit_apply_of x5 _ _ _ _ (ix2 m q) fun a => ?_
    match a with
    | 0 => exact (Nat.zero_add _).symm
    | 1 => exact hq
  refine (canon_skip m q (by omega)).trans ?_
  by_cases b5 : 256 ≤ q.val ∧ q.val < 256 + 256
  · have hq : q.val = 256 + (⟨q.val - 256, by omega⟩ : Fin 256).val := by show _ = _ + (q.val - 256); omega
    refine (canon_hit m _ q hq).trans ((dk_tile x0 x1 x2 x3 1 rfl _ _ _ _ _ m _ q hq).trans (congrArg (· + _) ?_))
    refine View.ld_unit_apply_of x5 _ _ _ _ (ix2 m q) fun a => ?_
    match a with
    | 0 => exact (Nat.zero_add _).symm
    | 1 => exact hq
  refine (canon_skip m q (by omega)).trans ?_
  by_cases b6 : 1024 ≤ q.val ∧ q.val < 1024 + 256
  · have hq : q.val = 1024 + (⟨q.val - 1024, by omega⟩ : Fin 256).val := by show _ = _ + (q.val - 1024); omega
    refine (canon_hit m _ q hq).trans ((dv_tile x0 x1 x2 x3 0 rfl _ _ _ _ m _ q hq).trans (congrArg (· + _) ?_))
    refine View.ld_unit_apply_of x5 _ _ _ _ (ix2 m q) fun a => ?_
    match a with
    | 0 => exact (Nat.zero_add _).symm
    | 1 => exact hq
  refine (canon_skip m q (by omega)).trans ?_
  have hq : q.val = 0 + (⟨q.val - 0, by omega⟩ : Fin 256).val := by show _ = _ + (q.val - 0); omega
  refine (canon_hit m _ q hq).trans ((dk_tile x0 x1 x2 x3 0 rfl _ _ _ _ _ m _ q hq).trans (congrArg (· + _) ?_))
  refine View.ld_unit_apply_of x5 _ _ _ _ (ix2 m q) fun a => ?_
  match a with
  | 0 => exact (Nat.zero_add _).symm
  | 1 => exact hq

theorem out_A5 (c : Dev nD) (i : grid0.Coords) (a1 : Memref sig .tc .vmem S1024x1024 .bf16) (h1 : a1.IsWhole) (a2 : Memref sig .tc .vmem S256x1024 .bf16) (h2 : a2.IsWhole)
    (a3 : Memref sig .tc .vmem S256x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S256x2048 .f32) (h6 : a6.IsWhole) (hc : cond0_0 i)
    (x0 : Vec Ideal S1024x1024 .bf16) (x1 x2 : Vec Ideal S256x1024 .bf16) (x3 : Vec Ideal S1024x1024 .bf16) (m : Fin 256) (q : Fin 2048) :
    out0_A_5 c i a1 h1 a2 h2 a3 h3 a4 h4 a5 h5 a6 h6 hc x0 x1 x2 x3 (ix2 m q)
      = 0 + ∑ r : Fin 1024, Row.dkv (row x0 r) (row x3 r) (row x1) (row x2) m q := by
  frame_out
  by_cases b0 : 1792 ≤ q.val ∧ q.val < 1792 + 256
  · have hq : q.val = 1792 + (⟨q.val - 1792, by omega⟩ : Fin 256).val := by show _ = _ + (q.val - 1792); omega
    refine (canon_hit m _ q hq).trans ((dv_tile x0 x1 x2 x3 3 rfl _ _ _ _ m _ q hq).trans (congrArg (· + _) ?_))
    refine (read_acc m _ q hq).trans ?_
    refine (canon_skip m q (by omega)).trans ?_
    refine (canon_skip m q (by omega)).trans ?_
    refine (canon_skip m q (by omega)).trans ?_
    refine (canon_skip m q (by omega)).trans ?_
    refine (canon_skip m q (by omega)).trans ?_
    refine (canon_skip m q (by omega)).trans ?_
    refine (canon_skip m q (by omega)).trans ?_
    exact canon_zero _
  refine (canon_skip m q (by omega)).trans ?_
  by_cases b1 : 768 ≤ q.val ∧ q.val < 768 + 256
  · have hq : q.val = 768 + (⟨q.val - 768, by omega⟩ : Fin 256).val := by show _ = _ + (q.val - 768); omega
    refine (canon_hit m _ q hq).trans ((dk_tile x0 x1 x2 x3 3 rfl _ _ _ _ _ m _ q hq).trans (congrArg (· + _) ?_))
    refine (read_acc m _ q hq).trans ?_
    refine (canon_skip m q (by omega)).trans ?_
    refine (canon_skip m q (by omega)).trans ?_
    refine (canon_skip m q (by omega)).trans ?_
    refine (canon_skip m q (by omega)).trans ?_
    refine (canon_skip m q (by omega)).trans ?_
    refine (canon_skip m q (by omega)).trans ?_
    exact canon_zero _
  refine (canon_skip m q (by omega)).trans ?_
  by_cases b2 : 1536 ≤ q.val ∧ q.val < 1536 + 256
  · have hq : q.val = 1536 + (⟨q.val - 1536, by omega⟩ : Fin 256).val := by show _ = _ + (q.val - 1536); omega
    refine (canon_hit m _ q hq).trans ((dv_tile x0 x1 x2 x3 2 rfl _ _ _ _ m _ q hq).trans (congrArg (· + _) ?_))
    refine (read_acc m _ q hq).trans ?_
    refine (canon_skip m q (by omega)).trans ?_
    refine (canon_skip m q (by omega)).trans ?_
    refine (canon_skip m q (by omega)).trans ?_
    refine (canon_skip m q (by omega)).trans ?_
    refine (canon_skip m q (by omega)).trans ?_
    exact canon_zero _
  refine (canon_skip m q (by omega)).trans ?_
  by_cases b3 : 512 ≤ q.val ∧ q.val < 512 + 256
  · have hq : q.val = 512 + (⟨q.val - 512, by omega⟩ : Fin 256).val := by show _ = _ + (q.val - 512); omega
    refine (canon_hit m _ q hq).trans ((dk_tile x0 x1 x2 x3 2 rfl _ _ _ _ _ m _ q hq).trans (congrArg (· + _) ?_))
    refine (read_acc m _ q hq).trans ?_
    refine (canon_skip m q (by omega)).trans ?_
    refine (canon_skip m q (by omega)).trans ?_
    refine (canon_skip m q (by omega)).trans ?_
    refine (canon_skip m q (by omega)).trans ?_
    exact canon_zero _
  refine (canon_skip m q (by omega)).trans ?_
  by_cases b4 : 1280 ≤ q.val ∧ q.val < 1280 + 256
  · have hq : q.val = 1280 + (⟨q.val - 1280, by omega⟩ : Fin 256).val := by show _ = _ + (q.val - 1280); omega
    refine (canon_hit m _ q hq).trans ((dv_tile x0 x1 x2 x3 1 rfl _ _ _ _ m _ q hq).trans (congrArg (· + _) ?_))
    refine (read_acc m _ q hq).trans ?_
    refine (canon_skip m q (by omega)).trans ?_
    refine (canon_skip m q (by omega)).trans ?_
    refine (canon_skip m q (by omega)).trans ?_
    exact canon_zero _
  refine (canon_skip m q (by omega)).trans ?_
  by_cases b5 : 256 ≤ q.val ∧ q.val < 256 + 256
  · have hq : q.val = 256 + (⟨q.val - 256, by omega⟩ : Fin 256).val := by show _ = _ + (q.val - 256); omega
    refine (canon_hit m _ q hq).trans ((dk_tile x0 x1 x2 x3 1 rfl _ _ _ _ _ m _ q hq).trans (congrArg (· + _) ?_))
    refine (read_acc m _ q hq).trans ?_
    refine (canon_skip m q (by omega)).trans ?_
    refine (canon_skip m q (by omega)).trans ?_
    exact canon_zero _
  refine (canon_skip m q (by omega)).trans ?_
  by_cases b6 : 1024 ≤ q.val ∧ q.val < 1024 + 256
  · have hq : q.val = 1024 + (⟨q.val - 1024, by omega⟩ : Fin 256).val := by show _ = _ + (q.val - 1024); omega
    refine (canon_hit m _ q hq).trans ((dv_tile x0 x1 x2 x3 0 rfl _ _ _ _ m _ q hq).trans (congrArg (· + _) ?_))
    refine (read_acc m _ q hq).trans ?_
    refine (canon_skip m q (by omega)).trans ?_
    exact canon_zero _
  refine (canon_skip m q (by omega)).trans ?_
  have hq : q.val = 0 + (⟨q.val - 0, by omega⟩ : Fin 256).val := by show _ = _ + (q.val - 0); omega
  refine (canon_hit m _ q hq).trans ((dk_tile x0 x1 x2 x3 0 rfl _ _ _ _ _ m _ q hq).trans (congrArg (· + _) ?_))
  refine (read_acc m _ q hq).trans ?_
  exact canon_zero _

end Cert.KernelXIdeal.Block
end
-- ==== Proof.X.Arrays.lean ====
module
public import proofs.«01_k».proof.Proof.X.Block
@[expose] public section
set_option maxRecDepth 16384
noncomputable section
/-! What the arrays of the gradient of the memory attention hold after the run. -/
namespace Cert.KernelXIdeal.Arrays
open Cert.KernelXIdeal Cert.KernelXIdeal.Gen Idealize.ShloMosaic Idealize.ShloMosaic.TcCoe Idealize.SL.Sem
open Idealize.ShloMosaic.Pointwise Cert.KernelXIdeal.Block
open Idealize.ShloMosaic.Pipeline (Dat)
variable (m : (ℓ : Loc nD τ sig) → Buf (Elt Ideal) ℓ) (ρ : Dev nD → PrngReg)

theorem idx0 : ∀ t : Fin cfg0.N, win0_0.index t 0 = t.val ∧ win0_0.index t 1 = 0 ∧ win0_1.index t 0 = 0 ∧ win0_1.index t 1 = 0
    ∧ win0_2.index t 0 = 0 ∧ win0_2.index t 1 = 1 ∧ win0_3.index t 0 = t.val ∧ win0_3.index t 1 = 0
    ∧ win0_4.index t 0 = t.val ∧ win0_4.index t 1 = 0 ∧ win0_5.index t 0 = 0 ∧ win0_5.index t 1 = 0 :=
  (by decide +kernel : ∀ t : Fin grid0.N, _)

/-- The scaled queries. -/
abbrev Q (c : Dev nD) : FVec Ideal S4096x1024 .bf16 := V m c main_v2
/-- The keys and values side by side. -/
abbrev KV (c : Dev nD) : FVec Ideal S256x2048 .bf16 := V m c main_v3
/-- The gradient of the result. -/
abbrev DO (c : Dev nD) : FVec Ideal S4096x1024 .bf16 := V m c main_v4
/-- The keys. -/
abbrev Kf (c : Dev nD) (i : Fin 256) (d : Fin 1024) : EReal := KV m c (ix2 i ⟨d.val, by omega⟩)
/-- The values. -/
abbrev Vf (c : Dev nD) (i : Fin 256) (d : Fin 1024) : EReal := KV m c (ix2 i ⟨1024 + d.val, by omega⟩)

theorem row0 (c : Dev nD) (t : Fin cfg0.N) (p : Fin 1024) : row (iblk m c 0 t) p = row (Q m c) ⟨t.val * 1024 + p.val, by have := t.isLt; have : cfg0.N = 4 := N_0; omega⟩ := by
  funext d
  show iblk m c 0 t (ix2 p d) = Q m c (ix2 ⟨t.val * 1024 + p.val, _⟩ d)
  blk_ext [iblk, idx0 t]
theorem row3 (c : Dev nD) (t : Fin cfg0.N) (p : Fin 1024) : row (iblk m c 3 t) p = row (DO m c) ⟨t.val * 1024 + p.val, by have := t.isLt; have : cfg0.N = 4 := N_0; omega⟩ := by
  funext d
  show iblk m c 3 t (ix2 p d) = DO m c (ix2 ⟨t.val * 1024 + p.val, _⟩ d)
  blk_ext [iblk, idx0 t]
theorem row1 (c : Dev nD) (t : Fin cfg0.N) : row (iblk m c 1 t) = Kf m c := by
  funext p d
  show iblk m c 1 t (ix2 p d) = KV m c (ix2 p ⟨d.val, _⟩)
  blk_ext [iblk, idx0 t]
theorem row2 (c : Dev nD) (t : Fin cfg0.N) : row (iblk m c 2 t) = Vf m c := by
  funext p d
  show iblk m c 2 t (ix2 p d) = KV m c (ix2 p ⟨1024 + d.val, _⟩)
  blk_ext [iblk, idx0 t]

/-- A block of the queries' gradient after a point. -/
theorem outs1 (c : Dev nD) (t : Fin cfg0.N) (p q : Fin 1024) :
    (outsAt0 m c t.val t.isLt).1 (ix2 p q)
      = Row.dq (row (iblk m c 0 t) p) (row (iblk m c 3 t) p) (row (iblk m c 1 t)) (row (iblk m c 2 t)) q * Ideal.ofBits .f32 0x3D800000#32 := by
  by_cases h0 : t.val % 4 = 0
  · rw [outsAt0_A m c t h0]; dsimp only; rw [out_A4 (hy := rfl)]
  · rw [outsAt0_B m c t h0]; dsimp only; rw [out_B4 (hy := rfl)]

/-- The gradient of keys and values after the last point. -/
theorem outs2 (c : Dev nD) (i : Fin 256) (q : Fin 2048) :
    (outsAt0 m c t0_3.val t0_3.isLt).2 (ix2 i q)
      = ∑ t : Fin cfg0.N, ∑ p : Fin 1024, Row.dkv (row (iblk m c 0 t) p) (row (iblk m c 3 t) p) (row (iblk m c 1 t)) (row (iblk m c 2 t)) i q := by
  rw [Pipeline.eq_sum_fin_of_reset_step_apply_last (fun n h => (outsAt0 m c n h).2) 4 (fun _ => 0)
      (fun t j => ∑ p : Fin 1024, Row.dkv (row (iblk m c 0 t) p) (row (iblk m c 3 t) p) (row (iblk m c 1 t)) (row (iblk m c 2 t)) (j 0) (j 1))
      (fun t h j => by obtain ⟨a, b, rfl⟩ : ∃ (a : Fin 256) (b : Fin 2048), j = ix2 a b := ⟨j 0, j 1, eq_ix2 j⟩; rw [outsAt0_A m c t h]; dsimp only; rw [out_A5]; rfl)
      (fun t h j => by obtain ⟨a, b, rfl⟩ : ∃ (a : Fin 256) (b : Fin 2048), j = ix2 a b := ⟨j 0, j 1, eq_ix2 j⟩; rw [outsAt0_B m c t h]; dsimp only; rw [out_B5]; rfl) (le_of_eq N_0) t0_3 rfl (ix2 i q), zero_add]
  rfl

/-- The queries' gradient. -/
def gq (c : Dev nD) : Vec Ideal S4096x1024 .bf16 := fun j =>
  Row.dq (row (Q m c) (j 0)) (row (DO m c) (j 0)) (Kf m c) (Vf m c) (j 1) * Ideal.ofBits .f32 0x3D800000#32

/-- The keys' and values' gradient. -/
def gkv (c : Dev nD) : Vec Ideal S256x2048 .f32 := fun j =>
  ∑ r : Fin 4096, Row.dkv (row (Q m c) r) (row (DO m c) r) (Kf m c) (Vf m c) (j 0) (j 1)

theorem outs2' (c : Dev nD) : (outsAt0 m c t0_3.val t0_3.isLt).2 = gkv m c := by
  funext j
  obtain ⟨a, b, rfl⟩ : ∃ (a : Fin 256) (b : Fin 2048), j = ix2 a b := ⟨j 0, j 1, eq_ix2 j⟩
  rw [outs2]
  unfold gkv
  refine Eq.trans ?_ (Fin.sum_mul_add_fin (S := 4) (n := 1024) (L := 4096) fun r => Row.dkv (row (Q m c) r) (row (DO m c) r) (Kf m c) (Vf m c) a b)
  refine Finset.sum_congr rfl fun t _ => Finset.sum_congr rfl fun p _ => ?_
  rw [row0, row1, row2, row3]

/-- The one write-back of keys' and values' gradient. -/
theorem flushed5_eq (c : Dev nD) (t : Fin cfg0.N) (hf : (cfg0.win 5).flush t = true) :
    (dats m 0 c).flushed 5 t = ((cfg0.win 5).blk t).view.read (Elt Ideal) (gkv m c) := by
  have hN : cfg0.N = 4 := N_0
  have h3 : t.val = 3 := by have := (flush0_5 t).mp hf; have := t.isLt; omega
  obtain rfl : t = t0_3 := Fin.ext h3
  rw [Value.flushed5, outs2']
  have hz' : (fun a => win0_5.index t0_3 a * main_v5_1.ty.shape.size a) = fun _ => 0 := funext fun a => by fin_cases a <;> decide
  exact (Memref.read_access_unit_zero (Elt Ideal) main_v5_1 hz' (fun a => by rw [congrFun hz' a]; simp) (gkv m c)).symm

theorem final5 (c : Dev nD) : (dats m 0 c).arrAt 5 cfg0.N = gkv m c :=
  (dats m 0 c).arrAt_eq_of_cover 5 (gkv m c) (flushed5_eq m c) fun i =>
    ⟨t0_3, (flush0_5 t0_3).mpr rfl, by
      show i ∈ ((View.whole main_v5_1).slice (win0_5.rect t0_3)).set
      rw [View.set_slice_whole, Rect.mem_set_unit]
      intro a
      have h0 : (i 0 : Nat) < 256 := (i 0).isLt
      have h1 : (i 1 : Nat) < 2048 := (i 1).isLt
      match a with
      | ⟨0, _⟩ => show win0_5.index t0_3 0 * win0_5.size 0 ≤ (i 0 : Nat) ∧ (i 0 : Nat) < win0_5.index t0_3 0 * win0_5.size 0 + win0_5.xsize (grid0.coords t0_3) 0
                  rw [show win0_5.index t0_3 0 * win0_5.size 0 = 0 from by decide +kernel, show win0_5.xsize (grid0.coords t0_3) 0 = 256 from by decide +kernel]; omega
      | ⟨1, _⟩ => show win0_5.index t0_3 1 * win0_5.size 1 ≤ (i 1 : Nat) ∧ (i 1 : Nat) < win0_5.index t0_3 1 * win0_5.size 1 + win0_5.xsize (grid0.coords t0_3) 1
                  rw [show win0_5.index t0_3 1 * win0_5.size 1 = 0 from by decide +kernel, show win0_5.xsize (grid0.coords t0_3) 1 = 2048 from by decide +kernel]; omega⟩

theorem flushed4_eq (c : Dev nD) (t : Fin cfg0.N) (_hf : (cfg0.win 4).flush t = true) :
    (dats m 0 c).flushed 4 t = ((cfg0.win 4).blk t).view.read (Elt Ideal) (gq m c) := by
  rw [Value.flushed4]
  funext j
  obtain ⟨p, q, rfl⟩ : ∃ (p q : Fin 1024), j = ix2 p q := ⟨j 0, j 1, eq_ix2 j⟩
  have e : ((cfg0.win 4).blk t).view.read (Elt Ideal) (gq m c) (ix2 p q) = gq m c (ix2 ⟨t.val * 1024 + p.val, by have := t.isLt; have : cfg0.N = 4 := N_0; omega⟩ q) := by
    blk_ext [idx0 t]
  rw [e]
  refine (outs1 m c t p q).trans ?_
  rw [row0, row1, row2, row3]
  rfl

theorem final4 (c : Dev nD) : (dats m 0 c).arrAt 4 cfg0.N = gq m c :=
  (dats m 0 c).arrAt_eq_of_cover 4 (gq m c) (flushed4_eq m c) fun i =>
    have h0 : (i 0 : Nat) < 4096 := (i 0).isLt
    have h1 : (i 1 : Nat) < 1024 := (i 1).isLt
    have hN : cfg0.N = 4 := N_0
    let t : Fin cfg0.N := ⟨(i 0 : Nat) / 1024, by omega⟩
    ⟨t, flush0_4 t, by
      show i ∈ ((View.whole main_v5_0).slice (win0_4.rect t)).set
      rw [View.set_slice_whole, Rect.mem_set_unit]
      have e := idx0 t
      have e' : win0_4.xsize (grid0.coords t) 0 = 1024 ∧ win0_4.xsize (grid0.coords t) 1 = 1024 :=
        (by decide +kernel : ∀ t : Fin grid0.N, win0_4.xsize (grid0.coords t) 0 = 1024 ∧ win0_4.xsize (grid0.coords t) 1 = 1024) t
      intro a
      match a with
      | ⟨0, _⟩ => show win0_4.index t 0 * 1024 ≤ (i 0 : Nat) ∧ (i 0 : Nat) < win0_4.index t 0 * 1024 + win0_4.xsize (grid0.coords t) 0
                  rw [e.2.2.2.2.2.2.2.2.1, e'.1]; show (i 0 : Nat) / 1024 * 1024 ≤ _ ∧ _ < (i 0 : Nat) / 1024 * 1024 + 1024; omega
      | ⟨1, _⟩ => show win0_4.index t 1 * 1024 ≤ (i 1 : Nat) ∧ (i 1 : Nat) < win0_4.index t 1 * 1024 + win0_4.xsize (grid0.coords t) 1
                  rw [e.2.2.2.2.2.2.2.2.2.1, e'.2]; omega⟩

end Cert.KernelXIdeal.Arrays
end
-- ==== Proof.X.Ref.lean ====
module
public import proofs.«01_k».proof.Proof.X.Softmax
public import proofs.«01_k».proof.Proof.Gen.ReferenceXIdeal.Run
public import Idealize.ShloMosaic.Lib.Pointwise
@[expose] public section
set_option maxRecDepth 16384
noncomputable section
/-! What the reference's gradient of the memory attention computes. -/
namespace Cert.ReferenceXIdeal.Arrays
open Cert.ReferenceXIdeal Cert.ReferenceXIdeal.Gen Cert.ReferenceXIdeal.Value Idealize.ShloMosaic Idealize.ShloMosaic.TcCoe Idealize.SL.Sem
open Idealize.ShloMosaic.Pointwise

variable (a0 a2 : FVec Ideal S4096x1024 .f32) (a1 : FVec Ideal S256x2048 .f32)

/-- The scores. -/
def S : FVec Ideal S4x4096x256 .f32 := (Host.dotGeneral dot_S4096x4x256_S256x4x256_S4x4096x256_2_2_0_0_1_1 none (mulf (shapeCast _ a0 shapeCasts_S4096x1024_S4096x4x256) (broadcastInDim S4096x4x256 ![] bcast_S_S4096x4x256 (constant S_ .f32 0x3D800000#32))) (shapeCast _ (extractStridedSlice S256x1024 ![0, 0] a1 slices_S256x2048_S256x1024_0_0) shapeCasts_S256x1024_S256x4x256))
/-- The rows' largest. -/
def M (S : FVec Ideal S4x4096x256 .f32) : FVec Ideal S4x4096 .f32 := (Host.reduce FloatOps.maximumf S (constant S_ .f32 0xFF800000#32) reducesTo_S4x4096x256_S4x4096_d2 h_S_)
/-- The larger of a row's largest and −∞. -/
def B (M : FVec Ideal S4x4096 .f32) : FVec Ideal S4x4096 .f32 := (maximumf (broadcastInDim S4x4096 ![] bcast_S_S4x4096 (constant S_ .f32 0xFF800000#32)) (M))
/-- A number for each row, along the row. -/
def C (M : FVec Ideal S4x4096 .f32) : FVec Ideal S4x4096x256 .f32 := (broadcastInDim S4x4096x256 ![0, 1, 2] bcast_S4x4096x1_S4x4096x256_0_1_2 (broadcastInDim S4x4096x1 ![0, 1] bcast_S4x4096_S4x4096x1_0_1 (M)))
/-- Their exponentials. -/
def E (S : FVec Ideal S4x4096x256 .f32) : FVec Ideal S4x4096x256 .f32 := (Host.exp (subf S (C (B (M S)))))
/-- The rows' sums. -/
def L (E : FVec Ideal S4x4096x256 .f32) : FVec Ideal S4x4096x1 .f32 := (broadcastInDim S4x4096x1 ![0, 1] bcast_S4x4096_S4x4096x1_0_1 (Host.reduceAdd E (constant S_ .f32 0x00000000#32) reducesTo_S4x4096x256_S4x4096_d2 h_S_))
/-- The gradient of the softmax. -/
def D : FVec Ideal S4x4096x256 .f32 := (Host.dotGeneral dot_S4x256x4096_S256x4x256_S4x4096x256_1_2_2_0_0_1 none (transpose S4x256x4096 [1, 2, 0] (shapeCast _ a2 shapeCasts_S4096x1024_S4096x4x256) transposes_S4096x4x256_S4x256x4096_1_2_0) (shapeCast _ (extractStridedSlice S256x1024 ![0, 1024] a1 slices_S256x2048_S256x1024_0_1024) shapeCasts_S256x1024_S256x4x256))
/-- The gradient of the scores. -/
def G (D E : FVec Ideal S4x4096x256 .f32) (L : FVec Ideal S4x4096x1 .f32) : FVec Ideal S4x4096x256 .f32 := (mulf (addf (Host.divf D (broadcastInDim S4x4096x256 ![0, 1, 2] bcast_S4x4096x1_S4x4096x256_0_1_2 L)) (broadcastInDim S4x4096x256 ![0, 1] bcast_S4x4096_S4x4096x256_0_1 (Host.reduceAdd (Host.negf (shapeCast _ (Host.reduceAdd (mulf (mulf D (broadcastInDim S4x4096x256 ![0, 1, 2] bcast_S4x4096x1_S4x4096x256_0_1_2 (Host.divf (broadcastInDim S4x4096x1 ![] bcast_S_S4x4096x1 (constant S_ .f32 0x3F800000#32)) (mulf L L)))) E) (constant S_ .f32 0x00000000#32) reducesTo_S4x4096x256_S4x4096_d2 h_S_) shapeCasts_S4x4096_S4x4096x1)) (constant S_ .f32 0x00000000#32) reducesTo_S4x4096x1_S4x4096_d2 h_S_))) E)
/-- The queries' gradient. -/
def dq (G : FVec Ideal S4x4096x256 .f32) : FVec Ideal S4096x1024 .bf16 := truncf .bf16 (shapeCast _ (mulf (transpose S4096x4x256 [1, 0, 2] (Host.dotGeneral dot_S4x4096x256_S256x4x256_S4x4096x256_2_0_1_2_0_1 none G (shapeCast _ (extractStridedSlice S256x1024 ![0, 0] a1 slices_S256x2048_S256x1024_0_0) shapeCasts_S256x1024_S256x4x256)) transposes_S4x4096x256_S4096x4x256_1_0_2) (broadcastInDim S4096x4x256 ![] bcast_S_S4096x4x256 (constant S_ .f32 0x3D800000#32))) shapeCasts_S4096x4x256_S4096x1024) bitsLt_bf16_f32
/-- The keys' and values' gradient. -/
def dkv (G E : FVec Ideal S4x4096x256 .f32) (L : FVec Ideal S4x4096x1 .f32) : FVec Ideal S256x2048 .f32 := addf (pad S256x2048 ![0, 1024] ![0, 0] ![0, 0] (shapeCast _ (transpose S256x4x256 [2, 0, 1] (Host.dotGeneral dot_S4x256x4096_S4x4096x256_S4x256x256_2_1_1_2_0_0 none (transpose S4x256x4096 [1, 2, 0] (shapeCast _ a2 shapeCasts_S4096x1024_S4096x4x256) transposes_S4096x4x256_S4x256x4096_1_2_0) (Host.divf E (broadcastInDim S4x4096x256 ![0, 1, 2] bcast_S4x4096x1_S4x4096x256_0_1_2 L))) transposes_S4x256x256_S256x4x256_2_0_1) shapeCasts_S256x4x256_S256x1024) (constant S_ .f32 0x00000000#32) pads_S256x1024_S256x2048_000_102400 h_S_) (pad S256x2048 ![0, 0] ![0, 1024] ![0, 0] (shapeCast _ (transpose S256x4x256 [1, 0, 2] (Host.dotGeneral dot_S4x4096x256_S4096x4x256_S4x256x256_1_0_2_2_0_1 none G (mulf (shapeCast _ a0 shapeCasts_S4096x1024_S4096x4x256) (broadcastInDim S4096x4x256 ![] bcast_S_S4096x4x256 (constant S_ .f32 0x3D800000#32)))) transposes_S4x256x256_S256x4x256_1_0_2) shapeCasts_S256x4x256_S256x1024) (constant S_ .f32 0x00000000#32) pads_S256x1024_S256x2048_000_010240 h_S_)

theorem res68 (m : (ℓ : Loc nD τ sig) → Buf (Elt Ideal) ℓ) (c : Dev nD) : res_main_v68 m c
    = dq (m ((c.tc : Thread nD τ).loc main_arg1)) (G (D (m ((c.tc : Thread nD τ).loc main_arg2)) (m ((c.tc : Thread nD τ).loc main_arg1)))
      (E (S (m ((c.tc : Thread nD τ).loc main_arg0)) (m ((c.tc : Thread nD τ).loc main_arg1)))) (L (E (S (m ((c.tc : Thread nD τ).loc main_arg0)) (m ((c.tc : Thread nD τ).loc main_arg1)))))) := by
  unfold res_main_v68 dq G L E C B M S D; rfl

theorem res64 (m : (ℓ : Loc nD τ sig) → Buf (Elt Ideal) ℓ) (c : Dev nD) : res_main_v64 m c
    = dkv (m ((c.tc : Thread nD τ).loc main_arg0)) (m ((c.tc : Thread nD τ).loc main_arg2))  (G (D (m ((c.tc : Thread nD τ).loc main_arg2)) (m ((c.tc : Thread nD τ).loc main_arg1)))
      (E (S (m ((c.tc : Thread nD τ).loc main_arg0)) (m ((c.tc : Thread nD τ).loc main_arg1)))) (L (E (S (m ((c.tc : Thread nD τ).loc main_arg0)) (m ((c.tc : Thread nD τ).loc main_arg1))))))
      (E (S (m ((c.tc : Thread nD τ).loc main_arg0)) (m ((c.tc : Thread nD τ).loc main_arg1)))) (L (E (S (m ((c.tc : Thread nD τ).loc main_arg0)) (m ((c.tc : Thread nD τ).loc main_arg1))))) := by
  unfold res_main_v64 dkv G L E C B M S D; rfl

/-- The scaled queries. -/
def X (r : Fin 4096) (c : Fin 1024) : EReal := a0 (ix2 r c) * Ideal.ofBits .f32 0x3D800000#32
/-- The gradient of the result. -/
def O (r : Fin 4096) (c : Fin 1024) : EReal := a2 (ix2 r c)
/-- The keys. -/
def K (m : Fin 256) (c : Fin 1024) : EReal := a1 (ix2 m ⟨c.val, by omega⟩)
/-- The values. -/
def V (m : Fin 256) (c : Fin 1024) : EReal := a1 (ix2 m ⟨1024 + c.val, by omega⟩)

theorem S_apply (h : Fin 4) (r : Fin 4096) (m : Fin 256) : S a0 a1 (ix3 h r m) = Row.score (X a0 r) (K a1) h m := by
  unfold Row.score X K Row.col
  pointwise [S]
  exact Finset.sum_congr rfl fun d _ => mul_comm _ _

theorem D_apply (h : Fin 4) (r : Fin 4096) (m : Fin 256) : D a2 a1 (ix3 h r m) = Row.score (O a2 r) (V a1) h m := by
  unfold Row.score O V Row.col
  pointwise [D]
  exact Finset.sum_congr rfl fun d _ => mul_comm _ _

theorem M_apply (S : FVec Ideal S4x4096x256 .f32) (h : Fin 4) (r : Fin 4096) : M S (ix2 h r) = Row.top (fun m => S (ix3 h r m)) := by
  unfold Row.top
  pointwise [M]
  rw [show Ideal.ofBits FTy.f32 4286578688#32 = ⊥ from by simp [Ideal.ofBits, Ideal.ieee]]

theorem B_apply (M : FVec Ideal S4x4096 .f32) (h : Fin 4) (r : Fin 4096) : B M (ix2 h r) = M (ix2 h r) := by
  pointwise [B]
  rw [show Ideal.ofBits FTy.f32 4286578688#32 = ⊥ from by simp [Ideal.ofBits, Ideal.ieee], max_eq_right bot_le]

theorem C_apply (M : FVec Ideal S4x4096 .f32) (h : Fin 4) (r : Fin 4096) (m : Fin 256) : C M (ix3 h r m) = M (ix2 h r) := by
  pointwise [C]

theorem E_apply (S : FVec Ideal S4x4096x256 .f32) (h : Fin 4) (r : Fin 4096) (m : Fin 256) : E S (ix3 h r m) = Row.ex (fun m => S (ix3 h r m)) m := by
  unfold Row.ex
  rw [← M_apply, ← B_apply (M S), ← C_apply (B (M S)) h r m]
  rfl

theorem L_apply (E : FVec Ideal S4x4096x256 .f32) (h : Fin 4) (r : Fin 4096) : L E (ix3 h r 0) = ∑ m, E (ix3 h r m) := by
  pointwise [L]

theorem G_apply (D S : FVec Ideal S4x4096x256 .f32) (h : Fin 4) (r : Fin 4096) (m : Fin 256) :
    G D (E S) (L (E S)) (ix3 h r m) = Row.ds' (fun m => S (ix3 h r m)) (fun m => D (ix3 h r m)) m := by
  unfold Row.ds' Row.den
  pointwise [G, L_apply, E_apply]

theorem dq_apply (G : FVec Ideal S4x4096x256 .f32) (r : Fin 4096) (q : Fin 1024) : dq a1 G (ix2 r q) = (∑ m : Fin 256, G (ix3 (Row.head q) r m) * K a1 m q) * Ideal.ofBits .f32 0x3D800000#32 := by
  unfold K Row.head
  pointwise [dq]

theorem dkv_apply (G E : FVec Ideal S4x4096x256 .f32) (L : FVec Ideal S4x4096x1 .f32) (m : Fin 256) (q : Fin 2048) : dkv a0 a2 G E L (ix2 m q)
    = if h : q.val < 1024 then ∑ r : Fin 4096, G (ix3 (Row.head ⟨q.val, h⟩) r m) * X a0 r ⟨q.val, h⟩
      else ∑ r : Fin 4096, O a2 r ⟨q.val - 1024, by omega⟩ * Ideal.div (E (ix3 (Row.head ⟨q.val - 1024, by omega⟩) r m)) (L (ix3 (Row.head ⟨q.val - 1024, by omega⟩) r 0)) := by
  unfold Row.head X O
  pointwise [dkv]
  by_cases h : q.val < 1024
  · rw [dif_neg (by omega), dif_pos h, dif_pos h, zero_add]
    refine Finset.sum_congr rfl fun r _ => ?_
    simp only [Nat.div_add_mod']
  · rw [dif_pos (by omega), dif_neg h, dif_neg h, add_zero]
    refine Finset.sum_congr rfl fun r _ => ?_
    simp only [Nat.div_add_mod']

end Cert.ReferenceXIdeal.Arrays
end
-- ==== Proof.X.Quotient.lean ====
module
public import proofs.«01_k».proof.Proof.X.Softmax
@[expose] public section
noncomputable section
/-! The two gradients of a softmax row are equal where the row's scores are real. -/
namespace Cert.Row
open Idealize.ShloMosaic

theorem coe_sum {ι : Type} (t : Finset ι) (f : ι → ℝ) : ∑ k ∈ t, ((f k : ℝ) : EReal) = ((∑ k ∈ t, f k : ℝ) : EReal) := by
  classical
  induction t using Finset.induction_on with
  | empty => simp
  | insert a t h ih => rw [Finset.sum_insert h, Finset.sum_insert h, ih, EReal.coe_add]

/-- A nonnegative real factor moves into a sum of extended reals. -/
theorem mul_sum {ι : Type} (t : Finset ι) {a : ℝ} (ha : 0 ≤ a) (f : ι → EReal) :
    (a : EReal) * ∑ k ∈ t, f k = ∑ k ∈ t, (a : EReal) * f k := by
  classical
  induction t using Finset.induction_on with
  | empty => simp
  | insert b t h ih =>
    rw [Finset.sum_insert h, Finset.sum_insert h, ← ih]
    exact EReal.left_distrib_of_nonneg_of_ne_top (EReal.coe_nonneg.mpr ha) (EReal.coe_ne_top a) _ _

variable {n : Nat}

/-- A row of reals has a real largest entry. -/
theorem top_real (hn : 0 < n) (x : Fin n → ℝ) : ∃ t : ℝ, top (fun m => (x m : EReal)) = t := by
  classical
  have h : ∀ S : Finset (Fin n), S.Nonempty → ∃ t : ℝ, S.fold max ⊥ (fun m => (x m : EReal)) = t := by
    intro S hS
    induction hS using Finset.Nonempty.cons_induction with
    | singleton a => exact ⟨x a, by simp⟩
    | cons a S h _ ih =>
      obtain ⟨t, ht⟩ := ih
      exact ⟨max (x a) t, by rw [Finset.fold_cons, ht]; exact (EReal.coe_strictMono.monotone.map_max).symm⟩
  exact h _ ⟨⟨0, hn⟩, Finset.mem_univ _⟩

/-- Of a row of reals the exponentials are positive reals. -/
theorem ex_real (hn : 0 < n) (s : Fin n → EReal) (hs : ∀ m, ∃ x : ℝ, s m = x) :
    ∃ e : Fin n → ℝ, (∀ m, 0 < e m) ∧ ∀ m, ex s m = e m := by
  choose x hx using hs
  obtain rfl : s = fun m => (x m : EReal) := funext hx
  obtain ⟨t, ht⟩ := top_real hn x
  refine ⟨fun m => Real.exp (x m - t), fun m => Real.exp_pos _, fun m => ?_⟩
  unfold ex
  rw [ht, ← EReal.coe_sub]
  exact Ideal.exp_coe _

theorem ds'_eq (hn : 0 < n) (s g : Fin n → EReal) (hs : ∀ m, ∃ x : ℝ, s m = x) (m : Fin n) : ds' s g m = ds s g m := by
  obtain ⟨e, he, hex⟩ := ex_real hn s hs
  have hl : 0 < ∑ m, e m := Finset.sum_pos (fun m _ => he m) ⟨⟨0, hn⟩, Finset.mem_univ _⟩
  have hden : den s = ((∑ m, e m : ℝ) : EReal) := by
    unfold den
    rw [← coe_sum]
    exact Finset.sum_congr rfl fun m _ => hex m
  set l : ℝ := ∑ m, e m with hl'
  have hpr (k : Fin n) : pr s k = ((e k * (1 / l) : ℝ) : EReal) := by
    unfold pr
    rw [hden, hex, Ideal.div_coe hl.ne', ← EReal.coe_mul]
  have hterm (k : Fin n) : g k * Ideal.div 1 (den s * den s) * ex s k = ((1 / l : ℝ) : EReal) * (pr s k * g k) := by
    rw [hden, ← EReal.coe_mul, Ideal.div_coe (mul_pos hl hl).ne', one_mul, hex, hpr, mul_assoc, ← EReal.coe_mul, mul_comm (g k),
      ← mul_assoc, ← EReal.coe_mul]
    congr 2
    field_simp
  unfold ds' ds
  rw [Finset.sum_congr rfl fun k _ => hterm k, ← mul_sum _ (by positivity), Fin.sum_univ_one, hden, Ideal.div_coe hl.ne',
    mul_comm (g m), ← mul_neg, ← EReal.left_distrib_of_nonneg_of_ne_top (EReal.coe_nonneg.mpr (by positivity)) (EReal.coe_ne_top _),
    hex, hpr, mul_comm _ ((e m : ℝ) : EReal), ← mul_assoc, ← EReal.coe_mul]
  rfl

end Cert.Row
end
-- ==== Proof.X.Finite.lean ====
module
public import Idealize.ShloMosaic.Lib.Pointwise
@[expose] public section
noncomputable section
/-! Finite entries are real, and sums and products of reals are real. -/
namespace Cert.Real
open Idealize.ShloMosaic

/-- An extended real that is a real. -/
def Is (x : EReal) : Prop := ∃ r : ℝ, x = r

theorem Is.mul {x y : EReal} : Is x → Is y → Is (x * y)
  | ⟨a, ha⟩, ⟨b, hb⟩ => ⟨a * b, by rw [ha, hb, EReal.coe_mul]⟩
theorem Is.add {x y : EReal} : Is x → Is y → Is (x + y)
  | ⟨a, ha⟩, ⟨b, hb⟩ => ⟨a + b, by rw [ha, hb, EReal.coe_add]⟩
theorem Is.sum {ι : Type} (t : Finset ι) {f : ι → EReal} (h : ∀ k, Is (f k)) : Is (∑ k ∈ t, f k) := by
  classical
  induction t using Finset.induction_on with
  | empty => exact ⟨0, by simp⟩
  | insert a t ha ih => rw [Finset.sum_insert ha]; exact (h a).add ih

theorem inf_f32 : Ideal.ofBits FTy.f32 0x7F800000#32 = ⊤ := by simp [Ideal.ofBits, Ideal.ieee]

/-- The comparison of an absolute value with infinity tells a real. -/
theorem of_abs_lt {x : EReal} (h : Ideal.cmp .olt (max x (-x)) (Ideal.ofBits FTy.f32 0x7F800000#32) = 1#1) : Is x := by
  rw [inf_f32] at h
  have h' : max x (-x) < ⊤ := by
    by_contra hn
    simp only [Ideal.cmp, if_neg hn] at h
    exact absurd h (by simp [hn])
  rw [max_lt_iff] at h'
  refine ⟨x.toReal, (EReal.coe_toReal h'.1.ne ?_).symm⟩
  rintro rfl
  simp at h'

theorem sixteenth : Is (Ideal.ofBits FTy.f32 0x3D800000#32) := ⟨_, by simp [Ideal.ofBits, Ideal.ieee]; norm_cast⟩

end Cert.Real
end
-- ==== Proof.X.Equation.lean ====
module
public import proofs.«01_k».proof.Defs
public import proofs.«01_k».proof.Proof.X.Arrays
public import proofs.«01_k».proof.Proof.X.Ref
public import proofs.«01_k».proof.Proof.X.Quotient
public import proofs.«01_k».proof.Proof.X.Finite
@[expose] public section
set_option maxRecDepth 16384
noncomputable section
/-! The kernel of the memory attention's gradient and its reference compute the same arrays. -/
namespace Cert.EquationX
open Idealize.ShloMosaic Idealize.ShloMosaic.TcCoe Idealize.ShloMosaic.Pointwise Idealize.SL.Sem
open Cert.KernelXIdeal (nD τ sig)

variable (m : (ℓ : Loc nD τ sig) → Buf (Elt Ideal) ℓ) (c : Dev nD)

abbrev a0 : FVec Ideal KernelXIdeal.S4096x1024 .f32 := m ((c : Thread nD τ).loc KernelXIdeal.main_arg0)
abbrev a1 : FVec Ideal KernelXIdeal.S256x2048 .f32 := m ((c : Thread nD τ).loc KernelXIdeal.main_arg1)
abbrev a2 : FVec Ideal KernelXIdeal.S4096x1024 .f32 := m ((c : Thread nD τ).loc KernelXIdeal.main_arg2)

open ReferenceXIdeal.Arrays in
theorem rowQ (r : Fin 4096) : KernelXIdeal.Block.row (KernelXIdeal.Arrays.Q m c) r = X (a0 m c) r := by
  funext d
  show KernelXIdeal.Gen.V m c KernelXIdeal.main_v2 (ix2 r d) = a0 m c (ix2 r d) * _
  entry_read
  pointwise

open ReferenceXIdeal.Arrays in
theorem rowO (r : Fin 4096) : KernelXIdeal.Block.row (KernelXIdeal.Arrays.DO m c) r = O (a2 m c) r := by
  funext d
  show KernelXIdeal.Gen.V m c KernelXIdeal.main_v4 (ix2 r d) = a2 m c (ix2 r d)
  entry_read
  pointwise

open ReferenceXIdeal.Arrays in
theorem rowK : KernelXIdeal.Arrays.Kf m c = K (a1 m c) := by
  funext i d
  show KernelXIdeal.Gen.V m c KernelXIdeal.main_v3 (ix2 i ⟨d.val, _⟩) = a1 m c (ix2 i ⟨d.val, _⟩)
  entry_read
  pointwise

open ReferenceXIdeal.Arrays in
theorem rowV : KernelXIdeal.Arrays.Vf m c = V (a1 m c) := by
  funext i d
  show KernelXIdeal.Gen.V m c KernelXIdeal.main_v3 (ix2 i ⟨1024 + d.val, _⟩) = a1 m c (ix2 i ⟨1024 + d.val, _⟩)
  entry_read
  pointwise

/-- The precondition makes queries, keys and values real. -/
theorem real_args [Pre_finite_x.Facts] (h : Pre_KernelXIdeal_finite_x m) : (∀ j, Real.Is (a0 m c j)) ∧ ∀ j, Real.Is (a1 m c j) :=
  ⟨fun j => Real.of_abs_lt (congrFun (h c).1 j), fun j => Real.of_abs_lt (congrFun (h c).2 j)⟩

/-- The scores are real. -/
theorem score_real [Pre_finite_x.Facts] (h : Pre_KernelXIdeal_finite_x m) (r : Fin 4096) (e : Fin 4) (k : Fin 256) :
    Real.Is (Row.score (ReferenceXIdeal.Arrays.X (a0 m c) r) (ReferenceXIdeal.Arrays.K (a1 m c)) e k) :=
  Real.Is.sum _ fun _ => ((real_args m c h).2 _).mul (((real_args m c h).1 _).mul Real.sixteenth)

open ReferenceXIdeal.Arrays in
theorem S_row (r : Fin 4096) (e : Fin 4) : (fun k => S (a0 m c) (a1 m c) (ix3 e r k)) = Row.score (X (a0 m c) r) (K (a1 m c)) e :=
  funext fun k => S_apply _ _ e r k
open ReferenceXIdeal.Arrays in
theorem D_row (r : Fin 4096) (e : Fin 4) : (fun k => D (a2 m c) (a1 m c) (ix3 e r k)) = Row.score (O (a2 m c) r) (V (a1 m c)) e :=
  funext fun k => D_apply _ _ e r k

open ReferenceXIdeal.Arrays in
theorem G_row [Pre_finite_x.Facts] (h : Pre_KernelXIdeal_finite_x m) (r : Fin 4096) (e : Fin 4) (k : Fin 256) :
    G (D (a2 m c) (a1 m c)) (E (S (a0 m c) (a1 m c))) (L (E (S (a0 m c) (a1 m c)))) (ix3 e r k)
      = Row.ds (Row.score (X (a0 m c) r) (K (a1 m c)) e) (Row.score (O (a2 m c) r) (V (a1 m c)) e) k := by
  rw [G_apply, S_row, D_row, Row.ds'_eq (by decide) _ _ (score_real m c h r e)]

open ReferenceXIdeal.Arrays in
/-- The gradients of the queries are equal. -/
theorem gq_eq [Pre_finite_x.Facts] (h : Pre_KernelXIdeal_finite_x m) : KernelXIdeal.Arrays.gq m c
    = dq (a1 m c) (G (D (a2 m c) (a1 m c)) (E (S (a0 m c) (a1 m c))) (L (E (S (a0 m c) (a1 m c))))) := by
  funext j
  obtain ⟨r, q, rfl⟩ : ∃ (r : Fin 4096) (q : Fin 1024), j = ix2 r q := ⟨j 0, j 1, eq_ix2 j⟩
  rw [dq_apply]
  show Row.dq (KernelXIdeal.Block.row (KernelXIdeal.Arrays.Q m c) r) (KernelXIdeal.Block.row (KernelXIdeal.Arrays.DO m c) r) _ _ q * _ = _
  rw [rowQ, rowO, rowK, rowV]
  unfold Row.dq
  rw [Finset.sum_congr rfl fun k _ => by rw [← G_row m c h]]

open ReferenceXIdeal.Arrays in
/-- The gradients of the keys and values are equal. -/
theorem gkv_eq [Pre_finite_x.Facts] (h : Pre_KernelXIdeal_finite_x m) : KernelXIdeal.Arrays.gkv m c
    = dkv (a0 m c) (a2 m c) (G (D (a2 m c) (a1 m c)) (E (S (a0 m c) (a1 m c))) (L (E (S (a0 m c) (a1 m c)))))
        (E (S (a0 m c) (a1 m c))) (L (E (S (a0 m c) (a1 m c)))) := by
  funext j
  obtain ⟨k, q, rfl⟩ : ∃ (k : Fin 256) (q : Fin 2048), j = ix2 k q := ⟨j 0, j 1, eq_ix2 j⟩
  rw [dkv_apply]
  show ∑ r : Fin 4096, Row.dkv (KernelXIdeal.Block.row (KernelXIdeal.Arrays.Q m c) r) (KernelXIdeal.Block.row (KernelXIdeal.Arrays.DO m c) r) _ _ k q = _
  rw [rowK, rowV]
  by_cases hq : q.val < 1024
  · rw [dif_pos hq]
    refine Finset.sum_congr rfl fun r _ => ?_
    rw [rowQ, rowO, Row.dkv, dif_pos hq, Row.dk, ← G_row m c h]
  · rw [dif_neg hq]
    refine Finset.sum_congr rfl fun r _ => ?_
    rw [rowQ, rowO, Row.dkv, dif_neg hq, Row.dv, Row.pr, Row.den, L_apply, mul_comm]
    simp only [E_apply, S_row]

end Cert.EquationX
end
-- ==== Proof.X.Claims.lean ====
module
public import proofs.«01_k».proof.Proof.X.Equation
public import proofs.«01_k».proof.Proof.Gen.KernelX.Frame
public import proofs.«01_k».proof.Proof.Gen.KernelXIdeal.Value
public import proofs.«01_k».proof.Proof.Gen.ReferenceXIdeal.Run
public import Idealize.ShloMosaic.Adequacy
public import Idealize.ShloMosaic.Init
@[expose] public section
noncomputable section
/-! The claims about the gradient of the memory attention. -/
namespace Cert.ClaimsX
open Idealize.ShloMosaic Idealize.SL.Sem

theorem frame : Cert.quiescent_KernelX := fun m ρ _ => Cert.KernelX.Gen.frame m ρ
theorem frame_ideal : Cert.quiescent_KernelXIdeal := fun m ρ _ => Cert.KernelXIdeal.Gen.frame m ρ
theorem frame_ideal_pre [Cert.Pre_finite_x.Facts] : Cert.quiescent_KernelXIdeal_pre_finite_x := fun m ρ _ => Cert.KernelXIdeal.Gen.frame m ρ

theorem frame_ref : Cert.quiescent_ReferenceXIdeal := fun m ρ _ =>
  (θ_run Cert.ReferenceXIdeal.defs _ _).mono (fun r h => ⟨fun c => (h c).2.2, Idealize.ShloMosaic.sem_eq_zero_of_no_sems (by decide) r.2⟩)
    (Cert.ReferenceXIdeal.Value.run (F := Ideal) m ρ)
theorem frame_ref_pre [Cert.Pre_finite_x.Facts] : Cert.quiescent_ReferenceXIdeal_pre_finite_x := fun m ρ _ =>
  (θ_run Cert.ReferenceXIdeal.defs _ _).mono (fun r h => ⟨fun c => (h c).2.2, Idealize.ShloMosaic.sem_eq_zero_of_no_sems (by decide) r.2⟩)
    (Cert.ReferenceXIdeal.Value.run (F := Ideal) m ρ)

theorem algebraic [Cert.Pre_finite_x.Facts] : Cert.algebraic_KernelXIdeal_ReferenceXIdeal_pre_finite_x := by
  intro m ρ m' ρ' hpre hagree
  refine ⟨fun c => KernelXIdeal.Arrays.gq m c, fun c => KernelXIdeal.Arrays.gkv m c, ?_, ?_⟩
  · exact (θ_run Cert.KernelXIdeal.defs _ _).mono
      (fun _ h c => ⟨(h c).1.trans (KernelXIdeal.Arrays.final4 m c), (h c).2.1.trans (KernelXIdeal.Arrays.final5 m c), (h c).2.2⟩)
      (Cert.KernelXIdeal.Value.run_blocks (F := Ideal) m ρ)
  · refine (θ_run Cert.ReferenceXIdeal.defs _ _).mono (fun _ h c => ⟨(h c).1.trans ?_, (h c).2.1.trans ?_, (h c).2.2⟩)
      (Cert.ReferenceXIdeal.Value.run (F := Ideal) m' ρ')
    · show _ = KernelXIdeal.Arrays.gq m c
      rw [EquationX.gq_eq m c hpre, ReferenceXIdeal.Arrays.res68, (hagree c).1, (hagree c).2.1, (hagree c).2.2]
    · show _ = KernelXIdeal.Arrays.gkv m c
      rw [EquationX.gkv_eq m c hpre, ReferenceXIdeal.Arrays.res64, (hagree c).1, (hagree c).2.1, (hagree c).2.2]

end Cert.ClaimsX
end
-- ==== Proof.F.Tile.lean ====
module
public import proofs.«01_k».proof.Proof.Gen.KernelFIdeal.Value
public import Idealize.ShloMosaic.Lib.Pipeline.ValueKit
public import Idealize.ShloMosaic.Lib.Pointwise
@[expose] public section
set_option maxRecDepth 16384
noncomputable section
/-! What one chunk of keys computes in the gradient of the flash attention. -/
namespace Cert.KernelFIdeal.Tile
open Cert.KernelFIdeal Cert.KernelFIdeal.Gen Idealize.ShloMosaic Idealize.ShloMosaic.TcCoe Idealize.SL.Sem
open Idealize.ShloMosaic.Pointwise
open Idealize.ShloMosaic.Pipeline (Dat)

/-- A key's product with a slotted row. -/
def sc (k : Vec Ideal S4096x128 .bf16) (x : Vec Ideal S2048x128 .bf16) (j : Fin 4096) (y : Fin 2048) : EReal :=
  ∑ d : Fin 128, k (ix2 j d) * x (ix2 y d)

/-- The weight of a key for a slotted row. -/
def pt (l : Vec Ideal S1x2048 .f32) (k : Vec Ideal S4096x128 .bf16) (q : Vec Ideal S2048x128 .bf16) (j : Fin 4096) (y : Fin 2048) : EReal :=
  Ideal.exp2 (sc k q j y - l (ix2 0 y))

/-- The gradient of a score. -/
def dst (l e : Vec Ideal S1x2048 .f32) (k v : Vec Ideal S4096x128 .bf16) (q o : Vec Ideal S2048x128 .bf16) (j : Fin 4096) (y : Fin 2048) : EReal :=
  pt l k q j y * (sc v o j y - e (ix2 0 y))

/-- The name of the natural logarithm of two. -/
abbrev ln2 : EReal := (Named.named κ "ln2" 0x3F317218#32 : Ideal .f32)

/-- A chunk of 512 rows of keys at an entry. -/
theorem ld_rows (x : Vec Ideal S4096x128 .bf16) {o : Nat} (i) (a : Fin 512) (d : Fin 128)
    (j : Fin 4096) (hj : j.val = o + a.val) :
    View.ld x (Rect.unit (s := S4096x128) ![o, 0] ![512, 128] i) (ix2 a d) = x (ix2 j d) := by
  refine View.ld_unit_apply_of x _ _ _ _ (ix2 j d) fun b => ?_
  match b with
  | 0 => exact hj
  | 1 => exact (Nat.zero_add _).symm

theorem st_apply (q : Vec Ideal S2048x128 .bf16) (w : Vec Ideal S512x128 .bf16) (a : Fin 512) (y : Fin 2048) (z : Fin 1) :
    k0_pay31 q w (ix3 z a y) = ∑ d : Fin 128, w (ix2 a d) * q (ix2 y d) := by
  pointwise [k0_pay31]

theorem pt_apply (l : FVec Ideal S1x2048 .f32) (s : Vec Ideal S1x512x2048 .f32) (a : Fin 512) (y : Fin 2048) :
    k0_pay36 l s (ix2 a y) = Ideal.exp2 (s (ix3 0 a y) - l (ix2 0 y)) := by
  pointwise [k0_pay36]
  rfl

theorem dst_apply (l e : FVec Ideal S1x2048 .f32) (s p : Vec Ideal S1x512x2048 .f32) (a : Fin 512) (y : Fin 2048) :
    k0_pay37 l e s p (ix2 a y) = Ideal.exp2 (s (ix3 0 a y) - l (ix2 0 y)) * (p (ix3 0 a y) - e (ix2 0 y)) := by
  pointwise [k0_pay37, pt_apply]

theorem dv_apply (o : Vec Ideal S2048x128 .bf16) (l : FVec Ideal S1x2048 .f32) (s : Vec Ideal S1x512x2048 .f32) (c : Vec Ideal S512x128 .f32)
    (a : Fin 512) (d : Fin 128) :
    k0_pay38 o l s c (ix2 a d) = c (ix2 a d) + ∑ y : Fin 2048, Ideal.exp2 (s (ix3 0 a y) - l (ix2 0 y)) * o (ix2 y d) := by
  pointwise [k0_pay38, pt_apply]

theorem dk_apply (q : Vec Ideal S2048x128 .bf16) (l e : FVec Ideal S1x2048 .f32) (s p : Vec Ideal S1x512x2048 .f32) (c : Vec Ideal S512x128 .f32)
    (a : Fin 512) (d : Fin 128) :
    k0_pay39 q l e s p c (ix2 a d) = c (ix2 a d)
      + (∑ y : Fin 2048, Ideal.exp2 (s (ix3 0 a y) - l (ix2 0 y)) * (p (ix3 0 a y) - e (ix2 0 y)) * q (ix2 y d)) * ln2 := by
  pointwise [k0_pay39, dst_apply]

theorem dq_apply (c : FVec Ideal S128x2048 .f32) (g : FVec Ideal S512x2048 .bf16) (t : Vec Ideal S128x512 .bf16) (d : Fin 128) (y : Fin 2048) :
    k0_pay48 c g t (ix2 d y) = c (ix2 d y) + ∑ a : Fin 512, t (ix2 d a) * g (ix2 a y) := by
  pointwise [k0_pay48]

theorem sc_eq (x : Vec Ideal S4096x128 .bf16) (q : Vec Ideal S2048x128 .bf16) {o : Nat} (i) (a : Fin 512) (y : Fin 2048) (j : Fin 4096)
    (hj : j.val = o + a.val) :
    k0_pay31 q (View.ld x (Rect.unit (s := S4096x128) ![o, 0] ![512, 128] i)) (ix3 0 a y) = sc x q j y := by
  rw [st_apply]
  exact Finset.sum_congr rfl fun d _ => congrArg (· * _) (ld_rows x i a d j hj)

/-- A chunk of the score gradients at an entry. -/
theorem dst_tile (l e : FVec Ideal S1x2048 .f32) (k v : Vec Ideal S4096x128 .bf16) (q o : Vec Ideal S2048x128 .bf16) {n : Nat} (i i') (a : Fin 512)
    (y : Fin 2048) (j : Fin 4096) (hj : j.val = n + a.val) :
    k0_pay37 l e (k0_pay31 q (View.ld k (Rect.unit (s := S4096x128) ![n, 0] ![512, 128] i)))
      (k0_pay31 o (View.ld v (Rect.unit (s := S4096x128) ![n, 0] ![512, 128] i'))) (ix2 a y) = dst l e k v q o j y := by
  rw [dst_apply, sc_eq k q i a y j hj, sc_eq v o i' a y j hj]
  rfl

/-- What a chunk adds to the values' gradient. -/
def dvs (l : Vec Ideal S1x2048 .f32) (k : Vec Ideal S4096x128 .bf16) (q o : Vec Ideal S2048x128 .bf16) (j : Fin 4096) (d : Fin 128) : EReal :=
  ∑ y : Fin 2048, pt l k q j y * o (ix2 y d)

/-- What a chunk adds to the keys' gradient. -/
def dks (l e : Vec Ideal S1x2048 .f32) (k v : Vec Ideal S4096x128 .bf16) (q o : Vec Ideal S2048x128 .bf16) (j : Fin 4096) (d : Fin 128) : EReal :=
  (∑ y : Fin 2048, dst l e k v q o j y * q (ix2 y d)) * ln2

theorem dv_tile (l : FVec Ideal S1x2048 .f32) (k : Vec Ideal S4096x128 .bf16) (q o : Vec Ideal S2048x128 .bf16) (c : Vec Ideal S512x128 .f32)
    (C : Vec Ideal S4096x128 .f32) {n : Nat} (i) (x : S512x128.Idx) (j : S4096x128.Idx) (h0 : (j 0).val = n + (x 0).val) (h1 : (j 1).val = (x 1).val)
    (hc : c x = C j) :
    k0_pay38 o l (k0_pay31 q (View.ld k (Rect.unit (s := S4096x128) ![n, 0] ![512, 128] i))) c x = C j + dvs l k q o (j 0) (j 1) := by
  obtain ⟨a, d, rfl⟩ : ∃ (a : Fin 512) (d : Fin 128), x = ix2 a d := ⟨x 0, x 1, eq_ix2 x⟩
  have hd : j 1 = d := Fin.ext h1
  rw [dv_apply, hc, hd]
  refine congrArg (C j + ·) (Finset.sum_congr rfl fun y _ => ?_)
  rw [sc_eq k q i a y (j 0) h0]
  rfl

theorem dk_tile (l e : FVec Ideal S1x2048 .f32) (k v : Vec Ideal S4096x128 .bf16) (q o : Vec Ideal S2048x128 .bf16) (c : Vec Ideal S512x128 .f32)
    (C : Vec Ideal S4096x128 .f32) {n : Nat} (i i') (x : S512x128.Idx) (j : S4096x128.Idx) (h0 : (j 0).val = n + (x 0).val)
    (h1 : (j 1).val = (x 1).val) (hc : c x = C j) :
    k0_pay39 q l e (k0_pay31 q (View.ld k (Rect.unit (s := S4096x128) ![n, 0] ![512, 128] i)))
      (k0_pay31 o (View.ld v (Rect.unit (s := S4096x128) ![n, 0] ![512, 128] i'))) c x = C j + dks l e k v q o (j 0) (j 1) := by
  obtain ⟨a, d, rfl⟩ : ∃ (a : Fin 512) (d : Fin 128), x = ix2 a d := ⟨x 0, x 1, eq_ix2 x⟩
  have hd : j 1 = d := Fin.ext h1
  rw [dk_apply, hc, hd]
  refine congrArg (C j + ·) (congrArg (· * ln2) (Finset.sum_congr rfl fun y _ => ?_))
  rw [sc_eq k q i a y (j 0) h0, sc_eq v o i' a y (j 0) h0]
  rfl

/-- What was there before, read back at an entry. -/
theorem acc_ld (C : Vec Ideal S4096x128 .f32) {n : Nat} (i) (x : S512x128.Idx) (j : S4096x128.Idx) (h0 : (j 0).val = n + (x 0).val)
    (h1 : (j 1).val = (x 1).val) : View.ld C (Rect.unit (s := S4096x128) ![n, 0] ![512, 128] i) x = C j := by
  refine View.ld_unit_apply_of C _ _ _ _ j fun b => ?_
  match b with
  | 0 => exact h0
  | 1 => exact h1.trans (Nat.zero_add _).symm

/-- What a chunk adds to the queries' gradient. -/
theorem dq_tile (l e : FVec Ideal S1x2048 .f32) (k v : Vec Ideal S4096x128 .bf16) (t : Vec Ideal S128x4096 .bf16) (q o : Vec Ideal S2048x128 .bf16)
    (c : FVec Ideal S128x2048 .f32) {n : Nat} (i i' u) (d : Fin 128) (y : Fin 2048) (J : Fin 512 → Fin 4096) (hJ : ∀ a, (J a).val = n + a.val) :
    k0_pay48 c (k0_pay37 l e (k0_pay31 q (View.ld k (Rect.unit (s := S4096x128) ![n, 0] ![512, 128] i)))
        (k0_pay31 o (View.ld v (Rect.unit (s := S4096x128) ![n, 0] ![512, 128] i'))))
      (View.ld t (Rect.unit (s := S128x4096) ![0, n] ![128, 512] u)) (ix2 d y)
      = c (ix2 d y) + ∑ a : Fin 512, t (ix2 d (J a)) * dst l e k v q o (J a) y := by
  rw [dq_apply]
  refine congrArg (c (ix2 d y) + ·) (Finset.sum_congr rfl fun a _ => ?_)
  rw [dst_tile l e k v q o i i' a y (J a) (hJ a)]
  refine congrArg (· * _) (View.ld_unit_apply_of t _ _ _ _ (ix2 d (J a)) fun b => ?_)
  match b with
  | 0 => exact (Nat.zero_add _).symm
  | 1 => exact hJ a

/-- The last chunk's sum is stored through a cast to its own shape. -/
theorem dq_last (c : FVec Ideal S128x2048 .f32) (g : FVec Ideal S512x2048 .bf16) (t : Vec Ideal S128x512 .bf16) : k0_pay2 c g t = k0_pay48 c g t :=
  shapeCast_self _ _

/-- A piece stored before pieces that cover everything is not seen. -/
theorem canon_append {s : Shape} {e : EltTy} (p : View.Piece (Elt Ideal) s e) (y : s.Idx) :
    ∀ L : List (View.Piece (Elt Ideal) s e), (∃ q ∈ L, y ∈ q.1.set) → View.canon (L ++ [p]) y = View.canon L y
  | [], h => by obtain ⟨q, hq, _⟩ := h; exact absurd hq List.not_mem_nil
  | q :: L, h => by
    by_cases hm : y ∈ q.1.set
    · obtain ⟨x, rfl⟩ := q.1.exists_idx_of_mem hm
      exact (View.canon_cons_emb q.1 q.2 (L ++ [p]) x).trans (View.canon_cons_emb q.1 q.2 L x).symm
    · refine (View.canon_cons_of_not_mem q (L ++ [p]) hm).trans ((canon_append p y L ?_).trans (View.canon_cons_of_not_mem q L hm).symm)
      obtain ⟨r, hr, hy⟩ := h
      rcases List.mem_cons.mp hr with rfl | hr
      · exact absurd hy hm
      · exact ⟨r, hr, hy⟩

/-- Eight chunks of rows, added one after the other, are all the rows. -/
theorem sum_chunks (f : Fin 4096 → EReal) :
    ((((((((0 + ∑ a : Fin 512, f ⟨0 + a.val, by omega⟩) + ∑ a : Fin 512, f ⟨512 + a.val, by omega⟩) + ∑ a : Fin 512, f ⟨1024 + a.val, by omega⟩)
      + ∑ a : Fin 512, f ⟨1536 + a.val, by omega⟩) + ∑ a : Fin 512, f ⟨2048 + a.val, by omega⟩) + ∑ a : Fin 512, f ⟨2560 + a.val, by omega⟩)
      + ∑ a : Fin 512, f ⟨3072 + a.val, by omega⟩) + ∑ a : Fin 512, f ⟨3584 + a.val, by omega⟩) = ∑ j : Fin 4096, f j := by
  refine Eq.trans ?_ (Fin.sum_mul_add_fin 8 512 f)
  rw [Fin.sum_univ_eight, zero_add]
  rfl

/-- The first chunks start at nothing. -/
theorem dq_start (d : Fin 128) (y : Fin 2048) : (k0_pay29 : FVec Ideal S128x2048 .f32) (ix2 d y) = 0 := by
  pointwise [k0_pay29]

theorem dk_start (j : S4096x128.Idx) : (k0_pay26 : FVec Ideal S4096x128 .f32) j = 0 := by
  pointwise [k0_pay26]

theorem dv_start (j : S4096x128.Idx) : (k0_pay27 : FVec Ideal S4096x128 .f32) j = 0 := by
  pointwise [k0_pay27]

theorem zero_plus {a b : EReal} (h : a = 0) : a + b = b := by
  rw [h, zero_add]

end Cert.KernelFIdeal.Tile
end
-- ==== Proof.F.Slot.lean ====
module
public import proofs.«01_k».proof.Proof.F.Tile
@[expose] public section
set_option maxRecDepth 16384
noncomputable section
/-! The four heads' columns put below each other, and taken back. -/
namespace Cert.KernelFIdeal.Tile
open Cert.KernelFIdeal Cert.KernelFIdeal.Gen Idealize.ShloMosaic Idealize.ShloMosaic.TcCoe Idealize.SL.Sem
open Idealize.ShloMosaic.Pointwise

/-- A slotted matrix: the four heads' columns below each other, in the lanes of their keys. -/
def slot (p : BitVec 1) (x : Vec Ideal S512x256 .bf16) (y : Fin 2048) (d : Fin 128) : EReal :=
  if (p = 1#1 ↔ d.val < 64) then x (ix2 ⟨y.val % 512, Nat.mod_lt _ (by decide)⟩ ⟨64 * (y.val / 512) + d.val % 64, by omega⟩) else 0

theorem sel_one {α : Type} (a b : α) : Scalar.select 1#1 a b = a := rfl

theorem sel_zero {α : Type} (a b : α) : Scalar.select 0#1 a b = b := rfl

theorem ext2 {n m : Nat} {α : Type} (x : (⟨2, ![n, m]⟩ : Shape).Idx → α) {a a' : Fin n} {b b' : Fin m} (ha : a.val = a'.val) (hb : b.val = b'.val) :
    x (ix2 a b) = x (ix2 a' b') := by
  rw [Fin.ext ha, Fin.ext hb]

theorem lane_lt (c : Fin 128) : IntOp.cmpi CmpIPredicate.slt (BitVec.ofNat 32 c.val) 64#32 = if c.val < 64 then 1#1 else 0#1 := by
  revert c; decide +kernel

theorem mask_apply (p : BitVec 1) (t : Fin 512) (d : Fin 128) : (k0_pay5 p : IVec S512x128 1) (ix2 t d) = if (p = 1#1 ↔ d.val < 64) then 1#1 else 0#1 := by
  pointwise [k0_pay5]
  rcases BitVec.eq_zero_or_eq_one p with rfl | rfl <;> revert d <;> decide +kernel

theorem slot_cases (p : BitVec 1) (x : Vec Ideal S512x256 .bf16) (y : Fin 2048) (d : Fin 128) :
    (if h : y.val < 512 then
      Scalar.select (if p = 1#1 ↔ d.val < 64 then 1#1 else 0#1)
        (Scalar.select p (x (ix2 ⟨y.val, by omega⟩ ⟨d.val, by omega⟩)) (x (ix2 ⟨y.val, by omega⟩ ⟨(d.val + 128 - 64) % 128, by omega⟩))) (0 : EReal)
    else
      if h : y.val - 512 < 512 then
        Scalar.select (if p = 1#1 ↔ d.val < 64 then 1#1 else 0#1)
          (Scalar.select p (x (ix2 ⟨y.val - 512, by omega⟩ ⟨(d.val + 128 - 64) % 128, by omega⟩)) (x (ix2 ⟨y.val - 512, by omega⟩ ⟨d.val, by omega⟩))) 0
      else
        if h : y.val - 512 - 512 < 512 then
          Scalar.select (if p = 1#1 ↔ d.val < 64 then 1#1 else 0#1)
            (Scalar.select p (x (ix2 ⟨y.val - 512 - 512, by omega⟩ ⟨128 + d.val, by omega⟩))
              (x (ix2 ⟨y.val - 512 - 512, by omega⟩ ⟨128 + (d.val + 128 - 64) % 128, by omega⟩)))
            0
        else
          Scalar.select (if p = 1#1 ↔ d.val < 64 then 1#1 else 0#1)
            (Scalar.select p (x (ix2 ⟨y.val - 512 - 512 - 512, by omega⟩ ⟨128 + (d.val + 128 - 64) % 128, by omega⟩))
              (x (ix2 ⟨y.val - 512 - 512 - 512, by omega⟩ ⟨128 + d.val, by omega⟩)))
            0) =
    slot p x y d := by
  have hy := y.isLt
  have hd := d.isLt
  unfold slot
  rcases BitVec.eq_zero_or_eq_one p with rfl | rfl <;> by_cases hl : d.val < 64 <;>
    simp only [hl, sel_one, sel_zero, iff_true, iff_false, if_true, if_false, not_true, not_false_iff, show (0#1 : BitVec 1) ≠ 1#1 by decide] <;>
    split_ifs <;> first | rfl | (refine ext2 x ?_ ?_ <;> simp only <;> omega)

/-- The lane that holds a column's gradient. -/
theorem unslot_apply (p : BitVec 1) (x : Vec Ideal S128x2048 .f32) (t : Fin 512) (c : Fin 256) :
    k0_pay3 p x (ix2 t c) = x (ix2 ⟨c.val % 64 + (if p = 1#1 then 0 else 64), by split <;> omega⟩ ⟨512 * (c.val / 64) + t.val, by omega⟩) := by
  pointwise [k0_pay3]
  have hc := c.isLt
  by_cases h : c.val < 128
  · rw [dif_pos h, show IntOp.cmpi CmpIPredicate.slt (BitVec.ofNat 32 c.val) 64#32 = _ from lane_lt ⟨c.val, h⟩]
    rcases BitVec.eq_zero_or_eq_one p with rfl | rfl <;> by_cases hl : c.val < 64 <;>
      simp only [hl, sel_one, sel_zero, if_true, if_false] <;> refine ext2 x ?_ ?_ <;> simp <;> omega
  · rw [dif_neg h, show IntOp.cmpi CmpIPredicate.slt (BitVec.ofNat 32 (c.val - 128)) 64#32 = _ from lane_lt ⟨c.val - 128, by omega⟩]
    rcases BitVec.eq_zero_or_eq_one p with rfl | rfl <;> by_cases hl : c.val - 128 < 64 <;>
      simp only [hl, sel_one, sel_zero, if_true, if_false] <;> refine ext2 x ?_ ?_ <;> simp <;> omega

/-- The four heads' columns put below each other, before their format is narrowed. -/
def osl (v10 : BitVec 1) (v470 : FVec Ideal S512x256 .bf16) : FVec Ideal S2048x128 .f32 :=
  have v499 : FVec Ideal S512x128 .bf16 := extractStridedSlice S512x128 ![0, 0] v470 slices_S512x256_o0_0_S512x128
  have v500 : FVec Ideal S512x128 .f32 := extf .f32 v499 bitsLt_bf16_f32
  have v501 : FVec Ideal S512x128 .f32 := dynamicRotate 1 64#32 none v500 rotates_S512x128_d1
  have v502 : FVec Ideal S512x128 .f32 := Scalar.select v10 v500 v501
  have cst_325 : Ideal .f32 := Scalar.ofBits .f32 0x00000000#32
  have v503 : FVec Ideal S512x128 .f32 := broadcast S512x128 cst_325
  have v504 : FVec Ideal S512x128 .f32 := select (k0_pay5 v10) v502 v503
  have v505 : FVec Ideal S512x128 .f32 := Scalar.select v10 v501 v500
  have cst_326 : Ideal .f32 := Scalar.ofBits .f32 0x00000000#32
  have v506 : FVec Ideal S512x128 .f32 := broadcast S512x128 cst_326
  have v507 : FVec Ideal S512x128 .f32 := select (k0_pay5 v10) v505 v506
  have v508 : FVec Ideal S512x128 .bf16 := extractStridedSlice S512x128 ![0, 128] v470 slices_S512x256_o0_128_S512x128
  have v509 : FVec Ideal S512x128 .f32 := extf .f32 v508 bitsLt_bf16_f32
  have v510 : FVec Ideal S512x128 .f32 := dynamicRotate 1 64#32 none v509 rotates_S512x128_d1
  have v511 : FVec Ideal S512x128 .f32 := Scalar.select v10 v509 v510
  have cst_328 : Ideal .f32 := Scalar.ofBits .f32 0x00000000#32
  have v512 : FVec Ideal S512x128 .f32 := broadcast S512x128 cst_328
  have v513 : FVec Ideal S512x128 .f32 := select (k0_pay5 v10) v511 v512
  have v514 : FVec Ideal S512x128 .f32 := Scalar.select v10 v510 v509
  have cst_329 : Ideal .f32 := Scalar.ofBits .f32 0x00000000#32
  have v515 : FVec Ideal S512x128 .f32 := broadcast S512x128 cst_329
  have v516 : FVec Ideal S512x128 .f32 := select (k0_pay5 v10) v514 v515
  have v517 : FVec Ideal S2048x128 .f32 := concatenate S2048x128 0 [⟨S512x128, v504⟩, ⟨S512x128, v507⟩, ⟨S512x128, v513⟩, ⟨S512x128, v516⟩] concatenates_S512x128_S512x128_S512x128_S512x128_S2048x128_d0
  v517

/-- The sums along the lanes. -/
def lsum (v518 : FVec Ideal S2048x128 .f32) : FVec Ideal S1x2048 .f32 :=
  have v519 : FVec Ideal S128x2048 .f32 := transpose S128x2048 [1, 0] v518 transposes_S2048x128_p1_0_S128x2048
  have v520 : FVec Ideal S2048 .f32 := multiReduction .add [0] S2048 v519 0x00000000#32 reduces_S128x2048_S2048 (.inl rfl) rfl
  have v521 : FVec Ideal S1x2048 .f32 := shapeCast S1x2048 v520 shapeCasts_S2048_S1x2048
  have v524 : FVec Ideal S1x2048 .f32 := shapeCast S1x2048 v521 shapeCasts_S1x2048_S1x2048
  v524

theorem osl_apply (p : BitVec 1) (o : FVec Ideal S512x256 .bf16) (y : Fin 2048) (d : Fin 128) : osl p o (ix2 y d) = slot p o y d := by
  pointwise [osl, mask_apply]
  exact slot_cases p o y d

theorem lsum_apply (m : FVec Ideal S2048x128 .f32) (y : Fin 2048) :
    lsum m (ix2 0 y) = ∑ d : Fin 128, m (ix2 y d) := by
  pointwise [lsum]

theorem dsum_apply (p : BitVec 1) (g : FVec Ideal S2048x128 .f32) (o : FVec Ideal S512x256 .bf16) (y : Fin 2048) :
    lsum (mulf g (osl p o)) (ix2 0 y) = ∑ d : Fin 128, g (ix2 y d) * slot p o y d :=
  (lsum_apply _ y).trans (Finset.sum_congr rfl fun d _ => congrArg (g (ix2 y d) * ·) (osl_apply p o y d))

theorem ld_whole {e : EltTy} (x : Vec Ideal S512x256 e) (h) : View.ld x (Rect.unit (s := S512x256) ![0, 0] ![512, 256] h) = x := by
  funext j
  exact View.ld_unit_apply_of x _ _ _ _ j fun b => by match b with | 0 => exact (Nat.zero_add _).symm | 1 => exact (Nat.zero_add _).symm

theorem ld_row (x : Vec Ideal S8x2048 .f32) (h) (y : Fin 2048) : View.ld x (Rect.unit (s := S8x2048) ![0, 0] ![1, 2048] h) (ix2 0 y) = x (ix2 0 y) := by
  exact View.ld_unit_apply_of x _ _ _ _ _ fun b => by match b with | 0 => rfl | 1 => exact (Nat.zero_add _).symm

end Cert.KernelFIdeal.Tile
end
-- ==== Proof.F.WordsA.lean ====
module
public import proofs.«01_k».proof.Proof.F.Slot
public import Idealize.ShloMosaic.Lib.Pipeline.ReadBack
@[expose] public section
set_option maxRecDepth 16384
noncomputable section
/-! The blocks the products read. -/
namespace Cert.KernelFIdeal.Words
open Cert.KernelFIdeal Cert.KernelFIdeal.Gen Cert.KernelFIdeal.Tile Idealize.ShloMosaic Idealize.ShloMosaic.TcCoe Idealize.SL.Sem
open Idealize.ShloMosaic.Pointwise

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : ¬cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32} {xo8 : Vec Ideal S4096x128 .f32} {xo9 : Vec Ideal S4096x128 .f32}

theorem maskA : kernelRun0_A.sl.v392 i = k0_pay5 (kernelRun0_A.sl.v10 i) := rfl

theorem load_qA : kernelRun0_A.sl.v364 c arg3 harg3 x0 = x0 := by
  unfold kernelRun0_A.sl.v364
  simp only [View.readAt_eq_ld, Memref.IsWhole.read_unread]
  exact (shapeCast_self _ _).trans (ld_whole x0 _)

theorem load_doA : kernelRun0_A.sl.v417 c arg7 harg7 x4 = x4 := by
  unfold kernelRun0_A.sl.v417
  simp only [View.readAt_eq_ld, Memref.IsWhole.read_unread]
  exact (shapeCast_self _ _).trans (ld_whole x4 _)

theorem load_oA : kernelRun0_A.sl.v470 c arg8 harg8 x5 = x5 := by
  unfold kernelRun0_A.sl.v470
  simp only [View.readAt_eq_ld, Memref.IsWhole.read_unread]
  exact (shapeCast_self _ _).trans (ld_whole x5 _)

theorem qA (y : Fin 2048) (d : Fin 128) : kernelRun0_A.sl.v31 c i arg3 harg3 arg13 x0 (ix2 y d) = slot (kernelRun0_A.sl.v10 i) x0 y d := by
  unfold kernelRun0_A.sl.v31 kernelRun0_A.sl.HS0_1
  simp only [↓View.readCov_cons_toLoadRect]
  pointwise [kernelRun0_A.sl.v393, kernelRun0_A.sl.v394, kernelRun0_A.sl.v395, kernelRun0_A.sl.v396, kernelRun0_A.sl.v397, kernelRun0_A.sl.v398, kernelRun0_A.sl.v399, kernelRun0_A.sl.v401, kernelRun0_A.sl.v402, kernelRun0_A.sl.v403, kernelRun0_A.sl.v404, kernelRun0_A.sl.v405, kernelRun0_A.sl.v407, kernelRun0_A.sl.v408, kernelRun0_A.sl.v410, kernelRun0_A.sl.v411, kernelRun0_A.sl.v412, kernelRun0_A.sl.v414, kernelRun0_A.sl.v415, load_qA, maskA, mask_apply, kernelRun0_A.sl.cst_287]
  exact slot_cases _ x0 y d

theorem catA (y : Fin 2048) (d : Fin 128) : kernelRun0_A.sl.v464 c i arg7 harg7 x4 (ix2 y d) = slot (kernelRun0_A.sl.v10 i) x4 y d := by
  pointwise [kernelRun0_A.sl.v446, kernelRun0_A.sl.v447, kernelRun0_A.sl.v448, kernelRun0_A.sl.v449, kernelRun0_A.sl.v451, kernelRun0_A.sl.v452, kernelRun0_A.sl.v454, kernelRun0_A.sl.v455, kernelRun0_A.sl.v456, kernelRun0_A.sl.v457, kernelRun0_A.sl.v458, kernelRun0_A.sl.v460, kernelRun0_A.sl.v461, kernelRun0_A.sl.v463, kernelRun0_A.sl.v464, kernelRun0_A.sl.v397, load_doA, maskA, mask_apply, kernelRun0_A.sl.cst_287]
  exact slot_cases _ x4 y d

theorem doA (y : Fin 2048) (d : Fin 128) : kernelRun0_A.sl.v32 c i arg7 harg7 arg14 x4 (ix2 y d) = slot (kernelRun0_A.sl.v10 i) x4 y d := by
  unfold kernelRun0_A.sl.v32 kernelRun0_A.sl.HS1_1
  simp only [↓View.readCov_cons_toLoadRect]
  pointwise [kernelRun0_A.sl.v468, kernelRun0_A.sl.v465]
  exact catA y d

theorem lseA (y : Fin 2048) : kernelRun0_A.sl.r c arg9 harg9 x6 (ix2 0 y) = x6 (ix2 0 y) := by
  pointwise [kernelRun0_A.sl.r, k0_pay30]
  simp only [View.readAt_eq_ld, Memref.IsWhole.read_unread]
  exact ld_row x6 _ y

theorem deltaA (y : Fin 2048) : kernelRun0_A.sl.v35 c i arg7 harg7 arg8 harg8 arg15 x4 x5 (ix2 0 y) = ∑ d : Fin 128, slot (kernelRun0_A.sl.v10 i) x4 y d * slot (kernelRun0_A.sl.v10 i) x5 y d := by
  unfold kernelRun0_A.sl.v35 kernelRun0_A.sl.HS2_1
  simp only [↓View.readCov_cons_toLoadRect]
  rw [load_oA]
  refine (dsum_apply (kernelRun0_A.sl.v10 i) (kernelRun0_A.sl.v464 c i arg7 harg7 x4) x5 y).trans ?_
  exact Finset.sum_congr rfl fun d _ => congrArg (· * _) (catA y d)

end Cert.KernelFIdeal.Words
end
-- ==== Proof.F.WordsB.lean ====
module
public import proofs.«01_k».proof.Proof.F.Slot
public import Idealize.ShloMosaic.Lib.Pipeline.ReadBack
@[expose] public section
set_option maxRecDepth 16384
noncomputable section
/-! The blocks the products read. -/
namespace Cert.KernelFIdeal.Words
open Cert.KernelFIdeal Cert.KernelFIdeal.Gen Cert.KernelFIdeal.Tile Idealize.ShloMosaic Idealize.ShloMosaic.TcCoe Idealize.SL.Sem
open Idealize.ShloMosaic.Pointwise

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : ¬cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32} {xo8 : Vec Ideal S4096x128 .f32} {xo9 : Vec Ideal S4096x128 .f32}

theorem maskB : kernelRun0_B.sl.v392 i = k0_pay5 (kernelRun0_B.sl.v10 i) := rfl

theorem load_qB : kernelRun0_B.sl.v364 c arg3 harg3 x0 = x0 := by
  unfold kernelRun0_B.sl.v364
  simp only [View.readAt_eq_ld, Memref.IsWhole.read_unread]
  exact (shapeCast_self _ _).trans (ld_whole x0 _)

theorem load_doB : kernelRun0_B.sl.v417 c arg7 harg7 x4 = x4 := by
  unfold kernelRun0_B.sl.v417
  simp only [View.readAt_eq_ld, Memref.IsWhole.read_unread]
  exact (shapeCast_self _ _).trans (ld_whole x4 _)

theorem load_oB : kernelRun0_B.sl.v470 c arg8 harg8 x5 = x5 := by
  unfold kernelRun0_B.sl.v470
  simp only [View.readAt_eq_ld, Memref.IsWhole.read_unread]
  exact (shapeCast_self _ _).trans (ld_whole x5 _)

theorem qB (y : Fin 2048) (d : Fin 128) : kernelRun0_B.sl.v31 c i arg3 harg3 arg13 x0 (ix2 y d) = slot (kernelRun0_B.sl.v10 i) x0 y d := by
  unfold kernelRun0_B.sl.v31 kernelRun0_B.sl.HS0_1
  simp only [↓View.readCov_cons_toLoadRect]
  pointwise [kernelRun0_B.sl.v393, kernelRun0_B.sl.v394, kernelRun0_B.sl.v395, kernelRun0_B.sl.v396, kernelRun0_B.sl.v397, kernelRun0_B.sl.v398, kernelRun0_B.sl.v399, kernelRun0_B.sl.v401, kernelRun0_B.sl.v402, kernelRun0_B.sl.v403, kernelRun0_B.sl.v404, kernelRun0_B.sl.v405, kernelRun0_B.sl.v407, kernelRun0_B.sl.v408, kernelRun0_B.sl.v410, kernelRun0_B.sl.v411, kernelRun0_B.sl.v412, kernelRun0_B.sl.v414, kernelRun0_B.sl.v415, load_qB, maskB, mask_apply, kernelRun0_B.sl.cst_287]
  exact slot_cases _ x0 y d

theorem catB (y : Fin 2048) (d : Fin 128) : kernelRun0_B.sl.v464 c i arg7 harg7 x4 (ix2 y d) = slot (kernelRun0_B.sl.v10 i) x4 y d := by
  pointwise [kernelRun0_B.sl.v446, kernelRun0_B.sl.v447, kernelRun0_B.sl.v448, kernelRun0_B.sl.v449, kernelRun0_B.sl.v451, kernelRun0_B.sl.v452, kernelRun0_B.sl.v454, kernelRun0_B.sl.v455, kernelRun0_B.sl.v456, kernelRun0_B.sl.v457, kernelRun0_B.sl.v458, kernelRun0_B.sl.v460, kernelRun0_B.sl.v461, kernelRun0_B.sl.v463, kernelRun0_B.sl.v464, kernelRun0_B.sl.v397, load_doB, maskB, mask_apply, kernelRun0_B.sl.cst_287]
  exact slot_cases _ x4 y d

theorem doB (y : Fin 2048) (d : Fin 128) : kernelRun0_B.sl.v32 c i arg7 harg7 arg14 x4 (ix2 y d) = slot (kernelRun0_B.sl.v10 i) x4 y d := by
  unfold kernelRun0_B.sl.v32 kernelRun0_B.sl.HS1_1
  simp only [↓View.readCov_cons_toLoadRect]
  pointwise [kernelRun0_B.sl.v468, kernelRun0_B.sl.v465]
  exact catB y d

theorem lseB (y : Fin 2048) : kernelRun0_B.sl.r c arg9 harg9 x6 (ix2 0 y) = x6 (ix2 0 y) := by
  pointwise [kernelRun0_B.sl.r, k0_pay30]
  simp only [View.readAt_eq_ld, Memref.IsWhole.read_unread]
  exact ld_row x6 _ y

theorem deltaB (y : Fin 2048) : kernelRun0_B.sl.v35 c i arg7 harg7 arg8 harg8 arg15 x4 x5 (ix2 0 y) = ∑ d : Fin 128, slot (kernelRun0_B.sl.v10 i) x4 y d * slot (kernelRun0_B.sl.v10 i) x5 y d := by
  unfold kernelRun0_B.sl.v35 kernelRun0_B.sl.HS2_1
  simp only [↓View.readCov_cons_toLoadRect]
  rw [load_oB]
  refine (dsum_apply (kernelRun0_B.sl.v10 i) (kernelRun0_B.sl.v464 c i arg7 harg7 x4) x5 y).trans ?_
  exact Finset.sum_congr rfl fun d _ => congrArg (· * _) (catB y d)

end Cert.KernelFIdeal.Words
end
-- ==== Proof.F.BlockA.lean ====
module
public import proofs.«01_k».proof.Proof.F.Slot
public import Idealize.ShloMosaic.Lib.Pipeline.ReadBack
@[expose] public section
set_option maxRecDepth 16384
noncomputable section
/-! What a block leaves. -/
namespace Cert.KernelFIdeal.Block
open Cert.KernelFIdeal Cert.KernelFIdeal.Gen Cert.KernelFIdeal.Tile Idealize.ShloMosaic Idealize.ShloMosaic.TcCoe Idealize.SL.Sem
open Idealize.ShloMosaic.Pointwise
open Idealize.ShloMosaic.Pipeline (Dat)

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32}

theorem out_A9 (j : S4096x128.Idx) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 j = dvs (kernelRun0_A.sl.r c arg9 harg9 x6) x1 (kernelRun0_A.sl.v31 c i arg3 harg3 arg13 x0) (kernelRun0_A.sl.v32 c i arg7 harg7 arg14 x4) (j 0) (j 1) := by
  unfold out0_A_9 kernelRun0_A
  dsimp only
  rw [View.read_writes_junk_eq_canon]
  simp only [kernelRun0_A.sl.H9_1, kernelRun0_A.sl.H9_2, kernelRun0_A.sl.H9_3, kernelRun0_A.sl.H9_4, kernelRun0_A.sl.H9_5, kernelRun0_A.sl.H9_6, kernelRun0_A.sl.H9_7, kernelRun0_A.sl.H9_8]
  refine (canon_append (L := [_, _, _, _, _, _, _, _]) _ j (View.cover_of_tiledL (s := S4096x128) _ ![512, 128] (by sl_kernel_rfl) j)).trans ?_
  canon_tiles x h using View.cover_of_tiledL (s := S4096x128) _ ![512, 128] (by sl_kernel_rfl) j
  all_goals
    simp (disch := decide) only [↓View.readCov_skip, ↓View.readCov_cons_toLoadRect, View.readAt_eq_ld, Memref.IsWhole.read_unread, View.readCov_fill, kernelRun0_A.sl.H8_3, kernelRun0_A.sl.H9_2, kernelRun0_A.sl.HS5_4, kernelRun0_A.sl.v106, kernelRun0_A.sl.HS4_5, kernelRun0_A.sl.r_13, kernelRun0_A.sl.v181, kernelRun0_A.sl.r_7, kernelRun0_A.sl.r_11, kernelRun0_A.sl.HS5_5, kernelRun0_A.sl.v312, kernelRun0_A.sl.HS5_3, kernelRun0_A.sl.H8_7, kernelRun0_A.sl.r_8, kernelRun0_A.sl.v346, kernelRun0_A.sl.H9_8, kernelRun0_A.sl.v340, kernelRun0_A.sl.r_15, kernelRun0_A.sl.H9_6, kernelRun0_A.sl.HS5_8, kernelRun0_A.sl.r_21, kernelRun0_A.sl.r_2, kernelRun0_A.sl.v141, kernelRun0_A.sl.v146, kernelRun0_A.sl.v226, kernelRun0_A.sl.v232, kernelRun0_A.sl.v158, kernelRun0_A.sl.r_16, kernelRun0_A.sl.H8_1, kernelRun0_A.sl.v329, kernelRun0_A.sl.H8_4, kernelRun0_A.sl.v238, kernelRun0_A.sl.r_14, kernelRun0_A.sl.v61, kernelRun0_A.sl.H8_6, kernelRun0_A.sl.H9_3, kernelRun0_A.sl.v58, kernelRun0_A.sl.v101, kernelRun0_A.sl.HS4_7, kernelRun0_A.sl.v261, kernelRun0_A.sl.v272, kernelRun0_A.sl.v198, kernelRun0_A.sl.v334, kernelRun0_A.sl.HS4_6, kernelRun0_A.sl.HS5_6, kernelRun0_A.sl.v118, kernelRun0_A.sl.H8_5, kernelRun0_A.sl.v152, kernelRun0_A.sl.v112, kernelRun0_A.sl.r_12, kernelRun0_A.sl.HS4_3, kernelRun0_A.sl.v301, kernelRun0_A.sl.r_5, kernelRun0_A.sl.r_22, kernelRun0_A.sl.v306, kernelRun0_A.sl.r_3, kernelRun0_A.sl.HS4_2, kernelRun0_A.sl.H9_1, kernelRun0_A.sl.v192, kernelRun0_A.sl.v72, kernelRun0_A.sl.r_18, kernelRun0_A.sl.r_23, kernelRun0_A.sl.HS4_4, kernelRun0_A.sl.r_20, kernelRun0_A.sl.v266, kernelRun0_A.sl.r_4, kernelRun0_A.sl.r_9, kernelRun0_A.sl.v186, kernelRun0_A.sl.v66, kernelRun0_A.sl.HS4_8, kernelRun0_A.sl.v221, kernelRun0_A.sl.H8_8, kernelRun0_A.sl.H9_7, kernelRun0_A.sl.H9_5, kernelRun0_A.sl.r_1, kernelRun0_A.sl.HS5_2, kernelRun0_A.sl.r_19, kernelRun0_A.sl.v278, kernelRun0_A.sl.HS5_7, kernelRun0_A.sl.r_6, kernelRun0_A.sl.r_10, kernelRun0_A.sl.v78, kernelRun0_A.sl.v318, kernelRun0_A.sl.H9_4, kernelRun0_A.sl.r_17, kernelRun0_A.sl.H8_2]
  all_goals
    have hz := dv_start j
    generalize (k0_pay27 : FVec Ideal S4096x128 .f32) = Z at hz ⊢
    first | exact (dv_tile _ x1 _ _ _ Z _ x j h0 h1 (acc_ld Z _ x j h0 h1)).trans (zero_plus hz) | exact (dv_tile _ x1 _ _ _ Z _ x j (h0.trans (Nat.zero_add _).symm) h1 (acc_ld Z _ x j (h0.trans (Nat.zero_add _).symm) h1)).trans (zero_plus hz)

theorem out_A8 (j : S4096x128.Idx) :
    out0_A_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 j = dks (kernelRun0_A.sl.r c arg9 harg9 x6) (kernelRun0_A.sl.v35 c i arg7 harg7 arg8 harg8 arg15 x4 x5) x1 x3 (kernelRun0_A.sl.v31 c i arg3 harg3 arg13 x0) (kernelRun0_A.sl.v32 c i arg7 harg7 arg14 x4) (j 0) (j 1) := by
  unfold out0_A_8 kernelRun0_A
  dsimp only
  rw [View.read_writes_junk_eq_canon]
  simp only [kernelRun0_A.sl.H8_1, kernelRun0_A.sl.H8_2, kernelRun0_A.sl.H8_3, kernelRun0_A.sl.H8_4, kernelRun0_A.sl.H8_5, kernelRun0_A.sl.H8_6, kernelRun0_A.sl.H8_7, kernelRun0_A.sl.H8_8]
  refine (canon_append (L := [_, _, _, _, _, _, _, _]) _ j (View.cover_of_tiledL (s := S4096x128) _ ![512, 128] (by sl_kernel_rfl) j)).trans ?_
  canon_tiles x h using View.cover_of_tiledL (s := S4096x128) _ ![512, 128] (by sl_kernel_rfl) j
  all_goals
    simp (disch := decide) only [↓View.readCov_skip, ↓View.readCov_cons_toLoadRect, View.readAt_eq_ld, Memref.IsWhole.read_unread, View.readCov_fill, kernelRun0_A.sl.H8_3, kernelRun0_A.sl.H9_2, kernelRun0_A.sl.HS5_4, kernelRun0_A.sl.v106, kernelRun0_A.sl.HS4_5, kernelRun0_A.sl.r_13, kernelRun0_A.sl.v181, kernelRun0_A.sl.r_7, kernelRun0_A.sl.r_11, kernelRun0_A.sl.HS5_5, kernelRun0_A.sl.v312, kernelRun0_A.sl.HS5_3, kernelRun0_A.sl.H8_7, kernelRun0_A.sl.r_8, kernelRun0_A.sl.v346, kernelRun0_A.sl.H9_8, kernelRun0_A.sl.v340, kernelRun0_A.sl.r_15, kernelRun0_A.sl.H9_6, kernelRun0_A.sl.HS5_8, kernelRun0_A.sl.r_21, kernelRun0_A.sl.r_2, kernelRun0_A.sl.v141, kernelRun0_A.sl.v146, kernelRun0_A.sl.v226, kernelRun0_A.sl.v232, kernelRun0_A.sl.v158, kernelRun0_A.sl.r_16, kernelRun0_A.sl.H8_1, kernelRun0_A.sl.v329, kernelRun0_A.sl.H8_4, kernelRun0_A.sl.v238, kernelRun0_A.sl.r_14, kernelRun0_A.sl.v61, kernelRun0_A.sl.H8_6, kernelRun0_A.sl.H9_3, kernelRun0_A.sl.v58, kernelRun0_A.sl.v101, kernelRun0_A.sl.HS4_7, kernelRun0_A.sl.v261, kernelRun0_A.sl.v272, kernelRun0_A.sl.v198, kernelRun0_A.sl.v334, kernelRun0_A.sl.HS4_6, kernelRun0_A.sl.HS5_6, kernelRun0_A.sl.v118, kernelRun0_A.sl.H8_5, kernelRun0_A.sl.v152, kernelRun0_A.sl.v112, kernelRun0_A.sl.r_12, kernelRun0_A.sl.HS4_3, kernelRun0_A.sl.v301, kernelRun0_A.sl.r_5, kernelRun0_A.sl.r_22, kernelRun0_A.sl.v306, kernelRun0_A.sl.r_3, kernelRun0_A.sl.HS4_2, kernelRun0_A.sl.H9_1, kernelRun0_A.sl.v192, kernelRun0_A.sl.v72, kernelRun0_A.sl.r_18, kernelRun0_A.sl.r_23, kernelRun0_A.sl.HS4_4, kernelRun0_A.sl.r_20, kernelRun0_A.sl.v266, kernelRun0_A.sl.r_4, kernelRun0_A.sl.r_9, kernelRun0_A.sl.v186, kernelRun0_A.sl.v66, kernelRun0_A.sl.HS4_8, kernelRun0_A.sl.v221, kernelRun0_A.sl.H8_8, kernelRun0_A.sl.H9_7, kernelRun0_A.sl.H9_5, kernelRun0_A.sl.r_1, kernelRun0_A.sl.HS5_2, kernelRun0_A.sl.r_19, kernelRun0_A.sl.v278, kernelRun0_A.sl.HS5_7, kernelRun0_A.sl.r_6, kernelRun0_A.sl.r_10, kernelRun0_A.sl.v78, kernelRun0_A.sl.v318, kernelRun0_A.sl.H9_4, kernelRun0_A.sl.r_17, kernelRun0_A.sl.H8_2]
  all_goals
    have hz := dk_start j
    generalize (k0_pay26 : FVec Ideal S4096x128 .f32) = Z at hz ⊢
    first | exact (dk_tile _ _ x1 x3 _ _ _ Z _ _ x j h0 h1 (acc_ld Z _ x j h0 h1)).trans (zero_plus hz) | exact (dk_tile _ _ x1 x3 _ _ _ Z _ _ x j (h0.trans (Nat.zero_add _).symm) h1 (acc_ld Z _ x j (h0.trans (Nat.zero_add _).symm) h1)).trans (zero_plus hz)

end Cert.KernelFIdeal.Block
end
-- ==== Proof.F.BlockB.lean ====
module
public import proofs.«01_k».proof.Proof.F.Slot
public import Idealize.ShloMosaic.Lib.Pipeline.ReadBack
@[expose] public section
set_option maxRecDepth 16384
noncomputable section
/-! What a block leaves. -/
namespace Cert.KernelFIdeal.Block
open Cert.KernelFIdeal Cert.KernelFIdeal.Gen Cert.KernelFIdeal.Tile Idealize.ShloMosaic Idealize.ShloMosaic.TcCoe Idealize.SL.Sem
open Idealize.ShloMosaic.Pointwise
open Idealize.ShloMosaic.Pipeline (Dat)

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : ¬cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32} {xo8 : Vec Ideal S4096x128 .f32} {xo9 : Vec Ideal S4096x128 .f32}

theorem out_B9 (j : S4096x128.Idx) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xo8 xo9 j = xo9 j + dvs (kernelRun0_B.sl.r c arg9 harg9 x6) x1 (kernelRun0_B.sl.v31 c i arg3 harg3 arg13 x0) (kernelRun0_B.sl.v32 c i arg7 harg7 arg14 x4) (j 0) (j 1) := by
  unfold out0_B_9 kernelRun0_B
  dsimp only
  rw [View.read_writes_junk_eq_canon]
  canon_tiles x h using View.cover_of_tiledL (s := S4096x128) _ ![512, 128] (by sl_kernel_rfl) j
  all_goals
    simp (disch := decide) only [↓View.readCov_skip, ↓View.readCov_cons_toLoadRect, View.readAt_eq_ld, Memref.IsWhole.read_unread, kernelRun0_B.sl.v112, kernelRun0_B.sl.r_10, kernelRun0_B.sl.r_21, kernelRun0_B.sl.v340, kernelRun0_B.sl.r_20, kernelRun0_B.sl.HS4_7, kernelRun0_B.sl.v232, kernelRun0_B.sl.v152, kernelRun0_B.sl.HS4_3, kernelRun0_B.sl.v312, kernelRun0_B.sl.r_11, kernelRun0_B.sl.v61, kernelRun0_B.sl.HS5_7, kernelRun0_B.sl.HS5_5, kernelRun0_B.sl.r_23, kernelRun0_B.sl.v272, kernelRun0_B.sl.v261, kernelRun0_B.sl.r_15, kernelRun0_B.sl.r_16, kernelRun0_B.sl.r_7, kernelRun0_B.sl.r_18, kernelRun0_B.sl.HS5_4, kernelRun0_B.sl.r_12, kernelRun0_B.sl.HS4_2, kernelRun0_B.sl.v141, kernelRun0_B.sl.v146, kernelRun0_B.sl.HS5_3, kernelRun0_B.sl.v66, kernelRun0_B.sl.r_2, kernelRun0_B.sl.v106, kernelRun0_B.sl.r_19, kernelRun0_B.sl.HS5_2, kernelRun0_B.sl.r_9, kernelRun0_B.sl.v278, kernelRun0_B.sl.v266, kernelRun0_B.sl.v158, kernelRun0_B.sl.v306, kernelRun0_B.sl.v318, kernelRun0_B.sl.v346, kernelRun0_B.sl.HS5_8, kernelRun0_B.sl.v186, kernelRun0_B.sl.v221, kernelRun0_B.sl.r_3, kernelRun0_B.sl.v329, kernelRun0_B.sl.r_1, kernelRun0_B.sl.r_5, kernelRun0_B.sl.v238, kernelRun0_B.sl.v226, kernelRun0_B.sl.v334, kernelRun0_B.sl.HS4_5, kernelRun0_B.sl.v301, kernelRun0_B.sl.v118, kernelRun0_B.sl.v101, kernelRun0_B.sl.HS5_6, kernelRun0_B.sl.v198, kernelRun0_B.sl.r_6, kernelRun0_B.sl.r_4, kernelRun0_B.sl.r_17, kernelRun0_B.sl.HS4_8, kernelRun0_B.sl.HS4_6, kernelRun0_B.sl.r_13, kernelRun0_B.sl.v58, kernelRun0_B.sl.r_8, kernelRun0_B.sl.HS4_4, kernelRun0_B.sl.v181, kernelRun0_B.sl.r_14, kernelRun0_B.sl.r_22, kernelRun0_B.sl.v192]
  all_goals first | exact dv_tile _ x1 _ _ _ xo9 _ x j h0 h1 (acc_ld xo9 _ x j h0 h1) | exact dv_tile _ x1 _ _ _ xo9 _ x j (h0.trans (Nat.zero_add _).symm) h1 (acc_ld xo9 _ x j (h0.trans (Nat.zero_add _).symm) h1)

theorem out_B8 (j : S4096x128.Idx) :
    out0_B_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xo8 xo9 j = xo8 j + dks (kernelRun0_B.sl.r c arg9 harg9 x6) (kernelRun0_B.sl.v35 c i arg7 harg7 arg8 harg8 arg15 x4 x5) x1 x3 (kernelRun0_B.sl.v31 c i arg3 harg3 arg13 x0) (kernelRun0_B.sl.v32 c i arg7 harg7 arg14 x4) (j 0) (j 1) := by
  unfold out0_B_8 kernelRun0_B
  dsimp only
  rw [View.read_writes_junk_eq_canon]
  canon_tiles x h using View.cover_of_tiledL (s := S4096x128) _ ![512, 128] (by sl_kernel_rfl) j
  all_goals
    simp (disch := decide) only [↓View.readCov_skip, ↓View.readCov_cons_toLoadRect, View.readAt_eq_ld, Memref.IsWhole.read_unread, kernelRun0_B.sl.v112, kernelRun0_B.sl.r_10, kernelRun0_B.sl.r_21, kernelRun0_B.sl.v340, kernelRun0_B.sl.r_20, kernelRun0_B.sl.HS4_7, kernelRun0_B.sl.v232, kernelRun0_B.sl.v152, kernelRun0_B.sl.HS4_3, kernelRun0_B.sl.v312, kernelRun0_B.sl.r_11, kernelRun0_B.sl.v61, kernelRun0_B.sl.HS5_7, kernelRun0_B.sl.HS5_5, kernelRun0_B.sl.r_23, kernelRun0_B.sl.v272, kernelRun0_B.sl.v261, kernelRun0_B.sl.r_15, kernelRun0_B.sl.r_16, kernelRun0_B.sl.r_7, kernelRun0_B.sl.r_18, kernelRun0_B.sl.HS5_4, kernelRun0_B.sl.r_12, kernelRun0_B.sl.HS4_2, kernelRun0_B.sl.v141, kernelRun0_B.sl.v146, kernelRun0_B.sl.HS5_3, kernelRun0_B.sl.v66, kernelRun0_B.sl.r_2, kernelRun0_B.sl.v106, kernelRun0_B.sl.r_19, kernelRun0_B.sl.HS5_2, kernelRun0_B.sl.r_9, kernelRun0_B.sl.v278, kernelRun0_B.sl.v266, kernelRun0_B.sl.v158, kernelRun0_B.sl.v306, kernelRun0_B.sl.v318, kernelRun0_B.sl.v346, kernelRun0_B.sl.HS5_8, kernelRun0_B.sl.v186, kernelRun0_B.sl.v221, kernelRun0_B.sl.r_3, kernelRun0_B.sl.v329, kernelRun0_B.sl.r_1, kernelRun0_B.sl.r_5, kernelRun0_B.sl.v238, kernelRun0_B.sl.v226, kernelRun0_B.sl.v334, kernelRun0_B.sl.HS4_5, kernelRun0_B.sl.v301, kernelRun0_B.sl.v118, kernelRun0_B.sl.v101, kernelRun0_B.sl.HS5_6, kernelRun0_B.sl.v198, kernelRun0_B.sl.r_6, kernelRun0_B.sl.r_4, kernelRun0_B.sl.r_17, kernelRun0_B.sl.HS4_8, kernelRun0_B.sl.HS4_6, kernelRun0_B.sl.r_13, kernelRun0_B.sl.v58, kernelRun0_B.sl.r_8, kernelRun0_B.sl.HS4_4, kernelRun0_B.sl.v181, kernelRun0_B.sl.r_14, kernelRun0_B.sl.r_22, kernelRun0_B.sl.v192]
  all_goals first | exact dk_tile _ _ x1 x3 _ _ _ xo8 _ _ x j h0 h1 (acc_ld xo8 _ x j h0 h1) | exact dk_tile _ _ x1 x3 _ _ _ xo8 _ _ x j (h0.trans (Nat.zero_add _).symm) h1 (acc_ld xo8 _ x j (h0.trans (Nat.zero_add _).symm) h1)

end Cert.KernelFIdeal.Block
end
-- ==== Proof.F.BlockAq.lean ====
module
public import proofs.«01_k».proof.Proof.F.Slot
public import Idealize.ShloMosaic.Lib.Pipeline.ReadBack
@[expose] public section
set_option maxRecDepth 16384
noncomputable section
/-! The transposed gradient of a block of queries. -/
namespace Cert.KernelFIdeal.Block
open Cert.KernelFIdeal Cert.KernelFIdeal.Gen Cert.KernelFIdeal.Tile Idealize.ShloMosaic Idealize.ShloMosaic.TcCoe Idealize.SL.Sem
open Idealize.ShloMosaic.Pointwise
open Idealize.ShloMosaic.Pipeline (Dat)

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32}

theorem dqtA (d : Fin 128) (y : Fin 2048) :
    kernelRun0_A.sl.v363 c i arg3 harg3 arg4 harg4 arg5 harg5 arg6 harg6 arg7 harg7 arg8 harg8 arg9 harg9 arg13 arg14 arg15 arg16 arg17 arg18 x0 x1 x2 x3 x4 x5 x6 (ix2 d y) = ∑ j : Fin 4096, x2 (ix2 d j) * dst (kernelRun0_A.sl.r c arg9 harg9 x6) (kernelRun0_A.sl.v35 c i arg7 harg7 arg8 harg8 arg15 x4 x5) x1 x3 (kernelRun0_A.sl.v31 c i arg3 harg3 arg13 x0) (kernelRun0_A.sl.v32 c i arg7 harg7 arg14 x4) j y := by
  unfold kernelRun0_A.sl.v363
  simp (disch := decide) only [↓View.readCov_skip, ↓View.readCov_cons_toLoadRect, View.readAt_eq_ld, Memref.IsWhole.read_unread, kernelRun0_A.sl.H8_3, kernelRun0_A.sl.H9_2, kernelRun0_A.sl.HS5_4, kernelRun0_A.sl.v106, kernelRun0_A.sl.HS4_5, kernelRun0_A.sl.r_13, kernelRun0_A.sl.v181, kernelRun0_A.sl.r_7, kernelRun0_A.sl.r_11, kernelRun0_A.sl.HS5_5, kernelRun0_A.sl.v312, kernelRun0_A.sl.HS5_3, kernelRun0_A.sl.H8_7, kernelRun0_A.sl.r_8, kernelRun0_A.sl.v346, kernelRun0_A.sl.H9_8, kernelRun0_A.sl.v340, kernelRun0_A.sl.r_15, kernelRun0_A.sl.H9_6, kernelRun0_A.sl.HS5_8, kernelRun0_A.sl.r_21, kernelRun0_A.sl.r_2, kernelRun0_A.sl.v141, kernelRun0_A.sl.v146, kernelRun0_A.sl.v226, kernelRun0_A.sl.v232, kernelRun0_A.sl.v158, kernelRun0_A.sl.r_16, kernelRun0_A.sl.H8_1, kernelRun0_A.sl.v329, kernelRun0_A.sl.H8_4, kernelRun0_A.sl.v238, kernelRun0_A.sl.r_14, kernelRun0_A.sl.v61, kernelRun0_A.sl.H8_6, kernelRun0_A.sl.H9_3, kernelRun0_A.sl.v58, kernelRun0_A.sl.v101, kernelRun0_A.sl.HS4_7, kernelRun0_A.sl.v261, kernelRun0_A.sl.v272, kernelRun0_A.sl.v198, kernelRun0_A.sl.v334, kernelRun0_A.sl.HS4_6, kernelRun0_A.sl.HS5_6, kernelRun0_A.sl.v118, kernelRun0_A.sl.H8_5, kernelRun0_A.sl.v152, kernelRun0_A.sl.v112, kernelRun0_A.sl.r_12, kernelRun0_A.sl.HS4_3, kernelRun0_A.sl.v301, kernelRun0_A.sl.r_5, kernelRun0_A.sl.r_22, kernelRun0_A.sl.v306, kernelRun0_A.sl.r_3, kernelRun0_A.sl.HS4_2, kernelRun0_A.sl.H9_1, kernelRun0_A.sl.v192, kernelRun0_A.sl.v72, kernelRun0_A.sl.r_18, kernelRun0_A.sl.r_23, kernelRun0_A.sl.HS4_4, kernelRun0_A.sl.r_20, kernelRun0_A.sl.v266, kernelRun0_A.sl.r_4, kernelRun0_A.sl.r_9, kernelRun0_A.sl.v186, kernelRun0_A.sl.v66, kernelRun0_A.sl.HS4_8, kernelRun0_A.sl.v221, kernelRun0_A.sl.H8_8, kernelRun0_A.sl.H9_7, kernelRun0_A.sl.H9_5, kernelRun0_A.sl.r_1, kernelRun0_A.sl.HS5_2, kernelRun0_A.sl.r_19, kernelRun0_A.sl.v278, kernelRun0_A.sl.HS5_7, kernelRun0_A.sl.r_6, kernelRun0_A.sl.r_10, kernelRun0_A.sl.v78, kernelRun0_A.sl.v318, kernelRun0_A.sl.H9_4, kernelRun0_A.sl.r_17, kernelRun0_A.sl.H8_2, kernelRun0_A.sl.HS3_2, kernelRun0_A.sl.v36, kernelRun0_A.sl.HS3_1]
  refine Eq.trans ?_ (sum_chunks fun j => x2 (ix2 d j) * dst (kernelRun0_A.sl.r c arg9 harg9 x6) (kernelRun0_A.sl.v35 c i arg7 harg7 arg8 harg8 arg15 x4 x5) x1 x3 (kernelRun0_A.sl.v31 c i arg3 harg3 arg13 x0) (kernelRun0_A.sl.v32 c i arg7 harg7 arg14 x4) j y)
  refine (congrFun (dq_last _ _ _) _).trans ?_
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 3584) _ _ _ d y (fun a => ⟨3584 + a.val, by omega⟩) (fun _ => rfl)).trans (congrArg (· + _) ?_)
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 3072) _ _ _ d y (fun a => ⟨3072 + a.val, by omega⟩) (fun _ => rfl)).trans (congrArg (· + _) ?_)
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 2560) _ _ _ d y (fun a => ⟨2560 + a.val, by omega⟩) (fun _ => rfl)).trans (congrArg (· + _) ?_)
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 2048) _ _ _ d y (fun a => ⟨2048 + a.val, by omega⟩) (fun _ => rfl)).trans (congrArg (· + _) ?_)
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 1536) _ _ _ d y (fun a => ⟨1536 + a.val, by omega⟩) (fun _ => rfl)).trans (congrArg (· + _) ?_)
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 1024) _ _ _ d y (fun a => ⟨1024 + a.val, by omega⟩) (fun _ => rfl)).trans (congrArg (· + _) ?_)
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 512) _ _ _ d y (fun a => ⟨512 + a.val, by omega⟩) (fun _ => rfl)).trans (congrArg (· + _) ?_)
  refine (dq_tile (kernelRun0_A.sl.r c arg9 harg9 x6) (kernelRun0_A.sl.v35 c i arg7 harg7 arg8 harg8 arg15 x4 x5) x1 x3 x2 (kernelRun0_A.sl.v31 c i arg3 harg3 arg13 x0) (kernelRun0_A.sl.v32 c i arg7 harg7 arg14 x4) _ (n := 0) _ _ _ d y (fun a => ⟨0 + a.val, by omega⟩) (fun _ => rfl)).trans (congrArg (· + _) ?_)
  exact dq_start d y

theorem out_A7 (t : Fin 512) (u : Fin 256) :
    out0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 (ix2 t u) = k0_pay3 (kernelRun0_A.sl.v10 i) (kernelRun0_A.sl.v363 c i arg3 harg3 arg4 harg4 arg5 harg5 arg6 harg6 arg7 harg7 arg8 harg8 arg9 harg9 arg13 arg14 arg15 arg16 arg17 arg18 x0 x1 x2 x3 x4 x5 x6) (ix2 t u) := by
  unfold out0_A_7 kernelRun0_A
  dsimp only
  rw [View.read_writes_junk_eq_canon]
  exact congrFun (View.canon_cons_unit_lit _ _ _ (by decide)) _

end Cert.KernelFIdeal.Block
end
-- ==== Proof.F.BlockBq.lean ====
module
public import proofs.«01_k».proof.Proof.F.Slot
public import Idealize.ShloMosaic.Lib.Pipeline.ReadBack
@[expose] public section
set_option maxRecDepth 16384
noncomputable section
/-! The transposed gradient of a block of queries. -/
namespace Cert.KernelFIdeal.Block
open Cert.KernelFIdeal Cert.KernelFIdeal.Gen Cert.KernelFIdeal.Tile Idealize.ShloMosaic Idealize.ShloMosaic.TcCoe Idealize.SL.Sem
open Idealize.ShloMosaic.Pointwise
open Idealize.ShloMosaic.Pipeline (Dat)

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : ¬cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32} {xo8 : Vec Ideal S4096x128 .f32} {xo9 : Vec Ideal S4096x128 .f32}

theorem dqtB (d : Fin 128) (y : Fin 2048) :
    kernelRun0_B.sl.v363 c i arg3 harg3 arg4 harg4 arg5 harg5 arg6 harg6 arg7 harg7 arg8 harg8 arg9 harg9 arg13 arg14 arg15 arg16 arg17 arg18 x0 x1 x2 x3 x4 x5 x6 (ix2 d y) = ∑ j : Fin 4096, x2 (ix2 d j) * dst (kernelRun0_B.sl.r c arg9 harg9 x6) (kernelRun0_B.sl.v35 c i arg7 harg7 arg8 harg8 arg15 x4 x5) x1 x3 (kernelRun0_B.sl.v31 c i arg3 harg3 arg13 x0) (kernelRun0_B.sl.v32 c i arg7 harg7 arg14 x4) j y := by
  unfold kernelRun0_B.sl.v363
  simp (disch := decide) only [↓View.readCov_skip, ↓View.readCov_cons_toLoadRect, View.readAt_eq_ld, Memref.IsWhole.read_unread, kernelRun0_B.sl.v112, kernelRun0_B.sl.r_10, kernelRun0_B.sl.r_21, kernelRun0_B.sl.v340, kernelRun0_B.sl.r_20, kernelRun0_B.sl.HS4_7, kernelRun0_B.sl.v232, kernelRun0_B.sl.v152, kernelRun0_B.sl.HS4_3, kernelRun0_B.sl.v312, kernelRun0_B.sl.r_11, kernelRun0_B.sl.v61, kernelRun0_B.sl.HS5_7, kernelRun0_B.sl.HS5_5, kernelRun0_B.sl.r_23, kernelRun0_B.sl.v272, kernelRun0_B.sl.v261, kernelRun0_B.sl.r_15, kernelRun0_B.sl.r_16, kernelRun0_B.sl.r_7, kernelRun0_B.sl.r_18, kernelRun0_B.sl.HS5_4, kernelRun0_B.sl.r_12, kernelRun0_B.sl.HS4_2, kernelRun0_B.sl.v141, kernelRun0_B.sl.v146, kernelRun0_B.sl.HS5_3, kernelRun0_B.sl.v66, kernelRun0_B.sl.r_2, kernelRun0_B.sl.v106, kernelRun0_B.sl.r_19, kernelRun0_B.sl.HS5_2, kernelRun0_B.sl.r_9, kernelRun0_B.sl.v278, kernelRun0_B.sl.v266, kernelRun0_B.sl.v158, kernelRun0_B.sl.v306, kernelRun0_B.sl.v318, kernelRun0_B.sl.v346, kernelRun0_B.sl.HS5_8, kernelRun0_B.sl.v186, kernelRun0_B.sl.v221, kernelRun0_B.sl.r_3, kernelRun0_B.sl.v329, kernelRun0_B.sl.r_1, kernelRun0_B.sl.r_5, kernelRun0_B.sl.v238, kernelRun0_B.sl.v226, kernelRun0_B.sl.v334, kernelRun0_B.sl.HS4_5, kernelRun0_B.sl.v301, kernelRun0_B.sl.v118, kernelRun0_B.sl.v101, kernelRun0_B.sl.HS5_6, kernelRun0_B.sl.v198, kernelRun0_B.sl.r_6, kernelRun0_B.sl.r_4, kernelRun0_B.sl.r_17, kernelRun0_B.sl.HS4_8, kernelRun0_B.sl.HS4_6, kernelRun0_B.sl.r_13, kernelRun0_B.sl.HS3_2, kernelRun0_B.sl.v58, kernelRun0_B.sl.r_8, kernelRun0_B.sl.HS4_4, kernelRun0_B.sl.v181, kernelRun0_B.sl.r_14, kernelRun0_B.sl.r_22, kernelRun0_B.sl.v192, kernelRun0_B.sl.v36, kernelRun0_B.sl.HS3_1]
  refine Eq.trans ?_ (sum_chunks fun j => x2 (ix2 d j) * dst (kernelRun0_B.sl.r c arg9 harg9 x6) (kernelRun0_B.sl.v35 c i arg7 harg7 arg8 harg8 arg15 x4 x5) x1 x3 (kernelRun0_B.sl.v31 c i arg3 harg3 arg13 x0) (kernelRun0_B.sl.v32 c i arg7 harg7 arg14 x4) j y)
  refine (congrFun (dq_last _ _ _) _).trans ?_
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 3584) _ _ _ d y (fun a => ⟨3584 + a.val, by omega⟩) (fun _ => rfl)).trans (congrArg (· + _) ?_)
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 3072) _ _ _ d y (fun a => ⟨3072 + a.val, by omega⟩) (fun _ => rfl)).trans (congrArg (· + _) ?_)
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 2560) _ _ _ d y (fun a => ⟨2560 + a.val, by omega⟩) (fun _ => rfl)).trans (congrArg (· + _) ?_)
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 2048) _ _ _ d y (fun a => ⟨2048 + a.val, by omega⟩) (fun _ => rfl)).trans (congrArg (· + _) ?_)
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 1536) _ _ _ d y (fun a => ⟨1536 + a.val, by omega⟩) (fun _ => rfl)).trans (congrArg (· + _) ?_)
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 1024) _ _ _ d y (fun a => ⟨1024 + a.val, by omega⟩) (fun _ => rfl)).trans (congrArg (· + _) ?_)
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 512) _ _ _ d y (fun a => ⟨512 + a.val, by omega⟩) (fun _ => rfl)).trans (congrArg (· + _) ?_)
  refine (dq_tile (kernelRun0_B.sl.r c arg9 harg9 x6) (kernelRun0_B.sl.v35 c i arg7 harg7 arg8 harg8 arg15 x4 x5) x1 x3 x2 (kernelRun0_B.sl.v31 c i arg3 harg3 arg13 x0) (kernelRun0_B.sl.v32 c i arg7 harg7 arg14 x4) _ (n := 0) _ _ _ d y (fun a => ⟨0 + a.val, by omega⟩) (fun _ => rfl)).trans (congrArg (· + _) ?_)
  exact dq_start d y

theorem out_B7 (t : Fin 512) (u : Fin 256) :
    out0_B_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xo8 xo9 (ix2 t u) = k0_pay3 (kernelRun0_B.sl.v10 i) (kernelRun0_B.sl.v363 c i arg3 harg3 arg4 harg4 arg5 harg5 arg6 harg6 arg7 harg7 arg8 harg8 arg9 harg9 arg13 arg14 arg15 arg16 arg17 arg18 x0 x1 x2 x3 x4 x5 x6) (ix2 t u) := by
  unfold out0_B_7 kernelRun0_B
  dsimp only
  rw [View.read_writes_junk_eq_canon]
  exact congrFun (View.canon_cons_unit_lit _ _ _ (by decide)) _

end Cert.KernelFIdeal.Block
end
-- ==== Proof.F.Point.lean ====
module
public import proofs.«01_k».proof.Proof.F.WordsA
public import proofs.«01_k».proof.Proof.F.WordsB
public import proofs.«01_k».proof.Proof.F.BlockA
public import proofs.«01_k».proof.Proof.F.BlockB
public import proofs.«01_k».proof.Proof.F.BlockAq
public import proofs.«01_k».proof.Proof.F.BlockBq
@[expose] public section
set_option maxRecDepth 16384
noncomputable section
/-! What a block leaves, over the blocks it reads. -/
namespace Cert.KernelFIdeal.Block
open Cert.KernelFIdeal Cert.KernelFIdeal.Gen Cert.KernelFIdeal.Tile Cert.KernelFIdeal.Words Idealize.ShloMosaic Idealize.ShloMosaic.TcCoe Idealize.SL.Sem
open Idealize.ShloMosaic.Pointwise

/-- Whether a block's heads read the first half of their lanes. -/
def par (i : grid0.Coords) : BitVec 1 := kernelRun0_B.sl.v10 i
/-- The four heads' columns below each other. -/
def slotM (p : BitVec 1) (x : Vec Ideal S512x256 .bf16) : Vec Ideal S2048x128 .bf16 := fun i => slot p x (i 0) (i 1)
/-- The first of eight equal rows. -/
def lrow (x : Vec Ideal S8x2048 .f32) : Vec Ideal S1x2048 .f32 := fun i => x (ix2 0 (i 1))
/-- The sums of products of two blocks' rows, head by head. -/
def erow (p : BitVec 1) (x y : Vec Ideal S512x256 .bf16) : Vec Ideal S1x2048 .f32 := fun i => ∑ d : Fin 128, slot p x (i 1) d * slot p y (i 1) d

section
variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32}

theorem vqA : kernelRun0_A.sl.v31 c i arg3 harg3 arg13 x0 = slotM (par i) x0 := by
  funext j
  obtain ⟨a, d, rfl⟩ : ∃ (a : Fin 2048) (d : Fin 128), j = ix2 a d := ⟨j 0, j 1, eq_ix2 j⟩
  exact qA a d

theorem voA : kernelRun0_A.sl.v32 c i arg7 harg7 arg14 x4 = slotM (par i) x4 := by
  funext j
  obtain ⟨a, d, rfl⟩ : ∃ (a : Fin 2048) (d : Fin 128), j = ix2 a d := ⟨j 0, j 1, eq_ix2 j⟩
  exact doA a d

theorem row_one (j : S1x2048.Idx) : ∃ d : Fin 2048, j = ix2 0 d :=
  ⟨j 1, (eq_ix2 j).trans (congrArg (fun z => ix2 z (j 1)) (Subsingleton.elim (α := Fin 1) (j 0) 0))⟩

theorem vlA : kernelRun0_A.sl.r c arg9 harg9 x6 = lrow x6 := by
  funext j
  obtain ⟨d, rfl⟩ := row_one j
  exact lseA d

theorem veA : kernelRun0_A.sl.v35 c i arg7 harg7 arg8 harg8 arg15 x4 x5 = erow (par i) x4 x5 := by
  funext j
  obtain ⟨d, rfl⟩ := row_one j
  exact deltaA d

theorem at9A (j : Fin 4096) (d : Fin 128) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 (ix2 j d) = dvs (lrow x6) x1 (slotM (par i) x0) (slotM (par i) x4) j d := by
  rw [out_A9, vlA, vqA, voA]
  rfl

theorem at8A (j : Fin 4096) (d : Fin 128) :
    out0_A_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 (ix2 j d) = dks (lrow x6) (erow (par i) x4 x5) x1 x3 (slotM (par i) x0) (slotM (par i) x4) j d := by
  rw [out_A8, vlA, veA, vqA, voA]
  rfl

theorem at7A (t : Fin 512) (u : Fin 256) :
    out0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 (ix2 t u)
      = ∑ j : Fin 4096, x2 (ix2 ⟨u.val % 64 + (if par i = 1#1 then 0 else 64), by split <;> omega⟩ j)
          * dst (lrow x6) (erow (par i) x4 x5) x1 x3 (slotM (par i) x0) (slotM (par i) x4) j ⟨512 * (u.val / 64) + t.val, by omega⟩ := by
  refine (out_A7 t u).trans ((unslot_apply _ _ t u).trans ?_)
  rw [dqtA, vlA, veA, vqA, voA]
  rfl
end

section
variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S4096x128 .bf16} {harg6 : arg6.IsWhole} {arg7 : Memref sig .tc .vmem S512x256 .bf16} {harg7 : arg7.IsWhole} {arg8 : Memref sig .tc .vmem S512x256 .bf16} {harg8 : arg8.IsWhole} {arg9 : Memref sig .tc .vmem S8x2048 .f32} {harg9 : arg9.IsWhole} {arg10 : Memref sig .tc .vmem S512x256 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2048x128 .bf16} {harg13 : arg13.IsWhole} {arg14 : Memref sig .tc .vmem S2048x128 .bf16} {harg14 : arg14.IsWhole} {arg15 : Memref sig .tc .vmem S1x2048 .f32} {harg15 : arg15.IsWhole} {arg16 : Memref sig .tc .vmem S128x2048 .f32} {harg16 : arg16.IsWhole} {arg17 : Memref sig .tc .vmem S2x512x2048 .f32} {harg17 : arg17.IsWhole} {arg18 : Memref sig .tc .vmem S2x512x2048 .f32} {harg18 : arg18.IsWhole} {hc0 : ¬cond0_0 i} {hc1 : cond0_1 i} {hc2 : cond0_2 i} {x0 : Vec Ideal S512x256 .bf16} {x1 : Vec Ideal S4096x128 .bf16} {x2 : Vec Ideal S128x4096 .bf16} {x3 : Vec Ideal S4096x128 .bf16} {x4 : Vec Ideal S512x256 .bf16} {x5 : Vec Ideal S512x256 .bf16} {x6 : Vec Ideal S8x2048 .f32} {xo8 : Vec Ideal S4096x128 .f32} {xo9 : Vec Ideal S4096x128 .f32}

theorem vqB : kernelRun0_B.sl.v31 c i arg3 harg3 arg13 x0 = slotM (par i) x0 := by
  funext j
  obtain ⟨a, d, rfl⟩ : ∃ (a : Fin 2048) (d : Fin 128), j = ix2 a d := ⟨j 0, j 1, eq_ix2 j⟩
  exact qB a d

theorem voB : kernelRun0_B.sl.v32 c i arg7 harg7 arg14 x4 = slotM (par i) x4 := by
  funext j
  obtain ⟨a, d, rfl⟩ : ∃ (a : Fin 2048) (d : Fin 128), j = ix2 a d := ⟨j 0, j 1, eq_ix2 j⟩
  exact doB a d

theorem vlB : kernelRun0_B.sl.r c arg9 harg9 x6 = lrow x6 := by
  funext j
  obtain ⟨d, rfl⟩ := row_one j
  exact lseB d

theorem veB : kernelRun0_B.sl.v35 c i arg7 harg7 arg8 harg8 arg15 x4 x5 = erow (par i) x4 x5 := by
  funext j
  obtain ⟨d, rfl⟩ := row_one j
  exact deltaB d

theorem at9B (j : Fin 4096) (d : Fin 128) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xo8 xo9 (ix2 j d) = xo9 (ix2 j d) + dvs (lrow x6) x1 (slotM (par i) x0) (slotM (par i) x4) j d := by
  rw [out_B9, vlB, vqB, voB]
  rfl

theorem at8B (j : Fin 4096) (d : Fin 128) :
    out0_B_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xo8 xo9 (ix2 j d) = xo8 (ix2 j d) + dks (lrow x6) (erow (par i) x4 x5) x1 x3 (slotM (par i) x0) (slotM (par i) x4) j d := by
  rw [out_B8, vlB, veB, vqB, voB]
  rfl

theorem at7B (t : Fin 512) (u : Fin 256) :
    out0_B_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xo8 xo9 (ix2 t u)
      = ∑ j : Fin 4096, x2 (ix2 ⟨u.val % 64 + (if par i = 1#1 then 0 else 64), by split <;> omega⟩ j)
          * dst (lrow x6) (erow (par i) x4 x5) x1 x3 (slotM (par i) x0) (slotM (par i) x4) j ⟨512 * (u.val / 64) + t.val, by omega⟩ := by
  refine (out_B7 t u).trans ((unslot_apply _ _ t u).trans ?_)
  rw [dqtB, vlB, veB, vqB, voB]
  rfl
end

end Cert.KernelFIdeal.Block
end
-- ==== Proof.F.Heads.lean ====
module
public import proofs.«01_k».proof.Proof.F.Point
@[expose] public section
set_option maxRecDepth 16384
noncomputable section
/-! A block's products over the head it computes. -/
namespace Cert.KernelFIdeal.Block
open Cert.KernelFIdeal Cert.KernelFIdeal.Gen Cert.KernelFIdeal.Tile Idealize.ShloMosaic Idealize.ShloMosaic.TcCoe Idealize.SL.Sem
open Idealize.ShloMosaic.Pointwise

/-- The lanes a block's heads use. -/
def lane (p : BitVec 1) (e : Fin 64) : Fin 128 := ⟨e.val + (if p = 1#1 then 0 else 64), by split <;> omega⟩
/-- A head's column. -/
def qcol (y : Fin 2048) (e : Fin 64) : Fin 256 := ⟨64 * (y.val / 512) + e.val, by omega⟩
/-- A head's row. -/
def qrow (y : Fin 2048) : Fin 512 := ⟨y.val % 512, by omega⟩

theorem slot_lane (p : BitVec 1) (x : Vec Ideal S512x256 .bf16) (y : Fin 2048) (e : Fin 64) : slot p x y (lane p e) = x (ix2 (qrow y) (qcol y e)) := by
  unfold slot lane
  rcases BitVec.eq_zero_or_eq_one p with rfl | rfl
  · rw [if_pos (by simp)]
    exact ext2 x rfl (by simp [qcol])
  · rw [if_pos (by simp)]
    exact ext2 x rfl (by simp [qcol])

/-- A sum over the lanes of a slotted row has the head's lanes only. -/
theorem slot_sum (p : BitVec 1) (x : Vec Ideal S512x256 .bf16) (y : Fin 2048) (a : Fin 128 → EReal) :
    ∑ d : Fin 128, a d * slot p x y d = ∑ e : Fin 64, a (lane p e) * x (ix2 (qrow y) (qcol y e)) := by
  rw [← Fin.sum_mul_add_fin 2 64 (fun d : Fin 128 => a d * slot p x y d), Fin.sum_univ_two]
  rcases BitVec.eq_zero_or_eq_one p with rfl | rfl
  · refine Eq.trans (congrArg₂ (· + ·) (Finset.sum_eq_zero fun e _ => ?_) (Finset.sum_congr rfl fun e _ => ?_)) (zero_add _)
    · unfold slot
      rw [if_neg (by simp), mul_zero]
    · rw [← slot_lane 0#1 x y e]
      have h : (⟨(1 : Fin 2).val * 64 + e.val, by simp; omega⟩ : Fin 128) = lane 0#1 e := Fin.ext (by simp [lane]; omega)
      rw [h]
  · refine Eq.trans (congrArg₂ (· + ·) (Finset.sum_congr rfl fun e _ => ?_) (Finset.sum_eq_zero fun e _ => ?_)) (add_zero _)
    · rw [← slot_lane 1#1 x y e]
      have h : (⟨(0 : Fin 2).val * 64 + e.val, by simp; omega⟩ : Fin 128) = lane 1#1 e := Fin.ext (by simp [lane])
      rw [h]
    · unfold slot
      rw [if_neg (by simp), mul_zero]

/-- The other lanes hold zeros. -/
theorem slot_zero (p : BitVec 1) (x : Vec Ideal S512x256 .bf16) (y : Fin 2048) (d : Fin 128) (h : ¬(p = 1#1 ↔ d.val < 64)) : slot p x y d = 0 :=
  if_neg h

theorem slot_some (p : BitVec 1) (x : Vec Ideal S512x256 .bf16) (y : Fin 2048) (d : Fin 128) (h : p = 1#1 ↔ d.val < 64) :
    slot p x y d = x (ix2 (qrow y) (qcol y ⟨d.val % 64, by omega⟩)) :=
  if_pos h

theorem sc_slot (p : BitVec 1) (k : Vec Ideal S4096x128 .bf16) (x : Vec Ideal S512x256 .bf16) (j : Fin 4096) (y : Fin 2048) :
    sc k (slotM p x) j y = ∑ e : Fin 64, k (ix2 j (lane p e)) * x (ix2 (qrow y) (qcol y e)) :=
  slot_sum p x y fun d => k (ix2 j d)

theorem erow_slot (p : BitVec 1) (x o : Vec Ideal S512x256 .bf16) (y : Fin 2048) :
    erow p x o (ix2 0 y) = ∑ e : Fin 64, x (ix2 (qrow y) (qcol y e)) * o (ix2 (qrow y) (qcol y e)) := by
  refine (slot_sum p o y fun d => slot p x y d).trans (Finset.sum_congr rfl fun e _ => ?_)
  rw [slot_lane]

end Cert.KernelFIdeal.Block
end
-- ==== Proof.F.Arrays.lean ====
module
public import proofs.«01_k».proof.Proof.F.Heads
@[expose] public section
set_option maxRecDepth 16384
noncomputable section
/-! The blocks of the attention's gradient as parts of its arrays. -/
namespace Cert.KernelFIdeal.Arrays
open Cert.KernelFIdeal Cert.KernelFIdeal.Gen Cert.KernelFIdeal.Tile Cert.KernelFIdeal.Block Idealize.ShloMosaic Idealize.ShloMosaic.TcCoe Idealize.SL.Sem
open Idealize.ShloMosaic.Pointwise
open Idealize.ShloMosaic.Pipeline (Dat)
variable (m : (ℓ : Loc nD τ sig) → Buf (Elt Ideal) ℓ) (ρ : Dev nD → PrngReg)

theorem idx0 : ∀ t : Fin cfg0.N, win0_0.index t 0 = t.val % 8 ∧ win0_0.index t 1 = t.val / 8 ∧ win0_1.index t 0 = 0 ∧ win0_1.index t 1 = t.val / 16
    ∧ win0_2.index t 0 = t.val / 16 ∧ win0_2.index t 1 = 0 ∧ win0_3.index t 0 = 0 ∧ win0_3.index t 1 = t.val / 16
    ∧ win0_4.index t 0 = t.val % 8 ∧ win0_4.index t 1 = t.val / 8 ∧ win0_5.index t 0 = t.val % 8 ∧ win0_5.index t 1 = t.val / 8
    ∧ win0_6.index t 0 = t.val ∧ win0_6.index t 1 = 0 ∧ win0_7.index t 0 = t.val % 8 ∧ win0_7.index t 1 = t.val / 8
    ∧ win0_8.index t 0 = 0 ∧ win0_8.index t 1 = t.val / 16 ∧ win0_9.index t 0 = 0 ∧ win0_9.index t 1 = t.val / 16 :=
  (by decide +kernel : ∀ t : Fin grid0.N, _)

theorem par_eq : ∀ t : Fin cfg0.N, par (grid0.coords t) = if t.val / 8 % 2 = 0 then 1#1 else 0#1 :=
  (by decide +kernel : ∀ t : Fin grid0.N, _)

/-- The scaled queries. -/
abbrev Q (c : Dev nD) : FVec Ideal S4096x1024 .bf16 := V m c main_v30
/-- The keys. -/
abbrev K (c : Dev nD) : FVec Ideal S4096x256 .bf16 := V m c main_v27
/-- The keys, transposed. -/
abbrev KT (c : Dev nD) : FVec Ideal S256x4096 .bf16 := V m c main_v31
/-- The values. -/
abbrev Vv (c : Dev nD) : FVec Ideal S4096x256 .bf16 := V m c main_v32
/-- The gradient of the result. -/
abbrev DO (c : Dev nD) : FVec Ideal S4096x1024 .bf16 := V m c main_v33
/-- The result. -/
abbrev O (c : Dev nD) : FVec Ideal S4096x1024 .bf16 := V m c main_v34
/-- The rows' normalisers. -/
abbrev L (c : Dev nD) : FVec Ideal S256x2048 .f32 := V m c main_v26

/-- A query head's column. -/
def colq (h : Fin 16) (e : Fin 64) : Fin 1024 := ⟨64 * h.val + e.val, by omega⟩
/-- The column of the head of keys that a query head reads. -/
def colk (h : Fin 16) (e : Fin 64) : Fin 256 := ⟨64 * (h.val / 4) + e.val, by omega⟩
/-- A block row's query head. -/
def hd (g : Fin 4) (y : Fin 2048) : Fin 16 := ⟨4 * g.val + y.val / 512, by omega⟩
/-- A block row's query. -/
def qr (r : Fin 8) (y : Fin 2048) : Fin 4096 := ⟨512 * r.val + y.val % 512, by omega⟩
/-- Where a query's normaliser lies. -/
def lrw (h : Fin 16) (s : Fin 4096) : S256x2048.Idx := ix2 ⟨8 * (8 * (h.val / 4) + s.val / 512), by omega⟩ ⟨512 * (h.val % 4) + s.val % 512, by omega⟩

/-- The group a point computes. -/
def gr (t : Fin cfg0.N) : Fin 4 := ⟨t.val / 8, by have := t.isLt; have : cfg0.N = 32 := N_0; omega⟩
/-- The block of queries a point computes. -/
def qi (t : Fin cfg0.N) : Fin 8 := ⟨t.val % 8, by omega⟩

theorem at0 (c : Dev nD) (t : Fin cfg0.N) (y : Fin 2048) (e : Fin 64) :
    iblk m c 0 t (ix2 (qrow y) (qcol y e)) = Q m c (ix2 (qr (qi t) y) (colq (hd (gr t) y) e)) := by
  simp only [qrow, qcol, qr, qi, colq, hd, gr]
  blk_ext [iblk, idx0 t]

theorem at4 (c : Dev nD) (t : Fin cfg0.N) (y : Fin 2048) (e : Fin 64) :
    iblk m c 4 t (ix2 (qrow y) (qcol y e)) = DO m c (ix2 (qr (qi t) y) (colq (hd (gr t) y) e)) := by
  simp only [qrow, qcol, qr, qi, colq, hd, gr]
  blk_ext [iblk, idx0 t]

theorem at5 (c : Dev nD) (t : Fin cfg0.N) (y : Fin 2048) (e : Fin 64) :
    iblk m c 5 t (ix2 (qrow y) (qcol y e)) = O m c (ix2 (qr (qi t) y) (colq (hd (gr t) y) e)) := by
  simp only [qrow, qcol, qr, qi, colq, hd, gr]
  blk_ext [iblk, idx0 t]

theorem lane_eq (t : Fin cfg0.N) (e : Fin 64) : t.val / 16 * 128 + (lane (par (grid0.coords t)) e).val = 64 * (t.val / 8) + e.val := by
  unfold lane
  rw [par_eq]
  show t.val / 16 * 128 + (e.val + _) = _
  split_ifs <;> first | omega | simp_all

theorem at1 (c : Dev nD) (t : Fin cfg0.N) (j : Fin 4096) (y : Fin 2048) (e : Fin 64) :
    iblk m c 1 t (ix2 j (lane (par (grid0.coords t)) e)) = K m c (ix2 j (colk (hd (gr t) y) e)) := by
  have h := lane_eq t e
  have hk : (colk (hd (gr t) y) e).val = 64 * (t.val / 8) + e.val := by simp only [colk, hd, gr]; omega
  blk_ext [iblk, idx0 t]

theorem at3 (c : Dev nD) (t : Fin cfg0.N) (j : Fin 4096) (y : Fin 2048) (e : Fin 64) :
    iblk m c 3 t (ix2 j (lane (par (grid0.coords t)) e)) = Vv m c (ix2 j (colk (hd (gr t) y) e)) := by
  have h := lane_eq t e
  have hk : (colk (hd (gr t) y) e).val = 64 * (t.val / 8) + e.val := by simp only [colk, hd, gr]; omega
  blk_ext [iblk, idx0 t]

theorem at2 (c : Dev nD) (t : Fin cfg0.N) (j : Fin 4096) (y : Fin 2048) (e : Fin 64) :
    iblk m c 2 t (ix2 (lane (par (grid0.coords t)) e) j) = KT m c (ix2 (colk (hd (gr t) y) e) j) := by
  have h := lane_eq t e
  have hk : (colk (hd (gr t) y) e).val = 64 * (t.val / 8) + e.val := by simp only [colk, hd, gr]; omega
  blk_ext [iblk, idx0 t]

theorem at6 (c : Dev nD) (t : Fin cfg0.N) (y : Fin 2048) :
    iblk m c 6 t (ix2 0 y) = L m c (lrw (hd (gr t) y) (qr (qi t) y)) := by
  simp only [qr, qi, hd, gr, lrw]
  blk_ext [iblk, idx0 t]

end Cert.KernelFIdeal.Arrays
end
-- ==== Proof.F.Sums.lean ====
module
public import proofs.«01_k».proof.Proof.F.Arrays
@[expose] public section
set_option maxRecDepth 16384
noncomputable section
/-! The sums that the attention's gradient leaves in its blocks. -/
namespace Cert.KernelFIdeal.Arrays
open Cert.KernelFIdeal Cert.KernelFIdeal.Gen Cert.KernelFIdeal.Tile Cert.KernelFIdeal.Block Idealize.ShloMosaic Idealize.ShloMosaic.TcCoe Idealize.SL.Sem
open Idealize.ShloMosaic.Pointwise
open Idealize.ShloMosaic.Pipeline (Dat)
variable (m : (ℓ : Loc nD τ sig) → Buf (Elt Ideal) ℓ) (ρ : Dev nD → PrngReg)

/-- A query head's score. -/
def Sc (c : Dev nD) (h : Fin 16) (s j : Fin 4096) : EReal := ∑ e : Fin 64, K m c (ix2 j (colk h e)) * Q m c (ix2 s (colq h e))
/-- A query head's weight of a key. -/
def Pt (c : Dev nD) (h : Fin 16) (s j : Fin 4096) : EReal := Ideal.exp2 (Sc m c h s j - L m c (lrw h s))
/-- The gradient of a query head's weight. -/
def Gt (c : Dev nD) (h : Fin 16) (s j : Fin 4096) : EReal := ∑ e : Fin 64, Vv m c (ix2 j (colk h e)) * DO m c (ix2 s (colq h e))
/-- A query head's product of result and gradient. -/
def Et (c : Dev nD) (h : Fin 16) (s : Fin 4096) : EReal := ∑ e : Fin 64, DO m c (ix2 s (colq h e)) * O m c (ix2 s (colq h e))
/-- The gradient of a query head's score. -/
def Ds (c : Dev nD) (h : Fin 16) (s j : Fin 4096) : EReal := Pt m c h s j * (Gt m c h s j - Et m c h s)

/-- One block of queries' part of the values' gradient. -/
def gvt (c : Dev nD) (g : Fin 4) (r : Fin 8) (j : Fin 4096) (e : Fin 64) : EReal :=
  ∑ y : Fin 2048, Pt m c (hd g y) (qr r y) j * DO m c (ix2 (qr r y) (colq (hd g y) e))
/-- One block of queries' part of the keys' gradient. -/
def gkt (c : Dev nD) (g : Fin 4) (r : Fin 8) (j : Fin 4096) (e : Fin 64) : EReal :=
  (∑ y : Fin 2048, Ds m c (hd g y) (qr r y) j * Q m c (ix2 (qr r y) (colq (hd g y) e))) * ln2

/-- The queries' gradient. -/
def gq (c : Dev nD) : Vec Ideal S4096x1024 .f32 := fun i =>
  ∑ j : Fin 4096, KT m c (ix2 (colk ⟨(i 1).val / 64, by have : (i 1).val < 1024 := (i 1).isLt; omega⟩ ⟨(i 1).val % 64, by omega⟩) j)
    * Ds m c ⟨(i 1).val / 64, by have : (i 1).val < 1024 := (i 1).isLt; omega⟩ (i 0) j
/-- The keys' gradient. -/
def gk (c : Dev nD) : Vec Ideal S4096x256 .f32 := fun i =>
  ∑ r : Fin 8, gkt m c ⟨(i 1).val / 64, by have : (i 1).val < 256 := (i 1).isLt; omega⟩ r (i 0) ⟨(i 1).val % 64, by omega⟩
/-- The values' gradient. -/
def gv (c : Dev nD) : Vec Ideal S4096x256 .f32 := fun i =>
  ∑ r : Fin 8, gvt m c ⟨(i 1).val / 64, by have : (i 1).val < 256 := (i 1).isLt; omega⟩ r (i 0) ⟨(i 1).val % 64, by omega⟩

theorem sc_eq (c : Dev nD) (t : Fin cfg0.N) (j : Fin 4096) (y : Fin 2048) :
    sc (iblk m c 1 t) (slotM (par (grid0.coords t)) (iblk m c 0 t)) j y = Sc m c (hd (gr t) y) (qr (qi t) y) j := by
  refine (sc_slot _ (iblk m c 1 t) (iblk m c 0 t) j y).trans (Finset.sum_congr rfl fun e _ => ?_)
  rw [at1 m c t j y, at0]

theorem gt_eq (c : Dev nD) (t : Fin cfg0.N) (j : Fin 4096) (y : Fin 2048) :
    sc (iblk m c 3 t) (slotM (par (grid0.coords t)) (iblk m c 4 t)) j y = Gt m c (hd (gr t) y) (qr (qi t) y) j := by
  refine (sc_slot _ (iblk m c 3 t) (iblk m c 4 t) j y).trans (Finset.sum_congr rfl fun e _ => ?_)
  rw [at3 m c t j y, at4]

theorem et_eq (c : Dev nD) (t : Fin cfg0.N) (y : Fin 2048) :
    erow (par (grid0.coords t)) (iblk m c 4 t) (iblk m c 5 t) (ix2 0 y) = Et m c (hd (gr t) y) (qr (qi t) y) := by
  refine (erow_slot _ (iblk m c 4 t) (iblk m c 5 t) y).trans (Finset.sum_congr rfl fun e _ => ?_)
  rw [at4, at5]

theorem pt_eq (c : Dev nD) (t : Fin cfg0.N) (j : Fin 4096) (y : Fin 2048) :
    pt (lrow (iblk m c 6 t)) (iblk m c 1 t) (slotM (par (grid0.coords t)) (iblk m c 0 t)) j y = Pt m c (hd (gr t) y) (qr (qi t) y) j :=
  congrArg Ideal.exp2 (congrArg₂ (· - ·) (sc_eq m c t j y) (at6 m c t y))

theorem dst_eq (c : Dev nD) (t : Fin cfg0.N) (j : Fin 4096) (y : Fin 2048) :
    dst (lrow (iblk m c 6 t)) (erow (par (grid0.coords t)) (iblk m c 4 t) (iblk m c 5 t)) (iblk m c 1 t) (iblk m c 3 t)
      (slotM (par (grid0.coords t)) (iblk m c 0 t)) (slotM (par (grid0.coords t)) (iblk m c 4 t)) j y = Ds m c (hd (gr t) y) (qr (qi t) y) j :=
  congrArg₂ (· * ·) (pt_eq m c t j y) (congrArg₂ (· - ·) (gt_eq m c t j y) (et_eq m c t y))

/-- The values' gradient that a point adds. -/
abbrev dv9 (c : Dev nD) (t : Fin cfg0.N) (j : Fin 4096) (d : Fin 128) : EReal :=
  dvs (lrow (iblk m c 6 t)) (iblk m c 1 t) (slotM (par (grid0.coords t)) (iblk m c 0 t)) (slotM (par (grid0.coords t)) (iblk m c 4 t)) j d
/-- The keys' gradient that a point adds. -/
abbrev dk8 (c : Dev nD) (t : Fin cfg0.N) (j : Fin 4096) (d : Fin 128) : EReal :=
  dks (lrow (iblk m c 6 t)) (erow (par (grid0.coords t)) (iblk m c 4 t) (iblk m c 5 t)) (iblk m c 1 t) (iblk m c 3 t)
    (slotM (par (grid0.coords t)) (iblk m c 0 t)) (slotM (par (grid0.coords t)) (iblk m c 4 t)) j d

/-- Whether a lane belongs to the group that a point computes. -/
theorem par_iff (t : Fin cfg0.N) (d : Fin 128) : (par (grid0.coords t) = 1#1 ↔ d.val < 64) ↔ t.val / 8 % 2 = d.val / 64 := by
  rw [par_eq]
  split_ifs with h
  · simp only [true_iff]; omega
  · rw [show ((0#1 : BitVec 1) = 1#1 ↔ d.val < 64) ↔ ¬ d.val < 64 from by simp]; omega

theorem dv9_eq (c : Dev nD) (t : Fin cfg0.N) (j : Fin 4096) (d : Fin 128) :
    dv9 m c t j d = if t.val / 8 % 2 = d.val / 64 then gvt m c (gr t) (qi t) j ⟨d.val % 64, by omega⟩ else 0 := by
  split_ifs with h
  · refine Finset.sum_congr rfl fun y _ => congrArg₂ (· * ·) (pt_eq m c t j y) ?_
    exact (slot_some _ (iblk m c 4 t) y d ((par_iff t d).mpr h)).trans (at4 m c t y _)
  · refine Finset.sum_eq_zero fun y _ => ?_
    exact (congrArg₂ (· * ·) rfl (slot_zero _ (iblk m c 4 t) y d (fun e => h ((par_iff t d).mp e)))).trans (mul_zero _)

theorem dk8_eq (c : Dev nD) (t : Fin cfg0.N) (j : Fin 4096) (d : Fin 128) :
    dk8 m c t j d = if t.val / 8 % 2 = d.val / 64 then gkt m c (gr t) (qi t) j ⟨d.val % 64, by omega⟩ else 0 := by
  split_ifs with h
  · refine congrArg₂ (· * ·) (Finset.sum_congr rfl fun y _ => congrArg₂ (· * ·) (dst_eq m c t j y) ?_) rfl
    exact (slot_some _ (iblk m c 0 t) y d ((par_iff t d).mpr h)).trans (at0 m c t y _)
  · refine (congrArg₂ (· * ·) (Finset.sum_eq_zero fun y _ => ?_) rfl).trans (zero_mul _)
    exact (congrArg₂ (· * ·) rfl (slot_zero _ (iblk m c 0 t) y d (fun e => h ((par_iff t d).mp e)))).trans (mul_zero _)

/-- Of the sixteen points of a pair of groups, a lane's group has eight. -/
theorem sum_pair (t : Fin cfg0.N) (d : Fin 128) (f : Fin 4 → Fin 8 → EReal) (X : Fin cfg0.N → EReal)
    (hX : ∀ n, X n = if n.val / 8 % 2 = d.val / 64 then f (gr n) (qi n) else 0) (k : ∀ s : Fin 16, 16 * (t.val / 16) + s.val < cfg0.N) :
    ∑ s : Fin 16, X ⟨16 * (t.val / 16) + s.val, k s⟩
      = ∑ r : Fin 8, f ⟨2 * (t.val / 16) + d.val / 64, by have := t.isLt; have : cfg0.N = 32 := N_0; omega⟩ r := by
  rw [← Fin.sum_mul_add_fin 2 8 (fun s : Fin 16 => X ⟨16 * (t.val / 16) + s.val, k s⟩), Fin.sum_univ_two]
  simp only [hX]
  by_cases h : d.val < 64
  · refine Eq.trans (congrArg₂ (· + ·) (Finset.sum_congr rfl fun r _ => ?_) (Finset.sum_eq_zero fun r _ => ?_)) (add_zero _)
    · rw [if_pos (by simp; omega)]
      exact congrArg₂ f (Fin.ext (by simp [gr]; omega)) (Fin.ext (by simp [qi]; omega))
    · rw [if_neg (by simp; omega)]
  · refine Eq.trans (congrArg₂ (· + ·) (Finset.sum_eq_zero fun r _ => ?_) (Finset.sum_congr rfl fun r _ => ?_)) (zero_add _)
    · rw [if_neg (by simp; omega)]
    · rw [if_pos (by simp; omega)]
      exact congrArg₂ f (Fin.ext (by simp [gr]; omega)) (Fin.ext (by simp [qi]; omega))

/-- The row of a block of queries that an entry of its gradient belongs to. -/
def yrow (p : Fin 512) (u : Fin 256) : Fin 2048 := ⟨512 * (u.val / 64) + p.val, by omega⟩

theorem dq7_eq (c : Dev nD) (t : Fin cfg0.N) (w : Vec Ideal S128x4096 .bf16) (hw : w = iblk m c 2 t) (u : Fin 256) (y : Fin 2048) :
    ∑ j : Fin 4096, w (ix2 (lane (par (grid0.coords t)) ⟨u.val % 64, by omega⟩) j)
        * dst (lrow (iblk m c 6 t)) (erow (par (grid0.coords t)) (iblk m c 4 t) (iblk m c 5 t)) (iblk m c 1 t) (iblk m c 3 t)
            (slotM (par (grid0.coords t)) (iblk m c 0 t)) (slotM (par (grid0.coords t)) (iblk m c 4 t)) j y
      = ∑ j : Fin 4096, KT m c (ix2 (colk (hd (gr t) y) ⟨u.val % 64, by omega⟩) j) * Ds m c (hd (gr t) y) (qr (qi t) y) j := by
  refine Finset.sum_congr rfl fun j _ => ?_
  rw [dst_eq m c t j y, hw, at2 m c t j y]

/-- The queries' gradient after a point. -/
theorem outs7 (c : Dev nD) (t : Fin cfg0.N) (p : Fin 512) (u : Fin 256) :
    (outsAt0 m c t.val t.isLt).1 (ix2 p u)
      = ∑ j : Fin 4096, KT m c (ix2 (colk (hd (gr t) (yrow p u)) ⟨u.val % 64, by omega⟩) j) * Ds m c (hd (gr t) (yrow p u)) (qr (qi t) (yrow p u)) j := by
  refine Eq.trans ?_ (dq7_eq m c t (iblk m c 2 t) rfl u (yrow p u))
  by_cases h0 : t.val % 16 = 0
  · rw [outsAt0_A m c t h0]
    dsimp only
    rw [at7A]
    simp only [lane, yrow]
  · rw [outsAt0_B m c t h0]
    dsimp only
    rw [at7B]
    simp only [lane, yrow]

/-- The keys' gradient after the last point of a pair of groups. -/
theorem outs8 (c : Dev nD) (t : Fin cfg0.N) (hf : (cfg0.win 8).flush t = true) (j : Fin 4096) (d : Fin 128) :
    (outsAt0 m c t.val t.isLt).2.1 (ix2 j d)
      = ∑ r : Fin 8, gkt m c ⟨2 * (t.val / 16) + d.val / 64, by have := t.isLt; have : cfg0.N = 32 := N_0; omega⟩ r j ⟨d.val % 64, by omega⟩ := by
  rw [Pipeline.eq_sum_fin_of_reset_step_apply_of_flush (fun n h => (outsAt0 m c n h).2.1) 16 (fun _ => 0)
      (fun t j => dk8 m c t (j 0) (j 1))
      (fun t h j => by obtain ⟨a, b, rfl⟩ : ∃ (a : Fin 4096) (b : Fin 128), j = ix2 a b := ⟨j 0, j 1, eq_ix2 j⟩; rw [outsAt0_A m c t h]; dsimp only; rw [at8A]; exact (zero_add _).symm)
      (fun t h j => by obtain ⟨a, b, rfl⟩ : ∃ (a : Fin 4096) (b : Fin 128), j = ix2 a b := ⟨j 0, j 1, eq_ix2 j⟩; rw [outsAt0_B m c t h]; dsimp only; rw [at8B]; rfl)
      t ((flush0_8 t).mp hf) (ix2 j d), zero_add]
  exact sum_pair t d (fun g r => gkt m c g r j ⟨d.val % 64, by omega⟩) (fun n => dk8 m c n j d) (fun n => dk8_eq m c n j d) _

/-- The values' gradient after the last point of a pair of groups. -/
theorem outs9 (c : Dev nD) (t : Fin cfg0.N) (hf : (cfg0.win 9).flush t = true) (j : Fin 4096) (d : Fin 128) :
    (outsAt0 m c t.val t.isLt).2.2 (ix2 j d)
      = ∑ r : Fin 8, gvt m c ⟨2 * (t.val / 16) + d.val / 64, by have := t.isLt; have : cfg0.N = 32 := N_0; omega⟩ r j ⟨d.val % 64, by omega⟩ := by
  rw [Pipeline.eq_sum_fin_of_reset_step_apply_of_flush (fun n h => (outsAt0 m c n h).2.2) 16 (fun _ => 0)
      (fun t j => dv9 m c t (j 0) (j 1))
      (fun t h j => by obtain ⟨a, b, rfl⟩ : ∃ (a : Fin 4096) (b : Fin 128), j = ix2 a b := ⟨j 0, j 1, eq_ix2 j⟩; rw [outsAt0_A m c t h]; dsimp only; rw [at9A]; exact (zero_add _).symm)
      (fun t h j => by obtain ⟨a, b, rfl⟩ : ∃ (a : Fin 4096) (b : Fin 128), j = ix2 a b := ⟨j 0, j 1, eq_ix2 j⟩; rw [outsAt0_B m c t h]; dsimp only; rw [at9B]; rfl)
      t ((flush0_9 t).mp hf) (ix2 j d), zero_add]
  exact sum_pair t d (fun g r => gvt m c g r j ⟨d.val % 64, by omega⟩) (fun n => dv9 m c n j d) (fun n => dv9_eq m c n j d) _

end Cert.KernelFIdeal.Arrays
end
-- ==== Proof.F.Final.lean ====
module
public import proofs.«01_k».proof.Proof.F.Sums
@[expose] public section
set_option maxRecDepth 16384
noncomputable section
/-! What the arrays of the attention's gradient hold after the run. -/
namespace Cert.KernelFIdeal.Arrays
open Cert.KernelFIdeal Cert.KernelFIdeal.Gen Cert.KernelFIdeal.Tile Cert.KernelFIdeal.Block Idealize.ShloMosaic Idealize.ShloMosaic.TcCoe Idealize.SL.Sem
open Idealize.ShloMosaic.Pointwise
open Idealize.ShloMosaic.Pipeline (Dat)
variable (m : (ℓ : Loc nD τ sig) → Buf (Elt Ideal) ℓ) (ρ : Dev nD → PrngReg)

theorem gq_at (c : Dev nD) (s : Fin 4096) (q : Fin 1024) (h : Fin 16) (e : Fin 64) (r : Fin 4096) (hh : h.val = q.val / 64) (he : e.val = q.val % 64) (hr : r.val = s.val) :
    ∑ j : Fin 4096, KT m c (ix2 (colk h e) j) * Ds m c h r j = gq m c (ix2 s q) := by
  obtain rfl : h = ⟨q.val / 64, by clear * -; omega⟩ := Fin.ext hh
  obtain rfl : e = ⟨q.val % 64, by clear * -; omega⟩ := Fin.ext he
  obtain rfl : r = s := Fin.ext hr
  rfl

theorem gk_at (c : Dev nD) (j : Fin 4096) (q : Fin 256) (g : Fin 4) (e : Fin 64) (hg : g.val = q.val / 64) (he : e.val = q.val % 64) :
    ∑ r : Fin 8, gkt m c g r j e = gk m c (ix2 j q) := by
  obtain rfl : g = ⟨q.val / 64, by clear * -; omega⟩ := Fin.ext hg
  obtain rfl : e = ⟨q.val % 64, by clear * -; omega⟩ := Fin.ext he
  rfl

theorem gv_at (c : Dev nD) (j : Fin 4096) (q : Fin 256) (g : Fin 4) (e : Fin 64) (hg : g.val = q.val / 64) (he : e.val = q.val % 64) :
    ∑ r : Fin 8, gvt m c g r j e = gv m c (ix2 j q) := by
  obtain rfl : g = ⟨q.val / 64, by clear * -; omega⟩ := Fin.ext hg
  obtain rfl : e = ⟨q.val % 64, by clear * -; omega⟩ := Fin.ext he
  rfl

theorem flushed7_eq (c : Dev nD) (t : Fin cfg0.N) (_hf : (cfg0.win 7).flush t = true) :
    (dats m 0 c).flushed 7 t = ((cfg0.win 7).blk t).view.read (Elt Ideal) (gq m c) := by
  rw [Value.flushed7]
  funext j
  obtain ⟨p, u, rfl⟩ : ∃ (p : Fin 512) (u : Fin 256), j = ix2 p u := ⟨j 0, j 1, eq_ix2 j⟩
  have e : ((cfg0.win 7).blk t).view.read (Elt Ideal) (gq m c) (ix2 p u)
      = gq m c (ix2 ⟨t.val % 8 * 512 + p.val, by omega⟩ ⟨t.val / 8 * 256 + u.val, by have := t.isLt; have : cfg0.N = 32 := N_0; omega⟩) := by
    blk_ext [idx0 t]
  rw [e]
  refine (outs7 m c t p u).trans (gq_at m c _ _ _ _ _ ?_ ?_ ?_)
  · simp only [hd, gr, yrow]; omega
  · show u.val % 64 = (t.val / 8 * 256 + u.val) % 64; omega
  · simp only [qr, qi, yrow]; omega

theorem final7 (c : Dev nD) : (dats m 0 c).arrAt 7 cfg0.N = gq m c :=
  (dats m 0 c).arrAt_eq_of_cover 7 (gq m c) (flushed7_eq m c) fun i =>
    have h0 : (i 0 : Nat) < 4096 := (i 0).isLt
    have h1 : (i 1 : Nat) < 1024 := (i 1).isLt
    have hN : cfg0.N = 32 := N_0
    let t : Fin cfg0.N := ⟨(i 1 : Nat) / 256 * 8 + (i 0 : Nat) / 512, by omega⟩
    ⟨t, flush0_7 t, by
      show i ∈ ((View.whole main_v35_0).slice (win0_7.rect t)).set
      rw [View.set_slice_whole, Rect.mem_set_unit]
      have e : win0_7.index t 0 = t.val % 8 ∧ win0_7.index t 1 = t.val / 8 := (by decide +kernel : ∀ t : Fin grid0.N, win0_7.index t 0 = t.val % 8 ∧ win0_7.index t 1 = t.val / 8) t
      have e' : win0_7.xsize (grid0.coords t) 0 = 512 ∧ win0_7.xsize (grid0.coords t) 1 = 256 :=
        (by decide +kernel : ∀ t : Fin grid0.N, win0_7.xsize (grid0.coords t) 0 = 512 ∧ win0_7.xsize (grid0.coords t) 1 = 256) t
      have ht : t.val = (i 1 : Nat) / 256 * 8 + (i 0 : Nat) / 512 := rfl
      intro a
      match a with
      | ⟨0, _⟩ => show win0_7.index t 0 * 512 ≤ (i 0 : Nat) ∧ (i 0 : Nat) < win0_7.index t 0 * 512 + win0_7.xsize (grid0.coords t) 0
                  rw [e.1, e'.1]; omega
      | ⟨1, _⟩ => show win0_7.index t 1 * 256 ≤ (i 1 : Nat) ∧ (i 1 : Nat) < win0_7.index t 1 * 256 + win0_7.xsize (grid0.coords t) 1
                  rw [e.2, e'.2]; omega⟩

theorem flushed8_eq (c : Dev nD) (t : Fin cfg0.N) (hf : (cfg0.win 8).flush t = true) :
    (dats m 0 c).flushed 8 t = ((cfg0.win 8).blk t).view.read (Elt Ideal) (gk m c) := by
  rw [Value.flushed8]
  funext j
  obtain ⟨p, u, rfl⟩ : ∃ (p : Fin 4096) (u : Fin 128), j = ix2 p u := ⟨j 0, j 1, eq_ix2 j⟩
  have e : ((cfg0.win 8).blk t).view.read (Elt Ideal) (gk m c) (ix2 p u)
      = gk m c (ix2 p ⟨t.val / 16 * 128 + u.val, by have := t.isLt; have : cfg0.N = 32 := N_0; omega⟩) := by
    blk_ext [idx0 t]
  rw [e]
  refine (outs8 m c t hf p u).trans (gk_at m c _ _ _ _ ?_ ?_)
  · show 2 * (t.val / 16) + u.val / 64 = (t.val / 16 * 128 + u.val) / 64; omega
  · show u.val % 64 = (t.val / 16 * 128 + u.val) % 64; omega

theorem flushed9_eq (c : Dev nD) (t : Fin cfg0.N) (hf : (cfg0.win 9).flush t = true) :
    (dats m 0 c).flushed 9 t = ((cfg0.win 9).blk t).view.read (Elt Ideal) (gv m c) := by
  rw [Value.flushed9]
  funext j
  obtain ⟨p, u, rfl⟩ : ∃ (p : Fin 4096) (u : Fin 128), j = ix2 p u := ⟨j 0, j 1, eq_ix2 j⟩
  have e : ((cfg0.win 9).blk t).view.read (Elt Ideal) (gv m c) (ix2 p u)
      = gv m c (ix2 p ⟨t.val / 16 * 128 + u.val, by have := t.isLt; have : cfg0.N = 32 := N_0; omega⟩) := by
    blk_ext [idx0 t]
  rw [e]
  refine (outs9 m c t hf p u).trans (gv_at m c _ _ _ _ ?_ ?_)
  · show 2 * (t.val / 16) + u.val / 64 = (t.val / 16 * 128 + u.val) / 64; omega
  · show u.val % 64 = (t.val / 16 * 128 + u.val) % 64; omega

theorem final8 (c : Dev nD) : (dats m 0 c).arrAt 8 cfg0.N = gk m c :=
  (dats m 0 c).arrAt_eq_of_cover 8 (gk m c) (flushed8_eq m c) fun i =>
    have h0 : (i 0 : Nat) < 4096 := (i 0).isLt
    have h1 : (i 1 : Nat) < 256 := (i 1).isLt
    have hN : cfg0.N = 32 := N_0
    let t : Fin cfg0.N := ⟨(i 1 : Nat) / 128 * 16 + 15, by omega⟩
    ⟨t, (flush0_8 t).mpr (by show ((i 1 : Nat) / 128 * 16 + 15) % 16 = 15; omega), by
      show i ∈ ((View.whole main_v35_1).slice (win0_8.rect t)).set
      rw [View.set_slice_whole, Rect.mem_set_unit]
      have e : win0_8.index t 0 = 0 ∧ win0_8.index t 1 = t.val / 16 := (by decide +kernel : ∀ t : Fin grid0.N, win0_8.index t 0 = 0 ∧ win0_8.index t 1 = t.val / 16) t
      have e' : win0_8.xsize (grid0.coords t) 0 = 4096 ∧ win0_8.xsize (grid0.coords t) 1 = 128 :=
        (by decide +kernel : ∀ t : Fin grid0.N, win0_8.xsize (grid0.coords t) 0 = 4096 ∧ win0_8.xsize (grid0.coords t) 1 = 128) t
      have ht : t.val = (i 1 : Nat) / 128 * 16 + 15 := rfl
      intro a
      match a with
      | ⟨0, _⟩ => show win0_8.index t 0 * 4096 ≤ (i 0 : Nat) ∧ (i 0 : Nat) < win0_8.index t 0 * 4096 + win0_8.xsize (grid0.coords t) 0
                  rw [e.1, e'.1]; omega
      | ⟨1, _⟩ => show win0_8.index t 1 * 128 ≤ (i 1 : Nat) ∧ (i 1 : Nat) < win0_8.index t 1 * 128 + win0_8.xsize (grid0.coords t) 1
                  rw [e.2, e'.2]; omega⟩

theorem final9 (c : Dev nD) : (dats m 0 c).arrAt 9 cfg0.N = gv m c :=
  (dats m 0 c).arrAt_eq_of_cover 9 (gv m c) (flushed9_eq m c) fun i =>
    have h0 : (i 0 : Nat) < 4096 := (i 0).isLt
    have h1 : (i 1 : Nat) < 256 := (i 1).isLt
    have hN : cfg0.N = 32 := N_0
    let t : Fin cfg0.N := ⟨(i 1 : Nat) / 128 * 16 + 15, by omega⟩
    ⟨t, (flush0_9 t).mpr (by show ((i 1 : Nat) / 128 * 16 + 15) % 16 = 15; omega), by
      show i ∈ ((View.whole main_v35_2).slice (win0_9.rect t)).set
      rw [View.set_slice_whole, Rect.mem_set_unit]
      have e : win0_9.index t 0 = 0 ∧ win0_9.index t 1 = t.val / 16 := (by decide +kernel : ∀ t : Fin grid0.N, win0_9.index t 0 = 0 ∧ win0_9.index t 1 = t.val / 16) t
      have e' : win0_9.xsize (grid0.coords t) 0 = 4096 ∧ win0_9.xsize (grid0.coords t) 1 = 128 :=
        (by decide +kernel : ∀ t : Fin grid0.N, win0_9.xsize (grid0.coords t) 0 = 4096 ∧ win0_9.xsize (grid0.coords t) 1 = 128) t
      have ht : t.val = (i 1 : Nat) / 128 * 16 + 15 := rfl
      intro a
      match a with
      | ⟨0, _⟩ => show win0_9.index t 0 * 4096 ≤ (i 0 : Nat) ∧ (i 0 : Nat) < win0_9.index t 0 * 4096 + win0_9.xsize (grid0.coords t) 0
                  rw [e.1, e'.1]; omega
      | ⟨1, _⟩ => show win0_9.index t 1 * 128 ≤ (i 1 : Nat) ∧ (i 1 : Nat) < win0_9.index t 1 * 128 + win0_9.xsize (grid0.coords t) 1
                  rw [e.2, e'.2]; omega⟩

end Cert.KernelFIdeal.Arrays
end
-- ==== Proof.F.Ref.lean ====
module
public import proofs.«01_k».proof.Proof.X.Softmax
public import proofs.«01_k».proof.Proof.Gen.ReferenceFIdeal.Run
public import Idealize.ShloMosaic.Lib.Pointwise
@[expose] public section
set_option maxRecDepth 16384
noncomputable section
/-! What the reference's gradient of the attention computes. -/
namespace Cert.ReferenceFIdeal.Arrays
open Cert.ReferenceFIdeal Cert.ReferenceFIdeal.Gen Cert.ReferenceFIdeal.Value Idealize.ShloMosaic Idealize.ShloMosaic.TcCoe Idealize.SL.Sem
open Idealize.ShloMosaic.Pointwise

variable (a0 a3 : FVec Ideal S4096x1024 .f32) (a1 a2 : FVec Ideal S4096x256 .f32)

/-- The scores. -/
def S : FVec Ideal S4x4x4096x4096 .f32 := (transpose S4x4x4096x4096 [0, 3, 2, 1] (Host.dotGeneral dot_S4096x4x64_S4096x4x4x64_S4x4096x4096x4_2_3_0_02_1_1 none (shapeCast _ a1 shapeCasts_S4096x256_S4096x4x64) (shapeCast _ a0 shapeCasts_S4096x1024_S4096x4x4x64)) transposes_S4x4096x4096x4_S4x4x4096x4096_0_3_2_1)
/-- The rows' largest. -/
def M (S : FVec Ideal S4x4x4096x4096 .f32) : FVec Ideal S4x4x4096 .f32 := (Host.reduce FloatOps.maximumf S (constant S_ .f32 0xFF800000#32) reducesTo_S4x4x4096x4096_S4x4x4096_d3 h_S_)
/-- The larger of a row's largest and −∞. -/
def B (M : FVec Ideal S4x4x4096 .f32) : FVec Ideal S4x4x4096 .f32 := (maximumf (broadcastInDim S4x4x4096 ![] bcast_S_S4x4x4096 (constant S_ .f32 0xFF800000#32)) (M))
/-- A number for each row, along the row. -/
def C (M : FVec Ideal S4x4x4096 .f32) : FVec Ideal S4x4x4096x4096 .f32 := (broadcastInDim S4x4x4096x4096 ![0, 1, 2, 3] bcast_S4x4x4096x1_S4x4x4096x4096_0_1_2_3 (broadcastInDim S4x4x4096x1 ![0, 1, 2] bcast_S4x4x4096_S4x4x4096x1_0_1_2 M))
/-- Their exponentials. -/
def E (S : FVec Ideal S4x4x4096x4096 .f32) : FVec Ideal S4x4x4096x4096 .f32 := (Host.exp (subf S (C (B (M S)))))
/-- The rows' sums. -/
def L (E : FVec Ideal S4x4x4096x4096 .f32) : FVec Ideal S4x4x4096x1 .f32 := (broadcastInDim S4x4x4096x1 ![0, 1, 2] bcast_S4x4x4096_S4x4x4096x1_0_1_2 (Host.reduceAdd E (constant S_ .f32 0x00000000#32) reducesTo_S4x4x4096x4096_S4x4x4096_d3 h_S_))
/-- The gradient of the softmax. -/
def D : FVec Ideal S4x4x4096x4096 .f32 := (Host.dotGeneral dot_S4x64x4x4096_S4096x4x64_S4x4x4096x4096_1_2_23_0_0_1 none (transpose S4x64x4x4096 [1, 3, 2, 0] (shapeCast _ a3 shapeCasts_S4096x1024_S4096x4x4x64) transposes_S4096x4x4x64_S4x64x4x4096_1_3_2_0) (shapeCast _ a2 shapeCasts_S4096x256_S4096x4x64))
/-- The gradient of the scores. -/
def G (D E : FVec Ideal S4x4x4096x4096 .f32) (L : FVec Ideal S4x4x4096x1 .f32) : FVec Ideal S4x4x4096x4096 .f32 := (mulf (addf (Host.divf D (broadcastInDim S4x4x4096x4096 ![0, 1, 2, 3] bcast_S4x4x4096x1_S4x4x4096x4096_0_1_2_3 L)) (broadcastInDim S4x4x4096x4096 ![0, 1, 2] bcast_S4x4x4096_S4x4x4096x4096_0_1_2 (Host.reduceAdd (Host.negf (shapeCast _ (Host.reduceAdd (mulf (mulf D (broadcastInDim S4x4x4096x4096 ![0, 1, 2, 3] bcast_S4x4x4096x1_S4x4x4096x4096_0_1_2_3 (Host.divf (broadcastInDim S4x4x4096x1 ![] bcast_S_S4x4x4096x1 (constant S_ .f32 0x3F800000#32)) (mulf L L)))) E) (constant S_ .f32 0x00000000#32) reducesTo_S4x4x4096x4096_S4x4x4096_d3 h_S_) shapeCasts_S4x4x4096_S4x4x4096x1)) (constant S_ .f32 0x00000000#32) reducesTo_S4x4x4096x1_S4x4x4096_d3 h_S_))) E)
/-- The queries' gradient. -/
def dq (G : FVec Ideal S4x4x4096x4096 .f32) : FVec Ideal S4096x1024 .f32 := shapeCast _ (transpose S4096x4x4x64 [1, 0, 2, 3] (Host.dotGeneral dot_S4x4096x4096x4_S4096x4x64_S4x4096x4x64_1_0_23_2_0_1 none (transpose S4x4096x4096x4 [0, 3, 2, 1] G transposes_S4x4x4096x4096_S4x4096x4096x4_0_3_2_1) (shapeCast _ a1 shapeCasts_S4096x256_S4096x4x64)) transposes_S4x4096x4x64_S4096x4x4x64_1_0_2_3) shapeCasts_S4096x4x4x64_S4096x1024
/-- The keys' gradient. -/
def dk (G : FVec Ideal S4x4x4096x4096 .f32) : FVec Ideal S4096x256 .f32 := shapeCast _ (transpose S4096x4x64 [1, 0, 2] (Host.dotGeneral dot_S4x4096x4096x4_S4096x4x4x64_S4x4096x64_23_02_1_3_0_1 none (transpose S4x4096x4096x4 [0, 3, 2, 1] G transposes_S4x4x4096x4096_S4x4096x4096x4_0_3_2_1) (shapeCast _ a0 shapeCasts_S4096x1024_S4096x4x4x64)) transposes_S4x4096x64_S4096x4x64_1_0_2) shapeCasts_S4096x4x64_S4096x256
/-- The values' gradient. -/
def dv (E : FVec Ideal S4x4x4096x4096 .f32) (L : FVec Ideal S4x4x4096x1 .f32) : FVec Ideal S4096x256 .f32 := shapeCast _ (transpose S4096x4x64 [2, 0, 1] (Host.dotGeneral dot_S4x64x4x4096_S4x4x4096x4096_S4x64x4096_23_12_1_3_0_0 none (transpose S4x64x4x4096 [1, 3, 2, 0] (shapeCast _ a3 shapeCasts_S4096x1024_S4096x4x4x64) transposes_S4096x4x4x64_S4x64x4x4096_1_3_2_0) (Host.divf E (broadcastInDim S4x4x4096x4096 ![0, 1, 2, 3] bcast_S4x4x4096x1_S4x4x4096x4096_0_1_2_3 L))) transposes_S4x64x4096_S4096x4x64_2_0_1) shapeCasts_S4096x4x64_S4096x256

theorem res60 (m : (ℓ : Loc nD τ sig) → Buf (Elt Ideal) ℓ) (c : Dev nD) : res_main_v60 m c = dq (m ((c.tc : Thread nD τ).loc main_arg1)) (G (D (m ((c.tc : Thread nD τ).loc main_arg3)) (m ((c.tc : Thread nD τ).loc main_arg2))) (E (S (m ((c.tc : Thread nD τ).loc main_arg0)) (m ((c.tc : Thread nD τ).loc main_arg1)))) (L (E (S (m ((c.tc : Thread nD τ).loc main_arg0)) (m ((c.tc : Thread nD τ).loc main_arg1)))))) := by
  unfold res_main_v60 dq G L E C B M S D; rfl

theorem res59 (m : (ℓ : Loc nD τ sig) → Buf (Elt Ideal) ℓ) (c : Dev nD) : res_main_v59 m c = dk (m ((c.tc : Thread nD τ).loc main_arg0)) (G (D (m ((c.tc : Thread nD τ).loc main_arg3)) (m ((c.tc : Thread nD τ).loc main_arg2))) (E (S (m ((c.tc : Thread nD τ).loc main_arg0)) (m ((c.tc : Thread nD τ).loc main_arg1)))) (L (E (S (m ((c.tc : Thread nD τ).loc main_arg0)) (m ((c.tc : Thread nD τ).loc main_arg1)))))) := by
  unfold res_main_v59 dk G L E C B M S D; rfl

/-- A query head's column. -/
def qc (k g : Fin 4) (e : Fin 64) : Fin 1024 := ⟨k.val * 256 + g.val * 64 + e.val, by omega⟩
/-- A key head's column. -/
def kc (k : Fin 4) (e : Fin 64) : Fin 256 := ⟨k.val * 64 + e.val, by omega⟩
/-- The products of a row of one matrix with the rows of another, in one head. -/
def score (x : FVec Ideal S4096x1024 .f32) (y : FVec Ideal S4096x256 .f32) (k g : Fin 4) (s j : Fin 4096) : EReal :=
  ∑ e : Fin 64, y (ix2 j (kc k e)) * x (ix2 s (qc k g e))

theorem S_apply (k g : Fin 4) (s j : Fin 4096) : S a0 a1 (ix4 k g s j) = score a0 a1 k g s j := by
  unfold score qc kc
  pointwise [S]

theorem D_apply (k g : Fin 4) (s j : Fin 4096) : D a3 a2 (ix4 k g s j) = score a3 a2 k g s j := by
  unfold score qc kc
  pointwise [D]
  exact Finset.sum_congr rfl fun d _ => mul_comm _ _

theorem M_apply (S : FVec Ideal S4x4x4096x4096 .f32) (k g : Fin 4) (s : Fin 4096) : M S (ix3 k g s) = Row.top (fun j => S (ix4 k g s j)) := by
  unfold Row.top
  pointwise [M]
  rw [show Ideal.ofBits FTy.f32 4286578688#32 = ⊥ from by simp [Ideal.ofBits, Ideal.ieee]]

theorem B_apply (M : FVec Ideal S4x4x4096 .f32) (k g : Fin 4) (s : Fin 4096) : B M (ix3 k g s) = M (ix3 k g s) := by
  pointwise [B]
  rw [show Ideal.ofBits FTy.f32 4286578688#32 = ⊥ from by simp [Ideal.ofBits, Ideal.ieee], max_eq_right bot_le]

theorem C_apply (M : FVec Ideal S4x4x4096 .f32) (k g : Fin 4) (s j : Fin 4096) : C M (ix4 k g s j) = M (ix3 k g s) := by
  pointwise [C]

theorem E_apply (S : FVec Ideal S4x4x4096x4096 .f32) (k g : Fin 4) (s j : Fin 4096) : E S (ix4 k g s j) = Row.ex (fun j => S (ix4 k g s j)) j := by
  unfold Row.ex
  rw [← M_apply, ← B_apply (M S), ← C_apply (B (M S)) k g s j]
  rfl

theorem L_apply (E : FVec Ideal S4x4x4096x4096 .f32) (k g : Fin 4) (s : Fin 4096) : L E (ix4 k g s 0) = ∑ j, E (ix4 k g s j) := by
  pointwise [L]

theorem G_apply (D S : FVec Ideal S4x4x4096x4096 .f32) (k g : Fin 4) (s j : Fin 4096) :
    G D (E S) (L (E S)) (ix4 k g s j) = Row.ds' (fun j => S (ix4 k g s j)) (fun j => D (ix4 k g s j)) j := by
  unfold Row.ds' Row.den
  pointwise [G, L_apply, E_apply]

theorem dq_apply (G : FVec Ideal S4x4x4096x4096 .f32) (s : Fin 4096) (q : Fin 1024) : dq a1 G (ix2 s q)
    = ∑ j : Fin 4096, G (ix4 ⟨q.val / 256, by omega⟩ ⟨q.val / 64 % 4, by omega⟩ s j) * a1 (ix2 j ⟨q.val / 256 * 64 + q.val % 64, by omega⟩) := by
  pointwise [dq]

theorem dk_apply (G : FVec Ideal S4x4x4096x4096 .f32) (j : Fin 4096) (q : Fin 256) : dk a0 G (ix2 j q)
    = ∑ g : Fin 4, ∑ s : Fin 4096, G (ix4 ⟨q.val / 64, by omega⟩ g s j) * a0 (ix2 s (qc ⟨q.val / 64, by omega⟩ g ⟨q.val % 64, by omega⟩)) := by
  unfold qc
  pointwise [dk]
  exact Finset.sum_comm

theorem dv_apply (E : FVec Ideal S4x4x4096x4096 .f32) (L : FVec Ideal S4x4x4096x1 .f32) (j : Fin 4096) (q : Fin 256) : dv a3 E L (ix2 j q)
    = ∑ g : Fin 4, ∑ s : Fin 4096, a3 (ix2 s (qc ⟨q.val / 64, by omega⟩ g ⟨q.val % 64, by omega⟩))
        * Ideal.div (E (ix4 ⟨q.val / 64, by omega⟩ g s j)) (L (ix4 ⟨q.val / 64, by omega⟩ g s 0)) := by
  unfold qc
  pointwise [dv]

end Cert.ReferenceFIdeal.Arrays
end
-- ==== Proof.F.Host.lean ====
module
public import proofs.«01_k».proof.Proof.F.Final
public import proofs.«01_k».proof.Proof.F.Ref
@[expose] public section
set_option maxRecDepth 16384
noncomputable section
/-! What the kernel of the attention's gradient receives: the forward result and the rows' normalisers. -/
namespace Cert.KernelFIdeal.HostValue
open Cert.KernelFIdeal Cert.KernelFIdeal.Gen Idealize.ShloMosaic Idealize.ShloMosaic.TcCoe Idealize.SL.Sem
open Idealize.ShloMosaic.Pointwise
open Cert.ReferenceFIdeal.Arrays (qc kc score)

variable (a0 : FVec Ideal S4096x1024 .f32) (a1 a2 : FVec Ideal S4096x256 .f32)

/-- The scores. -/
def S : FVec Ideal S4x4x4096x4096 .f32 := (transpose S4x4x4096x4096 [0, 3, 2, 1] (Host.dotGeneral dot_S4096x4x64_S4096x4x4x64_S4x4096x4096x4_2_3_0_02_1_1 none (shapeCast _ a1 shapeCasts_S4096x256_S4096x4x64) (shapeCast _ a0 shapeCasts_S4096x1024_S4096x4x4x64)) transposes_S4x4096x4096x4_S4x4x4096x4096_0_3_2_1)
/-- The rows' largest. -/
def M (S : FVec Ideal S4x4x4096x4096 .f32) : FVec Ideal S4x4x4096 .f32 := (Host.reduce FloatOps.maximumf S (constant S_ .f32 0xFF800000#32) reducesTo_S4x4x4096x4096_S4x4x4096_d3 h_S_)
/-- A number for each row, along the row. -/
def C (M : FVec Ideal S4x4x4096 .f32) : FVec Ideal S4x4x4096x4096 .f32 := (broadcastInDim S4x4x4096x4096 ![0, 1, 2, 3] bcast_S4x4x4096x1_S4x4x4096x4096_0_1_2_3 (broadcastInDim S4x4x4096x1 ![0, 1, 2] bcast_S4x4x4096_S4x4x4096x1_0_1_2 M))
/-- Their exponentials. -/
def E (S : FVec Ideal S4x4x4096x4096 .f32) : FVec Ideal S4x4x4096x4096 .f32 := (Host.exp (subf S (C (M S))))
/-- The rows' sums. -/
def L (E : FVec Ideal S4x4x4096x4096 .f32) : FVec Ideal S4x4x4096x1 .f32 := (broadcastInDim S4x4x4096x1 ![0, 1, 2] bcast_S4x4x4096_S4x4x4096x1_0_1_2 (Host.reduceAdd E (constant S_ .f32 0x00000000#32) reducesTo_S4x4x4096x4096_S4x4x4096_d3 h_S_))
/-- The rows' normalisers, where the kernel reads them. -/
def N (M : FVec Ideal S4x4x4096 .f32) (L : FVec Ideal S4x4x4096x1 .f32) : FVec Ideal S256x2048 .f32 :=
  shapeCast _ (broadcastInDim S32x8x2048 ![0, 1, 2] bcast_S32x1x2048_S32x8x2048_0_1_2 (shapeCast _ (transpose S4x8x4x512 [0, 2, 1, 3] (shapeCast _ (Host.divf (addf
    (broadcastInDim S4x4x4096x1 ![0, 1, 2] bcast_S4x4x4096_S4x4x4096x1_0_1_2 M) (Host.log L)) (broadcastInDim S4x4x4096x1 ![] bcast_S_S4x4x4096x1 (Host.log (constant S_ .f32 0x40000000#32))))
    shapeCasts_S4x4x4096x1_S4x4x8x512) transposes_S4x4x8x512_S4x8x4x512_0_2_1_3) shapeCasts_S4x8x4x512_S32x1x2048)) shapeCasts_S32x8x2048_S256x2048
/-- The forward result. -/
def O (E : FVec Ideal S4x4x4096x4096 .f32) (L : FVec Ideal S4x4x4096x1 .f32) : FVec Ideal S4096x1024 .bf16 :=
  truncf .bf16 (shapeCast _ (transpose S4096x4x4x64 [3, 0, 2, 1] (Host.dotGeneral dot_S4096x4x64_S4x4x4096x4096_S4x64x4x4096_0_3_2_12_1_0 none (shapeCast _ a2 shapeCasts_S4096x256_S4096x4x64)
    (Host.divf E (broadcastInDim S4x4x4096x4096 ![0, 1, 2, 3] bcast_S4x4x4096x1_S4x4x4096x4096_0_1_2_3 L))) transposes_S4x64x4x4096_S4096x4x4x64_3_0_2_1) shapeCasts_S4096x4x4x64_S4096x1024) bitsLt_bf16_f32

theorem S_apply (k g : Fin 4) (s j : Fin 4096) : S a0 a1 (ix4 k g s j) = score a0 a1 k g s j := by
  unfold score qc kc
  pointwise [S]

theorem M_apply (S : FVec Ideal S4x4x4096x4096 .f32) (k g : Fin 4) (s : Fin 4096) : M S (ix3 k g s) = Row.top (fun j => S (ix4 k g s j)) := by
  unfold Row.top
  pointwise [M]
  rw [show Ideal.ofBits FTy.f32 4286578688#32 = ⊥ from by simp [Ideal.ofBits, Ideal.ieee]]

theorem C_apply (M : FVec Ideal S4x4x4096 .f32) (k g : Fin 4) (s j : Fin 4096) : C M (ix4 k g s j) = M (ix3 k g s) := by
  pointwise [C]

theorem E_apply (S : FVec Ideal S4x4x4096x4096 .f32) (k g : Fin 4) (s j : Fin 4096) : E S (ix4 k g s j) = Row.ex (fun j => S (ix4 k g s j)) j := by
  unfold Row.ex
  rw [← M_apply, ← C_apply (M S) k g s j]
  rfl

theorem L_apply (E : FVec Ideal S4x4x4096x4096 .f32) (k g : Fin 4) (s : Fin 4096) : L E (ix4 k g s 0) = ∑ j, E (ix4 k g s j) := by
  pointwise [L]

theorem N_apply (M : FVec Ideal S4x4x4096 .f32) (L : FVec Ideal S4x4x4096x1 .f32) (r : Fin 256) (d : Fin 2048) : N M L (ix2 r d)
    = Ideal.div (M (ix3 ⟨r.val / 8 / 8, by omega⟩ ⟨d.val / 512, by omega⟩ ⟨r.val / 8 % 8 * 512 + d.val % 512, by omega⟩)
        + Ideal.log (L (ix4 ⟨r.val / 8 / 8, by omega⟩ ⟨d.val / 512, by omega⟩ ⟨r.val / 8 % 8 * 512 + d.val % 512, by omega⟩ 0))) (Ideal.log (Ideal.ofBits .f32 0x40000000#32)) := by
  pointwise [N]

theorem O_apply (E : FVec Ideal S4x4x4096x4096 .f32) (L : FVec Ideal S4x4x4096x1 .f32) (s : Fin 4096) (q : Fin 1024) : O a2 E L (ix2 s q)
    = ∑ j : Fin 4096, a2 (ix2 j ⟨q.val / 256 * 64 + q.val % 64, by omega⟩)
        * Ideal.div (E (ix4 ⟨q.val / 256, by omega⟩ ⟨q.val / 64 % 4, by omega⟩ s j)) (L (ix4 ⟨q.val / 256, by omega⟩ ⟨q.val / 64 % 4, by omega⟩ s 0)) := by
  pointwise [O]

variable (m : (ℓ : Loc nD τ sig) → Buf (Elt Ideal) ℓ) (c : Dev nD)

/-- The queries. -/
abbrev x0 : FVec Ideal S4096x1024 .f32 := m ((c : Thread nD τ).loc main_arg0)
/-- The keys. -/
abbrev x1 : FVec Ideal S4096x256 .f32 := m ((c : Thread nD τ).loc main_arg1)
/-- The values. -/
abbrev x2 : FVec Ideal S4096x256 .f32 := m ((c : Thread nD τ).loc main_arg2)
/-- The gradient of the result. -/
abbrev x3 : FVec Ideal S4096x1024 .f32 := m ((c : Thread nD τ).loc main_arg3)

theorem Q_at (s : Fin 4096) (q : Fin 1024) : Arrays.Q m c (ix2 s q) = Ideal.div (x0 m c (ix2 s q)) (Ideal.log (Ideal.ofBits .f32 0x40000000#32)) := by
  show V m c main_v30 (ix2 s q) = _
  entry_read
  pointwise
theorem K_at (s : Fin 4096) (q : Fin 256) : Arrays.K m c (ix2 s q) = x1 m c (ix2 s q) := by
  show V m c main_v27 (ix2 s q) = _
  entry_read
  pointwise
theorem KT_at (s : Fin 4096) (q : Fin 256) : Arrays.KT m c (ix2 q s) = x1 m c (ix2 s q) := by
  show V m c main_v31 (ix2 q s) = _
  entry_read
  pointwise
theorem V_at (s : Fin 4096) (q : Fin 256) : Arrays.Vv m c (ix2 s q) = x2 m c (ix2 s q) := by
  show V m c main_v32 (ix2 s q) = _
  entry_read
  pointwise
theorem DO_at (s : Fin 4096) (q : Fin 1024) : Arrays.DO m c (ix2 s q) = x3 m c (ix2 s q) := by
  show V m c main_v33 (ix2 s q) = _
  entry_read
  pointwise
theorem L_at (r : Fin 256) (d : Fin 2048) : Arrays.L m c (ix2 r d) = N (M (S (x0 m c) (x1 m c))) (L (E (S (x0 m c) (x1 m c)))) (ix2 r d) := by
  show V m c main_v26 (ix2 r d) = _
  entry_read
  rfl
theorem O_at (s : Fin 4096) (q : Fin 1024) : Arrays.O m c (ix2 s q) = O (x2 m c) (E (S (x0 m c) (x1 m c))) (L (E (S (x0 m c) (x1 m c)))) (ix2 s q) := by
  show V m c main_v34 (ix2 s q) = _
  entry_read
  rfl

end Cert.KernelFIdeal.HostValue
end
-- ==== Proof.F.Norm.lean ====
module
public import proofs.«01_k».proof.Proof.X.Quotient
public import proofs.«01_k».proof.Proof.X.Finite
@[expose] public section
noncomputable section
/-! A row's softmax out of its normaliser in powers of two, over real rows. -/
namespace Cert.Row
open Idealize.ShloMosaic
open Cert.Real (Is)

variable {n d : Nat}

/-- The logarithm that scales the scores. -/
abbrev lg2 : EReal := Ideal.log (Ideal.ofBits .f32 0x40000000#32)

theorem lg2_eq : lg2 = ((Real.log 2 : ℝ) : EReal) := by
  have h : Ideal.ofBits .f32 0x40000000#32 = ((2 : ℝ) : EReal) := by
    simp [Ideal.ofBits, Ideal.ieee]
    norm_cast
    norm_num
  unfold lg2
  rw [h, Ideal.log_coe, if_neg (by norm_num)]

theorem lg2_pos : 0 < Real.log 2 := Real.log_pos (by norm_num)

theorem div_lg2 (x : ℝ) : Ideal.div (x : EReal) lg2 = ((x * (1 / Real.log 2) : ℝ) : EReal) := by
  rw [lg2_eq, Ideal.div_coe lg2_pos.ne', ← EReal.coe_mul]

/-- A key's weight out of the scaled scores is its softmax. -/
theorem weight (hn : 0 < n) (s : Fin n → EReal) (hs : ∀ m, Is (s m)) (j : Fin n) (k q : Fin d → EReal) (hk : ∀ e, Is (k e)) (hq : ∀ e, Is (q e))
    (h : ∑ e, k e * q e = s j) :
    Ideal.exp2 (∑ e, k e * Ideal.div (q e) lg2 - Ideal.div (top s + Ideal.log (den s)) lg2) = pr s j := by
  choose x hx using hs
  choose k' hk' using hk
  choose q' hq' using hq
  obtain rfl : s = fun m => (x m : EReal) := funext hx
  obtain rfl : k = fun m => (k' m : EReal) := funext hk'
  obtain rfl : q = fun m => (q' m : EReal) := funext hq'
  obtain ⟨t, ht⟩ := top_real hn x
  have hex (m : Fin n) : ex (fun m => (x m : EReal)) m = ((Real.exp (x m - t) : ℝ) : EReal) := by
    unfold ex
    rw [ht, ← EReal.coe_sub]
    exact Ideal.exp_coe _
  have hl : 0 < ∑ m, Real.exp (x m - t) := Finset.sum_pos (fun m _ => Real.exp_pos _) ⟨⟨0, hn⟩, Finset.mem_univ _⟩
  have hden : den (fun m => (x m : EReal)) = ((∑ m, Real.exp (x m - t) : ℝ) : EReal) := by
    unfold den
    rw [← coe_sum]
    exact Finset.sum_congr rfl fun m _ => hex m
  set l : ℝ := ∑ m, Real.exp (x m - t) with hl'
  simp only [← EReal.coe_mul, coe_sum] at h
  have h' : ∑ e, k' e * q' e = x j := EReal.coe_injective h
  unfold pr
  rw [ht, hden, hex, Ideal.div_coe hl.ne', Ideal.log_coe, if_neg (not_le.mpr hl), ← EReal.coe_add, div_lg2]
  simp only [div_lg2, ← EReal.coe_mul, coe_sum]
  rw [← EReal.coe_sub, Ideal.exp2_coe]
  refine congrArg _ ?_
  have e1 : ∑ e, k' e * (q' e * (1 / Real.log 2)) = x j * (1 / Real.log 2) := by
    rw [← h', Finset.sum_mul]
    exact Finset.sum_congr rfl fun e _ => by ring
  show (2 : ℝ) ^ (_ : ℝ) = _
  rw [e1, Real.rpow_def_of_pos (by norm_num), show Real.log 2 * (x j * (1 / Real.log 2) - (t + Real.log l) * (1 / Real.log 2)) = (x j - t) - Real.log l from by
    have := lg2_pos.ne'
    field_simp
    ring, Real.exp_sub, Real.exp_log hl, div_eq_mul_one_div]

theorem pr_is (hn : 0 < n) (s : Fin n → EReal) (hs : ∀ m, Is (s m)) (m : Fin n) : Is (pr s m) := by
  obtain ⟨e, he, hex⟩ := ex_real hn s hs
  have hl : 0 < ∑ m, e m := Finset.sum_pos (fun m _ => he m) ⟨⟨0, hn⟩, Finset.mem_univ _⟩
  refine ⟨e m * (1 / ∑ m, e m), ?_⟩
  unfold pr den
  rw [Finset.sum_congr rfl fun m _ => hex m, coe_sum, hex, Ideal.div_coe hl.ne', EReal.coe_mul]

theorem ds_is (hn : 0 < n) (s g : Fin n → EReal) (hs : ∀ m, Is (s m)) (hg : ∀ m, Is (g m)) (m : Fin n) : Is (ds s g m) := by
  refine (pr_is hn s hs m).mul ?_
  obtain ⟨a, ha⟩ := hg m
  obtain ⟨b, hb⟩ := Is.sum Finset.univ fun k => (pr_is hn s hs k).mul (hg k)
  exact ⟨a - b, by rw [ha, hb, EReal.coe_sub]⟩

/-- The product of the result with its gradient is the weights' product with theirs. -/
theorem swap (a : Fin d → EReal) (b : Fin n → Fin d → EReal) (p : Fin n → EReal) (ha : ∀ e, Is (a e)) (hb : ∀ j e, Is (b j e)) (hp : ∀ j, Is (p j)) :
    ∑ e, a e * ∑ j, b j e * p j = ∑ j, p j * ∑ e, b j e * a e := by
  choose a' ha' using ha
  choose b' hb' using hb
  choose p' hp' using hp
  simp only [ha', hb', hp', ← EReal.coe_mul, coe_sum]
  refine congrArg _ ?_
  simp only [Finset.mul_sum]
  rw [Finset.sum_comm]
  exact Finset.sum_congr rfl fun j _ => Finset.sum_congr rfl fun e _ => by ring

/-- The scale leaves a sum of products. -/
theorem unscale {ι : Type} (t : Finset ι) (f q : ι → EReal) (hf : ∀ y, Is (f y)) (hq : ∀ y, Is (q y)) :
    (∑ y ∈ t, f y * Ideal.div (q y) lg2) * ((Real.log 2 : ℝ) : EReal) = ∑ y ∈ t, f y * q y := by
  choose f' hf' using hf
  choose q' hq' using hq
  simp only [hf', hq', div_lg2, ← EReal.coe_mul, coe_sum]
  refine congrArg _ ?_
  rw [Finset.sum_mul]
  have := lg2_pos.ne'
  exact Finset.sum_congr rfl fun y _ => by field_simp

end Cert.Row
end
-- ==== Proof.F.Equation.lean ====
module
public import proofs.«01_k».proof.Defs
public import proofs.«01_k».proof.Proof.F.Host
public import proofs.«01_k».proof.Proof.F.Norm
@[expose] public section
set_option maxRecDepth 16384
noncomputable section
/-! The kernel of the attention's gradient and its reference compute the same arrays. -/
namespace Cert.EquationF
open Idealize.ShloMosaic Idealize.ShloMosaic.TcCoe Idealize.ShloMosaic.Pointwise Idealize.SL.Sem
open Cert.KernelFIdeal (nD τ sig)
open Cert.KernelFIdeal.Arrays (colq colk hd qr lrw Sc Pt Gt Et Ds gkt gvt gq gk gv)
open Cert.KernelFIdeal.HostValue (x0 x1 x2 x3)
open Cert.ReferenceFIdeal.Arrays (qc kc score)

variable (m : (ℓ : Loc nD τ sig) → Buf (Elt Ideal) ℓ) (c : Dev nD)

/-- The query head of a key head's group. -/
def hh (k g : Fin 4) : Fin 16 := ⟨4 * k.val + g.val, by omega⟩

theorem colq_hh (k g : Fin 4) (e : Fin 64) : colq (hh k g) e = qc k g e := Fin.ext (by simp only [colq, hh, qc]; omega)
theorem colk_hh (k g : Fin 4) (e : Fin 64) : colk (hh k g) e = kc k e := Fin.ext (by simp only [colk, hh, kc]; omega)

/-- A group's blocks of rows are its heads' queries. -/
theorem regroup (k : Fin 4) (F : Fin 16 → Fin 4096 → EReal) :
    ∑ r : Fin 8, ∑ y : Fin 2048, F (hd k y) (qr r y) = ∑ g : Fin 4, ∑ s : Fin 4096, F (hh k g) s := by
  have h1 (r : Fin 8) : ∑ y : Fin 2048, F (hd k y) (qr r y) = ∑ g : Fin 4, ∑ u : Fin 512, F (hh k g) ⟨r.val * 512 + u.val, by omega⟩ := by
    rw [← Fin.sum_mul_add_fin 4 512 (fun y : Fin 2048 => F (hd k y) (qr r y))]
    refine Finset.sum_congr rfl fun g _ => Finset.sum_congr rfl fun u _ => congrArg₂ F (Fin.ext ?_) (Fin.ext ?_)
    · simp only [hd, hh]; omega
    · simp only [qr]; omega
  have h2 (g : Fin 4) : ∑ s : Fin 4096, F (hh k g) s = ∑ r : Fin 8, ∑ u : Fin 512, F (hh k g) ⟨r.val * 512 + u.val, by omega⟩ :=
    (Fin.sum_mul_add_fin 8 512 (fun s : Fin 4096 => F (hh k g) s)).symm
  rw [Finset.sum_congr rfl fun r _ => h1 r, Finset.sum_congr rfl fun g _ => h2 g]
  exact Finset.sum_comm

/-- The precondition makes the arguments real. -/
theorem real_args [Pre_finite_f.Facts] (h : Pre_KernelFIdeal_finite_f m) :
    (∀ j, Real.Is (x0 m c j)) ∧ (∀ j, Real.Is (x1 m c j)) ∧ (∀ j, Real.Is (x2 m c j)) ∧ ∀ j, Real.Is (x3 m c j) :=
  ⟨fun j => Real.of_abs_lt (congrFun (h c).1 j), fun j => Real.of_abs_lt (congrFun (h c).2.1 j),
    fun j => Real.of_abs_lt (congrFun (h c).2.2.1 j), fun j => Real.of_abs_lt (congrFun (h c).2.2.2 j)⟩

theorem score_real [Pre_finite_f.Facts] (h : Pre_KernelFIdeal_finite_f m) (k g : Fin 4) (s j : Fin 4096) : Real.Is (score (x0 m c) (x1 m c) k g s j) :=
  Real.Is.sum _ fun _ => ((real_args m c h).2.1 _).mul ((real_args m c h).1 _)
theorem grad_real [Pre_finite_f.Facts] (h : Pre_KernelFIdeal_finite_f m) (k g : Fin 4) (s j : Fin 4096) : Real.Is (score (x3 m c) (x2 m c) k g s j) :=
  Real.Is.sum _ fun _ => ((real_args m c h).2.2.1 _).mul ((real_args m c h).2.2.2 _)

open KernelFIdeal.HostValue in
theorem S_row (k g : Fin 4) (s : Fin 4096) : (fun j => S (x0 m c) (x1 m c) (ix4 k g s j)) = score (x0 m c) (x1 m c) k g s :=
  funext fun j => S_apply _ _ k g s j

open KernelFIdeal.HostValue in
theorem N_at (M : FVec Ideal KernelFIdeal.S4x4x4096 .f32) (L : FVec Ideal KernelFIdeal.S4x4x4096x1 .f32) (k g : Fin 4) (s : Fin 4096) :
    N M L (lrw (hh k g) s) = Ideal.div (M (ix3 k g s) + Ideal.log (L (ix4 k g s 0))) Row.lg2 := by
  have h (r : Fin 256) (d : Fin 2048) (h1 : r.val / 8 / 8 = k.val) (h2 : d.val / 512 = g.val) (h3 : r.val / 8 % 8 * 512 + d.val % 512 = s.val) :
      N M L (ix2 r d) = Ideal.div (M (ix3 k g s) + Ideal.log (L (ix4 k g s 0))) Row.lg2 := by
    have e1 : (⟨r.val / 8 / 8, by clear * -; omega⟩ : Fin 4) = k := Fin.ext h1
    have e2 : (⟨d.val / 512, by clear * -; omega⟩ : Fin 4) = g := Fin.ext h2
    have e3 : (⟨r.val / 8 % 8 * 512 + d.val % 512, by clear * -; omega⟩ : Fin 4096) = s := Fin.ext h3
    rw [N_apply, e1, e2, e3]
  refine h _ _ ?_ ?_ ?_ <;> simp only [hh] <;> omega

open KernelFIdeal.HostValue in
theorem L_row (k g : Fin 4) (s : Fin 4096) : L (E (S (x0 m c) (x1 m c))) (ix4 k g s 0) = Row.den (score (x0 m c) (x1 m c) k g s) := by
  rw [L_apply, Row.den]
  simp only [E_apply, S_row]

open KernelFIdeal.HostValue in
theorem Pt_eq [Pre_finite_f.Facts] (h : Pre_KernelFIdeal_finite_f m) (k g : Fin 4) (s j : Fin 4096) :
    Pt m c (hh k g) s j = Row.pr (score (x0 m c) (x1 m c) k g s) j := by
  refine Eq.trans ?_ (Row.weight (by decide) (score (x0 m c) (x1 m c) k g s) (score_real m c h k g s) j
    (fun e => x1 m c (ix2 j (kc k e))) (fun e => x0 m c (ix2 s (qc k g e))) (fun _ => (real_args m c h).2.1 _) (fun _ => (real_args m c h).1 _) rfl)
  refine congrArg Ideal.exp2 (congrArg₂ (· - ·) (Finset.sum_congr rfl fun e _ => ?_) ?_)
  · rw [colk_hh, colq_hh, K_at, Q_at]
  · refine (L_at m c _ _).trans ((N_at _ _ k g s).trans ?_)
    rw [L_row, M_apply, S_row]

open KernelFIdeal.HostValue in
theorem Gt_eq (k g : Fin 4) (s j : Fin 4096) : Gt m c (hh k g) s j = score (x3 m c) (x2 m c) k g s j := by
  refine Finset.sum_congr rfl fun e _ => ?_
  rw [colk_hh, colq_hh, V_at, DO_at]

open KernelFIdeal.HostValue in
theorem O_row (k g : Fin 4) (s : Fin 4096) (e : Fin 64) : KernelFIdeal.Arrays.O m c (ix2 s (qc k g e))
    = ∑ j : Fin 4096, x2 m c (ix2 j (kc k e)) * Row.pr (score (x0 m c) (x1 m c) k g s) j := by
  have h1 : (⟨(qc k g e).val / 256 * 64 + (qc k g e).val % 64, by omega⟩ : Fin 256) = kc k e := Fin.ext (by simp only [qc, kc]; omega)
  have h2 : (⟨(qc k g e).val / 256, by omega⟩ : Fin 4) = k := Fin.ext (by simp only [qc]; omega)
  have h3 : (⟨(qc k g e).val / 64 % 4, by omega⟩ : Fin 4) = g := Fin.ext (by simp only [qc]; omega)
  rw [O_at, O_apply, h1, h2, h3]
  refine Finset.sum_congr rfl fun j _ => ?_
  rw [L_row, E_apply, S_row]
  rfl

open KernelFIdeal.HostValue in
theorem Et_eq [Pre_finite_f.Facts] (h : Pre_KernelFIdeal_finite_f m) (k g : Fin 4) (s : Fin 4096) :
    Et m c (hh k g) s = ∑ j, Row.pr (score (x0 m c) (x1 m c) k g s) j * score (x3 m c) (x2 m c) k g s j := by
  refine Eq.trans (Finset.sum_congr rfl fun e _ => ?_) (Row.swap (fun e => x3 m c (ix2 s (qc k g e))) (fun j e => x2 m c (ix2 j (kc k e)))
    (Row.pr (score (x0 m c) (x1 m c) k g s)) (fun _ => (real_args m c h).2.2.2 _) (fun _ _ => (real_args m c h).2.2.1 _)
    (Row.pr_is (by decide) _ (score_real m c h k g s)))
  rw [colq_hh, DO_at, O_row]

theorem Ds_eq [Pre_finite_f.Facts] (h : Pre_KernelFIdeal_finite_f m) (k g : Fin 4) (s j : Fin 4096) :
    Ds m c (hh k g) s j = Row.ds (score (x0 m c) (x1 m c) k g s) (score (x3 m c) (x2 m c) k g s) j := by
  unfold Ds Row.ds
  rw [Pt_eq m c h, Gt_eq, Et_eq m c h]

theorem ds_real [Pre_finite_f.Facts] (h : Pre_KernelFIdeal_finite_f m) (a : Fin 16) (s j : Fin 4096) : Real.Is (Ds m c a s j) := by
  have e : a = hh ⟨a.val / 4, by omega⟩ ⟨a.val % 4, by omega⟩ := Fin.ext (by simp only [hh]; omega)
  rw [e, Ds_eq m c h]
  exact Row.ds_is (by decide) _ _ (score_real m c h _ _ s) (grad_real m c h _ _ s) j

open ReferenceFIdeal.Arrays in
/-- The reference's gradient of the scores. -/
abbrev RG : FVec Ideal ReferenceFIdeal.S4x4x4096x4096 .f32 :=
  G (D (x3 m c) (x2 m c)) (E (S (x0 m c) (x1 m c))) (L (E (S (x0 m c) (x1 m c))))

open ReferenceFIdeal.Arrays in
theorem G_row [Pre_finite_f.Facts] (h : Pre_KernelFIdeal_finite_f m) (k g : Fin 4) (s j : Fin 4096) : RG m c (ix4 k g s j) = Ds m c (hh k g) s j := by
  have e1 : (fun j => S (x0 m c) (x1 m c) (ix4 k g s j)) = score (x0 m c) (x1 m c) k g s := funext fun j => S_apply _ _ k g s j
  have e2 : (fun j => D (x3 m c) (x2 m c) (ix4 k g s j)) = score (x3 m c) (x2 m c) k g s := funext fun j => D_apply _ _ k g s j
  rw [Ds_eq m c h, RG, G_apply, e1, e2, Row.ds'_eq (by decide) _ _ (score_real m c h k g s)]

/-- The gradients of the queries are equal. -/
theorem gq_eq [Pre_finite_f.Facts] (h : Pre_KernelFIdeal_finite_f m) : gq m c = ReferenceFIdeal.Arrays.dq (x1 m c) (RG m c) := by
  funext i
  obtain ⟨s, q, rfl⟩ : ∃ (s : Fin 4096) (q : Fin 1024), i = ix2 s q := ⟨i 0, i 1, eq_ix2 i⟩
  rw [ReferenceFIdeal.Arrays.dq_apply, ← KernelFIdeal.Arrays.gq_at m c s q (hh ⟨q.val / 256, by omega⟩ ⟨q.val / 64 % 4, by omega⟩) ⟨q.val % 64, by omega⟩ s
    (by simp only [hh]; omega) rfl rfl]
  refine Finset.sum_congr rfl fun j _ => ?_
  rw [G_row m c h, mul_comm, KernelFIdeal.HostValue.KT_at, colk_hh]
  rfl

/-- The gradients of the keys are equal. -/
theorem gk_eq [Pre_finite_f.Facts] (h : Pre_KernelFIdeal_finite_f m) : gk m c = ReferenceFIdeal.Arrays.dk (x0 m c) (RG m c) := by
  funext i
  obtain ⟨j, q, rfl⟩ : ∃ (j : Fin 4096) (q : Fin 256), i = ix2 j q := ⟨i 0, i 1, eq_ix2 i⟩
  rw [ReferenceFIdeal.Arrays.dk_apply]
  refine Eq.trans (Finset.sum_congr rfl fun r _ => ?_) ((regroup ⟨q.val / 64, by omega⟩ fun a s => Ds m c a s j * x0 m c (ix2 s (colq a ⟨q.val % 64, by omega⟩))).trans
    (Finset.sum_congr rfl fun g _ => Finset.sum_congr rfl fun s _ => ?_))
  · refine Eq.trans (congrArg₂ (· * ·) (Finset.sum_congr rfl fun y _ => congrArg₂ (· * ·) rfl (KernelFIdeal.HostValue.Q_at m c _ _)) rfl) ?_
    exact Row.unscale Finset.univ (fun y => Ds m c _ _ j) (fun y => x0 m c _) (fun _ => ds_real m c h _ _ _) (fun _ => (real_args m c h).1 _)
  · rw [G_row m c h, colq_hh]

open ReferenceFIdeal.Arrays in
/-- The gradients of the values are equal. -/
theorem gv_eq [Pre_finite_f.Facts] (h : Pre_KernelFIdeal_finite_f m) : gv m c
    = dv (x3 m c) (E (S (x0 m c) (x1 m c))) (L (E (S (x0 m c) (x1 m c)))) := by
  funext i
  obtain ⟨j, q, rfl⟩ : ∃ (j : Fin 4096) (q : Fin 256), i = ix2 j q := ⟨i 0, i 1, eq_ix2 i⟩
  rw [dv_apply]
  refine Eq.trans (regroup ⟨q.val / 64, by omega⟩ fun a s => Pt m c a s j * KernelFIdeal.Arrays.DO m c (ix2 s (colq a ⟨q.val % 64, by omega⟩)))
    (Finset.sum_congr rfl fun g _ => Finset.sum_congr rfl fun s _ => ?_)
  have e1 : (fun j => S (x0 m c) (x1 m c) (ix4 ⟨q.val / 64, by omega⟩ g s j)) = score (x0 m c) (x1 m c) ⟨q.val / 64, by omega⟩ g s :=
    funext fun j => S_apply _ _ _ g s j
  rw [Pt_eq m c h, colq_hh, KernelFIdeal.HostValue.DO_at, mul_comm, L_apply]
  simp only [E_apply, e1]
  rfl

end Cert.EquationF
end
-- ==== Proof.F.Claims.lean ====
module
public import proofs.«01_k».proof.Proof.F.Equation
public import proofs.«01_k».proof.Proof.Gen.KernelF.Frame
public import proofs.«01_k».proof.Proof.Gen.KernelFIdeal.Value
public import proofs.«01_k».proof.Proof.Gen.ReferenceFIdeal.Run
public import Idealize.ShloMosaic.Adequacy
public import Idealize.ShloMosaic.Init
@[expose] public section
noncomputable section
/-! The claims about the gradient of the attention. -/
namespace Cert.ClaimsF
open Idealize.ShloMosaic Idealize.SL.Sem

theorem frame : Cert.quiescent_KernelF := fun m ρ _ => Cert.KernelF.Gen.frame m ρ
theorem frame_ideal : Cert.quiescent_KernelFIdeal := fun m ρ _ => Cert.KernelFIdeal.Gen.frame m ρ
theorem frame_ideal_pre [Cert.Pre_finite_f.Facts] : Cert.quiescent_KernelFIdeal_pre_finite_f := fun m ρ _ => Cert.KernelFIdeal.Gen.frame m ρ

theorem frame_ref : Cert.quiescent_ReferenceFIdeal := fun m ρ _ =>
  (θ_run Cert.ReferenceFIdeal.defs _ _).mono (fun r h => ⟨fun c => (h c).2.2.2, Idealize.ShloMosaic.sem_eq_zero_of_no_sems (by decide) r.2⟩)
    (Cert.ReferenceFIdeal.Value.run (F := Ideal) m ρ)
theorem frame_ref_pre [Cert.Pre_finite_f.Facts] : Cert.quiescent_ReferenceFIdeal_pre_finite_f := fun m ρ _ =>
  (θ_run Cert.ReferenceFIdeal.defs _ _).mono (fun r h => ⟨fun c => (h c).2.2.2, Idealize.ShloMosaic.sem_eq_zero_of_no_sems (by decide) r.2⟩)
    (Cert.ReferenceFIdeal.Value.run (F := Ideal) m ρ)

theorem preserves : Cert.preserves_KernelF_KernelFIdeal :=
  IdealRules.named_const.statement Cert.KernelFIdeal.κ "ln2" .f32 0x3F317218#32 ((Real.log 2 : ℝ) : EReal) rfl

theorem algebraic [Cert.Pre_finite_f.Facts] : Cert.algebraic_KernelFIdeal_ReferenceFIdeal_pre_finite_f := by
  intro m ρ m' ρ' hpre hagree
  refine ⟨fun c => KernelFIdeal.Arrays.gq m c, fun c => KernelFIdeal.Arrays.gk m c, fun c => KernelFIdeal.Arrays.gv m c, ?_, ?_⟩
  · exact (θ_run Cert.KernelFIdeal.defs _ _).mono
      (fun _ h c => ⟨(h c).1.trans (KernelFIdeal.Arrays.final7 m c), (h c).2.1.trans (KernelFIdeal.Arrays.final8 m c), (h c).2.2.1.trans (KernelFIdeal.Arrays.final9 m c), (h c).2.2.2⟩)
      (Cert.KernelFIdeal.Value.run_blocks (F := Ideal) m ρ)
  · refine (θ_run Cert.ReferenceFIdeal.defs _ _).mono (fun _ h c => ⟨(h c).1.trans ?_, (h c).2.1.trans ?_, (h c).2.2.1.trans ?_, (h c).2.2.2⟩)
      (Cert.ReferenceFIdeal.Value.run (F := Ideal) m' ρ')
    · show _ = KernelFIdeal.Arrays.gq m c
      rw [EquationF.gq_eq m c hpre, ReferenceFIdeal.Arrays.res60, (hagree c).1, (hagree c).2.1, (hagree c).2.2.1, (hagree c).2.2.2]
    · show _ = KernelFIdeal.Arrays.gk m c
      rw [EquationF.gk_eq m c hpre, ReferenceFIdeal.Arrays.res59, (hagree c).1, (hagree c).2.1, (hagree c).2.2.1, (hagree c).2.2.2]
    · show _ = KernelFIdeal.Arrays.gv m c
      rw [EquationF.gv_eq m c hpre, (hagree c).1, (hagree c).2.1, (hagree c).2.2.2]
      rfl

end Cert.ClaimsF
end
-- ==== Proof.M.DownRows.lean ====
module
public import proofs.«01_k».proof.Proof.Gen.KernelAIdeal.Value
public import Idealize.ShloMosaic.Lib.Pipeline.ValueKit
public import Idealize.ShloMosaic.Lib.Pointwise
@[expose] public section
set_option maxRecDepth 16384
noncomputable section
/-! What the array of the rows' gradient of the down projection holds after the run. -/
namespace Cert.KernelAIdeal.Arrays
open Cert.KernelAIdeal Cert.KernelAIdeal.Gen Idealize.ShloMosaic Idealize.ShloMosaic.TcCoe Idealize.SL.Sem
open Idealize.ShloMosaic.Pointwise
open Idealize.ShloMosaic.Pipeline (Dat)

/-- A block of the product. -/
theorem out_A (c : Dev nD) (i : grid0.Coords) (a1 : Memref sig .tc .vmem S512x1024 .bf16) (h1 : a1.IsWhole) (a2 : Memref sig .tc .vmem S1x1408x1024 .bf16) (h2 : a2.IsWhole)
    (a3 : Memref sig .tc .vmem S512x1408 .bf16) (h3 : a3.IsWhole) (a4 : Memref sig .tc .vmem S8x128 .f32) (h4 : a4.IsWhole)
    (x0 : Vec Ideal S512x1024 .bf16) (x1 : Vec Ideal S1x1408x1024 .bf16) (p : Fin 512) (q : Fin 1408) :
    out0_A_2 c i a1 h1 a2 h2 a3 h3 a4 h4 x0 x1 (ix2 p q) = ∑ k : Fin 1024, x0 (ix2 p k) * x1 (ix3 0 q k) := by
  frame_out
  pointwise [k0_pay1]

variable (m : (ℓ : Loc nD τ sig) → Buf (Elt Ideal) ℓ) (ρ : Dev nD → PrngReg)

theorem idx0 : ∀ t : Fin cfg0.N, win0_0.index t 0 = t.val % 8 ∧ win0_0.index t 1 = 0 ∧ win0_1.index t 0 = 0 ∧ win0_1.index t 1 = t.val / 8 ∧ win0_1.index t 2 = 0
    ∧ win0_2.index t 0 = t.val % 8 ∧ win0_2.index t 1 = t.val / 8 :=
  (by decide +kernel : ∀ t : Fin grid0.N, _)

/-- The gradient of the result. -/
abbrev DY (c : Dev nD) : FVec Ideal S4096x1024 .bf16 := V m c main_v0
/-- The weights. -/
abbrev WD (c : Dev nD) : FVec Ideal S2x2816x1024 .bf16 := V m c main_v1

/-- The gradient of the rows. -/
def ga (c : Dev nD) : Vec Ideal S4096x2816 .bf16 := fun j => ∑ k : Fin 1024, DY m c (ix2 (j 0) k) * WD m c (ix3 0 (j 1) k)

theorem row0 (c : Dev nD) (t : Fin cfg0.N) (p : Fin 512) (k : Fin 1024) : iblk m c 0 t (ix2 p k) = DY m c (ix2 ⟨t.val % 8 * 512 + p.val, by omega⟩ k) := by
  blk_ext [iblk, idx0 t]
theorem row1 (c : Dev nD) (t : Fin cfg0.N) (q : Fin 1408) (k : Fin 1024) : iblk m c 1 t (ix3 0 q k)
    = WD m c (ix3 0 ⟨t.val / 8 * 1408 + q.val, by have := t.isLt; have : cfg0.N = 16 := N_0; omega⟩ k) := by
  blk_ext [iblk, idx0 t]

theorem flushed2_eq (c : Dev nD) (t : Fin cfg0.N) (_hf : (cfg0.win 2).flush t = true) :
    (dats m 0 c).flushed 2 t = ((cfg0.win 2).blk t).view.read (Elt Ideal) (ga m c) := by
  rw [Value.flushed2_A]
  funext j
  obtain ⟨p, q, rfl⟩ : ∃ (p : Fin 512) (q : Fin 1408), j = ix2 p q := ⟨j 0, j 1, eq_ix2 j⟩
  have e : ((cfg0.win 2).blk t).view.read (Elt Ideal) (ga m c) (ix2 p q)
      = ga m c (ix2 ⟨t.val % 8 * 512 + p.val, by omega⟩ ⟨t.val / 8 * 1408 + q.val, by have := t.isLt; have : cfg0.N = 16 := N_0; omega⟩) := by
    blk_ext [idx0 t]
  rw [e]
  refine (out_A c _ _ _ _ _ _ _ _ _ _ _ p q).trans (Finset.sum_congr rfl fun k _ => ?_)
  rw [row0, row1]
  rfl

theorem final2 (c : Dev nD) : (dats m 0 c).arrAt 2 cfg0.N = ga m c :=
  (dats m 0 c).arrAt_eq_of_cover 2 (ga m c) (flushed2_eq m c) fun i =>
    have h0 : (i 0 : Nat) < 4096 := (i 0).isLt
    have h1 : (i 1 : Nat) < 2816 := (i 1).isLt
    have hN : cfg0.N = 16 := N_0
    let t : Fin cfg0.N := ⟨(i 1 : Nat) / 1408 * 8 + (i 0 : Nat) / 512, by omega⟩
    ⟨t, flush0_2 t, by
      show i ∈ ((View.whole main_v2).slice (win0_2.rect t)).set
      rw [View.set_slice_whole, Rect.mem_set_unit]
      have e := idx0 t
      have e' : win0_2.xsize (grid0.coords t) 0 = 512 ∧ win0_2.xsize (grid0.coords t) 1 = 1408 :=
        (by decide +kernel : ∀ t : Fin grid0.N, win0_2.xsize (grid0.coords t) 0 = 512 ∧ win0_2.xsize (grid0.coords t) 1 = 1408) t
      have ht : t.val = (i 1 : Nat) / 1408 * 8 + (i 0 : Nat) / 512 := rfl
      intro a
      match a with
      | ⟨0, _⟩ => show win0_2.index t 0 * 512 ≤ (i 0 : Nat) ∧ (i 0 : Nat) < win0_2.index t 0 * 512 + win0_2.xsize (grid0.coords t) 0
                  rw [e.2.2.2.2.2.1, e'.1]; omega
      | ⟨1, _⟩ => show win0_2.index t 1 * 1408 ≤ (i 1 : Nat) ∧ (i 1 : Nat) < win0_2.index t 1 * 1408 + win0_2.xsize (grid0.coords t) 1
                  rw [e.2.2.2.2.2.2, e'.2]; omega⟩

abbrev a0 (c : Dev nD) : FVec Ideal S4096x1024 .f32 := m ((c : Thread nD τ).loc main_arg0)
abbrev a1 (c : Dev nD) : FVec Ideal S2x2816x1024 .f32 := m ((c : Thread nD τ).loc main_arg1)

/-- The gradient of the rows from the arguments. -/
theorem ga_apply (c : Dev nD) (p : Fin 4096) (q : Fin 2816) : ga m c (ix2 p q) = ∑ k : Fin 1024, a0 m c (ix2 p k) * a1 m c (ix3 0 q k) := by
  refine Finset.sum_congr rfl fun k _ => ?_
  show DY m c (ix2 p k) * WD m c (ix3 0 q k) = _
  have e0 : DY m c (ix2 p k) = a0 m c (ix2 p k) := by
    show V m c main_v0 (ix2 p k) = _
    entry_read
    pointwise
  have e1 : WD m c (ix3 0 q k) = a1 m c (ix3 0 q k) := by
    show V m c main_v1 (ix3 0 q k) = _
    entry_read
    pointwise
  rw [e0, e1]

end Cert.KernelAIdeal.Arrays
end
-- ==== Proof.M.ClaimsA.lean ====
module
public import proofs.«01_k».proof.Defs
public import proofs.«01_k».proof.Proof.M.DownRows
public import proofs.«01_k».proof.Proof.Gen.KernelA.Frame
public import proofs.«01_k».proof.Proof.Gen.ReferenceAIdeal.Run
public import Idealize.ShloMosaic.Adequacy
public import Idealize.ShloMosaic.Init
@[expose] public section
set_option maxRecDepth 16384
noncomputable section
/-! The claims about the rows' gradient of the down projection. -/
namespace Cert.ClaimsA
open Idealize.ShloMosaic Idealize.ShloMosaic.TcCoe Idealize.ShloMosaic.Pointwise Idealize.SL.Sem

theorem frame : Cert.quiescent_KernelA := fun m ρ _ => Cert.KernelA.Gen.frame m ρ
theorem frame_ideal : Cert.quiescent_KernelAIdeal := fun m ρ _ => Cert.KernelAIdeal.Gen.frame m ρ
theorem frame_ref : Cert.quiescent_ReferenceAIdeal := fun m ρ _ =>
  (θ_run Cert.ReferenceAIdeal.defs _ _).mono (fun r h => ⟨fun c => (h c).2, Idealize.ShloMosaic.sem_eq_zero_of_no_sems (by decide) r.2⟩)
    (Cert.ReferenceAIdeal.Value.run (F := Ideal) m ρ)

open ReferenceAIdeal ReferenceAIdeal.Gen in
/-- What the reference computes. -/
def ref (a0 : FVec Ideal S4096x1024 .f32) (a1 : FVec Ideal S2x2816x1024 .f32) : FVec Ideal S4096x2816 .bf16 :=
  truncf .bf16 (Host.dotGeneral dot_S4096x1024_S2816x1024_S4096x2816_1_1_0_0_n_n none a0 (shapeCast _ (extractStridedSlice S1x2816x1024 ![0, 0, 0] a1 slices_S2x2816x1024_S1x2816x1024_0_0_0) shapeCasts_S1x2816x1024_S2816x1024)) bitsLt_bf16_f32

open KernelAIdeal.Arrays in
/-- The kernel's array is the reference's. -/
theorem ga_eq (m : (ℓ : Loc KernelAIdeal.nD KernelAIdeal.τ KernelAIdeal.sig) → Buf (Elt Ideal) ℓ) (c : Dev KernelAIdeal.nD) :
    ga m c = ref (a0 m c) (a1 m c) := by
  funext j
  obtain ⟨p, q, rfl⟩ : ∃ (p : Fin 4096) (q : Fin 2816), j = ix2 p q := ⟨j 0, j 1, eq_ix2 j⟩
  rw [ga_apply]
  symm
  pointwise [ref]

theorem algebraic : Cert.algebraic_KernelAIdeal_ReferenceAIdeal := by
  intro m ρ m' ρ' _ hagree
  refine ⟨fun c => KernelAIdeal.Arrays.ga m c, ?_, ?_⟩
  · exact (θ_run Cert.KernelAIdeal.defs _ _).mono
      (fun _ h c => ⟨(h c).1.trans (KernelAIdeal.Arrays.final2 m c), (h c).2⟩)
      (Cert.KernelAIdeal.Value.run_blocks (F := Ideal) m ρ)
  · refine (θ_run Cert.ReferenceAIdeal.defs _ _).mono (fun _ h c => ⟨(h c).1.trans ?_, (h c).2⟩)
      (Cert.ReferenceAIdeal.Value.run (F := Ideal) m' ρ')
    show _ = KernelAIdeal.Arrays.ga m c
    rw [ga_eq m c, (hagree c).1, (hagree c).2]
    rfl

end Cert.ClaimsA
end
-- ==== Proof.M.Halves.lean ====
module
public import Mathlib.Algebra.BigOperators.Fin
@[expose] public section
noncomputable section
/-! A sum over the rows in two halves. -/
namespace Cert.Halves

/-- A sum over the rows is the sum over the first half and over the second. -/
theorem sum_halves {M : Type} [AddCommMonoid M] (f : Fin 4096 → M) :
    ∑ k : Fin 2048, f ⟨0 * 2048 + k.val, by omega⟩ + ∑ k : Fin 2048, f ⟨1 * 2048 + k.val, by omega⟩ = ∑ k : Fin 4096, f k := by
  refine Eq.trans ?_ (Fin.sum_univ_add (a := 2048) (b := 2048) f).symm
  refine congrArg₂ _ (Finset.sum_congr rfl fun k _ => congrArg f (Fin.ext ?_)) (Finset.sum_congr rfl fun k _ => congrArg f (Fin.ext ?_))
  · simp
  · simp [Nat.add_comm]

end Cert.Halves
end
-- ==== Proof.M.DownWeights.lean ====
module
public import proofs.«01_k».proof.Proof.Gen.KernelWIdeal.Value
public import Idealize.ShloMosaic.Lib.Pipeline.ValueKit
public import Idealize.ShloMosaic.Lib.Pointwise
public import proofs.«01_k».proof.Proof.M.Halves
@[expose] public section
set_option maxRecDepth 16384
noncomputable section
/-! What the array of the down projection's weight gradient holds after the run. -/
namespace Cert.KernelWIdeal.Arrays
open Cert.KernelWIdeal Cert.KernelWIdeal.Gen Idealize.ShloMosaic Idealize.ShloMosaic.TcCoe Idealize.SL.Sem
open Idealize.ShloMosaic.Pointwise
open Idealize.ShloMosaic.Pipeline (Dat)

/-- The first half of the rows: the product is stored. -/
theorem sout_A (c : Dev nD) (i : grid0.Coords) (a3 : Memref sig .tc .vmem S2048x1408 .bf16) (h3 : a3.IsWhole) (a4 : Memref sig .tc .vmem S2048x1024 .bf16) (h4 : a4.IsWhole)
    (a6 : Memref sig .tc .vmem S1x1408x1024 .bf16) (h6 : a6.IsWhole) (a7 : Memref sig .tc .vmem S1408x1024 .f32) (h7 : a7.IsWhole) (hc0 : cond0_0 i) (hc1 : ¬cond0_1 i) (hc2 : ¬cond0_2 i)
    (x0 : Vec Ideal S2048x1408 .bf16) (x1 : Vec Ideal S2048x1024 .bf16) (p : Fin 1408) (q : Fin 1024) :
    sout0_A_0 c i a3 h3 a4 h4 a6 h6 a7 h7 hc0 hc1 hc2 x0 x1 (ix2 p q) = ∑ k : Fin 2048, x0 (ix2 k p) * x1 (ix2 k q) := by
  frame_out
  pointwise [k0_pay2, k0_pay1]

/-- The second half of the rows: the product is added to what is stored. -/
theorem out_B (c : Dev nD) (i : grid0.Coords) (a3 : Memref sig .tc .vmem S2048x1408 .bf16) (h3 : a3.IsWhole) (a4 : Memref sig .tc .vmem S2048x1024 .bf16) (h4 : a4.IsWhole)
    (a6 : Memref sig .tc .vmem S1x1408x1024 .bf16) (h6 : a6.IsWhole) (a7 : Memref sig .tc .vmem S1408x1024 .f32) (h7 : a7.IsWhole) (hc0 : ¬cond0_0 i) (hc1 : ¬cond0_1 i) (hc2 : cond0_2 i)
    (x0 : Vec Ideal S2048x1408 .bf16) (x1 : Vec Ideal S2048x1024 .bf16) (acc : Vec Ideal S1408x1024 .f32) (p : Fin 1408) (q : Fin 1024) :
    out0_B_2 c i a3 h3 a4 h4 a6 h6 a7 h7 hc0 hc1 hc2 x0 x1 acc (ix3 0 p q) = acc (ix2 p q) + ∑ k : Fin 2048, x0 (ix2 k p) * x1 (ix2 k q) := by
  frame_out
  pointwise [k0_pay4, k0_pay1]

variable (m : (ℓ : Loc nD τ sig) → Buf (Elt Ideal) ℓ) (ρ : Dev nD → PrngReg)

theorem idx0 : ∀ t : Fin cfg0.N, win0_0.index t 0 = t.val % 2 ∧ win0_0.index t 1 = t.val / 2 ∧ win0_1.index t 0 = t.val % 2 ∧ win0_1.index t 1 = 0
    ∧ win0_2.index t 0 = 0 ∧ win0_2.index t 1 = t.val / 2 ∧ win0_2.index t 2 = 0 :=
  (by decide +kernel : ∀ t : Fin grid0.N, _)

/-- The activations. -/
abbrev AC (c : Dev nD) : FVec Ideal S4096x2816 .bf16 := V m c main_v0
/-- The gradient of the result. -/
abbrev DY (c : Dev nD) : FVec Ideal S4096x1024 .bf16 := V m c main_v1
/-- What the gradients' array holds before the call. -/
abbrev GB (c : Dev nD) : FVec Ideal S2x2816x1024 .bf16 := V m c main_v3

/-- The gradient of the first layer's weights; the second layer's part stays as it was. -/
def gw (c : Dev nD) : Vec Ideal S2x2816x1024 .bf16 := fun j =>
  if (j 0).val = 0 then ∑ k : Fin 4096, AC m c (ix2 k (j 1)) * DY m c (ix2 k (j 2)) else GB m c j

theorem gw_zero (c : Dev nD) (p : Fin 2816) (q : Fin 1024) : gw m c (ix3 0 p q) = ∑ k : Fin 4096, AC m c (ix2 k p) * DY m c (ix2 k q) := if_pos rfl
theorem gw_one (c : Dev nD) (p : Fin 2816) (q : Fin 1024) : gw m c (ix3 1 p q) = GB m c (ix3 1 p q) := if_neg Nat.one_ne_zero

theorem row0 (c : Dev nD) (t : Fin cfg0.N) (h b : ℕ) (hh : t.val % 2 = h) (hb : t.val / 2 = b) (k : Fin 2048) (p : Fin 1408) : iblk m c 0 t (ix2 k p)
    = AC m c (ix2 ⟨h * 2048 + k.val, by omega⟩ ⟨b * 1408 + p.val, by have := t.isLt; have : cfg0.N = 4 := N_0; omega⟩) := by
  subst hh hb
  blk_ext [iblk, idx0 t]
theorem row1 (c : Dev nD) (t : Fin cfg0.N) (h : ℕ) (hh : t.val % 2 = h) (k : Fin 2048) (q : Fin 1024) : iblk m c 1 t (ix2 k q) = DY m c (ix2 ⟨h * 2048 + k.val, by omega⟩ q) := by
  subst hh
  blk_ext [iblk, idx0 t]

/-- What an even point leaves: the product over the first half of the rows. -/
theorem half0 (c : Dev nD) (t : Fin cfg0.N) (b : ℕ) (ht : t.val % 2 = 0) (hb : t.val / 2 = b) (p : Fin 1408) (q : Fin 1024) : (outsAt0 m c t.val t.isLt).2 (ix2 p q)
    = ∑ k : Fin 2048, AC m c (ix2 ⟨0 * 2048 + k.val, by omega⟩ ⟨b * 1408 + p.val, by have := t.isLt; have : cfg0.N = 4 := N_0; omega⟩) * DY m c (ix2 ⟨0 * 2048 + k.val, by omega⟩ q) := by
  rw [outsAt0_A m c t ht (by omega)]
  dsimp only
  rw [sout_A]
  refine Finset.sum_congr rfl fun k _ => ?_
  rw [row0 m c t 0 b ht hb, row1 m c t 0 ht]

/-- What an odd point writes: the product over all the rows. -/
theorem whole (c : Dev nD) (t : Fin cfg0.N) (h0 : ¬t.val % 2 = 0) (ht : t.val % 2 = 1) (p : Fin 1408) (q : Fin 1024) :
    out0_B_2 c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr ht) (iblk m c 0 t) (iblk m c 1 t) (outsAt0 m c (t.val - 1) (Nat.lt_of_le_of_lt (Nat.sub_le _ _) t.isLt)).2 (ix3 0 p q)
      = ∑ k : Fin 4096, AC m c (ix2 k ⟨t.val / 2 * 1408 + p.val, by have := t.isLt; have : cfg0.N = 4 := N_0; omega⟩) * DY m c (ix2 k q) := by
  rw [out_B, half0 m c ⟨t.val - 1, Nat.lt_of_le_of_lt (Nat.sub_le _ _) t.isLt⟩ (t.val / 2) (by show (t.val - 1) % 2 = 0; omega) (by show (t.val - 1) / 2 = t.val / 2; omega)]
  rw [← Halves.sum_halves]
  refine congrArg _ (Finset.sum_congr rfl fun k _ => ?_)
  rw [row0 m c t 1 _ ht rfl, row1 m c t 1 ht]

theorem flushed2_eq (c : Dev nD) (t : Fin cfg0.N) (hf : (cfg0.win 2).flush t = true) :
    (dats m 0 c).flushed 2 t = ((cfg0.win 2).blk t).view.read (Elt Ideal) (gw m c) := by
  have ht : t.val % 2 = 1 := (flush0_2 t).mp hf
  have h0 : ¬t.val % 2 = 0 := by omega
  rw [Value.flushed2_B m c t h0 ht]
  funext j
  obtain ⟨p, q, rfl⟩ : ∃ (p : Fin 1408) (q : Fin 1024), j = ix3 0 p q := ⟨j 1, j 2, by
    funext a
    match a with
    | ⟨0, _⟩ => exact Subsingleton.elim (α := Fin 1) _ _
    | ⟨1, _⟩ => rfl
    | ⟨2, _⟩ => rfl⟩
  have e : ((cfg0.win 2).blk t).view.read (Elt Ideal) (gw m c) (ix3 0 p q)
      = gw m c (ix3 0 ⟨t.val / 2 * 1408 + p.val, by have := t.isLt; have : cfg0.N = 4 := N_0; omega⟩ q) := by
    blk_ext [idx0 t]
  rw [e, gw_zero]
  exact whole m c t h0 ht p q

/-- The blocks that are written are the first layer's. -/
theorem mem_blk (t : Fin cfg0.N) (i : S2x2816x1024.Idx) : i ∈ ((cfg0.win 2).blk t).view.set ↔ (i 0).val = 0 ∧ (i 1).val / 1408 = t.val / 2 := by
  show i ∈ ((View.whole main_v3).slice (win0_2.rect t)).set ↔ _
  rw [View.set_slice_whole, Rect.mem_set_unit]
  have h0 : (i 0 : Nat) < 2 := (i 0).isLt
  have h1 : (i 1 : Nat) < 2816 := (i 1).isLt
  have h2 : (i 2 : Nat) < 1024 := (i 2).isLt
  have e := idx0 t
  have e' : win0_2.xsize (grid0.coords t) 0 = 1 ∧ win0_2.xsize (grid0.coords t) 1 = 1408 ∧ win0_2.xsize (grid0.coords t) 2 = 1024 :=
    (by decide +kernel : ∀ t : Fin grid0.N, win0_2.xsize (grid0.coords t) 0 = 1 ∧ win0_2.xsize (grid0.coords t) 1 = 1408 ∧ win0_2.xsize (grid0.coords t) 2 = 1024) t
  have hN : cfg0.N = 4 := N_0
  have hlt := t.isLt
  constructor
  · intro h
    have g0 : win0_2.index t 0 * 1 ≤ (i 0 : Nat) ∧ (i 0 : Nat) < win0_2.index t 0 * 1 + win0_2.xsize (grid0.coords t) 0 := h 0
    have g1 : win0_2.index t 1 * 1408 ≤ (i 1 : Nat) ∧ (i 1 : Nat) < win0_2.index t 1 * 1408 + win0_2.xsize (grid0.coords t) 1 := h 1
    rw [e.2.2.2.2.1, e'.1] at g0
    rw [e.2.2.2.2.2.1, e'.2.1] at g1
    omega
  · rintro ⟨g0, g1⟩ a
    match a with
    | ⟨0, _⟩ => show win0_2.index t 0 * 1 ≤ (i 0 : Nat) ∧ (i 0 : Nat) < win0_2.index t 0 * 1 + win0_2.xsize (grid0.coords t) 0
                rw [e.2.2.2.2.1, e'.1]; omega
    | ⟨1, _⟩ => show win0_2.index t 1 * 1408 ≤ (i 1 : Nat) ∧ (i 1 : Nat) < win0_2.index t 1 * 1408 + win0_2.xsize (grid0.coords t) 1
                rw [e.2.2.2.2.2.1, e'.2.1]; omega
    | ⟨2, _⟩ => show win0_2.index t 2 * 1024 ≤ (i 2 : Nat) ∧ (i 2 : Nat) < win0_2.index t 2 * 1024 + win0_2.xsize (grid0.coords t) 2
                rw [e.2.2.2.2.2.2, e'.2.2]; omega

theorem final2 (c : Dev nD) : (dats m 0 c).arrAt 2 cfg0.N = gw m c := by
  funext i
  have h1 : (i 1 : Nat) < 2816 := (i 1).isLt
  have hN : cfg0.N = 4 := N_0
  by_cases hi : (i 0).val = 0
  · let t : Fin cfg0.N := ⟨(i 1 : Nat) / 1408 * 2 + 1, by omega⟩
    have ht : t.val = (i 1 : Nat) / 1408 * 2 + 1 := rfl
    exact (dats m 0 c).arrAt_apply_of_mem 2 (gw m c) (flushed2_eq m c) cfg0.N t i t.isLt ((flush0_2 t).mpr (by omega)) ((mem_blk t i).mpr ⟨hi, by omega⟩)
  · rw [Value.entry2 m c i fun t _ h => hi ((mem_blk t i).mp h).1]
    exact (if_neg hi).symm

abbrev a0 (c : Dev nD) : FVec Ideal S4096x2816 .f32 := m ((c : Thread nD τ).loc main_arg0)
abbrev a1 (c : Dev nD) : FVec Ideal S4096x1024 .f32 := m ((c : Thread nD τ).loc main_arg1)
abbrev a2 (c : Dev nD) : FVec Ideal S2x2816x1024 .f32 := m ((c : Thread nD τ).loc main_arg2)

/-- The first layer's gradient from the arguments. -/
theorem gw_apply (c : Dev nD) (p : Fin 2816) (q : Fin 1024) : gw m c (ix3 0 p q) = ∑ k : Fin 4096, a0 m c (ix2 k p) * a1 m c (ix2 k q) := by
  rw [gw_zero]
  refine Finset.sum_congr rfl fun k _ => ?_
  have e0 : AC m c (ix2 k p) = a0 m c (ix2 k p) := by
    show V m c main_v0 (ix2 k p) = _
    entry_read
    pointwise
  have e1 : DY m c (ix2 k q) = a1 m c (ix2 k q) := by
    show V m c main_v1 (ix2 k q) = _
    entry_read
    pointwise
  rw [e0, e1]

/-- The second layer's part from the arguments. -/
theorem gw_rest (c : Dev nD) (p : Fin 2816) (q : Fin 1024) : gw m c (ix3 1 p q) = a2 m c (ix3 1 p q) := by
  rw [gw_one]
  show V m c main_v3 (ix3 1 p q) = _
  entry_read
  pointwise

end Cert.KernelWIdeal.Arrays
end
-- ==== Proof.M.ClaimsW.lean ====
module
public import proofs.«01_k».proof.Defs
public import proofs.«01_k».proof.Proof.M.DownWeights
public import proofs.«01_k».proof.Proof.Gen.KernelW.Frame
public import proofs.«01_k».proof.Proof.Gen.ReferenceWIdeal.Run
public import Idealize.ShloMosaic.Adequacy
public import Idealize.ShloMosaic.Init
@[expose] public section
set_option maxRecDepth 16384
noncomputable section
/-! The claims about the down projection's weight gradient. -/
namespace Cert.ClaimsW
open Idealize.ShloMosaic Idealize.ShloMosaic.TcCoe Idealize.ShloMosaic.Pointwise Idealize.SL.Sem

theorem frame : Cert.quiescent_KernelW := fun m ρ _ => Cert.KernelW.Gen.frame m ρ
theorem frame_ideal : Cert.quiescent_KernelWIdeal := fun m ρ _ => Cert.KernelWIdeal.Gen.frame m ρ
theorem frame_ref : Cert.quiescent_ReferenceWIdeal := fun m ρ _ =>
  (θ_run Cert.ReferenceWIdeal.defs _ _).mono (fun r h => ⟨fun c => (h c).2, Idealize.ShloMosaic.sem_eq_zero_of_no_sems (by decide) r.2⟩)
    (Cert.ReferenceWIdeal.Value.run (F := Ideal) m ρ)

open ReferenceWIdeal ReferenceWIdeal.Gen in
/-- What the reference computes. -/
def ref (a0 : FVec Ideal S4096x2816 .f32) (a1 : FVec Ideal S4096x1024 .f32) (a2 : FVec Ideal S2x2816x1024 .f32) : FVec Ideal S2x2816x1024 .bf16 :=
  truncf .bf16 (concatenate S2x2816x1024 0 [⟨S1x2816x1024, (broadcastInDim S1x2816x1024 ![1, 2] bcast_S2816x1024_S1x2816x1024_1_2 (transpose S2816x1024 [1, 0] (Host.dotGeneral dot_S4096x1024_S4096x2816_S1024x2816_0_0_1_1_n_n none a1 a0) transposes_S1024x2816_S2816x1024_1_0))⟩,
    ⟨S1x2816x1024, (broadcastInDim S1x2816x1024 ![1, 2] bcast_S2816x1024_S1x2816x1024_1_2 (shapeCast _ (extractStridedSlice S1x2816x1024 ![1, 0, 0] a2 slices_S2x2816x1024_S1x2816x1024_1_0_0) shapeCasts_S1x2816x1024_S2816x1024))⟩] concatenates_S1x2816x1024_S1x2816x1024_S2x2816x1024_d0) bitsLt_bf16_f32

open KernelWIdeal.Arrays in
/-- The kernel's array is the reference's. -/
theorem gw_eq (m : (ℓ : Loc KernelWIdeal.nD KernelWIdeal.τ KernelWIdeal.sig) → Buf (Elt Ideal) ℓ) (c : Dev KernelWIdeal.nD) :
    gw m c = ref (a0 m c) (a1 m c) (a2 m c) := by
  funext j
  obtain ⟨l, p, q, rfl⟩ : ∃ (l : Fin 2) (p : Fin 2816) (q : Fin 1024), j = ix3 l p q := ⟨j 0, j 1, j 2, eq_ix3 j⟩
  match l with
  | 0 =>
    rw [gw_apply]
    symm
    pointwise [ref]
    exact Finset.sum_congr rfl fun k _ => mul_comm _ _
  | 1 =>
    rw [gw_rest]
    symm
    pointwise [ref]

theorem algebraic : Cert.algebraic_KernelWIdeal_ReferenceWIdeal := by
  intro m ρ m' ρ' _ hagree
  refine ⟨fun c => KernelWIdeal.Arrays.gw m c, ?_, ?_⟩
  · exact (θ_run Cert.KernelWIdeal.defs _ _).mono
      (fun _ h c => ⟨(h c).1.trans (KernelWIdeal.Arrays.final2 m c), (h c).2⟩)
      (Cert.KernelWIdeal.Value.run_blocks (F := Ideal) m ρ)
  · refine (θ_run Cert.ReferenceWIdeal.defs _ _).mono (fun _ h c => ⟨(h c).1.trans ?_, (h c).2⟩)
      (Cert.ReferenceWIdeal.Value.run (F := Ideal) m' ρ')
    show _ = KernelWIdeal.Arrays.gw m c
    rw [gw_eq m c, (hagree c).1, (hagree c).2.1, (hagree c).2.2]
    rfl

end Cert.ClaimsW
end
-- ==== Proof.M.GateWeights.lean ====
module
public import proofs.«01_k».proof.Proof.Gen.KernelGIdeal.Value
public import Idealize.ShloMosaic.Lib.Pipeline.ValueKit
public import Idealize.ShloMosaic.Lib.Pointwise
public import proofs.«01_k».proof.Proof.M.Halves
@[expose] public section
set_option maxRecDepth 16384
noncomputable section
/-! What the array of the up projection's weight gradient in the gate's columns holds after the run. -/
namespace Cert.KernelGIdeal.Arrays
open Cert.KernelGIdeal Cert.KernelGIdeal.Gen Idealize.ShloMosaic Idealize.ShloMosaic.TcCoe Idealize.SL.Sem
open Idealize.ShloMosaic.Pointwise
open Idealize.ShloMosaic.Pipeline (Dat)

/-- The first half of the rows: the product is stored. -/
theorem sout_A (c : Dev nD) (i : grid0.Coords) (a3 : Memref sig .tc .vmem S2048x1024 .bf16) (h3 : a3.IsWhole) (a4 : Memref sig .tc .vmem S2048x1408 .bf16) (h4 : a4.IsWhole)
    (a6 : Memref sig .tc .vmem S1x1024x1408 .bf16) (h6 : a6.IsWhole) (a7 : Memref sig .tc .vmem S1024x1408 .f32) (h7 : a7.IsWhole) (hc0 : cond0_0 i) (hc1 : ¬cond0_1 i) (hc2 : ¬cond0_2 i)
    (x0 : Vec Ideal S2048x1024 .bf16) (x1 : Vec Ideal S2048x1408 .bf16) (p : Fin 1024) (q : Fin 1408) :
    sout0_A_0 c i a3 h3 a4 h4 a6 h6 a7 h7 hc0 hc1 hc2 x0 x1 (ix2 p q) = ∑ k : Fin 2048, x0 (ix2 k p) * x1 (ix2 k q) := by
  frame_out
  pointwise [k0_pay2, k0_pay1]

/-- The second half of the rows: the product is added to what is stored. -/
theorem out_B (c : Dev nD) (i : grid0.Coords) (a3 : Memref sig .tc .vmem S2048x1024 .bf16) (h3 : a3.IsWhole) (a4 : Memref sig .tc .vmem S2048x1408 .bf16) (h4 : a4.IsWhole)
    (a6 : Memref sig .tc .vmem S1x1024x1408 .bf16) (h6 : a6.IsWhole) (a7 : Memref sig .tc .vmem S1024x1408 .f32) (h7 : a7.IsWhole) (hc0 : ¬cond0_0 i) (hc1 : ¬cond0_1 i) (hc2 : cond0_2 i)
    (x0 : Vec Ideal S2048x1024 .bf16) (x1 : Vec Ideal S2048x1408 .bf16) (acc : Vec Ideal S1024x1408 .f32) (p : Fin 1024) (q : Fin 1408) :
    out0_B_2 c i a3 h3 a4 h4 a6 h6 a7 h7 hc0 hc1 hc2 x0 x1 acc (ix3 0 p q) = acc (ix2 p q) + ∑ k : Fin 2048, x0 (ix2 k p) * x1 (ix2 k q) := by
  frame_out
  pointwise [k0_pay4, k0_pay1]

variable (m : (ℓ : Loc nD τ sig) → Buf (Elt Ideal) ℓ) (ρ : Dev nD → PrngReg)

theorem idx0 : ∀ t : Fin cfg0.N, win0_0.index t 0 = t.val % 2 ∧ win0_0.index t 1 = 0 ∧ win0_1.index t 0 = t.val % 2 ∧ win0_1.index t 1 = t.val / 2
    ∧ win0_2.index t 0 = 0 ∧ win0_2.index t 1 = 0 ∧ win0_2.index t 2 = t.val / 2 :=
  (by decide +kernel : ∀ t : Fin grid0.N, _)

/-- The normalised rows. -/
abbrev HF (c : Dev nD) : FVec Ideal S4096x1024 .bf16 := V m c main_v0
/-- The gradient of the gate. -/
abbrev DU (c : Dev nD) : FVec Ideal S4096x2816 .bf16 := V m c main_v1
/-- What the gradients' array holds before the call. -/
abbrev GB (c : Dev nD) : FVec Ideal S2x1024x5632 .bf16 := V m c main_v3

/-- The gradient of the first layer's columns for the gate; the rest stays as it was. -/
def gg (c : Dev nD) : Vec Ideal S2x1024x5632 .bf16 := fun j =>
  if (j 0).val = 0 ∧ (j 2).val < 2816 then ∑ k : Fin 4096, HF m c (ix2 k (j 1)) * DU m c (ix2 k ⟨(j 2).val % 2816, by omega⟩) else GB m c j

theorem gg_zero (c : Dev nD) (p : Fin 1024) (q : Fin 2816) : gg m c (ix3 0 p ⟨q.val, by omega⟩) = ∑ k : Fin 4096, HF m c (ix2 k p) * DU m c (ix2 k q) := by
  refine (if_pos ⟨rfl, ?_⟩).trans (Finset.sum_congr rfl fun k _ => congrArg (HF m c (ix2 k p) * DU m c ·) (congrArg (ix2 k) (Fin.ext ?_)))
  · exact q.isLt
  · exact Nat.mod_eq_of_lt q.isLt
theorem gg_other (c : Dev nD) (p : Fin 1024) (q : Fin 2816) : gg m c (ix3 0 p ⟨2816 + q.val, by omega⟩) = GB m c (ix3 0 p ⟨2816 + q.val, by omega⟩) :=
  if_neg fun h => absurd h.2 (Nat.not_lt.mpr (Nat.le_add_right _ _))
theorem gg_one (c : Dev nD) (p : Fin 1024) (q : Fin 5632) : gg m c (ix3 1 p q) = GB m c (ix3 1 p q) := if_neg fun h => Nat.one_ne_zero h.1

theorem row0 (c : Dev nD) (t : Fin cfg0.N) (h : ℕ) (hh : t.val % 2 = h) (k : Fin 2048) (p : Fin 1024) : iblk m c 0 t (ix2 k p) = HF m c (ix2 ⟨h * 2048 + k.val, by omega⟩ p) := by
  subst hh
  blk_ext [iblk, idx0 t]
theorem row1 (c : Dev nD) (t : Fin cfg0.N) (h b : ℕ) (hh : t.val % 2 = h) (hb : t.val / 2 = b) (k : Fin 2048) (q : Fin 1408) : iblk m c 1 t (ix2 k q)
    = DU m c (ix2 ⟨h * 2048 + k.val, by omega⟩ ⟨b * 1408 + q.val, by have := t.isLt; have : cfg0.N = 4 := N_0; omega⟩) := by
  subst hh hb
  blk_ext [iblk, idx0 t]

/-- What an even point leaves: the product over the first half of the rows. -/
theorem half0 (c : Dev nD) (t : Fin cfg0.N) (b : ℕ) (ht : t.val % 2 = 0) (hb : t.val / 2 = b) (p : Fin 1024) (q : Fin 1408) : (outsAt0 m c t.val t.isLt).2 (ix2 p q)
    = ∑ k : Fin 2048, HF m c (ix2 ⟨0 * 2048 + k.val, by omega⟩ p) * DU m c (ix2 ⟨0 * 2048 + k.val, by omega⟩ ⟨b * 1408 + q.val, by have := t.isLt; have : cfg0.N = 4 := N_0; omega⟩) := by
  rw [outsAt0_A m c t ht (by omega)]
  dsimp only
  rw [sout_A]
  refine Finset.sum_congr rfl fun k _ => ?_
  rw [row0 m c t 0 ht, row1 m c t 0 b ht hb]

/-- What an odd point writes: the product over all the rows. -/
theorem whole (c : Dev nD) (t : Fin cfg0.N) (h0 : ¬t.val % 2 = 0) (ht : t.val % 2 = 1) (p : Fin 1024) (q : Fin 1408) :
    out0_B_2 c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr ht) (iblk m c 0 t) (iblk m c 1 t) (outsAt0 m c (t.val - 1) (Nat.lt_of_le_of_lt (Nat.sub_le _ _) t.isLt)).2 (ix3 0 p q)
      = ∑ k : Fin 4096, HF m c (ix2 k p) * DU m c (ix2 k ⟨t.val / 2 * 1408 + q.val, by have := t.isLt; have : cfg0.N = 4 := N_0; omega⟩) := by
  rw [out_B, half0 m c ⟨t.val - 1, Nat.lt_of_le_of_lt (Nat.sub_le _ _) t.isLt⟩ (t.val / 2) (by show (t.val - 1) % 2 = 0; omega) (by show (t.val - 1) / 2 = t.val / 2; omega)]
  rw [← Halves.sum_halves]
  refine congrArg _ (Finset.sum_congr rfl fun k _ => ?_)
  rw [row0 m c t 1 ht, row1 m c t 1 _ ht rfl]

theorem flushed2_eq (c : Dev nD) (t : Fin cfg0.N) (hf : (cfg0.win 2).flush t = true) :
    (dats m 0 c).flushed 2 t = ((cfg0.win 2).blk t).view.read (Elt Ideal) (gg m c) := by
  have ht : t.val % 2 = 1 := (flush0_2 t).mp hf
  have h0 : ¬t.val % 2 = 0 := by omega
  rw [Value.flushed2_B m c t h0 ht]
  funext j
  obtain ⟨p, q, rfl⟩ : ∃ (p : Fin 1024) (q : Fin 1408), j = ix3 0 p q := ⟨j 1, j 2, by
    funext a
    match a with
    | ⟨0, _⟩ => exact Subsingleton.elim (α := Fin 1) _ _
    | ⟨1, _⟩ => rfl
    | ⟨2, _⟩ => rfl⟩
  have e : ((cfg0.win 2).blk t).view.read (Elt Ideal) (gg m c) (ix3 0 p q)
      = gg m c (ix3 0 p ⟨t.val / 2 * 1408 + q.val, by have := t.isLt; have : cfg0.N = 4 := N_0; omega⟩) := by
    blk_ext [idx0 t]
  rw [e]
  exact (whole m c t h0 ht p q).trans (gg_zero m c p ⟨t.val / 2 * 1408 + q.val, by have := t.isLt; have : cfg0.N = 4 := N_0; omega⟩).symm

/-- The blocks that are written are the first layer's columns for the gate. -/
theorem mem_blk (t : Fin cfg0.N) (i : S2x1024x5632.Idx) : i ∈ ((cfg0.win 2).blk t).view.set ↔ (i 0).val = 0 ∧ (i 2).val / 1408 = t.val / 2 := by
  show i ∈ ((View.whole main_v3).slice (win0_2.rect t)).set ↔ _
  rw [View.set_slice_whole, Rect.mem_set_unit]
  have h0 : (i 0 : Nat) < 2 := (i 0).isLt
  have h1 : (i 1 : Nat) < 1024 := (i 1).isLt
  have h2 : (i 2 : Nat) < 5632 := (i 2).isLt
  have e := idx0 t
  have e' : win0_2.xsize (grid0.coords t) 0 = 1 ∧ win0_2.xsize (grid0.coords t) 1 = 1024 ∧ win0_2.xsize (grid0.coords t) 2 = 1408 :=
    (by decide +kernel : ∀ t : Fin grid0.N, win0_2.xsize (grid0.coords t) 0 = 1 ∧ win0_2.xsize (grid0.coords t) 1 = 1024 ∧ win0_2.xsize (grid0.coords t) 2 = 1408) t
  have hN : cfg0.N = 4 := N_0
  have hlt := t.isLt
  constructor
  · intro h
    have g0 : win0_2.index t 0 * 1 ≤ (i 0 : Nat) ∧ (i 0 : Nat) < win0_2.index t 0 * 1 + win0_2.xsize (grid0.coords t) 0 := h 0
    have g2 : win0_2.index t 2 * 1408 ≤ (i 2 : Nat) ∧ (i 2 : Nat) < win0_2.index t 2 * 1408 + win0_2.xsize (grid0.coords t) 2 := h 2
    rw [e.2.2.2.2.1, e'.1] at g0
    rw [e.2.2.2.2.2.2, e'.2.2] at g2
    omega
  · rintro ⟨g0, g2⟩ a
    match a with
    | ⟨0, _⟩ => show win0_2.index t 0 * 1 ≤ (i 0 : Nat) ∧ (i 0 : Nat) < win0_2.index t 0 * 1 + win0_2.xsize (grid0.coords t) 0
                rw [e.2.2.2.2.1, e'.1]; omega
    | ⟨1, _⟩ => show win0_2.index t 1 * 1024 ≤ (i 1 : Nat) ∧ (i 1 : Nat) < win0_2.index t 1 * 1024 + win0_2.xsize (grid0.coords t) 1
                rw [e.2.2.2.2.2.1, e'.2.1]; omega
    | ⟨2, _⟩ => show win0_2.index t 2 * 1408 ≤ (i 2 : Nat) ∧ (i 2 : Nat) < win0_2.index t 2 * 1408 + win0_2.xsize (grid0.coords t) 2
                rw [e.2.2.2.2.2.2, e'.2.2]; omega

theorem final2 (c : Dev nD) : (dats m 0 c).arrAt 2 cfg0.N = gg m c := by
  funext i
  have h2 : (i 2 : Nat) < 5632 := (i 2).isLt
  have hN : cfg0.N = 4 := N_0
  by_cases hi : (i 0).val = 0 ∧ (i 2).val < 2816
  · let t : Fin cfg0.N := ⟨(i 2 : Nat) / 1408 * 2 + 1, by omega⟩
    have ht : t.val = (i 2 : Nat) / 1408 * 2 + 1 := rfl
    exact (dats m 0 c).arrAt_apply_of_mem 2 (gg m c) (flushed2_eq m c) cfg0.N t i t.isLt ((flush0_2 t).mpr (by omega)) ((mem_blk t i).mpr ⟨hi.1, by omega⟩)
  · rw [Value.entry2 m c i fun t _ h => hi (by have := (mem_blk t i).mp h; have := t.isLt; omega)]
    exact (if_neg hi).symm

abbrev a0 (c : Dev nD) : FVec Ideal S4096x1024 .f32 := m ((c : Thread nD τ).loc main_arg0)
abbrev a1 (c : Dev nD) : FVec Ideal S4096x2816 .f32 := m ((c : Thread nD τ).loc main_arg1)
abbrev a2 (c : Dev nD) : FVec Ideal S2x1024x5632 .f32 := m ((c : Thread nD τ).loc main_arg2)

/-- The gradient that is written, from the arguments. -/
theorem gg_apply (c : Dev nD) (p : Fin 1024) (q : Fin 2816) : gg m c (ix3 0 p ⟨q.val, by omega⟩) = ∑ k : Fin 4096, a0 m c (ix2 k p) * a1 m c (ix2 k q) := by
  rw [gg_zero]
  refine Finset.sum_congr rfl fun k _ => ?_
  have e0 : HF m c (ix2 k p) = a0 m c (ix2 k p) := by
    show V m c main_v0 (ix2 k p) = _
    entry_read
    pointwise
  have e1 : DU m c (ix2 k q) = a1 m c (ix2 k q) := by
    show V m c main_v1 (ix2 k q) = _
    entry_read
    pointwise
  rw [e0, e1]

/-- What stays as it was, from the arguments. -/
theorem gb_apply (c : Dev nD) (l : Fin 2) (p : Fin 1024) (q : Fin 5632) : GB m c (ix3 l p q) = a2 m c (ix3 l p q) := by
  show V m c main_v3 (ix3 l p q) = _
  entry_read
  pointwise

end Cert.KernelGIdeal.Arrays
end
-- ==== Proof.M.ClaimsG.lean ====
module
public import proofs.«01_k».proof.Defs
public import proofs.«01_k».proof.Proof.M.GateWeights
public import proofs.«01_k».proof.Proof.Gen.KernelG.Frame
public import proofs.«01_k».proof.Proof.Gen.ReferenceGIdeal.Run
public import Idealize.ShloMosaic.Adequacy
public import Idealize.ShloMosaic.Init
@[expose] public section
set_option maxRecDepth 16384
noncomputable section
/-! The claims about the up projection's weight gradient in the gate's columns. -/
namespace Cert.ClaimsG
open Idealize.ShloMosaic Idealize.ShloMosaic.TcCoe Idealize.ShloMosaic.Pointwise Idealize.SL.Sem

theorem frame : Cert.quiescent_KernelG := fun m ρ _ => Cert.KernelG.Gen.frame m ρ
theorem frame_ideal : Cert.quiescent_KernelGIdeal := fun m ρ _ => Cert.KernelGIdeal.Gen.frame m ρ
theorem frame_ref : Cert.quiescent_ReferenceGIdeal := fun m ρ _ =>
  (θ_run Cert.ReferenceGIdeal.defs _ _).mono (fun r h => ⟨fun c => (h c).2, Idealize.ShloMosaic.sem_eq_zero_of_no_sems (by decide) r.2⟩)
    (Cert.ReferenceGIdeal.Value.run (F := Ideal) m ρ)

open ReferenceGIdeal ReferenceGIdeal.Gen in
/-- What the reference computes. -/
def ref (a0 : FVec Ideal S4096x1024 .f32) (a1 : FVec Ideal S4096x2816 .f32) (a2 : FVec Ideal S2x1024x5632 .f32) : FVec Ideal S2x1024x5632 .bf16 :=
  truncf .bf16 (concatenate S2x1024x5632 0 [⟨S1x1024x5632, (broadcastInDim S1x1024x5632 ![1, 2] bcast_S1024x5632_S1x1024x5632_1_2 (concatenate S1024x5632 1 [⟨S1024x2816, (transpose S1024x2816 [1, 0] (Host.dotGeneral dot_S4096x2816_S4096x1024_S2816x1024_0_0_1_1_n_n none a1 a0) transposes_S2816x1024_S1024x2816_1_0)⟩,
    ⟨S1024x2816, (extractStridedSlice S1024x2816 ![0, 2816] (shapeCast _ (extractStridedSlice S1x1024x5632 ![0, 0, 0] a2 slices_S2x1024x5632_S1x1024x5632_0_0_0) shapeCasts_S1x1024x5632_S1024x5632) slices_S1024x5632_S1024x2816_0_2816)⟩] concatenates_S1024x2816_S1024x2816_S1024x5632_d1))⟩,
    ⟨S1x1024x5632, (broadcastInDim S1x1024x5632 ![1, 2] bcast_S1024x5632_S1x1024x5632_1_2 (shapeCast _ (extractStridedSlice S1x1024x5632 ![1, 0, 0] a2 slices_S2x1024x5632_S1x1024x5632_1_0_0) shapeCasts_S1x1024x5632_S1024x5632))⟩] concatenates_S1x1024x5632_S1x1024x5632_S2x1024x5632_d0) bitsLt_bf16_f32

open KernelGIdeal.Arrays

/-- The first layer's first half of the columns. -/
theorem first (m : (ℓ : Loc KernelGIdeal.nD KernelGIdeal.τ KernelGIdeal.sig) → Buf (Elt Ideal) ℓ) (c : Dev KernelGIdeal.nD) (p : Fin 1024) (q : Fin 2816) :
    gg m c (ix3 0 p ⟨q.val, by omega⟩) = ref (a0 m c) (a1 m c) (a2 m c) (ix3 0 p ⟨q.val, by omega⟩) := by
  rw [gg_apply]
  symm
  pointwise [ref]
  exact Finset.sum_congr rfl fun k _ => mul_comm _ _

/-- The first layer's second half. -/
theorem second (m : (ℓ : Loc KernelGIdeal.nD KernelGIdeal.τ KernelGIdeal.sig) → Buf (Elt Ideal) ℓ) (c : Dev KernelGIdeal.nD) (p : Fin 1024) (q : Fin 2816) :
    gg m c (ix3 0 p ⟨2816 + q.val, by omega⟩) = ref (a0 m c) (a1 m c) (a2 m c) (ix3 0 p ⟨2816 + q.val, by omega⟩) := by
  rw [gg_other, gb_apply]
  symm
  pointwise [ref]

/-- The second layer's part. -/
theorem layer (m : (ℓ : Loc KernelGIdeal.nD KernelGIdeal.τ KernelGIdeal.sig) → Buf (Elt Ideal) ℓ) (c : Dev KernelGIdeal.nD) (p : Fin 1024) (q : Fin 5632) :
    gg m c (ix3 1 p q) = ref (a0 m c) (a1 m c) (a2 m c) (ix3 1 p q) := by
  rw [gg_one, gb_apply]
  symm
  pointwise [ref]

/-- The kernel's array is the reference's. -/
theorem gg_eq (m : (ℓ : Loc KernelGIdeal.nD KernelGIdeal.τ KernelGIdeal.sig) → Buf (Elt Ideal) ℓ) (c : Dev KernelGIdeal.nD) :
    gg m c = ref (a0 m c) (a1 m c) (a2 m c) := by
  funext j
  obtain ⟨l, p, q, rfl⟩ : ∃ (l : Fin 2) (p : Fin 1024) (q : Fin 5632), j = ix3 l p q := ⟨j 0, j 1, j 2, eq_ix3 j⟩
  match l with
  | 0 =>
    by_cases hq : q.val < 2816
    · exact first m c p ⟨q.val, hq⟩
    · have e : q = ⟨2816 + (⟨q.val - 2816, by omega⟩ : Fin 2816).val, by show 2816 + (q.val - 2816) < 5632; omega⟩ := Fin.ext (by show q.val = 2816 + (q.val - 2816); omega)
      rw [e]
      exact second m c p ⟨q.val - 2816, by omega⟩
  | 1 => exact layer m c p q

theorem algebraic : Cert.algebraic_KernelGIdeal_ReferenceGIdeal := by
  intro m ρ m' ρ' _ hagree
  refine ⟨fun c => KernelGIdeal.Arrays.gg m c, ?_, ?_⟩
  · exact (θ_run Cert.KernelGIdeal.defs _ _).mono
      (fun _ h c => ⟨(h c).1.trans (KernelGIdeal.Arrays.final2 m c), (h c).2⟩)
      (Cert.KernelGIdeal.Value.run_blocks (F := Ideal) m ρ)
  · refine (θ_run Cert.ReferenceGIdeal.defs _ _).mono (fun _ h c => ⟨(h c).1.trans ?_, (h c).2⟩)
      (Cert.ReferenceGIdeal.Value.run (F := Ideal) m' ρ')
    show _ = KernelGIdeal.Arrays.gg m c
    rw [gg_eq m c, (hagree c).1, (hagree c).2.1, (hagree c).2.2]
    rfl

end Cert.ClaimsG
end
-- ==== Proof.M.ValueWeights.lean ====
module
public import proofs.«01_k».proof.Proof.Gen.KernelHIdeal.Value
public import Idealize.ShloMosaic.Lib.Pipeline.ValueKit
public import Idealize.ShloMosaic.Lib.Pointwise
public import proofs.«01_k».proof.Proof.M.Halves
@[expose] public section
set_option maxRecDepth 16384
noncomputable section
/-! What the array of the up projection's weight gradient in the value's columns holds after the run. -/
namespace Cert.KernelHIdeal.Arrays
open Cert.KernelHIdeal Cert.KernelHIdeal.Gen Idealize.ShloMosaic Idealize.ShloMosaic.TcCoe Idealize.SL.Sem
open Idealize.ShloMosaic.Pointwise
open Idealize.ShloMosaic.Pipeline (Dat)

/-- The first half of the rows: the product is stored. -/
theorem sout_A (c : Dev nD) (i : grid0.Coords) (a3 : Memref sig .tc .vmem S2048x1024 .bf16) (h3 : a3.IsWhole) (a4 : Memref sig .tc .vmem S2048x1408 .bf16) (h4 : a4.IsWhole)
    (a6 : Memref sig .tc .vmem S1x1024x1408 .bf16) (h6 : a6.IsWhole) (a7 : Memref sig .tc .vmem S1024x1408 .f32) (h7 : a7.IsWhole) (hc0 : cond0_0 i) (hc1 : ¬cond0_1 i) (hc2 : ¬cond0_2 i)
    (x0 : Vec Ideal S2048x1024 .bf16) (x1 : Vec Ideal S2048x1408 .bf16) (p : Fin 1024) (q : Fin 1408) :
    sout0_A_0 c i a3 h3 a4 h4 a6 h6 a7 h7 hc0 hc1 hc2 x0 x1 (ix2 p q) = ∑ k : Fin 2048, x0 (ix2 k p) * x1 (ix2 k q) := by
  frame_out
  pointwise [k0_pay2, k0_pay1]

/-- The second half of the rows: the product is added to what is stored. -/
theorem out_B (c : Dev nD) (i : grid0.Coords) (a3 : Memref sig .tc .vmem S2048x1024 .bf16) (h3 : a3.IsWhole) (a4 : Memref sig .tc .vmem S2048x1408 .bf16) (h4 : a4.IsWhole)
    (a6 : Memref sig .tc .vmem S1x1024x1408 .bf16) (h6 : a6.IsWhole) (a7 : Memref sig .tc .vmem S1024x1408 .f32) (h7 : a7.IsWhole) (hc0 : ¬cond0_0 i) (hc1 : ¬cond0_1 i) (hc2 : cond0_2 i)
    (x0 : Vec Ideal S2048x1024 .bf16) (x1 : Vec Ideal S2048x1408 .bf16) (acc : Vec Ideal S1024x1408 .f32) (p : Fin 1024) (q : Fin 1408) :
    out0_B_2 c i a3 h3 a4 h4 a6 h6 a7 h7 hc0 hc1 hc2 x0 x1 acc (ix3 0 p q) = acc (ix2 p q) + ∑ k : Fin 2048, x0 (ix2 k p) * x1 (ix2 k q) := by
  frame_out
  pointwise [k0_pay4, k0_pay1]

variable (m : (ℓ : Loc nD τ sig) → Buf (Elt Ideal) ℓ) (ρ : Dev nD → PrngReg)

theorem idx0 : ∀ t : Fin cfg0.N, win0_0.index t 0 = t.val % 2 ∧ win0_0.index t 1 = 0 ∧ win0_1.index t 0 = t.val % 2 ∧ win0_1.index t 1 = t.val / 2
    ∧ win0_2.index t 0 = 0 ∧ win0_2.index t 1 = 0 ∧ win0_2.index t 2 = t.val / 2 + 2 :=
  (by decide +kernel : ∀ t : Fin grid0.N, _)

/-- The normalised rows. -/
abbrev HF (c : Dev nD) : FVec Ideal S4096x1024 .bf16 := V m c main_v0
/-- The gradient of the value. -/
abbrev DU (c : Dev nD) : FVec Ideal S4096x2816 .bf16 := V m c main_v1
/-- What the gradients' array holds before the call. -/
abbrev GB (c : Dev nD) : FVec Ideal S2x1024x5632 .bf16 := V m c main_v3

/-- The gradient of the first layer's columns for the value; the rest stays as it was. -/
def gh (c : Dev nD) : Vec Ideal S2x1024x5632 .bf16 := fun j =>
  if (j 0).val = 0 ∧ 2816 ≤ (j 2).val then ∑ k : Fin 4096, HF m c (ix2 k (j 1)) * DU m c (ix2 k ⟨(j 2).val % 2816, by omega⟩) else GB m c j

theorem gh_zero (c : Dev nD) (p : Fin 1024) (q : Fin 2816) : gh m c (ix3 0 p ⟨2816 + q.val, by omega⟩) = ∑ k : Fin 4096, HF m c (ix2 k p) * DU m c (ix2 k q) := by
  refine (if_pos ⟨rfl, ?_⟩).trans (Finset.sum_congr rfl fun k _ => congrArg (HF m c (ix2 k p) * DU m c ·) (congrArg (ix2 k) (Fin.ext ?_)))
  · exact Nat.le_add_right _ _
  · show (2816 + q.val) % 2816 = q.val; omega
theorem gh_other (c : Dev nD) (p : Fin 1024) (q : Fin 2816) : gh m c (ix3 0 p ⟨q.val, by omega⟩) = GB m c (ix3 0 p ⟨q.val, by omega⟩) :=
  if_neg fun h => absurd q.isLt (Nat.not_lt.mpr h.2)
theorem gh_one (c : Dev nD) (p : Fin 1024) (q : Fin 5632) : gh m c (ix3 1 p q) = GB m c (ix3 1 p q) := if_neg fun h => Nat.one_ne_zero h.1

theorem row0 (c : Dev nD) (t : Fin cfg0.N) (h : ℕ) (hh : t.val % 2 = h) (k : Fin 2048) (p : Fin 1024) : iblk m c 0 t (ix2 k p) = HF m c (ix2 ⟨h * 2048 + k.val, by omega⟩ p) := by
  subst hh
  blk_ext [iblk, idx0 t]
theorem row1 (c : Dev nD) (t : Fin cfg0.N) (h b : ℕ) (hh : t.val % 2 = h) (hb : t.val / 2 = b) (k : Fin 2048) (q : Fin 1408) : iblk m c 1 t (ix2 k q)
    = DU m c (ix2 ⟨h * 2048 + k.val, by omega⟩ ⟨b * 1408 + q.val, by have := t.isLt; have : cfg0.N = 4 := N_0; omega⟩) := by
  subst hh hb
  blk_ext [iblk, idx0 t]

/-- What an even point leaves: the product over the first half of the rows. -/
theorem half0 (c : Dev nD) (t : Fin cfg0.N) (b : ℕ) (ht : t.val % 2 = 0) (hb : t.val / 2 = b) (p : Fin 1024) (q : Fin 1408) : (outsAt0 m c t.val t.isLt).2 (ix2 p q)
    = ∑ k : Fin 2048, HF m c (ix2 ⟨0 * 2048 + k.val, by omega⟩ p) * DU m c (ix2 ⟨0 * 2048 + k.val, by omega⟩ ⟨b * 1408 + q.val, by have := t.isLt; have : cfg0.N = 4 := N_0; omega⟩) := by
  rw [outsAt0_A m c t ht (by omega)]
  dsimp only
  rw [sout_A]
  refine Finset.sum_congr rfl fun k _ => ?_
  rw [row0 m c t 0 ht, row1 m c t 0 b ht hb]

/-- What an odd point writes: the product over all the rows. -/
theorem whole (c : Dev nD) (t : Fin cfg0.N) (h0 : ¬t.val % 2 = 0) (ht : t.val % 2 = 1) (p : Fin 1024) (q : Fin 1408) :
    out0_B_2 c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr ht) (iblk m c 0 t) (iblk m c 1 t) (outsAt0 m c (t.val - 1) (Nat.lt_of_le_of_lt (Nat.sub_le _ _) t.isLt)).2 (ix3 0 p q)
      = ∑ k : Fin 4096, HF m c (ix2 k p) * DU m c (ix2 k ⟨t.val / 2 * 1408 + q.val, by have := t.isLt; have : cfg0.N = 4 := N_0; omega⟩) := by
  rw [out_B, half0 m c ⟨t.val - 1, Nat.lt_of_le_of_lt (Nat.sub_le _ _) t.isLt⟩ (t.val / 2) (by show (t.val - 1) % 2 = 0; omega) (by show (t.val - 1) / 2 = t.val / 2; omega)]
  rw [← Halves.sum_halves]
  refine congrArg _ (Finset.sum_congr rfl fun k _ => ?_)
  rw [row0 m c t 1 ht, row1 m c t 1 _ ht rfl]

theorem flushed2_eq (c : Dev nD) (t : Fin cfg0.N) (hf : (cfg0.win 2).flush t = true) :
    (dats m 0 c).flushed 2 t = ((cfg0.win 2).blk t).view.read (Elt Ideal) (gh m c) := by
  have ht : t.val % 2 = 1 := (flush0_2 t).mp hf
  have h0 : ¬t.val % 2 = 0 := by omega
  rw [Value.flushed2_B m c t h0 ht]
  funext j
  obtain ⟨p, q, rfl⟩ : ∃ (p : Fin 1024) (q : Fin 1408), j = ix3 0 p q := ⟨j 1, j 2, by
    funext a
    match a with
    | ⟨0, _⟩ => exact Subsingleton.elim (α := Fin 1) _ _
    | ⟨1, _⟩ => rfl
    | ⟨2, _⟩ => rfl⟩
  have e : ((cfg0.win 2).blk t).view.read (Elt Ideal) (gh m c) (ix3 0 p q)
      = gh m c (ix3 0 p ⟨2816 + (t.val / 2 * 1408 + q.val), by have := t.isLt; have : cfg0.N = 4 := N_0; omega⟩) := by
    blk_ext [idx0 t]
  rw [e]
  exact (whole m c t h0 ht p q).trans (gh_zero m c p ⟨t.val / 2 * 1408 + q.val, by have := t.isLt; have : cfg0.N = 4 := N_0; omega⟩).symm

/-- The blocks that are written are the first layer's columns for the value. -/
theorem mem_blk (t : Fin cfg0.N) (i : S2x1024x5632.Idx) : i ∈ ((cfg0.win 2).blk t).view.set ↔ (i 0).val = 0 ∧ (i 2).val / 1408 = t.val / 2 + 2 := by
  show i ∈ ((View.whole main_v3).slice (win0_2.rect t)).set ↔ _
  rw [View.set_slice_whole, Rect.mem_set_unit]
  have h0 : (i 0 : Nat) < 2 := (i 0).isLt
  have h1 : (i 1 : Nat) < 1024 := (i 1).isLt
  have h2 : (i 2 : Nat) < 5632 := (i 2).isLt
  have e := idx0 t
  have e' : win0_2.xsize (grid0.coords t) 0 = 1 ∧ win0_2.xsize (grid0.coords t) 1 = 1024 ∧ win0_2.xsize (grid0.coords t) 2 = 1408 :=
    (by decide +kernel : ∀ t : Fin grid0.N, win0_2.xsize (grid0.coords t) 0 = 1 ∧ win0_2.xsize (grid0.coords t) 1 = 1024 ∧ win0_2.xsize (grid0.coords t) 2 = 1408) t
  have hN : cfg0.N = 4 := N_0
  have hlt := t.isLt
  constructor
  · intro h
    have g0 : win0_2.index t 0 * 1 ≤ (i 0 : Nat) ∧ (i 0 : Nat) < win0_2.index t 0 * 1 + win0_2.xsize (grid0.coords t) 0 := h 0
    have g2 : win0_2.index t 2 * 1408 ≤ (i 2 : Nat) ∧ (i 2 : Nat) < win0_2.index t 2 * 1408 + win0_2.xsize (grid0.coords t) 2 := h 2
    rw [e.2.2.2.2.1, e'.1] at g0
    rw [e.2.2.2.2.2.2, e'.2.2] at g2
    omega
  · rintro ⟨g0, g2⟩ a
    match a with
    | ⟨0, _⟩ => show win0_2.index t 0 * 1 ≤ (i 0 : Nat) ∧ (i 0 : Nat) < win0_2.index t 0 * 1 + win0_2.xsize (grid0.coords t) 0
                rw [e.2.2.2.2.1, e'.1]; omega
    | ⟨1, _⟩ => show win0_2.index t 1 * 1024 ≤ (i 1 : Nat) ∧ (i 1 : Nat) < win0_2.index t 1 * 1024 + win0_2.xsize (grid0.coords t) 1
                rw [e.2.2.2.2.2.1, e'.2.1]; omega
    | ⟨2, _⟩ => show win0_2.index t 2 * 1408 ≤ (i 2 : Nat) ∧ (i 2 : Nat) < win0_2.index t 2 * 1408 + win0_2.xsize (grid0.coords t) 2
                rw [e.2.2.2.2.2.2, e'.2.2]; omega

theorem final2 (c : Dev nD) : (dats m 0 c).arrAt 2 cfg0.N = gh m c := by
  funext i
  have h2 : (i 2 : Nat) < 5632 := (i 2).isLt
  have hN : cfg0.N = 4 := N_0
  by_cases hi : (i 0).val = 0 ∧ 2816 ≤ (i 2).val
  · let t : Fin cfg0.N := ⟨((i 2 : Nat) / 1408 - 2) * 2 + 1, by omega⟩
    have ht : t.val = ((i 2 : Nat) / 1408 - 2) * 2 + 1 := rfl
    exact (dats m 0 c).arrAt_apply_of_mem 2 (gh m c) (flushed2_eq m c) cfg0.N t i t.isLt ((flush0_2 t).mpr (by omega)) ((mem_blk t i).mpr ⟨hi.1, by omega⟩)
  · rw [Value.entry2 m c i fun t _ h => hi (by have := (mem_blk t i).mp h; have := t.isLt; omega)]
    exact (if_neg hi).symm

abbrev a0 (c : Dev nD) : FVec Ideal S4096x1024 .f32 := m ((c : Thread nD τ).loc main_arg0)
abbrev a1 (c : Dev nD) : FVec Ideal S4096x2816 .f32 := m ((c : Thread nD τ).loc main_arg1)
abbrev a2 (c : Dev nD) : FVec Ideal S2x1024x5632 .f32 := m ((c : Thread nD τ).loc main_arg2)

/-- The gradient that is written, from the arguments. -/
theorem gh_apply (c : Dev nD) (p : Fin 1024) (q : Fin 2816) : gh m c (ix3 0 p ⟨2816 + q.val, by omega⟩) = ∑ k : Fin 4096, a0 m c (ix2 k p) * a1 m c (ix2 k q) := by
  rw [gh_zero]
  refine Finset.sum_congr rfl fun k _ => ?_
  have e0 : HF m c (ix2 k p) = a0 m c (ix2 k p) := by
    show V m c main_v0 (ix2 k p) = _
    entry_read
    pointwise
  have e1 : DU m c (ix2 k q) = a1 m c (ix2 k q) := by
    show V m c main_v1 (ix2 k q) = _
    entry_read
    pointwise
  rw [e0, e1]

/-- What stays as it was, from the arguments. -/
theorem gb_apply (c : Dev nD) (l : Fin 2) (p : Fin 1024) (q : Fin 5632) : GB m c (ix3 l p q) = a2 m c (ix3 l p q) := by
  show V m c main_v3 (ix3 l p q) = _
  entry_read
  pointwise

end Cert.KernelHIdeal.Arrays
end
-- ==== Proof.M.ClaimsH.lean ====
module
public import proofs.«01_k».proof.Defs
public import proofs.«01_k».proof.Proof.M.ValueWeights
public import proofs.«01_k».proof.Proof.Gen.KernelH.Frame
public import proofs.«01_k».proof.Proof.Gen.ReferenceHIdeal.Run
public import Idealize.ShloMosaic.Adequacy
public import Idealize.ShloMosaic.Init
@[expose] public section
set_option maxRecDepth 16384
noncomputable section
/-! The claims about the up projection's weight gradient in the value's columns. -/
namespace Cert.ClaimsH
open Idealize.ShloMosaic Idealize.ShloMosaic.TcCoe Idealize.ShloMosaic.Pointwise Idealize.SL.Sem

theorem frame : Cert.quiescent_KernelH := fun m ρ _ => Cert.KernelH.Gen.frame m ρ
theorem frame_ideal : Cert.quiescent_KernelHIdeal := fun m ρ _ => Cert.KernelHIdeal.Gen.frame m ρ
theorem frame_ref : Cert.quiescent_ReferenceHIdeal := fun m ρ _ =>
  (θ_run Cert.ReferenceHIdeal.defs _ _).mono (fun r h => ⟨fun c => (h c).2, Idealize.ShloMosaic.sem_eq_zero_of_no_sems (by decide) r.2⟩)
    (Cert.ReferenceHIdeal.Value.run (F := Ideal) m ρ)

open ReferenceHIdeal ReferenceHIdeal.Gen in
/-- What the reference computes. -/
def ref (a0 : FVec Ideal S4096x1024 .f32) (a1 : FVec Ideal S4096x2816 .f32) (a2 : FVec Ideal S2x1024x5632 .f32) : FVec Ideal S2x1024x5632 .bf16 :=
  truncf .bf16 (concatenate S2x1024x5632 0 [⟨S1x1024x5632, (broadcastInDim S1x1024x5632 ![1, 2] bcast_S1024x5632_S1x1024x5632_1_2 (concatenate S1024x5632 1 [⟨S1024x2816, (extractStridedSlice S1024x2816 ![0, 0] (shapeCast _ (extractStridedSlice S1x1024x5632 ![0, 0, 0] a2 slices_S2x1024x5632_S1x1024x5632_0_0_0) shapeCasts_S1x1024x5632_S1024x5632) slices_S1024x5632_S1024x2816_0_0)⟩,
    ⟨S1024x2816, (transpose S1024x2816 [1, 0] (Host.dotGeneral dot_S4096x2816_S4096x1024_S2816x1024_0_0_1_1_n_n none a1 a0) transposes_S2816x1024_S1024x2816_1_0)⟩] concatenates_S1024x2816_S1024x2816_S1024x5632_d1))⟩,
    ⟨S1x1024x5632, (broadcastInDim S1x1024x5632 ![1, 2] bcast_S1024x5632_S1x1024x5632_1_2 (shapeCast _ (extractStridedSlice S1x1024x5632 ![1, 0, 0] a2 slices_S2x1024x5632_S1x1024x5632_1_0_0) shapeCasts_S1x1024x5632_S1024x5632))⟩] concatenates_S1x1024x5632_S1x1024x5632_S2x1024x5632_d0) bitsLt_bf16_f32

open KernelHIdeal.Arrays

/-- The first layer's first half of the columns. -/
theorem first (m : (ℓ : Loc KernelHIdeal.nD KernelHIdeal.τ KernelHIdeal.sig) → Buf (Elt Ideal) ℓ) (c : Dev KernelHIdeal.nD) (p : Fin 1024) (q : Fin 2816) :
    gh m c (ix3 0 p ⟨q.val, by omega⟩) = ref (a0 m c) (a1 m c) (a2 m c) (ix3 0 p ⟨q.val, by omega⟩) := by
  rw [gh_other, gb_apply]
  symm
  pointwise [ref]

/-- The first layer's second half. -/
theorem second (m : (ℓ : Loc KernelHIdeal.nD KernelHIdeal.τ KernelHIdeal.sig) → Buf (Elt Ideal) ℓ) (c : Dev KernelHIdeal.nD) (p : Fin 1024) (q : Fin 2816) :
    gh m c (ix3 0 p ⟨2816 + q.val, by omega⟩) = ref (a0 m c) (a1 m c) (a2 m c) (ix3 0 p ⟨2816 + q.val, by omega⟩) := by
  rw [gh_apply]
  symm
  pointwise [ref]
  exact Finset.sum_congr rfl fun k _ => mul_comm _ _

/-- The second layer's part. -/
theorem layer (m : (ℓ : Loc KernelHIdeal.nD KernelHIdeal.τ KernelHIdeal.sig) → Buf (Elt Ideal) ℓ) (c : Dev KernelHIdeal.nD) (p : Fin 1024) (q : Fin 5632) :
    gh m c (ix3 1 p q) = ref (a0 m c) (a1 m c) (a2 m c) (ix3 1 p q) := by
  rw [gh_one, gb_apply]
  symm
  pointwise [ref]

/-- The kernel's array is the reference's. -/
theorem gh_eq (m : (ℓ : Loc KernelHIdeal.nD KernelHIdeal.τ KernelHIdeal.sig) → Buf (Elt Ideal) ℓ) (c : Dev KernelHIdeal.nD) :
    gh m c = ref (a0 m c) (a1 m c) (a2 m c) := by
  funext j
  obtain ⟨l, p, q, rfl⟩ : ∃ (l : Fin 2) (p : Fin 1024) (q : Fin 5632), j = ix3 l p q := ⟨j 0, j 1, j 2, eq_ix3 j⟩
  match l with
  | 0 =>
    by_cases hq : q.val < 2816
    · exact first m c p ⟨q.val, hq⟩
    · have e : q = ⟨2816 + (⟨q.val - 2816, by omega⟩ : Fin 2816).val, by show 2816 + (q.val - 2816) < 5632; omega⟩ := Fin.ext (by show q.val = 2816 + (q.val - 2816); omega)
      rw [e]
      exact second m c p ⟨q.val - 2816, by omega⟩
  | 1 => exact layer m c p q

theorem algebraic : Cert.algebraic_KernelHIdeal_ReferenceHIdeal := by
  intro m ρ m' ρ' _ hagree
  refine ⟨fun c => KernelHIdeal.Arrays.gh m c, ?_, ?_⟩
  · exact (θ_run Cert.KernelHIdeal.defs _ _).mono
      (fun _ h c => ⟨(h c).1.trans (KernelHIdeal.Arrays.final2 m c), (h c).2⟩)
      (Cert.KernelHIdeal.Value.run_blocks (F := Ideal) m ρ)
  · refine (θ_run Cert.ReferenceHIdeal.defs _ _).mono (fun _ h c => ⟨(h c).1.trans ?_, (h c).2⟩)
      (Cert.ReferenceHIdeal.Value.run (F := Ideal) m' ρ')
    show _ = KernelHIdeal.Arrays.gh m c
    rw [gh_eq m c, (hagree c).1, (hagree c).2.1, (hagree c).2.2]
    rfl

end Cert.ClaimsH
end
-- ==== Proof.M.UpRows.lean ====
module
public import proofs.«01_k».proof.Proof.Gen.KernelEIdeal.Value
public import Idealize.ShloMosaic.Lib.Pipeline.ValueKit
public import Idealize.ShloMosaic.Lib.Pointwise
@[expose] public section
set_option maxRecDepth 16384
noncomputable section
/-! What the array of the rows' gradient through the gate's columns of the up projection holds after the run. -/
namespace Cert.KernelEIdeal.Arrays
open Cert.KernelEIdeal Cert.KernelEIdeal.Gen Idealize.ShloMosaic Idealize.ShloMosaic.TcCoe Idealize.SL.Sem
open Idealize.ShloMosaic.Pointwise
open Idealize.ShloMosaic.Pipeline (Dat)

/-- A block of the product. -/
theorem out_A (c : Dev nD) (i : grid0.Coords) (a1 : Memref sig .tc .vmem S512x2816 .bf16) (h1 : a1.IsWhole) (a2 : Memref sig .tc .vmem S1x1024x2816 .bf16) (h2 : a2.IsWhole)
    (a3 : Memref sig .tc .vmem S512x1024 .f32) (h3 : a3.IsWhole) (a4 : Memref sig .tc .vmem S8x128 .f32) (h4 : a4.IsWhole)
    (x0 : Vec Ideal S512x2816 .bf16) (x1 : Vec Ideal S1x1024x2816 .bf16) (p : Fin 512) (q : Fin 1024) :
    out0_A_2 c i a1 h1 a2 h2 a3 h3 a4 h4 x0 x1 (ix2 p q) = ∑ k : Fin 2816, x0 (ix2 p k) * x1 (ix3 0 q k) := by
  frame_out
  pointwise [k0_pay1]

variable (m : (ℓ : Loc nD τ sig) → Buf (Elt Ideal) ℓ) (ρ : Dev nD → PrngReg)

theorem idx0 : ∀ t : Fin cfg0.N, win0_0.index t 0 = t.val ∧ win0_0.index t 1 = 0 ∧ win0_1.index t 0 = 0 ∧ win0_1.index t 1 = 0 ∧ win0_1.index t 2 = 0
    ∧ win0_2.index t 0 = t.val ∧ win0_2.index t 1 = 0 :=
  (by decide +kernel : ∀ t : Fin grid0.N, _)

/-- The gradient of the gate. -/
abbrev DG (c : Dev nD) : FVec Ideal S4096x2816 .bf16 := V m c main_v0
/-- The weights: the gate's columns come first. -/
abbrev WU (c : Dev nD) : FVec Ideal S2x1024x5632 .bf16 := V m c main_v1

/-- The gradient of the rows. -/
def ge (c : Dev nD) : Vec Ideal S4096x1024 .f32 := fun j => ∑ k : Fin 2816, DG m c (ix2 (j 0) k) * WU m c (ix3 0 (j 1) ⟨k.val, by omega⟩)

theorem row0 (c : Dev nD) (t : Fin cfg0.N) (p : Fin 512) (k : Fin 2816) : iblk m c 0 t (ix2 p k)
    = DG m c (ix2 ⟨t.val * 512 + p.val, by have := t.isLt; have : cfg0.N = 8 := N_0; omega⟩ k) := by
  blk_ext [iblk, idx0 t]
theorem row1 (c : Dev nD) (t : Fin cfg0.N) (q : Fin 1024) (k : Fin 2816) : iblk m c 1 t (ix3 0 q k) = WU m c (ix3 0 q ⟨k.val, by omega⟩) := by
  blk_ext [iblk, idx0 t]

theorem flushed2_eq (c : Dev nD) (t : Fin cfg0.N) (_hf : (cfg0.win 2).flush t = true) :
    (dats m 0 c).flushed 2 t = ((cfg0.win 2).blk t).view.read (Elt Ideal) (ge m c) := by
  rw [Value.flushed2_A]
  funext j
  obtain ⟨p, q, rfl⟩ : ∃ (p : Fin 512) (q : Fin 1024), j = ix2 p q := ⟨j 0, j 1, eq_ix2 j⟩
  have e : ((cfg0.win 2).blk t).view.read (Elt Ideal) (ge m c) (ix2 p q)
      = ge m c (ix2 ⟨t.val * 512 + p.val, by have := t.isLt; have : cfg0.N = 8 := N_0; omega⟩ q) := by
    blk_ext [idx0 t]
  rw [e]
  refine (out_A c _ _ _ _ _ _ _ _ _ _ _ p q).trans (Finset.sum_congr rfl fun k _ => ?_)
  rw [row0, row1]
  rfl

theorem final2 (c : Dev nD) : (dats m 0 c).arrAt 2 cfg0.N = ge m c :=
  (dats m 0 c).arrAt_eq_of_cover 2 (ge m c) (flushed2_eq m c) fun i =>
    have h0 : (i 0 : Nat) < 4096 := (i 0).isLt
    have h1 : (i 1 : Nat) < 1024 := (i 1).isLt
    have hN : cfg0.N = 8 := N_0
    let t : Fin cfg0.N := ⟨(i 0 : Nat) / 512, by omega⟩
    ⟨t, flush0_2 t, by
      show i ∈ ((View.whole main_v2).slice (win0_2.rect t)).set
      rw [View.set_slice_whole, Rect.mem_set_unit]
      have e := idx0 t
      have e' : win0_2.xsize (grid0.coords t) 0 = 512 ∧ win0_2.xsize (grid0.coords t) 1 = 1024 :=
        (by decide +kernel : ∀ t : Fin grid0.N, win0_2.xsize (grid0.coords t) 0 = 512 ∧ win0_2.xsize (grid0.coords t) 1 = 1024) t
      have ht : t.val = (i 0 : Nat) / 512 := rfl
      intro a
      match a with
      | ⟨0, _⟩ => show win0_2.index t 0 * 512 ≤ (i 0 : Nat) ∧ (i 0 : Nat) < win0_2.index t 0 * 512 + win0_2.xsize (grid0.coords t) 0
                  rw [e.2.2.2.2.2.1, e'.1]; omega
      | ⟨1, _⟩ => show win0_2.index t 1 * 1024 ≤ (i 1 : Nat) ∧ (i 1 : Nat) < win0_2.index t 1 * 1024 + win0_2.xsize (grid0.coords t) 1
                  rw [e.2.2.2.2.2.2, e'.2]; omega⟩

abbrev a0 (c : Dev nD) : FVec Ideal S4096x2816 .f32 := m ((c : Thread nD τ).loc main_arg0)
abbrev a1 (c : Dev nD) : FVec Ideal S2x1024x5632 .f32 := m ((c : Thread nD τ).loc main_arg1)

/-- The gradient of the rows from the arguments. -/
theorem ge_apply (c : Dev nD) (p : Fin 4096) (q : Fin 1024) : ge m c (ix2 p q) = ∑ k : Fin 2816, a0 m c (ix2 p k) * a1 m c (ix3 0 q ⟨k.val, by omega⟩) := by
  refine Finset.sum_congr rfl fun k _ => ?_
  show DG m c (ix2 p k) * WU m c (ix3 0 q ⟨k.val, by omega⟩) = _
  have e0 : DG m c (ix2 p k) = a0 m c (ix2 p k) := by
    show V m c main_v0 (ix2 p k) = _
    entry_read
    pointwise
  have e1 : WU m c (ix3 0 q ⟨k.val, by omega⟩) = a1 m c (ix3 0 q ⟨k.val, by omega⟩) := by
    show V m c main_v1 (ix3 0 q _) = _
    entry_read
    pointwise
  rw [e0, e1]

end Cert.KernelEIdeal.Arrays
end
-- ==== Proof.M.ClaimsE.lean ====
module
public import proofs.«01_k».proof.Defs
public import proofs.«01_k».proof.Proof.M.UpRows
public import proofs.«01_k».proof.Proof.Gen.KernelE.Frame
public import proofs.«01_k».proof.Proof.Gen.ReferenceEIdeal.Run
public import Idealize.ShloMosaic.Adequacy
public import Idealize.ShloMosaic.Init
@[expose] public section
set_option maxRecDepth 16384
noncomputable section
/-! The claims about the rows' gradient through the gate's columns of the up projection. -/
namespace Cert.ClaimsE
open Idealize.ShloMosaic Idealize.ShloMosaic.TcCoe Idealize.ShloMosaic.Pointwise Idealize.SL.Sem

theorem frame : Cert.quiescent_KernelE := fun m ρ _ => Cert.KernelE.Gen.frame m ρ
theorem frame_ideal : Cert.quiescent_KernelEIdeal := fun m ρ _ => Cert.KernelEIdeal.Gen.frame m ρ
theorem frame_ref : Cert.quiescent_ReferenceEIdeal := fun m ρ _ =>
  (θ_run Cert.ReferenceEIdeal.defs _ _).mono (fun r h => ⟨fun c => (h c).2, Idealize.ShloMosaic.sem_eq_zero_of_no_sems (by decide) r.2⟩)
    (Cert.ReferenceEIdeal.Value.run (F := Ideal) m ρ)

open ReferenceEIdeal ReferenceEIdeal.Gen in
/-- What the reference computes. -/
def ref (a0 : FVec Ideal S4096x2816 .f32) (a1 : FVec Ideal S2x1024x5632 .f32) : FVec Ideal S4096x1024 .f32 :=
  Host.dotGeneral dot_S4096x2816_S1024x2816_S4096x1024_1_1_0_0_n_n none a0 (extractStridedSlice S1024x2816 ![0, 0] (shapeCast _ (extractStridedSlice S1x1024x5632 ![0, 0, 0] a1 slices_S2x1024x5632_S1x1024x5632_0_0_0) shapeCasts_S1x1024x5632_S1024x5632) slices_S1024x5632_S1024x2816_0_0)

open KernelEIdeal.Arrays in
/-- The kernel's array is the reference's. -/
theorem ge_eq (m : (ℓ : Loc KernelEIdeal.nD KernelEIdeal.τ KernelEIdeal.sig) → Buf (Elt Ideal) ℓ) (c : Dev KernelEIdeal.nD) :
    ge m c = ref (a0 m c) (a1 m c) := by
  funext j
  obtain ⟨p, q, rfl⟩ : ∃ (p : Fin 4096) (q : Fin 1024), j = ix2 p q := ⟨j 0, j 1, eq_ix2 j⟩
  rw [ge_apply]
  symm
  pointwise [ref]

theorem algebraic : Cert.algebraic_KernelEIdeal_ReferenceEIdeal := by
  intro m ρ m' ρ' _ hagree
  refine ⟨fun c => KernelEIdeal.Arrays.ge m c, ?_, ?_⟩
  · exact (θ_run Cert.KernelEIdeal.defs _ _).mono
      (fun _ h c => ⟨(h c).1.trans (KernelEIdeal.Arrays.final2 m c), (h c).2⟩)
      (Cert.KernelEIdeal.Value.run_blocks (F := Ideal) m ρ)
  · refine (θ_run Cert.ReferenceEIdeal.defs _ _).mono (fun _ h c => ⟨(h c).1.trans ?_, (h c).2⟩)
      (Cert.ReferenceEIdeal.Value.run (F := Ideal) m' ρ')
    show _ = KernelEIdeal.Arrays.ge m c
    rw [ge_eq m c, (hagree c).1, (hagree c).2]
    rfl

end Cert.ClaimsE
end
-- ==== Proof.M.Norm.lean ====
module
public import proofs.«01_k».proof.Proof.X.Quotient
public import proofs.«01_k».proof.Proof.X.Finite
@[expose] public section
noncomputable section
/-! The two gradients of a row's norm are equal where the row, the gain and the incoming gradient are real. -/
namespace Cert.NormRow
open Idealize.ShloMosaic
open Cert.Real (Is)

/-- The length of a row. -/
abbrev len : EReal := Ideal.ofBits .f32 0x44800000#32
/-- What keeps the norm from dividing by zero. -/
abbrev eps : EReal := Ideal.ofBits .f32 0x358637BD#32
/-- Minus one half. -/
abbrev mhalf : EReal := Ideal.ofBits .f32 0xBF000000#32

theorem len_eq : len = ((1024 : ℝ) : EReal) := by
  simp [len, Ideal.ofBits, Ideal.ieee]
  norm_cast
  norm_num
theorem mhalf_eq : mhalf = ((-(1 / 2) : ℝ) : EReal) := by
  simp [mhalf, Ideal.ofBits, Ideal.ieee]
  norm_cast
  norm_num
theorem eps_eq : ∃ e : ℝ, 0 < e ∧ eps = (e : EReal) := by
  refine ⟨_, ?_, by simp [eps, Ideal.ofBits, Ideal.ieee]; norm_cast⟩
  norm_num

/-- The mean square of a row, made positive. -/
def var (x : Fin 1024 → EReal) : EReal := Ideal.div (∑ k, x k * x k) len + eps
/-- The row's scale. -/
def inv (x : Fin 1024 → EReal) : EReal := Ideal.rsqrt (var x)

/-- The row's gradient, as the derivative of the normalised row. -/
def dxk (x d : Fin 1024 → EReal) (j : Fin 1024) : EReal :=
  inv x * (d j - x j * inv x * Ideal.div (∑ k, d k * (x k * inv x)) len)
/-- The row's gradient, term by term. -/
def dxs (x d : Fin 1024 → EReal) : EReal :=
  Ideal.div ((∑ k, x k * d k) * (mhalf * Ideal.div (inv x) (var x))) len

/-- The two are equal, on whatever they are added to. -/
theorem dx_eq (y : EReal) (x d : Fin 1024 → EReal) (hx : ∀ k, Is (x k)) (hd : ∀ k, Is (d k)) (j : Fin 1024) :
    y + dxk x d j = y + d j * inv x + x j * dxs x d + dxs x d * x j := by
  choose a ha using hx
  choose b hb using hd
  obtain rfl : x = fun k => (a k : EReal) := funext ha
  obtain rfl : d = fun k => (b k : EReal) := funext hb
  obtain ⟨e, he, hee⟩ := eps_eq
  have hv : var (fun k => (a k : EReal)) = (((∑ k, a k * a k) * (1 / 1024) + e : ℝ) : EReal) := by
    unfold var
    simp only [← EReal.coe_mul, Row.coe_sum]
    rw [len_eq, hee, Ideal.div_coe (by norm_num), ← EReal.coe_mul, ← EReal.coe_add]
  set v : ℝ := (∑ k, a k * a k) * (1 / 1024) + e with hv'
  have hpos : 0 < v := by
    have : 0 ≤ ∑ k, a k * a k := Finset.sum_nonneg fun k _ => mul_self_nonneg _
    positivity
  have hr : inv (fun k => (a k : EReal)) = (((Real.sqrt v)⁻¹ : ℝ) : EReal) := by
    unfold inv
    rw [hv, Ideal.rsqrt_coe, if_neg hpos.not_gt, if_neg hpos.ne']
  set r : ℝ := (Real.sqrt v)⁻¹ with hr'
  have hrr : r * r * v = 1 := by
    have h := Real.mul_self_sqrt hpos.le
    have h0 := (Real.sqrt_pos.mpr hpos).ne'
    rw [hr']
    field_simp
    rw [pow_two, h]
  set w : ℝ := ∑ k, a k * b k with hw
  have e1 : dxk (fun k => (a k : EReal)) (fun k => (b k : EReal)) j = ((r * (b j - a j * r * (w * r * (1 / 1024))) : ℝ) : EReal) := by
    unfold dxk
    rw [hr]
    simp only [← EReal.coe_mul, Row.coe_sum]
    rw [len_eq, Ideal.div_coe (by norm_num), ← EReal.coe_mul, ← EReal.coe_mul, ← EReal.coe_sub, ← EReal.coe_mul]
    refine congrArg _ ?_
    rw [show ∑ k, b k * (a k * r) = w * r from by rw [hw, Finset.sum_mul]; exact Finset.sum_congr rfl fun k _ => by ring]
  have e2 : dxs (fun k => (a k : EReal)) (fun k => (b k : EReal)) = ((w * (-(1 / 2) * (r * (1 / v))) * (1 / 1024) : ℝ) : EReal) := by
    unfold dxs
    rw [hr, hv, len_eq, mhalf_eq]
    simp only [← EReal.coe_mul, Row.coe_sum]
    rw [Ideal.div_coe hpos.ne', Ideal.div_coe (by norm_num)]
    simp only [← EReal.coe_mul]
    rfl
  rw [e1, e2, hr]
  simp only [← EReal.coe_mul]
  rw [add_assoc, add_assoc, ← EReal.coe_add, ← EReal.coe_add]
  refine congrArg _ (congrArg _ ?_)
  have : 1 / v = r * r := by field_simp; linarith
  rw [this]
  ring

end Cert.NormRow
end
-- ==== Proof.M.NormBlock.lean ====
module
public import proofs.«01_k».proof.Proof.Gen.KernelVIdeal.Value
public import proofs.«01_k».proof.Proof.M.Norm
public import Idealize.ShloMosaic.Lib.Pipeline.ValueKit
public import Idealize.ShloMosaic.Lib.Pointwise
@[expose] public section
set_option maxRecDepth 16384
noncomputable section
/-! What a block of the norm's gradient holds. -/
namespace Cert.KernelVIdeal.Block
open Cert.KernelVIdeal Cert.KernelVIdeal.Gen Idealize.ShloMosaic Idealize.ShloMosaic.TcCoe Idealize.SL.Sem
open Idealize.ShloMosaic.Pointwise

/-- A row's incoming gradient: the product's and the one that comes with it. -/
def up (x0 : Vec Ideal S256x2816 .bf16) (x1 : Vec Ideal S1x1024x2816 .bf16) (x2 : Vec Ideal S256x1024 .f32) (p : Fin 256) (q : Fin 1024) : EReal :=
  (∑ k : Fin 2816, x0 (ix2 p k) * x1 (ix3 0 q k)) + x2 (ix2 p q)
/-- A row. -/
abbrev row (x : Vec Ideal S256x1024 .f32) (p : Fin 256) (k : Fin 1024) : EReal := x (ix2 p k)

section
variable (x0 : Vec Ideal S256x2816 .bf16) (x1 : Vec Ideal S1x1024x2816 .bf16) (x2 x3 : Vec Ideal S256x1024 .f32) (x4 : Vec Ideal S1x1024 .f32) (x5 : Vec Ideal S256x1024 .f32)

theorem pay3 (p : Fin 256) (q : Fin 1024) : k0_pay3 x0 x1 x2 (ix2 p q) = up x0 x1 x2 p q := by
  unfold up
  pointwise [k0_pay3]
theorem pay4 (p : Fin 256) : k0_pay4 x3 (ix2 p 0) = NormRow.inv (row x3 p) := by
  unfold NormRow.inv NormRow.var
  pointwise [k0_pay4]
theorem pay5 (p : Fin 256) (q : Fin 1024) : k0_pay5 x3 (ix2 p q) = row x3 p q * NormRow.inv (row x3 p) := by
  rw [← pay4]
  pointwise [k0_pay5]
theorem pay6 (q : Fin 1024) : k0_pay6 x0 x1 x2 x3 (ix2 0 q) = ∑ p : Fin 256, up x0 x1 x2 p q * (row x3 p q * NormRow.inv (row x3 p)) := by
  simp only [← pay5, ← pay3]
  pointwise [k0_pay6]
theorem pay8 (p : Fin 256) (q : Fin 1024) : k0_pay8 x0 x1 x2 x4 (ix2 p q) = up x0 x1 x2 p q * x4 (ix2 0 q) := by
  rw [← pay3]
  pointwise [k0_pay8]
theorem pay9 (p : Fin 256) (q : Fin 1024) : k0_pay9 x0 x1 x2 x3 x4 (ix2 p q) = (up x0 x1 x2 p q * x4 (ix2 0 q)) * (row x3 p q * NormRow.inv (row x3 p)) := by
  rw [← pay5, ← pay8]
  pointwise [k0_pay9]
theorem pay1 (p : Fin 256) (q : Fin 1024) : k0_pay1 (k0_pay4 x3) (k0_pay5 x3) (k0_pay8 x0 x1 x2 x4) x5 (k0_pay9 x0 x1 x2 x3 x4) (ix2 p q)
    = x5 (ix2 p q) + NormRow.dxk (row x3 p) (fun k => up x0 x1 x2 p k * x4 (ix2 0 k)) q := by
  unfold NormRow.dxk
  have e : (∑ k : Fin 1024, (up x0 x1 x2 p k * x4 (ix2 0 k)) * (row x3 p k * NormRow.inv (row x3 p)))
      = ∑ k : Fin 1024, k0_pay9 x0 x1 x2 x3 x4 (ix2 p k) := Finset.sum_congr rfl fun k _ => (pay9 x0 x1 x2 x3 x4 p k).symm
  rw [e, ← pay5, ← pay4]
  dsimp only
  rw [← pay8]
  pointwise [k0_pay1]
end

theorem out_A6     (c : Dev nD) (i : grid0.Coords) (b0 : Memref sig .tc .vmem S256x2816 .bf16) (h0 : b0.IsWhole)
    (b1 : Memref sig .tc .vmem S1x1024x2816 .bf16) (h1 : b1.IsWhole)
    (b2 : Memref sig .tc .vmem S256x1024 .f32) (h2 : b2.IsWhole)
    (b3 : Memref sig .tc .vmem S256x1024 .f32) (h3 : b3.IsWhole)
    (b4 : Memref sig .tc .vmem S1x1024 .f32) (h4 : b4.IsWhole)
    (b5 : Memref sig .tc .vmem S256x1024 .f32) (h5 : b5.IsWhole)
    (b6 : Memref sig .tc .vmem S256x1024 .f32) (h6 : b6.IsWhole)
    (b7 : Memref sig .tc .vmem S1x1024 .f32) (h7 : b7.IsWhole)
    (b8 : Memref sig .tc .vmem S256x1024 .bf16) (h8 : b8.IsWhole)
    (b9 : Memref sig .tc .vmem S8x128 .f32) (h9 : b9.IsWhole)
    (hc0 : cond0_0 i) (hc1 : ¬cond0_1 i)
    (x0 : Vec Ideal S256x2816 .bf16) (x1 : Vec Ideal S1x1024x2816 .bf16) (x2 x3 : Vec Ideal S256x1024 .f32) (x4 : Vec Ideal S1x1024 .f32) (x5 : Vec Ideal S256x1024 .f32) (p : Fin 256) (q : Fin 1024) :
    out0_A_6 c i b0 h0 b1 h1 b2 h2 b3 h3 b4 h4 b5 h5 b6 h6 b7 h7 b8 h8 b9 h9 hc0 hc1 x0 x1 x2 x3 x4 x5 (ix2 p q) = x5 (ix2 p q) + NormRow.dxk (row x3 p) (fun k => up x0 x1 x2 p k * x4 (ix2 0 k)) q := by
  frame_out
  rw [← pay1]

theorem out_A7     (c : Dev nD) (i : grid0.Coords) (b0 : Memref sig .tc .vmem S256x2816 .bf16) (h0 : b0.IsWhole)
    (b1 : Memref sig .tc .vmem S1x1024x2816 .bf16) (h1 : b1.IsWhole)
    (b2 : Memref sig .tc .vmem S256x1024 .f32) (h2 : b2.IsWhole)
    (b3 : Memref sig .tc .vmem S256x1024 .f32) (h3 : b3.IsWhole)
    (b4 : Memref sig .tc .vmem S1x1024 .f32) (h4 : b4.IsWhole)
    (b5 : Memref sig .tc .vmem S256x1024 .f32) (h5 : b5.IsWhole)
    (b6 : Memref sig .tc .vmem S256x1024 .f32) (h6 : b6.IsWhole)
    (b7 : Memref sig .tc .vmem S1x1024 .f32) (h7 : b7.IsWhole)
    (b8 : Memref sig .tc .vmem S256x1024 .bf16) (h8 : b8.IsWhole)
    (b9 : Memref sig .tc .vmem S8x128 .f32) (h9 : b9.IsWhole)
    (hc0 : cond0_0 i) (hc1 : ¬cond0_1 i)
    (x0 : Vec Ideal S256x2816 .bf16) (x1 : Vec Ideal S1x1024x2816 .bf16) (x2 x3 : Vec Ideal S256x1024 .f32) (x4 : Vec Ideal S1x1024 .f32) (x5 : Vec Ideal S256x1024 .f32) (q : Fin 1024) :
    out0_A_7 c i b0 h0 b1 h1 b2 h2 b3 h3 b4 h4 b5 h5 b6 h6 b7 h7 b8 h8 b9 h9 hc0 hc1 x0 x1 x2 x3 x4 x5 (ix2 0 q) = ∑ p : Fin 256, up x0 x1 x2 p q * (row x3 p q * NormRow.inv (row x3 p)) := by
  frame_out
  rw [← pay6]

theorem out_A8     (c : Dev nD) (i : grid0.Coords) (b0 : Memref sig .tc .vmem S256x2816 .bf16) (h0 : b0.IsWhole)
    (b1 : Memref sig .tc .vmem S1x1024x2816 .bf16) (h1 : b1.IsWhole)
    (b2 : Memref sig .tc .vmem S256x1024 .f32) (h2 : b2.IsWhole)
    (b3 : Memref sig .tc .vmem S256x1024 .f32) (h3 : b3.IsWhole)
    (b4 : Memref sig .tc .vmem S1x1024 .f32) (h4 : b4.IsWhole)
    (b5 : Memref sig .tc .vmem S256x1024 .f32) (h5 : b5.IsWhole)
    (b6 : Memref sig .tc .vmem S256x1024 .f32) (h6 : b6.IsWhole)
    (b7 : Memref sig .tc .vmem S1x1024 .f32) (h7 : b7.IsWhole)
    (b8 : Memref sig .tc .vmem S256x1024 .bf16) (h8 : b8.IsWhole)
    (b9 : Memref sig .tc .vmem S8x128 .f32) (h9 : b9.IsWhole)
    (hc0 : cond0_0 i) (hc1 : ¬cond0_1 i)
    (x0 : Vec Ideal S256x2816 .bf16) (x1 : Vec Ideal S1x1024x2816 .bf16) (x2 x3 : Vec Ideal S256x1024 .f32) (x4 : Vec Ideal S1x1024 .f32) (x5 : Vec Ideal S256x1024 .f32) (p : Fin 256) (q : Fin 1024) :
    out0_A_8 c i b0 h0 b1 h1 b2 h2 b3 h3 b4 h4 b5 h5 b6 h6 b7 h7 b8 h8 b9 h9 hc0 hc1 x0 x1 x2 x3 x4 x5 (ix2 p q) = x5 (ix2 p q) + NormRow.dxk (row x3 p) (fun k => up x0 x1 x2 p k * x4 (ix2 0 k)) q := by
  frame_out
  rw [← pay1]
  pointwise [k0_pay2]

theorem out_B6     (c : Dev nD) (i : grid0.Coords) (b0 : Memref sig .tc .vmem S256x2816 .bf16) (h0 : b0.IsWhole)
    (b1 : Memref sig .tc .vmem S1x1024x2816 .bf16) (h1 : b1.IsWhole)
    (b2 : Memref sig .tc .vmem S256x1024 .f32) (h2 : b2.IsWhole)
    (b3 : Memref sig .tc .vmem S256x1024 .f32) (h3 : b3.IsWhole)
    (b4 : Memref sig .tc .vmem S1x1024 .f32) (h4 : b4.IsWhole)
    (b5 : Memref sig .tc .vmem S256x1024 .f32) (h5 : b5.IsWhole)
    (b6 : Memref sig .tc .vmem S256x1024 .f32) (h6 : b6.IsWhole)
    (b7 : Memref sig .tc .vmem S1x1024 .f32) (h7 : b7.IsWhole)
    (b8 : Memref sig .tc .vmem S256x1024 .bf16) (h8 : b8.IsWhole)
    (b9 : Memref sig .tc .vmem S8x128 .f32) (h9 : b9.IsWhole)
    (hc0 : ¬cond0_0 i) (hc1 : cond0_1 i)
    (x0 : Vec Ideal S256x2816 .bf16) (x1 : Vec Ideal S1x1024x2816 .bf16) (x2 x3 : Vec Ideal S256x1024 .f32) (x4 : Vec Ideal S1x1024 .f32) (x5 : Vec Ideal S256x1024 .f32) (y : Vec Ideal S1x1024 .f32) (p : Fin 256) (q : Fin 1024) :
    out0_B_6 c i b0 h0 b1 h1 b2 h2 b3 h3 b4 h4 b5 h5 b6 h6 b7 h7 b8 h8 b9 h9 hc0 hc1 x0 x1 x2 x3 x4 x5 y (ix2 p q) = x5 (ix2 p q) + NormRow.dxk (row x3 p) (fun k => up x0 x1 x2 p k * x4 (ix2 0 k)) q := by
  frame_out
  rw [← pay1]

theorem out_B7     (c : Dev nD) (i : grid0.Coords) (b0 : Memref sig .tc .vmem S256x2816 .bf16) (h0 : b0.IsWhole)
    (b1 : Memref sig .tc .vmem S1x1024x2816 .bf16) (h1 : b1.IsWhole)
    (b2 : Memref sig .tc .vmem S256x1024 .f32) (h2 : b2.IsWhole)
    (b3 : Memref sig .tc .vmem S256x1024 .f32) (h3 : b3.IsWhole)
    (b4 : Memref sig .tc .vmem S1x1024 .f32) (h4 : b4.IsWhole)
    (b5 : Memref sig .tc .vmem S256x1024 .f32) (h5 : b5.IsWhole)
    (b6 : Memref sig .tc .vmem S256x1024 .f32) (h6 : b6.IsWhole)
    (b7 : Memref sig .tc .vmem S1x1024 .f32) (h7 : b7.IsWhole)
    (b8 : Memref sig .tc .vmem S256x1024 .bf16) (h8 : b8.IsWhole)
    (b9 : Memref sig .tc .vmem S8x128 .f32) (h9 : b9.IsWhole)
    (hc0 : ¬cond0_0 i) (hc1 : cond0_1 i)
    (x0 : Vec Ideal S256x2816 .bf16) (x1 : Vec Ideal S1x1024x2816 .bf16) (x2 x3 : Vec Ideal S256x1024 .f32) (x4 : Vec Ideal S1x1024 .f32) (x5 : Vec Ideal S256x1024 .f32) (y : Vec Ideal S1x1024 .f32) (q : Fin 1024) :
    out0_B_7 c i b0 h0 b1 h1 b2 h2 b3 h3 b4 h4 b5 h5 b6 h6 b7 h7 b8 h8 b9 h9 hc0 hc1 x0 x1 x2 x3 x4 x5 y (ix2 0 q) = y (ix2 0 q) + ∑ p : Fin 256, up x0 x1 x2 p q * (row x3 p q * NormRow.inv (row x3 p)) := by
  frame_out
  rw [← pay6]
  pointwise [k0_pay7]

theorem out_B8     (c : Dev nD) (i : grid0.Coords) (b0 : Memref sig .tc .vmem S256x2816 .bf16) (h0 : b0.IsWhole)
    (b1 : Memref sig .tc .vmem S1x1024x2816 .bf16) (h1 : b1.IsWhole)
    (b2 : Memref sig .tc .vmem S256x1024 .f32) (h2 : b2.IsWhole)
    (b3 : Memref sig .tc .vmem S256x1024 .f32) (h3 : b3.IsWhole)
    (b4 : Memref sig .tc .vmem S1x1024 .f32) (h4 : b4.IsWhole)
    (b5 : Memref sig .tc .vmem S256x1024 .f32) (h5 : b5.IsWhole)
    (b6 : Memref sig .tc .vmem S256x1024 .f32) (h6 : b6.IsWhole)
    (b7 : Memref sig .tc .vmem S1x1024 .f32) (h7 : b7.IsWhole)
    (b8 : Memref sig .tc .vmem S256x1024 .bf16) (h8 : b8.IsWhole)
    (b9 : Memref sig .tc .vmem S8x128 .f32) (h9 : b9.IsWhole)
    (hc0 : ¬cond0_0 i) (hc1 : cond0_1 i)
    (x0 : Vec Ideal S256x2816 .bf16) (x1 : Vec Ideal S1x1024x2816 .bf16) (x2 x3 : Vec Ideal S256x1024 .f32) (x4 : Vec Ideal S1x1024 .f32) (x5 : Vec Ideal S256x1024 .f32) (y : Vec Ideal S1x1024 .f32) (p : Fin 256) (q : Fin 1024) :
    out0_B_8 c i b0 h0 b1 h1 b2 h2 b3 h3 b4 h4 b5 h5 b6 h6 b7 h7 b8 h8 b9 h9 hc0 hc1 x0 x1 x2 x3 x4 x5 y (ix2 p q) = x5 (ix2 p q) + NormRow.dxk (row x3 p) (fun k => up x0 x1 x2 p k * x4 (ix2 0 k)) q := by
  frame_out
  rw [← pay1]
  pointwise [k0_pay2]

end Cert.KernelVIdeal.Block
end
-- ==== Proof.M.NormRows.lean ====
module
public import proofs.«01_k».proof.Proof.M.NormBlock
@[expose] public section
set_option maxRecDepth 16384
noncomputable section
/-! What the arrays of the norm's gradient hold after the run. -/
namespace Cert.KernelVIdeal.Arrays
open Cert.KernelVIdeal Cert.KernelVIdeal.Gen Idealize.ShloMosaic Idealize.ShloMosaic.TcCoe Idealize.SL.Sem
open Idealize.ShloMosaic.Pointwise
open Idealize.ShloMosaic.Pipeline (Dat)
open Block

variable (m : (ℓ : Loc nD τ sig) → Buf (Elt Ideal) ℓ) (ρ : Dev nD → PrngReg)

theorem idx0 : ∀ t : Fin cfg0.N, win0_0.index t 0 = t.val ∧ win0_0.index t 1 = 0 ∧ win0_1.index t 0 = 0 ∧ win0_1.index t 1 = 0 ∧ win0_1.index t 2 = 1
    ∧ win0_2.index t 0 = t.val ∧ win0_2.index t 1 = 0 ∧ win0_3.index t 0 = t.val ∧ win0_3.index t 1 = 0 ∧ win0_4.index t 0 = 0 ∧ win0_4.index t 1 = 0
    ∧ win0_5.index t 0 = t.val ∧ win0_5.index t 1 = 0 ∧ win0_7.index t 0 = 0 ∧ win0_7.index t 1 = 0 :=
  (by decide +kernel : ∀ t : Fin grid0.N, _)
theorem idx6 : ∀ t : Fin cfg0.N, win0_6.index t 0 = t.val ∧ win0_6.index t 1 = 0 := (by decide +kernel : ∀ t : Fin grid0.N, _)
theorem idx8 : ∀ t : Fin cfg0.N, win0_8.index t 0 = t.val ∧ win0_8.index t 1 = 0 := (by decide +kernel : ∀ t : Fin grid0.N, _)

abbrev a0 (c : Dev nD) : FVec Ideal S4096x1024 .f32 := m ((c : Thread nD τ).loc main_arg0)
abbrev a1 (c : Dev nD) : FVec Ideal S1x1024 .f32 := m ((c : Thread nD τ).loc main_arg1)
abbrev a2 (c : Dev nD) : FVec Ideal S2x1024x5632 .f32 := m ((c : Thread nD τ).loc main_arg2)
abbrev a3 (c : Dev nD) : FVec Ideal S4096x1024 .f32 := m ((c : Thread nD τ).loc main_arg3)
abbrev a4 (c : Dev nD) : FVec Ideal S4096x2816 .f32 := m ((c : Thread nD τ).loc main_arg4)
abbrev a5 (c : Dev nD) : FVec Ideal S4096x1024 .f32 := m ((c : Thread nD τ).loc main_arg5)

/-- The gradient of the normalised rows: the product with the value's columns and the gradient that comes with it. -/
def UP (c : Dev nD) (r : Fin 4096) (q : Fin 1024) : EReal :=
  (∑ k : Fin 2816, a4 m c (ix2 r k) * a2 m c (ix3 0 q ⟨2816 + k.val, by omega⟩)) + a3 m c (ix2 r q)
/-- The rows. -/
abbrev X (c : Dev nD) (r : Fin 4096) (k : Fin 1024) : EReal := a0 m c (ix2 r k)

/-- The gradient of the rows. -/
def gdx (c : Dev nD) : Vec Ideal S4096x1024 .f32 := fun j =>
  a5 m c j + NormRow.dxk (X m c (j 0)) (fun k => UP m c (j 0) k * a1 m c (ix2 0 k)) (j 1)
/-- The same in the narrow type. -/
def gdxn (c : Dev nD) : Vec Ideal S4096x1024 .bf16 := fun j => gdx m c j
/-- The gradient of the gain. -/
def gdg (c : Dev nD) : Vec Ideal S1x1024 .f32 := fun j =>
  ∑ r : Fin 4096, UP m c r (j 1) * (X m c r (j 1) * NormRow.inv (X m c r))

/-- The array's row that a block's row is. -/
abbrev at' (t : Fin cfg0.N) (p : Fin 256) : Fin 4096 := ⟨t.val * 256 + p.val, by have := t.isLt; have : cfg0.N = 16 := N_0; omega⟩

theorem up_eq (c : Dev nD) (t : Fin cfg0.N) (p : Fin 256) (q : Fin 1024) :
    up (iblk m c 0 t) (iblk m c 1 t) (iblk m c 2 t) p q = UP m c (at' t p) q := by
  have e0 (k : Fin 2816) : iblk m c 0 t (ix2 p k) = a4 m c (ix2 (at' t p) k) := by
    have e : (iblk m c 0 t (ix2 p k) : EReal) = (V m c main_v0 : FVec Ideal S4096x2816 .bf16) (ix2 (at' t p) k) := by blk_ext [iblk, idx0 t]
    refine e.trans ?_
    show V m c main_v0 (ix2 (at' t p) k) = _
    entry_read
    pointwise
  have e1 (k : Fin 2816) : iblk m c 1 t (ix3 0 q k) = a2 m c (ix3 0 q ⟨2816 + k.val, by omega⟩) := by
    have e : (iblk m c 1 t (ix3 0 q k) : EReal) = (V m c main_v1 : FVec Ideal S2x1024x5632 .bf16) (ix3 0 q ⟨2816 + k.val, by omega⟩) := by blk_ext [iblk, idx0 t]
    refine e.trans ?_
    show V m c main_v1 (ix3 0 q ⟨2816 + k.val, _⟩) = _
    entry_read
    pointwise
  have e2 : iblk m c 2 t (ix2 p q) = a3 m c (ix2 (at' t p) q) := by
    have e : (iblk m c 2 t (ix2 p q) : EReal) = (V m c main_arg3 : FVec Ideal S4096x1024 .f32) (ix2 (at' t p) q) := by blk_ext [iblk, idx0 t]
    refine e.trans ?_
    show V m c main_arg3 (ix2 (at' t p) q) = _
    entry_read
    rfl
  unfold up UP
  rw [e2]
  exact congrArg (· + _) (Finset.sum_congr rfl fun k _ => by rw [e0, e1])

theorem row_eq (c : Dev nD) (t : Fin cfg0.N) (p : Fin 256) : row (iblk m c 3 t) p = X m c (at' t p) := by
  funext k
  have e : (iblk m c 3 t (ix2 p k) : EReal) = (V m c main_arg0 : FVec Ideal S4096x1024 .f32) (ix2 (at' t p) k) := by blk_ext [iblk, idx0 t]
  refine e.trans ?_
  show V m c main_arg0 (ix2 (at' t p) k) = _
  entry_read
  rfl
/-- The gain's block. -/
abbrev gn (c : Dev nD) (t : Fin cfg0.N) : FVec Ideal S1x1024 .f32 := iblk m c 4 t
/-- The block of what is added. -/
abbrev sk (c : Dev nD) (t : Fin cfg0.N) : FVec Ideal S256x1024 .f32 := iblk m c 5 t
theorem gain_eq (c : Dev nD) (t : Fin cfg0.N) (k : Fin 1024) : gn m c t (ix2 0 k) = a1 m c (ix2 0 k) := by
  have e : gn m c t (ix2 0 k) = (V m c main_arg1 : FVec Ideal S1x1024 .f32) (ix2 0 k) := by blk_ext [iblk, idx0 t]
  refine e.trans ?_
  show V m c main_arg1 (ix2 0 k) = _
  entry_read
  rfl
theorem skip_eq (c : Dev nD) (t : Fin cfg0.N) (p : Fin 256) (q : Fin 1024) : sk m c t (ix2 p q) = a5 m c (ix2 (at' t p) q) := by
  have e : sk m c t (ix2 p q) = (V m c main_arg5 : FVec Ideal S4096x1024 .f32) (ix2 (at' t p) q) := by blk_ext [iblk, idx0 t]
  refine e.trans ?_
  show V m c main_arg5 (ix2 (at' t p) q) = _
  entry_read
  rfl

/-- A block's gradient is the array's rows. -/
theorem dx_eq (c : Dev nD) (t : Fin cfg0.N) (p : Fin 256) (q : Fin 1024) :
    sk m c t (ix2 p q) + NormRow.dxk (row (iblk m c 3 t) p) (fun k => up (iblk m c 0 t) (iblk m c 1 t) (iblk m c 2 t) p k * gn m c t (ix2 0 k)) q
      = gdx m c (ix2 (at' t p) q) := by
  rw [skip_eq, row_eq]
  have e : (fun k => up (iblk m c 0 t) (iblk m c 1 t) (iblk m c 2 t) p k * gn m c t (ix2 0 k)) = fun k => UP m c (at' t p) k * a1 m c (ix2 0 k) :=
    funext fun k => by rw [up_eq, gain_eq]
  rw [e]
  rfl

theorem first (t : Fin cfg0.N) (h : t.val % 16 = 0) : ¬ 1 ≤ t.val := by have := t.isLt; have : cfg0.N = 16 := N_0; omega
theorem later (t : Fin cfg0.N) (h : ¬ t.val % 16 = 0) : 1 ≤ t.val := by omega

theorem outs6 (c : Dev nD) (t : Fin cfg0.N) (p : Fin 256) (q : Fin 1024) : (outsAt0 m c t.val t.isLt).1 (ix2 p q) = gdx m c (ix2 (at' t p) q) := by
  rw [← dx_eq]
  by_cases h0 : t.val % 16 = 0
  · rw [outsAt0_A m c t h0 (first t h0)]; dsimp only; rw [out_A6]
  · rw [outsAt0_B m c t h0 (later t h0)]; dsimp only; rw [out_B6]
theorem outs8 (c : Dev nD) (t : Fin cfg0.N) (p : Fin 256) (q : Fin 1024) : (outsAt0 m c t.val t.isLt).2.2 (ix2 p q) = gdx m c (ix2 (at' t p) q) := by
  rw [← dx_eq]
  by_cases h0 : t.val % 16 = 0
  · rw [outsAt0_A m c t h0 (first t h0)]; dsimp only; rw [out_A8]
  · rw [outsAt0_B m c t h0 (later t h0)]; dsimp only; rw [out_B8]

/-- The gradient of the gain after the last point. -/
theorem outs7 (c : Dev nD) (q : Fin 1024) :
    (outsAt0 m c t0_15.val t0_15.isLt).2.1 (ix2 0 q)
      = ∑ t : Fin cfg0.N, ∑ p : Fin 256, up (iblk m c 0 t) (iblk m c 1 t) (iblk m c 2 t) p q * (row (iblk m c 3 t) p q * NormRow.inv (row (iblk m c 3 t) p)) := by
  rw [Pipeline.eq_sum_fin_of_reset_step_apply_last (fun n h => (outsAt0 m c n h).2.1) 16 (fun _ => 0)
      (fun t j => ∑ p : Fin 256, up (iblk m c 0 t) (iblk m c 1 t) (iblk m c 2 t) p (j 1) * (row (iblk m c 3 t) p (j 1) * NormRow.inv (row (iblk m c 3 t) p)))
      (fun t h j => by obtain ⟨a, b, rfl⟩ : ∃ (a : Fin 1) (b : Fin 1024), j = ix2 a b := ⟨j 0, j 1, eq_ix2 j⟩; obtain rfl : a = 0 := Subsingleton.elim _ _; rw [outsAt0_A m c t h (first t h)]; dsimp only; rw [out_A7]; exact (zero_add _).symm)
      (fun t h j => by obtain ⟨a, b, rfl⟩ : ∃ (a : Fin 1) (b : Fin 1024), j = ix2 a b := ⟨j 0, j 1, eq_ix2 j⟩; obtain rfl : a = 0 := Subsingleton.elim _ _; rw [outsAt0_B m c t h (later t h)]; dsimp only; rw [out_B7]; rfl) (le_of_eq N_0) t0_15 rfl (ix2 0 q), zero_add]
  rfl

theorem outs7' (c : Dev nD) : (outsAt0 m c t0_15.val t0_15.isLt).2.1 = gdg m c := by
  funext j
  obtain ⟨a, b, rfl⟩ : ∃ (a : Fin 1) (b : Fin 1024), j = ix2 a b := ⟨j 0, j 1, eq_ix2 j⟩
  obtain rfl : a = 0 := Subsingleton.elim _ _
  rw [outs7]
  unfold gdg
  refine Eq.trans ?_ (Fin.sum_mul_add_fin (S := 16) (n := 256) (L := 4096) fun r => UP m c r b * (X m c r b * NormRow.inv (X m c r)))
  refine Finset.sum_congr rfl fun t _ => Finset.sum_congr rfl fun p _ => ?_
  rw [up_eq, row_eq]

theorem flushed6_eq (c : Dev nD) (t : Fin cfg0.N) (_hf : (cfg0.win 6).flush t = true) :
    (dats m 0 c).flushed 6 t = ((cfg0.win 6).blk t).view.read (Elt Ideal) (gdx m c) := by
  rw [Value.flushed6]
  funext j
  obtain ⟨p, q, rfl⟩ : ∃ (p : Fin 256) (q : Fin 1024), j = ix2 p q := ⟨j 0, j 1, eq_ix2 j⟩
  have e : ((cfg0.win 6).blk t).view.read (Elt Ideal) (gdx m c) (ix2 p q) = gdx m c (ix2 (at' t p) q) := by
    blk_ext [idx6 t]
  rw [e]
  exact outs6 m c t p q
theorem flushed8_eq (c : Dev nD) (t : Fin cfg0.N) (_hf : (cfg0.win 8).flush t = true) :
    (dats m 0 c).flushed 8 t = ((cfg0.win 8).blk t).view.read (Elt Ideal) (gdxn m c) := by
  rw [Value.flushed8]
  funext j
  obtain ⟨p, q, rfl⟩ : ∃ (p : Fin 256) (q : Fin 1024), j = ix2 p q := ⟨j 0, j 1, eq_ix2 j⟩
  have e : ((cfg0.win 8).blk t).view.read (Elt Ideal) (gdxn m c) (ix2 p q) = gdxn m c (ix2 (at' t p) q) := by
    blk_ext [idx8 t]
  rw [e]
  exact outs8 m c t p q
/-- The one write-back of the gain's gradient. -/
theorem flushed7_eq (c : Dev nD) (t : Fin cfg0.N) (hf : (cfg0.win 7).flush t = true) :
    (dats m 0 c).flushed 7 t = ((cfg0.win 7).blk t).view.read (Elt Ideal) (gdg m c) := by
  have hN : cfg0.N = 16 := N_0
  have h3 : t.val = 15 := by have := (flush0_7 t).mp hf; have := t.isLt; omega
  obtain rfl : t = t0_15 := Fin.ext h3
  rw [Value.flushed7, outs7']
  have hz' : (fun a => win0_7.index t0_15 a * main_v2_1.ty.shape.size a) = fun _ => 0 := funext fun a => by fin_cases a <;> decide
  exact (Memref.read_access_unit_zero (Elt Ideal) main_v2_1 hz' (fun a => by rw [congrFun hz' a]; simp) (gdg m c)).symm

theorem final6 (c : Dev nD) : (dats m 0 c).arrAt 6 cfg0.N = gdx m c :=
  (dats m 0 c).arrAt_eq_of_cover 6 (gdx m c) (flushed6_eq m c) fun i =>
    have h0 : (i 0 : Nat) < 4096 := (i 0).isLt
    have h1 : (i 1 : Nat) < 1024 := (i 1).isLt
    have hN : cfg0.N = 16 := N_0
    let t : Fin cfg0.N := ⟨(i 0 : Nat) / 256, by omega⟩
    ⟨t, flush0_6 t, by
      show i ∈ ((View.whole main_v2_0).slice (win0_6.rect t)).set
      rw [View.set_slice_whole, Rect.mem_set_unit]
      have e := idx6 t
      have e' : win0_6.xsize (grid0.coords t) 0 = 256 ∧ win0_6.xsize (grid0.coords t) 1 = 1024 :=
        (by decide +kernel : ∀ t : Fin grid0.N, win0_6.xsize (grid0.coords t) 0 = 256 ∧ win0_6.xsize (grid0.coords t) 1 = 1024) t
      have ht : t.val = (i 0 : Nat) / 256 := rfl
      intro a
      match a with
      | ⟨0, _⟩ => show win0_6.index t 0 * 256 ≤ (i 0 : Nat) ∧ (i 0 : Nat) < win0_6.index t 0 * 256 + win0_6.xsize (grid0.coords t) 0
                  rw [e.1, e'.1]; omega
      | ⟨1, _⟩ => show win0_6.index t 1 * 1024 ≤ (i 1 : Nat) ∧ (i 1 : Nat) < win0_6.index t 1 * 1024 + win0_6.xsize (grid0.coords t) 1
                  rw [e.2, e'.2]; omega⟩
theorem final8 (c : Dev nD) : (dats m 0 c).arrAt 8 cfg0.N = gdxn m c :=
  (dats m 0 c).arrAt_eq_of_cover 8 (gdxn m c) (flushed8_eq m c) fun i =>
    have h0 : (i 0 : Nat) < 4096 := (i 0).isLt
    have h1 : (i 1 : Nat) < 1024 := (i 1).isLt
    have hN : cfg0.N = 16 := N_0
    let t : Fin cfg0.N := ⟨(i 0 : Nat) / 256, by omega⟩
    ⟨t, flush0_8 t, by
      show i ∈ ((View.whole main_v2_2).slice (win0_8.rect t)).set
      rw [View.set_slice_whole, Rect.mem_set_unit]
      have e := idx8 t
      have e' : win0_8.xsize (grid0.coords t) 0 = 256 ∧ win0_8.xsize (grid0.coords t) 1 = 1024 :=
        (by decide +kernel : ∀ t : Fin grid0.N, win0_8.xsize (grid0.coords t) 0 = 256 ∧ win0_8.xsize (grid0.coords t) 1 = 1024) t
      have ht : t.val = (i 0 : Nat) / 256 := rfl
      intro a
      match a with
      | ⟨0, _⟩ => show win0_8.index t 0 * 256 ≤ (i 0 : Nat) ∧ (i 0 : Nat) < win0_8.index t 0 * 256 + win0_8.xsize (grid0.coords t) 0
                  rw [e.1, e'.1]; omega
      | ⟨1, _⟩ => show win0_8.index t 1 * 1024 ≤ (i 1 : Nat) ∧ (i 1 : Nat) < win0_8.index t 1 * 1024 + win0_8.xsize (grid0.coords t) 1
                  rw [e.2, e'.2]; omega⟩
theorem final7 (c : Dev nD) : (dats m 0 c).arrAt 7 cfg0.N = gdg m c :=
  (dats m 0 c).arrAt_eq_of_cover 7 (gdg m c) (flushed7_eq m c) fun i =>
    ⟨t0_15, (flush0_7 t0_15).mpr rfl, by
      show i ∈ ((View.whole main_v2_1).slice (win0_7.rect t0_15)).set
      rw [View.set_slice_whole, Rect.mem_set_unit]
      intro a
      have h0 : (i 0 : Nat) < 1 := (i 0).isLt
      have h1 : (i 1 : Nat) < 1024 := (i 1).isLt
      match a with
      | ⟨0, _⟩ => show win0_7.index t0_15 0 * win0_7.size 0 ≤ (i 0 : Nat) ∧ (i 0 : Nat) < win0_7.index t0_15 0 * win0_7.size 0 + win0_7.xsize (grid0.coords t0_15) 0
                  rw [show win0_7.index t0_15 0 * win0_7.size 0 = 0 from by decide +kernel, show win0_7.xsize (grid0.coords t0_15) 0 = 1 from by decide +kernel]; omega
      | ⟨1, _⟩ => show win0_7.index t0_15 1 * win0_7.size 1 ≤ (i 1 : Nat) ∧ (i 1 : Nat) < win0_7.index t0_15 1 * win0_7.size 1 + win0_7.xsize (grid0.coords t0_15) 1
                  rw [show win0_7.index t0_15 1 * win0_7.size 1 = 0 from by decide +kernel, show win0_7.xsize (grid0.coords t0_15) 1 = 1024 from by decide +kernel]; omega⟩

end Cert.KernelVIdeal.Arrays
end
-- ==== Proof.M.NormReference.lean ====
module
public import proofs.«01_k».proof.Proof.M.Norm
public import proofs.«01_k».proof.Proof.Gen.ReferenceVIdeal.Run
public import Idealize.ShloMosaic.Lib.Pointwise
@[expose] public section
set_option maxRecDepth 16384
noncomputable section
/-! What the reference's gradient of the norm computes. -/
namespace Cert.ReferenceVIdeal.Arrays
open Cert.ReferenceVIdeal Cert.ReferenceVIdeal.Gen Cert.ReferenceVIdeal.Value Idealize.ShloMosaic Idealize.ShloMosaic.TcCoe Idealize.SL.Sem
open Idealize.ShloMosaic.Pointwise

/-- The gradient of the normalised rows. -/
def T (a2 : FVec Ideal S2x1024x5632 .f32) (a3 : FVec Ideal S4096x1024 .f32) (a4 : FVec Ideal S4096x2816 .f32) : FVec Ideal S4096x1024 .f32 :=
  addf a3 (Host.dotGeneral dot_S4096x2816_S1024x2816_S4096x1024_1_1_0_0_n_n none a4 (extractStridedSlice S1024x2816 ![0, 2816] (shapeCast _ (extractStridedSlice S1x1024x5632 ![0, 0, 0] a2 slices_S2x1024x5632_S1x1024x5632_0_0_0) shapeCasts_S1x1024x5632_S1024x5632) slices_S1024x5632_S1024x2816_0_2816))
/-- The rows' mean squares. -/
def W (a0 : FVec Ideal S4096x1024 .f32) : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The rows' scales. -/
def R (w : FVec Ideal S4096x1 .f32) : FVec Ideal S4096x1 .f32 := Host.rsqrt w
/-- The gradient times the gain. -/
def D (t : FVec Ideal S4096x1024 .f32) (a1 : FVec Ideal S1x1024 .f32) : FVec Ideal S4096x1024 .f32 :=
  mulf t (broadcastInDim S4096x1024 ![0, 1] bcast_S1x1024_S4096x1024_0_1 a1)
/-- The gradient of the rows' squares. -/
def Q (a0 d : FVec Ideal S4096x1024 .f32) (w r : FVec Ideal S4096x1 .f32) : FVec Ideal S4096x1 .f32 :=
  Host.divf (mulf (shapeCast _ (Host.reduceAdd (mulf a0 d) (constant S_ .f32 0x00000000#32) reducesTo_S4096x1024_S4096_d1 h_S_) shapeCasts_S4096_S4096x1) (mulf (broadcastInDim S4096x1 ![] bcast_S_S4096x1 (constant S_ .f32 0xBF000000#32)) (Host.divf r w))) (broadcastInDim S4096x1 ![] bcast_S_S4096x1 (constant S_ .f32 0x44800000#32))
/-- The same, one number for each row. -/
def S (q : FVec Ideal S4096x1 .f32) : FVec Ideal S4096 .f32 := Host.reduceAdd q (constant S_ .f32 0x00000000#32) reducesTo_S4096x1_S4096_d1 h_S_
/-- The gradient of the rows. -/
def dx (a0 a5 d : FVec Ideal S4096x1024 .f32) (r : FVec Ideal S4096x1 .f32) (s : FVec Ideal S4096 .f32) : FVec Ideal S4096x1024 .f32 :=
  addf (addf (addf a5 (mulf d (broadcastInDim S4096x1024 ![0, 1] bcast_S4096x1_S4096x1024_0_1 r))) (mulf a0 (broadcastInDim S4096x1024 ![0] bcast_S4096_S4096x1024_0 s))) (mulf (broadcastInDim S4096x1024 ![0] bcast_S4096_S4096x1024_0 s) a0)
/-- The gradient of the gain. -/
def dg (a0 t : FVec Ideal S4096x1024 .f32) (r : FVec Ideal S4096x1 .f32) : FVec Ideal S1x1024 .f32 :=
  shapeCast _ (Host.reduceAdd (mulf (mulf a0 (broadcastInDim S4096x1024 ![0, 1] bcast_S4096x1_S4096x1024_0_1 r)) t) (constant S_ .f32 0x00000000#32) reducesTo_S4096x1024_S1024_d0 h_S_) shapeCasts_S1024_S1x1024

/-- All of it. -/
def all (a0 : FVec Ideal S4096x1024 .f32) (a1 : FVec Ideal S1x1024 .f32) (a2 : FVec Ideal S2x1024x5632 .f32) (a3 : FVec Ideal S4096x1024 .f32) (a4 : FVec Ideal S4096x2816 .f32) (a5 : FVec Ideal S4096x1024 .f32) :
    FVec Ideal S4096x1024 .f32 := dx a0 a5 (D (T a2 a3 a4) a1) (R (W a0)) (S (Q a0 (D (T a2 a3 a4) a1) (W a0) (R (W a0))))

theorem res40 (m : (ℓ : Loc nD τ sig) → Buf (Elt Ideal) ℓ) (c : Dev nD) : res_main_v40 m c
    = all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v40 all dx S Q D R W T; rfl
theorem res41 (m : (ℓ : Loc nD τ sig) → Buf (Elt Ideal) ℓ) (c : Dev nD) : res_main_v41 m c
    = truncf .bf16 (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) bitsLt_bf16_f32 := by
  unfold res_main_v41 all dx S Q D R W T; rfl

theorem T_apply (a2 : FVec Ideal S2x1024x5632 .f32) (a3 : FVec Ideal S4096x1024 .f32) (a4 : FVec Ideal S4096x2816 .f32) (p : Fin 4096) (q : Fin 1024) :
    T a2 a3 a4 (ix2 p q) = a3 (ix2 p q) + ∑ k : Fin 2816, a4 (ix2 p k) * a2 (ix3 0 q ⟨2816 + k.val, by omega⟩) := by
  pointwise [T]
theorem W_apply (a0 : FVec Ideal S4096x1024 .f32) (p : Fin 4096) : W a0 (ix2 p 0) = NormRow.var fun k => a0 (ix2 p k) := by
  unfold NormRow.var
  pointwise [W]
theorem R_apply (a0 : FVec Ideal S4096x1024 .f32) (p : Fin 4096) : R (W a0) (ix2 p 0) = NormRow.inv fun k => a0 (ix2 p k) := by
  unfold NormRow.inv
  rw [← W_apply]
  pointwise [R]
theorem D_apply (t : FVec Ideal S4096x1024 .f32) (a1 : FVec Ideal S1x1024 .f32) (p : Fin 4096) (q : Fin 1024) : D t a1 (ix2 p q) = t (ix2 p q) * a1 (ix2 0 q) := by
  pointwise [D]
theorem Q_apply (a0 d : FVec Ideal S4096x1024 .f32) (p : Fin 4096) : Q a0 d (W a0) (R (W a0)) (ix2 p 0) = NormRow.dxs (fun k => a0 (ix2 p k)) fun k => d (ix2 p k) := by
  unfold NormRow.dxs
  rw [← W_apply, ← R_apply]
  pointwise [Q]
theorem S_apply (q : FVec Ideal S4096x1 .f32) (p : Fin 4096) : S q (ix1 p) = q (ix2 p 0) := by
  pointwise [S]
  exact Fin.sum_univ_one _
theorem dx_apply (a0 a5 d : FVec Ideal S4096x1024 .f32) (p : Fin 4096) (q : Fin 1024) :
    dx a0 a5 d (R (W a0)) (S (Q a0 d (W a0) (R (W a0)))) (ix2 p q)
      = a5 (ix2 p q) + d (ix2 p q) * NormRow.inv (fun k => a0 (ix2 p k)) + a0 (ix2 p q) * NormRow.dxs (fun k => a0 (ix2 p k)) (fun k => d (ix2 p k))
        + NormRow.dxs (fun k => a0 (ix2 p k)) (fun k => d (ix2 p k)) * a0 (ix2 p q) := by
  rw [← Q_apply, ← S_apply (Q a0 d (W a0) (R (W a0))), ← R_apply]
  pointwise [dx]
theorem dg_apply (a0 t : FVec Ideal S4096x1024 .f32) (q : Fin 1024) :
    dg a0 t (R (W a0)) (ix2 0 q) = ∑ p : Fin 4096, (a0 (ix2 p q) * NormRow.inv fun k => a0 (ix2 p k)) * t (ix2 p q) := by
  simp only [← R_apply]
  pointwise [dg]

end Cert.ReferenceVIdeal.Arrays
end
-- ==== Proof.M.ClaimsV.lean ====
module
public import proofs.«01_k».proof.Defs
public import proofs.«01_k».proof.Proof.M.NormRows
public import proofs.«01_k».proof.Proof.M.NormReference
public import proofs.«01_k».proof.Proof.Gen.KernelV.Frame
public import Idealize.ShloMosaic.Adequacy
public import Idealize.ShloMosaic.Init
@[expose] public section
set_option maxRecDepth 16384
noncomputable section
/-! The claims about the gradient of the norm before the feed-forward layer. -/
namespace Cert.ClaimsV
open Idealize.ShloMosaic Idealize.ShloMosaic.TcCoe Idealize.ShloMosaic.Pointwise Idealize.SL.Sem
open Cert.Real (Is)
open KernelVIdeal.Arrays (a0 a1 a2 a3 a4 a5)

theorem frame : Cert.quiescent_KernelV := fun m ρ _ => Cert.KernelV.Gen.frame m ρ
theorem frame_ideal : Cert.quiescent_KernelVIdeal := fun m ρ _ => Cert.KernelVIdeal.Gen.frame m ρ
theorem frame_ideal_pre [Cert.Pre_finite_v.Facts] : Cert.quiescent_KernelVIdeal_pre_finite_v := fun m ρ _ => Cert.KernelVIdeal.Gen.frame m ρ
theorem frame_ref : Cert.quiescent_ReferenceVIdeal := fun m ρ _ =>
  (θ_run Cert.ReferenceVIdeal.defs _ _).mono (fun r h => ⟨fun c => (h c).2.2.2, Idealize.ShloMosaic.sem_eq_zero_of_no_sems (by decide) r.2⟩)
    (Cert.ReferenceVIdeal.Value.run (F := Ideal) m ρ)
theorem frame_ref_pre [Cert.Pre_finite_v.Facts] : Cert.quiescent_ReferenceVIdeal_pre_finite_v := fun m ρ _ =>
  (θ_run Cert.ReferenceVIdeal.defs _ _).mono (fun r h => ⟨fun c => (h c).2.2.2, Idealize.ShloMosaic.sem_eq_zero_of_no_sems (by decide) r.2⟩)
    (Cert.ReferenceVIdeal.Value.run (F := Ideal) m ρ)

section
variable (m : (ℓ : Loc KernelVIdeal.nD KernelVIdeal.τ KernelVIdeal.sig) → Buf (Elt Ideal) ℓ) (c : Dev KernelVIdeal.nD)

theorem up_eq (r : Fin 4096) (q : Fin 1024) : KernelVIdeal.Arrays.UP m c r q = ReferenceVIdeal.Arrays.T (a2 m c) (a3 m c) (a4 m c) (ix2 r q) := by
  rw [ReferenceVIdeal.Arrays.T_apply, add_comm]
  rfl

/-- The incoming gradient is real. -/
theorem up_real [Cert.Pre_finite_v.Facts] (h : Pre_KernelVIdeal_finite_v m) (r : Fin 4096) (k : Fin 1024) :
    Is (KernelVIdeal.Arrays.UP m c r k * a1 m c (ix2 0 k)) :=
  ((Is.sum _ fun _ => (Real.of_abs_lt (congrFun (h c).2.2.2.2 _)).mul (Real.of_abs_lt (congrFun (h c).2.2.1 _))).add
    (Real.of_abs_lt (congrFun (h c).2.2.2.1 _))).mul (Real.of_abs_lt (congrFun (h c).2.1 _))

theorem gdx_eq [Cert.Pre_finite_v.Facts] (h : Pre_KernelVIdeal_finite_v m) :
    KernelVIdeal.Arrays.gdx m c = ReferenceVIdeal.Arrays.all (a0 m c) (a1 m c) (a2 m c) (a3 m c) (a4 m c) (a5 m c) := by
  funext j
  obtain ⟨p, q, rfl⟩ : ∃ (p : Fin 4096) (q : Fin 1024), j = ix2 p q := ⟨j 0, j 1, eq_ix2 j⟩
  have e : (fun k => KernelVIdeal.Arrays.UP m c p k * a1 m c (ix2 0 k))
      = fun k => ReferenceVIdeal.Arrays.D (ReferenceVIdeal.Arrays.T (a2 m c) (a3 m c) (a4 m c)) (a1 m c) (ix2 p k) :=
    funext fun k => by rw [ReferenceVIdeal.Arrays.D_apply, up_eq]
  refine (NormRow.dx_eq (a5 m c (ix2 p q)) (KernelVIdeal.Arrays.X m c p) _ (fun k => Real.of_abs_lt (congrFun (h c).1 _)) (fun k => up_real m c h p k) q).trans ?_
  unfold ReferenceVIdeal.Arrays.all
  rw [ReferenceVIdeal.Arrays.dx_apply, ← e]
  rw [← congrFun e q]

theorem gdg_eq : KernelVIdeal.Arrays.gdg m c
    = ReferenceVIdeal.Arrays.dg (a0 m c) (ReferenceVIdeal.Arrays.T (a2 m c) (a3 m c) (a4 m c)) (ReferenceVIdeal.Arrays.R (ReferenceVIdeal.Arrays.W (a0 m c))) := by
  funext j
  obtain ⟨p, q, rfl⟩ : ∃ (p : Fin 1) (q : Fin 1024), j = ix2 p q := ⟨j 0, j 1, eq_ix2 j⟩
  obtain rfl : p = 0 := Subsingleton.elim _ _
  rw [ReferenceVIdeal.Arrays.dg_apply]
  refine Finset.sum_congr rfl fun r _ => ?_
  rw [← up_eq, mul_comm]
  rfl
end

theorem algebraic [Cert.Pre_finite_v.Facts] : Cert.algebraic_KernelVIdeal_ReferenceVIdeal_pre_finite_v := by
  intro m ρ m' ρ' hpre hagree
  refine ⟨fun c => KernelVIdeal.Arrays.gdx m c, fun c => KernelVIdeal.Arrays.gdg m c, fun c => KernelVIdeal.Arrays.gdxn m c, ?_, ?_⟩
  · exact (θ_run Cert.KernelVIdeal.defs _ _).mono
      (fun _ h c => ⟨(h c).1.trans (KernelVIdeal.Arrays.final6 m c), (h c).2.1.trans (KernelVIdeal.Arrays.final7 m c),
        (h c).2.2.1.trans (KernelVIdeal.Arrays.final8 m c), (h c).2.2.2⟩)
      (Cert.KernelVIdeal.Value.run_blocks (F := Ideal) m ρ)
  · refine (θ_run Cert.ReferenceVIdeal.defs _ _).mono (fun _ h c => ⟨(h c).1.trans ?_, (h c).2.1.trans ?_, (h c).2.2.1.trans ?_, (h c).2.2.2⟩)
      (Cert.ReferenceVIdeal.Value.run (F := Ideal) m' ρ')
    · show _ = KernelVIdeal.Arrays.gdx m c
      rw [gdx_eq m c hpre, ReferenceVIdeal.Arrays.res40, (hagree c).1, (hagree c).2.1, (hagree c).2.2.1, (hagree c).2.2.2.1, (hagree c).2.2.2.2.1, (hagree c).2.2.2.2.2]
    · show _ = KernelVIdeal.Arrays.gdg m c
      rw [gdg_eq m c, (hagree c).1, (hagree c).2.2.1, (hagree c).2.2.2.1, (hagree c).2.2.2.2.1]
      rfl
    · show _ = KernelVIdeal.Arrays.gdxn m c
      rw [ReferenceVIdeal.Arrays.res41, (hagree c).1, (hagree c).2.1, (hagree c).2.2.1, (hagree c).2.2.2.1, (hagree c).2.2.2.2.1, (hagree c).2.2.2.2.2]
      exact (gdx_eq m c hpre).symm

end Cert.ClaimsV
end
-- ==== Proof.M.ClaimsUG.lean ====
module
public import proofs.«01_k».proof.Defs
public import proofs.«01_k».proof.Proof.Gen.KernelUG.Frame
public import proofs.«01_k».proof.Proof.Gen.KernelUGIdeal.Value
public import proofs.«01_k».proof.Proof.Gen.ReferenceUGIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The product of the rows with the gate's columns of the up projection. -/
namespace Cert.ClaimsUG
open Idealize.ShloMosaic Idealize.ShloMosaic.TcCoe Idealize.ShloMosaic.Pointwise Idealize.SL.Sem

section
open Cert.KernelUGIdeal Cert.KernelUGIdeal.Gen

/-- A block of the product. -/
theorem block (c : Dev nD) (i : grid0.Coords) (b1 : Memref sig .tc .vmem S512x1024 .bf16) (h1 : b1.IsWhole) (b2 : Memref sig .tc .vmem S1x1024x1408 .bf16) (h2 : b2.IsWhole)
    (b3 : Memref sig .tc .vmem S512x1408 .bf16) (h3 : b3.IsWhole) (b4 : Memref sig .tc .vmem S8x128 .f32) (h4 : b4.IsWhole)
    (x0 : Vec Ideal S512x1024 .bf16) (x1 : Vec Ideal S1x1024x1408 .bf16) (p : Fin 512) (q : Fin 1408) :
    out0_A_2 c i b1 h1 b2 h2 b3 h3 b4 h4 x0 x1 (ix2 p q) = ∑ k : Fin 1024, x0 (ix2 p k) * x1 (ix3 0 k q) := by
  frame_out
  pointwise [k0_pay1]

variable (m : (ℓ : Loc nD τ sig) → Buf (Elt Ideal) ℓ) (c : Dev nD)

theorem points : ∀ t : Fin cfg0.N, win0_0.index t 0 = t.val % 8 ∧ win0_0.index t 1 = 0 ∧ win0_1.index t 0 = 0 ∧ win0_1.index t 1 = 0 ∧ win0_1.index t 2 = t.val / 8
    ∧ win0_2.index t 0 = t.val % 8 ∧ win0_2.index t 1 = t.val / 8 :=
  (by decide +kernel : ∀ t : Fin grid0.N, _)

abbrev a0 : FVec Ideal S4096x1024 .f32 := m ((c : Thread nD τ).loc main_arg0)
abbrev a1 : FVec Ideal S2x1024x5632 .f32 := m ((c : Thread nD τ).loc main_arg1)

/-- The product. -/
def at' (p : Fin 4096) (q : Fin 2816) : EReal := ∑ k : Fin 1024, a0 m c (ix2 p k) * a1 m c (ix3 0 k ⟨q.val, by omega⟩)
/-- The product's array. -/
def arr : Vec Ideal S4096x2816 .bf16 := fun j => at' m c (j 0) (j 1)

theorem left (t : Fin cfg0.N) (p : Fin 512) (k : Fin 1024) : iblk m c 0 t (ix2 p k) = a0 m c (ix2 ⟨t.val % 8 * 512 + p.val, by omega⟩ k) := by
  have e : (iblk m c 0 t (ix2 p k) : EReal) = (V m c main_v0 : FVec Ideal S4096x1024 .bf16) (ix2 ⟨t.val % 8 * 512 + p.val, by omega⟩ k) := by blk_ext [iblk, points t]
  refine e.trans ?_
  show V m c main_v0 (ix2 _ k) = _
  entry_read
  pointwise
theorem right (t : Fin cfg0.N) (k : Fin 1024) (q : Fin 1408) : iblk m c 1 t (ix3 0 k q)
    = a1 m c (ix3 0 k ⟨t.val / 8 * 1408 + q.val, by have := t.isLt; have : cfg0.N = 16 := N_0; omega⟩) := by
  have e : (iblk m c 1 t (ix3 0 k q) : EReal) = (V m c main_v1 : FVec Ideal S2x1024x5632 .bf16) (ix3 0 k ⟨t.val / 8 * 1408 + q.val, by have := t.isLt; have : cfg0.N = 16 := N_0; omega⟩) := by
    blk_ext [iblk, points t]
  refine e.trans ?_
  show V m c main_v1 (ix3 0 k _) = _
  entry_read
  pointwise

theorem final : (dats m 0 c).arrAt 2 cfg0.N = arr m c := by
  refine (dats m 0 c).arrAt_eq_of_cover 2 (arr m c) (fun (t : Fin cfg0.N) _ => ?_) (Pipeline.Window.Covers.cover win0_2 (by decide +kernel) (Memref.isWhole_whole _))
  rw [Value.flushed2_A]
  funext j
  obtain ⟨p, q, rfl⟩ : ∃ (p : Fin 512) (q : Fin 1408), j = ix2 p q := ⟨j 0, j 1, eq_ix2 j⟩
  have e : ((cfg0.win 2).blk t).view.read (Elt Ideal) (arr m c) (ix2 p q)
      = arr m c (ix2 ⟨t.val % 8 * 512 + p.val, by omega⟩ ⟨t.val / 8 * 1408 + q.val, by have := t.isLt; have : cfg0.N = 16 := N_0; omega⟩) := by
    blk_ext [points t]
  rw [e]
  refine (block c _ _ _ _ _ _ _ _ _ _ _ p q).trans ?_
  simp only [left, right]
  rfl
end

theorem frame : Cert.quiescent_KernelUG := fun m ρ _ => Cert.KernelUG.Gen.frame m ρ
theorem frame_ideal : Cert.quiescent_KernelUGIdeal := fun m ρ _ => Cert.KernelUGIdeal.Gen.frame m ρ
theorem frame_ref : Cert.quiescent_ReferenceUGIdeal := fun m ρ _ =>
  (θ_run Cert.ReferenceUGIdeal.defs _ _).mono (fun r h => ⟨fun c => (h c).2, Idealize.ShloMosaic.sem_eq_zero_of_no_sems (by decide) r.2⟩)
    (Cert.ReferenceUGIdeal.Value.run (F := Ideal) m ρ)

theorem algebraic : Cert.algebraic_KernelUGIdeal_ReferenceUGIdeal := by
  intro m ρ m' ρ' _ hagree
  refine ⟨fun c => arr m c, ?_, ?_⟩
  · exact (θ_run Cert.KernelUGIdeal.defs _ _).mono (fun _ h c => ⟨(h c).1.trans (final m c), (h c).2⟩)
      (Cert.KernelUGIdeal.Value.run_blocks (F := Ideal) m ρ)
  · refine (θ_run Cert.ReferenceUGIdeal.defs _ _).mono (fun _ h c => ⟨(h c).1.trans ?_, (h c).2⟩)
      (Cert.ReferenceUGIdeal.Value.run (F := Ideal) m' ρ')
    rw [(hagree c).1, (hagree c).2]
    funext j
    obtain ⟨p, q, rfl⟩ : ∃ (p : Fin 4096) (q : Fin 2816), j = ix2 p q := ⟨j 0, j 1, eq_ix2 j⟩
    show _ = at' m c p q
    unfold at'
    pointwise

end Cert.ClaimsUG
end
-- ==== Proof.M.ClaimsUV.lean ====
module
public import proofs.«01_k».proof.Defs
public import proofs.«01_k».proof.Proof.Gen.KernelUV.Frame
public import proofs.«01_k».proof.Proof.Gen.KernelUVIdeal.Value
public import proofs.«01_k».proof.Proof.Gen.ReferenceUVIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The product of the rows with the value's columns of the up projection. -/
namespace Cert.ClaimsUV
open Idealize.ShloMosaic Idealize.ShloMosaic.TcCoe Idealize.ShloMosaic.Pointwise Idealize.SL.Sem

section
open Cert.KernelUVIdeal Cert.KernelUVIdeal.Gen

/-- A block of the product. -/
theorem block (c : Dev nD) (i : grid0.Coords) (b1 : Memref sig .tc .vmem S512x1024 .bf16) (h1 : b1.IsWhole) (b2 : Memref sig .tc .vmem S1x1024x1408 .bf16) (h2 : b2.IsWhole)
    (b3 : Memref sig .tc .vmem S512x1408 .bf16) (h3 : b3.IsWhole) (b4 : Memref sig .tc .vmem S8x128 .f32) (h4 : b4.IsWhole)
    (x0 : Vec Ideal S512x1024 .bf16) (x1 : Vec Ideal S1x1024x1408 .bf16) (p : Fin 512) (q : Fin 1408) :
    out0_A_2 c i b1 h1 b2 h2 b3 h3 b4 h4 x0 x1 (ix2 p q) = ∑ k : Fin 1024, x0 (ix2 p k) * x1 (ix3 0 k q) := by
  frame_out
  pointwise [k0_pay1]

variable (m : (ℓ : Loc nD τ sig) → Buf (Elt Ideal) ℓ) (c : Dev nD)

theorem points : ∀ t : Fin cfg0.N, win0_0.index t 0 = t.val % 8 ∧ win0_0.index t 1 = 0 ∧ win0_1.index t 0 = 0 ∧ win0_1.index t 1 = 0 ∧ win0_1.index t 2 = t.val / 8 + 2 ∧ win0_2.index t 0 = t.val % 8 ∧ win0_2.index t 1 = t.val / 8 :=
  (by decide +kernel : ∀ t : Fin grid0.N, _)

abbrev a0 : FVec Ideal S4096x1024 .f32 := m ((c : Thread nD τ).loc main_arg0)
abbrev a1 : FVec Ideal S2x1024x5632 .f32 := m ((c : Thread nD τ).loc main_arg1)

/-- The product. -/
def at' (p : Fin 4096) (q : Fin 2816) : EReal := ∑ k : Fin 1024, a0 m c (ix2 p k) * a1 m c (ix3 0 k ⟨2816 + q.val, by omega⟩)
/-- The product's array. -/
def arr : Vec Ideal S4096x2816 .bf16 := fun j => at' m c (j 0) (j 1)

theorem left (t : Fin cfg0.N) (p : Fin 512) (k : Fin 1024) : iblk m c 0 t (ix2 p k) = a0 m c (ix2 ⟨t.val % 8 * 512 + p.val, by have := t.isLt; have : cfg0.N = 16 := N_0; omega⟩ k) := by
  have e : (iblk m c 0 t (ix2 p k) : EReal) = (V m c main_v0 : FVec Ideal S4096x1024 .bf16) (ix2 ⟨t.val % 8 * 512 + p.val, by have := t.isLt; have : cfg0.N = 16 := N_0; omega⟩ k) := by blk_ext [iblk, points t]
  refine e.trans ?_
  show V m c main_v0 (ix2 _ k) = _
  entry_read
  pointwise
theorem right (t : Fin cfg0.N) (k : Fin 1024) (q : Fin 1408) : iblk m c 1 t (ix3 0 k q)
    = a1 m c (ix3 0 k ⟨2816 + (t.val / 8 * 1408 + q.val), by have := t.isLt; have : cfg0.N = 16 := N_0; omega⟩) := by
  have e : (iblk m c 1 t (ix3 0 k q) : EReal) = (V m c main_v1 : FVec Ideal S2x1024x5632 .bf16) (ix3 0 k ⟨2816 + (t.val / 8 * 1408 + q.val), by have := t.isLt; have : cfg0.N = 16 := N_0; omega⟩) := by
    blk_ext [iblk, points t]
  refine e.trans ?_
  show V m c main_v1 (ix3 0 k _) = _
  entry_read
  pointwise

theorem final : (dats m 0 c).arrAt 2 cfg0.N = arr m c := by
  refine (dats m 0 c).arrAt_eq_of_cover 2 (arr m c) (fun (t : Fin cfg0.N) _ => ?_) (Pipeline.Window.Covers.cover win0_2 (by decide +kernel) (Memref.isWhole_whole _))
  rw [Value.flushed2_A]
  funext j
  obtain ⟨p, q, rfl⟩ : ∃ (p : Fin 512) (q : Fin 1408), j = ix2 p q := ⟨j 0, j 1, eq_ix2 j⟩
  have e : ((cfg0.win 2).blk t).view.read (Elt Ideal) (arr m c) (ix2 p q)
      = arr m c (ix2 ⟨t.val % 8 * 512 + p.val, by have := t.isLt; have : cfg0.N = 16 := N_0; omega⟩ ⟨t.val / 8 * 1408 + q.val, by have := t.isLt; have : cfg0.N = 16 := N_0; omega⟩) := by
    blk_ext [points t]
  rw [e]
  refine (block c _ _ _ _ _ _ _ _ _ _ _ p q).trans ?_
  simp only [left, right]
  rfl
end

theorem frame : Cert.quiescent_KernelUV := fun m ρ _ => Cert.KernelUV.Gen.frame m ρ
theorem frame_ideal : Cert.quiescent_KernelUVIdeal := fun m ρ _ => Cert.KernelUVIdeal.Gen.frame m ρ
theorem frame_ref : Cert.quiescent_ReferenceUVIdeal := fun m ρ _ =>
  (θ_run Cert.ReferenceUVIdeal.defs _ _).mono (fun r h => ⟨fun c => (h c).2, Idealize.ShloMosaic.sem_eq_zero_of_no_sems (by decide) r.2⟩)
    (Cert.ReferenceUVIdeal.Value.run (F := Ideal) m ρ)

theorem algebraic : Cert.algebraic_KernelUVIdeal_ReferenceUVIdeal := by
  intro m ρ m' ρ' _ hagree
  refine ⟨fun c => arr m c, ?_, ?_⟩
  · exact (θ_run Cert.KernelUVIdeal.defs _ _).mono (fun _ h c => ⟨(h c).1.trans (final m c), (h c).2⟩)
      (Cert.KernelUVIdeal.Value.run_blocks (F := Ideal) m ρ)
  · refine (θ_run Cert.ReferenceUVIdeal.defs _ _).mono (fun _ h c => ⟨(h c).1.trans ?_, (h c).2⟩)
      (Cert.ReferenceUVIdeal.Value.run (F := Ideal) m' ρ')
    rw [(hagree c).1, (hagree c).2]
    funext j
    obtain ⟨p, q, rfl⟩ : ∃ (p : Fin 4096) (q : Fin 2816), j = ix2 p q := ⟨j 0, j 1, eq_ix2 j⟩
    show _ = at' m c p q
    unfold at'
    pointwise

end Cert.ClaimsUV
end
-- ==== Proof.M.ClaimsDN.lean ====
module
public import proofs.«01_k».proof.Defs
public import proofs.«01_k».proof.Proof.M.Norm
public import proofs.«01_k».proof.Proof.Gen.KernelDN.Frame
public import proofs.«01_k».proof.Proof.Gen.KernelDNIdeal.Value
public import proofs.«01_k».proof.Proof.Gen.ReferenceDNIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The rows after the first feed-forward layer, and the same normalised for the mixer. -/
namespace Cert.ClaimsDN
open Idealize.ShloMosaic Idealize.ShloMosaic.TcCoe Idealize.ShloMosaic.Pointwise Idealize.SL.Sem

section
open Cert.KernelDNIdeal Cert.KernelDNIdeal.Gen

section
variable (x0 : Vec Ideal S512x2816 .bf16) (x1 : Vec Ideal S1x2816x1024 .bf16) (x2 : Vec Ideal S512x1024 .f32) (x3 : Vec Ideal S1x1024 .f32) (p : Fin 512) (q : Fin 1024)

/-- A block of the sum. -/
def rows : EReal := (∑ k : Fin 2816, x0 (ix2 p k) * x1 (ix3 0 k q)) + x2 (ix2 p q)
theorem pay1 : k0_pay1 x0 x1 x2 (ix2 p q) = rows x0 x1 x2 p q := by
  unfold rows
  pointwise [k0_pay1]
theorem pay2 : k0_pay2 x0 x1 x2 x3 (ix2 p q) = rows x0 x1 x2 p q * NormRow.inv (rows x0 x1 x2 p) * x3 (ix2 0 q) := by
  unfold NormRow.inv NormRow.var
  simp only [← pay1]
  pointwise [k0_pay2]

variable (c : Dev nD) (i : grid0.Coords) (b0 : Memref sig .tc .vmem S512x2816 .bf16) (h0 : b0.IsWhole) (b1 : Memref sig .tc .vmem S1x2816x1024 .bf16) (h1 : b1.IsWhole)
    (b2 : Memref sig .tc .vmem S512x1024 .f32) (h2 : b2.IsWhole) (b3 : Memref sig .tc .vmem S1x1024 .f32) (h3 : b3.IsWhole)
    (b4 : Memref sig .tc .vmem S512x1024 .f32) (h4 : b4.IsWhole) (b5 : Memref sig .tc .vmem S512x1024 .f32) (h5 : b5.IsWhole) (b6 : Memref sig .tc .vmem S8x128 .f32) (h6 : b6.IsWhole)
theorem block4 : out0_A_4 c i b0 h0 b1 h1 b2 h2 b3 h3 b4 h4 b5 h5 b6 h6 x0 x1 x2 x3 (ix2 p q) = rows x0 x1 x2 p q := by
  frame_out
  rw [pay1]
theorem block5 : out0_A_5 c i b0 h0 b1 h1 b2 h2 b3 h3 b4 h4 b5 h5 b6 h6 x0 x1 x2 x3 (ix2 p q)
    = rows x0 x1 x2 p q * NormRow.inv (rows x0 x1 x2 p) * x3 (ix2 0 q) := by
  frame_out
  rw [← pay2]
end

variable (m : (ℓ : Loc nD τ sig) → Buf (Elt Ideal) ℓ) (c : Dev nD)

theorem points : ∀ t : Fin cfg0.N, win0_0.index t 0 = t.val ∧ win0_0.index t 1 = 0 ∧ win0_1.index t 0 = 0 ∧ win0_1.index t 1 = 0 ∧ win0_1.index t 2 = 0
    ∧ win0_2.index t 0 = t.val ∧ win0_2.index t 1 = 0 ∧ win0_3.index t 0 = 0 ∧ win0_3.index t 1 = 0 :=
  (by decide +kernel : ∀ t : Fin grid0.N, _)
theorem points4 : ∀ t : Fin cfg0.N, win0_4.index t 0 = t.val ∧ win0_4.index t 1 = 0 := (by decide +kernel : ∀ t : Fin grid0.N, _)
theorem points5 : ∀ t : Fin cfg0.N, win0_5.index t 0 = t.val ∧ win0_5.index t 1 = 0 := (by decide +kernel : ∀ t : Fin grid0.N, _)

abbrev a0 : FVec Ideal S4096x2816 .f32 := m ((c : Thread nD τ).loc main_arg0)
abbrev a1 : FVec Ideal S2x2816x1024 .f32 := m ((c : Thread nD τ).loc main_arg1)
abbrev a2 : FVec Ideal S4096x1024 .f32 := m ((c : Thread nD τ).loc main_arg2)
abbrev a3 : FVec Ideal S1x1024 .f32 := m ((c : Thread nD τ).loc main_arg3)

/-- The rows after the layer. -/
def sums (p : Fin 4096) (q : Fin 1024) : EReal := (∑ k : Fin 2816, a0 m c (ix2 p k) * a1 m c (ix3 0 k q)) + a2 m c (ix2 p q)
/-- Their array. -/
def arr : Vec Ideal S4096x1024 .f32 := fun j => sums m c (j 0) (j 1)
/-- The array of the normalised rows. -/
def arrn : Vec Ideal S4096x1024 .f32 := fun j => sums m c (j 0) (j 1) * NormRow.inv (sums m c (j 0)) * a3 m c (ix2 0 (j 1))

/-- The array's row that a block's row is. -/
abbrev at' (t : Fin cfg0.N) (p : Fin 512) : Fin 4096 := ⟨t.val * 512 + p.val, by have := t.isLt; have : cfg0.N = 8 := N_0; omega⟩

theorem rows_eq (t : Fin cfg0.N) (p : Fin 512) : rows (iblk m c 0 t) (iblk m c 1 t) (iblk m c 2 t) p = sums m c (at' t p) := by
  funext q
  have e0 (k : Fin 2816) : iblk m c 0 t (ix2 p k) = a0 m c (ix2 (at' t p) k) := by
    have e : (iblk m c 0 t (ix2 p k) : EReal) = (V m c main_v0 : FVec Ideal S4096x2816 .bf16) (ix2 (at' t p) k) := by blk_ext [iblk, points t]
    refine e.trans ?_
    show V m c main_v0 (ix2 (at' t p) k) = _
    entry_read
    pointwise
  have e1 (k : Fin 2816) : iblk m c 1 t (ix3 0 k q) = a1 m c (ix3 0 k q) := by
    have e : (iblk m c 1 t (ix3 0 k q) : EReal) = (V m c main_v1 : FVec Ideal S2x2816x1024 .bf16) (ix3 0 k q) := by blk_ext [iblk, points t]
    refine e.trans ?_
    show V m c main_v1 (ix3 0 k q) = _
    entry_read
    pointwise
  have e2 : iblk m c 2 t (ix2 p q) = a2 m c (ix2 (at' t p) q) := by
    have e : (iblk m c 2 t (ix2 p q) : EReal) = (V m c main_arg2 : FVec Ideal S4096x1024 .f32) (ix2 (at' t p) q) := by blk_ext [iblk, points t]
    refine e.trans ?_
    show V m c main_arg2 (ix2 (at' t p) q) = _
    entry_read
    rfl
  unfold rows sums
  rw [e2]
  exact congrArg (· + _) (Finset.sum_congr rfl fun k _ => by rw [e0, e1])

/-- The gain's block. -/
abbrev gn (t : Fin cfg0.N) : FVec Ideal S1x1024 .f32 := iblk m c 3 t
theorem gain_eq (t : Fin cfg0.N) (k : Fin 1024) : gn m c t (ix2 0 k) = a3 m c (ix2 0 k) := by
  have e : gn m c t (ix2 0 k) = (V m c main_arg3 : FVec Ideal S1x1024 .f32) (ix2 0 k) := by blk_ext [iblk, points t]
  refine e.trans ?_
  show V m c main_arg3 (ix2 0 k) = _
  entry_read
  rfl

theorem final4 : (dats m 0 c).arrAt 4 cfg0.N = arr m c := by
  refine (dats m 0 c).arrAt_eq_of_cover 4 (arr m c) (fun (t : Fin cfg0.N) _ => ?_) (Pipeline.Window.Covers.cover win0_4 (by decide +kernel) (Memref.isWhole_whole _))
  rw [Value.flushed4_A]
  funext j
  obtain ⟨p, q, rfl⟩ : ∃ (p : Fin 512) (q : Fin 1024), j = ix2 p q := ⟨j 0, j 1, eq_ix2 j⟩
  have e : ((cfg0.win 4).blk t).view.read (Elt Ideal) (arr m c) (ix2 p q) = arr m c (ix2 (at' t p) q) := by blk_ext [points4 t]
  rw [e]
  refine (block4 (iblk m c 0 t) (iblk m c 1 t) (iblk m c 2 t) (iblk m c 3 t) p q c _ _ _ _ _ _ _ _ _ _ _ _ _ _ _).trans ?_
  rw [rows_eq]
  rfl
theorem final5 : (dats m 0 c).arrAt 5 cfg0.N = arrn m c := by
  refine (dats m 0 c).arrAt_eq_of_cover 5 (arrn m c) (fun (t : Fin cfg0.N) _ => ?_) (Pipeline.Window.Covers.cover win0_5 (by decide +kernel) (Memref.isWhole_whole _))
  rw [Value.flushed5_A]
  funext j
  obtain ⟨p, q, rfl⟩ : ∃ (p : Fin 512) (q : Fin 1024), j = ix2 p q := ⟨j 0, j 1, eq_ix2 j⟩
  have e : ((cfg0.win 5).blk t).view.read (Elt Ideal) (arrn m c) (ix2 p q) = arrn m c (ix2 (at' t p) q) := by blk_ext [points5 t]
  rw [e]
  refine (block5 (iblk m c 0 t) (iblk m c 1 t) (iblk m c 2 t) (gn m c t) p q c _ _ _ _ _ _ _ _ _ _ _ _ _ _ _).trans ?_
  rw [rows_eq, gain_eq]
  rfl
end

section
open Cert.ReferenceDNIdeal Cert.ReferenceDNIdeal.Gen

/-- The reference's rows. -/
def S (x : FVec Ideal S4096x2816 .f32) (w : FVec Ideal S2x2816x1024 .f32) (y : FVec Ideal S4096x1024 .f32) : FVec Ideal S4096x1024 .f32 :=
  addf y (Host.dotGeneral dot_S4096x2816_S2816x1024_S4096x1024_1_0_0_1_n_n none x (shapeCast _ (extractStridedSlice S1x2816x1024 ![0, 0, 0] w slices_S2x2816x1024_S1x2816x1024_0_0_0) shapeCasts_S1x2816x1024_S2816x1024))
/-- The rows' scales. -/
def R (s : FVec Ideal S4096x1024 .f32) : FVec Ideal S4096x1 .f32 :=
  Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))
/-- The normalised rows. -/
def N (s : FVec Ideal S4096x1024 .f32) (r : FVec Ideal S4096x1 .f32) (g : FVec Ideal S1x1024 .f32) : FVec Ideal S4096x1024 .f32 :=
  mulf (mulf s (broadcastInDim S4096x1024 ![0, 1] bcast_S4096x1_S4096x1024_0_1 r)) (broadcastInDim S4096x1024 ![0, 1] bcast_S1x1024_S4096x1024_0_1 g)

variable (x : FVec Ideal S4096x2816 .f32) (w : FVec Ideal S2x2816x1024 .f32) (y : FVec Ideal S4096x1024 .f32) (g : FVec Ideal S1x1024 .f32)
theorem S_apply (p : Fin 4096) (q : Fin 1024) : S x w y (ix2 p q) = (∑ k : Fin 2816, x (ix2 p k) * w (ix3 0 k q)) + y (ix2 p q) := by
  rw [add_comm]
  pointwise [S]
theorem R_apply (s : FVec Ideal S4096x1024 .f32) (p : Fin 4096) : R s (ix2 p 0) = NormRow.inv fun k => s (ix2 p k) := by
  unfold NormRow.inv NormRow.var
  pointwise [R]
theorem N_apply (s : FVec Ideal S4096x1024 .f32) (p : Fin 4096) (q : Fin 1024) : N s (R s) g (ix2 p q) = s (ix2 p q) * NormRow.inv (fun k => s (ix2 p k)) * g (ix2 0 q) := by
  rw [← R_apply]
  pointwise [N]
end

theorem frame : Cert.quiescent_KernelDN := fun m ρ _ => Cert.KernelDN.Gen.frame m ρ
theorem frame_ideal : Cert.quiescent_KernelDNIdeal := fun m ρ _ => Cert.KernelDNIdeal.Gen.frame m ρ
theorem frame_ref : Cert.quiescent_ReferenceDNIdeal := fun m ρ _ =>
  (θ_run Cert.ReferenceDNIdeal.defs _ _).mono (fun r h => ⟨fun c => (h c).2.2, Idealize.ShloMosaic.sem_eq_zero_of_no_sems (by decide) r.2⟩)
    (Cert.ReferenceDNIdeal.Value.run (F := Ideal) m ρ)

theorem arr_eq (m : (ℓ : Loc KernelDNIdeal.nD KernelDNIdeal.τ KernelDNIdeal.sig) → Buf (Elt Ideal) ℓ) (c : Dev KernelDNIdeal.nD) :
    arr m c = S (a0 m c) (a1 m c) (a2 m c) := by
  funext j
  obtain ⟨p, q, rfl⟩ : ∃ (p : Fin 4096) (q : Fin 1024), j = ix2 p q := ⟨j 0, j 1, eq_ix2 j⟩
  rw [S_apply]
  rfl
theorem arrn_eq (m : (ℓ : Loc KernelDNIdeal.nD KernelDNIdeal.τ KernelDNIdeal.sig) → Buf (Elt Ideal) ℓ) (c : Dev KernelDNIdeal.nD) :
    arrn m c = N (S (a0 m c) (a1 m c) (a2 m c)) (R (S (a0 m c) (a1 m c) (a2 m c))) (a3 m c) := by
  funext j
  obtain ⟨p, q, rfl⟩ : ∃ (p : Fin 4096) (q : Fin 1024), j = ix2 p q := ⟨j 0, j 1, eq_ix2 j⟩
  rw [N_apply]
  simp only [S_apply]
  rfl

theorem algebraic : Cert.algebraic_KernelDNIdeal_ReferenceDNIdeal := by
  intro m ρ m' ρ' _ hagree
  refine ⟨fun c => arr m c, fun c => arrn m c, ?_, ?_⟩
  · exact (θ_run Cert.KernelDNIdeal.defs _ _).mono (fun _ h c => ⟨(h c).1.trans (final4 m c), (h c).2.1.trans (final5 m c), (h c).2.2⟩)
      (Cert.KernelDNIdeal.Value.run_blocks (F := Ideal) m ρ)
  · refine (θ_run Cert.ReferenceDNIdeal.defs _ _).mono (fun _ h c => ⟨(h c).1.trans ?_, (h c).2.1.trans ?_, (h c).2.2⟩)
      (Cert.ReferenceDNIdeal.Value.run (F := Ideal) m' ρ')
    · show _ = arr m c
      rw [arr_eq, (hagree c).1, (hagree c).2.1, (hagree c).2.2.1]
      rfl
    · show _ = arrn m c
      rw [arrn_eq, (hagree c).1, (hagree c).2.1, (hagree c).2.2.1, (hagree c).2.2.2]
      rfl

end Cert.ClaimsDN
end
-- ==== Proof.M.ClaimsDL.lean ====
module
public import proofs.«01_k».proof.Defs
public import proofs.«01_k».proof.Proof.Gen.KernelDL.Frame
public import proofs.«01_k».proof.Proof.Gen.KernelDLIdeal.Value
public import proofs.«01_k».proof.Proof.Gen.ReferenceDLIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The rows after the second feed-forward layer. -/
namespace Cert.ClaimsDL
open Idealize.ShloMosaic Idealize.ShloMosaic.TcCoe Idealize.ShloMosaic.Pointwise Idealize.SL.Sem

section
open Cert.KernelDLIdeal Cert.KernelDLIdeal.Gen

section
variable (x0 : Vec Ideal S512x2816 .bf16) (x1 : Vec Ideal S1x2816x1024 .bf16) (x2 : Vec Ideal S512x1024 .f32) (p : Fin 512) (q : Fin 1024)

/-- A block of the sum. -/
def rows : EReal := (∑ k : Fin 2816, x0 (ix2 p k) * x1 (ix3 0 k q)) + x2 (ix2 p q)
theorem pay1 : k0_pay1 x0 x1 x2 (ix2 p q) = rows x0 x1 x2 p q := by
  unfold rows
  pointwise [k0_pay1]

variable (c : Dev nD) (i : grid0.Coords) (b0 : Memref sig .tc .vmem S512x2816 .bf16) (h0 : b0.IsWhole) (b1 : Memref sig .tc .vmem S1x2816x1024 .bf16) (h1 : b1.IsWhole)
    (b2 : Memref sig .tc .vmem S512x1024 .f32) (h2 : b2.IsWhole) (b3 : Memref sig .tc .vmem S512x1024 .f32) (h3 : b3.IsWhole)
    (b4 : Memref sig .tc .vmem S8x128 .f32) (h4 : b4.IsWhole)
theorem block : out0_A_3 c i b0 h0 b1 h1 b2 h2 b3 h3 b4 h4 x0 x1 x2 (ix2 p q) = rows x0 x1 x2 p q := by
  frame_out
  rw [pay1]
end

variable (m : (ℓ : Loc nD τ sig) → Buf (Elt Ideal) ℓ) (c : Dev nD)

theorem points : ∀ t : Fin cfg0.N, win0_0.index t 0 = t.val ∧ win0_0.index t 1 = 0 ∧ win0_1.index t 0 = 1 ∧ win0_1.index t 1 = 0 ∧ win0_1.index t 2 = 0
    ∧ win0_2.index t 0 = t.val ∧ win0_2.index t 1 = 0 :=
  (by decide +kernel : ∀ t : Fin grid0.N, _)
theorem points3 : ∀ t : Fin cfg0.N, win0_3.index t 0 = t.val ∧ win0_3.index t 1 = 0 := (by decide +kernel : ∀ t : Fin grid0.N, _)

abbrev a0 : FVec Ideal S4096x2816 .f32 := m ((c : Thread nD τ).loc main_arg0)
abbrev a1 : FVec Ideal S2x2816x1024 .f32 := m ((c : Thread nD τ).loc main_arg1)
abbrev a2 : FVec Ideal S4096x1024 .f32 := m ((c : Thread nD τ).loc main_arg2)

/-- The rows after the layer. -/
def sums (p : Fin 4096) (q : Fin 1024) : EReal := (∑ k : Fin 2816, a0 m c (ix2 p k) * a1 m c (ix3 1 k q)) + a2 m c (ix2 p q)
/-- Their array. -/
def arr : Vec Ideal S4096x1024 .f32 := fun j => sums m c (j 0) (j 1)
/-- The array's row that a block's row is. -/
abbrev at' (t : Fin cfg0.N) (p : Fin 512) : Fin 4096 := ⟨t.val * 512 + p.val, by have := t.isLt; have : cfg0.N = 8 := N_0; omega⟩

theorem rows_eq (t : Fin cfg0.N) (p : Fin 512) : rows (iblk m c 0 t) (iblk m c 1 t) (iblk m c 2 t) p = sums m c (at' t p) := by
  funext q
  have e0 (k : Fin 2816) : iblk m c 0 t (ix2 p k) = a0 m c (ix2 (at' t p) k) := by
    have e : (iblk m c 0 t (ix2 p k) : EReal) = (V m c main_v0 : FVec Ideal S4096x2816 .bf16) (ix2 (at' t p) k) := by blk_ext [iblk, points t]
    refine e.trans ?_
    show V m c main_v0 (ix2 (at' t p) k) = _
    entry_read
    pointwise
  have e1 (k : Fin 2816) : iblk m c 1 t (ix3 0 k q) = a1 m c (ix3 1 k q) := by
    have e : (iblk m c 1 t (ix3 0 k q) : EReal) = (V m c main_v1 : FVec Ideal S2x2816x1024 .bf16) (ix3 1 k q) := by blk_ext [iblk, points t]
    refine e.trans ?_
    show V m c main_v1 (ix3 1 k q) = _
    entry_read
    pointwise
  have e2 : iblk m c 2 t (ix2 p q) = a2 m c (ix2 (at' t p) q) := by
    have e : (iblk m c 2 t (ix2 p q) : EReal) = (V m c main_arg2 : FVec Ideal S4096x1024 .f32) (ix2 (at' t p) q) := by blk_ext [iblk, points t]
    refine e.trans ?_
    show V m c main_arg2 (ix2 (at' t p) q) = _
    entry_read
    rfl
  unfold rows sums
  rw [e2]
  exact congrArg (· + _) (Finset.sum_congr rfl fun k _ => by rw [e0, e1])

theorem final : (dats m 0 c).arrAt 3 cfg0.N = arr m c := by
  refine (dats m 0 c).arrAt_eq_of_cover 3 (arr m c) (fun (t : Fin cfg0.N) _ => ?_) (Pipeline.Window.Covers.cover win0_3 (by decide +kernel) (Memref.isWhole_whole _))
  rw [Value.flushed3_A]
  funext j
  obtain ⟨p, q, rfl⟩ : ∃ (p : Fin 512) (q : Fin 1024), j = ix2 p q := ⟨j 0, j 1, eq_ix2 j⟩
  have e : ((cfg0.win 3).blk t).view.read (Elt Ideal) (arr m c) (ix2 p q) = arr m c (ix2 (at' t p) q) := by blk_ext [points3 t]
  rw [e]
  refine (block (iblk m c 0 t) (iblk m c 1 t) (iblk m c 2 t) p q c _ _ _ _ _ _ _ _ _ _ _).trans ?_
  rw [rows_eq]
  rfl
end

section
open Cert.ReferenceDLIdeal Cert.ReferenceDLIdeal.Gen

/-- The reference's rows. -/
def S (x : FVec Ideal S4096x2816 .f32) (w : FVec Ideal S2x2816x1024 .f32) (y : FVec Ideal S4096x1024 .f32) : FVec Ideal S4096x1024 .f32 :=
  addf y (Host.dotGeneral dot_S4096x2816_S2816x1024_S4096x1024_1_0_0_1_n_n none x (shapeCast _ (extractStridedSlice S1x2816x1024 ![1, 0, 0] w slices_S2x2816x1024_S1x2816x1024_1_0_0) shapeCasts_S1x2816x1024_S2816x1024))
variable (x : FVec Ideal S4096x2816 .f32) (w : FVec Ideal S2x2816x1024 .f32) (y : FVec Ideal S4096x1024 .f32)
theorem S_apply (p : Fin 4096) (q : Fin 1024) : S x w y (ix2 p q) = (∑ k : Fin 2816, x (ix2 p k) * w (ix3 1 k q)) + y (ix2 p q) := by
  rw [add_comm]
  pointwise [S]
end

theorem frame : Cert.quiescent_KernelDL := fun m ρ _ => Cert.KernelDL.Gen.frame m ρ
theorem frame_ideal : Cert.quiescent_KernelDLIdeal := fun m ρ _ => Cert.KernelDLIdeal.Gen.frame m ρ
theorem frame_ref : Cert.quiescent_ReferenceDLIdeal := fun m ρ _ =>
  (θ_run Cert.ReferenceDLIdeal.defs _ _).mono (fun r h => ⟨fun c => (h c).2, Idealize.ShloMosaic.sem_eq_zero_of_no_sems (by decide) r.2⟩)
    (Cert.ReferenceDLIdeal.Value.run (F := Ideal) m ρ)

theorem arr_eq (m : (ℓ : Loc KernelDLIdeal.nD KernelDLIdeal.τ KernelDLIdeal.sig) → Buf (Elt Ideal) ℓ) (c : Dev KernelDLIdeal.nD) :
    arr m c = S (a0 m c) (a1 m c) (a2 m c) := by
  funext j
  obtain ⟨p, q, rfl⟩ : ∃ (p : Fin 4096) (q : Fin 1024), j = ix2 p q := ⟨j 0, j 1, eq_ix2 j⟩
  rw [S_apply]
  rfl
theorem algebraic : Cert.algebraic_KernelDLIdeal_ReferenceDLIdeal := by
  intro m ρ m' ρ' _ hagree
  refine ⟨fun c => arr m c, ?_, ?_⟩
  · exact (θ_run Cert.KernelDLIdeal.defs _ _).mono (fun _ h c => ⟨(h c).1.trans (final m c), (h c).2⟩)
      (Cert.KernelDLIdeal.Value.run_blocks (F := Ideal) m ρ)
  · refine (θ_run Cert.ReferenceDLIdeal.defs _ _).mono (fun _ h c => ⟨(h c).1.trans ?_, (h c).2⟩)
      (Cert.ReferenceDLIdeal.Value.run (F := Ideal) m' ρ')
    show _ = arr m c
    rw [arr_eq, (hagree c).1, (hagree c).2.1, (hagree c).2.2]
    rfl

end Cert.ClaimsDL
end
-- ==== Proof.M.ClaimsDX.lean ====
module
public import proofs.«01_k».proof.Defs
public import proofs.«01_k».proof.Proof.Gen.KernelDX.Frame
public import proofs.«01_k».proof.Proof.Gen.KernelDXIdeal.Value
public import proofs.«01_k».proof.Proof.Gen.ReferenceDXIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The gradient of the memory attention's result: the product of the incoming gradient with the output weights. -/
namespace Cert.ClaimsDX
open Idealize.ShloMosaic Idealize.ShloMosaic.TcCoe Idealize.ShloMosaic.Pointwise Idealize.SL.Sem

section
open Cert.KernelDXIdeal Cert.KernelDXIdeal.Gen

/-- A block of the product. -/
theorem block (c : Dev nD) (i : grid0.Coords) (b1 : Memref sig .tc .vmem S1024x1024 .bf16) (h1 : b1.IsWhole) (b2 : Memref sig .tc .vmem S1x1024x1024 .bf16) (h2 : b2.IsWhole)
    (b3 : Memref sig .tc .vmem S1024x1024 .bf16) (h3 : b3.IsWhole) (b4 : Memref sig .tc .vmem S8x128 .f32) (h4 : b4.IsWhole)
    (x0 : Vec Ideal S1024x1024 .bf16) (x1 : Vec Ideal S1x1024x1024 .bf16) (p : Fin 1024) (q : Fin 1024) :
    out0_A_2 c i b1 h1 b2 h2 b3 h3 b4 h4 x0 x1 (ix2 p q) = ∑ k : Fin 1024, x0 (ix2 p k) * x1 (ix3 0 q k) := by
  frame_out
  pointwise [k0_pay1]

variable (m : (ℓ : Loc nD τ sig) → Buf (Elt Ideal) ℓ) (c : Dev nD)

theorem points : ∀ t : Fin cfg0.N, win0_0.index t 0 = t.val ∧ win0_0.index t 1 = 0 ∧ win0_1.index t 0 = 0 ∧ win0_1.index t 1 = 0 ∧ win0_1.index t 2 = 0 ∧ win0_2.index t 0 = t.val ∧ win0_2.index t 1 = 0 :=
  (by decide +kernel : ∀ t : Fin grid0.N, _)

abbrev a0 : FVec Ideal S4096x1024 .f32 := m ((c : Thread nD τ).loc main_arg0)
abbrev a1 : FVec Ideal S2x1024x1024 .f32 := m ((c : Thread nD τ).loc main_arg1)

/-- The product. -/
def at' (p : Fin 4096) (q : Fin 1024) : EReal := ∑ k : Fin 1024, a0 m c (ix2 p k) * a1 m c (ix3 0 q k)
/-- The product's array. -/
def arr : Vec Ideal S4096x1024 .bf16 := fun j => at' m c (j 0) (j 1)

theorem left (t : Fin cfg0.N) (p : Fin 1024) (k : Fin 1024) : iblk m c 0 t (ix2 p k) = a0 m c (ix2 ⟨t.val * 1024 + p.val, by have := t.isLt; have : cfg0.N = 4 := N_0; omega⟩ k) := by
  have e : (iblk m c 0 t (ix2 p k) : EReal) = (V m c main_v0 : FVec Ideal S4096x1024 .bf16) (ix2 ⟨t.val * 1024 + p.val, by have := t.isLt; have : cfg0.N = 4 := N_0; omega⟩ k) := by blk_ext [iblk, points t]
  refine e.trans ?_
  show V m c main_v0 (ix2 _ k) = _
  entry_read
  pointwise
theorem right (t : Fin cfg0.N) (k : Fin 1024) (q : Fin 1024) : iblk m c 1 t (ix3 0 q k)
    = a1 m c (ix3 0 q k) := by
  have e : (iblk m c 1 t (ix3 0 q k) : EReal) = (V m c main_v1 : FVec Ideal S2x1024x1024 .bf16) (ix3 0 q k) := by
    blk_ext [iblk, points t]
  refine e.trans ?_
  show V m c main_v1 (ix3 0 _ k) = _
  entry_read
  pointwise

theorem final : (dats m 0 c).arrAt 2 cfg0.N = arr m c := by
  refine (dats m 0 c).arrAt_eq_of_cover 2 (arr m c) (fun (t : Fin cfg0.N) _ => ?_) (Pipeline.Window.Covers.cover win0_2 (by decide +kernel) (Memref.isWhole_whole _))
  rw [Value.flushed2_A]
  funext j
  obtain ⟨p, q, rfl⟩ : ∃ (p : Fin 1024) (q : Fin 1024), j = ix2 p q := ⟨j 0, j 1, eq_ix2 j⟩
  have e : ((cfg0.win 2).blk t).view.read (Elt Ideal) (arr m c) (ix2 p q)
      = arr m c (ix2 ⟨t.val * 1024 + p.val, by have := t.isLt; have : cfg0.N = 4 := N_0; omega⟩ q) := by
    blk_ext [points t]
  rw [e]
  refine (block c _ _ _ _ _ _ _ _ _ _ _ p q).trans ?_
  simp only [left, right]
  rfl
end

theorem frame : Cert.quiescent_KernelDX := fun m ρ _ => Cert.KernelDX.Gen.frame m ρ
theorem frame_ideal : Cert.quiescent_KernelDXIdeal := fun m ρ _ => Cert.KernelDXIdeal.Gen.frame m ρ
theorem frame_ref : Cert.quiescent_ReferenceDXIdeal := fun m ρ _ =>
  (θ_run Cert.ReferenceDXIdeal.defs _ _).mono (fun r h => ⟨fun c => (h c).2, Idealize.ShloMosaic.sem_eq_zero_of_no_sems (by decide) r.2⟩)
    (Cert.ReferenceDXIdeal.Value.run (F := Ideal) m ρ)

theorem algebraic : Cert.algebraic_KernelDXIdeal_ReferenceDXIdeal := by
  intro m ρ m' ρ' _ hagree
  refine ⟨fun c => arr m c, ?_, ?_⟩
  · exact (θ_run Cert.KernelDXIdeal.defs _ _).mono (fun _ h c => ⟨(h c).1.trans (final m c), (h c).2⟩)
      (Cert.KernelDXIdeal.Value.run_blocks (F := Ideal) m ρ)
  · refine (θ_run Cert.ReferenceDXIdeal.defs _ _).mono (fun _ h c => ⟨(h c).1.trans ?_, (h c).2⟩)
      (Cert.ReferenceDXIdeal.Value.run (F := Ideal) m' ρ')
    rw [(hagree c).1, (hagree c).2]
    funext j
    obtain ⟨p, q, rfl⟩ : ∃ (p : Fin 4096) (q : Fin 1024), j = ix2 p q := ⟨j 0, j 1, eq_ix2 j⟩
    show _ = at' m c p q
    unfold at'
    pointwise

end Cert.ClaimsDX
end
-- ==== Proof.M.ClaimsDO.lean ====
module
public import proofs.«01_k».proof.Defs
public import proofs.«01_k».proof.Proof.Gen.KernelDO.Frame
public import proofs.«01_k».proof.Proof.Gen.KernelDOIdeal.Value
public import proofs.«01_k».proof.Proof.Gen.ReferenceDOIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The gradient of the attention's result: the product of the incoming gradient with the output weights. -/
namespace Cert.ClaimsDO
open Idealize.ShloMosaic Idealize.ShloMosaic.TcCoe Idealize.ShloMosaic.Pointwise Idealize.SL.Sem

section
open Cert.KernelDOIdeal Cert.KernelDOIdeal.Gen

/-- A block of the product. -/
theorem block (c : Dev nD) (i : grid0.Coords) (b1 : Memref sig .tc .vmem S1024x1024 .bf16) (h1 : b1.IsWhole) (b2 : Memref sig .tc .vmem S1x1024x1024 .bf16) (h2 : b2.IsWhole)
    (b3 : Memref sig .tc .vmem S1024x1024 .bf16) (h3 : b3.IsWhole) (b4 : Memref sig .tc .vmem S8x128 .f32) (h4 : b4.IsWhole)
    (x0 : Vec Ideal S1024x1024 .bf16) (x1 : Vec Ideal S1x1024x1024 .bf16) (p : Fin 1024) (q : Fin 1024) :
    out0_A_2 c i b1 h1 b2 h2 b3 h3 b4 h4 x0 x1 (ix2 p q) = ∑ k : Fin 1024, x0 (ix2 p k) * x1 (ix3 0 q k) := by
  frame_out
  pointwise [k0_pay1]

variable (m : (ℓ : Loc nD τ sig) → Buf (Elt Ideal) ℓ) (c : Dev nD)

theorem points : ∀ t : Fin cfg0.N, win0_0.index t 0 = t.val ∧ win0_0.index t 1 = 0 ∧ win0_1.index t 0 = 0 ∧ win0_1.index t 1 = 0 ∧ win0_1.index t 2 = 0 ∧ win0_2.index t 0 = t.val ∧ win0_2.index t 1 = 0 :=
  (by decide +kernel : ∀ t : Fin grid0.N, _)

abbrev a0 : FVec Ideal S4096x1024 .f32 := m ((c : Thread nD τ).loc main_arg0)
abbrev a1 : FVec Ideal S1x1024x1024 .f32 := m ((c : Thread nD τ).loc main_arg1)

/-- The product. -/
def at' (p : Fin 4096) (q : Fin 1024) : EReal := ∑ k : Fin 1024, a0 m c (ix2 p k) * a1 m c (ix3 0 q k)
/-- The product's array. -/
def arr : Vec Ideal S4096x1024 .bf16 := fun j => at' m c (j 0) (j 1)

theorem left (t : Fin cfg0.N) (p : Fin 1024) (k : Fin 1024) : iblk m c 0 t (ix2 p k) = a0 m c (ix2 ⟨t.val * 1024 + p.val, by have := t.isLt; have : cfg0.N = 4 := N_0; omega⟩ k) := by
  have e : (iblk m c 0 t (ix2 p k) : EReal) = (V m c main_v0 : FVec Ideal S4096x1024 .bf16) (ix2 ⟨t.val * 1024 + p.val, by have := t.isLt; have : cfg0.N = 4 := N_0; omega⟩ k) := by blk_ext [iblk, points t]
  refine e.trans ?_
  show V m c main_v0 (ix2 _ k) = _
  entry_read
  pointwise
theorem right (t : Fin cfg0.N) (k : Fin 1024) (q : Fin 1024) : iblk m c 1 t (ix3 0 q k)
    = a1 m c (ix3 0 q k) := by
  have e : (iblk m c 1 t (ix3 0 q k) : EReal) = (V m c main_v1 : FVec Ideal S1x1024x1024 .bf16) (ix3 0 q k) := by
    blk_ext [iblk, points t]
  refine e.trans ?_
  show V m c main_v1 (ix3 0 _ k) = _
  entry_read
  pointwise

theorem final : (dats m 0 c).arrAt 2 cfg0.N = arr m c := by
  refine (dats m 0 c).arrAt_eq_of_cover 2 (arr m c) (fun (t : Fin cfg0.N) _ => ?_) (Pipeline.Window.Covers.cover win0_2 (by decide +kernel) (Memref.isWhole_whole _))
  rw [Value.flushed2_A]
  funext j
  obtain ⟨p, q, rfl⟩ : ∃ (p : Fin 1024) (q : Fin 1024), j = ix2 p q := ⟨j 0, j 1, eq_ix2 j⟩
  have e : ((cfg0.win 2).blk t).view.read (Elt Ideal) (arr m c) (ix2 p q)
      = arr m c (ix2 ⟨t.val * 1024 + p.val, by have := t.isLt; have : cfg0.N = 4 := N_0; omega⟩ q) := by
    blk_ext [points t]
  rw [e]
  refine (block c _ _ _ _ _ _ _ _ _ _ _ p q).trans ?_
  simp only [left, right]
  rfl
end

open Cert.ReferenceDOIdeal Cert.ReferenceDOIdeal.Gen in
/-- What the reference computes. -/
def ref (x : FVec Ideal S4096x1024 .f32) (w : FVec Ideal S1x1024x1024 .f32) : FVec Ideal S4096x1024 .bf16 :=
  truncf .bf16 (Host.dotGeneral dot_S4096x1024_S1024x1024_S4096x1024_1_1_0_0_n_n none x (shapeCast _ w shapeCasts_S1x1024x1024_S1024x1024)) bitsLt_bf16_f32

theorem frame : Cert.quiescent_KernelDO := fun m ρ _ => Cert.KernelDO.Gen.frame m ρ
theorem frame_ideal : Cert.quiescent_KernelDOIdeal := fun m ρ _ => Cert.KernelDOIdeal.Gen.frame m ρ
theorem frame_ref : Cert.quiescent_ReferenceDOIdeal := fun m ρ _ =>
  (θ_run Cert.ReferenceDOIdeal.defs _ _).mono (fun r h => ⟨fun c => (h c).2, Idealize.ShloMosaic.sem_eq_zero_of_no_sems (by decide) r.2⟩)
    (Cert.ReferenceDOIdeal.Value.run (F := Ideal) m ρ)

theorem algebraic : Cert.algebraic_KernelDOIdeal_ReferenceDOIdeal := by
  intro m ρ m' ρ' _ hagree
  refine ⟨fun c => arr m c, ?_, ?_⟩
  · exact (θ_run Cert.KernelDOIdeal.defs _ _).mono (fun _ h c => ⟨(h c).1.trans (final m c), (h c).2⟩)
      (Cert.KernelDOIdeal.Value.run_blocks (F := Ideal) m ρ)
  · refine (θ_run Cert.ReferenceDOIdeal.defs _ _).mono (fun _ h c => ⟨(h c).1.trans ?_, (h c).2⟩)
      (Cert.ReferenceDOIdeal.Value.run (F := Ideal) m' ρ')
    rw [(hagree c).1, (hagree c).2]
    funext j
    obtain ⟨p, q, rfl⟩ : ∃ (p : Fin 4096) (q : Fin 1024), j = ix2 p q := ⟨j 0, j 1, eq_ix2 j⟩
    show ref (a0 m c) (a1 m c) (ix2 p q) = at' m c p q
    unfold at'
    pointwise [ref]

end Cert.ClaimsDO
end
-- ==== Proof.M.CrossWeights.lean ====
module
public import proofs.«01_k».proof.Proof.Gen.KernelWXIdeal.Value
public import Idealize.ShloMosaic.Lib.Pipeline.ValueKit
public import Idealize.ShloMosaic.Lib.Pointwise
public import proofs.«01_k».proof.Proof.M.Halves
@[expose] public section
set_option maxRecDepth 16384
noncomputable section
/-! What the array of the memory attention's output weight gradient holds after the run. -/
namespace Cert.KernelWXIdeal.Arrays
open Cert.KernelWXIdeal Cert.KernelWXIdeal.Gen Idealize.ShloMosaic Idealize.ShloMosaic.TcCoe Idealize.SL.Sem
open Idealize.ShloMosaic.Pointwise
open Idealize.ShloMosaic.Pipeline (Dat)

/-- The first half of the rows: the product is stored. -/
theorem sout_A (c : Dev nD) (i : grid0.Coords) (a3 : Memref sig .tc .vmem S2048x1024 .bf16) (h3 : a3.IsWhole) (a4 : Memref sig .tc .vmem S2048x1024 .bf16) (h4 : a4.IsWhole)
    (a6 : Memref sig .tc .vmem S1x1024x1024 .bf16) (h6 : a6.IsWhole) (a7 : Memref sig .tc .vmem S1024x1024 .f32) (h7 : a7.IsWhole) (hc0 : cond0_0 i) (hc1 : ¬cond0_1 i) (hc2 : ¬cond0_2 i)
    (x0 : Vec Ideal S2048x1024 .bf16) (x1 : Vec Ideal S2048x1024 .bf16) (p : Fin 1024) (q : Fin 1024) :
    sout0_A_0 c i a3 h3 a4 h4 a6 h6 a7 h7 hc0 hc1 hc2 x0 x1 (ix2 p q) = ∑ k : Fin 2048, x0 (ix2 k p) * x1 (ix2 k q) := by
  frame_out
  pointwise [k0_pay2, k0_pay1]

/-- The second half of the rows: the product is added to what is stored. -/
theorem out_B (c : Dev nD) (i : grid0.Coords) (a3 : Memref sig .tc .vmem S2048x1024 .bf16) (h3 : a3.IsWhole) (a4 : Memref sig .tc .vmem S2048x1024 .bf16) (h4 : a4.IsWhole)
    (a6 : Memref sig .tc .vmem S1x1024x1024 .bf16) (h6 : a6.IsWhole) (a7 : Memref sig .tc .vmem S1024x1024 .f32) (h7 : a7.IsWhole) (hc0 : ¬cond0_0 i) (hc1 : ¬cond0_1 i) (hc2 : cond0_2 i)
    (x0 : Vec Ideal S2048x1024 .bf16) (x1 : Vec Ideal S2048x1024 .bf16) (acc : Vec Ideal S1024x1024 .f32) (p : Fin 1024) (q : Fin 1024) :
    out0_B_2 c i a3 h3 a4 h4 a6 h6 a7 h7 hc0 hc1 hc2 x0 x1 acc (ix3 0 p q) = acc (ix2 p q) + ∑ k : Fin 2048, x0 (ix2 k p) * x1 (ix2 k q) := by
  frame_out
  pointwise [k0_pay4, k0_pay1]

variable (m : (ℓ : Loc nD τ sig) → Buf (Elt Ideal) ℓ) (ρ : Dev nD → PrngReg)

theorem idx0 : ∀ t : Fin cfg0.N, win0_0.index t 0 = t.val % 2 ∧ win0_0.index t 1 = t.val / 2 ∧ win0_1.index t 0 = t.val % 2 ∧ win0_1.index t 1 = 0
    ∧ win0_2.index t 0 = 0 ∧ win0_2.index t 1 = t.val / 2 ∧ win0_2.index t 2 = 0 :=
  (by decide +kernel : ∀ t : Fin grid0.N, _)

/-- The activations. -/
abbrev AC (c : Dev nD) : FVec Ideal S4096x1024 .bf16 := V m c main_v0
/-- The gradient of the result. -/
abbrev DY (c : Dev nD) : FVec Ideal S4096x1024 .bf16 := V m c main_v1
/-- What the gradients' array holds before the call. -/
abbrev GB (c : Dev nD) : FVec Ideal S2x1024x1024 .bf16 := V m c main_v3

/-- The gradient of the first layer's weights; the second layer's part stays as it was. -/
def gw (c : Dev nD) : Vec Ideal S2x1024x1024 .bf16 := fun j =>
  if (j 0).val = 0 then ∑ k : Fin 4096, AC m c (ix2 k (j 1)) * DY m c (ix2 k (j 2)) else GB m c j

theorem gw_zero (c : Dev nD) (p : Fin 1024) (q : Fin 1024) : gw m c (ix3 0 p q) = ∑ k : Fin 4096, AC m c (ix2 k p) * DY m c (ix2 k q) := if_pos rfl
theorem gw_one (c : Dev nD) (p : Fin 1024) (q : Fin 1024) : gw m c (ix3 1 p q) = GB m c (ix3 1 p q) := if_neg Nat.one_ne_zero

theorem row0 (c : Dev nD) (t : Fin cfg0.N) (h b : ℕ) (hh : t.val % 2 = h) (hb : t.val / 2 = b) (k : Fin 2048) (p : Fin 1024) : iblk m c 0 t (ix2 k p)
    = AC m c (ix2 ⟨h * 2048 + k.val, by omega⟩ ⟨b * 1024 + p.val, by have := t.isLt; have : cfg0.N = 2 := N_0; omega⟩) := by
  subst hh hb
  blk_ext [iblk, idx0 t]
theorem row1 (c : Dev nD) (t : Fin cfg0.N) (h : ℕ) (hh : t.val % 2 = h) (k : Fin 2048) (q : Fin 1024) : iblk m c 1 t (ix2 k q) = DY m c (ix2 ⟨h * 2048 + k.val, by omega⟩ q) := by
  subst hh
  blk_ext [iblk, idx0 t]

/-- What an even point leaves: the product over the first half of the rows. -/
theorem half0 (c : Dev nD) (t : Fin cfg0.N) (b : ℕ) (ht : t.val % 2 = 0) (hb : t.val / 2 = b) (p : Fin 1024) (q : Fin 1024) : (outsAt0 m c t.val t.isLt).2 (ix2 p q)
    = ∑ k : Fin 2048, AC m c (ix2 ⟨0 * 2048 + k.val, by omega⟩ ⟨b * 1024 + p.val, by have := t.isLt; have : cfg0.N = 2 := N_0; omega⟩) * DY m c (ix2 ⟨0 * 2048 + k.val, by omega⟩ q) := by
  rw [outsAt0_A m c t ht (by omega)]
  dsimp only
  rw [sout_A]
  refine Finset.sum_congr rfl fun k _ => ?_
  rw [row0 m c t 0 b ht hb, row1 m c t 0 ht]

/-- What an odd point writes: the product over all the rows. -/
theorem whole (c : Dev nD) (t : Fin cfg0.N) (h0 : ¬t.val % 2 = 0) (ht : t.val % 2 = 1) (p : Fin 1024) (q : Fin 1024) :
    out0_B_2 c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr ht) (iblk m c 0 t) (iblk m c 1 t) (outsAt0 m c (t.val - 1) (Nat.lt_of_le_of_lt (Nat.sub_le _ _) t.isLt)).2 (ix3 0 p q)
      = ∑ k : Fin 4096, AC m c (ix2 k ⟨t.val / 2 * 1024 + p.val, by have := t.isLt; have : cfg0.N = 2 := N_0; omega⟩) * DY m c (ix2 k q) := by
  rw [out_B, half0 m c ⟨t.val - 1, Nat.lt_of_le_of_lt (Nat.sub_le _ _) t.isLt⟩ (t.val / 2) (by show (t.val - 1) % 2 = 0; omega) (by show (t.val - 1) / 2 = t.val / 2; omega)]
  rw [← Halves.sum_halves]
  refine congrArg _ (Finset.sum_congr rfl fun k _ => ?_)
  rw [row0 m c t 1 _ ht rfl, row1 m c t 1 ht]

theorem flushed2_eq (c : Dev nD) (t : Fin cfg0.N) (hf : (cfg0.win 2).flush t = true) :
    (dats m 0 c).flushed 2 t = ((cfg0.win 2).blk t).view.read (Elt Ideal) (gw m c) := by
  have ht : t.val % 2 = 1 := (flush0_2 t).mp hf
  have h0 : ¬t.val % 2 = 0 := by omega
  rw [Value.flushed2_B m c t h0 ht]
  funext j
  obtain ⟨p, q, rfl⟩ : ∃ (p : Fin 1024) (q : Fin 1024), j = ix3 0 p q := ⟨j 1, j 2, by
    funext a
    match a with
    | ⟨0, _⟩ => exact Subsingleton.elim (α := Fin 1) _ _
    | ⟨1, _⟩ => rfl
    | ⟨2, _⟩ => rfl⟩
  have e : ((cfg0.win 2).blk t).view.read (Elt Ideal) (gw m c) (ix3 0 p q)
      = gw m c (ix3 0 ⟨t.val / 2 * 1024 + p.val, by have := t.isLt; have : cfg0.N = 2 := N_0; omega⟩ q) := by
    blk_ext [idx0 t]
  rw [e, gw_zero]
  exact whole m c t h0 ht p q

/-- The blocks that are written are the first layer's. -/
theorem mem_blk (t : Fin cfg0.N) (i : S2x1024x1024.Idx) : i ∈ ((cfg0.win 2).blk t).view.set ↔ (i 0).val = 0 ∧ (i 1).val / 1024 = t.val / 2 := by
  show i ∈ ((View.whole main_v3).slice (win0_2.rect t)).set ↔ _
  rw [View.set_slice_whole, Rect.mem_set_unit]
  have h0 : (i 0 : Nat) < 2 := (i 0).isLt
  have h1 : (i 1 : Nat) < 1024 := (i 1).isLt
  have h2 : (i 2 : Nat) < 1024 := (i 2).isLt
  have e := idx0 t
  have e' : win0_2.xsize (grid0.coords t) 0 = 1 ∧ win0_2.xsize (grid0.coords t) 1 = 1024 ∧ win0_2.xsize (grid0.coords t) 2 = 1024 :=
    (by decide +kernel : ∀ t : Fin grid0.N, win0_2.xsize (grid0.coords t) 0 = 1 ∧ win0_2.xsize (grid0.coords t) 1 = 1024 ∧ win0_2.xsize (grid0.coords t) 2 = 1024) t
  have hN : cfg0.N = 2 := N_0
  have hlt := t.isLt
  constructor
  · intro h
    have g0 : win0_2.index t 0 * 1 ≤ (i 0 : Nat) ∧ (i 0 : Nat) < win0_2.index t 0 * 1 + win0_2.xsize (grid0.coords t) 0 := h 0
    have g1 : win0_2.index t 1 * 1024 ≤ (i 1 : Nat) ∧ (i 1 : Nat) < win0_2.index t 1 * 1024 + win0_2.xsize (grid0.coords t) 1 := h 1
    rw [e.2.2.2.2.1, e'.1] at g0
    rw [e.2.2.2.2.2.1, e'.2.1] at g1
    omega
  · rintro ⟨g0, g1⟩ a
    match a with
    | ⟨0, _⟩ => show win0_2.index t 0 * 1 ≤ (i 0 : Nat) ∧ (i 0 : Nat) < win0_2.index t 0 * 1 + win0_2.xsize (grid0.coords t) 0
                rw [e.2.2.2.2.1, e'.1]; omega
    | ⟨1, _⟩ => show win0_2.index t 1 * 1024 ≤ (i 1 : Nat) ∧ (i 1 : Nat) < win0_2.index t 1 * 1024 + win0_2.xsize (grid0.coords t) 1
                rw [e.2.2.2.2.2.1, e'.2.1]; omega
    | ⟨2, _⟩ => show win0_2.index t 2 * 1024 ≤ (i 2 : Nat) ∧ (i 2 : Nat) < win0_2.index t 2 * 1024 + win0_2.xsize (grid0.coords t) 2
                rw [e.2.2.2.2.2.2, e'.2.2]; omega

theorem final2 (c : Dev nD) : (dats m 0 c).arrAt 2 cfg0.N = gw m c := by
  funext i
  have h1 : (i 1 : Nat) < 1024 := (i 1).isLt
  have hN : cfg0.N = 2 := N_0
  by_cases hi : (i 0).val = 0
  · let t : Fin cfg0.N := ⟨(i 1 : Nat) / 1024 * 2 + 1, by omega⟩
    have ht : t.val = (i 1 : Nat) / 1024 * 2 + 1 := rfl
    exact (dats m 0 c).arrAt_apply_of_mem 2 (gw m c) (flushed2_eq m c) cfg0.N t i t.isLt ((flush0_2 t).mpr (by omega)) ((mem_blk t i).mpr ⟨hi, by omega⟩)
  · rw [Value.entry2 m c i fun t _ h => hi ((mem_blk t i).mp h).1]
    exact (if_neg hi).symm

abbrev a0 (c : Dev nD) : FVec Ideal S4096x1024 .f32 := m ((c : Thread nD τ).loc main_arg0)
abbrev a1 (c : Dev nD) : FVec Ideal S4096x1024 .f32 := m ((c : Thread nD τ).loc main_arg1)
abbrev a2 (c : Dev nD) : FVec Ideal S2x1024x1024 .f32 := m ((c : Thread nD τ).loc main_arg2)

/-- The first layer's gradient from the arguments. -/
theorem gw_apply (c : Dev nD) (p : Fin 1024) (q : Fin 1024) : gw m c (ix3 0 p q) = ∑ k : Fin 4096, a0 m c (ix2 k p) * a1 m c (ix2 k q) := by
  rw [gw_zero]
  refine Finset.sum_congr rfl fun k _ => ?_
  have e0 : AC m c (ix2 k p) = a0 m c (ix2 k p) := by
    show V m c main_v0 (ix2 k p) = _
    entry_read
    pointwise
  have e1 : DY m c (ix2 k q) = a1 m c (ix2 k q) := by
    show V m c main_v1 (ix2 k q) = _
    entry_read
    pointwise
  rw [e0, e1]

/-- The second layer's part from the arguments. -/
theorem gw_rest (c : Dev nD) (p : Fin 1024) (q : Fin 1024) : gw m c (ix3 1 p q) = a2 m c (ix3 1 p q) := by
  rw [gw_one]
  show V m c main_v3 (ix3 1 p q) = _
  entry_read
  pointwise

end Cert.KernelWXIdeal.Arrays
end
-- ==== Proof.M.ClaimsWX.lean ====
module
public import proofs.«01_k».proof.Defs
public import proofs.«01_k».proof.Proof.M.CrossWeights
public import proofs.«01_k».proof.Proof.Gen.KernelWX.Frame
public import proofs.«01_k».proof.Proof.Gen.ReferenceWXIdeal.Run
public import Idealize.ShloMosaic.Adequacy
public import Idealize.ShloMosaic.Init
@[expose] public section
set_option maxRecDepth 16384
noncomputable section
/-! The claims about the memory attention's output weight gradient. -/
namespace Cert.ClaimsWX
open Idealize.ShloMosaic Idealize.ShloMosaic.TcCoe Idealize.ShloMosaic.Pointwise Idealize.SL.Sem

theorem frame : Cert.quiescent_KernelWX := fun m ρ _ => Cert.KernelWX.Gen.frame m ρ
theorem frame_ideal : Cert.quiescent_KernelWXIdeal := fun m ρ _ => Cert.KernelWXIdeal.Gen.frame m ρ
theorem frame_ref : Cert.quiescent_ReferenceWXIdeal := fun m ρ _ =>
  (θ_run Cert.ReferenceWXIdeal.defs _ _).mono (fun r h => ⟨fun c => (h c).2, Idealize.ShloMosaic.sem_eq_zero_of_no_sems (by decide) r.2⟩)
    (Cert.ReferenceWXIdeal.Value.run (F := Ideal) m ρ)

open ReferenceWXIdeal ReferenceWXIdeal.Gen in
/-- What the reference computes. -/
def ref (a0 : FVec Ideal S4096x1024 .f32) (a1 : FVec Ideal S4096x1024 .f32) (a2 : FVec Ideal S2x1024x1024 .f32) : FVec Ideal S2x1024x1024 .bf16 :=
  truncf .bf16 (concatenate S2x1024x1024 0 [⟨S1x1024x1024, (broadcastInDim S1x1024x1024 ![1, 2] bcast_S1024x1024_S1x1024x1024_1_2 (transpose S1024x1024 [1, 0] (Host.dotGeneral dot_S4096x1024_S4096x1024_S1024x1024_0_0_1_1_n_n none a1 a0) transposes_S1024x1024_S1024x1024_1_0))⟩,
    ⟨S1x1024x1024, (broadcastInDim S1x1024x1024 ![1, 2] bcast_S1024x1024_S1x1024x1024_1_2 (shapeCast _ (extractStridedSlice S1x1024x1024 ![1, 0, 0] a2 slices_S2x1024x1024_S1x1024x1024_1_0_0) shapeCasts_S1x1024x1024_S1024x1024))⟩] concatenates_S1x1024x1024_S1x1024x1024_S2x1024x1024_d0) bitsLt_bf16_f32

open KernelWXIdeal.Arrays in
/-- The kernel's array is the reference's. -/
theorem gw_eq (m : (ℓ : Loc KernelWXIdeal.nD KernelWXIdeal.τ KernelWXIdeal.sig) → Buf (Elt Ideal) ℓ) (c : Dev KernelWXIdeal.nD) :
    gw m c = ref (a0 m c) (a1 m c) (a2 m c) := by
  funext j
  obtain ⟨l, p, q, rfl⟩ : ∃ (l : Fin 2) (p : Fin 1024) (q : Fin 1024), j = ix3 l p q := ⟨j 0, j 1, j 2, eq_ix3 j⟩
  match l with
  | 0 =>
    rw [gw_apply]
    symm
    pointwise [ref]
    exact Finset.sum_congr rfl fun k _ => mul_comm _ _
  | 1 =>
    rw [gw_rest]
    symm
    pointwise [ref]

theorem algebraic : Cert.algebraic_KernelWXIdeal_ReferenceWXIdeal := by
  intro m ρ m' ρ' _ hagree
  refine ⟨fun c => KernelWXIdeal.Arrays.gw m c, ?_, ?_⟩
  · exact (θ_run Cert.KernelWXIdeal.defs _ _).mono
      (fun _ h c => ⟨(h c).1.trans (KernelWXIdeal.Arrays.final2 m c), (h c).2⟩)
      (Cert.KernelWXIdeal.Value.run_blocks (F := Ideal) m ρ)
  · refine (θ_run Cert.ReferenceWXIdeal.defs _ _).mono (fun _ h c => ⟨(h c).1.trans ?_, (h c).2⟩)
      (Cert.ReferenceWXIdeal.Value.run (F := Ideal) m' ρ')
    show _ = KernelWXIdeal.Arrays.gw m c
    rw [gw_eq m c, (hagree c).1, (hagree c).2.1, (hagree c).2.2]
    rfl

end Cert.ClaimsWX
end
-- ==== Proof.M.OutWeights.lean ====
module
public import proofs.«01_k».proof.Proof.Gen.KernelWOIdeal.Value
public import Idealize.ShloMosaic.Lib.Pipeline.ValueKit
public import Idealize.ShloMosaic.Lib.Pointwise
public import proofs.«01_k».proof.Proof.M.Halves
@[expose] public section
set_option maxRecDepth 16384
noncomputable section
/-! What the array of the attention's output weight gradient holds after the run. -/
namespace Cert.KernelWOIdeal.Arrays
open Cert.KernelWOIdeal Cert.KernelWOIdeal.Gen Idealize.ShloMosaic Idealize.ShloMosaic.TcCoe Idealize.SL.Sem
open Idealize.ShloMosaic.Pointwise
open Idealize.ShloMosaic.Pipeline (Dat)

/-- The first half of the rows: the product is stored. -/
theorem sout_A (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1x1024x1024 .bf16) (h5 : a5.IsWhole) (a6 : Memref sig .tc .vmem S1024x1024 .f32) (h6 : a6.IsWhole) (hc0 : cond0_0 i) (hc1 : ¬cond0_1 i) (hc2 : ¬cond0_2 i)
    (x0 : Vec Ideal S2048x1024 .bf16) (x1 : Vec Ideal S2048x1024 .bf16) (p : Fin 1024) (q : Fin 1024) :
    sout0_A_0 c i a3 h3 a4 h4 a5 h5 a6 h6 hc0 hc1 hc2 x0 x1 (ix2 p q) = ∑ k : Fin 2048, x0 (ix2 k p) * x1 (ix2 k q) := by
  frame_out
  pointwise [k0_pay2, k0_pay1]

/-- The second half of the rows: the product is added to what is stored. -/
theorem out_B (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1x1024x1024 .bf16) (h5 : a5.IsWhole) (a6 : Memref sig .tc .vmem S1024x1024 .f32) (h6 : a6.IsWhole) (hc0 : ¬cond0_0 i) (hc1 : ¬cond0_1 i) (hc2 : cond0_2 i)
    (x0 : Vec Ideal S2048x1024 .bf16) (x1 : Vec Ideal S2048x1024 .bf16) (acc : Vec Ideal S1024x1024 .f32) (p : Fin 1024) (q : Fin 1024) :
    out0_B_2 c i a3 h3 a4 h4 a5 h5 a6 h6 hc0 hc1 hc2 x0 x1 acc (ix3 0 p q) = acc (ix2 p q) + ∑ k : Fin 2048, x0 (ix2 k p) * x1 (ix2 k q) := by
  frame_out
  pointwise [k0_pay4, k0_pay1]

variable (m : (ℓ : Loc nD τ sig) → Buf (Elt Ideal) ℓ) (ρ : Dev nD → PrngReg)

theorem idx0 : ∀ t : Fin cfg0.N, win0_0.index t 0 = t.val % 2 ∧ win0_0.index t 1 = t.val / 2 ∧ win0_1.index t 0 = t.val % 2 ∧ win0_1.index t 1 = 0
    ∧ win0_2.index t 0 = 0 ∧ win0_2.index t 1 = t.val / 2 ∧ win0_2.index t 2 = 0 :=
  (by decide +kernel : ∀ t : Fin grid0.N, _)

/-- The activations. -/
abbrev AC (c : Dev nD) : FVec Ideal S4096x1024 .bf16 := V m c main_v0
/-- The gradient of the result. -/
abbrev DY (c : Dev nD) : FVec Ideal S4096x1024 .bf16 := V m c main_v1

/-- The weights' gradient. -/
def gw (c : Dev nD) : Vec Ideal S1x1024x1024 .bf16 := fun j => ∑ k : Fin 4096, AC m c (ix2 k (j 1)) * DY m c (ix2 k (j 2))

theorem row0 (c : Dev nD) (t : Fin cfg0.N) (h b : ℕ) (hh : t.val % 2 = h) (hb : t.val / 2 = b) (k : Fin 2048) (p : Fin 1024) : iblk m c 0 t (ix2 k p)
    = AC m c (ix2 ⟨h * 2048 + k.val, by omega⟩ ⟨b * 1024 + p.val, by have := t.isLt; have : cfg0.N = 2 := N_0; omega⟩) := by
  subst hh hb
  blk_ext [iblk, idx0 t]
theorem row1 (c : Dev nD) (t : Fin cfg0.N) (h : ℕ) (hh : t.val % 2 = h) (k : Fin 2048) (q : Fin 1024) : iblk m c 1 t (ix2 k q) = DY m c (ix2 ⟨h * 2048 + k.val, by omega⟩ q) := by
  subst hh
  blk_ext [iblk, idx0 t]

/-- What an even point leaves: the product over the first half of the rows. -/
theorem half0 (c : Dev nD) (t : Fin cfg0.N) (b : ℕ) (ht : t.val % 2 = 0) (hb : t.val / 2 = b) (p : Fin 1024) (q : Fin 1024) : (outsAt0 m c t.val t.isLt).2 (ix2 p q)
    = ∑ k : Fin 2048, AC m c (ix2 ⟨0 * 2048 + k.val, by omega⟩ ⟨b * 1024 + p.val, by have := t.isLt; have : cfg0.N = 2 := N_0; omega⟩) * DY m c (ix2 ⟨0 * 2048 + k.val, by omega⟩ q) := by
  rw [outsAt0_A m c t ht (by omega)]
  dsimp only
  rw [sout_A]
  refine Finset.sum_congr rfl fun k _ => ?_
  rw [row0 m c t 0 b ht hb, row1 m c t 0 ht]

/-- What an odd point writes: the product over all the rows. -/
theorem whole (c : Dev nD) (t : Fin cfg0.N) (h0 : ¬t.val % 2 = 0) (ht : t.val % 2 = 1) (p : Fin 1024) (q : Fin 1024) :
    out0_B_2 c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr ht) (iblk m c 0 t) (iblk m c 1 t) (outsAt0 m c (t.val - 1) (Nat.lt_of_le_of_lt (Nat.sub_le _ _) t.isLt)).2 (ix3 0 p q)
      = ∑ k : Fin 4096, AC m c (ix2 k ⟨t.val / 2 * 1024 + p.val, by have := t.isLt; have : cfg0.N = 2 := N_0; omega⟩) * DY m c (ix2 k q) := by
  rw [out_B, half0 m c ⟨t.val - 1, Nat.lt_of_le_of_lt (Nat.sub_le _ _) t.isLt⟩ (t.val / 2) (by show (t.val - 1) % 2 = 0; omega) (by show (t.val - 1) / 2 = t.val / 2; omega)]
  rw [← Halves.sum_halves]
  refine congrArg _ (Finset.sum_congr rfl fun k _ => ?_)
  rw [row0 m c t 1 _ ht rfl, row1 m c t 1 ht]

theorem flushed2_eq (c : Dev nD) (t : Fin cfg0.N) (hf : (cfg0.win 2).flush t = true) :
    (dats m 0 c).flushed 2 t = ((cfg0.win 2).blk t).view.read (Elt Ideal) (gw m c) := by
  have ht : t.val % 2 = 1 := (flush0_2 t).mp hf
  have h0 : ¬t.val % 2 = 0 := by omega
  rw [Value.flushed2_B m c t h0 ht]
  funext j
  obtain ⟨p, q, rfl⟩ : ∃ (p : Fin 1024) (q : Fin 1024), j = ix3 0 p q := ⟨j 1, j 2, by
    funext a
    match a with
    | ⟨0, _⟩ => exact Subsingleton.elim (α := Fin 1) _ _
    | ⟨1, _⟩ => rfl
    | ⟨2, _⟩ => rfl⟩
  have e : ((cfg0.win 2).blk t).view.read (Elt Ideal) (gw m c) (ix3 0 p q)
      = gw m c (ix3 0 ⟨t.val / 2 * 1024 + p.val, by have := t.isLt; have : cfg0.N = 2 := N_0; omega⟩ q) := by
    blk_ext [idx0 t]
  rw [e]
  exact whole m c t h0 ht p q

theorem final2 (c : Dev nD) : (dats m 0 c).arrAt 2 cfg0.N = gw m c :=
  (dats m 0 c).arrAt_eq_of_cover 2 (gw m c) (flushed2_eq m c) (Pipeline.Window.Covers.cover win0_2 (by decide +kernel) (Memref.isWhole_whole _))

abbrev a0 (c : Dev nD) : FVec Ideal S4096x1024 .f32 := m ((c : Thread nD τ).loc main_arg0)
abbrev a1 (c : Dev nD) : FVec Ideal S4096x1024 .f32 := m ((c : Thread nD τ).loc main_arg1)

/-- The gradient from the arguments. -/
theorem gw_apply (c : Dev nD) (p : Fin 1024) (q : Fin 1024) : gw m c (ix3 0 p q) = ∑ k : Fin 4096, a0 m c (ix2 k p) * a1 m c (ix2 k q) := by
  show ∑ k : Fin 4096, AC m c (ix2 k p) * DY m c (ix2 k q) = _
  refine Finset.sum_congr rfl fun k _ => ?_
  have e0 : AC m c (ix2 k p) = a0 m c (ix2 k p) := by
    show V m c main_v0 (ix2 k p) = _
    entry_read
    pointwise
  have e1 : DY m c (ix2 k q) = a1 m c (ix2 k q) := by
    show V m c main_v1 (ix2 k q) = _
    entry_read
    pointwise
  rw [e0, e1]

end Cert.KernelWOIdeal.Arrays
end
-- ==== Proof.M.ClaimsWO.lean ====
module
public import proofs.«01_k».proof.Defs
public import proofs.«01_k».proof.Proof.M.OutWeights
public import proofs.«01_k».proof.Proof.Gen.KernelWO.Frame
public import proofs.«01_k».proof.Proof.Gen.ReferenceWOIdeal.Run
public import Idealize.ShloMosaic.Adequacy
public import Idealize.ShloMosaic.Init
@[expose] public section
set_option maxRecDepth 16384
noncomputable section
/-! The claims about the attention's output weight gradient. -/
namespace Cert.ClaimsWO
open Idealize.ShloMosaic Idealize.ShloMosaic.TcCoe Idealize.ShloMosaic.Pointwise Idealize.SL.Sem

theorem frame : Cert.quiescent_KernelWO := fun m ρ _ => Cert.KernelWO.Gen.frame m ρ
theorem frame_ideal : Cert.quiescent_KernelWOIdeal := fun m ρ _ => Cert.KernelWOIdeal.Gen.frame m ρ
theorem frame_ref : Cert.quiescent_ReferenceWOIdeal := fun m ρ _ =>
  (θ_run Cert.ReferenceWOIdeal.defs _ _).mono (fun r h => ⟨fun c => (h c).2, Idealize.ShloMosaic.sem_eq_zero_of_no_sems (by decide) r.2⟩)
    (Cert.ReferenceWOIdeal.Value.run (F := Ideal) m ρ)

open ReferenceWOIdeal ReferenceWOIdeal.Gen in
/-- What the reference computes. -/
def ref (a0 : FVec Ideal S4096x1024 .f32) (a1 : FVec Ideal S4096x1024 .f32) : FVec Ideal S1x1024x1024 .bf16 :=
  truncf .bf16 (broadcastInDim S1x1024x1024 ![1, 2] bcast_S1024x1024_S1x1024x1024_1_2 (transpose S1024x1024 [1, 0] (Host.dotGeneral dot_S4096x1024_S4096x1024_S1024x1024_0_0_1_1_n_n none a1 a0) transposes_S1024x1024_S1024x1024_1_0)) bitsLt_bf16_f32

open KernelWOIdeal.Arrays in
/-- The kernel's array is the reference's. -/
theorem gw_eq (m : (ℓ : Loc KernelWOIdeal.nD KernelWOIdeal.τ KernelWOIdeal.sig) → Buf (Elt Ideal) ℓ) (c : Dev KernelWOIdeal.nD) :
    gw m c = ref (a0 m c) (a1 m c) := by
  funext j
  obtain ⟨l, p, q, rfl⟩ : ∃ (l : Fin 1) (p : Fin 1024) (q : Fin 1024), j = ix3 l p q := ⟨j 0, j 1, j 2, eq_ix3 j⟩
  obtain rfl : l = 0 := Subsingleton.elim _ _
  rw [gw_apply]
  symm
  pointwise [ref]
  exact Finset.sum_congr rfl fun k _ => mul_comm _ _

theorem algebraic : Cert.algebraic_KernelWOIdeal_ReferenceWOIdeal := by
  intro m ρ m' ρ' _ hagree
  refine ⟨fun c => KernelWOIdeal.Arrays.gw m c, ?_, ?_⟩
  · exact (θ_run Cert.KernelWOIdeal.defs _ _).mono
      (fun _ h c => ⟨(h c).1.trans (KernelWOIdeal.Arrays.final2 m c), (h c).2⟩)
      (Cert.KernelWOIdeal.Value.run_blocks (F := Ideal) m ρ)
  · refine (θ_run Cert.ReferenceWOIdeal.defs _ _).mono (fun _ h c => ⟨(h c).1.trans ?_, (h c).2⟩)
      (Cert.ReferenceWOIdeal.Value.run (F := Ideal) m' ρ')
    show _ = KernelWOIdeal.Arrays.gw m c
    rw [gw_eq m c, (hagree c).1, (hagree c).2]
    rfl

end Cert.ClaimsWO
end
-- ==== Proof.M.InWeights.lean ====
module
public import proofs.«01_k».proof.Proof.Gen.KernelWQIdeal.Value
public import Idealize.ShloMosaic.Lib.Pipeline.ValueKit
public import Idealize.ShloMosaic.Lib.Pointwise
public import proofs.«01_k».proof.Proof.M.Halves
@[expose] public section
set_option maxRecDepth 16384
noncomputable section
/-! What the array of the attention's query, key and value weight gradient holds after the run. -/
namespace Cert.KernelWQIdeal.Arrays
open Cert.KernelWQIdeal Cert.KernelWQIdeal.Gen Idealize.ShloMosaic Idealize.ShloMosaic.TcCoe Idealize.SL.Sem
open Idealize.ShloMosaic.Pointwise
open Idealize.ShloMosaic.Pipeline (Dat)

/-- The first half of the rows: the product is stored. -/
theorem sout_A (c : Dev nD) (i : grid0.Coords) (a3 : Memref sig .tc .vmem S2048x1024 .bf16) (h3 : a3.IsWhole) (a4 : Memref sig .tc .vmem S2048x1536 .bf16) (h4 : a4.IsWhole)
    (a5 : Memref sig .tc .vmem S1x1024x1536 .bf16) (h5 : a5.IsWhole) (a6 : Memref sig .tc .vmem S1024x1536 .f32) (h6 : a6.IsWhole) (hc0 : cond0_0 i) (hc1 : ¬cond0_1 i) (hc2 : ¬cond0_2 i)
    (x0 : Vec Ideal S2048x1024 .bf16) (x1 : Vec Ideal S2048x1536 .bf16) (p : Fin 1024) (q : Fin 1536) :
    sout0_A_0 c i a3 h3 a4 h4 a5 h5 a6 h6 hc0 hc1 hc2 x0 x1 (ix2 p q) = ∑ k : Fin 2048, x0 (ix2 k p) * x1 (ix2 k q) := by
  frame_out
  pointwise [k0_pay2, k0_pay1]

/-- The second half of the rows: the product is added to what is stored. -/
theorem out_B (c : Dev nD) (i : grid0.Coords) (a3 : Memref sig .tc .vmem S2048x1024 .bf16) (h3 : a3.IsWhole) (a4 : Memref sig .tc .vmem S2048x1536 .bf16) (h4 : a4.IsWhole)
    (a5 : Memref sig .tc .vmem S1x1024x1536 .bf16) (h5 : a5.IsWhole) (a6 : Memref sig .tc .vmem S1024x1536 .f32) (h6 : a6.IsWhole) (hc0 : ¬cond0_0 i) (hc1 : ¬cond0_1 i) (hc2 : cond0_2 i)
    (x0 : Vec Ideal S2048x1024 .bf16) (x1 : Vec Ideal S2048x1536 .bf16) (acc : Vec Ideal S1024x1536 .f32) (p : Fin 1024) (q : Fin 1536) :
    out0_B_2 c i a3 h3 a4 h4 a5 h5 a6 h6 hc0 hc1 hc2 x0 x1 acc (ix3 0 p q) = acc (ix2 p q) + ∑ k : Fin 2048, x0 (ix2 k p) * x1 (ix2 k q) := by
  frame_out
  pointwise [k0_pay4, k0_pay1]

variable (m : (ℓ : Loc nD τ sig) → Buf (Elt Ideal) ℓ) (ρ : Dev nD → PrngReg)

theorem idx0 : ∀ t : Fin cfg0.N, win0_0.index t 0 = t.val % 2 ∧ win0_0.index t 1 = t.val / 2 ∧ win0_1.index t 0 = t.val % 2 ∧ win0_1.index t 1 = 0
    ∧ win0_2.index t 0 = 0 ∧ win0_2.index t 1 = t.val / 2 ∧ win0_2.index t 2 = 0 :=
  (by decide +kernel : ∀ t : Fin grid0.N, _)

/-- The activations. -/
abbrev AC (c : Dev nD) : FVec Ideal S4096x1024 .bf16 := V m c main_v0
/-- The gradient of the result. -/
abbrev DY (c : Dev nD) : FVec Ideal S4096x1536 .bf16 := V m c main_v1

/-- The weights' gradient. -/
def gw (c : Dev nD) : Vec Ideal S1x1024x1536 .bf16 := fun j => ∑ k : Fin 4096, AC m c (ix2 k (j 1)) * DY m c (ix2 k (j 2))

theorem row0 (c : Dev nD) (t : Fin cfg0.N) (h b : ℕ) (hh : t.val % 2 = h) (hb : t.val / 2 = b) (k : Fin 2048) (p : Fin 1024) : iblk m c 0 t (ix2 k p)
    = AC m c (ix2 ⟨h * 2048 + k.val, by omega⟩ ⟨b * 1024 + p.val, by have := t.isLt; have : cfg0.N = 2 := N_0; omega⟩) := by
  subst hh hb
  blk_ext [iblk, idx0 t]
theorem row1 (c : Dev nD) (t : Fin cfg0.N) (h : ℕ) (hh : t.val % 2 = h) (k : Fin 2048) (q : Fin 1536) : iblk m c 1 t (ix2 k q) = DY m c (ix2 ⟨h * 2048 + k.val, by omega⟩ q) := by
  subst hh
  blk_ext [iblk, idx0 t]

/-- What an even point leaves: the product over the first half of the rows. -/
theorem half0 (c : Dev nD) (t : Fin cfg0.N) (b : ℕ) (ht : t.val % 2 = 0) (hb : t.val / 2 = b) (p : Fin 1024) (q : Fin 1536) : (outsAt0 m c t.val t.isLt).2 (ix2 p q)
    = ∑ k : Fin 2048, AC m c (ix2 ⟨0 * 2048 + k.val, by omega⟩ ⟨b * 1024 + p.val, by have := t.isLt; have : cfg0.N = 2 := N_0; omega⟩) * DY m c (ix2 ⟨0 * 2048 + k.val, by omega⟩ q) := by
  rw [outsAt0_A m c t ht (by omega)]
  dsimp only
  rw [sout_A]
  refine Finset.sum_congr rfl fun k _ => ?_
  rw [row0 m c t 0 b ht hb, row1 m c t 0 ht]

/-- What an odd point writes: the product over all the rows. -/
theorem whole (c : Dev nD) (t : Fin cfg0.N) (h0 : ¬t.val % 2 = 0) (ht : t.val % 2 = 1) (p : Fin 1024) (q : Fin 1536) :
    out0_B_2 c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr ht) (iblk m c 0 t) (iblk m c 1 t) (outsAt0 m c (t.val - 1) (Nat.lt_of_le_of_lt (Nat.sub_le _ _) t.isLt)).2 (ix3 0 p q)
      = ∑ k : Fin 4096, AC m c (ix2 k ⟨t.val / 2 * 1024 + p.val, by have := t.isLt; have : cfg0.N = 2 := N_0; omega⟩) * DY m c (ix2 k q) := by
  rw [out_B, half0 m c ⟨t.val - 1, Nat.lt_of_le_of_lt (Nat.sub_le _ _) t.isLt⟩ (t.val / 2) (by show (t.val - 1) % 2 = 0; omega) (by show (t.val - 1) / 2 = t.val / 2; omega)]
  rw [← Halves.sum_halves]
  refine congrArg _ (Finset.sum_congr rfl fun k _ => ?_)
  rw [row0 m c t 1 _ ht rfl, row1 m c t 1 ht]

theorem flushed2_eq (c : Dev nD) (t : Fin cfg0.N) (hf : (cfg0.win 2).flush t = true) :
    (dats m 0 c).flushed 2 t = ((cfg0.win 2).blk t).view.read (Elt Ideal) (gw m c) := by
  have ht : t.val % 2 = 1 := (flush0_2 t).mp hf
  have h0 : ¬t.val % 2 = 0 := by omega
  rw [Value.flushed2_B m c t h0 ht]
  funext j
  obtain ⟨p, q, rfl⟩ : ∃ (p : Fin 1024) (q : Fin 1536), j = ix3 0 p q := ⟨j 1, j 2, by
    funext a
    match a with
    | ⟨0, _⟩ => exact Subsingleton.elim (α := Fin 1) _ _
    | ⟨1, _⟩ => rfl
    | ⟨2, _⟩ => rfl⟩
  have e : ((cfg0.win 2).blk t).view.read (Elt Ideal) (gw m c) (ix3 0 p q)
      = gw m c (ix3 0 ⟨t.val / 2 * 1024 + p.val, by have := t.isLt; have : cfg0.N = 2 := N_0; omega⟩ q) := by
    blk_ext [idx0 t]
  rw [e]
  exact whole m c t h0 ht p q

theorem final2 (c : Dev nD) : (dats m 0 c).arrAt 2 cfg0.N = gw m c :=
  (dats m 0 c).arrAt_eq_of_cover 2 (gw m c) (flushed2_eq m c) (Pipeline.Window.Covers.cover win0_2 (by decide +kernel) (Memref.isWhole_whole _))

abbrev a0 (c : Dev nD) : FVec Ideal S4096x1024 .f32 := m ((c : Thread nD τ).loc main_arg0)
abbrev a1 (c : Dev nD) : FVec Ideal S4096x1536 .f32 := m ((c : Thread nD τ).loc main_arg1)

/-- The gradient from the arguments. -/
theorem gw_apply (c : Dev nD) (p : Fin 1024) (q : Fin 1536) : gw m c (ix3 0 p q) = ∑ k : Fin 4096, a0 m c (ix2 k p) * a1 m c (ix2 k q) := by
  show ∑ k : Fin 4096, AC m c (ix2 k p) * DY m c (ix2 k q) = _
  refine Finset.sum_congr rfl fun k _ => ?_
  have e0 : AC m c (ix2 k p) = a0 m c (ix2 k p) := by
    show V m c main_v0 (ix2 k p) = _
    entry_read
    pointwise
  have e1 : DY m c (ix2 k q) = a1 m c (ix2 k q) := by
    show V m c main_v1 (ix2 k q) = _
    entry_read
    pointwise
  rw [e0, e1]

end Cert.KernelWQIdeal.Arrays
end
-- ==== Proof.M.ClaimsWQ.lean ====
module
public import proofs.«01_k».proof.Defs
public import proofs.«01_k».proof.Proof.M.InWeights
public import proofs.«01_k».proof.Proof.Gen.KernelWQ.Frame
public import proofs.«01_k».proof.Proof.Gen.ReferenceWQIdeal.Run
public import Idealize.ShloMosaic.Adequacy
public import Idealize.ShloMosaic.Init
@[expose] public section
set_option maxRecDepth 16384
noncomputable section
/-! The claims about the attention's query, key and value weight gradient. -/
namespace Cert.ClaimsWQ
open Idealize.ShloMosaic Idealize.ShloMosaic.TcCoe Idealize.ShloMosaic.Pointwise Idealize.SL.Sem

theorem frame : Cert.quiescent_KernelWQ := fun m ρ _ => Cert.KernelWQ.Gen.frame m ρ
theorem frame_ideal : Cert.quiescent_KernelWQIdeal := fun m ρ _ => Cert.KernelWQIdeal.Gen.frame m ρ
theorem frame_ref : Cert.quiescent_ReferenceWQIdeal := fun m ρ _ =>
  (θ_run Cert.ReferenceWQIdeal.defs _ _).mono (fun r h => ⟨fun c => (h c).2, Idealize.ShloMosaic.sem_eq_zero_of_no_sems (by decide) r.2⟩)
    (Cert.ReferenceWQIdeal.Value.run (F := Ideal) m ρ)

open ReferenceWQIdeal ReferenceWQIdeal.Gen in
/-- What the reference computes. -/
def ref (a0 : FVec Ideal S4096x1024 .f32) (a1 : FVec Ideal S4096x1536 .f32) : FVec Ideal S1x1024x1536 .bf16 :=
  truncf .bf16 (broadcastInDim S1x1024x1536 ![1, 2] bcast_S1024x1536_S1x1024x1536_1_2 (transpose S1024x1536 [1, 0] (Host.dotGeneral dot_S4096x1536_S4096x1024_S1536x1024_0_0_1_1_n_n none a1 a0) transposes_S1536x1024_S1024x1536_1_0)) bitsLt_bf16_f32

open KernelWQIdeal.Arrays in
/-- The kernel's array is the reference's. -/
theorem gw_eq (m : (ℓ : Loc KernelWQIdeal.nD KernelWQIdeal.τ KernelWQIdeal.sig) → Buf (Elt Ideal) ℓ) (c : Dev KernelWQIdeal.nD) :
    gw m c = ref (a0 m c) (a1 m c) := by
  funext j
  obtain ⟨l, p, q, rfl⟩ : ∃ (l : Fin 1) (p : Fin 1024) (q : Fin 1536), j = ix3 l p q := ⟨j 0, j 1, j 2, eq_ix3 j⟩
  obtain rfl : l = 0 := Subsingleton.elim _ _
  rw [gw_apply]
  symm
  pointwise [ref]
  exact Finset.sum_congr rfl fun k _ => mul_comm _ _

theorem algebraic : Cert.algebraic_KernelWQIdeal_ReferenceWQIdeal := by
  intro m ρ m' ρ' _ hagree
  refine ⟨fun c => KernelWQIdeal.Arrays.gw m c, ?_, ?_⟩
  · exact (θ_run Cert.KernelWQIdeal.defs _ _).mono
      (fun _ h c => ⟨(h c).1.trans (KernelWQIdeal.Arrays.final2 m c), (h c).2⟩)
      (Cert.KernelWQIdeal.Value.run_blocks (F := Ideal) m ρ)
  · refine (θ_run Cert.ReferenceWQIdeal.defs _ _).mono (fun _ h c => ⟨(h c).1.trans ?_, (h c).2⟩)
      (Cert.ReferenceWQIdeal.Value.run (F := Ideal) m' ρ')
    show _ = KernelWQIdeal.Arrays.gw m c
    rw [gw_eq m c, (hagree c).1, (hagree c).2]
    rfl

end Cert.ClaimsWQ
end
-- ==== Proof.M.NormHQBlock.lean ====
module
public import proofs.«01_k».proof.Proof.Gen.KernelHQIdeal.Value
public import proofs.«01_k».proof.Proof.M.Norm
public import Idealize.ShloMosaic.Lib.Pipeline.ValueKit
public import Idealize.ShloMosaic.Lib.Pointwise
@[expose] public section
set_option maxRecDepth 16384
noncomputable section
/-! What a block of the gradient of the norm before the memory attention holds. -/
namespace Cert.KernelHQIdeal.Block
open Cert.KernelHQIdeal Cert.KernelHQIdeal.Gen Idealize.ShloMosaic Idealize.ShloMosaic.TcCoe Idealize.SL.Sem
open Idealize.ShloMosaic.Pointwise

/-- A row's incoming gradient. -/
def up (x0 : Vec Ideal S512x1024 .bf16) (x1 : Vec Ideal S1x1024x1024 .bf16) (p : Fin 512) (q : Fin 1024) : EReal := ∑ k : Fin 1024, x0 (ix2 p k) * x1 (ix3 0 q k)
/-- A row. -/
abbrev row (x : Vec Ideal S512x1024 .f32) (p : Fin 512) (k : Fin 1024) : EReal := x (ix2 p k)

section
variable (x0 : Vec Ideal S512x1024 .bf16) (x1 : Vec Ideal S1x1024x1024 .bf16) (x2 : Vec Ideal S512x1024 .f32) (x3 : Vec Ideal S1x1024 .f32) (x4 : Vec Ideal S512x1024 .f32) (y : Vec Ideal S1x1024 .f32) (p : Fin 512) (q : Fin 1024)

theorem pay3 : k0_pay3 x0 x1 (ix2 p q) = up x0 x1 p q := by
  unfold up
  pointwise [k0_pay3]
theorem pay4 : k0_pay4 x2 (ix2 p 0) = NormRow.inv (row x2 p) := by
  unfold NormRow.inv NormRow.var
  pointwise [k0_pay4]
theorem pay5 : k0_pay5 x2 (ix2 p q) = row x2 p q * NormRow.inv (row x2 p) := by
  rw [← pay4]
  pointwise [k0_pay5]
theorem pay6 : k0_pay6 x0 x1 x2 (ix2 0 q) = ∑ p : Fin 512, up x0 x1 p q * (row x2 p q * NormRow.inv (row x2 p)) := by
  simp only [← pay5, ← pay3]
  pointwise [k0_pay6]
theorem pay8 : k0_pay8 x0 x1 x3 (ix2 p q) = up x0 x1 p q * x3 (ix2 0 q) := by
  rw [← pay3]
  pointwise [k0_pay8]
theorem pay9 : k0_pay9 x0 x1 x2 x3 (ix2 p 0) = ∑ k : Fin 1024, (up x0 x1 p k * x3 (ix2 0 k)) * (row x2 p k * NormRow.inv (row x2 p)) := by
  have e (k : Fin 1024) : (up x0 x1 p k * x3 (ix2 0 k)) * (row x2 p k * NormRow.inv (row x2 p)) = k0_pay8 x0 x1 x3 (ix2 p k) * k0_pay5 x2 (ix2 p k) := by rw [pay8, pay5]
  simp only [e]
  pointwise [k0_pay9]
theorem pay1 : k0_pay1 (k0_pay4 x2) (k0_pay5 x2) (k0_pay8 x0 x1 x3) x4 (k0_pay9 x0 x1 x2 x3) k0_pay10 (ix2 p q) = x4 (ix2 p q) + NormRow.dxk (row x2 p) (fun k => up x0 x1 p k * x3 (ix2 0 k)) q := by
  unfold NormRow.dxk
  rw [← pay9, ← pay5, ← pay4]
  dsimp only
  rw [← pay8]
  pointwise [k0_pay1, k0_pay10]

variable (c : Dev nD) (i : grid0.Coords)
    (b0 : Memref sig .tc .vmem S512x1024 .bf16) (h0 : b0.IsWhole)
    (b1 : Memref sig .tc .vmem S1x1024x1024 .bf16) (h1 : b1.IsWhole)
    (b2 : Memref sig .tc .vmem S512x1024 .f32) (h2 : b2.IsWhole)
    (b3 : Memref sig .tc .vmem S1x1024 .f32) (h3 : b3.IsWhole)
    (b4 : Memref sig .tc .vmem S512x1024 .f32) (h4 : b4.IsWhole)
    (b5 : Memref sig .tc .vmem S512x1024 .f32) (h5 : b5.IsWhole)
    (b6 : Memref sig .tc .vmem S1x1024 .f32) (h6 : b6.IsWhole)
    (b7 : Memref sig .tc .vmem S512x1024 .bf16) (h7 : b7.IsWhole)
    (b8 : Memref sig .tc .vmem S8x128 .f32) (h8 : b8.IsWhole)

theorem out_A5 (hc0 : cond0_0 i) (hc1 : ¬cond0_1 i) : out0_A_5 c i b0 h0 b1 h1 b2 h2 b3 h3 b4 h4 b5 h5 b6 h6 b7 h7 b8 h8 hc0 hc1 x0 x1 x2 x3 x4 (ix2 p q) = x4 (ix2 p q) + NormRow.dxk (row x2 p) (fun k => up x0 x1 p k * x3 (ix2 0 k)) q := by
  frame_out
  rw [← pay1]
theorem out_A6 (hc0 : cond0_0 i) (hc1 : ¬cond0_1 i) : out0_A_6 c i b0 h0 b1 h1 b2 h2 b3 h3 b4 h4 b5 h5 b6 h6 b7 h7 b8 h8 hc0 hc1 x0 x1 x2 x3 x4 (ix2 0 q) = ∑ p : Fin 512, up x0 x1 p q * (row x2 p q * NormRow.inv (row x2 p)) := by
  frame_out
  rw [← pay6]
theorem out_A7 (hc0 : cond0_0 i) (hc1 : ¬cond0_1 i) : out0_A_7 c i b0 h0 b1 h1 b2 h2 b3 h3 b4 h4 b5 h5 b6 h6 b7 h7 b8 h8 hc0 hc1 x0 x1 x2 x3 x4 (ix2 p q) = x4 (ix2 p q) + NormRow.dxk (row x2 p) (fun k => up x0 x1 p k * x3 (ix2 0 k)) q := by
  frame_out
  rw [← pay1]
  pointwise [k0_pay2]
theorem out_B5 (hc0 : ¬cond0_0 i) (hc1 : cond0_1 i) : out0_B_5 c i b0 h0 b1 h1 b2 h2 b3 h3 b4 h4 b5 h5 b6 h6 b7 h7 b8 h8 hc0 hc1 x0 x1 x2 x3 x4 y (ix2 p q) = x4 (ix2 p q) + NormRow.dxk (row x2 p) (fun k => up x0 x1 p k * x3 (ix2 0 k)) q := by
  frame_out
  rw [← pay1]
theorem out_B6 (hc0 : ¬cond0_0 i) (hc1 : cond0_1 i) : out0_B_6 c i b0 h0 b1 h1 b2 h2 b3 h3 b4 h4 b5 h5 b6 h6 b7 h7 b8 h8 hc0 hc1 x0 x1 x2 x3 x4 y (ix2 0 q) = y (ix2 0 q) + ∑ p : Fin 512, up x0 x1 p q * (row x2 p q * NormRow.inv (row x2 p)) := by
  frame_out
  rw [← pay6]
  pointwise [k0_pay7]
theorem out_B7 (hc0 : ¬cond0_0 i) (hc1 : cond0_1 i) : out0_B_7 c i b0 h0 b1 h1 b2 h2 b3 h3 b4 h4 b5 h5 b6 h6 b7 h7 b8 h8 hc0 hc1 x0 x1 x2 x3 x4 y (ix2 p q) = x4 (ix2 p q) + NormRow.dxk (row x2 p) (fun k => up x0 x1 p k * x3 (ix2 0 k)) q := by
  frame_out
  rw [← pay1]
  pointwise [k0_pay2]
end

end Cert.KernelHQIdeal.Block
end
-- ==== Proof.M.NormHQRows.lean ====
module
public import proofs.«01_k».proof.Proof.M.NormHQBlock
@[expose] public section
set_option maxRecDepth 16384
noncomputable section
/-! What the arrays of the gradient of the norm before the memory attention hold after the run. -/
namespace Cert.KernelHQIdeal.Arrays
open Cert.KernelHQIdeal Cert.KernelHQIdeal.Gen Idealize.ShloMosaic Idealize.ShloMosaic.TcCoe Idealize.SL.Sem
open Idealize.ShloMosaic.Pointwise
open Idealize.ShloMosaic.Pipeline (Dat)
open Block

variable (m : (ℓ : Loc nD τ sig) → Buf (Elt Ideal) ℓ) (ρ : Dev nD → PrngReg)

theorem idx0 : ∀ t : Fin cfg0.N, win0_0.index t 0 = t.val ∧ win0_0.index t 1 = 0 ∧ win0_1.index t 0 = 0 ∧ win0_1.index t 1 = 0 ∧ win0_1.index t 2 = 0
    ∧ win0_2.index t 0 = t.val ∧ win0_2.index t 1 = 0 ∧ win0_3.index t 0 = 0 ∧ win0_3.index t 1 = 0
    ∧ win0_4.index t 0 = t.val ∧ win0_4.index t 1 = 0 :=
  (by decide +kernel : ∀ t : Fin grid0.N, _)
theorem idx5 : ∀ t : Fin cfg0.N, win0_5.index t 0 = t.val ∧ win0_5.index t 1 = 0 := (by decide +kernel : ∀ t : Fin grid0.N, _)
theorem idx7 : ∀ t : Fin cfg0.N, win0_7.index t 0 = t.val ∧ win0_7.index t 1 = 0 := (by decide +kernel : ∀ t : Fin grid0.N, _)

abbrev a0 (c : Dev nD) : FVec Ideal S4096x1024 .f32 := m ((c : Thread nD τ).loc main_arg0)
abbrev a1 (c : Dev nD) : FVec Ideal S1x1024 .f32 := m ((c : Thread nD τ).loc main_arg1)
abbrev a2 (c : Dev nD) : FVec Ideal S2x1024x1024 .f32 := m ((c : Thread nD τ).loc main_arg2)
abbrev a3 (c : Dev nD) : FVec Ideal S4096x1024 .f32 := m ((c : Thread nD τ).loc main_arg3)
abbrev a4 (c : Dev nD) : FVec Ideal S4096x1024 .f32 := m ((c : Thread nD τ).loc main_arg4)

/-- The gradient of the normalised rows. -/
def UP (c : Dev nD) (r : Fin 4096) (q : Fin 1024) : EReal := ∑ k : Fin 1024, a3 m c (ix2 r k) * a2 m c (ix3 0 q k)
/-- The rows. -/
abbrev X (c : Dev nD) (r : Fin 4096) (k : Fin 1024) : EReal := a0 m c (ix2 r k)

/-- The gradient of the rows. -/
def gdx (c : Dev nD) : Vec Ideal S4096x1024 .f32 := fun j =>
  a4 m c j + NormRow.dxk (X m c (j 0)) (fun k => UP m c (j 0) k * a1 m c (ix2 0 k)) (j 1)
/-- The same in the narrow type. -/
def gdxn (c : Dev nD) : Vec Ideal S4096x1024 .bf16 := fun j => gdx m c j
/-- The gradient of the gain. -/
def gdg (c : Dev nD) : Vec Ideal S1x1024 .f32 := fun j =>
  ∑ r : Fin 4096, UP m c r (j 1) * (X m c r (j 1) * NormRow.inv (X m c r))

/-- The array's row that a block's row is. -/
abbrev at' (t : Fin cfg0.N) (p : Fin 512) : Fin 4096 := ⟨t.val * 512 + p.val, by have := t.isLt; have : cfg0.N = 8 := N_0; omega⟩

theorem up_eq (c : Dev nD) (t : Fin cfg0.N) (p : Fin 512) (q : Fin 1024) :
    up (iblk m c 0 t) (iblk m c 1 t) p q = UP m c (at' t p) q := by
  have e0 (k : Fin 1024) : iblk m c 0 t (ix2 p k) = a3 m c (ix2 (at' t p) k) := by
    have e : (iblk m c 0 t (ix2 p k) : EReal) = (V m c main_v0 : FVec Ideal S4096x1024 .bf16) (ix2 (at' t p) k) := by blk_ext [iblk, idx0 t]
    refine e.trans ?_
    show V m c main_v0 (ix2 (at' t p) k) = _
    entry_read
    pointwise
  have e1 (k : Fin 1024) : iblk m c 1 t (ix3 0 q k) = a2 m c (ix3 0 q k) := by
    have e : (iblk m c 1 t (ix3 0 q k) : EReal) = (V m c main_v1 : FVec Ideal S2x1024x1024 .bf16) (ix3 0 q k) := by blk_ext [iblk, idx0 t]
    refine e.trans ?_
    show V m c main_v1 (ix3 0 q k) = _
    entry_read
    pointwise
  unfold up UP
  exact Finset.sum_congr rfl fun k _ => by rw [e0, e1]

theorem row_eq (c : Dev nD) (t : Fin cfg0.N) (p : Fin 512) : row (iblk m c 2 t) p = X m c (at' t p) := by
  funext k
  have e : (iblk m c 2 t (ix2 p k) : EReal) = (V m c main_arg0 : FVec Ideal S4096x1024 .f32) (ix2 (at' t p) k) := by blk_ext [iblk, idx0 t]
  refine e.trans ?_
  show V m c main_arg0 (ix2 (at' t p) k) = _
  entry_read
  rfl
/-- The gain's block. -/
abbrev gn (c : Dev nD) (t : Fin cfg0.N) : FVec Ideal S1x1024 .f32 := iblk m c 3 t
/-- The block of what is added. -/
abbrev sk (c : Dev nD) (t : Fin cfg0.N) : FVec Ideal S512x1024 .f32 := iblk m c 4 t
theorem gain_eq (c : Dev nD) (t : Fin cfg0.N) (k : Fin 1024) : gn m c t (ix2 0 k) = a1 m c (ix2 0 k) := by
  have e : gn m c t (ix2 0 k) = (V m c main_arg1 : FVec Ideal S1x1024 .f32) (ix2 0 k) := by blk_ext [iblk, idx0 t]
  refine e.trans ?_
  show V m c main_arg1 (ix2 0 k) = _
  entry_read
  rfl
theorem skip_eq (c : Dev nD) (t : Fin cfg0.N) (p : Fin 512) (q : Fin 1024) : sk m c t (ix2 p q) = a4 m c (ix2 (at' t p) q) := by
  have e : sk m c t (ix2 p q) = (V m c main_arg4 : FVec Ideal S4096x1024 .f32) (ix2 (at' t p) q) := by blk_ext [iblk, idx0 t]
  refine e.trans ?_
  show V m c main_arg4 (ix2 (at' t p) q) = _
  entry_read
  rfl

/-- A block's gradient is the array's rows. -/
theorem dx_eq (c : Dev nD) (t : Fin cfg0.N) (p : Fin 512) (q : Fin 1024) :
    sk m c t (ix2 p q) + NormRow.dxk (row (iblk m c 2 t) p) (fun k => up (iblk m c 0 t) (iblk m c 1 t) p k * gn m c t (ix2 0 k)) q
      = gdx m c (ix2 (at' t p) q) := by
  rw [skip_eq, row_eq]
  have e : (fun k => up (iblk m c 0 t) (iblk m c 1 t) p k * gn m c t (ix2 0 k)) = fun k => UP m c (at' t p) k * a1 m c (ix2 0 k) :=
    funext fun k => by rw [up_eq, gain_eq]
  rw [e]
  rfl

theorem first (t : Fin cfg0.N) (h : t.val % 8 = 0) : ¬ 1 ≤ t.val := by have := t.isLt; have : cfg0.N = 8 := N_0; omega
theorem later (t : Fin cfg0.N) (h : ¬ t.val % 8 = 0) : 1 ≤ t.val := by omega

theorem outs5 (c : Dev nD) (t : Fin cfg0.N) (p : Fin 512) (q : Fin 1024) : (outsAt0 m c t.val t.isLt).1 (ix2 p q) = gdx m c (ix2 (at' t p) q) := by
  rw [← dx_eq]
  by_cases h0 : t.val % 8 = 0
  · rw [outsAt0_A m c t h0 (first t h0)]; dsimp only; rw [out_A5]
  · rw [outsAt0_B m c t h0 (later t h0)]; dsimp only; rw [out_B5]
theorem outs7 (c : Dev nD) (t : Fin cfg0.N) (p : Fin 512) (q : Fin 1024) : (outsAt0 m c t.val t.isLt).2.2 (ix2 p q) = gdx m c (ix2 (at' t p) q) := by
  rw [← dx_eq]
  by_cases h0 : t.val % 8 = 0
  · rw [outsAt0_A m c t h0 (first t h0)]; dsimp only; rw [out_A7]
  · rw [outsAt0_B m c t h0 (later t h0)]; dsimp only; rw [out_B7]

/-- The gradient of the gain after the last point. -/
theorem outs6 (c : Dev nD) (q : Fin 1024) :
    (outsAt0 m c t0_7.val t0_7.isLt).2.1 (ix2 0 q)
      = ∑ t : Fin cfg0.N, ∑ p : Fin 512, up (iblk m c 0 t) (iblk m c 1 t) p q * (row (iblk m c 2 t) p q * NormRow.inv (row (iblk m c 2 t) p)) := by
  rw [Pipeline.eq_sum_fin_of_reset_step_apply_last (fun n h => (outsAt0 m c n h).2.1) 8 (fun _ => 0)
      (fun t j => ∑ p : Fin 512, up (iblk m c 0 t) (iblk m c 1 t) p (j 1) * (row (iblk m c 2 t) p (j 1) * NormRow.inv (row (iblk m c 2 t) p)))
      (fun t h j => by obtain ⟨a, b, rfl⟩ : ∃ (a : Fin 1) (b : Fin 1024), j = ix2 a b := ⟨j 0, j 1, eq_ix2 j⟩; obtain rfl : a = 0 := Subsingleton.elim _ _; rw [outsAt0_A m c t h (first t h)]; dsimp only; rw [out_A6]; exact (zero_add _).symm)
      (fun t h j => by obtain ⟨a, b, rfl⟩ : ∃ (a : Fin 1) (b : Fin 1024), j = ix2 a b := ⟨j 0, j 1, eq_ix2 j⟩; obtain rfl : a = 0 := Subsingleton.elim _ _; rw [outsAt0_B m c t h (later t h)]; dsimp only; rw [out_B6]; rfl) (le_of_eq N_0) t0_7 rfl (ix2 0 q), zero_add]
  rfl

theorem outs6' (c : Dev nD) : (outsAt0 m c t0_7.val t0_7.isLt).2.1 = gdg m c := by
  funext j
  obtain ⟨a, b, rfl⟩ : ∃ (a : Fin 1) (b : Fin 1024), j = ix2 a b := ⟨j 0, j 1, eq_ix2 j⟩
  obtain rfl : a = 0 := Subsingleton.elim _ _
  rw [outs6]
  unfold gdg
  refine Eq.trans ?_ (Fin.sum_mul_add_fin (S := 8) (n := 512) (L := 4096) fun r => UP m c r b * (X m c r b * NormRow.inv (X m c r)))
  refine Finset.sum_congr rfl fun t _ => Finset.sum_congr rfl fun p _ => ?_
  rw [up_eq, row_eq]

theorem flushed5_eq (c : Dev nD) (t : Fin cfg0.N) (_hf : (cfg0.win 5).flush t = true) :
    (dats m 0 c).flushed 5 t = ((cfg0.win 5).blk t).view.read (Elt Ideal) (gdx m c) := by
  rw [Value.flushed5]
  funext j
  obtain ⟨p, q, rfl⟩ : ∃ (p : Fin 512) (q : Fin 1024), j = ix2 p q := ⟨j 0, j 1, eq_ix2 j⟩
  have e : ((cfg0.win 5).blk t).view.read (Elt Ideal) (gdx m c) (ix2 p q) = gdx m c (ix2 (at' t p) q) := by
    blk_ext [idx5 t]
  rw [e]
  exact outs5 m c t p q
theorem flushed7_eq (c : Dev nD) (t : Fin cfg0.N) (_hf : (cfg0.win 7).flush t = true) :
    (dats m 0 c).flushed 7 t = ((cfg0.win 7).blk t).view.read (Elt Ideal) (gdxn m c) := by
  rw [Value.flushed7]
  funext j
  obtain ⟨p, q, rfl⟩ : ∃ (p : Fin 512) (q : Fin 1024), j = ix2 p q := ⟨j 0, j 1, eq_ix2 j⟩
  have e : ((cfg0.win 7).blk t).view.read (Elt Ideal) (gdxn m c) (ix2 p q) = gdxn m c (ix2 (at' t p) q) := by
    blk_ext [idx7 t]
  rw [e]
  exact outs7 m c t p q
/-- The one write-back of the gain's gradient. -/
theorem flushed6_eq (c : Dev nD) (t : Fin cfg0.N) (hf : (cfg0.win 6).flush t = true) :
    (dats m 0 c).flushed 6 t = ((cfg0.win 6).blk t).view.read (Elt Ideal) (gdg m c) := by
  have hN : cfg0.N = 8 := N_0
  have h3 : t.val = 7 := by have := (flush0_6 t).mp hf; have := t.isLt; omega
  obtain rfl : t = t0_7 := Fin.ext h3
  rw [Value.flushed6, outs6']
  have hz' : (fun a => win0_6.index t0_7 a * main_v2_1.ty.shape.size a) = fun _ => 0 := funext fun a => by fin_cases a <;> decide
  exact (Memref.read_access_unit_zero (Elt Ideal) main_v2_1 hz' (fun a => by rw [congrFun hz' a]; simp) (gdg m c)).symm

theorem final5 (c : Dev nD) : (dats m 0 c).arrAt 5 cfg0.N = gdx m c :=
  (dats m 0 c).arrAt_eq_of_cover 5 (gdx m c) (flushed5_eq m c) (Pipeline.Window.Covers.cover win0_5 (by decide +kernel) (Memref.isWhole_whole _))
theorem final7 (c : Dev nD) : (dats m 0 c).arrAt 7 cfg0.N = gdxn m c :=
  (dats m 0 c).arrAt_eq_of_cover 7 (gdxn m c) (flushed7_eq m c) (Pipeline.Window.Covers.cover win0_7 (by decide +kernel) (Memref.isWhole_whole _))
theorem final6 (c : Dev nD) : (dats m 0 c).arrAt 6 cfg0.N = gdg m c :=
  (dats m 0 c).arrAt_eq_of_cover 6 (gdg m c) (flushed6_eq m c) fun i =>
    ⟨t0_7, (flush0_6 t0_7).mpr rfl, by
      show i ∈ ((View.whole main_v2_1).slice (win0_6.rect t0_7)).set
      rw [View.set_slice_whole, Rect.mem_set_unit]
      intro a
      have h0 : (i 0 : Nat) < 1 := (i 0).isLt
      have h1 : (i 1 : Nat) < 1024 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 1024 from by decide +kernel]; omega⟩

end Cert.KernelHQIdeal.Arrays
end
-- ==== Proof.M.NormHQReference.lean ====
module
public import proofs.«01_k».proof.Proof.M.Norm
public import proofs.«01_k».proof.Proof.Gen.ReferenceHQIdeal.Run
public import Idealize.ShloMosaic.Lib.Pointwise
@[expose] public section
set_option maxRecDepth 16384
noncomputable section
/-! What the reference's gradient of the norm before the memory attention computes. -/
namespace Cert.ReferenceHQIdeal.Arrays
open Cert.ReferenceHQIdeal Cert.ReferenceHQIdeal.Gen Cert.ReferenceHQIdeal.Value Idealize.ShloMosaic Idealize.ShloMosaic.TcCoe Idealize.SL.Sem
open Idealize.ShloMosaic.Pointwise

/-- The gradient of the normalised rows. -/
def T (a2 : FVec Ideal S2x1024x1024 .f32) (a3 : FVec Ideal S4096x1024 .f32) : FVec Ideal S4096x1024 .f32 :=
  Host.dotGeneral dot_S4096x1024_S1024x1024_S4096x1024_1_1_0_0_n_n none a3 (shapeCast _ (extractStridedSlice S1x1024x1024 ![0, 0, 0] a2 slices_S2x1024x1024_S1x1024x1024_0_0_0) shapeCasts_S1x1024x1024_S1024x1024)
/-- The rows' mean squares. -/
def W (a0 : FVec Ideal S4096x1024 .f32) : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The rows' scales. -/
def R (w : FVec Ideal S4096x1 .f32) : FVec Ideal S4096x1 .f32 := Host.rsqrt w
/-- The gradient times the gain. -/
def D (t : FVec Ideal S4096x1024 .f32) (a1 : FVec Ideal S1x1024 .f32) : FVec Ideal S4096x1024 .f32 :=
  mulf t (broadcastInDim S4096x1024 ![0, 1] bcast_S1x1024_S4096x1024_0_1 a1)
/-- The gradient of the rows' squares. -/
def Q (a0 d : FVec Ideal S4096x1024 .f32) (w r : FVec Ideal S4096x1 .f32) : FVec Ideal S4096x1 .f32 :=
  Host.divf (mulf (shapeCast _ (Host.reduceAdd (mulf a0 d) (constant S_ .f32 0x00000000#32) reducesTo_S4096x1024_S4096_d1 h_S_) shapeCasts_S4096_S4096x1) (mulf (broadcastInDim S4096x1 ![] bcast_S_S4096x1 (constant S_ .f32 0xBF000000#32)) (Host.divf r w))) (broadcastInDim S4096x1 ![] bcast_S_S4096x1 (constant S_ .f32 0x44800000#32))
/-- The same, one number for each row. -/
def S (q : FVec Ideal S4096x1 .f32) : FVec Ideal S4096 .f32 := Host.reduceAdd q (constant S_ .f32 0x00000000#32) reducesTo_S4096x1_S4096_d1 h_S_
/-- The gradient of the rows. -/
def dx (a0 a5 d : FVec Ideal S4096x1024 .f32) (r : FVec Ideal S4096x1 .f32) (s : FVec Ideal S4096 .f32) : FVec Ideal S4096x1024 .f32 :=
  addf (addf (addf a5 (mulf d (broadcastInDim S4096x1024 ![0, 1] bcast_S4096x1_S4096x1024_0_1 r))) (mulf a0 (broadcastInDim S4096x1024 ![0] bcast_S4096_S4096x1024_0 s))) (mulf (broadcastInDim S4096x1024 ![0] bcast_S4096_S4096x1024_0 s) a0)
/-- The gradient of the gain. -/
def dg (a0 t : FVec Ideal S4096x1024 .f32) (r : FVec Ideal S4096x1 .f32) : FVec Ideal S1x1024 .f32 :=
  shapeCast _ (Host.reduceAdd (mulf (mulf a0 (broadcastInDim S4096x1024 ![0, 1] bcast_S4096x1_S4096x1024_0_1 r)) t) (constant S_ .f32 0x00000000#32) reducesTo_S4096x1024_S1024_d0 h_S_) shapeCasts_S1024_S1x1024

/-- All of it. -/
def all (a0 : FVec Ideal S4096x1024 .f32) (a1 : FVec Ideal S1x1024 .f32) (a2 : FVec Ideal S2x1024x1024 .f32) (a3 : FVec Ideal S4096x1024 .f32) (a4 : FVec Ideal S4096x1024 .f32) :
    FVec Ideal S4096x1024 .f32 := dx a0 a4 (D (T a2 a3) a1) (R (W a0)) (S (Q a0 (D (T a2 a3) a1) (W a0) (R (W a0))))

theorem res0 (m : (ℓ : Loc nD τ sig) → Buf (Elt Ideal) ℓ) (c : Dev nD) : res_main_v38 m c
    = all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v38 all dx S Q D R W T; rfl
theorem res2 (m : (ℓ : Loc nD τ sig) → Buf (Elt Ideal) ℓ) (c : Dev nD) : res_main_v39 m c
    = truncf .bf16 (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 := by
  unfold res_main_v39 all dx S Q D R W T; rfl

theorem T_apply (a2 : FVec Ideal S2x1024x1024 .f32) (a3 : FVec Ideal S4096x1024 .f32) (p : Fin 4096) (q : Fin 1024) :
    T a2 a3 (ix2 p q) = ∑ k : Fin 1024, a3 (ix2 p k) * a2 (ix3 0 q k) := by
  pointwise [T]
theorem W_apply (a0 : FVec Ideal S4096x1024 .f32) (p : Fin 4096) : W a0 (ix2 p 0) = NormRow.var fun k => a0 (ix2 p k) := by
  unfold NormRow.var
  pointwise [W]
theorem R_apply (a0 : FVec Ideal S4096x1024 .f32) (p : Fin 4096) : R (W a0) (ix2 p 0) = NormRow.inv fun k => a0 (ix2 p k) := by
  unfold NormRow.inv
  rw [← W_apply]
  pointwise [R]
theorem D_apply (t : FVec Ideal S4096x1024 .f32) (a1 : FVec Ideal S1x1024 .f32) (p : Fin 4096) (q : Fin 1024) : D t a1 (ix2 p q) = t (ix2 p q) * a1 (ix2 0 q) := by
  pointwise [D]
theorem Q_apply (a0 d : FVec Ideal S4096x1024 .f32) (p : Fin 4096) : Q a0 d (W a0) (R (W a0)) (ix2 p 0) = NormRow.dxs (fun k => a0 (ix2 p k)) fun k => d (ix2 p k) := by
  unfold NormRow.dxs
  rw [← W_apply, ← R_apply]
  pointwise [Q]
theorem S_apply (q : FVec Ideal S4096x1 .f32) (p : Fin 4096) : S q (ix1 p) = q (ix2 p 0) := by
  pointwise [S]
  exact Fin.sum_univ_one _
theorem dx_apply (a0 a5 d : FVec Ideal S4096x1024 .f32) (p : Fin 4096) (q : Fin 1024) :
    dx a0 a5 d (R (W a0)) (S (Q a0 d (W a0) (R (W a0)))) (ix2 p q)
      = a5 (ix2 p q) + d (ix2 p q) * NormRow.inv (fun k => a0 (ix2 p k)) + a0 (ix2 p q) * NormRow.dxs (fun k => a0 (ix2 p k)) (fun k => d (ix2 p k))
        + NormRow.dxs (fun k => a0 (ix2 p k)) (fun k => d (ix2 p k)) * a0 (ix2 p q) := by
  rw [← Q_apply, ← S_apply (Q a0 d (W a0) (R (W a0))), ← R_apply]
  pointwise [dx]
theorem dg_apply (a0 t : FVec Ideal S4096x1024 .f32) (q : Fin 1024) :
    dg a0 t (R (W a0)) (ix2 0 q) = ∑ p : Fin 4096, (a0 (ix2 p q) * NormRow.inv fun k => a0 (ix2 p k)) * t (ix2 p q) := by
  simp only [← R_apply]
  pointwise [dg]

end Cert.ReferenceHQIdeal.Arrays
end
-- ==== Proof.M.ClaimsHQ.lean ====
module
public import proofs.«01_k».proof.Defs
public import proofs.«01_k».proof.Proof.M.NormHQRows
public import proofs.«01_k».proof.Proof.M.NormHQReference
public import proofs.«01_k».proof.Proof.Gen.KernelHQ.Frame
public import Idealize.ShloMosaic.Adequacy
public import Idealize.ShloMosaic.Init
@[expose] public section
set_option maxRecDepth 16384
noncomputable section
/-! The claims about the gradient of the norm before the memory attention. -/
namespace Cert.ClaimsHQ
open Idealize.ShloMosaic Idealize.ShloMosaic.TcCoe Idealize.ShloMosaic.Pointwise Idealize.SL.Sem
open Cert.Real (Is)
open KernelHQIdeal.Arrays (a0 a1 a2 a3 a4)

theorem frame : Cert.quiescent_KernelHQ := fun m ρ _ => Cert.KernelHQ.Gen.frame m ρ
theorem frame_ideal : Cert.quiescent_KernelHQIdeal := fun m ρ _ => Cert.KernelHQIdeal.Gen.frame m ρ
theorem frame_ideal_pre [Cert.Pre_finite_hq.Facts] : Cert.quiescent_KernelHQIdeal_pre_finite_hq := fun m ρ _ => Cert.KernelHQIdeal.Gen.frame m ρ
theorem frame_ref : Cert.quiescent_ReferenceHQIdeal := fun m ρ _ =>
  (θ_run Cert.ReferenceHQIdeal.defs _ _).mono (fun r h => ⟨fun c => (h c).2.2.2, Idealize.ShloMosaic.sem_eq_zero_of_no_sems (by decide) r.2⟩)
    (Cert.ReferenceHQIdeal.Value.run (F := Ideal) m ρ)
theorem frame_ref_pre [Cert.Pre_finite_hq.Facts] : Cert.quiescent_ReferenceHQIdeal_pre_finite_hq := fun m ρ _ =>
  (θ_run Cert.ReferenceHQIdeal.defs _ _).mono (fun r h => ⟨fun c => (h c).2.2.2, Idealize.ShloMosaic.sem_eq_zero_of_no_sems (by decide) r.2⟩)
    (Cert.ReferenceHQIdeal.Value.run (F := Ideal) m ρ)

section
variable (m : (ℓ : Loc KernelHQIdeal.nD KernelHQIdeal.τ KernelHQIdeal.sig) → Buf (Elt Ideal) ℓ) (c : Dev KernelHQIdeal.nD)

theorem up_eq (r : Fin 4096) (q : Fin 1024) : KernelHQIdeal.Arrays.UP m c r q = ReferenceHQIdeal.Arrays.T (a2 m c) (a3 m c) (ix2 r q) := by
  rw [ReferenceHQIdeal.Arrays.T_apply]
  rfl

/-- The incoming gradient is real. -/
theorem up_real [Cert.Pre_finite_hq.Facts] (h : Pre_KernelHQIdeal_finite_hq m) (r : Fin 4096) (k : Fin 1024) :
    Is (KernelHQIdeal.Arrays.UP m c r k * a1 m c (ix2 0 k)) :=
  (Is.sum _ fun _ => (Real.of_abs_lt (congrFun (h c).2.2.2 _)).mul (Real.of_abs_lt (congrFun (h c).2.2.1 _))).mul (Real.of_abs_lt (congrFun (h c).2.1 _))

theorem gdx_eq [Cert.Pre_finite_hq.Facts] (h : Pre_KernelHQIdeal_finite_hq m) :
    KernelHQIdeal.Arrays.gdx m c = ReferenceHQIdeal.Arrays.all (a0 m c) (a1 m c) (a2 m c) (a3 m c) (a4 m c) := by
  funext j
  obtain ⟨p, q, rfl⟩ : ∃ (p : Fin 4096) (q : Fin 1024), j = ix2 p q := ⟨j 0, j 1, eq_ix2 j⟩
  have e : (fun k => KernelHQIdeal.Arrays.UP m c p k * a1 m c (ix2 0 k))
      = fun k => ReferenceHQIdeal.Arrays.D (ReferenceHQIdeal.Arrays.T (a2 m c) (a3 m c)) (a1 m c) (ix2 p k) :=
    funext fun k => by rw [ReferenceHQIdeal.Arrays.D_apply, up_eq]
  refine (NormRow.dx_eq (a4 m c (ix2 p q)) (KernelHQIdeal.Arrays.X m c p) _ (fun k => Real.of_abs_lt (congrFun (h c).1 _)) (fun k => up_real m c h p k) q).trans ?_
  unfold ReferenceHQIdeal.Arrays.all
  rw [ReferenceHQIdeal.Arrays.dx_apply, ← e]
  rw [← congrFun e q]

theorem gdg_eq : KernelHQIdeal.Arrays.gdg m c
    = ReferenceHQIdeal.Arrays.dg (a0 m c) (ReferenceHQIdeal.Arrays.T (a2 m c) (a3 m c)) (ReferenceHQIdeal.Arrays.R (ReferenceHQIdeal.Arrays.W (a0 m c))) := by
  funext j
  obtain ⟨p, q, rfl⟩ : ∃ (p : Fin 1) (q : Fin 1024), j = ix2 p q := ⟨j 0, j 1, eq_ix2 j⟩
  obtain rfl : p = 0 := Subsingleton.elim _ _
  rw [ReferenceHQIdeal.Arrays.dg_apply]
  refine Finset.sum_congr rfl fun r _ => ?_
  rw [← up_eq, mul_comm]
  rfl
end

theorem algebraic [Cert.Pre_finite_hq.Facts] : Cert.algebraic_KernelHQIdeal_ReferenceHQIdeal_pre_finite_hq := by
  intro m ρ m' ρ' hpre hagree
  refine ⟨fun c => KernelHQIdeal.Arrays.gdx m c, fun c => KernelHQIdeal.Arrays.gdg m c, fun c => KernelHQIdeal.Arrays.gdxn m c, ?_, ?_⟩
  · exact (θ_run Cert.KernelHQIdeal.defs _ _).mono
      (fun _ h c => ⟨(h c).1.trans (KernelHQIdeal.Arrays.final5 m c), (h c).2.1.trans (KernelHQIdeal.Arrays.final6 m c),
        (h c).2.2.1.trans (KernelHQIdeal.Arrays.final7 m c), (h c).2.2.2⟩)
      (Cert.KernelHQIdeal.Value.run_blocks (F := Ideal) m ρ)
  · refine (θ_run Cert.ReferenceHQIdeal.defs _ _).mono (fun _ h c => ⟨(h c).1.trans ?_, (h c).2.1.trans ?_, (h c).2.2.1.trans ?_, (h c).2.2.2⟩)
      (Cert.ReferenceHQIdeal.Value.run (F := Ideal) m' ρ')
    · show _ = KernelHQIdeal.Arrays.gdx m c
      rw [gdx_eq m c hpre, ReferenceHQIdeal.Arrays.res0, (hagree c).1, (hagree c).2.1, (hagree c).2.2.1, (hagree c).2.2.2.1, (hagree c).2.2.2.2]
    · show _ = KernelHQIdeal.Arrays.gdg m c
      rw [gdg_eq m c, (hagree c).1, (hagree c).2.2.1, (hagree c).2.2.2.1]
      rfl
    · show _ = KernelHQIdeal.Arrays.gdxn m c
      rw [ReferenceHQIdeal.Arrays.res2, (hagree c).1, (hagree c).2.1, (hagree c).2.2.1, (hagree c).2.2.2.1, (hagree c).2.2.2.2]
      exact (gdx_eq m c hpre).symm

end Cert.ClaimsHQ
end
-- ==== Proof.M.NormHZBlock.lean ====
module
public import proofs.«01_k».proof.Proof.Gen.KernelHZIdeal.Value
public import proofs.«01_k».proof.Proof.M.Norm
public import Idealize.ShloMosaic.Lib.Pipeline.ValueKit
public import Idealize.ShloMosaic.Lib.Pointwise
@[expose] public section
set_option maxRecDepth 16384
noncomputable section
/-! What a block of the gradient of the norm before the attention holds. -/
namespace Cert.KernelHZIdeal.Block
open Cert.KernelHZIdeal Cert.KernelHZIdeal.Gen Idealize.ShloMosaic Idealize.ShloMosaic.TcCoe Idealize.SL.Sem
open Idealize.ShloMosaic.Pointwise

/-- A row's incoming gradient. -/
def up (x0 : Vec Ideal S512x1536 .bf16) (x1 : Vec Ideal S1x1024x1536 .bf16) (p : Fin 512) (q : Fin 1024) : EReal := ∑ k : Fin 1536, x0 (ix2 p k) * x1 (ix3 0 q k)
/-- A row. -/
abbrev row (x : Vec Ideal S512x1024 .f32) (p : Fin 512) (k : Fin 1024) : EReal := x (ix2 p k)

section
variable (x0 : Vec Ideal S512x1536 .bf16) (x1 : Vec Ideal S1x1024x1536 .bf16) (x2 : Vec Ideal S512x1024 .f32) (x3 : Vec Ideal S1x1024 .f32) (x4 : Vec Ideal S512x1024 .f32) (y : Vec Ideal S1x1024 .f32) (p : Fin 512) (q : Fin 1024)

theorem pay3 : k0_pay3 x0 x1 (ix2 p q) = up x0 x1 p q := by
  unfold up
  pointwise [k0_pay3]
theorem pay4 : k0_pay4 x2 (ix2 p 0) = NormRow.inv (row x2 p) := by
  unfold NormRow.inv NormRow.var
  pointwise [k0_pay4]
theorem pay5 : k0_pay5 x2 (ix2 p q) = row x2 p q * NormRow.inv (row x2 p) := by
  rw [← pay4]
  pointwise [k0_pay5]
theorem pay6 : k0_pay6 x0 x1 x2 (ix2 0 q) = ∑ p : Fin 512, up x0 x1 p q * (row x2 p q * NormRow.inv (row x2 p)) := by
  simp only [← pay5, ← pay3]
  pointwise [k0_pay6]
theorem pay8 : k0_pay8 x0 x1 x3 (ix2 p q) = up x0 x1 p q * x3 (ix2 0 q) := by
  rw [← pay3]
  pointwise [k0_pay8]
theorem pay9 : k0_pay9 x0 x1 x2 x3 (ix2 p 0) = ∑ k : Fin 1024, (up x0 x1 p k * x3 (ix2 0 k)) * (row x2 p k * NormRow.inv (row x2 p)) := by
  have e (k : Fin 1024) : (up x0 x1 p k * x3 (ix2 0 k)) * (row x2 p k * NormRow.inv (row x2 p)) = k0_pay8 x0 x1 x3 (ix2 p k) * k0_pay5 x2 (ix2 p k) := by rw [pay8, pay5]
  simp only [e]
  pointwise [k0_pay9]
theorem pay1 : k0_pay1 (k0_pay4 x2) (k0_pay5 x2) (k0_pay8 x0 x1 x3) x4 (k0_pay9 x0 x1 x2 x3) k0_pay10 (ix2 p q) = x4 (ix2 p q) + NormRow.dxk (row x2 p) (fun k => up x0 x1 p k * x3 (ix2 0 k)) q := by
  unfold NormRow.dxk
  rw [← pay9, ← pay5, ← pay4]
  dsimp only
  rw [← pay8]
  pointwise [k0_pay1, k0_pay10]

variable (c : Dev nD) (i : grid0.Coords)
    (b0 : Memref sig .tc .vmem S512x1536 .bf16) (h0 : b0.IsWhole)
    (b1 : Memref sig .tc .vmem S1x1024x1536 .bf16) (h1 : b1.IsWhole)
    (b2 : Memref sig .tc .vmem S512x1024 .f32) (h2 : b2.IsWhole)
    (b3 : Memref sig .tc .vmem S1x1024 .f32) (h3 : b3.IsWhole)
    (b4 : Memref sig .tc .vmem S512x1024 .f32) (h4 : b4.IsWhole)
    (b5 : Memref sig .tc .vmem S512x1024 .f32) (h5 : b5.IsWhole)
    (b6 : Memref sig .tc .vmem S1x1024 .f32) (h6 : b6.IsWhole)
    (b7 : Memref sig .tc .vmem S512x1024 .bf16) (h7 : b7.IsWhole)
    (b8 : Memref sig .tc .vmem S8x128 .f32) (h8 : b8.IsWhole)

theorem out_A5 (hc0 : cond0_0 i) (hc1 : ¬cond0_1 i) : out0_A_5 c i b0 h0 b1 h1 b2 h2 b3 h3 b4 h4 b5 h5 b6 h6 b7 h7 b8 h8 hc0 hc1 x0 x1 x2 x3 x4 (ix2 p q) = x4 (ix2 p q) + NormRow.dxk (row x2 p) (fun k => up x0 x1 p k * x3 (ix2 0 k)) q := by
  frame_out
  rw [← pay1]
theorem out_A6 (hc0 : cond0_0 i) (hc1 : ¬cond0_1 i) : out0_A_6 c i b0 h0 b1 h1 b2 h2 b3 h3 b4 h4 b5 h5 b6 h6 b7 h7 b8 h8 hc0 hc1 x0 x1 x2 x3 x4 (ix2 0 q) = ∑ p : Fin 512, up x0 x1 p q * (row x2 p q * NormRow.inv (row x2 p)) := by
  frame_out
  rw [← pay6]
theorem out_A7 (hc0 : cond0_0 i) (hc1 : ¬cond0_1 i) : out0_A_7 c i b0 h0 b1 h1 b2 h2 b3 h3 b4 h4 b5 h5 b6 h6 b7 h7 b8 h8 hc0 hc1 x0 x1 x2 x3 x4 (ix2 p q) = x4 (ix2 p q) + NormRow.dxk (row x2 p) (fun k => up x0 x1 p k * x3 (ix2 0 k)) q := by
  frame_out
  rw [← pay1]
  pointwise [k0_pay2]
theorem out_B5 (hc0 : ¬cond0_0 i) (hc1 : cond0_1 i) : out0_B_5 c i b0 h0 b1 h1 b2 h2 b3 h3 b4 h4 b5 h5 b6 h6 b7 h7 b8 h8 hc0 hc1 x0 x1 x2 x3 x4 y (ix2 p q) = x4 (ix2 p q) + NormRow.dxk (row x2 p) (fun k => up x0 x1 p k * x3 (ix2 0 k)) q := by
  frame_out
  rw [← pay1]
theorem out_B6 (hc0 : ¬cond0_0 i) (hc1 : cond0_1 i) : out0_B_6 c i b0 h0 b1 h1 b2 h2 b3 h3 b4 h4 b5 h5 b6 h6 b7 h7 b8 h8 hc0 hc1 x0 x1 x2 x3 x4 y (ix2 0 q) = y (ix2 0 q) + ∑ p : Fin 512, up x0 x1 p q * (row x2 p q * NormRow.inv (row x2 p)) := by
  frame_out
  rw [← pay6]
  pointwise [k0_pay7]
theorem out_B7 (hc0 : ¬cond0_0 i) (hc1 : cond0_1 i) : out0_B_7 c i b0 h0 b1 h1 b2 h2 b3 h3 b4 h4 b5 h5 b6 h6 b7 h7 b8 h8 hc0 hc1 x0 x1 x2 x3 x4 y (ix2 p q) = x4 (ix2 p q) + NormRow.dxk (row x2 p) (fun k => up x0 x1 p k * x3 (ix2 0 k)) q := by
  frame_out
  rw [← pay1]
  pointwise [k0_pay2]
end

end Cert.KernelHZIdeal.Block
end
-- ==== Proof.M.NormHZRows.lean ====
module
public import proofs.«01_k».proof.Proof.M.NormHZBlock
@[expose] public section
set_option maxRecDepth 16384
noncomputable section
/-! What the arrays of the gradient of the norm before the attention hold after the run. -/
namespace Cert.KernelHZIdeal.Arrays
open Cert.KernelHZIdeal Cert.KernelHZIdeal.Gen Idealize.ShloMosaic Idealize.ShloMosaic.TcCoe Idealize.SL.Sem
open Idealize.ShloMosaic.Pointwise
open Idealize.ShloMosaic.Pipeline (Dat)
open Block

variable (m : (ℓ : Loc nD τ sig) → Buf (Elt Ideal) ℓ) (ρ : Dev nD → PrngReg)

theorem idx0 : ∀ t : Fin cfg0.N, win0_0.index t 0 = t.val ∧ win0_0.index t 1 = 0 ∧ win0_1.index t 0 = 0 ∧ win0_1.index t 1 = 0 ∧ win0_1.index t 2 = 0
    ∧ win0_2.index t 0 = t.val ∧ win0_2.index t 1 = 0 ∧ win0_3.index t 0 = 0 ∧ win0_3.index t 1 = 0
    ∧ win0_4.index t 0 = t.val ∧ win0_4.index t 1 = 0 :=
  (by decide +kernel : ∀ t : Fin grid0.N, _)
theorem idx5 : ∀ t : Fin cfg0.N, win0_5.index t 0 = t.val ∧ win0_5.index t 1 = 0 := (by decide +kernel : ∀ t : Fin grid0.N, _)
theorem idx7 : ∀ t : Fin cfg0.N, win0_7.index t 0 = t.val ∧ win0_7.index t 1 = 0 := (by decide +kernel : ∀ t : Fin grid0.N, _)

abbrev a0 (c : Dev nD) : FVec Ideal S4096x1024 .f32 := m ((c : Thread nD τ).loc main_arg0)
abbrev a1 (c : Dev nD) : FVec Ideal S1x1024 .f32 := m ((c : Thread nD τ).loc main_arg1)
abbrev a2 (c : Dev nD) : FVec Ideal S1x1024x1536 .f32 := m ((c : Thread nD τ).loc main_arg2)
abbrev a3 (c : Dev nD) : FVec Ideal S4096x1536 .f32 := m ((c : Thread nD τ).loc main_arg3)
abbrev a4 (c : Dev nD) : FVec Ideal S4096x1024 .f32 := m ((c : Thread nD τ).loc main_arg4)

/-- The gradient of the normalised rows. -/
def UP (c : Dev nD) (r : Fin 4096) (q : Fin 1024) : EReal := ∑ k : Fin 1536, a3 m c (ix2 r k) * a2 m c (ix3 0 q k)
/-- The rows. -/
abbrev X (c : Dev nD) (r : Fin 4096) (k : Fin 1024) : EReal := a0 m c (ix2 r k)

/-- The gradient of the rows. -/
def gdx (c : Dev nD) : Vec Ideal S4096x1024 .f32 := fun j =>
  a4 m c j + NormRow.dxk (X m c (j 0)) (fun k => UP m c (j 0) k * a1 m c (ix2 0 k)) (j 1)
/-- The same in the narrow type. -/
def gdxn (c : Dev nD) : Vec Ideal S4096x1024 .bf16 := fun j => gdx m c j
/-- The gradient of the gain. -/
def gdg (c : Dev nD) : Vec Ideal S1x1024 .f32 := fun j =>
  ∑ r : Fin 4096, UP m c r (j 1) * (X m c r (j 1) * NormRow.inv (X m c r))

/-- The array's row that a block's row is. -/
abbrev at' (t : Fin cfg0.N) (p : Fin 512) : Fin 4096 := ⟨t.val * 512 + p.val, by have := t.isLt; have : cfg0.N = 8 := N_0; omega⟩

theorem up_eq (c : Dev nD) (t : Fin cfg0.N) (p : Fin 512) (q : Fin 1024) :
    up (iblk m c 0 t) (iblk m c 1 t) p q = UP m c (at' t p) q := by
  have e0 (k : Fin 1536) : iblk m c 0 t (ix2 p k) = a3 m c (ix2 (at' t p) k) := by
    have e : (iblk m c 0 t (ix2 p k) : EReal) = (V m c main_v0 : FVec Ideal S4096x1536 .bf16) (ix2 (at' t p) k) := by blk_ext [iblk, idx0 t]
    refine e.trans ?_
    show V m c main_v0 (ix2 (at' t p) k) = _
    entry_read
    pointwise
  have e1 (k : Fin 1536) : iblk m c 1 t (ix3 0 q k) = a2 m c (ix3 0 q k) := by
    have e : (iblk m c 1 t (ix3 0 q k) : EReal) = (V m c main_v1 : FVec Ideal S1x1024x1536 .bf16) (ix3 0 q k) := by blk_ext [iblk, idx0 t]
    refine e.trans ?_
    show V m c main_v1 (ix3 0 q k) = _
    entry_read
    pointwise
  unfold up UP
  exact Finset.sum_congr rfl fun k _ => by rw [e0, e1]

theorem row_eq (c : Dev nD) (t : Fin cfg0.N) (p : Fin 512) : row (iblk m c 2 t) p = X m c (at' t p) := by
  funext k
  have e : (iblk m c 2 t (ix2 p k) : EReal) = (V m c main_arg0 : FVec Ideal S4096x1024 .f32) (ix2 (at' t p) k) := by blk_ext [iblk, idx0 t]
  refine e.trans ?_
  show V m c main_arg0 (ix2 (at' t p) k) = _
  entry_read
  rfl
/-- The gain's block. -/
abbrev gn (c : Dev nD) (t : Fin cfg0.N) : FVec Ideal S1x1024 .f32 := iblk m c 3 t
/-- The block of what is added. -/
abbrev sk (c : Dev nD) (t : Fin cfg0.N) : FVec Ideal S512x1024 .f32 := iblk m c 4 t
theorem gain_eq (c : Dev nD) (t : Fin cfg0.N) (k : Fin 1024) : gn m c t (ix2 0 k) = a1 m c (ix2 0 k) := by
  have e : gn m c t (ix2 0 k) = (V m c main_arg1 : FVec Ideal S1x1024 .f32) (ix2 0 k) := by blk_ext [iblk, idx0 t]
  refine e.trans ?_
  show V m c main_arg1 (ix2 0 k) = _
  entry_read
  rfl
theorem skip_eq (c : Dev nD) (t : Fin cfg0.N) (p : Fin 512) (q : Fin 1024) : sk m c t (ix2 p q) = a4 m c (ix2 (at' t p) q) := by
  have e : sk m c t (ix2 p q) = (V m c main_arg4 : FVec Ideal S4096x1024 .f32) (ix2 (at' t p) q) := by blk_ext [iblk, idx0 t]
  refine e.trans ?_
  show V m c main_arg4 (ix2 (at' t p) q) = _
  entry_read
  rfl

/-- A block's gradient is the array's rows. -/
theorem dx_eq (c : Dev nD) (t : Fin cfg0.N) (p : Fin 512) (q : Fin 1024) :
    sk m c t (ix2 p q) + NormRow.dxk (row (iblk m c 2 t) p) (fun k => up (iblk m c 0 t) (iblk m c 1 t) p k * gn m c t (ix2 0 k)) q
      = gdx m c (ix2 (at' t p) q) := by
  rw [skip_eq, row_eq]
  have e : (fun k => up (iblk m c 0 t) (iblk m c 1 t) p k * gn m c t (ix2 0 k)) = fun k => UP m c (at' t p) k * a1 m c (ix2 0 k) :=
    funext fun k => by rw [up_eq, gain_eq]
  rw [e]
  rfl

theorem first (t : Fin cfg0.N) (h : t.val % 8 = 0) : ¬ 1 ≤ t.val := by have := t.isLt; have : cfg0.N = 8 := N_0; omega
theorem later (t : Fin cfg0.N) (h : ¬ t.val % 8 = 0) : 1 ≤ t.val := by omega

theorem outs5 (c : Dev nD) (t : Fin cfg0.N) (p : Fin 512) (q : Fin 1024) : (outsAt0 m c t.val t.isLt).1 (ix2 p q) = gdx m c (ix2 (at' t p) q) := by
  rw [← dx_eq]
  by_cases h0 : t.val % 8 = 0
  · rw [outsAt0_A m c t h0 (first t h0)]; dsimp only; rw [out_A5]
  · rw [outsAt0_B m c t h0 (later t h0)]; dsimp only; rw [out_B5]
theorem outs7 (c : Dev nD) (t : Fin cfg0.N) (p : Fin 512) (q : Fin 1024) : (outsAt0 m c t.val t.isLt).2.2 (ix2 p q) = gdx m c (ix2 (at' t p) q) := by
  rw [← dx_eq]
  by_cases h0 : t.val % 8 = 0
  · rw [outsAt0_A m c t h0 (first t h0)]; dsimp only; rw [out_A7]
  · rw [outsAt0_B m c t h0 (later t h0)]; dsimp only; rw [out_B7]

/-- The gradient of the gain after the last point. -/
theorem outs6 (c : Dev nD) (q : Fin 1024) :
    (outsAt0 m c t0_7.val t0_7.isLt).2.1 (ix2 0 q)
      = ∑ t : Fin cfg0.N, ∑ p : Fin 512, up (iblk m c 0 t) (iblk m c 1 t) p q * (row (iblk m c 2 t) p q * NormRow.inv (row (iblk m c 2 t) p)) := by
  rw [Pipeline.eq_sum_fin_of_reset_step_apply_last (fun n h => (outsAt0 m c n h).2.1) 8 (fun _ => 0)
      (fun t j => ∑ p : Fin 512, up (iblk m c 0 t) (iblk m c 1 t) p (j 1) * (row (iblk m c 2 t) p (j 1) * NormRow.inv (row (iblk m c 2 t) p)))
      (fun t h j => by obtain ⟨a, b, rfl⟩ : ∃ (a : Fin 1) (b : Fin 1024), j = ix2 a b := ⟨j 0, j 1, eq_ix2 j⟩; obtain rfl : a = 0 := Subsingleton.elim _ _; rw [outsAt0_A m c t h (first t h)]; dsimp only; rw [out_A6]; exact (zero_add _).symm)
      (fun t h j => by obtain ⟨a, b, rfl⟩ : ∃ (a : Fin 1) (b : Fin 1024), j = ix2 a b := ⟨j 0, j 1, eq_ix2 j⟩; obtain rfl : a = 0 := Subsingleton.elim _ _; rw [outsAt0_B m c t h (later t h)]; dsimp only; rw [out_B6]; rfl) (le_of_eq N_0) t0_7 rfl (ix2 0 q), zero_add]
  rfl

theorem outs6' (c : Dev nD) : (outsAt0 m c t0_7.val t0_7.isLt).2.1 = gdg m c := by
  funext j
  obtain ⟨a, b, rfl⟩ : ∃ (a : Fin 1) (b : Fin 1024), j = ix2 a b := ⟨j 0, j 1, eq_ix2 j⟩
  obtain rfl : a = 0 := Subsingleton.elim _ _
  rw [outs6]
  unfold gdg
  refine Eq.trans ?_ (Fin.sum_mul_add_fin (S := 8) (n := 512) (L := 4096) fun r => UP m c r b * (X m c r b * NormRow.inv (X m c r)))
  refine Finset.sum_congr rfl fun t _ => Finset.sum_congr rfl fun p _ => ?_
  rw [up_eq, row_eq]

theorem flushed5_eq (c : Dev nD) (t : Fin cfg0.N) (_hf : (cfg0.win 5).flush t = true) :
    (dats m 0 c).flushed 5 t = ((cfg0.win 5).blk t).view.read (Elt Ideal) (gdx m c) := by
  rw [Value.flushed5]
  funext j
  obtain ⟨p, q, rfl⟩ : ∃ (p : Fin 512) (q : Fin 1024), j = ix2 p q := ⟨j 0, j 1, eq_ix2 j⟩
  have e : ((cfg0.win 5).blk t).view.read (Elt Ideal) (gdx m c) (ix2 p q) = gdx m c (ix2 (at' t p) q) := by
    blk_ext [idx5 t]
  rw [e]
  exact outs5 m c t p q
theorem flushed7_eq (c : Dev nD) (t : Fin cfg0.N) (_hf : (cfg0.win 7).flush t = true) :
    (dats m 0 c).flushed 7 t = ((cfg0.win 7).blk t).view.read (Elt Ideal) (gdxn m c) := by
  rw [Value.flushed7]
  funext j
  obtain ⟨p, q, rfl⟩ : ∃ (p : Fin 512) (q : Fin 1024), j = ix2 p q := ⟨j 0, j 1, eq_ix2 j⟩
  have e : ((cfg0.win 7).blk t).view.read (Elt Ideal) (gdxn m c) (ix2 p q) = gdxn m c (ix2 (at' t p) q) := by
    blk_ext [idx7 t]
  rw [e]
  exact outs7 m c t p q
/-- The one write-back of the gain's gradient. -/
theorem flushed6_eq (c : Dev nD) (t : Fin cfg0.N) (hf : (cfg0.win 6).flush t = true) :
    (dats m 0 c).flushed 6 t = ((cfg0.win 6).blk t).view.read (Elt Ideal) (gdg m c) := by
  have hN : cfg0.N = 8 := N_0
  have h3 : t.val = 7 := by have := (flush0_6 t).mp hf; have := t.isLt; omega
  obtain rfl : t = t0_7 := Fin.ext h3
  rw [Value.flushed6, outs6']
  have hz' : (fun a => win0_6.index t0_7 a * main_v2_1.ty.shape.size a) = fun _ => 0 := funext fun a => by fin_cases a <;> decide
  exact (Memref.read_access_unit_zero (Elt Ideal) main_v2_1 hz' (fun a => by rw [congrFun hz' a]; simp) (gdg m c)).symm

theorem final5 (c : Dev nD) : (dats m 0 c).arrAt 5 cfg0.N = gdx m c :=
  (dats m 0 c).arrAt_eq_of_cover 5 (gdx m c) (flushed5_eq m c) (Pipeline.Window.Covers.cover win0_5 (by decide +kernel) (Memref.isWhole_whole _))
theorem final7 (c : Dev nD) : (dats m 0 c).arrAt 7 cfg0.N = gdxn m c :=
  (dats m 0 c).arrAt_eq_of_cover 7 (gdxn m c) (flushed7_eq m c) (Pipeline.Window.Covers.cover win0_7 (by decide +kernel) (Memref.isWhole_whole _))
theorem final6 (c : Dev nD) : (dats m 0 c).arrAt 6 cfg0.N = gdg m c :=
  (dats m 0 c).arrAt_eq_of_cover 6 (gdg m c) (flushed6_eq m c) fun i =>
    ⟨t0_7, (flush0_6 t0_7).mpr rfl, by
      show i ∈ ((View.whole main_v2_1).slice (win0_6.rect t0_7)).set
      rw [View.set_slice_whole, Rect.mem_set_unit]
      intro a
      have h0 : (i 0 : Nat) < 1 := (i 0).isLt
      have h1 : (i 1 : Nat) < 1024 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 1024 from by decide +kernel]; omega⟩

end Cert.KernelHZIdeal.Arrays
end
-- ==== Proof.M.NormHZReference.lean ====
module
public import proofs.«01_k».proof.Proof.M.Norm
public import proofs.«01_k».proof.Proof.Gen.ReferenceHZIdeal.Run
public import Idealize.ShloMosaic.Lib.Pointwise
@[expose] public section
set_option maxRecDepth 16384
noncomputable section
/-! What the reference's gradient of the norm before the attention computes. -/
namespace Cert.ReferenceHZIdeal.Arrays
open Cert.ReferenceHZIdeal Cert.ReferenceHZIdeal.Gen Cert.ReferenceHZIdeal.Value Idealize.ShloMosaic Idealize.ShloMosaic.TcCoe Idealize.SL.Sem
open Idealize.ShloMosaic.Pointwise

/-- The gradient of the normalised rows. -/
def T (a2 : FVec Ideal S1x1024x1536 .f32) (a3 : FVec Ideal S4096x1536 .f32) : FVec Ideal S4096x1024 .f32 :=
  Host.dotGeneral dot_S4096x1536_S1024x1536_S4096x1024_1_1_0_0_n_n none a3 (shapeCast _ a2 shapeCasts_S1x1024x1536_S1024x1536)
/-- The rows' mean squares. -/
def W (a0 : FVec Ideal S4096x1024 .f32) : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The rows' scales. -/
def R (w : FVec Ideal S4096x1 .f32) : FVec Ideal S4096x1 .f32 := Host.rsqrt w
/-- The gradient times the gain. -/
def D (t : FVec Ideal S4096x1024 .f32) (a1 : FVec Ideal S1x1024 .f32) : FVec Ideal S4096x1024 .f32 :=
  mulf t (broadcastInDim S4096x1024 ![0, 1] bcast_S1x1024_S4096x1024_0_1 a1)
/-- The gradient of the rows' squares. -/
def Q (a0 d : FVec Ideal S4096x1024 .f32) (w r : FVec Ideal S4096x1 .f32) : FVec Ideal S4096x1 .f32 :=
  Host.divf (mulf (shapeCast _ (Host.reduceAdd (mulf a0 d) (constant S_ .f32 0x00000000#32) reducesTo_S4096x1024_S4096_d1 h_S_) shapeCasts_S4096_S4096x1) (mulf (broadcastInDim S4096x1 ![] bcast_S_S4096x1 (constant S_ .f32 0xBF000000#32)) (Host.divf r w))) (broadcastInDim S4096x1 ![] bcast_S_S4096x1 (constant S_ .f32 0x44800000#32))
/-- The same, one number for each row. -/
def S (q : FVec Ideal S4096x1 .f32) : FVec Ideal S4096 .f32 := Host.reduceAdd q (constant S_ .f32 0x00000000#32) reducesTo_S4096x1_S4096_d1 h_S_
/-- The gradient of the rows. -/
def dx (a0 a5 d : FVec Ideal S4096x1024 .f32) (r : FVec Ideal S4096x1 .f32) (s : FVec Ideal S4096 .f32) : FVec Ideal S4096x1024 .f32 :=
  addf (addf (addf a5 (mulf d (broadcastInDim S4096x1024 ![0, 1] bcast_S4096x1_S4096x1024_0_1 r))) (mulf a0 (broadcastInDim S4096x1024 ![0] bcast_S4096_S4096x1024_0 s))) (mulf (broadcastInDim S4096x1024 ![0] bcast_S4096_S4096x1024_0 s) a0)
/-- The gradient of the gain. -/
def dg (a0 t : FVec Ideal S4096x1024 .f32) (r : FVec Ideal S4096x1 .f32) : FVec Ideal S1x1024 .f32 :=
  shapeCast _ (Host.reduceAdd (mulf (mulf a0 (broadcastInDim S4096x1024 ![0, 1] bcast_S4096x1_S4096x1024_0_1 r)) t) (constant S_ .f32 0x00000000#32) reducesTo_S4096x1024_S1024_d0 h_S_) shapeCasts_S1024_S1x1024

/-- All of it. -/
def all (a0 : FVec Ideal S4096x1024 .f32) (a1 : FVec Ideal S1x1024 .f32) (a2 : FVec Ideal S1x1024x1536 .f32) (a3 : FVec Ideal S4096x1536 .f32) (a4 : FVec Ideal S4096x1024 .f32) :
    FVec Ideal S4096x1024 .f32 := dx a0 a4 (D (T a2 a3) a1) (R (W a0)) (S (Q a0 (D (T a2 a3) a1) (W a0) (R (W a0))))

theorem res0 (m : (ℓ : Loc nD τ sig) → Buf (Elt Ideal) ℓ) (c : Dev nD) : res_main_v37 m c
    = all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v37 all dx S Q D R W T; rfl
theorem res2 (m : (ℓ : Loc nD τ sig) → Buf (Elt Ideal) ℓ) (c : Dev nD) : res_main_v38 m c
    = truncf .bf16 (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 := by
  unfold res_main_v38 all dx S Q D R W T; rfl

theorem T_apply (a2 : FVec Ideal S1x1024x1536 .f32) (a3 : FVec Ideal S4096x1536 .f32) (p : Fin 4096) (q : Fin 1024) :
    T a2 a3 (ix2 p q) = ∑ k : Fin 1536, a3 (ix2 p k) * a2 (ix3 0 q k) := by
  pointwise [T]
theorem W_apply (a0 : FVec Ideal S4096x1024 .f32) (p : Fin 4096) : W a0 (ix2 p 0) = NormRow.var fun k => a0 (ix2 p k) := by
  unfold NormRow.var
  pointwise [W]
theorem R_apply (a0 : FVec Ideal S4096x1024 .f32) (p : Fin 4096) : R (W a0) (ix2 p 0) = NormRow.inv fun k => a0 (ix2 p k) := by
  unfold NormRow.inv
  rw [← W_apply]
  pointwise [R]
theorem D_apply (t : FVec Ideal S4096x1024 .f32) (a1 : FVec Ideal S1x1024 .f32) (p : Fin 4096) (q : Fin 1024) : D t a1 (ix2 p q) = t (ix2 p q) * a1 (ix2 0 q) := by
  pointwise [D]
theorem Q_apply (a0 d : FVec Ideal S4096x1024 .f32) (p : Fin 4096) : Q a0 d (W a0) (R (W a0)) (ix2 p 0) = NormRow.dxs (fun k => a0 (ix2 p k)) fun k => d (ix2 p k) := by
  unfold NormRow.dxs
  rw [← W_apply, ← R_apply]
  pointwise [Q]
theorem S_apply (q : FVec Ideal S4096x1 .f32) (p : Fin 4096) : S q (ix1 p) = q (ix2 p 0) := by
  pointwise [S]
  exact Fin.sum_univ_one _
theorem dx_apply (a0 a5 d : FVec Ideal S4096x1024 .f32) (p : Fin 4096) (q : Fin 1024) :
    dx a0 a5 d (R (W a0)) (S (Q a0 d (W a0) (R (W a0)))) (ix2 p q)
      = a5 (ix2 p q) + d (ix2 p q) * NormRow.inv (fun k => a0 (ix2 p k)) + a0 (ix2 p q) * NormRow.dxs (fun k => a0 (ix2 p k)) (fun k => d (ix2 p k))
        + NormRow.dxs (fun k => a0 (ix2 p k)) (fun k => d (ix2 p k)) * a0 (ix2 p q) := by
  rw [← Q_apply, ← S_apply (Q a0 d (W a0) (R (W a0))), ← R_apply]
  pointwise [dx]
theorem dg_apply (a0 t : FVec Ideal S4096x1024 .f32) (q : Fin 1024) :
    dg a0 t (R (W a0)) (ix2 0 q) = ∑ p : Fin 4096, (a0 (ix2 p q) * NormRow.inv fun k => a0 (ix2 p k)) * t (ix2 p q) := by
  simp only [← R_apply]
  pointwise [dg]

end Cert.ReferenceHZIdeal.Arrays
end
-- ==== Proof.M.ClaimsHZ.lean ====
module
public import proofs.«01_k».proof.Defs
public import proofs.«01_k».proof.Proof.M.NormHZRows
public import proofs.«01_k».proof.Proof.M.NormHZReference
public import proofs.«01_k».proof.Proof.Gen.KernelHZ.Frame
public import Idealize.ShloMosaic.Adequacy
public import Idealize.ShloMosaic.Init
@[expose] public section
set_option maxRecDepth 16384
noncomputable section
/-! The claims about the gradient of the norm before the attention. -/
namespace Cert.ClaimsHZ
open Idealize.ShloMosaic Idealize.ShloMosaic.TcCoe Idealize.ShloMosaic.Pointwise Idealize.SL.Sem
open Cert.Real (Is)
open KernelHZIdeal.Arrays (a0 a1 a2 a3 a4)

theorem frame : Cert.quiescent_KernelHZ := fun m ρ _ => Cert.KernelHZ.Gen.frame m ρ
theorem frame_ideal : Cert.quiescent_KernelHZIdeal := fun m ρ _ => Cert.KernelHZIdeal.Gen.frame m ρ
theorem frame_ideal_pre [Cert.Pre_finite_hz.Facts] : Cert.quiescent_KernelHZIdeal_pre_finite_hz := fun m ρ _ => Cert.KernelHZIdeal.Gen.frame m ρ
theorem frame_ref : Cert.quiescent_ReferenceHZIdeal := fun m ρ _ =>
  (θ_run Cert.ReferenceHZIdeal.defs _ _).mono (fun r h => ⟨fun c => (h c).2.2.2, Idealize.ShloMosaic.sem_eq_zero_of_no_sems (by decide) r.2⟩)
    (Cert.ReferenceHZIdeal.Value.run (F := Ideal) m ρ)
theorem frame_ref_pre [Cert.Pre_finite_hz.Facts] : Cert.quiescent_ReferenceHZIdeal_pre_finite_hz := fun m ρ _ =>
  (θ_run Cert.ReferenceHZIdeal.defs _ _).mono (fun r h => ⟨fun c => (h c).2.2.2, Idealize.ShloMosaic.sem_eq_zero_of_no_sems (by decide) r.2⟩)
    (Cert.ReferenceHZIdeal.Value.run (F := Ideal) m ρ)

section
variable (m : (ℓ : Loc KernelHZIdeal.nD KernelHZIdeal.τ KernelHZIdeal.sig) → Buf (Elt Ideal) ℓ) (c : Dev KernelHZIdeal.nD)

theorem up_eq (r : Fin 4096) (q : Fin 1024) : KernelHZIdeal.Arrays.UP m c r q = ReferenceHZIdeal.Arrays.T (a2 m c) (a3 m c) (ix2 r q) := by
  rw [ReferenceHZIdeal.Arrays.T_apply]
  rfl

/-- The incoming gradient is real. -/
theorem up_real [Cert.Pre_finite_hz.Facts] (h : Pre_KernelHZIdeal_finite_hz m) (r : Fin 4096) (k : Fin 1024) :
    Is (KernelHZIdeal.Arrays.UP m c r k * a1 m c (ix2 0 k)) :=
  (Is.sum _ fun _ => (Real.of_abs_lt (congrFun (h c).2.2.2 _)).mul (Real.of_abs_lt (congrFun (h c).2.2.1 _))).mul (Real.of_abs_lt (congrFun (h c).2.1 _))

theorem gdx_eq [Cert.Pre_finite_hz.Facts] (h : Pre_KernelHZIdeal_finite_hz m) :
    KernelHZIdeal.Arrays.gdx m c = ReferenceHZIdeal.Arrays.all (a0 m c) (a1 m c) (a2 m c) (a3 m c) (a4 m c) := by
  funext j
  obtain ⟨p, q, rfl⟩ : ∃ (p : Fin 4096) (q : Fin 1024), j = ix2 p q := ⟨j 0, j 1, eq_ix2 j⟩
  have e : (fun k => KernelHZIdeal.Arrays.UP m c p k * a1 m c (ix2 0 k))
      = fun k => ReferenceHZIdeal.Arrays.D (ReferenceHZIdeal.Arrays.T (a2 m c) (a3 m c)) (a1 m c) (ix2 p k) :=
    funext fun k => by rw [ReferenceHZIdeal.Arrays.D_apply, up_eq]
  refine (NormRow.dx_eq (a4 m c (ix2 p q)) (KernelHZIdeal.Arrays.X m c p) _ (fun k => Real.of_abs_lt (congrFun (h c).1 _)) (fun k => up_real m c h p k) q).trans ?_
  unfold ReferenceHZIdeal.Arrays.all
  rw [ReferenceHZIdeal.Arrays.dx_apply, ← e]
  rw [← congrFun e q]

theorem gdg_eq : KernelHZIdeal.Arrays.gdg m c
    = ReferenceHZIdeal.Arrays.dg (a0 m c) (ReferenceHZIdeal.Arrays.T (a2 m c) (a3 m c)) (ReferenceHZIdeal.Arrays.R (ReferenceHZIdeal.Arrays.W (a0 m c))) := by
  funext j
  obtain ⟨p, q, rfl⟩ : ∃ (p : Fin 1) (q : Fin 1024), j = ix2 p q := ⟨j 0, j 1, eq_ix2 j⟩
  obtain rfl : p = 0 := Subsingleton.elim _ _
  rw [ReferenceHZIdeal.Arrays.dg_apply]
  refine Finset.sum_congr rfl fun r _ => ?_
  rw [← up_eq, mul_comm]
  rfl
end

theorem algebraic [Cert.Pre_finite_hz.Facts] : Cert.algebraic_KernelHZIdeal_ReferenceHZIdeal_pre_finite_hz := by
  intro m ρ m' ρ' hpre hagree
  refine ⟨fun c => KernelHZIdeal.Arrays.gdx m c, fun c => KernelHZIdeal.Arrays.gdg m c, fun c => KernelHZIdeal.Arrays.gdxn m c, ?_, ?_⟩
  · exact (θ_run Cert.KernelHZIdeal.defs _ _).mono
      (fun _ h c => ⟨(h c).1.trans (KernelHZIdeal.Arrays.final5 m c), (h c).2.1.trans (KernelHZIdeal.Arrays.final6 m c),
        (h c).2.2.1.trans (KernelHZIdeal.Arrays.final7 m c), (h c).2.2.2⟩)
      (Cert.KernelHZIdeal.Value.run_blocks (F := Ideal) m ρ)
  · refine (θ_run Cert.ReferenceHZIdeal.defs _ _).mono (fun _ h c => ⟨(h c).1.trans ?_, (h c).2.1.trans ?_, (h c).2.2.1.trans ?_, (h c).2.2.2⟩)
      (Cert.ReferenceHZIdeal.Value.run (F := Ideal) m' ρ')
    · show _ = KernelHZIdeal.Arrays.gdx m c
      rw [gdx_eq m c hpre, ReferenceHZIdeal.Arrays.res0, (hagree c).1, (hagree c).2.1, (hagree c).2.2.1, (hagree c).2.2.2.1, (hagree c).2.2.2.2]
    · show _ = KernelHZIdeal.Arrays.gdg m c
      rw [gdg_eq m c, (hagree c).1, (hagree c).2.2.1, (hagree c).2.2.2.1]
      rfl
    · show _ = KernelHZIdeal.Arrays.gdxn m c
      rw [ReferenceHZIdeal.Arrays.res2, (hagree c).1, (hagree c).2.1, (hagree c).2.2.1, (hagree c).2.2.2.1, (hagree c).2.2.2.2]
      exact (gdx_eq m c hpre).symm

end Cert.ClaimsHZ
end
-- ==== Proof.M.ClaimsXQ.lean ====
module
public import proofs.«01_k».proof.Defs
public import proofs.«01_k».proof.Proof.Gen.KernelXQ.Frame
public import proofs.«01_k».proof.Proof.Gen.KernelXQIdeal.Value
public import proofs.«01_k».proof.Proof.Gen.ReferenceXQIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The scaled queries of the memory attention. -/
namespace Cert.ClaimsXQ
open Idealize.ShloMosaic Idealize.ShloMosaic.TcCoe Idealize.ShloMosaic.Pointwise Idealize.SL.Sem

section
open Cert.KernelXQIdeal Cert.KernelXQIdeal.Gen

/-- A block of the product. -/
theorem block (c : Dev nD) (i : grid0.Coords) (b1 : Memref sig .tc .vmem S1024x1024 .bf16) (h1 : b1.IsWhole) (b2 : Memref sig .tc .vmem S1x1024x1024 .bf16) (h2 : b2.IsWhole)
    (b3 : Memref sig .tc .vmem S1024x1024 .bf16) (h3 : b3.IsWhole) (b4 : Memref sig .tc .vmem S8x128 .f32) (h4 : b4.IsWhole)
    (x0 : Vec Ideal S1024x1024 .bf16) (x1 : Vec Ideal S1x1024x1024 .bf16) (p : Fin 1024) (q : Fin 1024) :
    out0_A_2 c i b1 h1 b2 h2 b3 h3 b4 h4 x0 x1 (ix2 p q) = (∑ k : Fin 1024, x0 (ix2 p k) * x1 (ix3 0 k q)) * Ideal.ofBits .f32 0x3D800000#32 := by
  frame_out
  pointwise [k0_pay1]

variable (m : (ℓ : Loc nD τ sig) → Buf (Elt Ideal) ℓ) (c : Dev nD)

theorem points : ∀ t : Fin cfg0.N, win0_0.index t 0 = t.val ∧ win0_0.index t 1 = 0 ∧ win0_1.index t 0 = 0 ∧ win0_1.index t 1 = 0 ∧ win0_1.index t 2 = 0 ∧ win0_2.index t 0 = t.val ∧ win0_2.index t 1 = 0 :=
  (by decide +kernel : ∀ t : Fin grid0.N, _)

abbrev a0 : FVec Ideal S4096x1024 .f32 := m ((c : Thread nD τ).loc main_arg0)
abbrev a1 : FVec Ideal S2x1024x1024 .f32 := m ((c : Thread nD τ).loc main_arg1)

/-- The product. -/
def at' (p : Fin 4096) (q : Fin 1024) : EReal := (∑ k : Fin 1024, a0 m c (ix2 p k) * a1 m c (ix3 0 k q)) * Ideal.ofBits .f32 0x3D800000#32
/-- The product's array. -/
def arr : Vec Ideal S4096x1024 .bf16 := fun j => at' m c (j 0) (j 1)

theorem left (t : Fin cfg0.N) (p : Fin 1024) (k : Fin 1024) : iblk m c 0 t (ix2 p k) = a0 m c (ix2 ⟨t.val * 1024 + p.val, by have := t.isLt; have : cfg0.N = 4 := N_0; omega⟩ k) := by
  have e : (iblk m c 0 t (ix2 p k) : EReal) = (V m c main_v0 : FVec Ideal S4096x1024 .bf16) (ix2 ⟨t.val * 1024 + p.val, by have := t.isLt; have : cfg0.N = 4 := N_0; omega⟩ k) := by blk_ext [iblk, points t]
  refine e.trans ?_
  show V m c main_v0 (ix2 _ k) = _
  entry_read
  pointwise
theorem right (t : Fin cfg0.N) (k : Fin 1024) (q : Fin 1024) : iblk m c 1 t (ix3 0 k q)
    = a1 m c (ix3 0 k q) := by
  have e : (iblk m c 1 t (ix3 0 k q) : EReal) = (V m c main_v1 : FVec Ideal S2x1024x1024 .bf16) (ix3 0 k q) := by
    blk_ext [iblk, points t]
  refine e.trans ?_
  show V m c main_v1 (ix3 0 k _) = _
  entry_read
  pointwise

theorem final : (dats m 0 c).arrAt 2 cfg0.N = arr m c := by
  refine (dats m 0 c).arrAt_eq_of_cover 2 (arr m c) (fun (t : Fin cfg0.N) _ => ?_) (Pipeline.Window.Covers.cover win0_2 (by decide +kernel) (Memref.isWhole_whole _))
  rw [Value.flushed2_A]
  funext j
  obtain ⟨p, q, rfl⟩ : ∃ (p : Fin 1024) (q : Fin 1024), j = ix2 p q := ⟨j 0, j 1, eq_ix2 j⟩
  have e : ((cfg0.win 2).blk t).view.read (Elt Ideal) (arr m c) (ix2 p q)
      = arr m c (ix2 ⟨t.val * 1024 + p.val, by have := t.isLt; have : cfg0.N = 4 := N_0; omega⟩ q) := by
    blk_ext [points t]
  rw [e]
  refine (block c _ _ _ _ _ _ _ _ _ _ _ p q).trans ?_
  simp only [left, right]
  rfl
end

theorem frame : Cert.quiescent_KernelXQ := fun m ρ _ => Cert.KernelXQ.Gen.frame m ρ
theorem frame_ideal : Cert.quiescent_KernelXQIdeal := fun m ρ _ => Cert.KernelXQIdeal.Gen.frame m ρ
theorem frame_ref : Cert.quiescent_ReferenceXQIdeal := fun m ρ _ =>
  (θ_run Cert.ReferenceXQIdeal.defs _ _).mono (fun r h => ⟨fun c => (h c).2, Idealize.ShloMosaic.sem_eq_zero_of_no_sems (by decide) r.2⟩)
    (Cert.ReferenceXQIdeal.Value.run (F := Ideal) m ρ)

theorem algebraic : Cert.algebraic_KernelXQIdeal_ReferenceXQIdeal := by
  intro m ρ m' ρ' _ hagree
  refine ⟨fun c => arr m c, ?_, ?_⟩
  · exact (θ_run Cert.KernelXQIdeal.defs _ _).mono (fun _ h c => ⟨(h c).1.trans (final m c), (h c).2⟩)
      (Cert.KernelXQIdeal.Value.run_blocks (F := Ideal) m ρ)
  · refine (θ_run Cert.ReferenceXQIdeal.defs _ _).mono (fun _ h c => ⟨(h c).1.trans ?_, (h c).2⟩)
      (Cert.ReferenceXQIdeal.Value.run (F := Ideal) m' ρ')
    rw [(hagree c).1, (hagree c).2]
    funext j
    obtain ⟨p, q, rfl⟩ : ∃ (p : Fin 4096) (q : Fin 1024), j = ix2 p q := ⟨j 0, j 1, eq_ix2 j⟩
    show _ = at' m c p q
    unfold at'
    pointwise

end Cert.ClaimsXQ
end
-- ==== Proof.M.ClaimsQK.lean ====
module
public import proofs.«01_k».proof.Defs
public import proofs.«01_k».proof.Proof.Gen.KernelQK.Frame
public import proofs.«01_k».proof.Proof.Gen.KernelQKIdeal.Value
public import proofs.«01_k».proof.Proof.Gen.ReferenceQKIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The queries, keys and values of the attention before norm and rotation. -/
namespace Cert.ClaimsQK
open Idealize.ShloMosaic Idealize.ShloMosaic.TcCoe Idealize.ShloMosaic.Pointwise Idealize.SL.Sem

section
open Cert.KernelQKIdeal Cert.KernelQKIdeal.Gen

/-- A block of the product. -/
theorem block (c : Dev nD) (i : grid0.Coords) (b1 : Memref sig .tc .vmem S1024x1024 .bf16) (h1 : b1.IsWhole) (b2 : Memref sig .tc .vmem S1x1024x1536 .bf16) (h2 : b2.IsWhole)
    (b3 : Memref sig .tc .vmem S1024x1536 .f32) (h3 : b3.IsWhole) (b4 : Memref sig .tc .vmem S8x128 .f32) (h4 : b4.IsWhole)
    (x0 : Vec Ideal S1024x1024 .bf16) (x1 : Vec Ideal S1x1024x1536 .bf16) (p : Fin 1024) (q : Fin 1536) :
    out0_A_2 c i b1 h1 b2 h2 b3 h3 b4 h4 x0 x1 (ix2 p q) = ∑ k : Fin 1024, x0 (ix2 p k) * x1 (ix3 0 k q) := by
  frame_out
  pointwise [k0_pay1]

variable (m : (ℓ : Loc nD τ sig) → Buf (Elt Ideal) ℓ) (c : Dev nD)

theorem points : ∀ t : Fin cfg0.N, win0_0.index t 0 = t.val ∧ win0_0.index t 1 = 0 ∧ win0_1.index t 0 = 0 ∧ win0_1.index t 1 = 0 ∧ win0_1.index t 2 = 0 ∧ win0_2.index t 0 = t.val ∧ win0_2.index t 1 = 0 :=
  (by decide +kernel : ∀ t : Fin grid0.N, _)

abbrev a0 : FVec Ideal S4096x1024 .f32 := m ((c : Thread nD τ).loc main_arg0)
abbrev a1 : FVec Ideal S1x1024x1536 .f32 := m ((c : Thread nD τ).loc main_arg1)

/-- The product. -/
def at' (p : Fin 4096) (q : Fin 1536) : EReal := ∑ k : Fin 1024, a0 m c (ix2 p k) * a1 m c (ix3 0 k q)
/-- The product's array. -/
def arr : Vec Ideal S4096x1536 .f32 := fun j => at' m c (j 0) (j 1)

theorem left (t : Fin cfg0.N) (p : Fin 1024) (k : Fin 1024) : iblk m c 0 t (ix2 p k) = a0 m c (ix2 ⟨t.val * 1024 + p.val, by have := t.isLt; have : cfg0.N = 4 := N_0; omega⟩ k) := by
  have e : (iblk m c 0 t (ix2 p k) : EReal) = (V m c main_v0 : FVec Ideal S4096x1024 .bf16) (ix2 ⟨t.val * 1024 + p.val, by have := t.isLt; have : cfg0.N = 4 := N_0; omega⟩ k) := by blk_ext [iblk, points t]
  refine e.trans ?_
  show V m c main_v0 (ix2 _ k) = _
  entry_read
  pointwise
theorem right (t : Fin cfg0.N) (k : Fin 1024) (q : Fin 1536) : iblk m c 1 t (ix3 0 k q)
    = a1 m c (ix3 0 k q) := by
  have e : (iblk m c 1 t (ix3 0 k q) : EReal) = (V m c main_v1 : FVec Ideal S1x1024x1536 .bf16) (ix3 0 k q) := by
    blk_ext [iblk, points t]
  refine e.trans ?_
  show V m c main_v1 (ix3 0 k _) = _
  entry_read
  pointwise

theorem final : (dats m 0 c).arrAt 2 cfg0.N = arr m c := by
  refine (dats m 0 c).arrAt_eq_of_cover 2 (arr m c) (fun (t : Fin cfg0.N) _ => ?_) (Pipeline.Window.Covers.cover win0_2 (by decide +kernel) (Memref.isWhole_whole _))
  rw [Value.flushed2_A]
  funext j
  obtain ⟨p, q, rfl⟩ : ∃ (p : Fin 1024) (q : Fin 1536), j = ix2 p q := ⟨j 0, j 1, eq_ix2 j⟩
  have e : ((cfg0.win 2).blk t).view.read (Elt Ideal) (arr m c) (ix2 p q)
      = arr m c (ix2 ⟨t.val * 1024 + p.val, by have := t.isLt; have : cfg0.N = 4 := N_0; omega⟩ q) := by
    blk_ext [points t]
  rw [e]
  refine (block c _ _ _ _ _ _ _ _ _ _ _ p q).trans ?_
  simp only [left, right]
  rfl
end

open Cert.ReferenceQKIdeal Cert.ReferenceQKIdeal.Gen in
/-- What the reference computes. -/
def ref (x : FVec Ideal S4096x1024 .f32) (w : FVec Ideal S1x1024x1536 .f32) : FVec Ideal S4096x1536 .f32 :=
  Host.dotGeneral dot_S4096x1024_S1024x1536_S4096x1536_1_0_0_1_n_n none x (shapeCast _ w shapeCasts_S1x1024x1536_S1024x1536)

theorem frame : Cert.quiescent_KernelQK := fun m ρ _ => Cert.KernelQK.Gen.frame m ρ
theorem frame_ideal : Cert.quiescent_KernelQKIdeal := fun m ρ _ => Cert.KernelQKIdeal.Gen.frame m ρ
theorem frame_ref : Cert.quiescent_ReferenceQKIdeal := fun m ρ _ =>
  (θ_run Cert.ReferenceQKIdeal.defs _ _).mono (fun r h => ⟨fun c => (h c).2, Idealize.ShloMosaic.sem_eq_zero_of_no_sems (by decide) r.2⟩)
    (Cert.ReferenceQKIdeal.Value.run (F := Ideal) m ρ)

theorem algebraic : Cert.algebraic_KernelQKIdeal_ReferenceQKIdeal := by
  intro m ρ m' ρ' _ hagree
  refine ⟨fun c => arr m c, ?_, ?_⟩
  · exact (θ_run Cert.KernelQKIdeal.defs _ _).mono (fun _ h c => ⟨(h c).1.trans (final m c), (h c).2⟩)
      (Cert.KernelQKIdeal.Value.run_blocks (F := Ideal) m ρ)
  · refine (θ_run Cert.ReferenceQKIdeal.defs _ _).mono (fun _ h c => ⟨(h c).1.trans ?_, (h c).2⟩)
      (Cert.ReferenceQKIdeal.Value.run (F := Ideal) m' ρ')
    rw [(hagree c).1, (hagree c).2]
    funext j
    obtain ⟨p, q, rfl⟩ : ∃ (p : Fin 4096) (q : Fin 1536), j = ix2 p q := ⟨j 0, j 1, eq_ix2 j⟩
    show ref (a0 m c) (a1 m c) (ix2 p q) = at' m c p q
    unfold at'
    pointwise [ref]

end Cert.ClaimsQK
end
-- ==== Proof.M.ClaimsXO.lean ====
module
public import proofs.«01_k».proof.Defs
public import proofs.«01_k».proof.Proof.M.Norm
public import proofs.«01_k».proof.Proof.Gen.KernelXO.Frame
public import proofs.«01_k».proof.Proof.Gen.KernelXOIdeal.Value
public import proofs.«01_k».proof.Proof.Gen.ReferenceXOIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The rows after the memory attention, and the same normalised for the feed-forward. -/
namespace Cert.ClaimsXO
open Idealize.ShloMosaic Idealize.ShloMosaic.TcCoe Idealize.ShloMosaic.Pointwise Idealize.SL.Sem

section
open Cert.KernelXOIdeal Cert.KernelXOIdeal.Gen

section
variable (x0 : Vec Ideal S1024x1024 .bf16) (x1 : Vec Ideal S1x1024x1024 .bf16) (x2 : Vec Ideal S1024x1024 .f32) (x3 : Vec Ideal S1x1024 .f32) (p : Fin 1024) (q : Fin 1024)

/-- A block of the sum. -/
def rows : EReal := (∑ k : Fin 1024, x0 (ix2 p k) * x1 (ix3 0 k q)) + x2 (ix2 p q)
theorem pay1 : k0_pay1 x0 x1 x2 (ix2 p q) = rows x0 x1 x2 p q := by
  unfold rows
  pointwise [k0_pay1]
theorem pay2 : k0_pay2 x0 x1 x2 x3 (ix2 p q) = rows x0 x1 x2 p q * NormRow.inv (rows x0 x1 x2 p) * x3 (ix2 0 q) := by
  unfold NormRow.inv NormRow.var
  simp only [← pay1]
  pointwise [k0_pay2]

variable (c : Dev nD) (i : grid0.Coords) (b0 : Memref sig .tc .vmem S1024x1024 .bf16) (h0 : b0.IsWhole) (b1 : Memref sig .tc .vmem S1x1024x1024 .bf16) (h1 : b1.IsWhole)
    (b2 : Memref sig .tc .vmem S1024x1024 .f32) (h2 : b2.IsWhole) (b3 : Memref sig .tc .vmem S1x1024 .f32) (h3 : b3.IsWhole)
    (b4 : Memref sig .tc .vmem S1024x1024 .f32) (h4 : b4.IsWhole) (b5 : Memref sig .tc .vmem S1024x1024 .bf16) (h5 : b5.IsWhole) (b6 : Memref sig .tc .vmem S8x128 .f32) (h6 : b6.IsWhole)
theorem block4 : out0_A_4 c i b0 h0 b1 h1 b2 h2 b3 h3 b4 h4 b5 h5 b6 h6 x0 x1 x2 x3 (ix2 p q) = rows x0 x1 x2 p q := by
  frame_out
  rw [pay1]
theorem block5 : out0_A_5 c i b0 h0 b1 h1 b2 h2 b3 h3 b4 h4 b5 h5 b6 h6 x0 x1 x2 x3 (ix2 p q)
    = rows x0 x1 x2 p q * NormRow.inv (rows x0 x1 x2 p) * x3 (ix2 0 q) := by
  frame_out
  rw [← pay2]
end

variable (m : (ℓ : Loc nD τ sig) → Buf (Elt Ideal) ℓ) (c : Dev nD)

theorem points : ∀ t : Fin cfg0.N, win0_0.index t 0 = t.val ∧ win0_0.index t 1 = 0 ∧ win0_1.index t 0 = 0 ∧ win0_1.index t 1 = 0 ∧ win0_1.index t 2 = 0
    ∧ win0_2.index t 0 = t.val ∧ win0_2.index t 1 = 0 ∧ win0_3.index t 0 = 0 ∧ win0_3.index t 1 = 0 :=
  (by decide +kernel : ∀ t : Fin grid0.N, _)
theorem points4 : ∀ t : Fin cfg0.N, win0_4.index t 0 = t.val ∧ win0_4.index t 1 = 0 := (by decide +kernel : ∀ t : Fin grid0.N, _)
theorem points5 : ∀ t : Fin cfg0.N, win0_5.index t 0 = t.val ∧ win0_5.index t 1 = 0 := (by decide +kernel : ∀ t : Fin grid0.N, _)

abbrev a0 : FVec Ideal S4096x1024 .f32 := m ((c : Thread nD τ).loc main_arg0)
abbrev a1 : FVec Ideal S2x1024x1024 .f32 := m ((c : Thread nD τ).loc main_arg1)
abbrev a2 : FVec Ideal S4096x1024 .f32 := m ((c : Thread nD τ).loc main_arg2)
abbrev a3 : FVec Ideal S1x1024 .f32 := m ((c : Thread nD τ).loc main_arg3)

/-- The rows after the layer. -/
def sums (p : Fin 4096) (q : Fin 1024) : EReal := (∑ k : Fin 1024, a0 m c (ix2 p k) * a1 m c (ix3 0 k q)) + a2 m c (ix2 p q)
/-- Their array. -/
def arr : Vec Ideal S4096x1024 .f32 := fun j => sums m c (j 0) (j 1)
/-- The array of the normalised rows. -/
def arrn : Vec Ideal S4096x1024 .bf16 := fun j => sums m c (j 0) (j 1) * NormRow.inv (sums m c (j 0)) * a3 m c (ix2 0 (j 1))

/-- The array's row that a block's row is. -/
abbrev at' (t : Fin cfg0.N) (p : Fin 1024) : Fin 4096 := ⟨t.val * 1024 + p.val, by have := t.isLt; have : cfg0.N = 4 := N_0; omega⟩

theorem rows_eq (t : Fin cfg0.N) (p : Fin 1024) : rows (iblk m c 0 t) (iblk m c 1 t) (iblk m c 2 t) p = sums m c (at' t p) := by
  funext q
  have e0 (k : Fin 1024) : iblk m c 0 t (ix2 p k) = a0 m c (ix2 (at' t p) k) := by
    have e : (iblk m c 0 t (ix2 p k) : EReal) = (V m c main_v0 : FVec Ideal S4096x1024 .bf16) (ix2 (at' t p) k) := by blk_ext [iblk, points t]
    refine e.trans ?_
    show V m c main_v0 (ix2 (at' t p) k) = _
    entry_read
    pointwise
  have e1 (k : Fin 1024) : iblk m c 1 t (ix3 0 k q) = a1 m c (ix3 0 k q) := by
    have e : (iblk m c 1 t (ix3 0 k q) : EReal) = (V m c main_v1 : FVec Ideal S2x1024x1024 .bf16) (ix3 0 k q) := by blk_ext [iblk, points t]
    refine e.trans ?_
    show V m c main_v1 (ix3 0 k q) = _
    entry_read
    pointwise
  have e2 : iblk m c 2 t (ix2 p q) = a2 m c (ix2 (at' t p) q) := by
    have e : (iblk m c 2 t (ix2 p q) : EReal) = (V m c main_arg2 : FVec Ideal S4096x1024 .f32) (ix2 (at' t p) q) := by blk_ext [iblk, points t]
    refine e.trans ?_
    show V m c main_arg2 (ix2 (at' t p) q) = _
    entry_read
    rfl
  unfold rows sums
  rw [e2]
  exact congrArg (· + _) (Finset.sum_congr rfl fun k _ => by rw [e0, e1])

/-- The gain's block. -/
abbrev gn (t : Fin cfg0.N) : FVec Ideal S1x1024 .f32 := iblk m c 3 t
theorem gain_eq (t : Fin cfg0.N) (k : Fin 1024) : gn m c t (ix2 0 k) = a3 m c (ix2 0 k) := by
  have e : gn m c t (ix2 0 k) = (V m c main_arg3 : FVec Ideal S1x1024 .f32) (ix2 0 k) := by blk_ext [iblk, points t]
  refine e.trans ?_
  show V m c main_arg3 (ix2 0 k) = _
  entry_read
  rfl

theorem final4 : (dats m 0 c).arrAt 4 cfg0.N = arr m c := by
  refine (dats m 0 c).arrAt_eq_of_cover 4 (arr m c) (fun (t : Fin cfg0.N) _ => ?_) (Pipeline.Window.Covers.cover win0_4 (by decide +kernel) (Memref.isWhole_whole _))
  rw [Value.flushed4_A]
  funext j
  obtain ⟨p, q, rfl⟩ : ∃ (p : Fin 1024) (q : Fin 1024), j = ix2 p q := ⟨j 0, j 1, eq_ix2 j⟩
  have e : ((cfg0.win 4).blk t).view.read (Elt Ideal) (arr m c) (ix2 p q) = arr m c (ix2 (at' t p) q) := by blk_ext [points4 t]
  rw [e]
  refine (block4 (iblk m c 0 t) (iblk m c 1 t) (iblk m c 2 t) (iblk m c 3 t) p q c _ _ _ _ _ _ _ _ _ _ _ _ _ _ _).trans ?_
  rw [rows_eq]
  rfl
theorem final5 : (dats m 0 c).arrAt 5 cfg0.N = arrn m c := by
  refine (dats m 0 c).arrAt_eq_of_cover 5 (arrn m c) (fun (t : Fin cfg0.N) _ => ?_) (Pipeline.Window.Covers.cover win0_5 (by decide +kernel) (Memref.isWhole_whole _))
  rw [Value.flushed5_A]
  funext j
  obtain ⟨p, q, rfl⟩ : ∃ (p : Fin 1024) (q : Fin 1024), j = ix2 p q := ⟨j 0, j 1, eq_ix2 j⟩
  have e : ((cfg0.win 5).blk t).view.read (Elt Ideal) (arrn m c) (ix2 p q) = arrn m c (ix2 (at' t p) q) := by blk_ext [points5 t]
  rw [e]
  refine (block5 (iblk m c 0 t) (iblk m c 1 t) (iblk m c 2 t) (gn m c t) p q c _ _ _ _ _ _ _ _ _ _ _ _ _ _ _).trans ?_
  rw [rows_eq, gain_eq]
  rfl
end

section
open Cert.ReferenceXOIdeal Cert.ReferenceXOIdeal.Gen

/-- The reference's rows. -/
def S (x : FVec Ideal S4096x1024 .f32) (w : FVec Ideal S2x1024x1024 .f32) (y : FVec Ideal S4096x1024 .f32) : FVec Ideal S4096x1024 .f32 :=
  addf y (Host.dotGeneral dot_S4096x1024_S1024x1024_S4096x1024_1_0_0_1_n_n none x (shapeCast _ (extractStridedSlice S1x1024x1024 ![0, 0, 0] w slices_S2x1024x1024_S1x1024x1024_0_0_0) shapeCasts_S1x1024x1024_S1024x1024))
/-- The rows' scales. -/
def R (s : FVec Ideal S4096x1024 .f32) : FVec Ideal S4096x1 .f32 :=
  Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))
/-- The normalised rows. -/
def N (s : FVec Ideal S4096x1024 .f32) (r : FVec Ideal S4096x1 .f32) (g : FVec Ideal S1x1024 .f32) : FVec Ideal S4096x1024 .bf16 :=
  truncf .bf16 (mulf (mulf s (broadcastInDim S4096x1024 ![0, 1] bcast_S4096x1_S4096x1024_0_1 r)) (broadcastInDim S4096x1024 ![0, 1] bcast_S1x1024_S4096x1024_0_1 g)) bitsLt_bf16_f32

variable (x : FVec Ideal S4096x1024 .f32) (w : FVec Ideal S2x1024x1024 .f32) (y : FVec Ideal S4096x1024 .f32) (g : FVec Ideal S1x1024 .f32)
theorem S_apply (p : Fin 4096) (q : Fin 1024) : S x w y (ix2 p q) = (∑ k : Fin 1024, x (ix2 p k) * w (ix3 0 k q)) + y (ix2 p q) := by
  rw [add_comm]
  pointwise [S]
theorem R_apply (s : FVec Ideal S4096x1024 .f32) (p : Fin 4096) : R s (ix2 p 0) = NormRow.inv fun k => s (ix2 p k) := by
  unfold NormRow.inv NormRow.var
  pointwise [R]
theorem N_apply (s : FVec Ideal S4096x1024 .f32) (p : Fin 4096) (q : Fin 1024) : N s (R s) g (ix2 p q) = s (ix2 p q) * NormRow.inv (fun k => s (ix2 p k)) * g (ix2 0 q) := by
  rw [← R_apply]
  pointwise [N]
end

theorem frame : Cert.quiescent_KernelXO := fun m ρ _ => Cert.KernelXO.Gen.frame m ρ
theorem frame_ideal : Cert.quiescent_KernelXOIdeal := fun m ρ _ => Cert.KernelXOIdeal.Gen.frame m ρ
theorem frame_ref : Cert.quiescent_ReferenceXOIdeal := fun m ρ _ =>
  (θ_run Cert.ReferenceXOIdeal.defs _ _).mono (fun r h => ⟨fun c => (h c).2.2, Idealize.ShloMosaic.sem_eq_zero_of_no_sems (by decide) r.2⟩)
    (Cert.ReferenceXOIdeal.Value.run (F := Ideal) m ρ)

theorem arr_eq (m : (ℓ : Loc KernelXOIdeal.nD KernelXOIdeal.τ KernelXOIdeal.sig) → Buf (Elt Ideal) ℓ) (c : Dev KernelXOIdeal.nD) :
    arr m c = S (a0 m c) (a1 m c) (a2 m c) := by
  funext j
  obtain ⟨p, q, rfl⟩ : ∃ (p : Fin 4096) (q : Fin 1024), j = ix2 p q := ⟨j 0, j 1, eq_ix2 j⟩
  rw [S_apply]
  rfl
theorem arrn_eq (m : (ℓ : Loc KernelXOIdeal.nD KernelXOIdeal.τ KernelXOIdeal.sig) → Buf (Elt Ideal) ℓ) (c : Dev KernelXOIdeal.nD) :
    arrn m c = N (S (a0 m c) (a1 m c) (a2 m c)) (R (S (a0 m c) (a1 m c) (a2 m c))) (a3 m c) := by
  funext j
  obtain ⟨p, q, rfl⟩ : ∃ (p : Fin 4096) (q : Fin 1024), j = ix2 p q := ⟨j 0, j 1, eq_ix2 j⟩
  rw [N_apply]
  simp only [S_apply]
  rfl

theorem algebraic : Cert.algebraic_KernelXOIdeal_ReferenceXOIdeal := by
  intro m ρ m' ρ' _ hagree
  refine ⟨fun c => arr m c, fun c => arrn m c, ?_, ?_⟩
  · exact (θ_run Cert.KernelXOIdeal.defs _ _).mono (fun _ h c => ⟨(h c).1.trans (final4 m c), (h c).2.1.trans (final5 m c), (h c).2.2⟩)
      (Cert.KernelXOIdeal.Value.run_blocks (F := Ideal) m ρ)
  · refine (θ_run Cert.ReferenceXOIdeal.defs _ _).mono (fun _ h c => ⟨(h c).1.trans ?_, (h c).2.1.trans ?_, (h c).2.2⟩)
      (Cert.ReferenceXOIdeal.Value.run (F := Ideal) m' ρ')
    · show _ = arr m c
      rw [arr_eq, (hagree c).1, (hagree c).2.1, (hagree c).2.2.1]
      rfl
    · show _ = arrn m c
      rw [arrn_eq, (hagree c).1, (hagree c).2.1, (hagree c).2.2.1, (hagree c).2.2.2]
      rfl

end Cert.ClaimsXO
end
-- ==== Proof.M.ClaimsAO.lean ====
module
public import proofs.«01_k».proof.Defs
public import proofs.«01_k».proof.Proof.M.Norm
public import proofs.«01_k».proof.Proof.Gen.KernelAO.Frame
public import proofs.«01_k».proof.Proof.Gen.KernelAOIdeal.Value
public import proofs.«01_k».proof.Proof.Gen.ReferenceAOIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The rows after the attention, and the same normalised for the memory attention. -/
namespace Cert.ClaimsAO
open Idealize.ShloMosaic Idealize.ShloMosaic.TcCoe Idealize.ShloMosaic.Pointwise Idealize.SL.Sem

section
open Cert.KernelAOIdeal Cert.KernelAOIdeal.Gen

section
variable (x0 : Vec Ideal S1024x1024 .bf16) (x1 : Vec Ideal S1x1024x1024 .bf16) (x2 : Vec Ideal S1024x1024 .f32) (x3 : Vec Ideal S1x1024 .f32) (p : Fin 1024) (q : Fin 1024)

/-- A block of the sum. -/
def rows : EReal := (∑ k : Fin 1024, x0 (ix2 p k) * x1 (ix3 0 k q)) + x2 (ix2 p q)
theorem pay1 : k0_pay1 x0 x1 x2 (ix2 p q) = rows x0 x1 x2 p q := by
  unfold rows
  pointwise [k0_pay1]
theorem pay2 : k0_pay2 x0 x1 x2 x3 (ix2 p q) = rows x0 x1 x2 p q * NormRow.inv (rows x0 x1 x2 p) * x3 (ix2 0 q) := by
  unfold NormRow.inv NormRow.var
  simp only [← pay1]
  pointwise [k0_pay2]

variable (c : Dev nD) (i : grid0.Coords) (b0 : Memref sig .tc .vmem S1024x1024 .bf16) (h0 : b0.IsWhole) (b1 : Memref sig .tc .vmem S1x1024x1024 .bf16) (h1 : b1.IsWhole)
    (b2 : Memref sig .tc .vmem S1024x1024 .f32) (h2 : b2.IsWhole) (b3 : Memref sig .tc .vmem S1x1024 .f32) (h3 : b3.IsWhole)
    (b4 : Memref sig .tc .vmem S1024x1024 .f32) (h4 : b4.IsWhole) (b5 : Memref sig .tc .vmem S1024x1024 .bf16) (h5 : b5.IsWhole) (b6 : Memref sig .tc .vmem S8x128 .f32) (h6 : b6.IsWhole)
theorem block4 : out0_A_4 c i b0 h0 b1 h1 b2 h2 b3 h3 b4 h4 b5 h5 b6 h6 x0 x1 x2 x3 (ix2 p q) = rows x0 x1 x2 p q := by
  frame_out
  rw [pay1]
theorem block5 : out0_A_5 c i b0 h0 b1 h1 b2 h2 b3 h3 b4 h4 b5 h5 b6 h6 x0 x1 x2 x3 (ix2 p q)
    = rows x0 x1 x2 p q * NormRow.inv (rows x0 x1 x2 p) * x3 (ix2 0 q) := by
  frame_out
  rw [← pay2]
end

variable (m : (ℓ : Loc nD τ sig) → Buf (Elt Ideal) ℓ) (c : Dev nD)

theorem points : ∀ t : Fin cfg0.N, win0_0.index t 0 = t.val ∧ win0_0.index t 1 = 0 ∧ win0_1.index t 0 = 0 ∧ win0_1.index t 1 = 0 ∧ win0_1.index t 2 = 0
    ∧ win0_2.index t 0 = t.val ∧ win0_2.index t 1 = 0 ∧ win0_3.index t 0 = 0 ∧ win0_3.index t 1 = 0 :=
  (by decide +kernel : ∀ t : Fin grid0.N, _)
theorem points4 : ∀ t : Fin cfg0.N, win0_4.index t 0 = t.val ∧ win0_4.index t 1 = 0 := (by decide +kernel : ∀ t : Fin grid0.N, _)
theorem points5 : ∀ t : Fin cfg0.N, win0_5.index t 0 = t.val ∧ win0_5.index t 1 = 0 := (by decide +kernel : ∀ t : Fin grid0.N, _)

abbrev a0 : FVec Ideal S4096x1024 .f32 := m ((c : Thread nD τ).loc main_arg0)
abbrev a1 : FVec Ideal S1x1024x1024 .f32 := m ((c : Thread nD τ).loc main_arg1)
abbrev a2 : FVec Ideal S4096x1024 .f32 := m ((c : Thread nD τ).loc main_arg2)
abbrev a3 : FVec Ideal S1x1024 .f32 := m ((c : Thread nD τ).loc main_arg3)

/-- The rows after the layer. -/
def sums (p : Fin 4096) (q : Fin 1024) : EReal := (∑ k : Fin 1024, a0 m c (ix2 p k) * a1 m c (ix3 0 k q)) + a2 m c (ix2 p q)
/-- Their array. -/
def arr : Vec Ideal S4096x1024 .f32 := fun j => sums m c (j 0) (j 1)
/-- The array of the normalised rows. -/
def arrn : Vec Ideal S4096x1024 .bf16 := fun j => sums m c (j 0) (j 1) * NormRow.inv (sums m c (j 0)) * a3 m c (ix2 0 (j 1))

/-- The array's row that a block's row is. -/
abbrev at' (t : Fin cfg0.N) (p : Fin 1024) : Fin 4096 := ⟨t.val * 1024 + p.val, by have := t.isLt; have : cfg0.N = 4 := N_0; omega⟩

theorem rows_eq (t : Fin cfg0.N) (p : Fin 1024) : rows (iblk m c 0 t) (iblk m c 1 t) (iblk m c 2 t) p = sums m c (at' t p) := by
  funext q
  have e0 (k : Fin 1024) : iblk m c 0 t (ix2 p k) = a0 m c (ix2 (at' t p) k) := by
    have e : (iblk m c 0 t (ix2 p k) : EReal) = (V m c main_v0 : FVec Ideal S4096x1024 .bf16) (ix2 (at' t p) k) := by blk_ext [iblk, points t]
    refine e.trans ?_
    show V m c main_v0 (ix2 (at' t p) k) = _
    entry_read
    pointwise
  have e1 (k : Fin 1024) : iblk m c 1 t (ix3 0 k q) = a1 m c (ix3 0 k q) := by
    have e : (iblk m c 1 t (ix3 0 k q) : EReal) = (V m c main_v1 : FVec Ideal S1x1024x1024 .bf16) (ix3 0 k q) := by blk_ext [iblk, points t]
    refine e.trans ?_
    show V m c main_v1 (ix3 0 k q) = _
    entry_read
    pointwise
  have e2 : iblk m c 2 t (ix2 p q) = a2 m c (ix2 (at' t p) q) := by
    have e : (iblk m c 2 t (ix2 p q) : EReal) = (V m c main_arg2 : FVec Ideal S4096x1024 .f32) (ix2 (at' t p) q) := by blk_ext [iblk, points t]
    refine e.trans ?_
    show V m c main_arg2 (ix2 (at' t p) q) = _
    entry_read
    rfl
  unfold rows sums
  rw [e2]
  exact congrArg (· + _) (Finset.sum_congr rfl fun k _ => by rw [e0, e1])

/-- The gain's block. -/
abbrev gn (t : Fin cfg0.N) : FVec Ideal S1x1024 .f32 := iblk m c 3 t
theorem gain_eq (t : Fin cfg0.N) (k : Fin 1024) : gn m c t (ix2 0 k) = a3 m c (ix2 0 k) := by
  have e : gn m c t (ix2 0 k) = (V m c main_arg3 : FVec Ideal S1x1024 .f32) (ix2 0 k) := by blk_ext [iblk, points t]
  refine e.trans ?_
  show V m c main_arg3 (ix2 0 k) = _
  entry_read
  rfl

theorem final4 : (dats m 0 c).arrAt 4 cfg0.N = arr m c := by
  refine (dats m 0 c).arrAt_eq_of_cover 4 (arr m c) (fun (t : Fin cfg0.N) _ => ?_) (Pipeline.Window.Covers.cover win0_4 (by decide +kernel) (Memref.isWhole_whole _))
  rw [Value.flushed4_A]
  funext j
  obtain ⟨p, q, rfl⟩ : ∃ (p : Fin 1024) (q : Fin 1024), j = ix2 p q := ⟨j 0, j 1, eq_ix2 j⟩
  have e : ((cfg0.win 4).blk t).view.read (Elt Ideal) (arr m c) (ix2 p q) = arr m c (ix2 (at' t p) q) := by blk_ext [points4 t]
  rw [e]
  refine (block4 (iblk m c 0 t) (iblk m c 1 t) (iblk m c 2 t) (iblk m c 3 t) p q c _ _ _ _ _ _ _ _ _ _ _ _ _ _ _).trans ?_
  rw [rows_eq]
  rfl
theorem final5 : (dats m 0 c).arrAt 5 cfg0.N = arrn m c := by
  refine (dats m 0 c).arrAt_eq_of_cover 5 (arrn m c) (fun (t : Fin cfg0.N) _ => ?_) (Pipeline.Window.Covers.cover win0_5 (by decide +kernel) (Memref.isWhole_whole _))
  rw [Value.flushed5_A]
  funext j
  obtain ⟨p, q, rfl⟩ : ∃ (p : Fin 1024) (q : Fin 1024), j = ix2 p q := ⟨j 0, j 1, eq_ix2 j⟩
  have e : ((cfg0.win 5).blk t).view.read (Elt Ideal) (arrn m c) (ix2 p q) = arrn m c (ix2 (at' t p) q) := by blk_ext [points5 t]
  rw [e]
  refine (block5 (iblk m c 0 t) (iblk m c 1 t) (iblk m c 2 t) (gn m c t) p q c _ _ _ _ _ _ _ _ _ _ _ _ _ _ _).trans ?_
  rw [rows_eq, gain_eq]
  rfl
end

section
open Cert.ReferenceAOIdeal Cert.ReferenceAOIdeal.Gen

/-- The reference's rows. -/
def S (x : FVec Ideal S4096x1024 .f32) (w : FVec Ideal S1x1024x1024 .f32) (y : FVec Ideal S4096x1024 .f32) : FVec Ideal S4096x1024 .f32 :=
  addf y (Host.dotGeneral dot_S4096x1024_S1024x1024_S4096x1024_1_0_0_1_n_n none x (shapeCast _ w shapeCasts_S1x1024x1024_S1024x1024))
/-- The rows' scales. -/
def R (s : FVec Ideal S4096x1024 .f32) : FVec Ideal S4096x1 .f32 :=
  Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))
/-- The normalised rows. -/
def N (s : FVec Ideal S4096x1024 .f32) (r : FVec Ideal S4096x1 .f32) (g : FVec Ideal S1x1024 .f32) : FVec Ideal S4096x1024 .bf16 :=
  truncf .bf16 (mulf (mulf s (broadcastInDim S4096x1024 ![0, 1] bcast_S4096x1_S4096x1024_0_1 r)) (broadcastInDim S4096x1024 ![0, 1] bcast_S1x1024_S4096x1024_0_1 g)) bitsLt_bf16_f32

variable (x : FVec Ideal S4096x1024 .f32) (w : FVec Ideal S1x1024x1024 .f32) (y : FVec Ideal S4096x1024 .f32) (g : FVec Ideal S1x1024 .f32)
theorem S_apply (p : Fin 4096) (q : Fin 1024) : S x w y (ix2 p q) = (∑ k : Fin 1024, x (ix2 p k) * w (ix3 0 k q)) + y (ix2 p q) := by
  rw [add_comm]
  pointwise [S]
theorem R_apply (s : FVec Ideal S4096x1024 .f32) (p : Fin 4096) : R s (ix2 p 0) = NormRow.inv fun k => s (ix2 p k) := by
  unfold NormRow.inv NormRow.var
  pointwise [R]
theorem N_apply (s : FVec Ideal S4096x1024 .f32) (p : Fin 4096) (q : Fin 1024) : N s (R s) g (ix2 p q) = s (ix2 p q) * NormRow.inv (fun k => s (ix2 p k)) * g (ix2 0 q) := by
  rw [← R_apply]
  pointwise [N]
end

theorem frame : Cert.quiescent_KernelAO := fun m ρ _ => Cert.KernelAO.Gen.frame m ρ
theorem frame_ideal : Cert.quiescent_KernelAOIdeal := fun m ρ _ => Cert.KernelAOIdeal.Gen.frame m ρ
theorem frame_ref : Cert.quiescent_ReferenceAOIdeal := fun m ρ _ =>
  (θ_run Cert.ReferenceAOIdeal.defs _ _).mono (fun r h => ⟨fun c => (h c).2.2, Idealize.ShloMosaic.sem_eq_zero_of_no_sems (by decide) r.2⟩)
    (Cert.ReferenceAOIdeal.Value.run (F := Ideal) m ρ)

theorem arr_eq (m : (ℓ : Loc KernelAOIdeal.nD KernelAOIdeal.τ KernelAOIdeal.sig) → Buf (Elt Ideal) ℓ) (c : Dev KernelAOIdeal.nD) :
    arr m c = S (a0 m c) (a1 m c) (a2 m c) := by
  funext j
  obtain ⟨p, q, rfl⟩ : ∃ (p : Fin 4096) (q : Fin 1024), j = ix2 p q := ⟨j 0, j 1, eq_ix2 j⟩
  rw [S_apply]
  rfl
theorem arrn_eq (m : (ℓ : Loc KernelAOIdeal.nD KernelAOIdeal.τ KernelAOIdeal.sig) → Buf (Elt Ideal) ℓ) (c : Dev KernelAOIdeal.nD) :
    arrn m c = N (S (a0 m c) (a1 m c) (a2 m c)) (R (S (a0 m c) (a1 m c) (a2 m c))) (a3 m c) := by
  funext j
  obtain ⟨p, q, rfl⟩ : ∃ (p : Fin 4096) (q : Fin 1024), j = ix2 p q := ⟨j 0, j 1, eq_ix2 j⟩
  rw [N_apply]
  simp only [S_apply]
  rfl

theorem algebraic : Cert.algebraic_KernelAOIdeal_ReferenceAOIdeal := by
  intro m ρ m' ρ' _ hagree
  refine ⟨fun c => arr m c, fun c => arrn m c, ?_, ?_⟩
  · exact (θ_run Cert.KernelAOIdeal.defs _ _).mono (fun _ h c => ⟨(h c).1.trans (final4 m c), (h c).2.1.trans (final5 m c), (h c).2.2⟩)
      (Cert.KernelAOIdeal.Value.run_blocks (F := Ideal) m ρ)
  · refine (θ_run Cert.ReferenceAOIdeal.defs _ _).mono (fun _ h c => ⟨(h c).1.trans ?_, (h c).2.1.trans ?_, (h c).2.2⟩)
      (Cert.ReferenceAOIdeal.Value.run (F := Ideal) m' ρ')
    · show _ = arr m c
      rw [arr_eq, (hagree c).1, (hagree c).2.1, (hagree c).2.2.1]
      rfl
    · show _ = arrn m c
      rw [arrn_eq, (hagree c).1, (hagree c).2.1, (hagree c).2.2.1, (hagree c).2.2.2]
      rfl

end Cert.ClaimsAO
end
-- ==== Proof.M.ClaimsKV.lean ====
module
public import proofs.«01_k».proof.Defs
public import proofs.«01_k».proof.Proof.Gen.KernelKV.Frame
public import proofs.«01_k».proof.Proof.Gen.KernelKVIdeal.Value
public import proofs.«01_k».proof.Proof.Gen.ReferenceKVIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
/-! The keys and values of the memory attention. -/
namespace Cert.ClaimsKV
open Idealize.ShloMosaic Idealize.ShloMosaic.TcCoe Idealize.ShloMosaic.Pointwise Idealize.SL.Sem

section
open Cert.KernelKVIdeal Cert.KernelKVIdeal.Gen

/-- A block of the product. -/
theorem block (c : Dev nD) (i : grid0.Coords) (b1 : Memref sig .tc .vmem S256x1024 .bf16) (h1 : b1.IsWhole) (b2 : Memref sig .tc .vmem S1x1024x1024 .bf16) (h2 : b2.IsWhole)
    (b3 : Memref sig .tc .vmem S256x1024 .bf16) (h3 : b3.IsWhole) (b4 : Memref sig .tc .vmem S8x128 .f32) (h4 : b4.IsWhole)
    (x0 : Vec Ideal S256x1024 .bf16) (x1 : Vec Ideal S1x1024x1024 .bf16) (p : Fin 256) (q : Fin 1024) :
    out0_A_2 c i b1 h1 b2 h2 b3 h3 b4 h4 x0 x1 (ix2 p q) = ∑ k : Fin 1024, x0 (ix2 p k) * x1 (ix3 0 k q) := by
  frame_out
  pointwise [k0_pay1]

variable (m : (ℓ : Loc nD τ sig) → Buf (Elt Ideal) ℓ) (c : Dev nD)

theorem points : ∀ t : Fin cfg0.N, win0_0.index t 0 = 0 ∧ win0_0.index t 1 = 0 ∧ win0_1.index t 0 = 0 ∧ win0_1.index t 1 = 0 ∧ win0_1.index t 2 = t.val ∧ win0_2.index t 0 = 0 ∧ win0_2.index t 1 = t.val :=
  (by decide +kernel : ∀ t : Fin grid0.N, _)

abbrev a0 : FVec Ideal S256x1024 .f32 := m ((c : Thread nD τ).loc main_arg0)
abbrev a1 : FVec Ideal S2x1024x2048 .f32 := m ((c : Thread nD τ).loc main_arg1)

/-- The product. -/
def at' (p : Fin 256) (q : Fin 2048) : EReal := ∑ k : Fin 1024, a0 m c (ix2 p k) * a1 m c (ix3 0 k q)
/-- The product's array. -/
def arr : Vec Ideal S256x2048 .bf16 := fun j => at' m c (j 0) (j 1)

theorem left (t : Fin cfg0.N) (p : Fin 256) (k : Fin 1024) : iblk m c 0 t (ix2 p k) = a0 m c (ix2 p k) := by
  have e : (iblk m c 0 t (ix2 p k) : EReal) = (V m c main_v0 : FVec Ideal S256x1024 .bf16) (ix2 p k) := by blk_ext [iblk, points t]
  refine e.trans ?_
  show V m c main_v0 (ix2 _ k) = _
  entry_read
  pointwise
theorem right (t : Fin cfg0.N) (k : Fin 1024) (q : Fin 1024) : iblk m c 1 t (ix3 0 k q)
    = a1 m c (ix3 0 k ⟨t.val * 1024 + q.val, by have := t.isLt; have : cfg0.N = 2 := N_0; omega⟩) := by
  have e : (iblk m c 1 t (ix3 0 k q) : EReal) = (V m c main_v1 : FVec Ideal S2x1024x2048 .bf16) (ix3 0 k ⟨t.val * 1024 + q.val, by have := t.isLt; have : cfg0.N = 2 := N_0; omega⟩) := by
    blk_ext [iblk, points t]
  refine e.trans ?_
  show V m c main_v1 (ix3 0 k _) = _
  entry_read
  pointwise

theorem final : (dats m 0 c).arrAt 2 cfg0.N = arr m c := by
  refine (dats m 0 c).arrAt_eq_of_cover 2 (arr m c) (fun (t : Fin cfg0.N) _ => ?_) (Pipeline.Window.Covers.cover win0_2 (by decide +kernel) (Memref.isWhole_whole _))
  rw [Value.flushed2_A]
  funext j
  obtain ⟨p, q, rfl⟩ : ∃ (p : Fin 256) (q : Fin 1024), j = ix2 p q := ⟨j 0, j 1, eq_ix2 j⟩
  have e : ((cfg0.win 2).blk t).view.read (Elt Ideal) (arr m c) (ix2 p q)
      = arr m c (ix2 p ⟨t.val * 1024 + q.val, by have := t.isLt; have : cfg0.N = 2 := N_0; omega⟩) := by
    blk_ext [points t]
  rw [e]
  refine (block c _ _ _ _ _ _ _ _ _ _ _ p q).trans ?_
  simp only [left, right]
  rfl
end

theorem frame : Cert.quiescent_KernelKV := fun m ρ _ => Cert.KernelKV.Gen.frame m ρ
theorem frame_ideal : Cert.quiescent_KernelKVIdeal := fun m ρ _ => Cert.KernelKVIdeal.Gen.frame m ρ
theorem frame_ref : Cert.quiescent_ReferenceKVIdeal := fun m ρ _ =>
  (θ_run Cert.ReferenceKVIdeal.defs _ _).mono (fun r h => ⟨fun c => (h c).2, Idealize.ShloMosaic.sem_eq_zero_of_no_sems (by decide) r.2⟩)
    (Cert.ReferenceKVIdeal.Value.run (F := Ideal) m ρ)

theorem algebraic : Cert.algebraic_KernelKVIdeal_ReferenceKVIdeal := by
  intro m ρ m' ρ' _ hagree
  refine ⟨fun c => arr m c, ?_, ?_⟩
  · exact (θ_run Cert.KernelKVIdeal.defs _ _).mono (fun _ h c => ⟨(h c).1.trans (final m c), (h c).2⟩)
      (Cert.KernelKVIdeal.Value.run_blocks (F := Ideal) m ρ)
  · refine (θ_run Cert.ReferenceKVIdeal.defs _ _).mono (fun _ h c => ⟨(h c).1.trans ?_, (h c).2⟩)
      (Cert.ReferenceKVIdeal.Value.run (F := Ideal) m' ρ')
    rw [(hagree c).1, (hagree c).2]
    funext j
    obtain ⟨p, q, rfl⟩ : ∃ (p : Fin 256) (q : Fin 2048), j = ix2 p q := ⟨j 0, j 1, eq_ix2 j⟩
    show _ = at' m c p q
    unfold at'
    pointwise

end Cert.ClaimsKV
end
-- ==== Proof.FF.Online.lean ====
module
public import proofs.«01_k».proof.Proof.F.Norm
public import Idealize.ShloMosaic.Lib.Pipeline.ValueKit
@[expose] public section
set_option maxRecDepth 16384
noncomputable section
/-! A softmax row taken chunk after chunk, with the largest score so far and what is summed rescaled to it. -/
namespace Cert.Row
open Idealize.ShloMosaic
open Cert.Real (Is)

variable {w : Nat}

theorem exp2_real (y : ℝ) : Ideal.exp2 (y : EReal) = (((2 : ℝ) ^ y : ℝ) : EReal) := Ideal.exp2_coe y

theorem cancel_right {e k l : ℝ} (hk : 0 < k) : e * k * (1 / (l * k)) = e * (1 / l) := by
  rw [one_div, one_div, mul_inv, mul_mul_mul_comm, mul_inv_cancel₀ hk.ne', mul_one]

theorem shift_log (r t l : ℝ) : r + (l + (t - r * Real.log 2)) * (Real.log 2)⁻¹ = (t + l) * (1 / Real.log 2) := by
  have := lg2_pos.ne'
  field_simp
  ring

theorem two_pow (x r t : ℝ) : (2 : ℝ) ^ (x * (1 / Real.log 2) - r) = Real.exp (x - t) * Real.exp (t - r * Real.log 2) := by
  rw [Real.rpow_def_of_pos (by norm_num), ← Real.exp_add]
  congr 1
  have := lg2_pos.ne'
  field_simp
  ring

/-- The largest score after one more chunk. -/
def mstep (m : EReal) (z : Fin w → EReal) : EReal := max m (top z)
/-- The weighted sum after one more chunk, rescaled. -/
def astep (m a : EReal) (z v : Fin w → EReal) : EReal :=
  Ideal.exp2 (m - mstep m z) * a + ∑ j, v j * Ideal.exp2 (z j - mstep m z)

/-- What is held after `c` chunks: at first nothing, later the sum of what the chunks weigh against some real. -/
def Held (z v : Nat → Fin w → EReal) (c : Nat) (m a : EReal) : Prop :=
  (c = 0 ∧ m = ⊥ ∧ a = 0) ∨ ∃ r : ℝ, m = (r : EReal) ∧ a = ∑ i ∈ Finset.range c, ∑ j, v i j * Ideal.exp2 (z i j - (r : EReal))

theorem Held.start (z v : Nat → Fin w → EReal) : Held z v 0 ⊥ 0 := .inl ⟨rfl, rfl, rfl⟩

theorem Held.step {z v : Nat → Fin w → EReal} {c : Nat} {m a : EReal} (hw : 0 < w) (hz : ∀ i j, Is (z i j)) (h : Held z v c m a) :
    Held z v (c + 1) (mstep m (z c)) (astep m a (z c) (v c)) := by
  choose x hx using hz
  have hzc : z c = fun j => (x c j : EReal) := funext (hx c)
  obtain ⟨t, ht⟩ := top_real hw (x c)
  refine .inr ?_
  rcases h with ⟨rfl, rfl, rfl⟩ | ⟨r, rfl, rfl⟩
  · refine ⟨t, ?_, ?_⟩
    · unfold mstep
      rw [hzc, ht, max_eq_right bot_le]
    · unfold astep mstep
      rw [hzc, ht, max_eq_right bot_le, mul_zero, zero_add, zero_add, Finset.sum_range_one, hzc]
  · have hm : mstep (r : EReal) (z c) = ((max r t : ℝ) : EReal) := by
      unfold mstep
      rw [hzc, ht]
      exact EReal.coe_strictMono.monotone.map_max.symm
    refine ⟨max r t, hm, ?_⟩
    unfold astep
    rw [hm, Finset.sum_range_succ, ← EReal.coe_sub, exp2_real]
    refine congrArg (· + _) ?_
    have hp : (0 : ℝ) ≤ (2 : ℝ) ^ (r - max r t) := by positivity
    rw [mul_sum _ hp]
    refine Finset.sum_congr rfl fun i _ => ?_
    rw [mul_sum _ hp]
    refine Finset.sum_congr rfl fun j _ => ?_
    rw [hx, ← EReal.coe_sub, ← EReal.coe_sub, exp2_real, exp2_real, mul_left_comm, ← EReal.coe_mul,
      ← Real.rpow_add (by norm_num)]
    congr 3
    ring

/-- A row cut into chunks of 512. -/
def chunk (f : Fin 4096 → EReal) (i : Nat) (j : Fin 512) : EReal := f ⟨(i * 512 + j.val) % 4096, Nat.mod_lt _ (by decide)⟩

theorem chunk_at (f : Fin 4096 → EReal) (i : Nat) (j : Fin 512) (J : Fin 4096) (h : J.val = i * 512 + j.val) : chunk f i j = f J :=
  congrArg f (Fin.ext (by show (i * 512 + j.val) % 4096 = J.val; omega))

theorem sum_chunk (z v : Fin 4096 → EReal) (g : EReal → EReal) :
    ∑ i ∈ Finset.range 8, ∑ j, chunk v i j * g (chunk z i j) = ∑ J, v J * g (z J) := by
  rw [Finset.sum_range]
  refine Eq.trans ?_ (Fin.sum_mul_add_fin 8 512 fun J : Fin 4096 => v J * g (z J))
  refine Finset.sum_congr rfl fun i _ => Finset.sum_congr rfl fun j _ => ?_
  rw [chunk_at v i j ⟨i.val * 512 + j.val, by omega⟩ rfl, chunk_at z i j ⟨i.val * 512 + j.val, by omega⟩ rfl]

variable {d : Nat}

/-- What the chunks leave of a row of scores: its softmax-weighted sum, and its normaliser. -/
theorem held_row (z : Fin 4096 → EReal) (s : Fin 4096 → EReal) (hs : ∀ j, Is (s j)) (hz : ∀ j, z j = Ideal.div (s j) lg2) (v : Fin 4096 → EReal)
    (m a l : EReal) (ha : Held (chunk z) (chunk v) 8 m a) (hl : Held (chunk z) (chunk fun _ => 1) 8 m l) :
    Ideal.div a l = ∑ j, v j * pr s j ∧ m + Ideal.log l * (((Real.log 2)⁻¹ : ℝ) : EReal) = Ideal.div (top s + Ideal.log (den s)) lg2 := by
  choose x hx using hs
  obtain rfl : s = fun m => (x m : EReal) := funext hx
  obtain ⟨t, ht⟩ := top_real (by decide) x
  have hex (j : Fin 4096) : ex (fun m => (x m : EReal)) j = ((Real.exp (x j - t) : ℝ) : EReal) := by
    unfold ex
    rw [ht, ← EReal.coe_sub]
    exact Ideal.exp_coe _
  have hden : den (fun m => (x m : EReal)) = ((∑ m, Real.exp (x m - t) : ℝ) : EReal) := by
    unfold den
    rw [← coe_sum]
    exact Finset.sum_congr rfl fun m _ => hex m
  have hL : 0 < ∑ m, Real.exp (x m - t) := Finset.sum_pos (fun m _ => Real.exp_pos _) ⟨⟨0, by decide⟩, Finset.mem_univ _⟩
  set L : ℝ := ∑ m, Real.exp (x m - t) with hL'
  rcases ha with ⟨h8, -, -⟩ | ⟨r, rfl, rfl⟩
  · omega
  rcases hl with ⟨h8, -, -⟩ | ⟨r', hr, rfl⟩
  · omega
  obtain rfl : r = r' := EReal.coe_injective hr
  have hw (j : Fin 4096) : Ideal.exp2 (z j - (r : EReal)) = ((Real.exp (x j - t) * Real.exp (t - r * Real.log 2) : ℝ) : EReal) := by
    rw [hz, div_lg2, ← EReal.coe_sub, exp2_real, two_pow _ r t]
  rw [sum_chunk z v fun y => Ideal.exp2 (y - (r : EReal)), sum_chunk z (fun _ => 1) fun y => Ideal.exp2 (y - (r : EReal))]
  have hsum : ∑ j, (1 : EReal) * Ideal.exp2 (z j - (r : EReal)) = ((L * Real.exp (t - r * Real.log 2) : ℝ) : EReal) := by
    rw [hL', Finset.sum_mul, ← coe_sum]
    exact Finset.sum_congr rfl fun j _ => by rw [one_mul, hw]
  have hpos : 0 < L * Real.exp (t - r * Real.log 2) := mul_pos hL (Real.exp_pos _)
  rw [hsum]
  refine ⟨?_, ?_⟩
  · rw [Ideal.div_coe hpos.ne', mul_comm, mul_sum _ (one_div_pos.mpr hpos).le]
    refine Finset.sum_congr rfl fun j _ => ?_
    unfold pr
    rw [hw, hden, hex, Ideal.div_coe hL.ne', mul_left_comm, ← EReal.coe_mul, ← EReal.coe_mul, mul_comm (1 / _),
      cancel_right (Real.exp_pos _)]
  · rw [ht, hden, Ideal.log_coe, if_neg (not_le.mpr hpos), Ideal.log_coe, if_neg (not_le.mpr hL), ← EReal.coe_mul, ← EReal.coe_add,
      ← EReal.coe_add, div_lg2, Real.log_mul hL.ne' (Real.exp_pos _).ne', Real.log_exp, shift_log]

end Cert.Row
end
-- ==== Proof.FF.Chunk.lean ====
module
public import proofs.«01_k».proof.Proof.Gen.KernelFFIdeal.Value
public import proofs.«01_k».proof.Proof.F.Heads
public import proofs.«01_k».proof.Proof.FF.Online
@[expose] public section
set_option maxRecDepth 16384
noncomputable section
/-! What one chunk of keys adds in the flash attention. -/
namespace Cert.KernelFFIdeal.Chunk
open Cert.KernelFFIdeal Cert.KernelFFIdeal.Gen Idealize.ShloMosaic Idealize.ShloMosaic.TcCoe Idealize.SL.Sem
open Idealize.ShloMosaic.Pointwise
open Cert.Row (mstep astep chunk Held)
open Cert.KernelFIdeal.Tile (sc ld_rows)

theorem st_apply (q : Vec Ideal S2048x128 .bf16) (w : Vec Ideal S512x128 .bf16) (a : Fin 512) (y : Fin 2048) :
    k0_pay20 q w (ix3 0 a y) = ∑ d : Fin 128, w (ix2 a d) * q (ix2 y d) := by
  pointwise [k0_pay20]

theorem m_apply (m : FVec Ideal S1x2048 .f32) (s : Vec Ideal S1x512x2048 .f32) (y : Fin 2048) :
    k0_pay24 m s (ix2 0 y) = mstep (m (ix2 0 y)) fun a => s (ix3 0 a y) := by
  unfold mstep Row.top
  pointwise [k0_pay24, k0_pay23]
  rw [show Ideal.ofBits FTy.f32 4286578688#32 = ⊥ from by simp [Ideal.ofBits, Ideal.ieee]]

theorem m_apply' (m : FVec Ideal S1x2048 .f32) (s : Vec Ideal S1x512x2048 .f32) (y : Fin 2048) :
    k0_pay46 m s (ix2 0 y) = mstep (m (ix2 0 y)) fun a => s (ix3 0 a y) := m_apply m s y

theorem a_apply (m : FVec Ideal S1x2048 .f32) (c : FVec Ideal S128x2048 .f32) (s : Vec Ideal S1x512x2048 .f32) (v : Vec Ideal S128x512 .bf16)
    (d : Fin 128) (y : Fin 2048) :
    k0_pay47 m c s v (ix2 d y) = astep (m (ix2 0 y)) (c (ix2 d y)) (fun a => s (ix3 0 a y)) fun a => v (ix2 d a) := by
  unfold astep
  pointwise [k0_pay47, k0_pay45, m_apply']
  rfl

/-- A chunk of 512 columns at an entry. -/
theorem ld_cols (x : Vec Ideal S128x4096 .bf16) {o : Nat} (i) (d : Fin 128) (a : Fin 512) (j : Fin 4096) (hj : j.val = o + a.val) :
    View.ld x (Rect.unit (s := S128x4096) ![0, o] ![128, 512] i) (ix2 d a) = x (ix2 d j) := by
  refine View.ld_unit_apply_of x _ _ _ _ (ix2 d j) fun b => ?_
  match b with
  | 0 => exact (Nat.zero_add _).symm
  | 1 => exact hj

/-- The scores of a slotted row. -/
abbrev zr (k : Vec Ideal S4096x128 .bf16) (q : Vec Ideal S2048x128 .bf16) (y : Fin 2048) : Nat → Fin 512 → EReal := chunk fun j => sc k q j y
/-- A lane of the values. -/
abbrev vr (t : Vec Ideal S128x4096 .bf16) (d : Fin 128) : Nat → Fin 512 → EReal := chunk fun j => t (ix2 d j)

theorem step (k : Vec Ideal S4096x128 .bf16) (q : Vec Ideal S2048x128 .bf16) (t : Vec Ideal S128x4096 .bf16) (m : FVec Ideal S1x2048 .f32)
    (c : FVec Ideal S128x2048 .f32) (d : Fin 128) (y : Fin 2048) (hz : ∀ j, Real.Is (sc k q j y)) (n o : Nat) (ho : o = n * 512) (hn : n < 8) (i i')
    (h : Held (zr k q y) (vr t d) n (m (ix2 0 y)) (c (ix2 d y))) :
    Held (zr k q y) (vr t d) (n + 1)
      (k0_pay24 m (k0_pay20 q (View.ld k (Rect.unit (s := S4096x128) ![o, 0] ![512, 128] i))) (ix2 0 y))
      (k0_pay47 m c (k0_pay20 q (View.ld k (Rect.unit (s := S4096x128) ![o, 0] ![512, 128] i)))
        (View.ld t (Rect.unit (s := S128x4096) ![0, o] ![128, 512] i')) (ix2 d y)) := by
  have e1 : (fun a => k0_pay20 q (View.ld k (Rect.unit (s := S4096x128) ![o, 0] ![512, 128] i)) (ix3 0 a y)) = zr k q y n := funext fun a => by
    rw [st_apply, zr, Row.chunk_at _ n a ⟨n * 512 + a.val, by omega⟩ rfl]
    exact Finset.sum_congr rfl fun d _ => congrArg (· * _) (ld_rows k i a d _ (by show n * 512 + a.val = o + a.val; omega))
  have e2 : (fun a => View.ld t (Rect.unit (s := S128x4096) ![0, o] ![128, 512] i') (ix2 d a)) = vr t d n := funext fun a => by
    rw [vr, Row.chunk_at _ n a ⟨n * 512 + a.val, by omega⟩ rfl]
    exact ld_cols t i' d a _ (by show n * 512 + a.val = o + a.val; omega)
  rw [m_apply, a_apply, e1, e2]
  exact h.step (by decide) fun i j => hz _

/-- At the start nothing is held. -/
theorem start_m (y : Fin 2048) : (k0_pay18 : FVec Ideal S1x2048 .f32) (ix2 0 y) = ⊥ := by
  pointwise [k0_pay18]
  rfl
theorem start_a (d : Fin 128) (y : Fin 2048) : (k0_pay19 : FVec Ideal S128x2048 .f32) (ix2 d y) = 0 := by
  pointwise [k0_pay19]

end Cert.KernelFFIdeal.Chunk
end
-- ==== Proof.FF.Same.lean ====
module
public import proofs.«01_k».proof.Proof.FF.Chunk
@[expose] public section
set_option maxRecDepth 16384
noncomputable section
/-! The chunks' steps are written out one after another: each is the same step. -/
namespace Cert.KernelFFIdeal.Chunk
open Cert.KernelFFIdeal Cert.KernelFFIdeal.Gen Idealize.ShloMosaic Idealize.ShloMosaic.TcCoe Idealize.SL.Sem

variable (q : Vec Ideal S2048x128 .bf16) (w : Vec Ideal S512x128 .bf16) (m : FVec Ideal S1x2048 .f32) (a : FVec Ideal S128x2048 .f32)
  (s t u : Vec Ideal S1x512x2048 .f32) (v v' v'' : Vec Ideal S128x512 .bf16)

theorem same25 : k0_pay25 q w = k0_pay20 q w := rfl
theorem same31 : k0_pay31 q w = k0_pay20 q w := rfl
theorem same35 : k0_pay35 q w = k0_pay20 q w := rfl
theorem same39 : k0_pay39 q w = k0_pay20 q w := rfl
theorem same48 : k0_pay48 q w = k0_pay20 q w := rfl
theorem same22 : k0_pay22 (k0_pay21 q w) = k0_pay20 q w := rfl
theorem same44 : k0_pay44 (k0_pay43 q w) = k0_pay20 q w := rfl
theorem same33 : k0_pay33 m s = k0_pay24 m s := rfl
theorem same46 : k0_pay46 m s = k0_pay24 m s := rfl
theorem same27 : k0_pay27 m s t = k0_pay24 (k0_pay24 m s) t := rfl
theorem same41 : k0_pay41 m (k0_pay37 s) t = k0_pay24 (k0_pay24 m s) t := rfl
theorem same50 : k0_pay50 m s t = k0_pay24 (k0_pay24 m s) t := rfl
theorem same3 : k0_pay3 m s = k0_pay24 m s := shapeCast_self _ _
theorem same34 : k0_pay34 (k0_pay24 (k0_pay24 m s) t) (k0_pay28 m s t) (k0_pay29 m a s v t) (k0_pay30 v') u v''
    = k0_pay47 (k0_pay24 (k0_pay24 m s) t) (k0_pay47 (k0_pay24 m s) (k0_pay47 m a s v) t v') u v'' := rfl
theorem same42 : k0_pay42 m a (k0_pay36 s) (k0_pay37 s) v t v' = k0_pay47 (k0_pay24 m s) (k0_pay47 m a s v) t v' := rfl
theorem same4 : k0_pay4 a (k0_pay24 (k0_pay24 m s) t) (k0_pay51 m s t) (k0_pay52 m s t) v' u v''
    = k0_pay47 (k0_pay24 (k0_pay24 m s) t) (k0_pay47 (k0_pay24 m s) a t v') u v'' := shapeCast_self _ _

end Cert.KernelFFIdeal.Chunk
end
-- ==== Proof.FF.Words.lean ====
module
public import proofs.«01_k».proof.Proof.FF.Same
public import Idealize.ShloMosaic.Lib.Pipeline.ReadBack
@[expose] public section
set_option maxRecDepth 16384
noncomputable section
/-! What a block of the flash attention holds after all its chunks. -/
namespace Cert.KernelFFIdeal.Words
open Cert.KernelFFIdeal Cert.KernelFFIdeal.Gen Cert.KernelFFIdeal.Chunk Idealize.ShloMosaic Idealize.ShloMosaic.TcCoe Idealize.SL.Sem
open Idealize.ShloMosaic.Pointwise
open Cert.Row (Held)
open Cert.KernelFIdeal.Tile (sc slot slot_cases lane_lt ext2 sel_one sel_zero ld_whole)
open Cert.KernelFIdeal.Block (slotM)

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S512x256 .bf16} {harg6 : arg6.IsWhole} {arg7 : Memref sig .tc .vmem S8x2048 .f32} {harg7 : arg7.IsWhole} {arg8 : Memref sig .tc .vmem S2048x128 .bf16} {harg8 : arg8.IsWhole} {arg9 : Memref sig .tc .vmem S1x2048 .f32} {harg9 : arg9.IsWhole} {arg10 : Memref sig .tc .vmem S128x2048 .f32} {harg10 : arg10.IsWhole} {arg11 : Memref sig .tc .vmem S2x512x2048 .f32} {harg11 : arg11.IsWhole} {hc0 : cond0_0 i} {hc1 : cond0_1 i} {x0 : Vec Ideal S512x256 .bf16} {x1 : Vec Ideal S4096x128 .bf16} {x2 : Vec Ideal S128x4096 .bf16}

/-- Whether a point's heads use the lower lanes. -/
abbrev par (i : grid0.Coords) : BitVec 1 := kernelRun0_A.sl.v10 i

theorem load_q : kernelRun0_A.sl.v211 c arg3 harg3 x0 = x0 := by
  unfold kernelRun0_A.sl.v211
  simp only [View.readAt_eq_ld, Memref.IsWhole.read_unread]
  exact (shapeCast_self _ _).trans (ld_whole x0 _)

theorem mask : kernelRun0_A.sl.v239 i = Cert.KernelFIdeal.Gen.k0_pay5 (par i) := rfl

theorem q_at (y : Fin 2048) (d : Fin 128) : kernelRun0_A.sl.v14 c i arg3 harg3 arg8 x0 (ix2 y d) = slot (par i) x0 y d := by
  unfold kernelRun0_A.sl.v14 kernelRun0_A.sl.HS0_1
  simp only [↓View.readCov_cons_toLoadRect]
  pointwise [k0_pay17, kernelRun0_A.sl.v240, kernelRun0_A.sl.v241, kernelRun0_A.sl.v242, kernelRun0_A.sl.v243, kernelRun0_A.sl.v244, kernelRun0_A.sl.v245, kernelRun0_A.sl.v246, kernelRun0_A.sl.v248, kernelRun0_A.sl.v249, kernelRun0_A.sl.v250, kernelRun0_A.sl.v251, kernelRun0_A.sl.v252, load_q, mask, Cert.KernelFIdeal.Tile.mask_apply, kernelRun0_A.sl.cst_123]
  exact slot_cases _ x0 y d

theorem held (q : Vec Ideal S2048x128 .bf16) (hq : kernelRun0_A.sl.v14 c i arg3 harg3 arg8 x0 = q) (d : Fin 128) (y : Fin 2048) (hz : ∀ j, Real.Is (sc x1 q j y)) :
    Held (zr x1 q y) (vr x2 d) 8 (kernelRun0_A.sl.v237_1 c i arg3 harg3 arg4 harg4 arg8 arg9 arg11 x0 x1 (ix2 0 y))
      (kernelRun0_A.sl.v210 c i arg3 harg3 arg4 harg4 arg5 harg5 arg8 arg9 arg10 arg11 x0 x1 x2 (ix2 d y)) := by
  unfold kernelRun0_A.sl.v237_1 kernelRun0_A.sl.v210
  simp (disch := decide) only [↓View.readCov_skip, ↓View.readCov_cons_toLoadRect, View.readAt_eq_ld, Memref.IsWhole.read_unread, hq, kernelRun0_A.sl.HS2_2, kernelRun0_A.sl.HS1_2, kernelRun0_A.sl.HS1_1, kernelRun0_A.sl.HS2_1, kernelRun0_A.sl.r_12, kernelRun0_A.sl.r_9, kernelRun0_A.sl.r_5, kernelRun0_A.sl.r_1, kernelRun0_A.sl.v15, kernelRun0_A.sl.v29, kernelRun0_A.sl.HS3_2, kernelRun0_A.sl.r, kernelRun0_A.sl.v52, kernelRun0_A.sl.HS3_3, kernelRun0_A.sl.v75, kernelRun0_A.sl.HS3_4, kernelRun0_A.sl.r_8, kernelRun0_A.sl.v98, kernelRun0_A.sl.HS3_5, kernelRun0_A.sl.v121, kernelRun0_A.sl.HS3_6, kernelRun0_A.sl.r_10, kernelRun0_A.sl.r_6, kernelRun0_A.sl.r_2, kernelRun0_A.sl.r_3, kernelRun0_A.sl.v16, kernelRun0_A.sl.r_4, kernelRun0_A.sl.r_7, kernelRun0_A.sl.v144, kernelRun0_A.sl.HS3_7, kernelRun0_A.sl.r_11, kernelRun0_A.sl.r_13, kernelRun0_A.sl.v167, kernelRun0_A.sl.HS3_8, kernelRun0_A.sl.r_14, kernelRun0_A.sl.r_15, kernelRun0_A.sl.v184,
    same25, same31, same35, same39, same48, same22, same44, same33, same46, same27, same41, same50, same3, same34, same42, same4]
  have h0 : Held (zr x1 q y) (vr x2 d) 0 ((k0_pay18 : FVec Ideal S1x2048 .f32) (ix2 0 y)) ((k0_pay19 : FVec Ideal S128x2048 .f32) (ix2 d y)) := by
    rw [start_m, start_a]
    exact Held.start _ _
  refine step x1 q x2 _ _ d y hz 7 3584 rfl (by decide) _ _ ?_
  refine step x1 q x2 _ _ d y hz 6 3072 rfl (by decide) _ _ ?_
  refine step x1 q x2 _ _ d y hz 5 2560 rfl (by decide) _ _ ?_
  refine step x1 q x2 _ _ d y hz 4 2048 rfl (by decide) _ _ ?_
  refine step x1 q x2 _ _ d y hz 3 1536 rfl (by decide) _ _ ?_
  refine step x1 q x2 _ _ d y hz 2 1024 rfl (by decide) _ _ ?_
  refine step x1 q x2 _ _ d y hz 1 512 rfl (by decide) _ _ ?_
  refine step x1 q x2 _ _ d y hz 0 0 rfl (by decide) _ _ ?_
  exact h0

end Cert.KernelFFIdeal.Words
end
-- ==== Proof.FF.Outs.lean ====
module
public import proofs.«01_k».proof.Proof.FF.Words
@[expose] public section
set_option maxRecDepth 16384
noncomputable section
/-! What a block of the flash attention writes. -/
namespace Cert.KernelFFIdeal.Words
open Cert.KernelFFIdeal Cert.KernelFFIdeal.Gen Cert.KernelFFIdeal.Chunk Idealize.ShloMosaic Idealize.ShloMosaic.TcCoe Idealize.SL.Sem
open Idealize.ShloMosaic.Pointwise
open Cert.Row (Held)
open Cert.KernelFIdeal.Tile (sc slot lane_lt ext2 sel_one sel_zero)
open Cert.KernelFIdeal.Block (slotM lane)

/-- The lane that holds a lane's sum of weights. -/
def other (p : BitVec 1) (e : Fin 64) : Fin 128 := ⟨((lane p e).val + 128 - 64) % 128, Nat.mod_lt _ (by decide)⟩

/-- The weighted values over the weights' sums. -/
def quot (x : Vec Ideal S128x2048 .f32) : FVec Ideal S2048x128 .f32 :=
  divf (transpose S2048x128 [1, 0] x transposes_S128x2048_p1_0_S2048x128)
    (dynamicRotate 1 64#32 none (transpose S2048x128 [1, 0] x transposes_S128x2048_p1_0_S2048x128 : FVec Ideal S2048x128 .f32) rotates_S2048x128_d1)

/-- The heads put beside each other again. -/
def beside (p : BitVec 1) (g : FVec Ideal S2048x128 .f32) : FVec Ideal S512x256 .f32 :=
  have low : IVec S512x128 1 := cmpi .slt (iota .tc S512x128 32 [1] iota_S512x128_d1_w32) (broadcast S512x128 64#32)
  have a : FVec Ideal S512x128 .f32 := extractStridedSlice S512x128 ![0, 0] g slices_S2048x128_o0_0_S512x128
  have b : FVec Ideal S512x128 .f32 := extractStridedSlice S512x128 ![512, 0] g slices_S2048x128_o512_0_S512x128
  have ab : FVec Ideal S512x128 .f32 := select low (Scalar.select p a (dynamicRotate 1 64#32 none a rotates_S512x128_d1)) (Scalar.select p (dynamicRotate 1 64#32 none b rotates_S512x128_d1) b)
  have c : FVec Ideal S512x128 .f32 := extractStridedSlice S512x128 ![1024, 0] g slices_S2048x128_o1024_0_S512x128
  have d : FVec Ideal S512x128 .f32 := extractStridedSlice S512x128 ![1536, 0] g slices_S2048x128_o1536_0_S512x128
  have cd : FVec Ideal S512x128 .f32 := select low (Scalar.select p c (dynamicRotate 1 64#32 none c rotates_S512x128_d1)) (Scalar.select p (dynamicRotate 1 64#32 none d rotates_S512x128_d1) d)
  concatenate S512x256 1 [⟨S512x128, ab⟩, ⟨S512x128, cd⟩] concatenates_S512x128_S512x128_S512x256_d1

theorem quot_apply (x : Vec Ideal S128x2048 .f32) (y : Fin 2048) (d : Fin 128) :
    quot x (ix2 y d) = Ideal.div (x (ix2 d y)) (x (ix2 ⟨(d.val + 128 - 64) % 128, Nat.mod_lt _ (by decide)⟩ y)) := by
  pointwise [quot]

theorem beside_apply (p : BitVec 1) (x : FVec Ideal S2048x128 .f32) (t : Fin 512) (u : Fin 256) :
    beside p x (ix2 t u) = x (ix2 ⟨512 * (u.val / 64) + t.val, by omega⟩ (lane p ⟨u.val % 64, by omega⟩)) := by
  unfold lane
  pointwise [beside]
  have hc := u.isLt
  by_cases h : u.val < 128
  · rw [dif_pos h, show IntOp.cmpi CmpIPredicate.slt (BitVec.ofNat 32 u.val) 64#32 = _ from lane_lt ⟨u.val, h⟩]
    rcases BitVec.eq_zero_or_eq_one p with rfl | rfl <;> by_cases hl : u.val < 64 <;>
      simp only [hl, sel_one, sel_zero, if_true, if_false] <;> refine ext2 x ?_ ?_ <;> simp <;> omega
  · rw [dif_neg h, show IntOp.cmpi CmpIPredicate.slt (BitVec.ofNat 32 (u.val - 128)) 64#32 = _ from lane_lt ⟨u.val - 128, by omega⟩]
    rcases BitVec.eq_zero_or_eq_one p with rfl | rfl <;> by_cases hl : u.val - 128 < 64 <;>
      simp only [hl, sel_one, sel_zero, if_true, if_false] <;> refine ext2 x ?_ ?_ <;> simp <;> omega

theorem o_apply (p : BitVec 1) (x : Vec Ideal S128x2048 .f32) (t : Fin 512) (u : Fin 256) :
    k0_pay5 p x (ix2 t u) = Ideal.div (x (ix2 (lane p ⟨u.val % 64, by omega⟩) ⟨512 * (u.val / 64) + t.val, by omega⟩))
      (x (ix2 (other p ⟨u.val % 64, by omega⟩) ⟨512 * (u.val / 64) + t.val, by omega⟩)) :=
  (beside_apply p (quot x) t u).trans (quot_apply x _ _)

theorem lse_apply (p : BitVec 1) (x : Vec Ideal S128x2048 .f32) (m : Vec Ideal S1x2048 .f32) (r : Fin 8) (y : Fin 2048) :
    k0_pay6 p x m (ix2 r y) = m (ix2 0 y) + Ideal.log (x (ix2 (other p 0) y)) * (((Real.log 2)⁻¹ : ℝ) : EReal) := by
  unfold other lane
  pointwise [k0_pay6]
  rcases BitVec.eq_zero_or_eq_one p with rfl | rfl <;> rfl

variable {c : Dev nD} {i : grid0.Coords} {arg3 : Memref sig .tc .vmem S512x256 .bf16} {harg3 : arg3.IsWhole} {arg4 : Memref sig .tc .vmem S4096x128 .bf16} {harg4 : arg4.IsWhole} {arg5 : Memref sig .tc .vmem S128x4096 .bf16} {harg5 : arg5.IsWhole} {arg6 : Memref sig .tc .vmem S512x256 .bf16} {harg6 : arg6.IsWhole} {arg7 : Memref sig .tc .vmem S8x2048 .f32} {harg7 : arg7.IsWhole} {arg8 : Memref sig .tc .vmem S2048x128 .bf16} {harg8 : arg8.IsWhole} {arg9 : Memref sig .tc .vmem S1x2048 .f32} {harg9 : arg9.IsWhole} {arg10 : Memref sig .tc .vmem S128x2048 .f32} {harg10 : arg10.IsWhole} {arg11 : Memref sig .tc .vmem S2x512x2048 .f32} {harg11 : arg11.IsWhole} {hc0 : cond0_0 i} {hc1 : cond0_1 i} {x0 : Vec Ideal S512x256 .bf16} {x1 : Vec Ideal S4096x128 .bf16} {x2 : Vec Ideal S128x4096 .bf16}

theorem q_eq : kernelRun0_A.sl.v14 c i arg3 harg3 arg8 x0 = slotM (par i) x0 :=
  funext fun j => by
    obtain ⟨y, d, rfl⟩ : ∃ (y : Fin 2048) (d : Fin 128), j = ix2 y d := ⟨j 0, j 1, eq_ix2 j⟩
    exact q_at y d

/-- A row of a block after all chunks: the weighted values over the weights' sum, and the row's normaliser. -/
theorem row (y : Fin 2048) (s : Fin 4096 → EReal) (hs : ∀ j, Real.Is (s j)) (hz : ∀ j, sc x1 (slotM (par i) x0) j y = Ideal.div (s j) Row.lg2)
    (e : Fin 64) (h1 : ∀ j, x2 (ix2 (other (par i) e) j) = 1) :
    Ideal.div (kernelRun0_A.sl.v210 c i arg3 harg3 arg4 harg4 arg5 harg5 arg8 arg9 arg10 arg11 x0 x1 x2 (ix2 (lane (par i) e) y))
        (kernelRun0_A.sl.v210 c i arg3 harg3 arg4 harg4 arg5 harg5 arg8 arg9 arg10 arg11 x0 x1 x2 (ix2 (other (par i) e) y))
        = ∑ j, x2 (ix2 (lane (par i) e) j) * Row.pr s j
    ∧ kernelRun0_A.sl.v237_1 c i arg3 harg3 arg4 harg4 arg8 arg9 arg11 x0 x1 (ix2 0 y)
        + Ideal.log (kernelRun0_A.sl.v210 c i arg3 harg3 arg4 harg4 arg5 harg5 arg8 arg9 arg10 arg11 x0 x1 x2 (ix2 (other (par i) e) y)) * (((Real.log 2)⁻¹ : ℝ) : EReal)
        = Ideal.div (Row.top s + Ideal.log (Row.den s)) Row.lg2 := by
  have hr (j) : Real.Is (sc x1 (slotM (par i) x0) j y) := by
    obtain ⟨a, ha⟩ := hs j
    exact ⟨_, (hz j).trans ((congrArg (Ideal.div · Row.lg2) ha).trans (Row.div_lg2 a))⟩
  have hl := held (c := c) (harg3 := harg3) (harg4 := harg4) (harg5 := harg5) (arg8 := arg8) (arg9 := arg9) (arg10 := arg10) (arg11 := arg11) (x2 := x2) _ q_eq (other (par i) e) y hr
  rw [vr, show (fun j => x2 (ix2 (other (par i) e) j)) = fun _ => 1 from funext h1] at hl
  exact Row.held_row _ s hs hz _ _ _ _ (held _ q_eq (lane (par i) e) y hr) hl

theorem out3 (t : Fin 512) (u : Fin 256) :
    out0_A_3 c i arg3 harg3 arg4 harg4 arg5 harg5 arg6 harg6 arg7 harg7 arg8 harg8 arg9 harg9 arg10 harg10 arg11 harg11 hc0 hc1 x0 x1 x2 (ix2 t u)
      = k0_pay5 (par i) (kernelRun0_A.sl.v210 c i arg3 harg3 arg4 harg4 arg5 harg5 arg8 arg9 arg10 arg11 x0 x1 x2) (ix2 t u) := by
  unfold out0_A_3 kernelRun0_A
  dsimp only
  rw [View.read_writes_junk_eq_canon]
  exact congrFun (View.canon_cons_unit_lit _ _ _ (by decide)) _

theorem out4 (r : Fin 8) (y : Fin 2048) :
    out0_A_4 c i arg3 harg3 arg4 harg4 arg5 harg5 arg6 harg6 arg7 harg7 arg8 harg8 arg9 harg9 arg10 harg10 arg11 harg11 hc0 hc1 x0 x1 x2 (ix2 r y)
      = k0_pay6 (par i) (kernelRun0_A.sl.v210 c i arg3 harg3 arg4 harg4 arg5 harg5 arg8 arg9 arg10 arg11 x0 x1 x2)
          (kernelRun0_A.sl.v237_1 c i arg3 harg3 arg4 harg4 arg8 arg9 arg11 x0 x1) (ix2 r y) := by
  unfold out0_A_4 kernelRun0_A
  dsimp only
  rw [View.read_writes_junk_eq_canon]
  exact congrFun (View.canon_cons_unit_lit _ _ _ (by decide)) _

end Cert.KernelFFIdeal.Words
end
-- ==== Proof.FF.Host.lean ====
module
public import proofs.«01_k».proof.Proof.FF.Outs
public import proofs.«01_k».proof.Proof.F.Host
@[expose] public section
set_option maxRecDepth 16384
noncomputable section
/-! What the flash attention receives, and its blocks as parts of it. -/
namespace Cert.KernelFFIdeal.Arrays
open Cert.KernelFFIdeal Cert.KernelFFIdeal.Gen Cert.KernelFFIdeal.Words Idealize.ShloMosaic Idealize.ShloMosaic.TcCoe Idealize.SL.Sem
open Idealize.ShloMosaic.Pointwise
open Cert.KernelFIdeal.Tile (sc)
open Cert.KernelFIdeal.Block (slotM lane qrow qcol sc_slot)
open Cert.KernelFIdeal.Arrays (colq colk hd qr)

variable (m : (ℓ : Loc nD τ sig) → Buf (Elt Ideal) ℓ) (c : Dev nD)

/-- The queries. -/
abbrev x0 : FVec Ideal S4096x1024 .f32 := m ((c : Thread nD τ).loc main_arg0)
/-- The keys. -/
abbrev x1 : FVec Ideal S4096x256 .f32 := m ((c : Thread nD τ).loc main_arg1)
/-- The values. -/
abbrev x2 : FVec Ideal S4096x256 .f32 := m ((c : Thread nD τ).loc main_arg2)
/-- The scaled queries. -/
abbrev Q : FVec Ideal S4096x1024 .bf16 := V m c main_v12
/-- The keys, as the kernel reads them. -/
abbrev K : FVec Ideal S4096x256 .bf16 := V m c main_v13
/-- The values, transposed, with ones beside them. -/
abbrev VT : FVec Ideal S512x4096 .bf16 := V m c main_v14

theorem Q_at (s : Fin 4096) (q : Fin 1024) : Q m c (ix2 s q) = Ideal.div (x0 m c (ix2 s q)) Row.lg2 := by
  show V m c main_v12 (ix2 s q) = _
  entry_read
  pointwise
theorem K_at (s : Fin 4096) (q : Fin 256) : K m c (ix2 s q) = x1 m c (ix2 s q) := by
  show V m c main_v13 (ix2 s q) = _
  entry_read
  pointwise
/-- The transposed values, a head's after the other. -/
def heads (x : FVec Ideal S4096x256 .f32) : FVec Ideal S2x2x64x4096 .f32 :=
  shapeCast _ (transpose S256x4096 [1, 0] x transposes_S4096x256_S256x4096_1_0) shapeCasts_S256x4096_S2x2x64x4096
/-- Ones. -/
def ones : FVec Ideal S2x1x64x4096 .f32 := broadcastInDim S2x1x64x4096 ![] bcast_S_S2x1x64x4096 (constant S_ .f32 0x3F800000#32)
/-- The even heads and ones after them. -/
def even (t : FVec Ideal S2x2x64x4096 .f32) : FVec Ideal S2x2x64x4096 .f32 := concatenate S2x2x64x4096 1
  [⟨S2x1x64x4096, extractStridedSlice S2x1x64x4096 ![0, 0, 0, 0] t slices_S2x2x64x4096_S2x1x64x4096_0_0_0_0⟩, ⟨S2x1x64x4096, ones⟩] concatenates_S2x1x64x4096_S2x1x64x4096_S2x2x64x4096_d1
/-- Ones and the odd heads after them. -/
def odd (t : FVec Ideal S2x2x64x4096 .f32) : FVec Ideal S2x2x64x4096 .f32 := concatenate S2x2x64x4096 1
  [⟨S2x1x64x4096, ones⟩, ⟨S2x1x64x4096, extractStridedSlice S2x1x64x4096 ![0, 1, 0, 0] t slices_S2x2x64x4096_S2x1x64x4096_0_1_0_0⟩] concatenates_S2x1x64x4096_S2x1x64x4096_S2x2x64x4096_d1
/-- Both. -/
def both (a b : FVec Ideal S2x2x64x4096 .f32) : FVec Ideal S512x4096 .bf16 := truncf .bf16 (shapeCast _ (concatenate S2x4x64x4096 1
  [⟨S2x2x64x4096, a⟩, ⟨S2x2x64x4096, b⟩] concatenates_S2x2x64x4096_S2x2x64x4096_S2x4x64x4096_d1) shapeCasts_S2x4x64x4096_S512x4096) bitsLt_bf16_f32

theorem heads_apply (x : FVec Ideal S4096x256 .f32) (i w : Fin 2) (e : Fin 64) (j : Fin 4096) :
    heads x (ix4 i w e j) = x (ix2 j ⟨64 * (2 * i.val + w.val) + e.val, by omega⟩) := by
  pointwise [heads]
  congr 2
  exact Fin.ext (by show i.val * 128 + w.val * 64 + e.val = 64 * (2 * i.val + w.val) + e.val; omega)

theorem ones_apply (i : Fin 2) (w : Fin 1) (e : Fin 64) (j : Fin 4096) : ones (ix4 i w e j) = 1 := by
  pointwise [ones]

theorem even_apply (t : FVec Ideal S2x2x64x4096 .f32) (i w : Fin 2) (e : Fin 64) (j : Fin 4096) :
    even t (ix4 i w e j) = if w.val = 0 then t (ix4 i 0 e j) else 1 := by
  pointwise [even, ones_apply]
  by_cases h : w.val = 0
  · rw [dif_pos (by omega), if_pos h, show w = 0 from Fin.ext h]
  · rw [dif_neg (by omega), if_neg h]

theorem odd_apply (t : FVec Ideal S2x2x64x4096 .f32) (i w : Fin 2) (e : Fin 64) (j : Fin 4096) :
    odd t (ix4 i w e j) = if w.val = 0 then 1 else t (ix4 i 1 e j) := by
  pointwise [odd, ones_apply]
  by_cases h : w.val = 0
  · rw [dif_pos (by omega), if_pos h]
  · rw [dif_neg (by omega), if_neg h]
    congr 2
    exact Fin.ext (by show 1 + (w.val - 1) = 1; omega)

theorem both_apply (a b : FVec Ideal S2x2x64x4096 .f32) (r : Fin 512) (j : Fin 4096) :
    both a b (ix2 r j) = if h : r.val / 64 % 4 < 2
      then a (ix4 ⟨r.val / 256, by omega⟩ ⟨r.val / 64 % 4, by omega⟩ ⟨r.val % 64, by omega⟩ j)
      else b (ix4 ⟨r.val / 256, by omega⟩ ⟨r.val / 64 % 4 - 2, by omega⟩ ⟨r.val % 64, by omega⟩ j) := by
  pointwise [both]

theorem VT_eq (r : Fin 512) (j : Fin 4096) : VT m c (ix2 r j) = both (even (heads (x2 m c))) (odd (heads (x2 m c))) (ix2 r j) := by
  show V m c main_v14 (ix2 r j) = _
  entry_read
  rfl

theorem VT_one (r : Fin 512) (j : Fin 4096) (h : r.val / 64 % 2 ≠ r.val / 128 % 2) : VT m c (ix2 r j) = (1 : EReal) := by
  rw [VT_eq, both_apply]
  by_cases hw : r.val / 64 % 4 < 2
  · rw [dif_pos hw, even_apply, if_neg (by show ¬ r.val / 64 % 4 = 0; omega)]
  · rw [dif_neg hw, odd_apply, if_pos (by show r.val / 64 % 4 - 2 = 0; omega)]

theorem VT_some (r : Fin 512) (j : Fin 4096) (h : r.val / 64 % 2 = r.val / 128 % 2) :
    VT m c (ix2 r j) = x2 m c (ix2 j ⟨64 * (r.val / 128) + r.val % 64, by omega⟩) := by
  rw [VT_eq, both_apply]
  by_cases hw : r.val / 64 % 4 < 2
  · rw [dif_pos hw, even_apply, if_pos (by show r.val / 64 % 4 = 0; omega), heads_apply]
    exact congrArg (x2 m c) (congrArg (ix2 j) (Fin.ext (by show 64 * (2 * (r.val / 256) + 0) + r.val % 64 = 64 * (r.val / 128) + r.val % 64; omega)))
  · rw [dif_neg hw, odd_apply, if_neg (by show ¬ r.val / 64 % 4 - 2 = 0; omega), heads_apply]
    exact congrArg (x2 m c) (congrArg (ix2 j) (Fin.ext (by show 64 * (2 * (r.val / 256) + 1) + r.val % 64 = 64 * (r.val / 128) + r.val % 64; omega)))

theorem idx0 : ∀ t : Fin cfg0.N, win0_0.index t 0 = t.val % 8 ∧ win0_0.index t 1 = t.val / 8 ∧ win0_1.index t 0 = 0 ∧ win0_1.index t 1 = t.val / 16
    ∧ win0_2.index t 0 = t.val / 8 ∧ win0_2.index t 1 = 0 ∧ win0_3.index t 0 = t.val % 8 ∧ win0_3.index t 1 = t.val / 8
    ∧ win0_4.index t 0 = t.val ∧ win0_4.index t 1 = 0 :=
  (by decide +kernel : ∀ t : Fin grid0.N, _)

theorem par_eq : ∀ t : Fin cfg0.N, par (grid0.coords t) = if t.val / 8 % 2 = 0 then 1#1 else 0#1 :=
  (by decide +kernel : ∀ t : Fin grid0.N, _)

/-- The group a point computes. -/
def gr (t : Fin cfg0.N) : Fin 4 := ⟨t.val / 8, by have := t.isLt; have : cfg0.N = 32 := N_0; omega⟩
/-- The block of queries a point computes. -/
def qi (t : Fin cfg0.N) : Fin 8 := ⟨t.val % 8, by omega⟩

theorem at0 (t : Fin cfg0.N) (y : Fin 2048) (e : Fin 64) :
    iblk m c 0 t (ix2 (qrow y) (qcol y e)) = Q m c (ix2 (qr (qi t) y) (colq (hd (gr t) y) e)) := by
  simp only [qrow, qcol, qr, qi, colq, hd, gr]
  blk_ext [iblk, idx0 t]

theorem lane_eq (t : Fin cfg0.N) (e : Fin 64) : t.val / 16 * 128 + (lane (par (grid0.coords t)) e).val = 64 * (t.val / 8) + e.val := by
  unfold lane
  rw [par_eq]
  show t.val / 16 * 128 + (e.val + _) = _
  split_ifs <;> first | omega | simp_all

theorem at1 (t : Fin cfg0.N) (j : Fin 4096) (y : Fin 2048) (e : Fin 64) :
    iblk m c 1 t (ix2 j (lane (par (grid0.coords t)) e)) = K m c (ix2 j (colk (hd (gr t) y) e)) := by
  have h := lane_eq t e
  have hk : (colk (hd (gr t) y) e).val = 64 * (t.val / 8) + e.val := by simp only [colk, hd, gr]; omega
  blk_ext [iblk, idx0 t]

theorem at2 (t : Fin cfg0.N) (d : Fin 128) (j : Fin 4096) :
    iblk m c 2 t (ix2 d j) = VT m c (ix2 ⟨t.val / 8 * 128 + d.val, by have := t.isLt; have : cfg0.N = 32 := N_0; omega⟩ j) := by
  blk_ext [iblk, idx0 t]

theorem at2_lane (t : Fin cfg0.N) (e : Fin 64) (j : Fin 4096) (y : Fin 2048) :
    iblk m c 2 t (ix2 (lane (par (grid0.coords t)) e) j) = x2 m c (ix2 j (colk (hd (gr t) y) e)) := by
  rw [at2, VT_some]
  · refine congrArg (x2 m c) (congrArg (ix2 j) (Fin.ext ?_))
    simp only [lane, par_eq, colk, hd, gr]
    split_ifs <;> omega
  · simp only [lane, par_eq]
    split_ifs <;> first | omega | simp_all

theorem at2_other (t : Fin cfg0.N) (e : Fin 64) (j : Fin 4096) :
    iblk m c 2 t (ix2 (other (par (grid0.coords t)) e) j) = (1 : EReal) := by
  rw [at2]
  refine VT_one m c _ _ ?_
  simp only [other, lane, par_eq]
  split_ifs <;> first | omega | simp_all

end Cert.KernelFFIdeal.Arrays
end
-- ==== Proof.FF.Final.lean ====
module
public import proofs.«01_k».proof.Defs
public import proofs.«01_k».proof.Proof.FF.Host
public import proofs.«01_k».proof.Proof.F.Equation
@[expose] public section
set_option maxRecDepth 16384
noncomputable section
/-! What the flash attention's arrays hold after the run. -/
namespace Cert.KernelFFIdeal.Arrays
open Cert.KernelFFIdeal Cert.KernelFFIdeal.Gen Cert.KernelFFIdeal.Words Idealize.ShloMosaic Idealize.ShloMosaic.TcCoe Idealize.SL.Sem
open Idealize.ShloMosaic.Pointwise
open Idealize.ShloMosaic.Pipeline (Dat)
open Cert.KernelFIdeal.Tile (sc)
open Cert.KernelFIdeal.Block (slotM lane qrow qcol sc_slot)
open Cert.KernelFIdeal.Arrays (colq colk hd qr yrow)
open Cert.ReferenceFIdeal.Arrays (qc kc score)

variable (m : (ℓ : Loc nD τ sig) → Buf (Elt Ideal) ℓ) (c : Dev nD)

/-- The scale leaves a sum of products. -/
theorem scale {d : Nat} (f q : Fin d → EReal) (hf : ∀ y, Real.Is (f y)) (hq : ∀ y, Real.Is (q y)) :
    ∑ y, f y * Ideal.div (q y) Row.lg2 = Ideal.div (∑ y, f y * q y) Row.lg2 := by
  choose f' hf' using hf
  choose q' hq' using hq
  simp only [hf', hq', Row.div_lg2, ← EReal.coe_mul, Row.coe_sum]
  refine congrArg _ ?_
  rw [Finset.sum_mul]
  exact Finset.sum_congr rfl fun y _ => by ring

/-- The precondition makes the queries and the keys real. -/
theorem real_args [Pre_finite_ff.Facts] (h : Pre_KernelFFIdeal_finite_ff m) : (∀ j, Real.Is (x0 m c j)) ∧ ∀ j, Real.Is (x1 m c j) :=
  ⟨fun j => Real.of_abs_lt (congrFun (h c).1 j), fun j => Real.of_abs_lt (congrFun (h c).2 j)⟩

/-- A query's scores. -/
abbrev sr (k g : Fin 4) (s : Fin 4096) : Fin 4096 → EReal := score (x0 m c) (x1 m c) k g s

theorem sr_real [Pre_finite_ff.Facts] (h : Pre_KernelFFIdeal_finite_ff m) (k g : Fin 4) (s j : Fin 4096) : Real.Is (sr m c k g s j) :=
  Real.Is.sum _ fun _ => ((real_args m c h).2 _).mul ((real_args m c h).1 _)

/-- A block row's head, in its group. -/
def gy (y : Fin 2048) : Fin 4 := ⟨y.val / 512, by omega⟩

theorem sc_eq [Pre_finite_ff.Facts] (h : Pre_KernelFFIdeal_finite_ff m) (t : Fin cfg0.N) (y : Fin 2048) (j : Fin 4096) :
    sc (iblk m c 1 t) (slotM (par (grid0.coords t)) (iblk m c 0 t)) j y = Ideal.div (sr m c (gr t) (gy y) (qr (qi t) y) j) Row.lg2 := by
  refine (sc_slot _ (iblk m c 1 t) (iblk m c 0 t) j y).trans (Eq.trans (Finset.sum_congr rfl fun e _ => ?_)
    (scale (fun e => x1 m c (ix2 j (kc (gr t) e))) (fun e => x0 m c (ix2 (qr (qi t) y) (qc (gr t) (gy y) e))) (fun _ => (real_args m c h).2 _) fun _ => (real_args m c h).1 _))
  rw [at1 m c t j y, at0, K_at, Q_at]
  refine congrArg₂ (· * ·) (congrArg (x1 m c) (congrArg (ix2 j) (Fin.ext ?_))) (congrArg (Ideal.div · Row.lg2) (congrArg (x0 m c) (congrArg (ix2 _) (Fin.ext ?_))))
  · simp only [colk, hd, kc]; omega
  · simp only [colq, hd, qc, gy]; omega

/-- The attention's result. -/
def go : FVec Ideal S4096x1024 .bf16 := fun i =>
  ∑ j : Fin 4096, x2 m c (ix2 j ⟨(i 1).val / 256 * 64 + (i 1).val % 64, by have : (i 1).val < 1024 := (i 1).isLt; omega⟩)
    * Row.pr (sr m c ⟨(i 1).val / 256, by have : (i 1).val < 1024 := (i 1).isLt; omega⟩ ⟨(i 1).val / 64 % 4, by omega⟩ (i 0)) j
/-- The rows' normalisers. -/
def gl : FVec Ideal S256x2048 .f32 := fun i =>
  have s := sr m c ⟨(i 0).val / 8 / 8, by have : (i 0).val < 256 := (i 0).isLt; omega⟩ ⟨(i 1).val / 512, by have : (i 1).val < 2048 := (i 1).isLt; omega⟩
    ⟨(i 0).val / 8 % 8 * 512 + (i 1).val % 512, by omega⟩
  Ideal.div (Row.top s + Ideal.log (Row.den s)) Row.lg2

theorem go_at (k g : Fin 4) (e : Fin 64) (s : Fin 4096) (q : Fin 1024) (r : Fin 4096) (d : Fin 256) (hk : q.val / 256 = k.val) (hg : q.val / 64 % 4 = g.val)
    (hr : r.val = s.val) (hd : d.val = q.val / 256 * 64 + q.val % 64) :
    ∑ j : Fin 4096, x2 m c (ix2 j d) * Row.pr (sr m c k g r) j = go m c (ix2 s q) := by
  obtain rfl : k = ⟨q.val / 256, by clear * -; omega⟩ := Fin.ext hk.symm
  obtain rfl : g = ⟨q.val / 64 % 4, by clear * -; omega⟩ := Fin.ext hg.symm
  obtain rfl : d = ⟨q.val / 256 * 64 + q.val % 64, by clear * -; omega⟩ := Fin.ext hd
  obtain rfl : r = s := Fin.ext hr
  rfl

theorem gl_at (k g : Fin 4) (s : Fin 4096) (r : Fin 256) (d : Fin 2048) (hk : r.val / 8 / 8 = k.val) (hg : d.val / 512 = g.val) (hs : r.val / 8 % 8 * 512 + d.val % 512 = s.val) :
    Ideal.div (Row.top (sr m c k g s) + Ideal.log (Row.den (sr m c k g s))) Row.lg2 = gl m c (ix2 r d) := by
  obtain rfl : k = ⟨r.val / 8 / 8, by clear * -; omega⟩ := Fin.ext hk.symm
  obtain rfl : g = ⟨d.val / 512, by clear * -; omega⟩ := Fin.ext hg.symm
  obtain rfl : s = ⟨r.val / 8 % 8 * 512 + d.val % 512, by clear * -; omega⟩ := Fin.ext hs.symm
  rfl

theorem flushed3_eq [Pre_finite_ff.Facts] (h : Pre_KernelFFIdeal_finite_ff m) (t : Fin cfg0.N) (_hf : (cfg0.win 3).flush t = true) :
    (dats m 0 c).flushed 3 t = ((cfg0.win 3).blk t).view.read (Elt Ideal) (go m c) := by
  rw [Value.flushed3_A]
  funext j
  obtain ⟨p, u, rfl⟩ : ∃ (p : Fin 512) (u : Fin 256), j = ix2 p u := ⟨j 0, j 1, eq_ix2 j⟩
  have e : ((cfg0.win 3).blk t).view.read (Elt Ideal) (go m c) (ix2 p u)
      = go m c (ix2 ⟨t.val % 8 * 512 + p.val, by omega⟩ ⟨t.val / 8 * 256 + u.val, by have := t.isLt; have : cfg0.N = 32 := N_0; omega⟩) := by
    blk_ext [idx0 t]
  rw [e]
  refine (out3 p u).trans ((o_apply _ _ p u).trans ((row (yrow p u) _ (sr_real m c h (gr t) (gy (yrow p u)) (qr (qi t) (yrow p u))) (sc_eq m c h t (yrow p u)) ⟨u.val % 64, by omega⟩
    (at2_other m c t _)).1.trans (Eq.trans (Finset.sum_congr rfl fun j _ => congrArg₂ (· * ·) (at2_lane m c t _ j (yrow p u)) rfl) (go_at m c _ _ ⟨u.val % 64, by omega⟩ _ _ _ _ ?_ ?_ ?_ ?_))))
  · simp only [gr]; omega
  · simp only [gy, yrow]; omega
  · simp only [qr, qi, yrow]; omega
  · simp only [colk, hd, gr, yrow]; omega

theorem flushed4_eq [Pre_finite_ff.Facts] (h : Pre_KernelFFIdeal_finite_ff m) (t : Fin cfg0.N) (_hf : (cfg0.win 4).flush t = true) :
    (dats m 0 c).flushed 4 t = ((cfg0.win 4).blk t).view.read (Elt Ideal) (gl m c) := by
  rw [Value.flushed4_A]
  funext j
  obtain ⟨r, y, rfl⟩ : ∃ (r : Fin 8) (y : Fin 2048), j = ix2 r y := ⟨j 0, j 1, eq_ix2 j⟩
  have e : ((cfg0.win 4).blk t).view.read (Elt Ideal) (gl m c) (ix2 r y)
      = gl m c (ix2 ⟨t.val * 8 + r.val, by have := t.isLt; have : cfg0.N = 32 := N_0; omega⟩ y) := by
    blk_ext [idx0 t]
  rw [e]
  refine (out4 r y).trans ((lse_apply _ _ _ r y).trans ((row y _ (sr_real m c h (gr t) (gy y) (qr (qi t) y)) (sc_eq m c h t y) 0
    (at2_other m c t _)).2.trans (gl_at m c _ _ _ _ _ ?_ ?_ ?_)))
  · simp only [gr]; omega
  · simp only [gy]
  · simp only [qr, qi]; omega

theorem final3 [Pre_finite_ff.Facts] (h : Pre_KernelFFIdeal_finite_ff m) : (dats m 0 c).arrAt 3 cfg0.N = go m c :=
  (dats m 0 c).arrAt_eq_of_cover 3 (go m c) (flushed3_eq m c h) fun i =>
    have h0 : (i 0 : Nat) < 4096 := (i 0).isLt
    have h1 : (i 1 : Nat) < 1024 := (i 1).isLt
    have hN : cfg0.N = 32 := N_0
    let t : Fin cfg0.N := ⟨(i 1 : Nat) / 256 * 8 + (i 0 : Nat) / 512, by omega⟩
    ⟨t, flush0_3 t, by
      show i ∈ ((View.whole main_v15_0).slice (win0_3.rect t)).set
      rw [View.set_slice_whole, Rect.mem_set_unit]
      have e' : win0_3.xsize (grid0.coords t) 0 = 512 ∧ win0_3.xsize (grid0.coords t) 1 = 256 :=
        (by decide +kernel : ∀ t : Fin grid0.N, win0_3.xsize (grid0.coords t) 0 = 512 ∧ win0_3.xsize (grid0.coords t) 1 = 256) t
      have ht : t.val = (i 1 : Nat) / 256 * 8 + (i 0 : Nat) / 512 := rfl
      intro a
      match a with
      | ⟨0, _⟩ => show win0_3.index t 0 * 512 ≤ (i 0 : Nat) ∧ (i 0 : Nat) < win0_3.index t 0 * 512 + win0_3.xsize (grid0.coords t) 0
                  rw [(idx0 t).2.2.2.2.2.2.1, e'.1]; omega
      | ⟨1, _⟩ => show win0_3.index t 1 * 256 ≤ (i 1 : Nat) ∧ (i 1 : Nat) < win0_3.index t 1 * 256 + win0_3.xsize (grid0.coords t) 1
                  rw [(idx0 t).2.2.2.2.2.2.2.1, e'.2]; omega⟩

theorem final4 [Pre_finite_ff.Facts] (h : Pre_KernelFFIdeal_finite_ff m) : (dats m 0 c).arrAt 4 cfg0.N = gl m c :=
  (dats m 0 c).arrAt_eq_of_cover 4 (gl m c) (flushed4_eq m c h) fun i =>
    have h0 : (i 0 : Nat) < 256 := (i 0).isLt
    have h1 : (i 1 : Nat) < 2048 := (i 1).isLt
    have hN : cfg0.N = 32 := N_0
    let t : Fin cfg0.N := ⟨(i 0 : Nat) / 8, by omega⟩
    ⟨t, flush0_4 t, by
      show i ∈ ((View.whole main_v15_1).slice (win0_4.rect t)).set
      rw [View.set_slice_whole, Rect.mem_set_unit]
      have e' : win0_4.xsize (grid0.coords t) 0 = 8 ∧ win0_4.xsize (grid0.coords t) 1 = 2048 :=
        (by decide +kernel : ∀ t : Fin grid0.N, win0_4.xsize (grid0.coords t) 0 = 8 ∧ win0_4.xsize (grid0.coords t) 1 = 2048) t
      have ht : t.val = (i 0 : Nat) / 8 := rfl
      intro a
      match a with
      | ⟨0, _⟩ => show win0_4.index t 0 * 8 ≤ (i 0 : Nat) ∧ (i 0 : Nat) < win0_4.index t 0 * 8 + win0_4.xsize (grid0.coords t) 0
                  rw [(idx0 t).2.2.2.2.2.2.2.2.1, e'.1]; omega
      | ⟨1, _⟩ => show win0_4.index t 1 * 2048 ≤ (i 1 : Nat) ∧ (i 1 : Nat) < win0_4.index t 1 * 2048 + win0_4.xsize (grid0.coords t) 1
                  rw [(idx0 t).2.2.2.2.2.2.2.2.2, e'.2]; omega⟩

open Cert.KernelFIdeal.HostValue in
/-- The reference's normalisers. -/
theorem gl_eq : gl m c = N (M (S (x0 m c) (x1 m c))) (L (E (S (x0 m c) (x1 m c)))) := by
  funext i
  obtain ⟨r, d, rfl⟩ : ∃ (r : Fin 256) (d : Fin 2048), i = ix2 r d := ⟨i 0, i 1, eq_ix2 i⟩
  refine Eq.trans ?_ (N_apply _ _ r d).symm
  have e (k g : Fin 4) (s : Fin 4096) : (fun j => S (x0 m c) (x1 m c) (ix4 k g s j)) = sr m c k g s := funext fun j => S_apply _ _ k g s j
  rw [M_apply, L_apply]
  simp only [E_apply, e]
  rfl

open Cert.ReferenceFIdeal.Arrays in
/-- The reference's result. -/
theorem go_eq : go m c = KernelFIdeal.HostValue.O (x2 m c) (E (S (x0 m c) (x1 m c))) (L (E (S (x0 m c) (x1 m c)))) := by
  funext i
  obtain ⟨s, q, rfl⟩ : ∃ (s : Fin 4096) (q : Fin 1024), i = ix2 s q := ⟨i 0, i 1, eq_ix2 i⟩
  refine Eq.trans ?_ (KernelFIdeal.HostValue.O_apply _ _ _ s q).symm
  have e (k g : Fin 4) (s : Fin 4096) : (fun j => S (x0 m c) (x1 m c) (ix4 k g s j)) = sr m c k g s := funext fun j => S_apply _ _ k g s j
  refine Finset.sum_congr rfl fun j _ => congrArg₂ (· * ·) rfl ?_
  rw [L_apply]
  simp only [E_apply, e]
  rfl

end Cert.KernelFFIdeal.Arrays
end
-- ==== Proof.M.ClaimsFF.lean ====
module
public import proofs.«01_k».proof.Proof.FF.Final
public import proofs.«01_k».proof.Proof.Gen.KernelFF.Frame
public import proofs.«01_k».proof.Proof.Gen.KernelFFIdeal.Value
public import proofs.«01_k».proof.Proof.Gen.ReferenceFFIdeal.Run
public import Idealize.ShloMosaic.Adequacy
public import Idealize.ShloMosaic.Init
@[expose] public section
set_option maxRecDepth 16384
noncomputable section
/-! The claims about the flash attention. -/
namespace Cert.ClaimsFF
open Idealize.ShloMosaic Idealize.SL.Sem

theorem frame : Cert.quiescent_KernelFF := fun m ρ _ => Cert.KernelFF.Gen.frame m ρ
theorem frame_ideal : Cert.quiescent_KernelFFIdeal := fun m ρ _ => Cert.KernelFFIdeal.Gen.frame m ρ
theorem frame_ideal_pre [Cert.Pre_finite_ff.Facts] : Cert.quiescent_KernelFFIdeal_pre_finite_ff := fun m ρ _ => Cert.KernelFFIdeal.Gen.frame m ρ

theorem frame_ref : Cert.quiescent_ReferenceFFIdeal := fun m ρ _ =>
  (θ_run Cert.ReferenceFFIdeal.defs _ _).mono (fun r h => ⟨fun c => (h c).2.2, Idealize.ShloMosaic.sem_eq_zero_of_no_sems (by decide) r.2⟩)
    (Cert.ReferenceFFIdeal.Value.run (F := Ideal) m ρ)
theorem frame_ref_pre [Cert.Pre_finite_ff.Facts] : Cert.quiescent_ReferenceFFIdeal_pre_finite_ff := fun m ρ _ =>
  (θ_run Cert.ReferenceFFIdeal.defs _ _).mono (fun r h => ⟨fun c => (h c).2.2, Idealize.ShloMosaic.sem_eq_zero_of_no_sems (by decide) r.2⟩)
    (Cert.ReferenceFFIdeal.Value.run (F := Ideal) m ρ)

theorem preserves : Cert.preserves_KernelFF_KernelFFIdeal :=
  ⟨IdealRules.named_const.statement Cert.KernelFFIdeal.κ "neg" .f32 0xF149F2CA#32 ⊥ rfl,
    IdealRules.named_const.statement Cert.KernelFFIdeal.κ "log2e" .f32 0x3FB8AA3B#32 (((Real.log 2)⁻¹ : ℝ) : EReal) rfl⟩

theorem algebraic [Cert.Pre_finite_ff.Facts] : Cert.algebraic_KernelFFIdeal_ReferenceFFIdeal_pre_finite_ff := by
  intro m ρ m' ρ' hpre hagree
  refine ⟨fun c => KernelFFIdeal.Arrays.go m c, fun c => KernelFFIdeal.Arrays.gl m c, ?_, ?_⟩
  · exact (θ_run Cert.KernelFFIdeal.defs _ _).mono
      (fun _ h c => ⟨(h c).1.trans (KernelFFIdeal.Arrays.final3 m c hpre), (h c).2.1.trans (KernelFFIdeal.Arrays.final4 m c hpre), (h c).2.2⟩)
      (Cert.KernelFFIdeal.Value.run_blocks (F := Ideal) m ρ)
  · refine (θ_run Cert.ReferenceFFIdeal.defs _ _).mono (fun _ h c => ⟨(h c).1.trans ?_, (h c).2.1.trans ?_, (h c).2.2⟩)
      (Cert.ReferenceFFIdeal.Value.run (F := Ideal) m' ρ')
    · show _ = KernelFFIdeal.Arrays.go m c
      rw [KernelFFIdeal.Arrays.go_eq, (hagree c).1, (hagree c).2.1, (hagree c).2.2]
      rfl
    · show _ = KernelFFIdeal.Arrays.gl m c
      rw [KernelFFIdeal.Arrays.gl_eq, (hagree c).1, (hagree c).2.1]
      rfl

end Cert.ClaimsFF
end
-- ==== Proof.XF.Ref.lean ====
module
public import proofs.«01_k».proof.Proof.X.Ref
public import proofs.«01_k».proof.Proof.Gen.ReferenceXFIdeal.Run
public import Idealize.ShloMosaic.Lib.Pointwise
@[expose] public section
set_option maxRecDepth 16384
noncomputable section
/-! What the reference's memory attention computes. -/
namespace Cert.ReferenceXFIdeal.Arrays
open Cert.ReferenceXFIdeal Cert.ReferenceXFIdeal.Gen Cert.ReferenceXFIdeal.Value Idealize.ShloMosaic Idealize.ShloMosaic.TcCoe Idealize.SL.Sem
open Idealize.ShloMosaic.Pointwise

variable (a1 : FVec Ideal S256x2048 .f32)

/-- The result, from the exponentials of the scores and their sums. -/
def out (E : FVec Ideal S4x4096x256 .f32) (L : FVec Ideal S4x4096x1 .f32) : FVec Ideal S4096x1024 .bf16 := truncf .bf16 (shapeCast _ (transpose S4096x4x256 [2, 0, 1] (Host.dotGeneral dot_S256x4x256_S4x4096x256_S4x256x4096_0_2_2_1_1_0 none (shapeCast _ (extractStridedSlice S256x1024 ![0, 1024] a1 slices_S256x2048_S256x1024_0_1024) shapeCasts_S256x1024_S256x4x256) (Host.divf E (broadcastInDim S4x4096x256 ![0, 1, 2] bcast_S4x4096x1_S4x4096x256_0_1_2 L))) transposes_S4x256x4096_S4096x4x256_2_0_1) shapeCasts_S4096x4x256_S4096x1024) bitsLt_bf16_f32

theorem out_apply (E : FVec Ideal S4x4096x256 .f32) (L : FVec Ideal S4x4096x1 .f32) (r : Fin 4096) (q : Fin 1024) :
    out a1 E L (ix2 r q) = ∑ m : Fin 256, Ideal.div (E (ix3 (Row.head q) r m)) (L (ix3 (Row.head q) r 0)) * ReferenceXIdeal.Arrays.V a1 m q := by
  unfold ReferenceXIdeal.Arrays.V Row.head
  pointwise [out]
  exact Finset.sum_congr rfl fun m _ => mul_comm _ _

end Cert.ReferenceXFIdeal.Arrays
end
-- ==== Proof.XF.Final.lean ====
module
public import proofs.«01_k».proof.Proof.X.Block
public import proofs.«01_k».proof.Proof.XF.Ref
public import proofs.«01_k».proof.Proof.Gen.KernelXFIdeal.Value
public import Idealize.ShloMosaic.Lib.Pipeline.ValueKit
public import Idealize.ShloMosaic.Lib.Pointwise
@[expose] public section
set_option maxRecDepth 16384
noncomputable section
/-! What the memory attention computes. -/
namespace Cert.KernelXFIdeal.Arrays
open Cert.KernelXFIdeal Cert.KernelXFIdeal.Gen Idealize.ShloMosaic Idealize.ShloMosaic.TcCoe Idealize.SL.Sem
open Idealize.ShloMosaic.Pointwise
open Cert.KernelXIdeal.Block (row ld_col head_of)

/-- A tile's scores. -/
def sc (q : FVec Ideal S1024x256 .bf16) (k : FVec Ideal S256x256 .bf16) (r : Fin 1024) (m : Fin 256) : EReal :=
  ∑ d : Fin 256, q (ix2 r d) * k (ix2 m d)

/-- A head's tile. -/
theorem pay2_apply (q : FVec Ideal S1024x256 .bf16) (k v : FVec Ideal S256x256 .bf16) (r : Fin 1024) (d : Fin 256) :
    k0_pay2 (F := Ideal) q k v (ix2 r d) = ∑ m : Fin 256, Row.pr (sc q k r) m * v (ix2 m d) := by
  unfold Row.pr Row.den Row.ex Row.top sc
  pointwise [k0_pay2]
  rw [show Ideal.ofBits FTy.f32 4286578688#32 = ⊥ from by simp [Ideal.ofBits, Ideal.ieee]]

/-- The attention of a row, at a column. -/
def at' (x : Fin 1024 → EReal) (k v : Fin 256 → Fin 1024 → EReal) (c : Fin 1024) : EReal :=
  ∑ m : Fin 256, Row.pr (Row.score x k (Row.head c)) m * v m c

/-- A tile's scores are its block's. -/
theorem sc_ld (x0 : Vec Ideal S1024x1024 .bf16) (x1 : Vec Ideal S256x1024 .bf16) (h : Fin 4) {o : Nat} (ho : o = 256 * h.val)
    (i0) (i1) (r : Fin 1024) :
    sc (View.ld x0 (Rect.unit (s := S1024x1024) ![0, o] ![1024, 256] i0))
      (View.ld x1 (Rect.unit (s := S256x1024) ![0, o] ![256, 256] i1)) r = Row.score (row x0 r) (row x1) h := by
  funext m
  unfold sc Row.score
  refine Finset.sum_congr rfl fun d _ => ?_
  rw [ld_col x0 h ho, ld_col x1 h ho, mul_comm]

/-- A tile is its block's. -/
theorem tile (x0 : Vec Ideal S1024x1024 .bf16) (x1 x2 : Vec Ideal S256x1024 .bf16)
    (h : Fin 4) {o : Nat} (ho : o = 256 * h.val) (i0) (i1) (i2) (x : S1024x256.Idx) (r c : Fin 1024)
    (e0 : r.val = (x 0).val) (e1 : c.val = o + (x 1).val) :
    k0_pay2 (View.ld x0 (Rect.unit (s := S1024x1024) ![0, o] ![1024, 256] i0))
      (View.ld x1 (Rect.unit (s := S256x1024) ![0, o] ![256, 256] i1))
      (View.ld x2 (Rect.unit (s := S256x1024) ![0, o] ![256, 256] i2)) x
      = at' (row x0 r) (row x1) (row x2) c := by
  obtain ⟨p, d, rfl⟩ : ∃ (p : Fin 1024) (d : Fin 256), x = ix2 p d := ⟨x 0, x 1, eq_ix2 x⟩
  obtain ⟨ec, eh⟩ := head_of c h d ho e1
  obtain rfl : r = p := Fin.ext e0
  rw [pay2_apply, sc_ld x0 x1 h ho]
  unfold at'
  rw [eh]
  refine Finset.sum_congr rfl fun m _ => ?_
  rw [ec, ld_col x2 h ho]

/-- A block. -/
theorem block (x0 : Vec Ideal S1024x1024 .bf16) (x1 x2 : Vec Ideal S256x1024 .bf16) (r p : Fin 1024) (y : S1024x1024.Idx) (hy : y = ix2 r p) :
    out0_3 x0 x1 x2 y = at' (row x0 r) (row x1) (row x2) p := by
  unfold out0_3
  canon_tiles x h using View.cover_of_tiledL (s := S1024x1024) _ ![1024, 256] (by sl_kernel_rfl) y
  · subst hy; exact tile x0 x1 x2 3 rfl _ _ _ x r p h0 h1
  · subst hy; exact tile x0 x1 x2 2 rfl _ _ _ x r p h0 h1
  · subst hy; exact tile x0 x1 x2 1 rfl _ _ _ x r p h0 h1
  · subst hy; exact tile x0 x1 x2 0 rfl _ _ _ x r p h0 (h1.trans (Nat.zero_add _).symm)

variable (m : (ℓ : Loc nD τ sig) → Buf (Elt Ideal) ℓ) (c : Dev nD)

theorem idx0 : ∀ t : Fin cfg0.N, win0_0.index t 0 = t.val ∧ win0_0.index t 1 = 0 ∧ win0_1.index t 0 = 0 ∧ win0_1.index t 1 = 0
    ∧ win0_2.index t 0 = 0 ∧ win0_2.index t 1 = 1 ∧ win0_3.index t 0 = t.val ∧ win0_3.index t 1 = 0 :=
  (by decide +kernel : ∀ t : Fin grid0.N, _)

abbrev a0 : FVec Ideal S4096x1024 .f32 := m ((c : Thread nD τ).loc main_arg0)
abbrev a1 : FVec Ideal S256x2048 .f32 := m ((c : Thread nD τ).loc main_arg1)

open ReferenceXIdeal.Arrays in
theorem row0 (t : Fin cfg0.N) (p : Fin 1024) : row (iblk m c 0 t) p = X (a0 m c) ⟨t.val * 1024 + p.val, by have := t.isLt; have : cfg0.N = 4 := N_0; omega⟩ := by
  funext d
  have e : (iblk m c 0 t (ix2 p d) : EReal) = (V m c main_v2 : FVec Ideal S4096x1024 .bf16) (ix2 ⟨t.val * 1024 + p.val, by have := t.isLt; have : cfg0.N = 4 := N_0; omega⟩ d) := by
    blk_ext [iblk, idx0 t]
  refine e.trans ?_
  show Gen.V m c main_v2 (ix2 _ d) = a0 m c (ix2 _ d) * _
  entry_read
  pointwise

open ReferenceXIdeal.Arrays in
theorem row1 (t : Fin cfg0.N) : row (iblk m c 1 t) = K (a1 m c) := by
  funext p d
  have e : (iblk m c 1 t (ix2 p d) : EReal) = (Gen.V m c main_v3 : FVec Ideal S256x2048 .bf16) (ix2 p ⟨d.val, by omega⟩) := by
    blk_ext [iblk, idx0 t]
  refine e.trans ?_
  show Gen.V m c main_v3 (ix2 p ⟨d.val, _⟩) = a1 m c (ix2 p ⟨d.val, _⟩)
  entry_read
  pointwise

open ReferenceXIdeal.Arrays in
theorem row2 (t : Fin cfg0.N) : row (iblk m c 2 t) = ReferenceXIdeal.Arrays.V (a1 m c) := by
  funext p d
  have e : (iblk m c 2 t (ix2 p d) : EReal) = (Gen.V m c main_v3 : FVec Ideal S256x2048 .bf16) (ix2 p ⟨1024 + d.val, by omega⟩) := by
    blk_ext [iblk, idx0 t]
  refine e.trans ?_
  show Gen.V m c main_v3 (ix2 p ⟨1024 + d.val, _⟩) = a1 m c (ix2 p ⟨1024 + d.val, _⟩)
  entry_read
  pointwise

/-- The attention of all rows. -/
def go : Vec Ideal S4096x1024 .bf16 := fun j =>
  at' (ReferenceXIdeal.Arrays.X (a0 m c) (j 0)) (ReferenceXIdeal.Arrays.K (a1 m c)) (ReferenceXIdeal.Arrays.V (a1 m c)) (j 1)

theorem final : (dats m 0 c).arrAt 3 cfg0.N = go m c := by
  refine (dats m 0 c).arrAt_eq_of_cover 3 (go m c) (fun (t : Fin cfg0.N) _ => ?_) (Pipeline.Window.Covers.cover win0_3 (by decide +kernel) (Memref.isWhole_whole _))
  rw [Value.flushed3]
  funext j
  obtain ⟨p, q, rfl⟩ : ∃ (p : Fin 1024) (q : Fin 1024), j = ix2 p q := ⟨j 0, j 1, eq_ix2 j⟩
  have e : ((cfg0.win 3).blk t).view.read (Elt Ideal) (go m c) (ix2 p q)
      = go m c (ix2 ⟨t.val * 1024 + p.val, by have := t.isLt; have : cfg0.N = 4 := N_0; omega⟩ q) := by
    blk_ext [idx0 t]
  rw [e]
  refine (block _ _ _ p q (ix2 p q) rfl).trans ?_
  rw [row0, row1, row2]
  rfl

open ReferenceXIdeal.Arrays ReferenceXFIdeal.Arrays in
/-- The kernel's array is the reference's. -/
theorem go_eq : go m c = out (a1 m c) (E (S (a0 m c) (a1 m c))) (L (E (S (a0 m c) (a1 m c)))) := by
  funext j
  obtain ⟨r, q, rfl⟩ : ∃ (r : Fin 4096) (q : Fin 1024), j = ix2 r q := ⟨j 0, j 1, eq_ix2 j⟩
  rw [out_apply]
  show at' (X (a0 m c) r) _ _ q = _
  unfold at'
  refine Finset.sum_congr rfl fun k _ => ?_
  rw [L_apply, Row.pr, Row.den]
  simp only [E_apply, S_apply]

end Cert.KernelXFIdeal.Arrays
end
-- ==== Proof.M.ClaimsXF.lean ====
module
public import proofs.«01_k».proof.Defs
public import proofs.«01_k».proof.Proof.XF.Final
public import proofs.«01_k».proof.Proof.Gen.KernelXF.Frame
public import Idealize.ShloMosaic.Adequacy
public import Idealize.ShloMosaic.Init
@[expose] public section
set_option maxRecDepth 16384
noncomputable section
/-! The claims about the memory attention. -/
namespace Cert.ClaimsXF
open Idealize.ShloMosaic Idealize.SL.Sem

theorem frame : Cert.quiescent_KernelXF := fun m ρ _ => Cert.KernelXF.Gen.frame m ρ
theorem frame_ideal : Cert.quiescent_KernelXFIdeal := fun m ρ _ => Cert.KernelXFIdeal.Gen.frame m ρ
theorem frame_ref : Cert.quiescent_ReferenceXFIdeal := fun m ρ _ =>
  (θ_run Cert.ReferenceXFIdeal.defs _ _).mono (fun r h => ⟨fun c => (h c).2, Idealize.ShloMosaic.sem_eq_zero_of_no_sems (by decide) r.2⟩)
    (Cert.ReferenceXFIdeal.Value.run (F := Ideal) m ρ)

theorem algebraic : Cert.algebraic_KernelXFIdeal_ReferenceXFIdeal := by
  intro m ρ m' ρ' _ hagree
  refine ⟨fun c => KernelXFIdeal.Arrays.go m c, ?_, ?_⟩
  · exact (θ_run Cert.KernelXFIdeal.defs _ _).mono (fun _ h c => ⟨(h c).1.trans (KernelXFIdeal.Arrays.final m c), (h c).2⟩)
      (Cert.KernelXFIdeal.Value.run_blocks (F := Ideal) m ρ)
  · refine (θ_run Cert.ReferenceXFIdeal.defs _ _).mono (fun _ h c => ⟨(h c).1.trans ?_, (h c).2⟩)
      (Cert.ReferenceXFIdeal.Value.run (F := Ideal) m' ρ')
    show _ = KernelXFIdeal.Arrays.go m c
    rw [KernelXFIdeal.Arrays.go_eq, (hagree c).1, (hagree c).2]
    rfl

end Cert.ClaimsXF
end
-- ==== Proof.lean ====
module

public import proofs.«01_k».proof.Defs
public import proofs.«01_k».proof.Proof.Gen.KernelX
public import proofs.«01_k».proof.Proof.Gen.KernelX.Frame
public import proofs.«01_k».proof.Proof.Gen.KernelXIdeal
public import proofs.«01_k».proof.Proof.Gen.KernelXIdeal.Frame
public import proofs.«01_k».proof.Proof.Gen.KernelXIdeal.Value
public import proofs.«01_k».proof.Proof.Gen.ReferenceXIdeal
public import proofs.«01_k».proof.Proof.Gen.ReferenceXIdeal.Run
public import proofs.«01_k».proof.Proof.Gen.Pre_finite_x
public import proofs.«01_k».proof.Proof.X.Claims
public import proofs.«01_k».proof.Proof.Gen.KernelF
public import proofs.«01_k».proof.Proof.Gen.KernelF.Frame
public import proofs.«01_k».proof.Proof.Gen.KernelFIdeal
public import proofs.«01_k».proof.Proof.Gen.KernelFIdeal.Frame
public import proofs.«01_k».proof.Proof.Gen.KernelFIdeal.Value
public import proofs.«01_k».proof.Proof.Gen.ReferenceFIdeal
public import proofs.«01_k».proof.Proof.Gen.ReferenceFIdeal.Run
public import proofs.«01_k».proof.Proof.Gen.Pre_finite_f
public import proofs.«01_k».proof.Proof.F.Claims
public import proofs.«01_k».proof.Proof.Gen.KernelA
public import proofs.«01_k».proof.Proof.Gen.KernelA.Frame
public import proofs.«01_k».proof.Proof.Gen.KernelAIdeal
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Proof.M.ClaimsA
public import proofs.«01_k».proof.Proof.Gen.KernelW
public import proofs.«01_k».proof.Proof.Gen.KernelW.Frame
public import proofs.«01_k».proof.Proof.Gen.KernelWIdeal
public import proofs.«01_k».proof.Proof.Gen.KernelWIdeal.Frame
public import proofs.«01_k».proof.Proof.Gen.KernelWIdeal.Value
public import proofs.«01_k».proof.Proof.Gen.ReferenceWIdeal
public import proofs.«01_k».proof.Proof.Gen.ReferenceWIdeal.Run
public import proofs.«01_k».proof.Proof.M.ClaimsW
public import proofs.«01_k».proof.Proof.Gen.KernelG
public import proofs.«01_k».proof.Proof.Gen.KernelG.Frame
public import proofs.«01_k».proof.Proof.Gen.KernelGIdeal
public import proofs.«01_k».proof.Proof.Gen.KernelGIdeal.Frame
public import proofs.«01_k».proof.Proof.Gen.KernelGIdeal.Value
public import proofs.«01_k».proof.Proof.Gen.ReferenceGIdeal
public import proofs.«01_k».proof.Proof.Gen.ReferenceGIdeal.Run
public import proofs.«01_k».proof.Proof.M.ClaimsG
public import proofs.«01_k».proof.Proof.Gen.KernelH
public import proofs.«01_k».proof.Proof.Gen.KernelH.Frame
public import proofs.«01_k».proof.Proof.Gen.KernelHIdeal
public import proofs.«01_k».proof.Proof.Gen.KernelHIdeal.Frame
public import proofs.«01_k».proof.Proof.Gen.KernelHIdeal.Value
public import proofs.«01_k».proof.Proof.Gen.ReferenceHIdeal
public import proofs.«01_k».proof.Proof.Gen.ReferenceHIdeal.Run
public import proofs.«01_k».proof.Proof.M.ClaimsH
public import proofs.«01_k».proof.Proof.Gen.KernelE
public import proofs.«01_k».proof.Proof.Gen.KernelE.Frame
public import proofs.«01_k».proof.Proof.Gen.KernelEIdeal
public import proofs.«01_k».proof.Proof.Gen.KernelEIdeal.Frame
public import proofs.«01_k».proof.Proof.Gen.KernelEIdeal.Value
public import proofs.«01_k».proof.Proof.Gen.ReferenceEIdeal
public import proofs.«01_k».proof.Proof.Gen.ReferenceEIdeal.Run
public import proofs.«01_k».proof.Proof.M.ClaimsE
public import proofs.«01_k».proof.Proof.Gen.KernelV
public import proofs.«01_k».proof.Proof.Gen.KernelV.Frame
public import proofs.«01_k».proof.Proof.Gen.KernelVIdeal
public import proofs.«01_k».proof.Proof.Gen.KernelVIdeal.Frame
public import proofs.«01_k».proof.Proof.Gen.KernelVIdeal.Value
public import proofs.«01_k».proof.Proof.Gen.ReferenceVIdeal
public import proofs.«01_k».proof.Proof.Gen.ReferenceVIdeal.Run
public import proofs.«01_k».proof.Proof.Gen.Pre_finite_v
public import proofs.«01_k».proof.Proof.M.ClaimsV
public import proofs.«01_k».proof.Proof.Gen.KernelUG
public import proofs.«01_k».proof.Proof.Gen.KernelUG.Frame
public import proofs.«01_k».proof.Proof.Gen.KernelUGIdeal
public import proofs.«01_k».proof.Proof.Gen.KernelUGIdeal.Frame
public import proofs.«01_k».proof.Proof.Gen.KernelUGIdeal.Value
public import proofs.«01_k».proof.Proof.Gen.ReferenceUGIdeal
public import proofs.«01_k».proof.Proof.Gen.ReferenceUGIdeal.Run
public import proofs.«01_k».proof.Proof.M.ClaimsUG
public import proofs.«01_k».proof.Proof.Gen.KernelUV
public import proofs.«01_k».proof.Proof.Gen.KernelUV.Frame
public import proofs.«01_k».proof.Proof.Gen.KernelUVIdeal
public import proofs.«01_k».proof.Proof.Gen.KernelUVIdeal.Frame
public import proofs.«01_k».proof.Proof.Gen.KernelUVIdeal.Value
public import proofs.«01_k».proof.Proof.Gen.ReferenceUVIdeal
public import proofs.«01_k».proof.Proof.Gen.ReferenceUVIdeal.Run
public import proofs.«01_k».proof.Proof.M.ClaimsUV
public import proofs.«01_k».proof.Proof.Gen.KernelDN
public import proofs.«01_k».proof.Proof.Gen.KernelDN.Frame
public import proofs.«01_k».proof.Proof.Gen.KernelDNIdeal
public import proofs.«01_k».proof.Proof.Gen.KernelDNIdeal.Frame
public import proofs.«01_k».proof.Proof.Gen.KernelDNIdeal.Value
public import proofs.«01_k».proof.Proof.Gen.ReferenceDNIdeal
public import proofs.«01_k».proof.Proof.Gen.ReferenceDNIdeal.Run
public import proofs.«01_k».proof.Proof.M.ClaimsDN
public import proofs.«01_k».proof.Proof.Gen.KernelDL
public import proofs.«01_k».proof.Proof.Gen.KernelDL.Frame
public import proofs.«01_k».proof.Proof.Gen.KernelDLIdeal
public import proofs.«01_k».proof.Proof.Gen.KernelDLIdeal.Frame
public import proofs.«01_k».proof.Proof.Gen.KernelDLIdeal.Value
public import proofs.«01_k».proof.Proof.Gen.ReferenceDLIdeal
public import proofs.«01_k».proof.Proof.Gen.ReferenceDLIdeal.Run
public import proofs.«01_k».proof.Proof.M.ClaimsDL
public import proofs.«01_k».proof.Proof.Gen.KernelDX
public import proofs.«01_k».proof.Proof.Gen.KernelDX.Frame
public import proofs.«01_k».proof.Proof.Gen.KernelDXIdeal
public import proofs.«01_k».proof.Proof.Gen.KernelDXIdeal.Frame
public import proofs.«01_k».proof.Proof.Gen.KernelDXIdeal.Value
public import proofs.«01_k».proof.Proof.Gen.ReferenceDXIdeal
public import proofs.«01_k».proof.Proof.Gen.ReferenceDXIdeal.Run
public import proofs.«01_k».proof.Proof.M.ClaimsDX
public import proofs.«01_k».proof.Proof.Gen.KernelDO
public import proofs.«01_k».proof.Proof.Gen.KernelDO.Frame
public import proofs.«01_k».proof.Proof.Gen.KernelDOIdeal
public import proofs.«01_k».proof.Proof.Gen.KernelDOIdeal.Frame
public import proofs.«01_k».proof.Proof.Gen.KernelDOIdeal.Value
public import proofs.«01_k».proof.Proof.Gen.ReferenceDOIdeal
public import proofs.«01_k».proof.Proof.Gen.ReferenceDOIdeal.Run
public import proofs.«01_k».proof.Proof.M.ClaimsDO
public import proofs.«01_k».proof.Proof.Gen.KernelWX
public import proofs.«01_k».proof.Proof.Gen.KernelWX.Frame
public import proofs.«01_k».proof.Proof.Gen.KernelWXIdeal
public import proofs.«01_k».proof.Proof.Gen.KernelWXIdeal.Frame
public import proofs.«01_k».proof.Proof.Gen.KernelWXIdeal.Value
public import proofs.«01_k».proof.Proof.Gen.ReferenceWXIdeal
public import proofs.«01_k».proof.Proof.Gen.ReferenceWXIdeal.Run
public import proofs.«01_k».proof.Proof.M.ClaimsWX
public import proofs.«01_k».proof.Proof.Gen.KernelWO
public import proofs.«01_k».proof.Proof.Gen.KernelWO.Frame
public import proofs.«01_k».proof.Proof.Gen.KernelWOIdeal
public import proofs.«01_k».proof.Proof.Gen.KernelWOIdeal.Frame
public import proofs.«01_k».proof.Proof.Gen.KernelWOIdeal.Value
public import proofs.«01_k».proof.Proof.Gen.ReferenceWOIdeal
public import proofs.«01_k».proof.Proof.Gen.ReferenceWOIdeal.Run
public import proofs.«01_k».proof.Proof.M.ClaimsWO
public import proofs.«01_k».proof.Proof.Gen.KernelWQ
public import proofs.«01_k».proof.Proof.Gen.KernelWQ.Frame
public import proofs.«01_k».proof.Proof.Gen.KernelWQIdeal
public import proofs.«01_k».proof.Proof.Gen.KernelWQIdeal.Frame
public import proofs.«01_k».proof.Proof.Gen.KernelWQIdeal.Value
public import proofs.«01_k».proof.Proof.Gen.ReferenceWQIdeal
public import proofs.«01_k».proof.Proof.Gen.ReferenceWQIdeal.Run
public import proofs.«01_k».proof.Proof.M.ClaimsWQ
public import proofs.«01_k».proof.Proof.Gen.KernelHQ
public import proofs.«01_k».proof.Proof.Gen.KernelHQ.Frame
public import proofs.«01_k».proof.Proof.Gen.KernelHQIdeal
public import proofs.«01_k».proof.Proof.Gen.KernelHQIdeal.Frame
public import proofs.«01_k».proof.Proof.Gen.KernelHQIdeal.Value
public import proofs.«01_k».proof.Proof.Gen.ReferenceHQIdeal
public import proofs.«01_k».proof.Proof.Gen.ReferenceHQIdeal.Run
public import proofs.«01_k».proof.Proof.Gen.Pre_finite_hq
public import proofs.«01_k».proof.Proof.M.ClaimsHQ
public import proofs.«01_k».proof.Proof.Gen.KernelHZ
public import proofs.«01_k».proof.Proof.Gen.KernelHZ.Frame
public import proofs.«01_k».proof.Proof.Gen.KernelHZIdeal
public import proofs.«01_k».proof.Proof.Gen.KernelHZIdeal.Frame
public import proofs.«01_k».proof.Proof.Gen.KernelHZIdeal.Value
public import proofs.«01_k».proof.Proof.Gen.ReferenceHZIdeal
public import proofs.«01_k».proof.Proof.Gen.ReferenceHZIdeal.Run
public import proofs.«01_k».proof.Proof.Gen.Pre_finite_hz
public import proofs.«01_k».proof.Proof.M.ClaimsHZ
public import proofs.«01_k».proof.Proof.Gen.KernelXQ
public import proofs.«01_k».proof.Proof.Gen.KernelXQ.Frame
public import proofs.«01_k».proof.Proof.Gen.KernelXQIdeal
public import proofs.«01_k».proof.Proof.Gen.KernelXQIdeal.Frame
public import proofs.«01_k».proof.Proof.Gen.KernelXQIdeal.Value
public import proofs.«01_k».proof.Proof.Gen.ReferenceXQIdeal
public import proofs.«01_k».proof.Proof.Gen.ReferenceXQIdeal.Run
public import proofs.«01_k».proof.Proof.M.ClaimsXQ
public import proofs.«01_k».proof.Proof.Gen.KernelQK
public import proofs.«01_k».proof.Proof.Gen.KernelQK.Frame
public import proofs.«01_k».proof.Proof.Gen.KernelQKIdeal
public import proofs.«01_k».proof.Proof.Gen.KernelQKIdeal.Frame
public import proofs.«01_k».proof.Proof.Gen.KernelQKIdeal.Value
public import proofs.«01_k».proof.Proof.Gen.ReferenceQKIdeal
public import proofs.«01_k».proof.Proof.Gen.ReferenceQKIdeal.Run
public import proofs.«01_k».proof.Proof.M.ClaimsQK
public import proofs.«01_k».proof.Proof.Gen.KernelXO
public import proofs.«01_k».proof.Proof.Gen.KernelXO.Frame
public import proofs.«01_k».proof.Proof.Gen.KernelXOIdeal
public import proofs.«01_k».proof.Proof.Gen.KernelXOIdeal.Frame
public import proofs.«01_k».proof.Proof.Gen.KernelXOIdeal.Value
public import proofs.«01_k».proof.Proof.Gen.ReferenceXOIdeal
public import proofs.«01_k».proof.Proof.Gen.ReferenceXOIdeal.Run
public import proofs.«01_k».proof.Proof.M.ClaimsXO
public import proofs.«01_k».proof.Proof.Gen.KernelAO
public import proofs.«01_k».proof.Proof.Gen.KernelAO.Frame
public import proofs.«01_k».proof.Proof.Gen.KernelAOIdeal
public import proofs.«01_k».proof.Proof.Gen.KernelAOIdeal.Frame
public import proofs.«01_k».proof.Proof.Gen.KernelAOIdeal.Value
public import proofs.«01_k».proof.Proof.Gen.ReferenceAOIdeal
public import proofs.«01_k».proof.Proof.Gen.ReferenceAOIdeal.Run
public import proofs.«01_k».proof.Proof.M.ClaimsAO
public import proofs.«01_k».proof.Proof.Gen.KernelKV
public import proofs.«01_k».proof.Proof.Gen.KernelKV.Frame
public import proofs.«01_k».proof.Proof.Gen.KernelKVIdeal
public import proofs.«01_k».proof.Proof.Gen.KernelKVIdeal.Frame
public import proofs.«01_k».proof.Proof.Gen.KernelKVIdeal.Value
public import proofs.«01_k».proof.Proof.Gen.ReferenceKVIdeal
public import proofs.«01_k».proof.Proof.Gen.ReferenceKVIdeal.Run
public import proofs.«01_k».proof.Proof.M.ClaimsKV
public import proofs.«01_k».proof.Proof.Gen.KernelFF
public import proofs.«01_k».proof.Proof.Gen.KernelFF.Frame
public import proofs.«01_k».proof.Proof.Gen.KernelFFIdeal
public import proofs.«01_k».proof.Proof.Gen.KernelFFIdeal.Frame
public import proofs.«01_k».proof.Proof.Gen.KernelFFIdeal.Value
public import proofs.«01_k».proof.Proof.Gen.ReferenceFFIdeal
public import proofs.«01_k».proof.Proof.Gen.ReferenceFFIdeal.Run
public import proofs.«01_k».proof.Proof.Gen.Pre_finite_ff
public import proofs.«01_k».proof.Proof.M.ClaimsFF
public import proofs.«01_k».proof.Proof.Gen.KernelXF
public import proofs.«01_k».proof.Proof.Gen.KernelXF.Frame
public import proofs.«01_k».proof.Proof.Gen.KernelXFIdeal
public import proofs.«01_k».proof.Proof.Gen.KernelXFIdeal.Frame
public import proofs.«01_k».proof.Proof.Gen.KernelXFIdeal.Value
public import proofs.«01_k».proof.Proof.Gen.ReferenceXFIdeal
public import proofs.«01_k».proof.Proof.Gen.ReferenceXFIdeal.Run
public import proofs.«01_k».proof.Proof.M.ClaimsXF

@[expose] public section

noncomputable section

namespace Cert.Proof

theorem claim : Cert.Claim :=
  ⟨Cert.KernelX.Gen.facts, Cert.KernelXIdeal.Gen.facts, Cert.ReferenceXIdeal.Gen.facts,
    Cert.KernelF.Gen.facts, Cert.KernelFIdeal.Gen.facts, Cert.ReferenceFIdeal.Gen.facts,
    Cert.KernelA.Gen.facts, Cert.KernelAIdeal.Gen.facts, Cert.ReferenceAIdeal.Gen.facts,
    Cert.KernelW.Gen.facts, Cert.KernelWIdeal.Gen.facts, Cert.ReferenceWIdeal.Gen.facts,
    Cert.KernelG.Gen.facts, Cert.KernelGIdeal.Gen.facts, Cert.ReferenceGIdeal.Gen.facts,
    Cert.KernelH.Gen.facts, Cert.KernelHIdeal.Gen.facts, Cert.ReferenceHIdeal.Gen.facts,
    Cert.KernelE.Gen.facts, Cert.KernelEIdeal.Gen.facts, Cert.ReferenceEIdeal.Gen.facts,
    Cert.KernelV.Gen.facts, Cert.KernelVIdeal.Gen.facts, Cert.ReferenceVIdeal.Gen.facts,
    Cert.KernelUG.Gen.facts, Cert.KernelUGIdeal.Gen.facts, Cert.ReferenceUGIdeal.Gen.facts,
    Cert.KernelUV.Gen.facts, Cert.KernelUVIdeal.Gen.facts, Cert.ReferenceUVIdeal.Gen.facts,
    Cert.KernelDN.Gen.facts, Cert.KernelDNIdeal.Gen.facts, Cert.ReferenceDNIdeal.Gen.facts,
    Cert.KernelDL.Gen.facts, Cert.KernelDLIdeal.Gen.facts, Cert.ReferenceDLIdeal.Gen.facts,
    Cert.KernelDX.Gen.facts, Cert.KernelDXIdeal.Gen.facts, Cert.ReferenceDXIdeal.Gen.facts,
    Cert.KernelDO.Gen.facts, Cert.KernelDOIdeal.Gen.facts, Cert.ReferenceDOIdeal.Gen.facts,
    Cert.KernelWX.Gen.facts, Cert.KernelWXIdeal.Gen.facts, Cert.ReferenceWXIdeal.Gen.facts,
    Cert.KernelWO.Gen.facts, Cert.KernelWOIdeal.Gen.facts, Cert.ReferenceWOIdeal.Gen.facts,
    Cert.KernelWQ.Gen.facts, Cert.KernelWQIdeal.Gen.facts, Cert.ReferenceWQIdeal.Gen.facts,
    Cert.KernelHQ.Gen.facts, Cert.KernelHQIdeal.Gen.facts, Cert.ReferenceHQIdeal.Gen.facts,
    Cert.KernelHZ.Gen.facts, Cert.KernelHZIdeal.Gen.facts, Cert.ReferenceHZIdeal.Gen.facts,
    Cert.KernelXQ.Gen.facts, Cert.KernelXQIdeal.Gen.facts, Cert.ReferenceXQIdeal.Gen.facts,
    Cert.KernelQK.Gen.facts, Cert.KernelQKIdeal.Gen.facts, Cert.ReferenceQKIdeal.Gen.facts,
    Cert.KernelXO.Gen.facts, Cert.KernelXOIdeal.Gen.facts, Cert.ReferenceXOIdeal.Gen.facts,
    Cert.KernelAO.Gen.facts, Cert.KernelAOIdeal.Gen.facts, Cert.ReferenceAOIdeal.Gen.facts,
    Cert.KernelKV.Gen.facts, Cert.KernelKVIdeal.Gen.facts, Cert.ReferenceKVIdeal.Gen.facts,
    Cert.KernelFF.Gen.facts, Cert.KernelFFIdeal.Gen.facts, Cert.ReferenceFFIdeal.Gen.facts,
    Cert.KernelXF.Gen.facts, Cert.KernelXFIdeal.Gen.facts, Cert.ReferenceXFIdeal.Gen.facts,
    Cert.Pre_finite_x.Gen.facts, Cert.Pre_finite_f.Gen.facts, Cert.Pre_finite_v.Gen.facts,
    Cert.Pre_finite_hq.Gen.facts, Cert.Pre_finite_hz.Gen.facts, Cert.Pre_finite_ff.Gen.facts,
    ClaimsX.frame, ClaimsX.frame_ideal, ClaimsX.frame_ideal_pre, ClaimsX.frame_ref, ClaimsX.frame_ref_pre,
    ClaimsF.frame, ClaimsF.frame_ideal, ClaimsF.frame_ideal_pre, ClaimsF.frame_ref, ClaimsF.frame_ref_pre,
    ClaimsA.frame, ClaimsA.frame_ideal, ClaimsA.frame_ref,
    ClaimsW.frame, ClaimsW.frame_ideal, ClaimsW.frame_ref,
    ClaimsG.frame, ClaimsG.frame_ideal, ClaimsG.frame_ref,
    ClaimsH.frame, ClaimsH.frame_ideal, ClaimsH.frame_ref,
    ClaimsE.frame, ClaimsE.frame_ideal, ClaimsE.frame_ref,
    ClaimsV.frame, ClaimsV.frame_ideal, ClaimsV.frame_ideal_pre, ClaimsV.frame_ref, ClaimsV.frame_ref_pre,
    ClaimsUG.frame, ClaimsUG.frame_ideal, ClaimsUG.frame_ref,
    ClaimsUV.frame, ClaimsUV.frame_ideal, ClaimsUV.frame_ref,
    ClaimsDN.frame, ClaimsDN.frame_ideal, ClaimsDN.frame_ref,
    ClaimsDL.frame, ClaimsDL.frame_ideal, ClaimsDL.frame_ref,
    ClaimsDX.frame, ClaimsDX.frame_ideal, ClaimsDX.frame_ref,
    ClaimsDO.frame, ClaimsDO.frame_ideal, ClaimsDO.frame_ref,
    ClaimsWX.frame, ClaimsWX.frame_ideal, ClaimsWX.frame_ref,
    ClaimsWO.frame, ClaimsWO.frame_ideal, ClaimsWO.frame_ref,
    ClaimsWQ.frame, ClaimsWQ.frame_ideal, ClaimsWQ.frame_ref,
    ClaimsHQ.frame, ClaimsHQ.frame_ideal, ClaimsHQ.frame_ideal_pre, ClaimsHQ.frame_ref, ClaimsHQ.frame_ref_pre,
    ClaimsHZ.frame, ClaimsHZ.frame_ideal, ClaimsHZ.frame_ideal_pre, ClaimsHZ.frame_ref, ClaimsHZ.frame_ref_pre,
    ClaimsXQ.frame, ClaimsXQ.frame_ideal, ClaimsXQ.frame_ref,
    ClaimsQK.frame, ClaimsQK.frame_ideal, ClaimsQK.frame_ref,
    ClaimsXO.frame, ClaimsXO.frame_ideal, ClaimsXO.frame_ref,
    ClaimsAO.frame, ClaimsAO.frame_ideal, ClaimsAO.frame_ref,
    ClaimsKV.frame, ClaimsKV.frame_ideal, ClaimsKV.frame_ref,
    ClaimsFF.frame, ClaimsFF.frame_ideal, ClaimsFF.frame_ideal_pre, ClaimsFF.frame_ref, ClaimsFF.frame_ref_pre,
    ClaimsXF.frame, ClaimsXF.frame_ideal, ClaimsXF.frame_ref,
    trivial, ClaimsX.algebraic, ClaimsF.preserves, ClaimsF.algebraic, trivial, ClaimsA.algebraic, trivial, ClaimsW.algebraic,
    trivial, ClaimsG.algebraic, trivial, ClaimsH.algebraic, trivial, ClaimsE.algebraic, trivial, ClaimsV.algebraic,
    trivial, ClaimsUG.algebraic, trivial, ClaimsUV.algebraic, trivial, ClaimsDN.algebraic, trivial, ClaimsDL.algebraic,
    trivial, ClaimsDX.algebraic, trivial, ClaimsDO.algebraic, trivial, ClaimsWX.algebraic, trivial, ClaimsWO.algebraic,
    trivial, ClaimsWQ.algebraic, trivial, ClaimsHQ.algebraic, trivial, ClaimsHZ.algebraic, trivial, ClaimsXQ.algebraic,
    trivial, ClaimsQK.algebraic, trivial, ClaimsXO.algebraic, trivial, ClaimsAO.algebraic, trivial, ClaimsKV.algebraic,
    ClaimsFF.preserves, ClaimsFF.algebraic, trivial, ClaimsXF.algebraic⟩

end Cert.Proof

end
